-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_FfIn (m : (ℓ : Loc Cert.FfIn.nD Cert.FfIn.τ Cert.FfIn.sig) → Buf (Elt Bits) ℓ) : Prop :=
  True

def Pre_FfInIdeal (m : (ℓ : Loc Cert.FfInIdeal.nD Cert.FfInIdeal.τ Cert.FfInIdeal.sig) → Buf (Elt Ideal) ℓ) : Prop :=
  True

def Pre_FfInReferenceIdeal (m : (ℓ : Loc Cert.FfInReferenceIdeal.nD Cert.FfInReferenceIdeal.τ Cert.FfInReferenceIdeal.sig) → Buf (Elt Ideal) ℓ) : Prop :=
  True

def Pre_FfOut (m : (ℓ : Loc Cert.FfOut.nD Cert.FfOut.τ Cert.FfOut.sig) → Buf (Elt Bits) ℓ) : Prop :=
  True

def Pre_FfOutIdeal (m : (ℓ : Loc Cert.FfOutIdeal.nD Cert.FfOutIdeal.τ Cert.FfOutIdeal.sig) → Buf (Elt Ideal) ℓ) : Prop :=
  True

def Pre_FfOutReferenceIdeal (m : (ℓ : Loc Cert.FfOutReferenceIdeal.nD Cert.FfOutReferenceIdeal.τ Cert.FfOutReferenceIdeal.sig) → Buf (Elt Ideal) ℓ) : Prop :=
  True

def Pre_FfOutDw (m : (ℓ : Loc Cert.FfOutDw.nD Cert.FfOutDw.τ Cert.FfOutDw.sig) → Buf (Elt Bits) ℓ) : Prop :=
  True

def Pre_FfOutDwIdeal (m : (ℓ : Loc Cert.FfOutDwIdeal.nD Cert.FfOutDwIdeal.τ Cert.FfOutDwIdeal.sig) → Buf (Elt Ideal) ℓ) : Prop :=
  True

def Pre_FfOutDwReferenceIdeal (m : (ℓ : Loc Cert.FfOutDwReferenceIdeal.nD Cert.FfOutDwReferenceIdeal.τ Cert.FfOutDwReferenceIdeal.sig) → Buf (Elt Ideal) ℓ) : Prop :=
  True

def Pre_FfInDx (m : (ℓ : Loc Cert.FfInDx.nD Cert.FfInDx.τ Cert.FfInDx.sig) → Buf (Elt Bits) ℓ) : Prop :=
  True

def Pre_FfInDxIdeal (m : (ℓ : Loc Cert.FfInDxIdeal.nD Cert.FfInDxIdeal.τ Cert.FfInDxIdeal.sig) → Buf (Elt Ideal) ℓ) : Prop :=
  True

def Pre_FfInDxReferenceIdeal (m : (ℓ : Loc Cert.FfInDxReferenceIdeal.nD Cert.FfInDxReferenceIdeal.τ Cert.FfInDxReferenceIdeal.sig) → Buf (Elt Ideal) ℓ) : Prop :=
  True

def Pre_FfInDw (m : (ℓ : Loc Cert.FfInDw.nD Cert.FfInDw.τ Cert.FfInDw.sig) → Buf (Elt Bits) ℓ) : Prop :=
  True

def Pre_FfInDwIdeal (m : (ℓ : Loc Cert.FfInDwIdeal.nD Cert.FfInDwIdeal.τ Cert.FfInDwIdeal.sig) → Buf (Elt Ideal) ℓ) : Prop :=
  True

def Pre_FfInDwReferenceIdeal (m : (ℓ : Loc Cert.FfInDwReferenceIdeal.nD Cert.FfInDwReferenceIdeal.τ Cert.FfInDwReferenceIdeal.sig) → Buf (Elt Ideal) ℓ) : Prop :=
  True

def Pre_FfOutDx (m : (ℓ : Loc Cert.FfOutDx.nD Cert.FfOutDx.τ Cert.FfOutDx.sig) → Buf (Elt Bits) ℓ) : Prop :=
  True

def Pre_FfOutDxIdeal (m : (ℓ : Loc Cert.FfOutDxIdeal.nD Cert.FfOutDxIdeal.τ Cert.FfOutDxIdeal.sig) → Buf (Elt Ideal) ℓ) : Prop :=
  True

def Pre_FfOutDxReferenceIdeal (m : (ℓ : Loc Cert.FfOutDxReferenceIdeal.nD Cert.FfOutDxReferenceIdeal.τ Cert.FfOutDxReferenceIdeal.sig) → Buf (Elt Ideal) ℓ) : Prop :=
  True

def Pre_ProjQkv (m : (ℓ : Loc Cert.ProjQkv.nD Cert.ProjQkv.τ Cert.ProjQkv.sig) → Buf (Elt Bits) ℓ) : Prop :=
  True

def Pre_ProjQkvIdeal (m : (ℓ : Loc Cert.ProjQkvIdeal.nD Cert.ProjQkvIdeal.τ Cert.ProjQkvIdeal.sig) → Buf (Elt Ideal) ℓ) : Prop :=
  True

def Pre_ProjQkvReferenceIdeal (m : (ℓ : Loc Cert.ProjQkvReferenceIdeal.nD Cert.ProjQkvReferenceIdeal.τ Cert.ProjQkvReferenceIdeal.sig) → Buf (Elt Ideal) ℓ) : Prop :=
  True

def Pre_ProjMix (m : (ℓ : Loc Cert.ProjMix.nD Cert.ProjMix.τ Cert.ProjMix.sig) → Buf (Elt Bits) ℓ) : Prop :=
  True

def Pre_ProjMixIdeal (m : (ℓ : Loc Cert.ProjMixIdeal.nD Cert.ProjMixIdeal.τ Cert.ProjMixIdeal.sig) → Buf (Elt Ideal) ℓ) : Prop :=
  True

def Pre_ProjMixReferenceIdeal (m : (ℓ : Loc Cert.ProjMixReferenceIdeal.nD Cert.ProjMixReferenceIdeal.τ Cert.ProjMixReferenceIdeal.sig) → Buf (Elt Ideal) ℓ) : Prop :=
  True

def Pre_ProjGates (m : (ℓ : Loc Cert.ProjGates.nD Cert.ProjGates.τ Cert.ProjGates.sig) → Buf (Elt Bits) ℓ) : Prop :=
  True

def Pre_ProjGatesIdeal (m : (ℓ : Loc Cert.ProjGatesIdeal.nD Cert.ProjGatesIdeal.τ Cert.ProjGatesIdeal.sig) → Buf (Elt Ideal) ℓ) : Prop :=
  True

def Pre_ProjGatesReferenceIdeal (m : (ℓ : Loc Cert.ProjGatesReferenceIdeal.nD Cert.ProjGatesReferenceIdeal.τ Cert.ProjGatesReferenceIdeal.sig) → Buf (Elt Ideal) ℓ) : Prop :=
  True

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_ProjDxReferenceIdeal (m : (ℓ : Loc Cert.ProjDxReferenceIdeal.nD Cert.ProjDxReferenceIdeal.τ Cert.ProjDxReferenceIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwReferenceIdeal (m : (ℓ : Loc Cert.ProjDwReferenceIdeal.nD Cert.ProjDwReferenceIdeal.τ Cert.ProjDwReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_OutProjDx (m : (ℓ : Loc Cert.OutProjDx.nD Cert.OutProjDx.τ Cert.OutProjDx.sig) → Buf (Elt Bits) ℓ) : Prop :=
  True

def Pre_OutProjDxIdeal (m : (ℓ : Loc Cert.OutProjDxIdeal.nD Cert.OutProjDxIdeal.τ Cert.OutProjDxIdeal.sig) → Buf (Elt Ideal) ℓ) : Prop :=
  True

def Pre_OutProjDxReferenceIdeal (m : (ℓ : Loc Cert.OutProjDxReferenceIdeal.nD Cert.OutProjDxReferenceIdeal.τ Cert.OutProjDxReferenceIdeal.sig) → Buf (Elt Ideal) ℓ) : Prop :=
  True

def Pre_OutProjDw (m : (ℓ : Loc Cert.OutProjDw.nD Cert.OutProjDw.τ Cert.OutProjDw.sig) → Buf (Elt Bits) ℓ) : Prop :=
  True

def Pre_OutProjDwIdeal (m : (ℓ : Loc Cert.OutProjDwIdeal.nD Cert.OutProjDwIdeal.τ Cert.OutProjDwIdeal.sig) → Buf (Elt Ideal) ℓ) : Prop :=
  True

def Pre_OutProjDwReferenceIdeal (m : (ℓ : Loc Cert.OutProjDwReferenceIdeal.nD Cert.OutProjDwReferenceIdeal.τ Cert.OutProjDwReferenceIdeal.sig) → Buf (Elt Ideal) ℓ) : Prop :=
  True

def Pre_BrSb (m : (ℓ : Loc Cert.BrSb.nD Cert.BrSb.τ Cert.BrSb.sig) → Buf (Elt Bits) ℓ) : Prop :=
  True

def Pre_BrSbIdeal (m : (ℓ : Loc Cert.BrSbIdeal.nD Cert.BrSbIdeal.τ Cert.BrSbIdeal.sig) → Buf (Elt Ideal) ℓ) : Prop :=
  True

def Pre_BrSbReferenceIdeal (m : (ℓ : Loc Cert.BrSbReferenceIdeal.nD Cert.BrSbReferenceIdeal.τ Cert.BrSbReferenceIdeal.sig) → Buf (Elt Ideal) ℓ) : Prop :=
  True

def Pre_BrSbDx (m : (ℓ : Loc Cert.BrSbDx.nD Cert.BrSbDx.τ Cert.BrSbDx.sig) → Buf (Elt Bits) ℓ) : Prop :=
  True

def Pre_BrSbDxIdeal (m : (ℓ : Loc Cert.BrSbDxIdeal.nD Cert.BrSbDxIdeal.τ Cert.BrSbDxIdeal.sig) → Buf (Elt Ideal) ℓ) : Prop :=
  True

def Pre_BrSbDxReferenceIdeal (m : (ℓ : Loc Cert.BrSbDxReferenceIdeal.nD Cert.BrSbDxReferenceIdeal.τ Cert.BrSbDxReferenceIdeal.sig) → Buf (Elt Ideal) ℓ) : Prop :=
  True

def Pre_BrSbDw (m : (ℓ : Loc Cert.BrSbDw.nD Cert.BrSbDw.τ Cert.BrSbDw.sig) → Buf (Elt Bits) ℓ) : Prop :=
  True

def Pre_BrSbDwIdeal (m : (ℓ : Loc Cert.BrSbDwIdeal.nD Cert.BrSbDwIdeal.τ Cert.BrSbDwIdeal.sig) → Buf (Elt Ideal) ℓ) : Prop :=
  True

def Pre_BrSbDwReferenceIdeal (m : (ℓ : Loc Cert.BrSbDwReferenceIdeal.nD Cert.BrSbDwReferenceIdeal.τ Cert.BrSbDwReferenceIdeal.sig) → Buf (Elt Ideal) ℓ) : Prop :=
  True

def Pre_BrPool (m : (ℓ : Loc Cert.BrPool.nD Cert.BrPool.τ Cert.BrPool.sig) → Buf (Elt Bits) ℓ) : Prop :=
  True

def Pre_BrPoolIdeal (m : (ℓ : Loc Cert.BrPoolIdeal.nD Cert.BrPoolIdeal.τ Cert.BrPoolIdeal.sig) → Buf (Elt Ideal) ℓ) : Prop :=
  True

def Pre_BrPoolReferenceIdeal (m : (ℓ : Loc Cert.BrPoolReferenceIdeal.nD Cert.BrPoolReferenceIdeal.τ Cert.BrPoolReferenceIdeal.sig) → Buf (Elt Ideal) ℓ) : Prop :=
  True

def Pre_BrPoolDx (m : (ℓ : Loc Cert.BrPoolDx.nD Cert.BrPoolDx.τ Cert.BrPoolDx.sig) → Buf (Elt Bits) ℓ) : Prop :=
  True

def Pre_BrPoolDxIdeal (m : (ℓ : Loc Cert.BrPoolDxIdeal.nD Cert.BrPoolDxIdeal.τ Cert.BrPoolDxIdeal.sig) → Buf (Elt Ideal) ℓ) : Prop :=
  True

def Pre_BrPoolDxReferenceIdeal (m : (ℓ : Loc Cert.BrPoolDxReferenceIdeal.nD Cert.BrPoolDxReferenceIdeal.τ Cert.BrPoolDxReferenceIdeal.sig) → Buf (Elt Ideal) ℓ) : Prop :=
  True

def Pre_BrPoolDw (m : (ℓ : Loc Cert.BrPoolDw.nD Cert.BrPoolDw.τ Cert.BrPoolDw.sig) → Buf (Elt Bits) ℓ) : Prop :=
  True

def Pre_BrPoolDwIdeal (m : (ℓ : Loc Cert.BrPoolDwIdeal.nD Cert.BrPoolDwIdeal.τ Cert.BrPoolDwIdeal.sig) → Buf (Elt Ideal) ℓ) : Prop :=
  True

def Pre_BrPoolDwReferenceIdeal (m : (ℓ : Loc Cert.BrPoolDwReferenceIdeal.nD Cert.BrPoolDwReferenceIdeal.τ Cert.BrPoolDwReferenceIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdReferenceIdeal (m : (ℓ : Loc Cert.MergeFwdReferenceIdeal.nD Cert.MergeFwdReferenceIdeal.τ Cert.MergeFwdReferenceIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdReferenceIdeal (m : (ℓ : Loc Cert.MergeBwdReferenceIdeal.nD Cert.MergeBwdReferenceIdeal.τ Cert.MergeBwdReferenceIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdReferenceIdeal (m : (ℓ : Loc Cert.RmsFwdReferenceIdeal.nD Cert.RmsFwdReferenceIdeal.τ Cert.RmsFwdReferenceIdeal.sig) → Buf (Elt Ideal) ℓ) : Prop :=
  True

def Pre_ResidMix (m : (ℓ : Loc Cert.ResidMix.nD Cert.ResidMix.τ Cert.ResidMix.sig) → Buf (Elt Bits) ℓ) : Prop :=
  True

def Pre_ResidMixIdeal (m : (ℓ : Loc Cert.ResidMixIdeal.nD Cert.ResidMixIdeal.τ Cert.ResidMixIdeal.sig) → Buf (Elt Ideal) ℓ) : Prop :=
  True

def Pre_ResidMixReferenceIdeal (m : (ℓ : Loc Cert.ResidMixReferenceIdeal.nD Cert.ResidMixReferenceIdeal.τ Cert.ResidMixReferenceIdeal.sig) → Buf (Elt Ideal) ℓ) : Prop :=
  True

def Pre_ResidLast (m : (ℓ : Loc Cert.ResidLast.nD Cert.ResidLast.τ Cert.ResidLast.sig) → Buf (Elt Bits) ℓ) : Prop :=
  True

def Pre_ResidLastIdeal (m : (ℓ : Loc Cert.ResidLastIdeal.nD Cert.ResidLastIdeal.τ Cert.ResidLastIdeal.sig) → Buf (Elt Ideal) ℓ) : Prop :=
  True

def Pre_ResidLastReferenceIdeal (m : (ℓ : Loc Cert.ResidLastReferenceIdeal.nD Cert.ResidLastReferenceIdeal.τ Cert.ResidLastReferenceIdeal.sig) → Buf (Elt Ideal) ℓ) : Prop :=
  True

def Pre_RmsBwdLast (m : (ℓ : Loc Cert.RmsBwdLast.nD Cert.RmsBwdLast.τ Cert.RmsBwdLast.sig) → Buf (Elt Bits) ℓ) : Prop :=
  True

def Pre_RmsBwdLastIdeal (m : (ℓ : Loc Cert.RmsBwdLastIdeal.nD Cert.RmsBwdLastIdeal.τ Cert.RmsBwdLastIdeal.sig) → Buf (Elt Ideal) ℓ) : Prop :=
  True

def Pre_RmsBwdLastReferenceIdeal (m : (ℓ : Loc Cert.RmsBwdLastReferenceIdeal.nD Cert.RmsBwdLastReferenceIdeal.τ Cert.RmsBwdLastReferenceIdeal.sig) → Buf (Elt Ideal) ℓ) : Prop :=
  True

def Pre_RmsBwdMid (m : (ℓ : Loc Cert.RmsBwdMid.nD Cert.RmsBwdMid.τ Cert.RmsBwdMid.sig) → Buf (Elt Bits) ℓ) : Prop :=
  True

def Pre_RmsBwdMidIdeal (m : (ℓ : Loc Cert.RmsBwdMidIdeal.nD Cert.RmsBwdMidIdeal.τ Cert.RmsBwdMidIdeal.sig) → Buf (Elt Ideal) ℓ) : Prop :=
  True

def Pre_RmsBwdMidReferenceIdeal (m : (ℓ : Loc Cert.RmsBwdMidReferenceIdeal.nD Cert.RmsBwdMidReferenceIdeal.τ Cert.RmsBwdMidReferenceIdeal.sig) → Buf (Elt Ideal) ℓ) : Prop :=
  True

def Pre_RmsBwdFirst (m : (ℓ : Loc Cert.RmsBwdFirst.nD Cert.RmsBwdFirst.τ Cert.RmsBwdFirst.sig) → Buf (Elt Bits) ℓ) : Prop :=
  True

def Pre_RmsBwdFirstIdeal (m : (ℓ : Loc Cert.RmsBwdFirstIdeal.nD Cert.RmsBwdFirstIdeal.τ Cert.RmsBwdFirstIdeal.sig) → Buf (Elt Ideal) ℓ) : Prop :=
  True

def Pre_RmsBwdFirstReferenceIdeal (m : (ℓ : Loc Cert.RmsBwdFirstReferenceIdeal.nD Cert.RmsBwdFirstReferenceIdeal.τ Cert.RmsBwdFirstReferenceIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadReferenceIdeal (m : (ℓ : Loc Cert.LossHeadReferenceIdeal.nD Cert.LossHeadReferenceIdeal.τ Cert.LossHeadReferenceIdeal.sig) → Buf (Elt Ideal) ℓ) : Prop :=
  True

def Pre_AdamwSmall (m : (ℓ : Loc Cert.AdamwSmall.nD Cert.AdamwSmall.τ Cert.AdamwSmall.sig) → Buf (Elt Bits) ℓ) : Prop :=
  True

def Pre_AdamwSmallIdeal (m : (ℓ : Loc Cert.AdamwSmallIdeal.nD Cert.AdamwSmallIdeal.τ Cert.AdamwSmallIdeal.sig) → Buf (Elt Ideal) ℓ) : Prop :=
  True

def Pre_AdamwSmallReferenceIdeal (m : (ℓ : Loc Cert.AdamwSmallReferenceIdeal.nD Cert.AdamwSmallReferenceIdeal.τ Cert.AdamwSmallReferenceIdeal.sig) → Buf (Elt Ideal) ℓ) : Prop :=
  True

def Pre_AdamwIn (m : (ℓ : Loc Cert.AdamwIn.nD Cert.AdamwIn.τ Cert.AdamwIn.sig) → Buf (Elt Bits) ℓ) : Prop :=
  True

def Pre_AdamwInIdeal (m : (ℓ : Loc Cert.AdamwInIdeal.nD Cert.AdamwInIdeal.τ Cert.AdamwInIdeal.sig) → Buf (Elt Ideal) ℓ) : Prop :=
  True

def Pre_AdamwInReferenceIdeal (m : (ℓ : Loc Cert.AdamwInReferenceIdeal.nD Cert.AdamwInReferenceIdeal.τ Cert.AdamwInReferenceIdeal.sig) → Buf (Elt Ideal) ℓ) : Prop :=
  True

def Pre_AdamwBrSb (m : (ℓ : Loc Cert.AdamwBrSb.nD Cert.AdamwBrSb.τ Cert.AdamwBrSb.sig) → Buf (Elt Bits) ℓ) : Prop :=
  True

def Pre_AdamwBrSbIdeal (m : (ℓ : Loc Cert.AdamwBrSbIdeal.nD Cert.AdamwBrSbIdeal.τ Cert.AdamwBrSbIdeal.sig) → Buf (Elt Ideal) ℓ) : Prop :=
  True

def Pre_AdamwBrSbReferenceIdeal (m : (ℓ : Loc Cert.AdamwBrSbReferenceIdeal.nD Cert.AdamwBrSbReferenceIdeal.τ Cert.AdamwBrSbReferenceIdeal.sig) → Buf (Elt Ideal) ℓ) : Prop :=
  True

def Pre_AdamwBrPool (m : (ℓ : Loc Cert.AdamwBrPool.nD Cert.AdamwBrPool.τ Cert.AdamwBrPool.sig) → Buf (Elt Bits) ℓ) : Prop :=
  True

def Pre_AdamwBrPoolIdeal (m : (ℓ : Loc Cert.AdamwBrPoolIdeal.nD Cert.AdamwBrPoolIdeal.τ Cert.AdamwBrPoolIdeal.sig) → Buf (Elt Ideal) ℓ) : Prop :=
  True

def Pre_AdamwBrPoolReferenceIdeal (m : (ℓ : Loc Cert.AdamwBrPoolReferenceIdeal.nD Cert.AdamwBrPoolReferenceIdeal.τ Cert.AdamwBrPoolReferenceIdeal.sig) → Buf (Elt Ideal) ℓ) : Prop :=
  True

def Pre_AdamwOut (m : (ℓ : Loc Cert.AdamwOut.nD Cert.AdamwOut.τ Cert.AdamwOut.sig) → Buf (Elt Bits) ℓ) : Prop :=
  True

def Pre_AdamwOutIdeal (m : (ℓ : Loc Cert.AdamwOutIdeal.nD Cert.AdamwOutIdeal.τ Cert.AdamwOutIdeal.sig) → Buf (Elt Ideal) ℓ) : Prop :=
  True

def Pre_AdamwOutReferenceIdeal (m : (ℓ : Loc Cert.AdamwOutReferenceIdeal.nD Cert.AdamwOutReferenceIdeal.τ Cert.AdamwOutReferenceIdeal.sig) → Buf (Elt Ideal) ℓ) : Prop :=
  True

def Pre_AdamwFf (m : (ℓ : Loc Cert.AdamwFf.nD Cert.AdamwFf.τ Cert.AdamwFf.sig) → Buf (Elt Bits) ℓ) : Prop :=
  True

def Pre_AdamwFfIdeal (m : (ℓ : Loc Cert.AdamwFfIdeal.nD Cert.AdamwFfIdeal.τ Cert.AdamwFfIdeal.sig) → Buf (Elt Ideal) ℓ) : Prop :=
  True

def Pre_AdamwFfReferenceIdeal (m : (ℓ : Loc Cert.AdamwFfReferenceIdeal.nD Cert.AdamwFfReferenceIdeal.τ Cert.AdamwFfReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_FfIn [hFfIn : Cert.FfIn.Facts] : Prop :=
  ∀ (m : (ℓ : Loc Cert.FfIn.nD Cert.FfIn.τ Cert.FfIn.sig) → Buf (Elt Bits) ℓ) (g : Dev Cert.FfIn.nD → PrngReg), Pre_FfIn m →
    θ_run (Cert.FfIn.defs (F := Bits)) (onTc (τ := Cert.FfIn.τ) (Cert.FfIn.main (F := Bits))) ⟨m, fun _ => 0, g⟩ (fun r => (∀ c : Dev Cert.FfIn.nD,
      r.2.mem ((c.tc : Thread Cert.FfIn.nD Cert.FfIn.τ).loc Cert.FfIn.main_arg0) = m ((c.tc : Thread Cert.FfIn.nD Cert.FfIn.τ).loc Cert.FfIn.main_arg0)
      ∧ r.2.mem ((c.tc : Thread Cert.FfIn.nD Cert.FfIn.τ).loc Cert.FfIn.main_arg1) = m ((c.tc : Thread Cert.FfIn.nD Cert.FfIn.τ).loc Cert.FfIn.main_arg1))
      ∧ r.2.sem = fun _ => 0)

def quiescent_FfInIdeal [hFfInIdeal : Cert.FfInIdeal.Facts] : Prop :=
  ∀ (m : (ℓ : Loc Cert.FfInIdeal.nD Cert.FfInIdeal.τ Cert.FfInIdeal.sig) → Buf (Elt Ideal) ℓ) (g : Dev Cert.FfInIdeal.nD → PrngReg), Pre_FfInIdeal m →
    θ_run (Cert.FfInIdeal.defs (F := Ideal)) (onTc (τ := Cert.FfInIdeal.τ) (Cert.FfInIdeal.main (F := Ideal))) ⟨m, fun _ => 0, g⟩ (fun r => (∀ c : Dev Cert.FfInIdeal.nD,
      r.2.mem ((c.tc : Thread Cert.FfInIdeal.nD Cert.FfInIdeal.τ).loc Cert.FfInIdeal.main_arg0) = m ((c.tc : Thread Cert.FfInIdeal.nD Cert.FfInIdeal.τ).loc Cert.FfInIdeal.main_arg0)
      ∧ r.2.mem ((c.tc : Thread Cert.FfInIdeal.nD Cert.FfInIdeal.τ).loc Cert.FfInIdeal.main_arg1) = m ((c.tc : Thread Cert.FfInIdeal.nD Cert.FfInIdeal.τ).loc Cert.FfInIdeal.main_arg1))
      ∧ r.2.sem = fun _ => 0)

def quiescent_FfInReferenceIdeal [hFfInReferenceIdeal : Cert.FfInReferenceIdeal.Facts] : Prop :=
  ∀ (m : (ℓ : Loc Cert.FfInReferenceIdeal.nD Cert.FfInReferenceIdeal.τ Cert.FfInReferenceIdeal.sig) → Buf (Elt Ideal) ℓ) (g : Dev Cert.FfInReferenceIdeal.nD → PrngReg), Pre_FfInReferenceIdeal m →
    θ_run (Cert.FfInReferenceIdeal.defs (F := Ideal)) (onTc (τ := Cert.FfInReferenceIdeal.τ) (Cert.FfInReferenceIdeal.main (F := Ideal))) ⟨m, fun _ => 0, g⟩ (fun r => (∀ c : Dev Cert.FfInReferenceIdeal.nD,
      r.2.mem ((c.tc : Thread Cert.FfInReferenceIdeal.nD Cert.FfInReferenceIdeal.τ).loc Cert.FfInReferenceIdeal.main_arg0) = m ((c.tc : Thread Cert.FfInReferenceIdeal.nD Cert.FfInReferenceIdeal.τ).loc Cert.FfInReferenceIdeal.main_arg0)
      ∧ r.2.mem ((c.tc : Thread Cert.FfInReferenceIdeal.nD Cert.FfInReferenceIdeal.τ).loc Cert.FfInReferenceIdeal.main_arg1) = m ((c.tc : Thread Cert.FfInReferenceIdeal.nD Cert.FfInReferenceIdeal.τ).loc Cert.FfInReferenceIdeal.main_arg1))
      ∧ r.2.sem = fun _ => 0)

def quiescent_FfOut [hFfOut : Cert.FfOut.Facts] : Prop :=
  ∀ (m : (ℓ : Loc Cert.FfOut.nD Cert.FfOut.τ Cert.FfOut.sig) → Buf (Elt Bits) ℓ) (g : Dev Cert.FfOut.nD → PrngReg), Pre_FfOut m →
    θ_run (Cert.FfOut.defs (F := Bits)) (onTc (τ := Cert.FfOut.τ) (Cert.FfOut.main (F := Bits))) ⟨m, fun _ => 0, g⟩ (fun r => (∀ c : Dev Cert.FfOut.nD,
      r.2.mem ((c.tc : Thread Cert.FfOut.nD Cert.FfOut.τ).loc Cert.FfOut.main_arg0) = m ((c.tc : Thread Cert.FfOut.nD Cert.FfOut.τ).loc Cert.FfOut.main_arg0)
      ∧ r.2.mem ((c.tc : Thread Cert.FfOut.nD Cert.FfOut.τ).loc Cert.FfOut.main_arg1) = m ((c.tc : Thread Cert.FfOut.nD Cert.FfOut.τ).loc Cert.FfOut.main_arg1)
      ∧ r.2.mem ((c.tc : Thread Cert.FfOut.nD Cert.FfOut.τ).loc Cert.FfOut.main_arg2) = m ((c.tc : Thread Cert.FfOut.nD Cert.FfOut.τ).loc Cert.FfOut.main_arg2))
      ∧ r.2.sem = fun _ => 0)

def quiescent_FfOutIdeal [hFfOutIdeal : Cert.FfOutIdeal.Facts] : Prop :=
  ∀ (m : (ℓ : Loc Cert.FfOutIdeal.nD Cert.FfOutIdeal.τ Cert.FfOutIdeal.sig) → Buf (Elt Ideal) ℓ) (g : Dev Cert.FfOutIdeal.nD → PrngReg), Pre_FfOutIdeal m →
    θ_run (Cert.FfOutIdeal.defs (F := Ideal)) (onTc (τ := Cert.FfOutIdeal.τ) (Cert.FfOutIdeal.main (F := Ideal))) ⟨m, fun _ => 0, g⟩ (fun r => (∀ c : Dev Cert.FfOutIdeal.nD,
      r.2.mem ((c.tc : Thread Cert.FfOutIdeal.nD Cert.FfOutIdeal.τ).loc Cert.FfOutIdeal.main_arg0) = m ((c.tc : Thread Cert.FfOutIdeal.nD Cert.FfOutIdeal.τ).loc Cert.FfOutIdeal.main_arg0)
      ∧ r.2.mem ((c.tc : Thread Cert.FfOutIdeal.nD Cert.FfOutIdeal.τ).loc Cert.FfOutIdeal.main_arg1) = m ((c.tc : Thread Cert.FfOutIdeal.nD Cert.FfOutIdeal.τ).loc Cert.FfOutIdeal.main_arg1)
      ∧ r.2.mem ((c.tc : Thread Cert.FfOutIdeal.nD Cert.FfOutIdeal.τ).loc Cert.FfOutIdeal.main_arg2) = m ((c.tc : Thread Cert.FfOutIdeal.nD Cert.FfOutIdeal.τ).loc Cert.FfOutIdeal.main_arg2))
      ∧ r.2.sem = fun _ => 0)

def quiescent_FfOutReferenceIdeal [hFfOutReferenceIdeal : Cert.FfOutReferenceIdeal.Facts] : Prop :=
  ∀ (m : (ℓ : Loc Cert.FfOutReferenceIdeal.nD Cert.FfOutReferenceIdeal.τ Cert.FfOutReferenceIdeal.sig) → Buf (Elt Ideal) ℓ) (g : Dev Cert.FfOutReferenceIdeal.nD → PrngReg), Pre_FfOutReferenceIdeal m →
    θ_run (Cert.FfOutReferenceIdeal.defs (F := Ideal)) (onTc (τ := Cert.FfOutReferenceIdeal.τ) (Cert.FfOutReferenceIdeal.main (F := Ideal))) ⟨m, fun _ => 0, g⟩ (fun r => (∀ c : Dev Cert.FfOutReferenceIdeal.nD,
      r.2.mem ((c.tc : Thread Cert.FfOutReferenceIdeal.nD Cert.FfOutReferenceIdeal.τ).loc Cert.FfOutReferenceIdeal.main_arg0) = m ((c.tc : Thread Cert.FfOutReferenceIdeal.nD Cert.FfOutReferenceIdeal.τ).loc Cert.FfOutReferenceIdeal.main_arg0)
      ∧ r.2.mem ((c.tc : Thread Cert.FfOutReferenceIdeal.nD Cert.FfOutReferenceIdeal.τ).loc Cert.FfOutReferenceIdeal.main_arg1) = m ((c.tc : Thread Cert.FfOutReferenceIdeal.nD Cert.FfOutReferenceIdeal.τ).loc Cert.FfOutReferenceIdeal.main_arg1)
      ∧ r.2.mem ((c.tc : Thread Cert.FfOutReferenceIdeal.nD Cert.FfOutReferenceIdeal.τ).loc Cert.FfOutReferenceIdeal.main_arg2) = m ((c.tc : Thread Cert.FfOutReferenceIdeal.nD Cert.FfOutReferenceIdeal.τ).loc Cert.FfOutReferenceIdeal.main_arg2))
      ∧ r.2.sem = fun _ => 0)

def quiescent_FfOutDw [hFfOutDw : Cert.FfOutDw.Facts] : Prop :=
  ∀ (m : (ℓ : Loc Cert.FfOutDw.nD Cert.FfOutDw.τ Cert.FfOutDw.sig) → Buf (Elt Bits) ℓ) (g : Dev Cert.FfOutDw.nD → PrngReg), Pre_FfOutDw m →
    θ_run (Cert.FfOutDw.defs (F := Bits)) (onTc (τ := Cert.FfOutDw.τ) (Cert.FfOutDw.main (F := Bits))) ⟨m, fun _ => 0, g⟩ (fun r => (∀ c : Dev Cert.FfOutDw.nD,
      r.2.mem ((c.tc : Thread Cert.FfOutDw.nD Cert.FfOutDw.τ).loc Cert.FfOutDw.main_arg0) = m ((c.tc : Thread Cert.FfOutDw.nD Cert.FfOutDw.τ).loc Cert.FfOutDw.main_arg0)
      ∧ r.2.mem ((c.tc : Thread Cert.FfOutDw.nD Cert.FfOutDw.τ).loc Cert.FfOutDw.main_arg1) = m ((c.tc : Thread Cert.FfOutDw.nD Cert.FfOutDw.τ).loc Cert.FfOutDw.main_arg1)
      ∧ r.2.mem ((c.tc : Thread Cert.FfOutDw.nD Cert.FfOutDw.τ).loc Cert.FfOutDw.main_arg2) = m ((c.tc : Thread Cert.FfOutDw.nD Cert.FfOutDw.τ).loc Cert.FfOutDw.main_arg2))
      ∧ r.2.sem = fun _ => 0)

def quiescent_FfOutDwIdeal [hFfOutDwIdeal : Cert.FfOutDwIdeal.Facts] : Prop :=
  ∀ (m : (ℓ : Loc Cert.FfOutDwIdeal.nD Cert.FfOutDwIdeal.τ Cert.FfOutDwIdeal.sig) → Buf (Elt Ideal) ℓ) (g : Dev Cert.FfOutDwIdeal.nD → PrngReg), Pre_FfOutDwIdeal m →
    θ_run (Cert.FfOutDwIdeal.defs (F := Ideal)) (onTc (τ := Cert.FfOutDwIdeal.τ) (Cert.FfOutDwIdeal.main (F := Ideal))) ⟨m, fun _ => 0, g⟩ (fun r => (∀ c : Dev Cert.FfOutDwIdeal.nD,
      r.2.mem ((c.tc : Thread Cert.FfOutDwIdeal.nD Cert.FfOutDwIdeal.τ).loc Cert.FfOutDwIdeal.main_arg0) = m ((c.tc : Thread Cert.FfOutDwIdeal.nD Cert.FfOutDwIdeal.τ).loc Cert.FfOutDwIdeal.main_arg0)
      ∧ r.2.mem ((c.tc : Thread Cert.FfOutDwIdeal.nD Cert.FfOutDwIdeal.τ).loc Cert.FfOutDwIdeal.main_arg1) = m ((c.tc : Thread Cert.FfOutDwIdeal.nD Cert.FfOutDwIdeal.τ).loc Cert.FfOutDwIdeal.main_arg1)
      ∧ r.2.mem ((c.tc : Thread Cert.FfOutDwIdeal.nD Cert.FfOutDwIdeal.τ).loc Cert.FfOutDwIdeal.main_arg2) = m ((c.tc : Thread Cert.FfOutDwIdeal.nD Cert.FfOutDwIdeal.τ).loc Cert.FfOutDwIdeal.main_arg2))
      ∧ r.2.sem = fun _ => 0)

def quiescent_FfOutDwReferenceIdeal [hFfOutDwReferenceIdeal : Cert.FfOutDwReferenceIdeal.Facts] : Prop :=
  ∀ (m : (ℓ : Loc Cert.FfOutDwReferenceIdeal.nD Cert.FfOutDwReferenceIdeal.τ Cert.FfOutDwReferenceIdeal.sig) → Buf (Elt Ideal) ℓ) (g : Dev Cert.FfOutDwReferenceIdeal.nD → PrngReg), Pre_FfOutDwReferenceIdeal m →
    θ_run (Cert.FfOutDwReferenceIdeal.defs (F := Ideal)) (onTc (τ := Cert.FfOutDwReferenceIdeal.τ) (Cert.FfOutDwReferenceIdeal.main (F := Ideal))) ⟨m, fun _ => 0, g⟩ (fun r => (∀ c : Dev Cert.FfOutDwReferenceIdeal.nD,
      r.2.mem ((c.tc : Thread Cert.FfOutDwReferenceIdeal.nD Cert.FfOutDwReferenceIdeal.τ).loc Cert.FfOutDwReferenceIdeal.main_arg0) = m ((c.tc : Thread Cert.FfOutDwReferenceIdeal.nD Cert.FfOutDwReferenceIdeal.τ).loc Cert.FfOutDwReferenceIdeal.main_arg0)
      ∧ r.2.mem ((c.tc : Thread Cert.FfOutDwReferenceIdeal.nD Cert.FfOutDwReferenceIdeal.τ).loc Cert.FfOutDwReferenceIdeal.main_arg1) = m ((c.tc : Thread Cert.FfOutDwReferenceIdeal.nD Cert.FfOutDwReferenceIdeal.τ).loc Cert.FfOutDwReferenceIdeal.main_arg1)
      ∧ r.2.mem ((c.tc : Thread Cert.FfOutDwReferenceIdeal.nD Cert.FfOutDwReferenceIdeal.τ).loc Cert.FfOutDwReferenceIdeal.main_arg2) = m ((c.tc : Thread Cert.FfOutDwReferenceIdeal.nD Cert.FfOutDwReferenceIdeal.τ).loc Cert.FfOutDwReferenceIdeal.main_arg2))
      ∧ r.2.sem = fun _ => 0)

def quiescent_FfInDx [hFfInDx : Cert.FfInDx.Facts] : Prop :=
  ∀ (m : (ℓ : Loc Cert.FfInDx.nD Cert.FfInDx.τ Cert.FfInDx.sig) → Buf (Elt Bits) ℓ) (g : Dev Cert.FfInDx.nD → PrngReg), Pre_FfInDx m →
    θ_run (Cert.FfInDx.defs (F := Bits)) (onTc (τ := Cert.FfInDx.τ) (Cert.FfInDx.main (F := Bits))) ⟨m, fun _ => 0, g⟩ (fun r => (∀ c : Dev Cert.FfInDx.nD,
      r.2.mem ((c.tc : Thread Cert.FfInDx.nD Cert.FfInDx.τ).loc Cert.FfInDx.main_arg0) = m ((c.tc : Thread Cert.FfInDx.nD Cert.FfInDx.τ).loc Cert.FfInDx.main_arg0)
      ∧ r.2.mem ((c.tc : Thread Cert.FfInDx.nD Cert.FfInDx.τ).loc Cert.FfInDx.main_arg1) = m ((c.tc : Thread Cert.FfInDx.nD Cert.FfInDx.τ).loc Cert.FfInDx.main_arg1)
      ∧ r.2.mem ((c.tc : Thread Cert.FfInDx.nD Cert.FfInDx.τ).loc Cert.FfInDx.main_arg2) = m ((c.tc : Thread Cert.FfInDx.nD Cert.FfInDx.τ).loc Cert.FfInDx.main_arg2)
      ∧ r.2.mem ((c.tc : Thread Cert.FfInDx.nD Cert.FfInDx.τ).loc Cert.FfInDx.main_arg3) = m ((c.tc : Thread Cert.FfInDx.nD Cert.FfInDx.τ).loc Cert.FfInDx.main_arg3))
      ∧ r.2.sem = fun _ => 0)

def quiescent_FfInDxIdeal [hFfInDxIdeal : Cert.FfInDxIdeal.Facts] : Prop :=
  ∀ (m : (ℓ : Loc Cert.FfInDxIdeal.nD Cert.FfInDxIdeal.τ Cert.FfInDxIdeal.sig) → Buf (Elt Ideal) ℓ) (g : Dev Cert.FfInDxIdeal.nD → PrngReg), Pre_FfInDxIdeal m →
    θ_run (Cert.FfInDxIdeal.defs (F := Ideal)) (onTc (τ := Cert.FfInDxIdeal.τ) (Cert.FfInDxIdeal.main (F := Ideal))) ⟨m, fun _ => 0, g⟩ (fun r => (∀ c : Dev Cert.FfInDxIdeal.nD,
      r.2.mem ((c.tc : Thread Cert.FfInDxIdeal.nD Cert.FfInDxIdeal.τ).loc Cert.FfInDxIdeal.main_arg0) = m ((c.tc : Thread Cert.FfInDxIdeal.nD Cert.FfInDxIdeal.τ).loc Cert.FfInDxIdeal.main_arg0)
      ∧ r.2.mem ((c.tc : Thread Cert.FfInDxIdeal.nD Cert.FfInDxIdeal.τ).loc Cert.FfInDxIdeal.main_arg1) = m ((c.tc : Thread Cert.FfInDxIdeal.nD Cert.FfInDxIdeal.τ).loc Cert.FfInDxIdeal.main_arg1)
      ∧ r.2.mem ((c.tc : Thread Cert.FfInDxIdeal.nD Cert.FfInDxIdeal.τ).loc Cert.FfInDxIdeal.main_arg2) = m ((c.tc : Thread Cert.FfInDxIdeal.nD Cert.FfInDxIdeal.τ).loc Cert.FfInDxIdeal.main_arg2)
      ∧ r.2.mem ((c.tc : Thread Cert.FfInDxIdeal.nD Cert.FfInDxIdeal.τ).loc Cert.FfInDxIdeal.main_arg3) = m ((c.tc : Thread Cert.FfInDxIdeal.nD Cert.FfInDxIdeal.τ).loc Cert.FfInDxIdeal.main_arg3))
      ∧ r.2.sem = fun _ => 0)

def quiescent_FfInDxReferenceIdeal [hFfInDxReferenceIdeal : Cert.FfInDxReferenceIdeal.Facts] : Prop :=
  ∀ (m : (ℓ : Loc Cert.FfInDxReferenceIdeal.nD Cert.FfInDxReferenceIdeal.τ Cert.FfInDxReferenceIdeal.sig) → Buf (Elt Ideal) ℓ) (g : Dev Cert.FfInDxReferenceIdeal.nD → PrngReg), Pre_FfInDxReferenceIdeal m →
    θ_run (Cert.FfInDxReferenceIdeal.defs (F := Ideal)) (onTc (τ := Cert.FfInDxReferenceIdeal.τ) (Cert.FfInDxReferenceIdeal.main (F := Ideal))) ⟨m, fun _ => 0, g⟩ (fun r => (∀ c : Dev Cert.FfInDxReferenceIdeal.nD,
      r.2.mem ((c.tc : Thread Cert.FfInDxReferenceIdeal.nD Cert.FfInDxReferenceIdeal.τ).loc Cert.FfInDxReferenceIdeal.main_arg0) = m ((c.tc : Thread Cert.FfInDxReferenceIdeal.nD Cert.FfInDxReferenceIdeal.τ).loc Cert.FfInDxReferenceIdeal.main_arg0)
      ∧ r.2.mem ((c.tc : Thread Cert.FfInDxReferenceIdeal.nD Cert.FfInDxReferenceIdeal.τ).loc Cert.FfInDxReferenceIdeal.main_arg1) = m ((c.tc : Thread Cert.FfInDxReferenceIdeal.nD Cert.FfInDxReferenceIdeal.τ).loc Cert.FfInDxReferenceIdeal.main_arg1)
      ∧ r.2.mem ((c.tc : Thread Cert.FfInDxReferenceIdeal.nD Cert.FfInDxReferenceIdeal.τ).loc Cert.FfInDxReferenceIdeal.main_arg2) = m ((c.tc : Thread Cert.FfInDxReferenceIdeal.nD Cert.FfInDxReferenceIdeal.τ).loc Cert.FfInDxReferenceIdeal.main_arg2)
      ∧ r.2.mem ((c.tc : Thread Cert.FfInDxReferenceIdeal.nD Cert.FfInDxReferenceIdeal.τ).loc Cert.FfInDxReferenceIdeal.main_arg3) = m ((c.tc : Thread Cert.FfInDxReferenceIdeal.nD Cert.FfInDxReferenceIdeal.τ).loc Cert.FfInDxReferenceIdeal.main_arg3))
      ∧ r.2.sem = fun _ => 0)

def quiescent_FfInDw [hFfInDw : Cert.FfInDw.Facts] : Prop :=
  ∀ (m : (ℓ : Loc Cert.FfInDw.nD Cert.FfInDw.τ Cert.FfInDw.sig) → Buf (Elt Bits) ℓ) (g : Dev Cert.FfInDw.nD → PrngReg), Pre_FfInDw m →
    θ_run (Cert.FfInDw.defs (F := Bits)) (onTc (τ := Cert.FfInDw.τ) (Cert.FfInDw.main (F := Bits))) ⟨m, fun _ => 0, g⟩ (fun r => (∀ c : Dev Cert.FfInDw.nD,
      r.2.mem ((c.tc : Thread Cert.FfInDw.nD Cert.FfInDw.τ).loc Cert.FfInDw.main_arg0) = m ((c.tc : Thread Cert.FfInDw.nD Cert.FfInDw.τ).loc Cert.FfInDw.main_arg0)
      ∧ r.2.mem ((c.tc : Thread Cert.FfInDw.nD Cert.FfInDw.τ).loc Cert.FfInDw.main_arg1) = m ((c.tc : Thread Cert.FfInDw.nD Cert.FfInDw.τ).loc Cert.FfInDw.main_arg1)
      ∧ r.2.mem ((c.tc : Thread Cert.FfInDw.nD Cert.FfInDw.τ).loc Cert.FfInDw.main_arg2) = m ((c.tc : Thread Cert.FfInDw.nD Cert.FfInDw.τ).loc Cert.FfInDw.main_arg2)
      ∧ r.2.mem ((c.tc : Thread Cert.FfInDw.nD Cert.FfInDw.τ).loc Cert.FfInDw.main_arg3) = m ((c.tc : Thread Cert.FfInDw.nD Cert.FfInDw.τ).loc Cert.FfInDw.main_arg3))
      ∧ r.2.sem = fun _ => 0)

def quiescent_FfInDwIdeal [hFfInDwIdeal : Cert.FfInDwIdeal.Facts] : Prop :=
  ∀ (m : (ℓ : Loc Cert.FfInDwIdeal.nD Cert.FfInDwIdeal.τ Cert.FfInDwIdeal.sig) → Buf (Elt Ideal) ℓ) (g : Dev Cert.FfInDwIdeal.nD → PrngReg), Pre_FfInDwIdeal m →
    θ_run (Cert.FfInDwIdeal.defs (F := Ideal)) (onTc (τ := Cert.FfInDwIdeal.τ) (Cert.FfInDwIdeal.main (F := Ideal))) ⟨m, fun _ => 0, g⟩ (fun r => (∀ c : Dev Cert.FfInDwIdeal.nD,
      r.2.mem ((c.tc : Thread Cert.FfInDwIdeal.nD Cert.FfInDwIdeal.τ).loc Cert.FfInDwIdeal.main_arg0) = m ((c.tc : Thread Cert.FfInDwIdeal.nD Cert.FfInDwIdeal.τ).loc Cert.FfInDwIdeal.main_arg0)
      ∧ r.2.mem ((c.tc : Thread Cert.FfInDwIdeal.nD Cert.FfInDwIdeal.τ).loc Cert.FfInDwIdeal.main_arg1) = m ((c.tc : Thread Cert.FfInDwIdeal.nD Cert.FfInDwIdeal.τ).loc Cert.FfInDwIdeal.main_arg1)
      ∧ r.2.mem ((c.tc : Thread Cert.FfInDwIdeal.nD Cert.FfInDwIdeal.τ).loc Cert.FfInDwIdeal.main_arg2) = m ((c.tc : Thread Cert.FfInDwIdeal.nD Cert.FfInDwIdeal.τ).loc Cert.FfInDwIdeal.main_arg2)
      ∧ r.2.mem ((c.tc : Thread Cert.FfInDwIdeal.nD Cert.FfInDwIdeal.τ).loc Cert.FfInDwIdeal.main_arg3) = m ((c.tc : Thread Cert.FfInDwIdeal.nD Cert.FfInDwIdeal.τ).loc Cert.FfInDwIdeal.main_arg3))
      ∧ r.2.sem = fun _ => 0)

def quiescent_FfInDwReferenceIdeal [hFfInDwReferenceIdeal : Cert.FfInDwReferenceIdeal.Facts] : Prop :=
  ∀ (m : (ℓ : Loc Cert.FfInDwReferenceIdeal.nD Cert.FfInDwReferenceIdeal.τ Cert.FfInDwReferenceIdeal.sig) → Buf (Elt Ideal) ℓ) (g : Dev Cert.FfInDwReferenceIdeal.nD → PrngReg), Pre_FfInDwReferenceIdeal m →
    θ_run (Cert.FfInDwReferenceIdeal.defs (F := Ideal)) (onTc (τ := Cert.FfInDwReferenceIdeal.τ) (Cert.FfInDwReferenceIdeal.main (F := Ideal))) ⟨m, fun _ => 0, g⟩ (fun r => (∀ c : Dev Cert.FfInDwReferenceIdeal.nD,
      r.2.mem ((c.tc : Thread Cert.FfInDwReferenceIdeal.nD Cert.FfInDwReferenceIdeal.τ).loc Cert.FfInDwReferenceIdeal.main_arg0) = m ((c.tc : Thread Cert.FfInDwReferenceIdeal.nD Cert.FfInDwReferenceIdeal.τ).loc Cert.FfInDwReferenceIdeal.main_arg0)
      ∧ r.2.mem ((c.tc : Thread Cert.FfInDwReferenceIdeal.nD Cert.FfInDwReferenceIdeal.τ).loc Cert.FfInDwReferenceIdeal.main_arg1) = m ((c.tc : Thread Cert.FfInDwReferenceIdeal.nD Cert.FfInDwReferenceIdeal.τ).loc Cert.FfInDwReferenceIdeal.main_arg1)
      ∧ r.2.mem ((c.tc : Thread Cert.FfInDwReferenceIdeal.nD Cert.FfInDwReferenceIdeal.τ).loc Cert.FfInDwReferenceIdeal.main_arg2) = m ((c.tc : Thread Cert.FfInDwReferenceIdeal.nD Cert.FfInDwReferenceIdeal.τ).loc Cert.FfInDwReferenceIdeal.main_arg2)
      ∧ r.2.mem ((c.tc : Thread Cert.FfInDwReferenceIdeal.nD Cert.FfInDwReferenceIdeal.τ).loc Cert.FfInDwReferenceIdeal.main_arg3) = m ((c.tc : Thread Cert.FfInDwReferenceIdeal.nD Cert.FfInDwReferenceIdeal.τ).loc Cert.FfInDwReferenceIdeal.main_arg3))
      ∧ r.2.sem = fun _ => 0)

def quiescent_FfOutDx [hFfOutDx : Cert.FfOutDx.Facts] : Prop :=
  ∀ (m : (ℓ : Loc Cert.FfOutDx.nD Cert.FfOutDx.τ Cert.FfOutDx.sig) → Buf (Elt Bits) ℓ) (g : Dev Cert.FfOutDx.nD → PrngReg), Pre_FfOutDx m →
    θ_run (Cert.FfOutDx.defs (F := Bits)) (onTc (τ := Cert.FfOutDx.τ) (Cert.FfOutDx.main (F := Bits))) ⟨m, fun _ => 0, g⟩ (fun r => (∀ c : Dev Cert.FfOutDx.nD,
      r.2.mem ((c.tc : Thread Cert.FfOutDx.nD Cert.FfOutDx.τ).loc Cert.FfOutDx.main_arg0) = m ((c.tc : Thread Cert.FfOutDx.nD Cert.FfOutDx.τ).loc Cert.FfOutDx.main_arg0)
      ∧ r.2.mem ((c.tc : Thread Cert.FfOutDx.nD Cert.FfOutDx.τ).loc Cert.FfOutDx.main_arg1) = m ((c.tc : Thread Cert.FfOutDx.nD Cert.FfOutDx.τ).loc Cert.FfOutDx.main_arg1)
      ∧ r.2.mem ((c.tc : Thread Cert.FfOutDx.nD Cert.FfOutDx.τ).loc Cert.FfOutDx.main_arg2) = m ((c.tc : Thread Cert.FfOutDx.nD Cert.FfOutDx.τ).loc Cert.FfOutDx.main_arg2)
      ∧ r.2.mem ((c.tc : Thread Cert.FfOutDx.nD Cert.FfOutDx.τ).loc Cert.FfOutDx.main_arg3) = m ((c.tc : Thread Cert.FfOutDx.nD Cert.FfOutDx.τ).loc Cert.FfOutDx.main_arg3))
      ∧ r.2.sem = fun _ => 0)

def quiescent_FfOutDxIdeal [hFfOutDxIdeal : Cert.FfOutDxIdeal.Facts] : Prop :=
  ∀ (m : (ℓ : Loc Cert.FfOutDxIdeal.nD Cert.FfOutDxIdeal.τ Cert.FfOutDxIdeal.sig) → Buf (Elt Ideal) ℓ) (g : Dev Cert.FfOutDxIdeal.nD → PrngReg), Pre_FfOutDxIdeal m →
    θ_run (Cert.FfOutDxIdeal.defs (F := Ideal)) (onTc (τ := Cert.FfOutDxIdeal.τ) (Cert.FfOutDxIdeal.main (F := Ideal))) ⟨m, fun _ => 0, g⟩ (fun r => (∀ c : Dev Cert.FfOutDxIdeal.nD,
      r.2.mem ((c.tc : Thread Cert.FfOutDxIdeal.nD Cert.FfOutDxIdeal.τ).loc Cert.FfOutDxIdeal.main_arg0) = m ((c.tc : Thread Cert.FfOutDxIdeal.nD Cert.FfOutDxIdeal.τ).loc Cert.FfOutDxIdeal.main_arg0)
      ∧ r.2.mem ((c.tc : Thread Cert.FfOutDxIdeal.nD Cert.FfOutDxIdeal.τ).loc Cert.FfOutDxIdeal.main_arg1) = m ((c.tc : Thread Cert.FfOutDxIdeal.nD Cert.FfOutDxIdeal.τ).loc Cert.FfOutDxIdeal.main_arg1)
      ∧ r.2.mem ((c.tc : Thread Cert.FfOutDxIdeal.nD Cert.FfOutDxIdeal.τ).loc Cert.FfOutDxIdeal.main_arg2) = m ((c.tc : Thread Cert.FfOutDxIdeal.nD Cert.FfOutDxIdeal.τ).loc Cert.FfOutDxIdeal.main_arg2)
      ∧ r.2.mem ((c.tc : Thread Cert.FfOutDxIdeal.nD Cert.FfOutDxIdeal.τ).loc Cert.FfOutDxIdeal.main_arg3) = m ((c.tc : Thread Cert.FfOutDxIdeal.nD Cert.FfOutDxIdeal.τ).loc Cert.FfOutDxIdeal.main_arg3))
      ∧ r.2.sem = fun _ => 0)

def quiescent_FfOutDxReferenceIdeal [hFfOutDxReferenceIdeal : Cert.FfOutDxReferenceIdeal.Facts] : Prop :=
  ∀ (m : (ℓ : Loc Cert.FfOutDxReferenceIdeal.nD Cert.FfOutDxReferenceIdeal.τ Cert.FfOutDxReferenceIdeal.sig) → Buf (Elt Ideal) ℓ) (g : Dev Cert.FfOutDxReferenceIdeal.nD → PrngReg), Pre_FfOutDxReferenceIdeal m →
    θ_run (Cert.FfOutDxReferenceIdeal.defs (F := Ideal)) (onTc (τ := Cert.FfOutDxReferenceIdeal.τ) (Cert.FfOutDxReferenceIdeal.main (F := Ideal))) ⟨m, fun _ => 0, g⟩ (fun r => (∀ c : Dev Cert.FfOutDxReferenceIdeal.nD,
      r.2.mem ((c.tc : Thread Cert.FfOutDxReferenceIdeal.nD Cert.FfOutDxReferenceIdeal.τ).loc Cert.FfOutDxReferenceIdeal.main_arg0) = m ((c.tc : Thread Cert.FfOutDxReferenceIdeal.nD Cert.FfOutDxReferenceIdeal.τ).loc Cert.FfOutDxReferenceIdeal.main_arg0)
      ∧ r.2.mem ((c.tc : Thread Cert.FfOutDxReferenceIdeal.nD Cert.FfOutDxReferenceIdeal.τ).loc Cert.FfOutDxReferenceIdeal.main_arg1) = m ((c.tc : Thread Cert.FfOutDxReferenceIdeal.nD Cert.FfOutDxReferenceIdeal.τ).loc Cert.FfOutDxReferenceIdeal.main_arg1)
      ∧ r.2.mem ((c.tc : Thread Cert.FfOutDxReferenceIdeal.nD Cert.FfOutDxReferenceIdeal.τ).loc Cert.FfOutDxReferenceIdeal.main_arg2) = m ((c.tc : Thread Cert.FfOutDxReferenceIdeal.nD Cert.FfOutDxReferenceIdeal.τ).loc Cert.FfOutDxReferenceIdeal.main_arg2)
      ∧ r.2.mem ((c.tc : Thread Cert.FfOutDxReferenceIdeal.nD Cert.FfOutDxReferenceIdeal.τ).loc Cert.FfOutDxReferenceIdeal.main_arg3) = m ((c.tc : Thread Cert.FfOutDxReferenceIdeal.nD Cert.FfOutDxReferenceIdeal.τ).loc Cert.FfOutDxReferenceIdeal.main_arg3))
      ∧ r.2.sem = fun _ => 0)

def quiescent_ProjQkv [hProjQkv : Cert.ProjQkv.Facts] : Prop :=
  ∀ (m : (ℓ : Loc Cert.ProjQkv.nD Cert.ProjQkv.τ Cert.ProjQkv.sig) → Buf (Elt Bits) ℓ) (g : Dev Cert.ProjQkv.nD → PrngReg), Pre_ProjQkv m →
    θ_run (Cert.ProjQkv.defs (F := Bits)) (onTc (τ := Cert.ProjQkv.τ) (Cert.ProjQkv.main (F := Bits))) ⟨m, fun _ => 0, g⟩ (fun r => (∀ c : Dev Cert.ProjQkv.nD,
      r.2.mem ((c.tc : Thread Cert.ProjQkv.nD Cert.ProjQkv.τ).loc Cert.ProjQkv.main_arg0) = m ((c.tc : Thread Cert.ProjQkv.nD Cert.ProjQkv.τ).loc Cert.ProjQkv.main_arg0)
      ∧ r.2.mem ((c.tc : Thread Cert.ProjQkv.nD Cert.ProjQkv.τ).loc Cert.ProjQkv.main_arg1) = m ((c.tc : Thread Cert.ProjQkv.nD Cert.ProjQkv.τ).loc Cert.ProjQkv.main_arg1))
      ∧ r.2.sem = fun _ => 0)

def quiescent_ProjQkvIdeal [hProjQkvIdeal : Cert.ProjQkvIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg), Pre_ProjQkvIdeal m →
    θ_run (Cert.ProjQkvIdeal.defs (F := Ideal)) (onTc (τ := Cert.ProjQkvIdeal.τ) (Cert.ProjQkvIdeal.main (F := Ideal))) ⟨m, fun _ => 0, g⟩ (fun r => (∀ c : Dev Cert.ProjQkvIdeal.nD,
      r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
      ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1))
      ∧ r.2.sem = fun _ => 0)

def quiescent_ProjQkvReferenceIdeal [hProjQkvReferenceIdeal : Cert.ProjQkvReferenceIdeal.Facts] : Prop :=
  ∀ (m : (ℓ : Loc Cert.ProjQkvReferenceIdeal.nD Cert.ProjQkvReferenceIdeal.τ Cert.ProjQkvReferenceIdeal.sig) → Buf (Elt Ideal) ℓ) (g : Dev Cert.ProjQkvReferenceIdeal.nD → PrngReg), Pre_ProjQkvReferenceIdeal m →
    θ_run (Cert.ProjQkvReferenceIdeal.defs (F := Ideal)) (onTc (τ := Cert.ProjQkvReferenceIdeal.τ) (Cert.ProjQkvReferenceIdeal.main (F := Ideal))) ⟨m, fun _ => 0, g⟩ (fun r => (∀ c : Dev Cert.ProjQkvReferenceIdeal.nD,
      r.2.mem ((c.tc : Thread Cert.ProjQkvReferenceIdeal.nD Cert.ProjQkvReferenceIdeal.τ).loc Cert.ProjQkvReferenceIdeal.main_arg0) = m ((c.tc : Thread Cert.ProjQkvReferenceIdeal.nD Cert.ProjQkvReferenceIdeal.τ).loc Cert.ProjQkvReferenceIdeal.main_arg0)
      ∧ r.2.mem ((c.tc : Thread Cert.ProjQkvReferenceIdeal.nD Cert.ProjQkvReferenceIdeal.τ).loc Cert.ProjQkvReferenceIdeal.main_arg1) = m ((c.tc : Thread Cert.ProjQkvReferenceIdeal.nD Cert.ProjQkvReferenceIdeal.τ).loc Cert.ProjQkvReferenceIdeal.main_arg1))
      ∧ r.2.sem = fun _ => 0)

def quiescent_ProjMix [hProjMix : Cert.ProjMix.Facts] : Prop :=
  ∀ (m : (ℓ : Loc Cert.ProjMix.nD Cert.ProjMix.τ Cert.ProjMix.sig) → Buf (Elt Bits) ℓ) (g : Dev Cert.ProjMix.nD → PrngReg), Pre_ProjMix m →
    θ_run (Cert.ProjMix.defs (F := Bits)) (onTc (τ := Cert.ProjMix.τ) (Cert.ProjMix.main (F := Bits))) ⟨m, fun _ => 0, g⟩ (fun r => (∀ c : Dev Cert.ProjMix.nD,
      r.2.mem ((c.tc : Thread Cert.ProjMix.nD Cert.ProjMix.τ).loc Cert.ProjMix.main_arg0) = m ((c.tc : Thread Cert.ProjMix.nD Cert.ProjMix.τ).loc Cert.ProjMix.main_arg0)
      ∧ r.2.mem ((c.tc : Thread Cert.ProjMix.nD Cert.ProjMix.τ).loc Cert.ProjMix.main_arg1) = m ((c.tc : Thread Cert.ProjMix.nD Cert.ProjMix.τ).loc Cert.ProjMix.main_arg1))
      ∧ r.2.sem = fun _ => 0)

def quiescent_ProjMixIdeal [hProjMixIdeal : Cert.ProjMixIdeal.Facts] : Prop :=
  ∀ (m : (ℓ : Loc Cert.ProjMixIdeal.nD Cert.ProjMixIdeal.τ Cert.ProjMixIdeal.sig) → Buf (Elt Ideal) ℓ) (g : Dev Cert.ProjMixIdeal.nD → PrngReg), Pre_ProjMixIdeal m →
    θ_run (Cert.ProjMixIdeal.defs (F := Ideal)) (onTc (τ := Cert.ProjMixIdeal.τ) (Cert.ProjMixIdeal.main (F := Ideal))) ⟨m, fun _ => 0, g⟩ (fun r => (∀ c : Dev Cert.ProjMixIdeal.nD,
      r.2.mem ((c.tc : Thread Cert.ProjMixIdeal.nD Cert.ProjMixIdeal.τ).loc Cert.ProjMixIdeal.main_arg0) = m ((c.tc : Thread Cert.ProjMixIdeal.nD Cert.ProjMixIdeal.τ).loc Cert.ProjMixIdeal.main_arg0)
      ∧ r.2.mem ((c.tc : Thread Cert.ProjMixIdeal.nD Cert.ProjMixIdeal.τ).loc Cert.ProjMixIdeal.main_arg1) = m ((c.tc : Thread Cert.ProjMixIdeal.nD Cert.ProjMixIdeal.τ).loc Cert.ProjMixIdeal.main_arg1))
      ∧ r.2.sem = fun _ => 0)

def quiescent_ProjMixReferenceIdeal [hProjMixReferenceIdeal : Cert.ProjMixReferenceIdeal.Facts] : Prop :=
  ∀ (m : (ℓ : Loc Cert.ProjMixReferenceIdeal.nD Cert.ProjMixReferenceIdeal.τ Cert.ProjMixReferenceIdeal.sig) → Buf (Elt Ideal) ℓ) (g : Dev Cert.ProjMixReferenceIdeal.nD → PrngReg), Pre_ProjMixReferenceIdeal m →
    θ_run (Cert.ProjMixReferenceIdeal.defs (F := Ideal)) (onTc (τ := Cert.ProjMixReferenceIdeal.τ) (Cert.ProjMixReferenceIdeal.main (F := Ideal))) ⟨m, fun _ => 0, g⟩ (fun r => (∀ c : Dev Cert.ProjMixReferenceIdeal.nD,
      r.2.mem ((c.tc : Thread Cert.ProjMixReferenceIdeal.nD Cert.ProjMixReferenceIdeal.τ).loc Cert.ProjMixReferenceIdeal.main_arg0) = m ((c.tc : Thread Cert.ProjMixReferenceIdeal.nD Cert.ProjMixReferenceIdeal.τ).loc Cert.ProjMixReferenceIdeal.main_arg0)
      ∧ r.2.mem ((c.tc : Thread Cert.ProjMixReferenceIdeal.nD Cert.ProjMixReferenceIdeal.τ).loc Cert.ProjMixReferenceIdeal.main_arg1) = m ((c.tc : Thread Cert.ProjMixReferenceIdeal.nD Cert.ProjMixReferenceIdeal.τ).loc Cert.ProjMixReferenceIdeal.main_arg1))
      ∧ r.2.sem = fun _ => 0)

def quiescent_ProjGates [hProjGates : Cert.ProjGates.Facts] : Prop :=
  ∀ (m : (ℓ : Loc Cert.ProjGates.nD Cert.ProjGates.τ Cert.ProjGates.sig) → Buf (Elt Bits) ℓ) (g : Dev Cert.ProjGates.nD → PrngReg), Pre_ProjGates m →
    θ_run (Cert.ProjGates.defs (F := Bits)) (onTc (τ := Cert.ProjGates.τ) (Cert.ProjGates.main (F := Bits))) ⟨m, fun _ => 0, g⟩ (fun r => (∀ c : Dev Cert.ProjGates.nD,
      r.2.mem ((c.tc : Thread Cert.ProjGates.nD Cert.ProjGates.τ).loc Cert.ProjGates.main_arg0) = m ((c.tc : Thread Cert.ProjGates.nD Cert.ProjGates.τ).loc Cert.ProjGates.main_arg0)
      ∧ r.2.mem ((c.tc : Thread Cert.ProjGates.nD Cert.ProjGates.τ).loc Cert.ProjGates.main_arg1) = m ((c.tc : Thread Cert.ProjGates.nD Cert.ProjGates.τ).loc Cert.ProjGates.main_arg1))
      ∧ r.2.sem = fun _ => 0)

def quiescent_ProjGatesIdeal [hProjGatesIdeal : Cert.ProjGatesIdeal.Facts] : Prop :=
  ∀ (m : (ℓ : Loc Cert.ProjGatesIdeal.nD Cert.ProjGatesIdeal.τ Cert.ProjGatesIdeal.sig) → Buf (Elt Ideal) ℓ) (g : Dev Cert.ProjGatesIdeal.nD → PrngReg), Pre_ProjGatesIdeal m →
    θ_run (Cert.ProjGatesIdeal.defs (F := Ideal)) (onTc (τ := Cert.ProjGatesIdeal.τ) (Cert.ProjGatesIdeal.main (F := Ideal))) ⟨m, fun _ => 0, g⟩ (fun r => (∀ c : Dev Cert.ProjGatesIdeal.nD,
      r.2.mem ((c.tc : Thread Cert.ProjGatesIdeal.nD Cert.ProjGatesIdeal.τ).loc Cert.ProjGatesIdeal.main_arg0) = m ((c.tc : Thread Cert.ProjGatesIdeal.nD Cert.ProjGatesIdeal.τ).loc Cert.ProjGatesIdeal.main_arg0)
      ∧ r.2.mem ((c.tc : Thread Cert.ProjGatesIdeal.nD Cert.ProjGatesIdeal.τ).loc Cert.ProjGatesIdeal.main_arg1) = m ((c.tc : Thread Cert.ProjGatesIdeal.nD Cert.ProjGatesIdeal.τ).loc Cert.ProjGatesIdeal.main_arg1))
      ∧ r.2.sem = fun _ => 0)

def quiescent_ProjGatesReferenceIdeal [hProjGatesReferenceIdeal : Cert.ProjGatesReferenceIdeal.Facts] : Prop :=
  ∀ (m : (ℓ : Loc Cert.ProjGatesReferenceIdeal.nD Cert.ProjGatesReferenceIdeal.τ Cert.ProjGatesReferenceIdeal.sig) → Buf (Elt Ideal) ℓ) (g : Dev Cert.ProjGatesReferenceIdeal.nD → PrngReg), Pre_ProjGatesReferenceIdeal m →
    θ_run (Cert.ProjGatesReferenceIdeal.defs (F := Ideal)) (onTc (τ := Cert.ProjGatesReferenceIdeal.τ) (Cert.ProjGatesReferenceIdeal.main (F := Ideal))) ⟨m, fun _ => 0, g⟩ (fun r => (∀ c : Dev Cert.ProjGatesReferenceIdeal.nD,
      r.2.mem ((c.tc : Thread Cert.ProjGatesReferenceIdeal.nD Cert.ProjGatesReferenceIdeal.τ).loc Cert.ProjGatesReferenceIdeal.main_arg0) = m ((c.tc : Thread Cert.ProjGatesReferenceIdeal.nD Cert.ProjGatesReferenceIdeal.τ).loc Cert.ProjGatesReferenceIdeal.main_arg0)
      ∧ r.2.mem ((c.tc : Thread Cert.ProjGatesReferenceIdeal.nD Cert.ProjGatesReferenceIdeal.τ).loc Cert.ProjGatesReferenceIdeal.main_arg1) = m ((c.tc : Thread Cert.ProjGatesReferenceIdeal.nD Cert.ProjGatesReferenceIdeal.τ).loc Cert.ProjGatesReferenceIdeal.main_arg1))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1)
      ∧ r.2.mem ((c.tc : Thread Cert.ProjDx.nD Cert.ProjDx.τ).loc Cert.ProjDx.main_arg2) = m ((c.tc : Thread Cert.ProjDx.nD Cert.ProjDx.τ).loc Cert.ProjDx.main_arg2))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1)
      ∧ r.2.mem ((c.tc : Thread Cert.ProjDxIdeal.nD Cert.ProjDxIdeal.τ).loc Cert.ProjDxIdeal.main_arg2) = m ((c.tc : Thread Cert.ProjDxIdeal.nD Cert.ProjDxIdeal.τ).loc Cert.ProjDxIdeal.main_arg2))
      ∧ r.2.sem = fun _ => 0)

def quiescent_ProjDxReferenceIdeal [hProjDxReferenceIdeal : Cert.ProjDxReferenceIdeal.Facts] : Prop :=
  ∀ (m : (ℓ : Loc Cert.ProjDxReferenceIdeal.nD Cert.ProjDxReferenceIdeal.τ Cert.ProjDxReferenceIdeal.sig) → Buf (Elt Ideal) ℓ) (g : Dev Cert.ProjDxReferenceIdeal.nD → PrngReg), Pre_ProjDxReferenceIdeal m →
    θ_run (Cert.ProjDxReferenceIdeal.defs (F := Ideal)) (onTc (τ := Cert.ProjDxReferenceIdeal.τ) (Cert.ProjDxReferenceIdeal.main (F := Ideal))) ⟨m, fun _ => 0, g⟩ (fun r => (∀ c : Dev Cert.ProjDxReferenceIdeal.nD,
      r.2.mem ((c.tc : Thread Cert.ProjDxReferenceIdeal.nD Cert.ProjDxReferenceIdeal.τ).loc Cert.ProjDxReferenceIdeal.main_arg0) = m ((c.tc : Thread Cert.ProjDxReferenceIdeal.nD Cert.ProjDxReferenceIdeal.τ).loc Cert.ProjDxReferenceIdeal.main_arg0)
      ∧ r.2.mem ((c.tc : Thread Cert.ProjDxReferenceIdeal.nD Cert.ProjDxReferenceIdeal.τ).loc Cert.ProjDxReferenceIdeal.main_arg1) = m ((c.tc : Thread Cert.ProjDxReferenceIdeal.nD Cert.ProjDxReferenceIdeal.τ).loc Cert.ProjDxReferenceIdeal.main_arg1)
      ∧ r.2.mem ((c.tc : Thread Cert.ProjDxReferenceIdeal.nD Cert.ProjDxReferenceIdeal.τ).loc Cert.ProjDxReferenceIdeal.main_arg2) = m ((c.tc : Thread Cert.ProjDxReferenceIdeal.nD Cert.ProjDxReferenceIdeal.τ).loc Cert.ProjDxReferenceIdeal.main_arg2))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1)
      ∧ r.2.mem ((c.tc : Thread Cert.ProjDw.nD Cert.ProjDw.τ).loc Cert.ProjDw.main_arg2) = m ((c.tc : Thread Cert.ProjDw.nD Cert.ProjDw.τ).loc Cert.ProjDw.main_arg2))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1)
      ∧ r.2.mem ((c.tc : Thread Cert.ProjDwIdeal.nD Cert.ProjDwIdeal.τ).loc Cert.ProjDwIdeal.main_arg2) = m ((c.tc : Thread Cert.ProjDwIdeal.nD Cert.ProjDwIdeal.τ).loc Cert.ProjDwIdeal.main_arg2))
      ∧ r.2.sem = fun _ => 0)

def quiescent_ProjDwReferenceIdeal [hProjDwReferenceIdeal : Cert.ProjDwReferenceIdeal.Facts] : Prop :=
  ∀ (m : (ℓ : Loc Cert.ProjDwReferenceIdeal.nD Cert.ProjDwReferenceIdeal.τ Cert.ProjDwReferenceIdeal.sig) → Buf (Elt Ideal) ℓ) (g : Dev Cert.ProjDwReferenceIdeal.nD → PrngReg), Pre_ProjDwReferenceIdeal m →
    θ_run (Cert.ProjDwReferenceIdeal.defs (F := Ideal)) (onTc (τ := Cert.ProjDwReferenceIdeal.τ) (Cert.ProjDwReferenceIdeal.main (F := Ideal))) ⟨m, fun _ => 0, g⟩ (fun r => (∀ c : Dev Cert.ProjDwReferenceIdeal.nD,
      r.2.mem ((c.tc : Thread Cert.ProjDwReferenceIdeal.nD Cert.ProjDwReferenceIdeal.τ).loc Cert.ProjDwReferenceIdeal.main_arg0) = m ((c.tc : Thread Cert.ProjDwReferenceIdeal.nD Cert.ProjDwReferenceIdeal.τ).loc Cert.ProjDwReferenceIdeal.main_arg0)
      ∧ r.2.mem ((c.tc : Thread Cert.ProjDwReferenceIdeal.nD Cert.ProjDwReferenceIdeal.τ).loc Cert.ProjDwReferenceIdeal.main_arg1) = m ((c.tc : Thread Cert.ProjDwReferenceIdeal.nD Cert.ProjDwReferenceIdeal.τ).loc Cert.ProjDwReferenceIdeal.main_arg1)
      ∧ r.2.mem ((c.tc : Thread Cert.ProjDwReferenceIdeal.nD Cert.ProjDwReferenceIdeal.τ).loc Cert.ProjDwReferenceIdeal.main_arg2) = m ((c.tc : Thread Cert.ProjDwReferenceIdeal.nD Cert.ProjDwReferenceIdeal.τ).loc Cert.ProjDwReferenceIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1))
      ∧ r.2.sem = fun _ => 0)

def quiescent_OutProjDx [hOutProjDx : Cert.OutProjDx.Facts] : Prop :=
  ∀ (m : (ℓ : Loc Cert.OutProjDx.nD Cert.OutProjDx.τ Cert.OutProjDx.sig) → Buf (Elt Bits) ℓ) (g : Dev Cert.OutProjDx.nD → PrngReg), Pre_OutProjDx m →
    θ_run (Cert.OutProjDx.defs (F := Bits)) (onTc (τ := Cert.OutProjDx.τ) (Cert.OutProjDx.main (F := Bits))) ⟨m, fun _ => 0, g⟩ (fun r => (∀ c : Dev Cert.OutProjDx.nD,
      r.2.mem ((c.tc : Thread Cert.OutProjDx.nD Cert.OutProjDx.τ).loc Cert.OutProjDx.main_arg0) = m ((c.tc : Thread Cert.OutProjDx.nD Cert.OutProjDx.τ).loc Cert.OutProjDx.main_arg0)
      ∧ r.2.mem ((c.tc : Thread Cert.OutProjDx.nD Cert.OutProjDx.τ).loc Cert.OutProjDx.main_arg1) = m ((c.tc : Thread Cert.OutProjDx.nD Cert.OutProjDx.τ).loc Cert.OutProjDx.main_arg1)
      ∧ r.2.mem ((c.tc : Thread Cert.OutProjDx.nD Cert.OutProjDx.τ).loc Cert.OutProjDx.main_arg2) = m ((c.tc : Thread Cert.OutProjDx.nD Cert.OutProjDx.τ).loc Cert.OutProjDx.main_arg2))
      ∧ r.2.sem = fun _ => 0)

def quiescent_OutProjDxIdeal [hOutProjDxIdeal : Cert.OutProjDxIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg), Pre_OutProjDxIdeal m →
    θ_run (Cert.OutProjDxIdeal.defs (F := Ideal)) (onTc (τ := Cert.OutProjDxIdeal.τ) (Cert.OutProjDxIdeal.main (F := Ideal))) ⟨m, fun _ => 0, g⟩ (fun r => (∀ c : Dev Cert.OutProjDxIdeal.nD,
      r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
      ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1)
      ∧ r.2.mem ((c.tc : Thread Cert.OutProjDxIdeal.nD Cert.OutProjDxIdeal.τ).loc Cert.OutProjDxIdeal.main_arg2) = m ((c.tc : Thread Cert.OutProjDxIdeal.nD Cert.OutProjDxIdeal.τ).loc Cert.OutProjDxIdeal.main_arg2))
      ∧ r.2.sem = fun _ => 0)

def quiescent_OutProjDxReferenceIdeal [hOutProjDxReferenceIdeal : Cert.OutProjDxReferenceIdeal.Facts] : Prop :=
  ∀ (m : (ℓ : Loc Cert.OutProjDxReferenceIdeal.nD Cert.OutProjDxReferenceIdeal.τ Cert.OutProjDxReferenceIdeal.sig) → Buf (Elt Ideal) ℓ) (g : Dev Cert.OutProjDxReferenceIdeal.nD → PrngReg), Pre_OutProjDxReferenceIdeal m →
    θ_run (Cert.OutProjDxReferenceIdeal.defs (F := Ideal)) (onTc (τ := Cert.OutProjDxReferenceIdeal.τ) (Cert.OutProjDxReferenceIdeal.main (F := Ideal))) ⟨m, fun _ => 0, g⟩ (fun r => (∀ c : Dev Cert.OutProjDxReferenceIdeal.nD,
      r.2.mem ((c.tc : Thread Cert.OutProjDxReferenceIdeal.nD Cert.OutProjDxReferenceIdeal.τ).loc Cert.OutProjDxReferenceIdeal.main_arg0) = m ((c.tc : Thread Cert.OutProjDxReferenceIdeal.nD Cert.OutProjDxReferenceIdeal.τ).loc Cert.OutProjDxReferenceIdeal.main_arg0)
      ∧ r.2.mem ((c.tc : Thread Cert.OutProjDxReferenceIdeal.nD Cert.OutProjDxReferenceIdeal.τ).loc Cert.OutProjDxReferenceIdeal.main_arg1) = m ((c.tc : Thread Cert.OutProjDxReferenceIdeal.nD Cert.OutProjDxReferenceIdeal.τ).loc Cert.OutProjDxReferenceIdeal.main_arg1)
      ∧ r.2.mem ((c.tc : Thread Cert.OutProjDxReferenceIdeal.nD Cert.OutProjDxReferenceIdeal.τ).loc Cert.OutProjDxReferenceIdeal.main_arg2) = m ((c.tc : Thread Cert.OutProjDxReferenceIdeal.nD Cert.OutProjDxReferenceIdeal.τ).loc Cert.OutProjDxReferenceIdeal.main_arg2))
      ∧ r.2.sem = fun _ => 0)

def quiescent_OutProjDw [hOutProjDw : Cert.OutProjDw.Facts] : Prop :=
  ∀ (m : (ℓ : Loc Cert.OutProjDw.nD Cert.OutProjDw.τ Cert.OutProjDw.sig) → Buf (Elt Bits) ℓ) (g : Dev Cert.OutProjDw.nD → PrngReg), Pre_OutProjDw m →
    θ_run (Cert.OutProjDw.defs (F := Bits)) (onTc (τ := Cert.OutProjDw.τ) (Cert.OutProjDw.main (F := Bits))) ⟨m, fun _ => 0, g⟩ (fun r => (∀ c : Dev Cert.OutProjDw.nD,
      r.2.mem ((c.tc : Thread Cert.OutProjDw.nD Cert.OutProjDw.τ).loc Cert.OutProjDw.main_arg0) = m ((c.tc : Thread Cert.OutProjDw.nD Cert.OutProjDw.τ).loc Cert.OutProjDw.main_arg0)
      ∧ r.2.mem ((c.tc : Thread Cert.OutProjDw.nD Cert.OutProjDw.τ).loc Cert.OutProjDw.main_arg1) = m ((c.tc : Thread Cert.OutProjDw.nD Cert.OutProjDw.τ).loc Cert.OutProjDw.main_arg1)
      ∧ r.2.mem ((c.tc : Thread Cert.OutProjDw.nD Cert.OutProjDw.τ).loc Cert.OutProjDw.main_arg2) = m ((c.tc : Thread Cert.OutProjDw.nD Cert.OutProjDw.τ).loc Cert.OutProjDw.main_arg2))
      ∧ r.2.sem = fun _ => 0)

def quiescent_OutProjDwIdeal [hOutProjDwIdeal : Cert.OutProjDwIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg), Pre_OutProjDwIdeal m →
    θ_run (Cert.OutProjDwIdeal.defs (F := Ideal)) (onTc (τ := Cert.OutProjDwIdeal.τ) (Cert.OutProjDwIdeal.main (F := Ideal))) ⟨m, fun _ => 0, g⟩ (fun r => (∀ c : Dev Cert.OutProjDwIdeal.nD,
      r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
      ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1)
      ∧ r.2.mem ((c.tc : Thread Cert.OutProjDwIdeal.nD Cert.OutProjDwIdeal.τ).loc Cert.OutProjDwIdeal.main_arg2) = m ((c.tc : Thread Cert.OutProjDwIdeal.nD Cert.OutProjDwIdeal.τ).loc Cert.OutProjDwIdeal.main_arg2))
      ∧ r.2.sem = fun _ => 0)

def quiescent_OutProjDwReferenceIdeal [hOutProjDwReferenceIdeal : Cert.OutProjDwReferenceIdeal.Facts] : Prop :=
  ∀ (m : (ℓ : Loc Cert.OutProjDwReferenceIdeal.nD Cert.OutProjDwReferenceIdeal.τ Cert.OutProjDwReferenceIdeal.sig) → Buf (Elt Ideal) ℓ) (g : Dev Cert.OutProjDwReferenceIdeal.nD → PrngReg), Pre_OutProjDwReferenceIdeal m →
    θ_run (Cert.OutProjDwReferenceIdeal.defs (F := Ideal)) (onTc (τ := Cert.OutProjDwReferenceIdeal.τ) (Cert.OutProjDwReferenceIdeal.main (F := Ideal))) ⟨m, fun _ => 0, g⟩ (fun r => (∀ c : Dev Cert.OutProjDwReferenceIdeal.nD,
      r.2.mem ((c.tc : Thread Cert.OutProjDwReferenceIdeal.nD Cert.OutProjDwReferenceIdeal.τ).loc Cert.OutProjDwReferenceIdeal.main_arg0) = m ((c.tc : Thread Cert.OutProjDwReferenceIdeal.nD Cert.OutProjDwReferenceIdeal.τ).loc Cert.OutProjDwReferenceIdeal.main_arg0)
      ∧ r.2.mem ((c.tc : Thread Cert.OutProjDwReferenceIdeal.nD Cert.OutProjDwReferenceIdeal.τ).loc Cert.OutProjDwReferenceIdeal.main_arg1) = m ((c.tc : Thread Cert.OutProjDwReferenceIdeal.nD Cert.OutProjDwReferenceIdeal.τ).loc Cert.OutProjDwReferenceIdeal.main_arg1)
      ∧ r.2.mem ((c.tc : Thread Cert.OutProjDwReferenceIdeal.nD Cert.OutProjDwReferenceIdeal.τ).loc Cert.OutProjDwReferenceIdeal.main_arg2) = m ((c.tc : Thread Cert.OutProjDwReferenceIdeal.nD Cert.OutProjDwReferenceIdeal.τ).loc Cert.OutProjDwReferenceIdeal.main_arg2))
      ∧ r.2.sem = fun _ => 0)

def quiescent_BrSb [hBrSb : Cert.BrSb.Facts] : Prop :=
  ∀ (m : (ℓ : Loc Cert.BrSb.nD Cert.BrSb.τ Cert.BrSb.sig) → Buf (Elt Bits) ℓ) (g : Dev Cert.BrSb.nD → PrngReg), Pre_BrSb m →
    θ_run (Cert.BrSb.defs (F := Bits)) (onTc (τ := Cert.BrSb.τ) (Cert.BrSb.main (F := Bits))) ⟨m, fun _ => 0, g⟩ (fun r => (∀ c : Dev Cert.BrSb.nD,
      r.2.mem ((c.tc : Thread Cert.BrSb.nD Cert.BrSb.τ).loc Cert.BrSb.main_arg0) = m ((c.tc : Thread Cert.BrSb.nD Cert.BrSb.τ).loc Cert.BrSb.main_arg0)
      ∧ r.2.mem ((c.tc : Thread Cert.BrSb.nD Cert.BrSb.τ).loc Cert.BrSb.main_arg1) = m ((c.tc : Thread Cert.BrSb.nD Cert.BrSb.τ).loc Cert.BrSb.main_arg1))
      ∧ r.2.sem = fun _ => 0)

def quiescent_BrSbIdeal [hBrSbIdeal : Cert.BrSbIdeal.Facts] : Prop :=
  ∀ (m : (ℓ : Loc Cert.BrSbIdeal.nD Cert.BrSbIdeal.τ Cert.BrSbIdeal.sig) → Buf (Elt Ideal) ℓ) (g : Dev Cert.BrSbIdeal.nD → PrngReg), Pre_BrSbIdeal m →
    θ_run (Cert.BrSbIdeal.defs (F := Ideal)) (onTc (τ := Cert.BrSbIdeal.τ) (Cert.BrSbIdeal.main (F := Ideal))) ⟨m, fun _ => 0, g⟩ (fun r => (∀ c : Dev Cert.BrSbIdeal.nD,
      r.2.mem ((c.tc : Thread Cert.BrSbIdeal.nD Cert.BrSbIdeal.τ).loc Cert.BrSbIdeal.main_arg0) = m ((c.tc : Thread Cert.BrSbIdeal.nD Cert.BrSbIdeal.τ).loc Cert.BrSbIdeal.main_arg0)
      ∧ r.2.mem ((c.tc : Thread Cert.BrSbIdeal.nD Cert.BrSbIdeal.τ).loc Cert.BrSbIdeal.main_arg1) = m ((c.tc : Thread Cert.BrSbIdeal.nD Cert.BrSbIdeal.τ).loc Cert.BrSbIdeal.main_arg1))
      ∧ r.2.sem = fun _ => 0)

def quiescent_BrSbReferenceIdeal [hBrSbReferenceIdeal : Cert.BrSbReferenceIdeal.Facts] : Prop :=
  ∀ (m : (ℓ : Loc Cert.BrSbReferenceIdeal.nD Cert.BrSbReferenceIdeal.τ Cert.BrSbReferenceIdeal.sig) → Buf (Elt Ideal) ℓ) (g : Dev Cert.BrSbReferenceIdeal.nD → PrngReg), Pre_BrSbReferenceIdeal m →
    θ_run (Cert.BrSbReferenceIdeal.defs (F := Ideal)) (onTc (τ := Cert.BrSbReferenceIdeal.τ) (Cert.BrSbReferenceIdeal.main (F := Ideal))) ⟨m, fun _ => 0, g⟩ (fun r => (∀ c : Dev Cert.BrSbReferenceIdeal.nD,
      r.2.mem ((c.tc : Thread Cert.BrSbReferenceIdeal.nD Cert.BrSbReferenceIdeal.τ).loc Cert.BrSbReferenceIdeal.main_arg0) = m ((c.tc : Thread Cert.BrSbReferenceIdeal.nD Cert.BrSbReferenceIdeal.τ).loc Cert.BrSbReferenceIdeal.main_arg0)
      ∧ r.2.mem ((c.tc : Thread Cert.BrSbReferenceIdeal.nD Cert.BrSbReferenceIdeal.τ).loc Cert.BrSbReferenceIdeal.main_arg1) = m ((c.tc : Thread Cert.BrSbReferenceIdeal.nD Cert.BrSbReferenceIdeal.τ).loc Cert.BrSbReferenceIdeal.main_arg1))
      ∧ r.2.sem = fun _ => 0)

def quiescent_BrSbDx [hBrSbDx : Cert.BrSbDx.Facts] : Prop :=
  ∀ (m : (ℓ : Loc Cert.BrSbDx.nD Cert.BrSbDx.τ Cert.BrSbDx.sig) → Buf (Elt Bits) ℓ) (g : Dev Cert.BrSbDx.nD → PrngReg), Pre_BrSbDx m →
    θ_run (Cert.BrSbDx.defs (F := Bits)) (onTc (τ := Cert.BrSbDx.τ) (Cert.BrSbDx.main (F := Bits))) ⟨m, fun _ => 0, g⟩ (fun r => (∀ c : Dev Cert.BrSbDx.nD,
      r.2.mem ((c.tc : Thread Cert.BrSbDx.nD Cert.BrSbDx.τ).loc Cert.BrSbDx.main_arg0) = m ((c.tc : Thread Cert.BrSbDx.nD Cert.BrSbDx.τ).loc Cert.BrSbDx.main_arg0)
      ∧ r.2.mem ((c.tc : Thread Cert.BrSbDx.nD Cert.BrSbDx.τ).loc Cert.BrSbDx.main_arg1) = m ((c.tc : Thread Cert.BrSbDx.nD Cert.BrSbDx.τ).loc Cert.BrSbDx.main_arg1)
      ∧ r.2.mem ((c.tc : Thread Cert.BrSbDx.nD Cert.BrSbDx.τ).loc Cert.BrSbDx.main_arg2) = m ((c.tc : Thread Cert.BrSbDx.nD Cert.BrSbDx.τ).loc Cert.BrSbDx.main_arg2))
      ∧ r.2.sem = fun _ => 0)

def quiescent_BrSbDxIdeal [hBrSbDxIdeal : Cert.BrSbDxIdeal.Facts] : Prop :=
  ∀ (m : (ℓ : Loc Cert.BrSbDxIdeal.nD Cert.BrSbDxIdeal.τ Cert.BrSbDxIdeal.sig) → Buf (Elt Ideal) ℓ) (g : Dev Cert.BrSbDxIdeal.nD → PrngReg), Pre_BrSbDxIdeal m →
    θ_run (Cert.BrSbDxIdeal.defs (F := Ideal)) (onTc (τ := Cert.BrSbDxIdeal.τ) (Cert.BrSbDxIdeal.main (F := Ideal))) ⟨m, fun _ => 0, g⟩ (fun r => (∀ c : Dev Cert.BrSbDxIdeal.nD,
      r.2.mem ((c.tc : Thread Cert.BrSbDxIdeal.nD Cert.BrSbDxIdeal.τ).loc Cert.BrSbDxIdeal.main_arg0) = m ((c.tc : Thread Cert.BrSbDxIdeal.nD Cert.BrSbDxIdeal.τ).loc Cert.BrSbDxIdeal.main_arg0)
      ∧ r.2.mem ((c.tc : Thread Cert.BrSbDxIdeal.nD Cert.BrSbDxIdeal.τ).loc Cert.BrSbDxIdeal.main_arg1) = m ((c.tc : Thread Cert.BrSbDxIdeal.nD Cert.BrSbDxIdeal.τ).loc Cert.BrSbDxIdeal.main_arg1)
      ∧ r.2.mem ((c.tc : Thread Cert.BrSbDxIdeal.nD Cert.BrSbDxIdeal.τ).loc Cert.BrSbDxIdeal.main_arg2) = m ((c.tc : Thread Cert.BrSbDxIdeal.nD Cert.BrSbDxIdeal.τ).loc Cert.BrSbDxIdeal.main_arg2))
      ∧ r.2.sem = fun _ => 0)

def quiescent_BrSbDxReferenceIdeal [hBrSbDxReferenceIdeal : Cert.BrSbDxReferenceIdeal.Facts] : Prop :=
  ∀ (m : (ℓ : Loc Cert.BrSbDxReferenceIdeal.nD Cert.BrSbDxReferenceIdeal.τ Cert.BrSbDxReferenceIdeal.sig) → Buf (Elt Ideal) ℓ) (g : Dev Cert.BrSbDxReferenceIdeal.nD → PrngReg), Pre_BrSbDxReferenceIdeal m →
    θ_run (Cert.BrSbDxReferenceIdeal.defs (F := Ideal)) (onTc (τ := Cert.BrSbDxReferenceIdeal.τ) (Cert.BrSbDxReferenceIdeal.main (F := Ideal))) ⟨m, fun _ => 0, g⟩ (fun r => (∀ c : Dev Cert.BrSbDxReferenceIdeal.nD,
      r.2.mem ((c.tc : Thread Cert.BrSbDxReferenceIdeal.nD Cert.BrSbDxReferenceIdeal.τ).loc Cert.BrSbDxReferenceIdeal.main_arg0) = m ((c.tc : Thread Cert.BrSbDxReferenceIdeal.nD Cert.BrSbDxReferenceIdeal.τ).loc Cert.BrSbDxReferenceIdeal.main_arg0)
      ∧ r.2.mem ((c.tc : Thread Cert.BrSbDxReferenceIdeal.nD Cert.BrSbDxReferenceIdeal.τ).loc Cert.BrSbDxReferenceIdeal.main_arg1) = m ((c.tc : Thread Cert.BrSbDxReferenceIdeal.nD Cert.BrSbDxReferenceIdeal.τ).loc Cert.BrSbDxReferenceIdeal.main_arg1)
      ∧ r.2.mem ((c.tc : Thread Cert.BrSbDxReferenceIdeal.nD Cert.BrSbDxReferenceIdeal.τ).loc Cert.BrSbDxReferenceIdeal.main_arg2) = m ((c.tc : Thread Cert.BrSbDxReferenceIdeal.nD Cert.BrSbDxReferenceIdeal.τ).loc Cert.BrSbDxReferenceIdeal.main_arg2))
      ∧ r.2.sem = fun _ => 0)

def quiescent_BrSbDw [hBrSbDw : Cert.BrSbDw.Facts] : Prop :=
  ∀ (m : (ℓ : Loc Cert.BrSbDw.nD Cert.BrSbDw.τ Cert.BrSbDw.sig) → Buf (Elt Bits) ℓ) (g : Dev Cert.BrSbDw.nD → PrngReg), Pre_BrSbDw m →
    θ_run (Cert.BrSbDw.defs (F := Bits)) (onTc (τ := Cert.BrSbDw.τ) (Cert.BrSbDw.main (F := Bits))) ⟨m, fun _ => 0, g⟩ (fun r => (∀ c : Dev Cert.BrSbDw.nD,
      r.2.mem ((c.tc : Thread Cert.BrSbDw.nD Cert.BrSbDw.τ).loc Cert.BrSbDw.main_arg0) = m ((c.tc : Thread Cert.BrSbDw.nD Cert.BrSbDw.τ).loc Cert.BrSbDw.main_arg0)
      ∧ r.2.mem ((c.tc : Thread Cert.BrSbDw.nD Cert.BrSbDw.τ).loc Cert.BrSbDw.main_arg1) = m ((c.tc : Thread Cert.BrSbDw.nD Cert.BrSbDw.τ).loc Cert.BrSbDw.main_arg1)
      ∧ r.2.mem ((c.tc : Thread Cert.BrSbDw.nD Cert.BrSbDw.τ).loc Cert.BrSbDw.main_arg2) = m ((c.tc : Thread Cert.BrSbDw.nD Cert.BrSbDw.τ).loc Cert.BrSbDw.main_arg2))
      ∧ r.2.sem = fun _ => 0)

def quiescent_BrSbDwIdeal [hBrSbDwIdeal : Cert.BrSbDwIdeal.Facts] : Prop :=
  ∀ (m : (ℓ : Loc Cert.BrSbDwIdeal.nD Cert.BrSbDwIdeal.τ Cert.BrSbDwIdeal.sig) → Buf (Elt Ideal) ℓ) (g : Dev Cert.BrSbDwIdeal.nD → PrngReg), Pre_BrSbDwIdeal m →
    θ_run (Cert.BrSbDwIdeal.defs (F := Ideal)) (onTc (τ := Cert.BrSbDwIdeal.τ) (Cert.BrSbDwIdeal.main (F := Ideal))) ⟨m, fun _ => 0, g⟩ (fun r => (∀ c : Dev Cert.BrSbDwIdeal.nD,
      r.2.mem ((c.tc : Thread Cert.BrSbDwIdeal.nD Cert.BrSbDwIdeal.τ).loc Cert.BrSbDwIdeal.main_arg0) = m ((c.tc : Thread Cert.BrSbDwIdeal.nD Cert.BrSbDwIdeal.τ).loc Cert.BrSbDwIdeal.main_arg0)
      ∧ r.2.mem ((c.tc : Thread Cert.BrSbDwIdeal.nD Cert.BrSbDwIdeal.τ).loc Cert.BrSbDwIdeal.main_arg1) = m ((c.tc : Thread Cert.BrSbDwIdeal.nD Cert.BrSbDwIdeal.τ).loc Cert.BrSbDwIdeal.main_arg1)
      ∧ r.2.mem ((c.tc : Thread Cert.BrSbDwIdeal.nD Cert.BrSbDwIdeal.τ).loc Cert.BrSbDwIdeal.main_arg2) = m ((c.tc : Thread Cert.BrSbDwIdeal.nD Cert.BrSbDwIdeal.τ).loc Cert.BrSbDwIdeal.main_arg2))
      ∧ r.2.sem = fun _ => 0)

def quiescent_BrSbDwReferenceIdeal [hBrSbDwReferenceIdeal : Cert.BrSbDwReferenceIdeal.Facts] : Prop :=
  ∀ (m : (ℓ : Loc Cert.BrSbDwReferenceIdeal.nD Cert.BrSbDwReferenceIdeal.τ Cert.BrSbDwReferenceIdeal.sig) → Buf (Elt Ideal) ℓ) (g : Dev Cert.BrSbDwReferenceIdeal.nD → PrngReg), Pre_BrSbDwReferenceIdeal m →
    θ_run (Cert.BrSbDwReferenceIdeal.defs (F := Ideal)) (onTc (τ := Cert.BrSbDwReferenceIdeal.τ) (Cert.BrSbDwReferenceIdeal.main (F := Ideal))) ⟨m, fun _ => 0, g⟩ (fun r => (∀ c : Dev Cert.BrSbDwReferenceIdeal.nD,
      r.2.mem ((c.tc : Thread Cert.BrSbDwReferenceIdeal.nD Cert.BrSbDwReferenceIdeal.τ).loc Cert.BrSbDwReferenceIdeal.main_arg0) = m ((c.tc : Thread Cert.BrSbDwReferenceIdeal.nD Cert.BrSbDwReferenceIdeal.τ).loc Cert.BrSbDwReferenceIdeal.main_arg0)
      ∧ r.2.mem ((c.tc : Thread Cert.BrSbDwReferenceIdeal.nD Cert.BrSbDwReferenceIdeal.τ).loc Cert.BrSbDwReferenceIdeal.main_arg1) = m ((c.tc : Thread Cert.BrSbDwReferenceIdeal.nD Cert.BrSbDwReferenceIdeal.τ).loc Cert.BrSbDwReferenceIdeal.main_arg1)
      ∧ r.2.mem ((c.tc : Thread Cert.BrSbDwReferenceIdeal.nD Cert.BrSbDwReferenceIdeal.τ).loc Cert.BrSbDwReferenceIdeal.main_arg2) = m ((c.tc : Thread Cert.BrSbDwReferenceIdeal.nD Cert.BrSbDwReferenceIdeal.τ).loc Cert.BrSbDwReferenceIdeal.main_arg2))
      ∧ r.2.sem = fun _ => 0)

def quiescent_BrPool [hBrPool : Cert.BrPool.Facts] : Prop :=
  ∀ (m : (ℓ : Loc Cert.BrPool.nD Cert.BrPool.τ Cert.BrPool.sig) → Buf (Elt Bits) ℓ) (g : Dev Cert.BrPool.nD → PrngReg), Pre_BrPool m →
    θ_run (Cert.BrPool.defs (F := Bits)) (onTc (τ := Cert.BrPool.τ) (Cert.BrPool.main (F := Bits))) ⟨m, fun _ => 0, g⟩ (fun r => (∀ c : Dev Cert.BrPool.nD,
      r.2.mem ((c.tc : Thread Cert.BrPool.nD Cert.BrPool.τ).loc Cert.BrPool.main_arg0) = m ((c.tc : Thread Cert.BrPool.nD Cert.BrPool.τ).loc Cert.BrPool.main_arg0)
      ∧ r.2.mem ((c.tc : Thread Cert.BrPool.nD Cert.BrPool.τ).loc Cert.BrPool.main_arg1) = m ((c.tc : Thread Cert.BrPool.nD Cert.BrPool.τ).loc Cert.BrPool.main_arg1))
      ∧ r.2.sem = fun _ => 0)

def quiescent_BrPoolIdeal [hBrPoolIdeal : Cert.BrPoolIdeal.Facts] : Prop :=
  ∀ (m : (ℓ : Loc Cert.BrPoolIdeal.nD Cert.BrPoolIdeal.τ Cert.BrPoolIdeal.sig) → Buf (Elt Ideal) ℓ) (g : Dev Cert.BrPoolIdeal.nD → PrngReg), Pre_BrPoolIdeal m →
    θ_run (Cert.BrPoolIdeal.defs (F := Ideal)) (onTc (τ := Cert.BrPoolIdeal.τ) (Cert.BrPoolIdeal.main (F := Ideal))) ⟨m, fun _ => 0, g⟩ (fun r => (∀ c : Dev Cert.BrPoolIdeal.nD,
      r.2.mem ((c.tc : Thread Cert.BrPoolIdeal.nD Cert.BrPoolIdeal.τ).loc Cert.BrPoolIdeal.main_arg0) = m ((c.tc : Thread Cert.BrPoolIdeal.nD Cert.BrPoolIdeal.τ).loc Cert.BrPoolIdeal.main_arg0)
      ∧ r.2.mem ((c.tc : Thread Cert.BrPoolIdeal.nD Cert.BrPoolIdeal.τ).loc Cert.BrPoolIdeal.main_arg1) = m ((c.tc : Thread Cert.BrPoolIdeal.nD Cert.BrPoolIdeal.τ).loc Cert.BrPoolIdeal.main_arg1))
      ∧ r.2.sem = fun _ => 0)

def quiescent_BrPoolReferenceIdeal [hBrPoolReferenceIdeal : Cert.BrPoolReferenceIdeal.Facts] : Prop :=
  ∀ (m : (ℓ : Loc Cert.BrPoolReferenceIdeal.nD Cert.BrPoolReferenceIdeal.τ Cert.BrPoolReferenceIdeal.sig) → Buf (Elt Ideal) ℓ) (g : Dev Cert.BrPoolReferenceIdeal.nD → PrngReg), Pre_BrPoolReferenceIdeal m →
    θ_run (Cert.BrPoolReferenceIdeal.defs (F := Ideal)) (onTc (τ := Cert.BrPoolReferenceIdeal.τ) (Cert.BrPoolReferenceIdeal.main (F := Ideal))) ⟨m, fun _ => 0, g⟩ (fun r => (∀ c : Dev Cert.BrPoolReferenceIdeal.nD,
      r.2.mem ((c.tc : Thread Cert.BrPoolReferenceIdeal.nD Cert.BrPoolReferenceIdeal.τ).loc Cert.BrPoolReferenceIdeal.main_arg0) = m ((c.tc : Thread Cert.BrPoolReferenceIdeal.nD Cert.BrPoolReferenceIdeal.τ).loc Cert.BrPoolReferenceIdeal.main_arg0)
      ∧ r.2.mem ((c.tc : Thread Cert.BrPoolReferenceIdeal.nD Cert.BrPoolReferenceIdeal.τ).loc Cert.BrPoolReferenceIdeal.main_arg1) = m ((c.tc : Thread Cert.BrPoolReferenceIdeal.nD Cert.BrPoolReferenceIdeal.τ).loc Cert.BrPoolReferenceIdeal.main_arg1))
      ∧ r.2.sem = fun _ => 0)

def quiescent_BrPoolDx [hBrPoolDx : Cert.BrPoolDx.Facts] : Prop :=
  ∀ (m : (ℓ : Loc Cert.BrPoolDx.nD Cert.BrPoolDx.τ Cert.BrPoolDx.sig) → Buf (Elt Bits) ℓ) (g : Dev Cert.BrPoolDx.nD → PrngReg), Pre_BrPoolDx m →
    θ_run (Cert.BrPoolDx.defs (F := Bits)) (onTc (τ := Cert.BrPoolDx.τ) (Cert.BrPoolDx.main (F := Bits))) ⟨m, fun _ => 0, g⟩ (fun r => (∀ c : Dev Cert.BrPoolDx.nD,
      r.2.mem ((c.tc : Thread Cert.BrPoolDx.nD Cert.BrPoolDx.τ).loc Cert.BrPoolDx.main_arg0) = m ((c.tc : Thread Cert.BrPoolDx.nD Cert.BrPoolDx.τ).loc Cert.BrPoolDx.main_arg0)
      ∧ r.2.mem ((c.tc : Thread Cert.BrPoolDx.nD Cert.BrPoolDx.τ).loc Cert.BrPoolDx.main_arg1) = m ((c.tc : Thread Cert.BrPoolDx.nD Cert.BrPoolDx.τ).loc Cert.BrPoolDx.main_arg1)
      ∧ r.2.mem ((c.tc : Thread Cert.BrPoolDx.nD Cert.BrPoolDx.τ).loc Cert.BrPoolDx.main_arg2) = m ((c.tc : Thread Cert.BrPoolDx.nD Cert.BrPoolDx.τ).loc Cert.BrPoolDx.main_arg2))
      ∧ r.2.sem = fun _ => 0)

def quiescent_BrPoolDxIdeal [hBrPoolDxIdeal : Cert.BrPoolDxIdeal.Facts] : Prop :=
  ∀ (m : (ℓ : Loc Cert.BrPoolDxIdeal.nD Cert.BrPoolDxIdeal.τ Cert.BrPoolDxIdeal.sig) → Buf (Elt Ideal) ℓ) (g : Dev Cert.BrPoolDxIdeal.nD → PrngReg), Pre_BrPoolDxIdeal m →
    θ_run (Cert.BrPoolDxIdeal.defs (F := Ideal)) (onTc (τ := Cert.BrPoolDxIdeal.τ) (Cert.BrPoolDxIdeal.main (F := Ideal))) ⟨m, fun _ => 0, g⟩ (fun r => (∀ c : Dev Cert.BrPoolDxIdeal.nD,
      r.2.mem ((c.tc : Thread Cert.BrPoolDxIdeal.nD Cert.BrPoolDxIdeal.τ).loc Cert.BrPoolDxIdeal.main_arg0) = m ((c.tc : Thread Cert.BrPoolDxIdeal.nD Cert.BrPoolDxIdeal.τ).loc Cert.BrPoolDxIdeal.main_arg0)
      ∧ r.2.mem ((c.tc : Thread Cert.BrPoolDxIdeal.nD Cert.BrPoolDxIdeal.τ).loc Cert.BrPoolDxIdeal.main_arg1) = m ((c.tc : Thread Cert.BrPoolDxIdeal.nD Cert.BrPoolDxIdeal.τ).loc Cert.BrPoolDxIdeal.main_arg1)
      ∧ r.2.mem ((c.tc : Thread Cert.BrPoolDxIdeal.nD Cert.BrPoolDxIdeal.τ).loc Cert.BrPoolDxIdeal.main_arg2) = m ((c.tc : Thread Cert.BrPoolDxIdeal.nD Cert.BrPoolDxIdeal.τ).loc Cert.BrPoolDxIdeal.main_arg2))
      ∧ r.2.sem = fun _ => 0)

def quiescent_BrPoolDxReferenceIdeal [hBrPoolDxReferenceIdeal : Cert.BrPoolDxReferenceIdeal.Facts] : Prop :=
  ∀ (m : (ℓ : Loc Cert.BrPoolDxReferenceIdeal.nD Cert.BrPoolDxReferenceIdeal.τ Cert.BrPoolDxReferenceIdeal.sig) → Buf (Elt Ideal) ℓ) (g : Dev Cert.BrPoolDxReferenceIdeal.nD → PrngReg), Pre_BrPoolDxReferenceIdeal m →
    θ_run (Cert.BrPoolDxReferenceIdeal.defs (F := Ideal)) (onTc (τ := Cert.BrPoolDxReferenceIdeal.τ) (Cert.BrPoolDxReferenceIdeal.main (F := Ideal))) ⟨m, fun _ => 0, g⟩ (fun r => (∀ c : Dev Cert.BrPoolDxReferenceIdeal.nD,
      r.2.mem ((c.tc : Thread Cert.BrPoolDxReferenceIdeal.nD Cert.BrPoolDxReferenceIdeal.τ).loc Cert.BrPoolDxReferenceIdeal.main_arg0) = m ((c.tc : Thread Cert.BrPoolDxReferenceIdeal.nD Cert.BrPoolDxReferenceIdeal.τ).loc Cert.BrPoolDxReferenceIdeal.main_arg0)
      ∧ r.2.mem ((c.tc : Thread Cert.BrPoolDxReferenceIdeal.nD Cert.BrPoolDxReferenceIdeal.τ).loc Cert.BrPoolDxReferenceIdeal.main_arg1) = m ((c.tc : Thread Cert.BrPoolDxReferenceIdeal.nD Cert.BrPoolDxReferenceIdeal.τ).loc Cert.BrPoolDxReferenceIdeal.main_arg1)
      ∧ r.2.mem ((c.tc : Thread Cert.BrPoolDxReferenceIdeal.nD Cert.BrPoolDxReferenceIdeal.τ).loc Cert.BrPoolDxReferenceIdeal.main_arg2) = m ((c.tc : Thread Cert.BrPoolDxReferenceIdeal.nD Cert.BrPoolDxReferenceIdeal.τ).loc Cert.BrPoolDxReferenceIdeal.main_arg2))
      ∧ r.2.sem = fun _ => 0)

def quiescent_BrPoolDw [hBrPoolDw : Cert.BrPoolDw.Facts] : Prop :=
  ∀ (m : (ℓ : Loc Cert.BrPoolDw.nD Cert.BrPoolDw.τ Cert.BrPoolDw.sig) → Buf (Elt Bits) ℓ) (g : Dev Cert.BrPoolDw.nD → PrngReg), Pre_BrPoolDw m →
    θ_run (Cert.BrPoolDw.defs (F := Bits)) (onTc (τ := Cert.BrPoolDw.τ) (Cert.BrPoolDw.main (F := Bits))) ⟨m, fun _ => 0, g⟩ (fun r => (∀ c : Dev Cert.BrPoolDw.nD,
      r.2.mem ((c.tc : Thread Cert.BrPoolDw.nD Cert.BrPoolDw.τ).loc Cert.BrPoolDw.main_arg0) = m ((c.tc : Thread Cert.BrPoolDw.nD Cert.BrPoolDw.τ).loc Cert.BrPoolDw.main_arg0)
      ∧ r.2.mem ((c.tc : Thread Cert.BrPoolDw.nD Cert.BrPoolDw.τ).loc Cert.BrPoolDw.main_arg1) = m ((c.tc : Thread Cert.BrPoolDw.nD Cert.BrPoolDw.τ).loc Cert.BrPoolDw.main_arg1)
      ∧ r.2.mem ((c.tc : Thread Cert.BrPoolDw.nD Cert.BrPoolDw.τ).loc Cert.BrPoolDw.main_arg2) = m ((c.tc : Thread Cert.BrPoolDw.nD Cert.BrPoolDw.τ).loc Cert.BrPoolDw.main_arg2))
      ∧ r.2.sem = fun _ => 0)

def quiescent_BrPoolDwIdeal [hBrPoolDwIdeal : Cert.BrPoolDwIdeal.Facts] : Prop :=
  ∀ (m : (ℓ : Loc Cert.BrPoolDwIdeal.nD Cert.BrPoolDwIdeal.τ Cert.BrPoolDwIdeal.sig) → Buf (Elt Ideal) ℓ) (g : Dev Cert.BrPoolDwIdeal.nD → PrngReg), Pre_BrPoolDwIdeal m →
    θ_run (Cert.BrPoolDwIdeal.defs (F := Ideal)) (onTc (τ := Cert.BrPoolDwIdeal.τ) (Cert.BrPoolDwIdeal.main (F := Ideal))) ⟨m, fun _ => 0, g⟩ (fun r => (∀ c : Dev Cert.BrPoolDwIdeal.nD,
      r.2.mem ((c.tc : Thread Cert.BrPoolDwIdeal.nD Cert.BrPoolDwIdeal.τ).loc Cert.BrPoolDwIdeal.main_arg0) = m ((c.tc : Thread Cert.BrPoolDwIdeal.nD Cert.BrPoolDwIdeal.τ).loc Cert.BrPoolDwIdeal.main_arg0)
      ∧ r.2.mem ((c.tc : Thread Cert.BrPoolDwIdeal.nD Cert.BrPoolDwIdeal.τ).loc Cert.BrPoolDwIdeal.main_arg1) = m ((c.tc : Thread Cert.BrPoolDwIdeal.nD Cert.BrPoolDwIdeal.τ).loc Cert.BrPoolDwIdeal.main_arg1)
      ∧ r.2.mem ((c.tc : Thread Cert.BrPoolDwIdeal.nD Cert.BrPoolDwIdeal.τ).loc Cert.BrPoolDwIdeal.main_arg2) = m ((c.tc : Thread Cert.BrPoolDwIdeal.nD Cert.BrPoolDwIdeal.τ).loc Cert.BrPoolDwIdeal.main_arg2))
      ∧ r.2.sem = fun _ => 0)

def quiescent_BrPoolDwReferenceIdeal [hBrPoolDwReferenceIdeal : Cert.BrPoolDwReferenceIdeal.Facts] : Prop :=
  ∀ (m : (ℓ : Loc Cert.BrPoolDwReferenceIdeal.nD Cert.BrPoolDwReferenceIdeal.τ Cert.BrPoolDwReferenceIdeal.sig) → Buf (Elt Ideal) ℓ) (g : Dev Cert.BrPoolDwReferenceIdeal.nD → PrngReg), Pre_BrPoolDwReferenceIdeal m →
    θ_run (Cert.BrPoolDwReferenceIdeal.defs (F := Ideal)) (onTc (τ := Cert.BrPoolDwReferenceIdeal.τ) (Cert.BrPoolDwReferenceIdeal.main (F := Ideal))) ⟨m, fun _ => 0, g⟩ (fun r => (∀ c : Dev Cert.BrPoolDwReferenceIdeal.nD,
      r.2.mem ((c.tc : Thread Cert.BrPoolDwReferenceIdeal.nD Cert.BrPoolDwReferenceIdeal.τ).loc Cert.BrPoolDwReferenceIdeal.main_arg0) = m ((c.tc : Thread Cert.BrPoolDwReferenceIdeal.nD Cert.BrPoolDwReferenceIdeal.τ).loc Cert.BrPoolDwReferenceIdeal.main_arg0)
      ∧ r.2.mem ((c.tc : Thread Cert.BrPoolDwReferenceIdeal.nD Cert.BrPoolDwReferenceIdeal.τ).loc Cert.BrPoolDwReferenceIdeal.main_arg1) = m ((c.tc : Thread Cert.BrPoolDwReferenceIdeal.nD Cert.BrPoolDwReferenceIdeal.τ).loc Cert.BrPoolDwReferenceIdeal.main_arg1)
      ∧ r.2.mem ((c.tc : Thread Cert.BrPoolDwReferenceIdeal.nD Cert.BrPoolDwReferenceIdeal.τ).loc Cert.BrPoolDwReferenceIdeal.main_arg2) = m ((c.tc : Thread Cert.BrPoolDwReferenceIdeal.nD Cert.BrPoolDwReferenceIdeal.τ).loc Cert.BrPoolDwReferenceIdeal.main_arg2))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3))
      ∧ r.2.sem = fun _ => 0)

def quiescent_MergeFwdReferenceIdeal [hMergeFwdReferenceIdeal : Cert.MergeFwdReferenceIdeal.Facts] : Prop :=
  ∀ (m : (ℓ : Loc Cert.MergeFwdReferenceIdeal.nD Cert.MergeFwdReferenceIdeal.τ Cert.MergeFwdReferenceIdeal.sig) → Buf (Elt Ideal) ℓ) (g : Dev Cert.MergeFwdReferenceIdeal.nD → PrngReg), Pre_MergeFwdReferenceIdeal m →
    θ_run (Cert.MergeFwdReferenceIdeal.defs (F := Ideal)) (onTc (τ := Cert.MergeFwdReferenceIdeal.τ) (Cert.MergeFwdReferenceIdeal.main (F := Ideal))) ⟨m, fun _ => 0, g⟩ (fun r => (∀ c : Dev Cert.MergeFwdReferenceIdeal.nD,
      r.2.mem ((c.tc : Thread Cert.MergeFwdReferenceIdeal.nD Cert.MergeFwdReferenceIdeal.τ).loc Cert.MergeFwdReferenceIdeal.main_arg0) = m ((c.tc : Thread Cert.MergeFwdReferenceIdeal.nD Cert.MergeFwdReferenceIdeal.τ).loc Cert.MergeFwdReferenceIdeal.main_arg0)
      ∧ r.2.mem ((c.tc : Thread Cert.MergeFwdReferenceIdeal.nD Cert.MergeFwdReferenceIdeal.τ).loc Cert.MergeFwdReferenceIdeal.main_arg1) = m ((c.tc : Thread Cert.MergeFwdReferenceIdeal.nD Cert.MergeFwdReferenceIdeal.τ).loc Cert.MergeFwdReferenceIdeal.main_arg1)
      ∧ r.2.mem ((c.tc : Thread Cert.MergeFwdReferenceIdeal.nD Cert.MergeFwdReferenceIdeal.τ).loc Cert.MergeFwdReferenceIdeal.main_arg2) = m ((c.tc : Thread Cert.MergeFwdReferenceIdeal.nD Cert.MergeFwdReferenceIdeal.τ).loc Cert.MergeFwdReferenceIdeal.main_arg2)
      ∧ r.2.mem ((c.tc : Thread Cert.MergeFwdReferenceIdeal.nD Cert.MergeFwdReferenceIdeal.τ).loc Cert.MergeFwdReferenceIdeal.main_arg3) = m ((c.tc : Thread Cert.MergeFwdReferenceIdeal.nD Cert.MergeFwdReferenceIdeal.τ).loc Cert.MergeFwdReferenceIdeal.main_arg3))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ r.2.sem = fun _ => 0)

def quiescent_MergeBwdReferenceIdeal [hMergeBwdReferenceIdeal : Cert.MergeBwdReferenceIdeal.Facts] : Prop :=
  ∀ (m : (ℓ : Loc Cert.MergeBwdReferenceIdeal.nD Cert.MergeBwdReferenceIdeal.τ Cert.MergeBwdReferenceIdeal.sig) → Buf (Elt Ideal) ℓ) (g : Dev Cert.MergeBwdReferenceIdeal.nD → PrngReg), Pre_MergeBwdReferenceIdeal m →
    θ_run (Cert.MergeBwdReferenceIdeal.defs (F := Ideal)) (onTc (τ := Cert.MergeBwdReferenceIdeal.τ) (Cert.MergeBwdReferenceIdeal.main (F := Ideal))) ⟨m, fun _ => 0, g⟩ (fun r => (∀ c : Dev Cert.MergeBwdReferenceIdeal.nD,
      r.2.mem ((c.tc : Thread Cert.MergeBwdReferenceIdeal.nD Cert.MergeBwdReferenceIdeal.τ).loc Cert.MergeBwdReferenceIdeal.main_arg0) = m ((c.tc : Thread Cert.MergeBwdReferenceIdeal.nD Cert.MergeBwdReferenceIdeal.τ).loc Cert.MergeBwdReferenceIdeal.main_arg0)
      ∧ r.2.mem ((c.tc : Thread Cert.MergeBwdReferenceIdeal.nD Cert.MergeBwdReferenceIdeal.τ).loc Cert.MergeBwdReferenceIdeal.main_arg1) = m ((c.tc : Thread Cert.MergeBwdReferenceIdeal.nD Cert.MergeBwdReferenceIdeal.τ).loc Cert.MergeBwdReferenceIdeal.main_arg1)
      ∧ r.2.mem ((c.tc : Thread Cert.MergeBwdReferenceIdeal.nD Cert.MergeBwdReferenceIdeal.τ).loc Cert.MergeBwdReferenceIdeal.main_arg2) = m ((c.tc : Thread Cert.MergeBwdReferenceIdeal.nD Cert.MergeBwdReferenceIdeal.τ).loc Cert.MergeBwdReferenceIdeal.main_arg2)
      ∧ r.2.mem ((c.tc : Thread Cert.MergeBwdReferenceIdeal.nD Cert.MergeBwdReferenceIdeal.τ).loc Cert.MergeBwdReferenceIdeal.main_arg3) = m ((c.tc : Thread Cert.MergeBwdReferenceIdeal.nD Cert.MergeBwdReferenceIdeal.τ).loc Cert.MergeBwdReferenceIdeal.main_arg3)
      ∧ r.2.mem ((c.tc : Thread Cert.MergeBwdReferenceIdeal.nD Cert.MergeBwdReferenceIdeal.τ).loc Cert.MergeBwdReferenceIdeal.main_arg4) = m ((c.tc : Thread Cert.MergeBwdReferenceIdeal.nD Cert.MergeBwdReferenceIdeal.τ).loc Cert.MergeBwdReferenceIdeal.main_arg4))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdReferenceIdeal [hRmsFwdReferenceIdeal : Cert.RmsFwdReferenceIdeal.Facts] : Prop :=
  ∀ (m : (ℓ : Loc Cert.RmsFwdReferenceIdeal.nD Cert.RmsFwdReferenceIdeal.τ Cert.RmsFwdReferenceIdeal.sig) → Buf (Elt Ideal) ℓ) (g : Dev Cert.RmsFwdReferenceIdeal.nD → PrngReg), Pre_RmsFwdReferenceIdeal m →
    θ_run (Cert.RmsFwdReferenceIdeal.defs (F := Ideal)) (onTc (τ := Cert.RmsFwdReferenceIdeal.τ) (Cert.RmsFwdReferenceIdeal.main (F := Ideal))) ⟨m, fun _ => 0, g⟩ (fun r => (∀ c : Dev Cert.RmsFwdReferenceIdeal.nD,
      r.2.mem ((c.tc : Thread Cert.RmsFwdReferenceIdeal.nD Cert.RmsFwdReferenceIdeal.τ).loc Cert.RmsFwdReferenceIdeal.main_arg0) = m ((c.tc : Thread Cert.RmsFwdReferenceIdeal.nD Cert.RmsFwdReferenceIdeal.τ).loc Cert.RmsFwdReferenceIdeal.main_arg0)
      ∧ r.2.mem ((c.tc : Thread Cert.RmsFwdReferenceIdeal.nD Cert.RmsFwdReferenceIdeal.τ).loc Cert.RmsFwdReferenceIdeal.main_arg1) = m ((c.tc : Thread Cert.RmsFwdReferenceIdeal.nD Cert.RmsFwdReferenceIdeal.τ).loc Cert.RmsFwdReferenceIdeal.main_arg1))
      ∧ r.2.sem = fun _ => 0)

def quiescent_ResidMix [hResidMix : Cert.ResidMix.Facts] : Prop :=
  ∀ (m : (ℓ : Loc Cert.ResidMix.nD Cert.ResidMix.τ Cert.ResidMix.sig) → Buf (Elt Bits) ℓ) (g : Dev Cert.ResidMix.nD → PrngReg), Pre_ResidMix m →
    θ_run (Cert.ResidMix.defs (F := Bits)) (onTc (τ := Cert.ResidMix.τ) (Cert.ResidMix.main (F := Bits))) ⟨m, fun _ => 0, g⟩ (fun r => (∀ c : Dev Cert.ResidMix.nD,
      r.2.mem ((c.tc : Thread Cert.ResidMix.nD Cert.ResidMix.τ).loc Cert.ResidMix.main_arg0) = m ((c.tc : Thread Cert.ResidMix.nD Cert.ResidMix.τ).loc Cert.ResidMix.main_arg0)
      ∧ r.2.mem ((c.tc : Thread Cert.ResidMix.nD Cert.ResidMix.τ).loc Cert.ResidMix.main_arg1) = m ((c.tc : Thread Cert.ResidMix.nD Cert.ResidMix.τ).loc Cert.ResidMix.main_arg1)
      ∧ r.2.mem ((c.tc : Thread Cert.ResidMix.nD Cert.ResidMix.τ).loc Cert.ResidMix.main_arg2) = m ((c.tc : Thread Cert.ResidMix.nD Cert.ResidMix.τ).loc Cert.ResidMix.main_arg2)
      ∧ r.2.mem ((c.tc : Thread Cert.ResidMix.nD Cert.ResidMix.τ).loc Cert.ResidMix.main_arg3) = m ((c.tc : Thread Cert.ResidMix.nD Cert.ResidMix.τ).loc Cert.ResidMix.main_arg3))
      ∧ r.2.sem = fun _ => 0)

def quiescent_ResidMixIdeal [hResidMixIdeal : Cert.ResidMixIdeal.Facts] : Prop :=
  ∀ (m : (ℓ : Loc Cert.ResidMixIdeal.nD Cert.ResidMixIdeal.τ Cert.ResidMixIdeal.sig) → Buf (Elt Ideal) ℓ) (g : Dev Cert.ResidMixIdeal.nD → PrngReg), Pre_ResidMixIdeal m →
    θ_run (Cert.ResidMixIdeal.defs (F := Ideal)) (onTc (τ := Cert.ResidMixIdeal.τ) (Cert.ResidMixIdeal.main (F := Ideal))) ⟨m, fun _ => 0, g⟩ (fun r => (∀ c : Dev Cert.ResidMixIdeal.nD,
      r.2.mem ((c.tc : Thread Cert.ResidMixIdeal.nD Cert.ResidMixIdeal.τ).loc Cert.ResidMixIdeal.main_arg0) = m ((c.tc : Thread Cert.ResidMixIdeal.nD Cert.ResidMixIdeal.τ).loc Cert.ResidMixIdeal.main_arg0)
      ∧ r.2.mem ((c.tc : Thread Cert.ResidMixIdeal.nD Cert.ResidMixIdeal.τ).loc Cert.ResidMixIdeal.main_arg1) = m ((c.tc : Thread Cert.ResidMixIdeal.nD Cert.ResidMixIdeal.τ).loc Cert.ResidMixIdeal.main_arg1)
      ∧ r.2.mem ((c.tc : Thread Cert.ResidMixIdeal.nD Cert.ResidMixIdeal.τ).loc Cert.ResidMixIdeal.main_arg2) = m ((c.tc : Thread Cert.ResidMixIdeal.nD Cert.ResidMixIdeal.τ).loc Cert.ResidMixIdeal.main_arg2)
      ∧ r.2.mem ((c.tc : Thread Cert.ResidMixIdeal.nD Cert.ResidMixIdeal.τ).loc Cert.ResidMixIdeal.main_arg3) = m ((c.tc : Thread Cert.ResidMixIdeal.nD Cert.ResidMixIdeal.τ).loc Cert.ResidMixIdeal.main_arg3))
      ∧ r.2.sem = fun _ => 0)

def quiescent_ResidMixReferenceIdeal [hResidMixReferenceIdeal : Cert.ResidMixReferenceIdeal.Facts] : Prop :=
  ∀ (m : (ℓ : Loc Cert.ResidMixReferenceIdeal.nD Cert.ResidMixReferenceIdeal.τ Cert.ResidMixReferenceIdeal.sig) → Buf (Elt Ideal) ℓ) (g : Dev Cert.ResidMixReferenceIdeal.nD → PrngReg), Pre_ResidMixReferenceIdeal m →
    θ_run (Cert.ResidMixReferenceIdeal.defs (F := Ideal)) (onTc (τ := Cert.ResidMixReferenceIdeal.τ) (Cert.ResidMixReferenceIdeal.main (F := Ideal))) ⟨m, fun _ => 0, g⟩ (fun r => (∀ c : Dev Cert.ResidMixReferenceIdeal.nD,
      r.2.mem ((c.tc : Thread Cert.ResidMixReferenceIdeal.nD Cert.ResidMixReferenceIdeal.τ).loc Cert.ResidMixReferenceIdeal.main_arg0) = m ((c.tc : Thread Cert.ResidMixReferenceIdeal.nD Cert.ResidMixReferenceIdeal.τ).loc Cert.ResidMixReferenceIdeal.main_arg0)
      ∧ r.2.mem ((c.tc : Thread Cert.ResidMixReferenceIdeal.nD Cert.ResidMixReferenceIdeal.τ).loc Cert.ResidMixReferenceIdeal.main_arg1) = m ((c.tc : Thread Cert.ResidMixReferenceIdeal.nD Cert.ResidMixReferenceIdeal.τ).loc Cert.ResidMixReferenceIdeal.main_arg1)
      ∧ r.2.mem ((c.tc : Thread Cert.ResidMixReferenceIdeal.nD Cert.ResidMixReferenceIdeal.τ).loc Cert.ResidMixReferenceIdeal.main_arg2) = m ((c.tc : Thread Cert.ResidMixReferenceIdeal.nD Cert.ResidMixReferenceIdeal.τ).loc Cert.ResidMixReferenceIdeal.main_arg2)
      ∧ r.2.mem ((c.tc : Thread Cert.ResidMixReferenceIdeal.nD Cert.ResidMixReferenceIdeal.τ).loc Cert.ResidMixReferenceIdeal.main_arg3) = m ((c.tc : Thread Cert.ResidMixReferenceIdeal.nD Cert.ResidMixReferenceIdeal.τ).loc Cert.ResidMixReferenceIdeal.main_arg3))
      ∧ r.2.sem = fun _ => 0)

def quiescent_ResidLast [hResidLast : Cert.ResidLast.Facts] : Prop :=
  ∀ (m : (ℓ : Loc Cert.ResidLast.nD Cert.ResidLast.τ Cert.ResidLast.sig) → Buf (Elt Bits) ℓ) (g : Dev Cert.ResidLast.nD → PrngReg), Pre_ResidLast m →
    θ_run (Cert.ResidLast.defs (F := Bits)) (onTc (τ := Cert.ResidLast.τ) (Cert.ResidLast.main (F := Bits))) ⟨m, fun _ => 0, g⟩ (fun r => (∀ c : Dev Cert.ResidLast.nD,
      r.2.mem ((c.tc : Thread Cert.ResidLast.nD Cert.ResidLast.τ).loc Cert.ResidLast.main_arg0) = m ((c.tc : Thread Cert.ResidLast.nD Cert.ResidLast.τ).loc Cert.ResidLast.main_arg0)
      ∧ r.2.mem ((c.tc : Thread Cert.ResidLast.nD Cert.ResidLast.τ).loc Cert.ResidLast.main_arg1) = m ((c.tc : Thread Cert.ResidLast.nD Cert.ResidLast.τ).loc Cert.ResidLast.main_arg1)
      ∧ r.2.mem ((c.tc : Thread Cert.ResidLast.nD Cert.ResidLast.τ).loc Cert.ResidLast.main_arg2) = m ((c.tc : Thread Cert.ResidLast.nD Cert.ResidLast.τ).loc Cert.ResidLast.main_arg2))
      ∧ r.2.sem = fun _ => 0)

def quiescent_ResidLastIdeal [hResidLastIdeal : Cert.ResidLastIdeal.Facts] : Prop :=
  ∀ (m : (ℓ : Loc Cert.ResidLastIdeal.nD Cert.ResidLastIdeal.τ Cert.ResidLastIdeal.sig) → Buf (Elt Ideal) ℓ) (g : Dev Cert.ResidLastIdeal.nD → PrngReg), Pre_ResidLastIdeal m →
    θ_run (Cert.ResidLastIdeal.defs (F := Ideal)) (onTc (τ := Cert.ResidLastIdeal.τ) (Cert.ResidLastIdeal.main (F := Ideal))) ⟨m, fun _ => 0, g⟩ (fun r => (∀ c : Dev Cert.ResidLastIdeal.nD,
      r.2.mem ((c.tc : Thread Cert.ResidLastIdeal.nD Cert.ResidLastIdeal.τ).loc Cert.ResidLastIdeal.main_arg0) = m ((c.tc : Thread Cert.ResidLastIdeal.nD Cert.ResidLastIdeal.τ).loc Cert.ResidLastIdeal.main_arg0)
      ∧ r.2.mem ((c.tc : Thread Cert.ResidLastIdeal.nD Cert.ResidLastIdeal.τ).loc Cert.ResidLastIdeal.main_arg1) = m ((c.tc : Thread Cert.ResidLastIdeal.nD Cert.ResidLastIdeal.τ).loc Cert.ResidLastIdeal.main_arg1)
      ∧ r.2.mem ((c.tc : Thread Cert.ResidLastIdeal.nD Cert.ResidLastIdeal.τ).loc Cert.ResidLastIdeal.main_arg2) = m ((c.tc : Thread Cert.ResidLastIdeal.nD Cert.ResidLastIdeal.τ).loc Cert.ResidLastIdeal.main_arg2))
      ∧ r.2.sem = fun _ => 0)

def quiescent_ResidLastReferenceIdeal [hResidLastReferenceIdeal : Cert.ResidLastReferenceIdeal.Facts] : Prop :=
  ∀ (m : (ℓ : Loc Cert.ResidLastReferenceIdeal.nD Cert.ResidLastReferenceIdeal.τ Cert.ResidLastReferenceIdeal.sig) → Buf (Elt Ideal) ℓ) (g : Dev Cert.ResidLastReferenceIdeal.nD → PrngReg), Pre_ResidLastReferenceIdeal m →
    θ_run (Cert.ResidLastReferenceIdeal.defs (F := Ideal)) (onTc (τ := Cert.ResidLastReferenceIdeal.τ) (Cert.ResidLastReferenceIdeal.main (F := Ideal))) ⟨m, fun _ => 0, g⟩ (fun r => (∀ c : Dev Cert.ResidLastReferenceIdeal.nD,
      r.2.mem ((c.tc : Thread Cert.ResidLastReferenceIdeal.nD Cert.ResidLastReferenceIdeal.τ).loc Cert.ResidLastReferenceIdeal.main_arg0) = m ((c.tc : Thread Cert.ResidLastReferenceIdeal.nD Cert.ResidLastReferenceIdeal.τ).loc Cert.ResidLastReferenceIdeal.main_arg0)
      ∧ r.2.mem ((c.tc : Thread Cert.ResidLastReferenceIdeal.nD Cert.ResidLastReferenceIdeal.τ).loc Cert.ResidLastReferenceIdeal.main_arg1) = m ((c.tc : Thread Cert.ResidLastReferenceIdeal.nD Cert.ResidLastReferenceIdeal.τ).loc Cert.ResidLastReferenceIdeal.main_arg1)
      ∧ r.2.mem ((c.tc : Thread Cert.ResidLastReferenceIdeal.nD Cert.ResidLastReferenceIdeal.τ).loc Cert.ResidLastReferenceIdeal.main_arg2) = m ((c.tc : Thread Cert.ResidLastReferenceIdeal.nD Cert.ResidLastReferenceIdeal.τ).loc Cert.ResidLastReferenceIdeal.main_arg2))
      ∧ r.2.sem = fun _ => 0)

def quiescent_RmsBwdLast [hRmsBwdLast : Cert.RmsBwdLast.Facts] : Prop :=
  ∀ (m : (ℓ : Loc Cert.RmsBwdLast.nD Cert.RmsBwdLast.τ Cert.RmsBwdLast.sig) → Buf (Elt Bits) ℓ) (g : Dev Cert.RmsBwdLast.nD → PrngReg), Pre_RmsBwdLast m →
    θ_run (Cert.RmsBwdLast.defs (F := Bits)) (onTc (τ := Cert.RmsBwdLast.τ) (Cert.RmsBwdLast.main (F := Bits))) ⟨m, fun _ => 0, g⟩ (fun r => (∀ c : Dev Cert.RmsBwdLast.nD,
      r.2.mem ((c.tc : Thread Cert.RmsBwdLast.nD Cert.RmsBwdLast.τ).loc Cert.RmsBwdLast.main_arg0) = m ((c.tc : Thread Cert.RmsBwdLast.nD Cert.RmsBwdLast.τ).loc Cert.RmsBwdLast.main_arg0)
      ∧ r.2.mem ((c.tc : Thread Cert.RmsBwdLast.nD Cert.RmsBwdLast.τ).loc Cert.RmsBwdLast.main_arg1) = m ((c.tc : Thread Cert.RmsBwdLast.nD Cert.RmsBwdLast.τ).loc Cert.RmsBwdLast.main_arg1)
      ∧ r.2.mem ((c.tc : Thread Cert.RmsBwdLast.nD Cert.RmsBwdLast.τ).loc Cert.RmsBwdLast.main_arg2) = m ((c.tc : Thread Cert.RmsBwdLast.nD Cert.RmsBwdLast.τ).loc Cert.RmsBwdLast.main_arg2))
      ∧ r.2.sem = fun _ => 0)

def quiescent_RmsBwdLastIdeal [hRmsBwdLastIdeal : Cert.RmsBwdLastIdeal.Facts] : Prop :=
  ∀ (m : (ℓ : Loc Cert.RmsBwdLastIdeal.nD Cert.RmsBwdLastIdeal.τ Cert.RmsBwdLastIdeal.sig) → Buf (Elt Ideal) ℓ) (g : Dev Cert.RmsBwdLastIdeal.nD → PrngReg), Pre_RmsBwdLastIdeal m →
    θ_run (Cert.RmsBwdLastIdeal.defs (F := Ideal)) (onTc (τ := Cert.RmsBwdLastIdeal.τ) (Cert.RmsBwdLastIdeal.main (F := Ideal))) ⟨m, fun _ => 0, g⟩ (fun r => (∀ c : Dev Cert.RmsBwdLastIdeal.nD,
      r.2.mem ((c.tc : Thread Cert.RmsBwdLastIdeal.nD Cert.RmsBwdLastIdeal.τ).loc Cert.RmsBwdLastIdeal.main_arg0) = m ((c.tc : Thread Cert.RmsBwdLastIdeal.nD Cert.RmsBwdLastIdeal.τ).loc Cert.RmsBwdLastIdeal.main_arg0)
      ∧ r.2.mem ((c.tc : Thread Cert.RmsBwdLastIdeal.nD Cert.RmsBwdLastIdeal.τ).loc Cert.RmsBwdLastIdeal.main_arg1) = m ((c.tc : Thread Cert.RmsBwdLastIdeal.nD Cert.RmsBwdLastIdeal.τ).loc Cert.RmsBwdLastIdeal.main_arg1)
      ∧ r.2.mem ((c.tc : Thread Cert.RmsBwdLastIdeal.nD Cert.RmsBwdLastIdeal.τ).loc Cert.RmsBwdLastIdeal.main_arg2) = m ((c.tc : Thread Cert.RmsBwdLastIdeal.nD Cert.RmsBwdLastIdeal.τ).loc Cert.RmsBwdLastIdeal.main_arg2))
      ∧ r.2.sem = fun _ => 0)

def quiescent_RmsBwdLastReferenceIdeal [hRmsBwdLastReferenceIdeal : Cert.RmsBwdLastReferenceIdeal.Facts] : Prop :=
  ∀ (m : (ℓ : Loc Cert.RmsBwdLastReferenceIdeal.nD Cert.RmsBwdLastReferenceIdeal.τ Cert.RmsBwdLastReferenceIdeal.sig) → Buf (Elt Ideal) ℓ) (g : Dev Cert.RmsBwdLastReferenceIdeal.nD → PrngReg), Pre_RmsBwdLastReferenceIdeal m →
    θ_run (Cert.RmsBwdLastReferenceIdeal.defs (F := Ideal)) (onTc (τ := Cert.RmsBwdLastReferenceIdeal.τ) (Cert.RmsBwdLastReferenceIdeal.main (F := Ideal))) ⟨m, fun _ => 0, g⟩ (fun r => (∀ c : Dev Cert.RmsBwdLastReferenceIdeal.nD,
      r.2.mem ((c.tc : Thread Cert.RmsBwdLastReferenceIdeal.nD Cert.RmsBwdLastReferenceIdeal.τ).loc Cert.RmsBwdLastReferenceIdeal.main_arg0) = m ((c.tc : Thread Cert.RmsBwdLastReferenceIdeal.nD Cert.RmsBwdLastReferenceIdeal.τ).loc Cert.RmsBwdLastReferenceIdeal.main_arg0)
      ∧ r.2.mem ((c.tc : Thread Cert.RmsBwdLastReferenceIdeal.nD Cert.RmsBwdLastReferenceIdeal.τ).loc Cert.RmsBwdLastReferenceIdeal.main_arg1) = m ((c.tc : Thread Cert.RmsBwdLastReferenceIdeal.nD Cert.RmsBwdLastReferenceIdeal.τ).loc Cert.RmsBwdLastReferenceIdeal.main_arg1)
      ∧ r.2.mem ((c.tc : Thread Cert.RmsBwdLastReferenceIdeal.nD Cert.RmsBwdLastReferenceIdeal.τ).loc Cert.RmsBwdLastReferenceIdeal.main_arg2) = m ((c.tc : Thread Cert.RmsBwdLastReferenceIdeal.nD Cert.RmsBwdLastReferenceIdeal.τ).loc Cert.RmsBwdLastReferenceIdeal.main_arg2))
      ∧ r.2.sem = fun _ => 0)

def quiescent_RmsBwdMid [hRmsBwdMid : Cert.RmsBwdMid.Facts] : Prop :=
  ∀ (m : (ℓ : Loc Cert.RmsBwdMid.nD Cert.RmsBwdMid.τ Cert.RmsBwdMid.sig) → Buf (Elt Bits) ℓ) (g : Dev Cert.RmsBwdMid.nD → PrngReg), Pre_RmsBwdMid m →
    θ_run (Cert.RmsBwdMid.defs (F := Bits)) (onTc (τ := Cert.RmsBwdMid.τ) (Cert.RmsBwdMid.main (F := Bits))) ⟨m, fun _ => 0, g⟩ (fun r => (∀ c : Dev Cert.RmsBwdMid.nD,
      r.2.mem ((c.tc : Thread Cert.RmsBwdMid.nD Cert.RmsBwdMid.τ).loc Cert.RmsBwdMid.main_arg0) = m ((c.tc : Thread Cert.RmsBwdMid.nD Cert.RmsBwdMid.τ).loc Cert.RmsBwdMid.main_arg0)
      ∧ r.2.mem ((c.tc : Thread Cert.RmsBwdMid.nD Cert.RmsBwdMid.τ).loc Cert.RmsBwdMid.main_arg1) = m ((c.tc : Thread Cert.RmsBwdMid.nD Cert.RmsBwdMid.τ).loc Cert.RmsBwdMid.main_arg1)
      ∧ r.2.mem ((c.tc : Thread Cert.RmsBwdMid.nD Cert.RmsBwdMid.τ).loc Cert.RmsBwdMid.main_arg2) = m ((c.tc : Thread Cert.RmsBwdMid.nD Cert.RmsBwdMid.τ).loc Cert.RmsBwdMid.main_arg2)
      ∧ r.2.mem ((c.tc : Thread Cert.RmsBwdMid.nD Cert.RmsBwdMid.τ).loc Cert.RmsBwdMid.main_arg3) = m ((c.tc : Thread Cert.RmsBwdMid.nD Cert.RmsBwdMid.τ).loc Cert.RmsBwdMid.main_arg3)
      ∧ r.2.mem ((c.tc : Thread Cert.RmsBwdMid.nD Cert.RmsBwdMid.τ).loc Cert.RmsBwdMid.main_arg4) = m ((c.tc : Thread Cert.RmsBwdMid.nD Cert.RmsBwdMid.τ).loc Cert.RmsBwdMid.main_arg4)
      ∧ r.2.mem ((c.tc : Thread Cert.RmsBwdMid.nD Cert.RmsBwdMid.τ).loc Cert.RmsBwdMid.main_arg5) = m ((c.tc : Thread Cert.RmsBwdMid.nD Cert.RmsBwdMid.τ).loc Cert.RmsBwdMid.main_arg5))
      ∧ r.2.sem = fun _ => 0)

def quiescent_RmsBwdMidIdeal [hRmsBwdMidIdeal : Cert.RmsBwdMidIdeal.Facts] : Prop :=
  ∀ (m : (ℓ : Loc Cert.RmsBwdMidIdeal.nD Cert.RmsBwdMidIdeal.τ Cert.RmsBwdMidIdeal.sig) → Buf (Elt Ideal) ℓ) (g : Dev Cert.RmsBwdMidIdeal.nD → PrngReg), Pre_RmsBwdMidIdeal m →
    θ_run (Cert.RmsBwdMidIdeal.defs (F := Ideal)) (onTc (τ := Cert.RmsBwdMidIdeal.τ) (Cert.RmsBwdMidIdeal.main (F := Ideal))) ⟨m, fun _ => 0, g⟩ (fun r => (∀ c : Dev Cert.RmsBwdMidIdeal.nD,
      r.2.mem ((c.tc : Thread Cert.RmsBwdMidIdeal.nD Cert.RmsBwdMidIdeal.τ).loc Cert.RmsBwdMidIdeal.main_arg0) = m ((c.tc : Thread Cert.RmsBwdMidIdeal.nD Cert.RmsBwdMidIdeal.τ).loc Cert.RmsBwdMidIdeal.main_arg0)
      ∧ r.2.mem ((c.tc : Thread Cert.RmsBwdMidIdeal.nD Cert.RmsBwdMidIdeal.τ).loc Cert.RmsBwdMidIdeal.main_arg1) = m ((c.tc : Thread Cert.RmsBwdMidIdeal.nD Cert.RmsBwdMidIdeal.τ).loc Cert.RmsBwdMidIdeal.main_arg1)
      ∧ r.2.mem ((c.tc : Thread Cert.RmsBwdMidIdeal.nD Cert.RmsBwdMidIdeal.τ).loc Cert.RmsBwdMidIdeal.main_arg2) = m ((c.tc : Thread Cert.RmsBwdMidIdeal.nD Cert.RmsBwdMidIdeal.τ).loc Cert.RmsBwdMidIdeal.main_arg2)
      ∧ r.2.mem ((c.tc : Thread Cert.RmsBwdMidIdeal.nD Cert.RmsBwdMidIdeal.τ).loc Cert.RmsBwdMidIdeal.main_arg3) = m ((c.tc : Thread Cert.RmsBwdMidIdeal.nD Cert.RmsBwdMidIdeal.τ).loc Cert.RmsBwdMidIdeal.main_arg3)
      ∧ r.2.mem ((c.tc : Thread Cert.RmsBwdMidIdeal.nD Cert.RmsBwdMidIdeal.τ).loc Cert.RmsBwdMidIdeal.main_arg4) = m ((c.tc : Thread Cert.RmsBwdMidIdeal.nD Cert.RmsBwdMidIdeal.τ).loc Cert.RmsBwdMidIdeal.main_arg4)
      ∧ r.2.mem ((c.tc : Thread Cert.RmsBwdMidIdeal.nD Cert.RmsBwdMidIdeal.τ).loc Cert.RmsBwdMidIdeal.main_arg5) = m ((c.tc : Thread Cert.RmsBwdMidIdeal.nD Cert.RmsBwdMidIdeal.τ).loc Cert.RmsBwdMidIdeal.main_arg5))
      ∧ r.2.sem = fun _ => 0)

def quiescent_RmsBwdMidReferenceIdeal [hRmsBwdMidReferenceIdeal : Cert.RmsBwdMidReferenceIdeal.Facts] : Prop :=
  ∀ (m : (ℓ : Loc Cert.RmsBwdMidReferenceIdeal.nD Cert.RmsBwdMidReferenceIdeal.τ Cert.RmsBwdMidReferenceIdeal.sig) → Buf (Elt Ideal) ℓ) (g : Dev Cert.RmsBwdMidReferenceIdeal.nD → PrngReg), Pre_RmsBwdMidReferenceIdeal m →
    θ_run (Cert.RmsBwdMidReferenceIdeal.defs (F := Ideal)) (onTc (τ := Cert.RmsBwdMidReferenceIdeal.τ) (Cert.RmsBwdMidReferenceIdeal.main (F := Ideal))) ⟨m, fun _ => 0, g⟩ (fun r => (∀ c : Dev Cert.RmsBwdMidReferenceIdeal.nD,
      r.2.mem ((c.tc : Thread Cert.RmsBwdMidReferenceIdeal.nD Cert.RmsBwdMidReferenceIdeal.τ).loc Cert.RmsBwdMidReferenceIdeal.main_arg0) = m ((c.tc : Thread Cert.RmsBwdMidReferenceIdeal.nD Cert.RmsBwdMidReferenceIdeal.τ).loc Cert.RmsBwdMidReferenceIdeal.main_arg0)
      ∧ r.2.mem ((c.tc : Thread Cert.RmsBwdMidReferenceIdeal.nD Cert.RmsBwdMidReferenceIdeal.τ).loc Cert.RmsBwdMidReferenceIdeal.main_arg1) = m ((c.tc : Thread Cert.RmsBwdMidReferenceIdeal.nD Cert.RmsBwdMidReferenceIdeal.τ).loc Cert.RmsBwdMidReferenceIdeal.main_arg1)
      ∧ r.2.mem ((c.tc : Thread Cert.RmsBwdMidReferenceIdeal.nD Cert.RmsBwdMidReferenceIdeal.τ).loc Cert.RmsBwdMidReferenceIdeal.main_arg2) = m ((c.tc : Thread Cert.RmsBwdMidReferenceIdeal.nD Cert.RmsBwdMidReferenceIdeal.τ).loc Cert.RmsBwdMidReferenceIdeal.main_arg2)
      ∧ r.2.mem ((c.tc : Thread Cert.RmsBwdMidReferenceIdeal.nD Cert.RmsBwdMidReferenceIdeal.τ).loc Cert.RmsBwdMidReferenceIdeal.main_arg3) = m ((c.tc : Thread Cert.RmsBwdMidReferenceIdeal.nD Cert.RmsBwdMidReferenceIdeal.τ).loc Cert.RmsBwdMidReferenceIdeal.main_arg3)
      ∧ r.2.mem ((c.tc : Thread Cert.RmsBwdMidReferenceIdeal.nD Cert.RmsBwdMidReferenceIdeal.τ).loc Cert.RmsBwdMidReferenceIdeal.main_arg4) = m ((c.tc : Thread Cert.RmsBwdMidReferenceIdeal.nD Cert.RmsBwdMidReferenceIdeal.τ).loc Cert.RmsBwdMidReferenceIdeal.main_arg4)
      ∧ r.2.mem ((c.tc : Thread Cert.RmsBwdMidReferenceIdeal.nD Cert.RmsBwdMidReferenceIdeal.τ).loc Cert.RmsBwdMidReferenceIdeal.main_arg5) = m ((c.tc : Thread Cert.RmsBwdMidReferenceIdeal.nD Cert.RmsBwdMidReferenceIdeal.τ).loc Cert.RmsBwdMidReferenceIdeal.main_arg5))
      ∧ r.2.sem = fun _ => 0)

def quiescent_RmsBwdFirst [hRmsBwdFirst : Cert.RmsBwdFirst.Facts] : Prop :=
  ∀ (m : (ℓ : Loc Cert.RmsBwdFirst.nD Cert.RmsBwdFirst.τ Cert.RmsBwdFirst.sig) → Buf (Elt Bits) ℓ) (g : Dev Cert.RmsBwdFirst.nD → PrngReg), Pre_RmsBwdFirst m →
    θ_run (Cert.RmsBwdFirst.defs (F := Bits)) (onTc (τ := Cert.RmsBwdFirst.τ) (Cert.RmsBwdFirst.main (F := Bits))) ⟨m, fun _ => 0, g⟩ (fun r => (∀ c : Dev Cert.RmsBwdFirst.nD,
      r.2.mem ((c.tc : Thread Cert.RmsBwdFirst.nD Cert.RmsBwdFirst.τ).loc Cert.RmsBwdFirst.main_arg0) = m ((c.tc : Thread Cert.RmsBwdFirst.nD Cert.RmsBwdFirst.τ).loc Cert.RmsBwdFirst.main_arg0)
      ∧ r.2.mem ((c.tc : Thread Cert.RmsBwdFirst.nD Cert.RmsBwdFirst.τ).loc Cert.RmsBwdFirst.main_arg1) = m ((c.tc : Thread Cert.RmsBwdFirst.nD Cert.RmsBwdFirst.τ).loc Cert.RmsBwdFirst.main_arg1)
      ∧ r.2.mem ((c.tc : Thread Cert.RmsBwdFirst.nD Cert.RmsBwdFirst.τ).loc Cert.RmsBwdFirst.main_arg2) = m ((c.tc : Thread Cert.RmsBwdFirst.nD Cert.RmsBwdFirst.τ).loc Cert.RmsBwdFirst.main_arg2)
      ∧ r.2.mem ((c.tc : Thread Cert.RmsBwdFirst.nD Cert.RmsBwdFirst.τ).loc Cert.RmsBwdFirst.main_arg3) = m ((c.tc : Thread Cert.RmsBwdFirst.nD Cert.RmsBwdFirst.τ).loc Cert.RmsBwdFirst.main_arg3))
      ∧ r.2.sem = fun _ => 0)

def quiescent_RmsBwdFirstIdeal [hRmsBwdFirstIdeal : Cert.RmsBwdFirstIdeal.Facts] : Prop :=
  ∀ (m : (ℓ : Loc Cert.RmsBwdFirstIdeal.nD Cert.RmsBwdFirstIdeal.τ Cert.RmsBwdFirstIdeal.sig) → Buf (Elt Ideal) ℓ) (g : Dev Cert.RmsBwdFirstIdeal.nD → PrngReg), Pre_RmsBwdFirstIdeal m →
    θ_run (Cert.RmsBwdFirstIdeal.defs (F := Ideal)) (onTc (τ := Cert.RmsBwdFirstIdeal.τ) (Cert.RmsBwdFirstIdeal.main (F := Ideal))) ⟨m, fun _ => 0, g⟩ (fun r => (∀ c : Dev Cert.RmsBwdFirstIdeal.nD,
      r.2.mem ((c.tc : Thread Cert.RmsBwdFirstIdeal.nD Cert.RmsBwdFirstIdeal.τ).loc Cert.RmsBwdFirstIdeal.main_arg0) = m ((c.tc : Thread Cert.RmsBwdFirstIdeal.nD Cert.RmsBwdFirstIdeal.τ).loc Cert.RmsBwdFirstIdeal.main_arg0)
      ∧ r.2.mem ((c.tc : Thread Cert.RmsBwdFirstIdeal.nD Cert.RmsBwdFirstIdeal.τ).loc Cert.RmsBwdFirstIdeal.main_arg1) = m ((c.tc : Thread Cert.RmsBwdFirstIdeal.nD Cert.RmsBwdFirstIdeal.τ).loc Cert.RmsBwdFirstIdeal.main_arg1)
      ∧ r.2.mem ((c.tc : Thread Cert.RmsBwdFirstIdeal.nD Cert.RmsBwdFirstIdeal.τ).loc Cert.RmsBwdFirstIdeal.main_arg2) = m ((c.tc : Thread Cert.RmsBwdFirstIdeal.nD Cert.RmsBwdFirstIdeal.τ).loc Cert.RmsBwdFirstIdeal.main_arg2)
      ∧ r.2.mem ((c.tc : Thread Cert.RmsBwdFirstIdeal.nD Cert.RmsBwdFirstIdeal.τ).loc Cert.RmsBwdFirstIdeal.main_arg3) = m ((c.tc : Thread Cert.RmsBwdFirstIdeal.nD Cert.RmsBwdFirstIdeal.τ).loc Cert.RmsBwdFirstIdeal.main_arg3))
      ∧ r.2.sem = fun _ => 0)

def quiescent_RmsBwdFirstReferenceIdeal [hRmsBwdFirstReferenceIdeal : Cert.RmsBwdFirstReferenceIdeal.Facts] : Prop :=
  ∀ (m : (ℓ : Loc Cert.RmsBwdFirstReferenceIdeal.nD Cert.RmsBwdFirstReferenceIdeal.τ Cert.RmsBwdFirstReferenceIdeal.sig) → Buf (Elt Ideal) ℓ) (g : Dev Cert.RmsBwdFirstReferenceIdeal.nD → PrngReg), Pre_RmsBwdFirstReferenceIdeal m →
    θ_run (Cert.RmsBwdFirstReferenceIdeal.defs (F := Ideal)) (onTc (τ := Cert.RmsBwdFirstReferenceIdeal.τ) (Cert.RmsBwdFirstReferenceIdeal.main (F := Ideal))) ⟨m, fun _ => 0, g⟩ (fun r => (∀ c : Dev Cert.RmsBwdFirstReferenceIdeal.nD,
      r.2.mem ((c.tc : Thread Cert.RmsBwdFirstReferenceIdeal.nD Cert.RmsBwdFirstReferenceIdeal.τ).loc Cert.RmsBwdFirstReferenceIdeal.main_arg0) = m ((c.tc : Thread Cert.RmsBwdFirstReferenceIdeal.nD Cert.RmsBwdFirstReferenceIdeal.τ).loc Cert.RmsBwdFirstReferenceIdeal.main_arg0)
      ∧ r.2.mem ((c.tc : Thread Cert.RmsBwdFirstReferenceIdeal.nD Cert.RmsBwdFirstReferenceIdeal.τ).loc Cert.RmsBwdFirstReferenceIdeal.main_arg1) = m ((c.tc : Thread Cert.RmsBwdFirstReferenceIdeal.nD Cert.RmsBwdFirstReferenceIdeal.τ).loc Cert.RmsBwdFirstReferenceIdeal.main_arg1)
      ∧ r.2.mem ((c.tc : Thread Cert.RmsBwdFirstReferenceIdeal.nD Cert.RmsBwdFirstReferenceIdeal.τ).loc Cert.RmsBwdFirstReferenceIdeal.main_arg2) = m ((c.tc : Thread Cert.RmsBwdFirstReferenceIdeal.nD Cert.RmsBwdFirstReferenceIdeal.τ).loc Cert.RmsBwdFirstReferenceIdeal.main_arg2)
      ∧ r.2.mem ((c.tc : Thread Cert.RmsBwdFirstReferenceIdeal.nD Cert.RmsBwdFirstReferenceIdeal.τ).loc Cert.RmsBwdFirstReferenceIdeal.main_arg3) = m ((c.tc : Thread Cert.RmsBwdFirstReferenceIdeal.nD Cert.RmsBwdFirstReferenceIdeal.τ).loc Cert.RmsBwdFirstReferenceIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossHeadReferenceIdeal [hLossHeadReferenceIdeal : Cert.LossHeadReferenceIdeal.Facts] : Prop :=
  ∀ (m : (ℓ : Loc Cert.LossHeadReferenceIdeal.nD Cert.LossHeadReferenceIdeal.τ Cert.LossHeadReferenceIdeal.sig) → Buf (Elt Ideal) ℓ) (g : Dev Cert.LossHeadReferenceIdeal.nD → PrngReg), Pre_LossHeadReferenceIdeal m →
    θ_run (Cert.LossHeadReferenceIdeal.defs (F := Ideal)) (onTc (τ := Cert.LossHeadReferenceIdeal.τ) (Cert.LossHeadReferenceIdeal.main (F := Ideal))) ⟨m, fun _ => 0, g⟩ (fun r => (∀ c : Dev Cert.LossHeadReferenceIdeal.nD,
      r.2.mem ((c.tc : Thread Cert.LossHeadReferenceIdeal.nD Cert.LossHeadReferenceIdeal.τ).loc Cert.LossHeadReferenceIdeal.main_arg0) = m ((c.tc : Thread Cert.LossHeadReferenceIdeal.nD Cert.LossHeadReferenceIdeal.τ).loc Cert.LossHeadReferenceIdeal.main_arg0)
      ∧ r.2.mem ((c.tc : Thread Cert.LossHeadReferenceIdeal.nD Cert.LossHeadReferenceIdeal.τ).loc Cert.LossHeadReferenceIdeal.main_arg1) = m ((c.tc : Thread Cert.LossHeadReferenceIdeal.nD Cert.LossHeadReferenceIdeal.τ).loc Cert.LossHeadReferenceIdeal.main_arg1))
      ∧ r.2.sem = fun _ => 0)

def quiescent_AdamwSmall [hAdamwSmall : Cert.AdamwSmall.Facts] : Prop :=
  ∀ (m : (ℓ : Loc Cert.AdamwSmall.nD Cert.AdamwSmall.τ Cert.AdamwSmall.sig) → Buf (Elt Bits) ℓ) (g : Dev Cert.AdamwSmall.nD → PrngReg), Pre_AdamwSmall m →
    θ_run (Cert.AdamwSmall.defs (F := Bits)) (onTc (τ := Cert.AdamwSmall.τ) (Cert.AdamwSmall.main (F := Bits))) ⟨m, fun _ => 0, g⟩ (fun r => (∀ c : Dev Cert.AdamwSmall.nD,
      r.2.mem ((c.tc : Thread Cert.AdamwSmall.nD Cert.AdamwSmall.τ).loc Cert.AdamwSmall.main_arg0) = m ((c.tc : Thread Cert.AdamwSmall.nD Cert.AdamwSmall.τ).loc Cert.AdamwSmall.main_arg0)
      ∧ r.2.mem ((c.tc : Thread Cert.AdamwSmall.nD Cert.AdamwSmall.τ).loc Cert.AdamwSmall.main_arg1) = m ((c.tc : Thread Cert.AdamwSmall.nD Cert.AdamwSmall.τ).loc Cert.AdamwSmall.main_arg1)
      ∧ r.2.mem ((c.tc : Thread Cert.AdamwSmall.nD Cert.AdamwSmall.τ).loc Cert.AdamwSmall.main_arg2) = m ((c.tc : Thread Cert.AdamwSmall.nD Cert.AdamwSmall.τ).loc Cert.AdamwSmall.main_arg2)
      ∧ r.2.mem ((c.tc : Thread Cert.AdamwSmall.nD Cert.AdamwSmall.τ).loc Cert.AdamwSmall.main_arg3) = m ((c.tc : Thread Cert.AdamwSmall.nD Cert.AdamwSmall.τ).loc Cert.AdamwSmall.main_arg3))
      ∧ r.2.sem = fun _ => 0)

def quiescent_AdamwSmallIdeal [hAdamwSmallIdeal : Cert.AdamwSmallIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg), Pre_AdamwSmallIdeal m →
    θ_run (Cert.AdamwSmallIdeal.defs (F := Ideal)) (onTc (τ := Cert.AdamwSmallIdeal.τ) (Cert.AdamwSmallIdeal.main (F := Ideal))) ⟨m, fun _ => 0, g⟩ (fun r => (∀ c : Dev Cert.AdamwSmallIdeal.nD,
      r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
      ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
      ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
      ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ r.2.sem = fun _ => 0)

def quiescent_AdamwSmallReferenceIdeal [hAdamwSmallReferenceIdeal : Cert.AdamwSmallReferenceIdeal.Facts] : Prop :=
  ∀ (m : (ℓ : Loc Cert.AdamwSmallReferenceIdeal.nD Cert.AdamwSmallReferenceIdeal.τ Cert.AdamwSmallReferenceIdeal.sig) → Buf (Elt Ideal) ℓ) (g : Dev Cert.AdamwSmallReferenceIdeal.nD → PrngReg), Pre_AdamwSmallReferenceIdeal m →
    θ_run (Cert.AdamwSmallReferenceIdeal.defs (F := Ideal)) (onTc (τ := Cert.AdamwSmallReferenceIdeal.τ) (Cert.AdamwSmallReferenceIdeal.main (F := Ideal))) ⟨m, fun _ => 0, g⟩ (fun r => (∀ c : Dev Cert.AdamwSmallReferenceIdeal.nD,
      r.2.mem ((c.tc : Thread Cert.AdamwSmallReferenceIdeal.nD Cert.AdamwSmallReferenceIdeal.τ).loc Cert.AdamwSmallReferenceIdeal.main_arg0) = m ((c.tc : Thread Cert.AdamwSmallReferenceIdeal.nD Cert.AdamwSmallReferenceIdeal.τ).loc Cert.AdamwSmallReferenceIdeal.main_arg0)
      ∧ r.2.mem ((c.tc : Thread Cert.AdamwSmallReferenceIdeal.nD Cert.AdamwSmallReferenceIdeal.τ).loc Cert.AdamwSmallReferenceIdeal.main_arg1) = m ((c.tc : Thread Cert.AdamwSmallReferenceIdeal.nD Cert.AdamwSmallReferenceIdeal.τ).loc Cert.AdamwSmallReferenceIdeal.main_arg1)
      ∧ r.2.mem ((c.tc : Thread Cert.AdamwSmallReferenceIdeal.nD Cert.AdamwSmallReferenceIdeal.τ).loc Cert.AdamwSmallReferenceIdeal.main_arg2) = m ((c.tc : Thread Cert.AdamwSmallReferenceIdeal.nD Cert.AdamwSmallReferenceIdeal.τ).loc Cert.AdamwSmallReferenceIdeal.main_arg2)
      ∧ r.2.mem ((c.tc : Thread Cert.AdamwSmallReferenceIdeal.nD Cert.AdamwSmallReferenceIdeal.τ).loc Cert.AdamwSmallReferenceIdeal.main_arg3) = m ((c.tc : Thread Cert.AdamwSmallReferenceIdeal.nD Cert.AdamwSmallReferenceIdeal.τ).loc Cert.AdamwSmallReferenceIdeal.main_arg3))
      ∧ r.2.sem = fun _ => 0)

def quiescent_AdamwIn [hAdamwIn : Cert.AdamwIn.Facts] : Prop :=
  ∀ (m : (ℓ : Loc Cert.AdamwIn.nD Cert.AdamwIn.τ Cert.AdamwIn.sig) → Buf (Elt Bits) ℓ) (g : Dev Cert.AdamwIn.nD → PrngReg), Pre_AdamwIn m →
    θ_run (Cert.AdamwIn.defs (F := Bits)) (onTc (τ := Cert.AdamwIn.τ) (Cert.AdamwIn.main (F := Bits))) ⟨m, fun _ => 0, g⟩ (fun r => (∀ c : Dev Cert.AdamwIn.nD,
      r.2.mem ((c.tc : Thread Cert.AdamwIn.nD Cert.AdamwIn.τ).loc Cert.AdamwIn.main_arg0) = m ((c.tc : Thread Cert.AdamwIn.nD Cert.AdamwIn.τ).loc Cert.AdamwIn.main_arg0)
      ∧ r.2.mem ((c.tc : Thread Cert.AdamwIn.nD Cert.AdamwIn.τ).loc Cert.AdamwIn.main_arg1) = m ((c.tc : Thread Cert.AdamwIn.nD Cert.AdamwIn.τ).loc Cert.AdamwIn.main_arg1)
      ∧ r.2.mem ((c.tc : Thread Cert.AdamwIn.nD Cert.AdamwIn.τ).loc Cert.AdamwIn.main_arg2) = m ((c.tc : Thread Cert.AdamwIn.nD Cert.AdamwIn.τ).loc Cert.AdamwIn.main_arg2)
      ∧ r.2.mem ((c.tc : Thread Cert.AdamwIn.nD Cert.AdamwIn.τ).loc Cert.AdamwIn.main_arg3) = m ((c.tc : Thread Cert.AdamwIn.nD Cert.AdamwIn.τ).loc Cert.AdamwIn.main_arg3)
      ∧ r.2.mem ((c.tc : Thread Cert.AdamwIn.nD Cert.AdamwIn.τ).loc Cert.AdamwIn.main_arg4) = m ((c.tc : Thread Cert.AdamwIn.nD Cert.AdamwIn.τ).loc Cert.AdamwIn.main_arg4)
      ∧ r.2.mem ((c.tc : Thread Cert.AdamwIn.nD Cert.AdamwIn.τ).loc Cert.AdamwIn.main_arg5) = m ((c.tc : Thread Cert.AdamwIn.nD Cert.AdamwIn.τ).loc Cert.AdamwIn.main_arg5))
      ∧ r.2.sem = fun _ => 0)

def quiescent_AdamwInIdeal [hAdamwInIdeal : Cert.AdamwInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg), Pre_AdamwInIdeal m →
    θ_run (Cert.AdamwInIdeal.defs (F := Ideal)) (onTc (τ := Cert.AdamwInIdeal.τ) (Cert.AdamwInIdeal.main (F := Ideal))) ⟨m, fun _ => 0, g⟩ (fun r => (∀ c : Dev Cert.AdamwInIdeal.nD,
      r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
      ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
      ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
      ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3)
      ∧ r.2.mem ((c.tc : Thread Cert.AdamwInIdeal.nD Cert.AdamwInIdeal.τ).loc Cert.AdamwInIdeal.main_arg4) = m ((c.tc : Thread Cert.AdamwInIdeal.nD Cert.AdamwInIdeal.τ).loc Cert.AdamwInIdeal.main_arg4)
      ∧ r.2.mem ((c.tc : Thread Cert.AdamwInIdeal.nD Cert.AdamwInIdeal.τ).loc Cert.AdamwInIdeal.main_arg5) = m ((c.tc : Thread Cert.AdamwInIdeal.nD Cert.AdamwInIdeal.τ).loc Cert.AdamwInIdeal.main_arg5))
      ∧ r.2.sem = fun _ => 0)

def quiescent_AdamwInReferenceIdeal [hAdamwInReferenceIdeal : Cert.AdamwInReferenceIdeal.Facts] : Prop :=
  ∀ (m : (ℓ : Loc Cert.AdamwInReferenceIdeal.nD Cert.AdamwInReferenceIdeal.τ Cert.AdamwInReferenceIdeal.sig) → Buf (Elt Ideal) ℓ) (g : Dev Cert.AdamwInReferenceIdeal.nD → PrngReg), Pre_AdamwInReferenceIdeal m →
    θ_run (Cert.AdamwInReferenceIdeal.defs (F := Ideal)) (onTc (τ := Cert.AdamwInReferenceIdeal.τ) (Cert.AdamwInReferenceIdeal.main (F := Ideal))) ⟨m, fun _ => 0, g⟩ (fun r => (∀ c : Dev Cert.AdamwInReferenceIdeal.nD,
      r.2.mem ((c.tc : Thread Cert.AdamwInReferenceIdeal.nD Cert.AdamwInReferenceIdeal.τ).loc Cert.AdamwInReferenceIdeal.main_arg0) = m ((c.tc : Thread Cert.AdamwInReferenceIdeal.nD Cert.AdamwInReferenceIdeal.τ).loc Cert.AdamwInReferenceIdeal.main_arg0)
      ∧ r.2.mem ((c.tc : Thread Cert.AdamwInReferenceIdeal.nD Cert.AdamwInReferenceIdeal.τ).loc Cert.AdamwInReferenceIdeal.main_arg1) = m ((c.tc : Thread Cert.AdamwInReferenceIdeal.nD Cert.AdamwInReferenceIdeal.τ).loc Cert.AdamwInReferenceIdeal.main_arg1)
      ∧ r.2.mem ((c.tc : Thread Cert.AdamwInReferenceIdeal.nD Cert.AdamwInReferenceIdeal.τ).loc Cert.AdamwInReferenceIdeal.main_arg2) = m ((c.tc : Thread Cert.AdamwInReferenceIdeal.nD Cert.AdamwInReferenceIdeal.τ).loc Cert.AdamwInReferenceIdeal.main_arg2)
      ∧ r.2.mem ((c.tc : Thread Cert.AdamwInReferenceIdeal.nD Cert.AdamwInReferenceIdeal.τ).loc Cert.AdamwInReferenceIdeal.main_arg3) = m ((c.tc : Thread Cert.AdamwInReferenceIdeal.nD Cert.AdamwInReferenceIdeal.τ).loc Cert.AdamwInReferenceIdeal.main_arg3)
      ∧ r.2.mem ((c.tc : Thread Cert.AdamwInReferenceIdeal.nD Cert.AdamwInReferenceIdeal.τ).loc Cert.AdamwInReferenceIdeal.main_arg4) = m ((c.tc : Thread Cert.AdamwInReferenceIdeal.nD Cert.AdamwInReferenceIdeal.τ).loc Cert.AdamwInReferenceIdeal.main_arg4)
      ∧ r.2.mem ((c.tc : Thread Cert.AdamwInReferenceIdeal.nD Cert.AdamwInReferenceIdeal.τ).loc Cert.AdamwInReferenceIdeal.main_arg5) = m ((c.tc : Thread Cert.AdamwInReferenceIdeal.nD Cert.AdamwInReferenceIdeal.τ).loc Cert.AdamwInReferenceIdeal.main_arg5))
      ∧ r.2.sem = fun _ => 0)

def quiescent_AdamwBrSb [hAdamwBrSb : Cert.AdamwBrSb.Facts] : Prop :=
  ∀ (m : (ℓ : Loc Cert.AdamwBrSb.nD Cert.AdamwBrSb.τ Cert.AdamwBrSb.sig) → Buf (Elt Bits) ℓ) (g : Dev Cert.AdamwBrSb.nD → PrngReg), Pre_AdamwBrSb m →
    θ_run (Cert.AdamwBrSb.defs (F := Bits)) (onTc (τ := Cert.AdamwBrSb.τ) (Cert.AdamwBrSb.main (F := Bits))) ⟨m, fun _ => 0, g⟩ (fun r => (∀ c : Dev Cert.AdamwBrSb.nD,
      r.2.mem ((c.tc : Thread Cert.AdamwBrSb.nD Cert.AdamwBrSb.τ).loc Cert.AdamwBrSb.main_arg0) = m ((c.tc : Thread Cert.AdamwBrSb.nD Cert.AdamwBrSb.τ).loc Cert.AdamwBrSb.main_arg0)
      ∧ r.2.mem ((c.tc : Thread Cert.AdamwBrSb.nD Cert.AdamwBrSb.τ).loc Cert.AdamwBrSb.main_arg1) = m ((c.tc : Thread Cert.AdamwBrSb.nD Cert.AdamwBrSb.τ).loc Cert.AdamwBrSb.main_arg1)
      ∧ r.2.mem ((c.tc : Thread Cert.AdamwBrSb.nD Cert.AdamwBrSb.τ).loc Cert.AdamwBrSb.main_arg2) = m ((c.tc : Thread Cert.AdamwBrSb.nD Cert.AdamwBrSb.τ).loc Cert.AdamwBrSb.main_arg2)
      ∧ r.2.mem ((c.tc : Thread Cert.AdamwBrSb.nD Cert.AdamwBrSb.τ).loc Cert.AdamwBrSb.main_arg3) = m ((c.tc : Thread Cert.AdamwBrSb.nD Cert.AdamwBrSb.τ).loc Cert.AdamwBrSb.main_arg3)
      ∧ r.2.mem ((c.tc : Thread Cert.AdamwBrSb.nD Cert.AdamwBrSb.τ).loc Cert.AdamwBrSb.main_arg4) = m ((c.tc : Thread Cert.AdamwBrSb.nD Cert.AdamwBrSb.τ).loc Cert.AdamwBrSb.main_arg4)
      ∧ r.2.mem ((c.tc : Thread Cert.AdamwBrSb.nD Cert.AdamwBrSb.τ).loc Cert.AdamwBrSb.main_arg5) = m ((c.tc : Thread Cert.AdamwBrSb.nD Cert.AdamwBrSb.τ).loc Cert.AdamwBrSb.main_arg5))
      ∧ r.2.sem = fun _ => 0)

def quiescent_AdamwBrSbIdeal [hAdamwBrSbIdeal : Cert.AdamwBrSbIdeal.Facts] : Prop :=
  ∀ (m : (ℓ : Loc Cert.AdamwBrSbIdeal.nD Cert.AdamwBrSbIdeal.τ Cert.AdamwBrSbIdeal.sig) → Buf (Elt Ideal) ℓ) (g : Dev Cert.AdamwBrSbIdeal.nD → PrngReg), Pre_AdamwBrSbIdeal m →
    θ_run (Cert.AdamwBrSbIdeal.defs (F := Ideal)) (onTc (τ := Cert.AdamwBrSbIdeal.τ) (Cert.AdamwBrSbIdeal.main (F := Ideal))) ⟨m, fun _ => 0, g⟩ (fun r => (∀ c : Dev Cert.AdamwBrSbIdeal.nD,
      r.2.mem ((c.tc : Thread Cert.AdamwBrSbIdeal.nD Cert.AdamwBrSbIdeal.τ).loc Cert.AdamwBrSbIdeal.main_arg0) = m ((c.tc : Thread Cert.AdamwBrSbIdeal.nD Cert.AdamwBrSbIdeal.τ).loc Cert.AdamwBrSbIdeal.main_arg0)
      ∧ r.2.mem ((c.tc : Thread Cert.AdamwBrSbIdeal.nD Cert.AdamwBrSbIdeal.τ).loc Cert.AdamwBrSbIdeal.main_arg1) = m ((c.tc : Thread Cert.AdamwBrSbIdeal.nD Cert.AdamwBrSbIdeal.τ).loc Cert.AdamwBrSbIdeal.main_arg1)
      ∧ r.2.mem ((c.tc : Thread Cert.AdamwBrSbIdeal.nD Cert.AdamwBrSbIdeal.τ).loc Cert.AdamwBrSbIdeal.main_arg2) = m ((c.tc : Thread Cert.AdamwBrSbIdeal.nD Cert.AdamwBrSbIdeal.τ).loc Cert.AdamwBrSbIdeal.main_arg2)
      ∧ r.2.mem ((c.tc : Thread Cert.AdamwBrSbIdeal.nD Cert.AdamwBrSbIdeal.τ).loc Cert.AdamwBrSbIdeal.main_arg3) = m ((c.tc : Thread Cert.AdamwBrSbIdeal.nD Cert.AdamwBrSbIdeal.τ).loc Cert.AdamwBrSbIdeal.main_arg3)
      ∧ r.2.mem ((c.tc : Thread Cert.AdamwBrSbIdeal.nD Cert.AdamwBrSbIdeal.τ).loc Cert.AdamwBrSbIdeal.main_arg4) = m ((c.tc : Thread Cert.AdamwBrSbIdeal.nD Cert.AdamwBrSbIdeal.τ).loc Cert.AdamwBrSbIdeal.main_arg4)
      ∧ r.2.mem ((c.tc : Thread Cert.AdamwBrSbIdeal.nD Cert.AdamwBrSbIdeal.τ).loc Cert.AdamwBrSbIdeal.main_arg5) = m ((c.tc : Thread Cert.AdamwBrSbIdeal.nD Cert.AdamwBrSbIdeal.τ).loc Cert.AdamwBrSbIdeal.main_arg5))
      ∧ r.2.sem = fun _ => 0)

def quiescent_AdamwBrSbReferenceIdeal [hAdamwBrSbReferenceIdeal : Cert.AdamwBrSbReferenceIdeal.Facts] : Prop :=
  ∀ (m : (ℓ : Loc Cert.AdamwBrSbReferenceIdeal.nD Cert.AdamwBrSbReferenceIdeal.τ Cert.AdamwBrSbReferenceIdeal.sig) → Buf (Elt Ideal) ℓ) (g : Dev Cert.AdamwBrSbReferenceIdeal.nD → PrngReg), Pre_AdamwBrSbReferenceIdeal m →
    θ_run (Cert.AdamwBrSbReferenceIdeal.defs (F := Ideal)) (onTc (τ := Cert.AdamwBrSbReferenceIdeal.τ) (Cert.AdamwBrSbReferenceIdeal.main (F := Ideal))) ⟨m, fun _ => 0, g⟩ (fun r => (∀ c : Dev Cert.AdamwBrSbReferenceIdeal.nD,
      r.2.mem ((c.tc : Thread Cert.AdamwBrSbReferenceIdeal.nD Cert.AdamwBrSbReferenceIdeal.τ).loc Cert.AdamwBrSbReferenceIdeal.main_arg0) = m ((c.tc : Thread Cert.AdamwBrSbReferenceIdeal.nD Cert.AdamwBrSbReferenceIdeal.τ).loc Cert.AdamwBrSbReferenceIdeal.main_arg0)
      ∧ r.2.mem ((c.tc : Thread Cert.AdamwBrSbReferenceIdeal.nD Cert.AdamwBrSbReferenceIdeal.τ).loc Cert.AdamwBrSbReferenceIdeal.main_arg1) = m ((c.tc : Thread Cert.AdamwBrSbReferenceIdeal.nD Cert.AdamwBrSbReferenceIdeal.τ).loc Cert.AdamwBrSbReferenceIdeal.main_arg1)
      ∧ r.2.mem ((c.tc : Thread Cert.AdamwBrSbReferenceIdeal.nD Cert.AdamwBrSbReferenceIdeal.τ).loc Cert.AdamwBrSbReferenceIdeal.main_arg2) = m ((c.tc : Thread Cert.AdamwBrSbReferenceIdeal.nD Cert.AdamwBrSbReferenceIdeal.τ).loc Cert.AdamwBrSbReferenceIdeal.main_arg2)
      ∧ r.2.mem ((c.tc : Thread Cert.AdamwBrSbReferenceIdeal.nD Cert.AdamwBrSbReferenceIdeal.τ).loc Cert.AdamwBrSbReferenceIdeal.main_arg3) = m ((c.tc : Thread Cert.AdamwBrSbReferenceIdeal.nD Cert.AdamwBrSbReferenceIdeal.τ).loc Cert.AdamwBrSbReferenceIdeal.main_arg3)
      ∧ r.2.mem ((c.tc : Thread Cert.AdamwBrSbReferenceIdeal.nD Cert.AdamwBrSbReferenceIdeal.τ).loc Cert.AdamwBrSbReferenceIdeal.main_arg4) = m ((c.tc : Thread Cert.AdamwBrSbReferenceIdeal.nD Cert.AdamwBrSbReferenceIdeal.τ).loc Cert.AdamwBrSbReferenceIdeal.main_arg4)
      ∧ r.2.mem ((c.tc : Thread Cert.AdamwBrSbReferenceIdeal.nD Cert.AdamwBrSbReferenceIdeal.τ).loc Cert.AdamwBrSbReferenceIdeal.main_arg5) = m ((c.tc : Thread Cert.AdamwBrSbReferenceIdeal.nD Cert.AdamwBrSbReferenceIdeal.τ).loc Cert.AdamwBrSbReferenceIdeal.main_arg5))
      ∧ r.2.sem = fun _ => 0)

def quiescent_AdamwBrPool [hAdamwBrPool : Cert.AdamwBrPool.Facts] : Prop :=
  ∀ (m : (ℓ : Loc Cert.AdamwBrPool.nD Cert.AdamwBrPool.τ Cert.AdamwBrPool.sig) → Buf (Elt Bits) ℓ) (g : Dev Cert.AdamwBrPool.nD → PrngReg), Pre_AdamwBrPool m →
    θ_run (Cert.AdamwBrPool.defs (F := Bits)) (onTc (τ := Cert.AdamwBrPool.τ) (Cert.AdamwBrPool.main (F := Bits))) ⟨m, fun _ => 0, g⟩ (fun r => (∀ c : Dev Cert.AdamwBrPool.nD,
      r.2.mem ((c.tc : Thread Cert.AdamwBrPool.nD Cert.AdamwBrPool.τ).loc Cert.AdamwBrPool.main_arg0) = m ((c.tc : Thread Cert.AdamwBrPool.nD Cert.AdamwBrPool.τ).loc Cert.AdamwBrPool.main_arg0)
      ∧ r.2.mem ((c.tc : Thread Cert.AdamwBrPool.nD Cert.AdamwBrPool.τ).loc Cert.AdamwBrPool.main_arg1) = m ((c.tc : Thread Cert.AdamwBrPool.nD Cert.AdamwBrPool.τ).loc Cert.AdamwBrPool.main_arg1)
      ∧ r.2.mem ((c.tc : Thread Cert.AdamwBrPool.nD Cert.AdamwBrPool.τ).loc Cert.AdamwBrPool.main_arg2) = m ((c.tc : Thread Cert.AdamwBrPool.nD Cert.AdamwBrPool.τ).loc Cert.AdamwBrPool.main_arg2)
      ∧ r.2.mem ((c.tc : Thread Cert.AdamwBrPool.nD Cert.AdamwBrPool.τ).loc Cert.AdamwBrPool.main_arg3) = m ((c.tc : Thread Cert.AdamwBrPool.nD Cert.AdamwBrPool.τ).loc Cert.AdamwBrPool.main_arg3)
      ∧ r.2.mem ((c.tc : Thread Cert.AdamwBrPool.nD Cert.AdamwBrPool.τ).loc Cert.AdamwBrPool.main_arg4) = m ((c.tc : Thread Cert.AdamwBrPool.nD Cert.AdamwBrPool.τ).loc Cert.AdamwBrPool.main_arg4)
      ∧ r.2.mem ((c.tc : Thread Cert.AdamwBrPool.nD Cert.AdamwBrPool.τ).loc Cert.AdamwBrPool.main_arg5) = m ((c.tc : Thread Cert.AdamwBrPool.nD Cert.AdamwBrPool.τ).loc Cert.AdamwBrPool.main_arg5))
      ∧ r.2.sem = fun _ => 0)

def quiescent_AdamwBrPoolIdeal [hAdamwBrPoolIdeal : Cert.AdamwBrPoolIdeal.Facts] : Prop :=
  ∀ (m : (ℓ : Loc Cert.AdamwBrPoolIdeal.nD Cert.AdamwBrPoolIdeal.τ Cert.AdamwBrPoolIdeal.sig) → Buf (Elt Ideal) ℓ) (g : Dev Cert.AdamwBrPoolIdeal.nD → PrngReg), Pre_AdamwBrPoolIdeal m →
    θ_run (Cert.AdamwBrPoolIdeal.defs (F := Ideal)) (onTc (τ := Cert.AdamwBrPoolIdeal.τ) (Cert.AdamwBrPoolIdeal.main (F := Ideal))) ⟨m, fun _ => 0, g⟩ (fun r => (∀ c : Dev Cert.AdamwBrPoolIdeal.nD,
      r.2.mem ((c.tc : Thread Cert.AdamwBrPoolIdeal.nD Cert.AdamwBrPoolIdeal.τ).loc Cert.AdamwBrPoolIdeal.main_arg0) = m ((c.tc : Thread Cert.AdamwBrPoolIdeal.nD Cert.AdamwBrPoolIdeal.τ).loc Cert.AdamwBrPoolIdeal.main_arg0)
      ∧ r.2.mem ((c.tc : Thread Cert.AdamwBrPoolIdeal.nD Cert.AdamwBrPoolIdeal.τ).loc Cert.AdamwBrPoolIdeal.main_arg1) = m ((c.tc : Thread Cert.AdamwBrPoolIdeal.nD Cert.AdamwBrPoolIdeal.τ).loc Cert.AdamwBrPoolIdeal.main_arg1)
      ∧ r.2.mem ((c.tc : Thread Cert.AdamwBrPoolIdeal.nD Cert.AdamwBrPoolIdeal.τ).loc Cert.AdamwBrPoolIdeal.main_arg2) = m ((c.tc : Thread Cert.AdamwBrPoolIdeal.nD Cert.AdamwBrPoolIdeal.τ).loc Cert.AdamwBrPoolIdeal.main_arg2)
      ∧ r.2.mem ((c.tc : Thread Cert.AdamwBrPoolIdeal.nD Cert.AdamwBrPoolIdeal.τ).loc Cert.AdamwBrPoolIdeal.main_arg3) = m ((c.tc : Thread Cert.AdamwBrPoolIdeal.nD Cert.AdamwBrPoolIdeal.τ).loc Cert.AdamwBrPoolIdeal.main_arg3)
      ∧ r.2.mem ((c.tc : Thread Cert.AdamwBrPoolIdeal.nD Cert.AdamwBrPoolIdeal.τ).loc Cert.AdamwBrPoolIdeal.main_arg4) = m ((c.tc : Thread Cert.AdamwBrPoolIdeal.nD Cert.AdamwBrPoolIdeal.τ).loc Cert.AdamwBrPoolIdeal.main_arg4)
      ∧ r.2.mem ((c.tc : Thread Cert.AdamwBrPoolIdeal.nD Cert.AdamwBrPoolIdeal.τ).loc Cert.AdamwBrPoolIdeal.main_arg5) = m ((c.tc : Thread Cert.AdamwBrPoolIdeal.nD Cert.AdamwBrPoolIdeal.τ).loc Cert.AdamwBrPoolIdeal.main_arg5))
      ∧ r.2.sem = fun _ => 0)

def quiescent_AdamwBrPoolReferenceIdeal [hAdamwBrPoolReferenceIdeal : Cert.AdamwBrPoolReferenceIdeal.Facts] : Prop :=
  ∀ (m : (ℓ : Loc Cert.AdamwBrPoolReferenceIdeal.nD Cert.AdamwBrPoolReferenceIdeal.τ Cert.AdamwBrPoolReferenceIdeal.sig) → Buf (Elt Ideal) ℓ) (g : Dev Cert.AdamwBrPoolReferenceIdeal.nD → PrngReg), Pre_AdamwBrPoolReferenceIdeal m →
    θ_run (Cert.AdamwBrPoolReferenceIdeal.defs (F := Ideal)) (onTc (τ := Cert.AdamwBrPoolReferenceIdeal.τ) (Cert.AdamwBrPoolReferenceIdeal.main (F := Ideal))) ⟨m, fun _ => 0, g⟩ (fun r => (∀ c : Dev Cert.AdamwBrPoolReferenceIdeal.nD,
      r.2.mem ((c.tc : Thread Cert.AdamwBrPoolReferenceIdeal.nD Cert.AdamwBrPoolReferenceIdeal.τ).loc Cert.AdamwBrPoolReferenceIdeal.main_arg0) = m ((c.tc : Thread Cert.AdamwBrPoolReferenceIdeal.nD Cert.AdamwBrPoolReferenceIdeal.τ).loc Cert.AdamwBrPoolReferenceIdeal.main_arg0)
      ∧ r.2.mem ((c.tc : Thread Cert.AdamwBrPoolReferenceIdeal.nD Cert.AdamwBrPoolReferenceIdeal.τ).loc Cert.AdamwBrPoolReferenceIdeal.main_arg1) = m ((c.tc : Thread Cert.AdamwBrPoolReferenceIdeal.nD Cert.AdamwBrPoolReferenceIdeal.τ).loc Cert.AdamwBrPoolReferenceIdeal.main_arg1)
      ∧ r.2.mem ((c.tc : Thread Cert.AdamwBrPoolReferenceIdeal.nD Cert.AdamwBrPoolReferenceIdeal.τ).loc Cert.AdamwBrPoolReferenceIdeal.main_arg2) = m ((c.tc : Thread Cert.AdamwBrPoolReferenceIdeal.nD Cert.AdamwBrPoolReferenceIdeal.τ).loc Cert.AdamwBrPoolReferenceIdeal.main_arg2)
      ∧ r.2.mem ((c.tc : Thread Cert.AdamwBrPoolReferenceIdeal.nD Cert.AdamwBrPoolReferenceIdeal.τ).loc Cert.AdamwBrPoolReferenceIdeal.main_arg3) = m ((c.tc : Thread Cert.AdamwBrPoolReferenceIdeal.nD Cert.AdamwBrPoolReferenceIdeal.τ).loc Cert.AdamwBrPoolReferenceIdeal.main_arg3)
      ∧ r.2.mem ((c.tc : Thread Cert.AdamwBrPoolReferenceIdeal.nD Cert.AdamwBrPoolReferenceIdeal.τ).loc Cert.AdamwBrPoolReferenceIdeal.main_arg4) = m ((c.tc : Thread Cert.AdamwBrPoolReferenceIdeal.nD Cert.AdamwBrPoolReferenceIdeal.τ).loc Cert.AdamwBrPoolReferenceIdeal.main_arg4)
      ∧ r.2.mem ((c.tc : Thread Cert.AdamwBrPoolReferenceIdeal.nD Cert.AdamwBrPoolReferenceIdeal.τ).loc Cert.AdamwBrPoolReferenceIdeal.main_arg5) = m ((c.tc : Thread Cert.AdamwBrPoolReferenceIdeal.nD Cert.AdamwBrPoolReferenceIdeal.τ).loc Cert.AdamwBrPoolReferenceIdeal.main_arg5))
      ∧ r.2.sem = fun _ => 0)

def quiescent_AdamwOut [hAdamwOut : Cert.AdamwOut.Facts] : Prop :=
  ∀ (m : (ℓ : Loc Cert.AdamwOut.nD Cert.AdamwOut.τ Cert.AdamwOut.sig) → Buf (Elt Bits) ℓ) (g : Dev Cert.AdamwOut.nD → PrngReg), Pre_AdamwOut m →
    θ_run (Cert.AdamwOut.defs (F := Bits)) (onTc (τ := Cert.AdamwOut.τ) (Cert.AdamwOut.main (F := Bits))) ⟨m, fun _ => 0, g⟩ (fun r => (∀ c : Dev Cert.AdamwOut.nD,
      r.2.mem ((c.tc : Thread Cert.AdamwOut.nD Cert.AdamwOut.τ).loc Cert.AdamwOut.main_arg0) = m ((c.tc : Thread Cert.AdamwOut.nD Cert.AdamwOut.τ).loc Cert.AdamwOut.main_arg0)
      ∧ r.2.mem ((c.tc : Thread Cert.AdamwOut.nD Cert.AdamwOut.τ).loc Cert.AdamwOut.main_arg1) = m ((c.tc : Thread Cert.AdamwOut.nD Cert.AdamwOut.τ).loc Cert.AdamwOut.main_arg1)
      ∧ r.2.mem ((c.tc : Thread Cert.AdamwOut.nD Cert.AdamwOut.τ).loc Cert.AdamwOut.main_arg2) = m ((c.tc : Thread Cert.AdamwOut.nD Cert.AdamwOut.τ).loc Cert.AdamwOut.main_arg2)
      ∧ r.2.mem ((c.tc : Thread Cert.AdamwOut.nD Cert.AdamwOut.τ).loc Cert.AdamwOut.main_arg3) = m ((c.tc : Thread Cert.AdamwOut.nD Cert.AdamwOut.τ).loc Cert.AdamwOut.main_arg3)
      ∧ r.2.mem ((c.tc : Thread Cert.AdamwOut.nD Cert.AdamwOut.τ).loc Cert.AdamwOut.main_arg4) = m ((c.tc : Thread Cert.AdamwOut.nD Cert.AdamwOut.τ).loc Cert.AdamwOut.main_arg4)
      ∧ r.2.mem ((c.tc : Thread Cert.AdamwOut.nD Cert.AdamwOut.τ).loc Cert.AdamwOut.main_arg5) = m ((c.tc : Thread Cert.AdamwOut.nD Cert.AdamwOut.τ).loc Cert.AdamwOut.main_arg5))
      ∧ r.2.sem = fun _ => 0)

def quiescent_AdamwOutIdeal [hAdamwOutIdeal : Cert.AdamwOutIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg), Pre_AdamwOutIdeal m →
    θ_run (Cert.AdamwOutIdeal.defs (F := Ideal)) (onTc (τ := Cert.AdamwOutIdeal.τ) (Cert.AdamwOutIdeal.main (F := Ideal))) ⟨m, fun _ => 0, g⟩ (fun r => (∀ c : Dev Cert.AdamwOutIdeal.nD,
      r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
      ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
      ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
      ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3)
      ∧ r.2.mem ((c.tc : Thread Cert.AdamwOutIdeal.nD Cert.AdamwOutIdeal.τ).loc Cert.AdamwOutIdeal.main_arg4) = m ((c.tc : Thread Cert.AdamwOutIdeal.nD Cert.AdamwOutIdeal.τ).loc Cert.AdamwOutIdeal.main_arg4)
      ∧ r.2.mem ((c.tc : Thread Cert.AdamwOutIdeal.nD Cert.AdamwOutIdeal.τ).loc Cert.AdamwOutIdeal.main_arg5) = m ((c.tc : Thread Cert.AdamwOutIdeal.nD Cert.AdamwOutIdeal.τ).loc Cert.AdamwOutIdeal.main_arg5))
      ∧ r.2.sem = fun _ => 0)

def quiescent_AdamwOutReferenceIdeal [hAdamwOutReferenceIdeal : Cert.AdamwOutReferenceIdeal.Facts] : Prop :=
  ∀ (m : (ℓ : Loc Cert.AdamwOutReferenceIdeal.nD Cert.AdamwOutReferenceIdeal.τ Cert.AdamwOutReferenceIdeal.sig) → Buf (Elt Ideal) ℓ) (g : Dev Cert.AdamwOutReferenceIdeal.nD → PrngReg), Pre_AdamwOutReferenceIdeal m →
    θ_run (Cert.AdamwOutReferenceIdeal.defs (F := Ideal)) (onTc (τ := Cert.AdamwOutReferenceIdeal.τ) (Cert.AdamwOutReferenceIdeal.main (F := Ideal))) ⟨m, fun _ => 0, g⟩ (fun r => (∀ c : Dev Cert.AdamwOutReferenceIdeal.nD,
      r.2.mem ((c.tc : Thread Cert.AdamwOutReferenceIdeal.nD Cert.AdamwOutReferenceIdeal.τ).loc Cert.AdamwOutReferenceIdeal.main_arg0) = m ((c.tc : Thread Cert.AdamwOutReferenceIdeal.nD Cert.AdamwOutReferenceIdeal.τ).loc Cert.AdamwOutReferenceIdeal.main_arg0)
      ∧ r.2.mem ((c.tc : Thread Cert.AdamwOutReferenceIdeal.nD Cert.AdamwOutReferenceIdeal.τ).loc Cert.AdamwOutReferenceIdeal.main_arg1) = m ((c.tc : Thread Cert.AdamwOutReferenceIdeal.nD Cert.AdamwOutReferenceIdeal.τ).loc Cert.AdamwOutReferenceIdeal.main_arg1)
      ∧ r.2.mem ((c.tc : Thread Cert.AdamwOutReferenceIdeal.nD Cert.AdamwOutReferenceIdeal.τ).loc Cert.AdamwOutReferenceIdeal.main_arg2) = m ((c.tc : Thread Cert.AdamwOutReferenceIdeal.nD Cert.AdamwOutReferenceIdeal.τ).loc Cert.AdamwOutReferenceIdeal.main_arg2)
      ∧ r.2.mem ((c.tc : Thread Cert.AdamwOutReferenceIdeal.nD Cert.AdamwOutReferenceIdeal.τ).loc Cert.AdamwOutReferenceIdeal.main_arg3) = m ((c.tc : Thread Cert.AdamwOutReferenceIdeal.nD Cert.AdamwOutReferenceIdeal.τ).loc Cert.AdamwOutReferenceIdeal.main_arg3)
      ∧ r.2.mem ((c.tc : Thread Cert.AdamwOutReferenceIdeal.nD Cert.AdamwOutReferenceIdeal.τ).loc Cert.AdamwOutReferenceIdeal.main_arg4) = m ((c.tc : Thread Cert.AdamwOutReferenceIdeal.nD Cert.AdamwOutReferenceIdeal.τ).loc Cert.AdamwOutReferenceIdeal.main_arg4)
      ∧ r.2.mem ((c.tc : Thread Cert.AdamwOutReferenceIdeal.nD Cert.AdamwOutReferenceIdeal.τ).loc Cert.AdamwOutReferenceIdeal.main_arg5) = m ((c.tc : Thread Cert.AdamwOutReferenceIdeal.nD Cert.AdamwOutReferenceIdeal.τ).loc Cert.AdamwOutReferenceIdeal.main_arg5))
      ∧ r.2.sem = fun _ => 0)

def quiescent_AdamwFf [hAdamwFf : Cert.AdamwFf.Facts] : Prop :=
  ∀ (m : (ℓ : Loc Cert.AdamwFf.nD Cert.AdamwFf.τ Cert.AdamwFf.sig) → Buf (Elt Bits) ℓ) (g : Dev Cert.AdamwFf.nD → PrngReg), Pre_AdamwFf m →
    θ_run (Cert.AdamwFf.defs (F := Bits)) (onTc (τ := Cert.AdamwFf.τ) (Cert.AdamwFf.main (F := Bits))) ⟨m, fun _ => 0, g⟩ (fun r => (∀ c : Dev Cert.AdamwFf.nD,
      r.2.mem ((c.tc : Thread Cert.AdamwFf.nD Cert.AdamwFf.τ).loc Cert.AdamwFf.main_arg0) = m ((c.tc : Thread Cert.AdamwFf.nD Cert.AdamwFf.τ).loc Cert.AdamwFf.main_arg0)
      ∧ r.2.mem ((c.tc : Thread Cert.AdamwFf.nD Cert.AdamwFf.τ).loc Cert.AdamwFf.main_arg1) = m ((c.tc : Thread Cert.AdamwFf.nD Cert.AdamwFf.τ).loc Cert.AdamwFf.main_arg1)
      ∧ r.2.mem ((c.tc : Thread Cert.AdamwFf.nD Cert.AdamwFf.τ).loc Cert.AdamwFf.main_arg2) = m ((c.tc : Thread Cert.AdamwFf.nD Cert.AdamwFf.τ).loc Cert.AdamwFf.main_arg2)
      ∧ r.2.mem ((c.tc : Thread Cert.AdamwFf.nD Cert.AdamwFf.τ).loc Cert.AdamwFf.main_arg3) = m ((c.tc : Thread Cert.AdamwFf.nD Cert.AdamwFf.τ).loc Cert.AdamwFf.main_arg3)
      ∧ r.2.mem ((c.tc : Thread Cert.AdamwFf.nD Cert.AdamwFf.τ).loc Cert.AdamwFf.main_arg4) = m ((c.tc : Thread Cert.AdamwFf.nD Cert.AdamwFf.τ).loc Cert.AdamwFf.main_arg4)
      ∧ r.2.mem ((c.tc : Thread Cert.AdamwFf.nD Cert.AdamwFf.τ).loc Cert.AdamwFf.main_arg5) = m ((c.tc : Thread Cert.AdamwFf.nD Cert.AdamwFf.τ).loc Cert.AdamwFf.main_arg5))
      ∧ r.2.sem = fun _ => 0)

def quiescent_AdamwFfIdeal [hAdamwFfIdeal : Cert.AdamwFfIdeal.Facts] : Prop :=
  ∀ (m : (ℓ : Loc Cert.AdamwFfIdeal.nD Cert.AdamwFfIdeal.τ Cert.AdamwFfIdeal.sig) → Buf (Elt Ideal) ℓ) (g : Dev Cert.AdamwFfIdeal.nD → PrngReg), Pre_AdamwFfIdeal m →
    θ_run (Cert.AdamwFfIdeal.defs (F := Ideal)) (onTc (τ := Cert.AdamwFfIdeal.τ) (Cert.AdamwFfIdeal.main (F := Ideal))) ⟨m, fun _ => 0, g⟩ (fun r => (∀ c : Dev Cert.AdamwFfIdeal.nD,
      r.2.mem ((c.tc : Thread Cert.AdamwFfIdeal.nD Cert.AdamwFfIdeal.τ).loc Cert.AdamwFfIdeal.main_arg0) = m ((c.tc : Thread Cert.AdamwFfIdeal.nD Cert.AdamwFfIdeal.τ).loc Cert.AdamwFfIdeal.main_arg0)
      ∧ r.2.mem ((c.tc : Thread Cert.AdamwFfIdeal.nD Cert.AdamwFfIdeal.τ).loc Cert.AdamwFfIdeal.main_arg1) = m ((c.tc : Thread Cert.AdamwFfIdeal.nD Cert.AdamwFfIdeal.τ).loc Cert.AdamwFfIdeal.main_arg1)
      ∧ r.2.mem ((c.tc : Thread Cert.AdamwFfIdeal.nD Cert.AdamwFfIdeal.τ).loc Cert.AdamwFfIdeal.main_arg2) = m ((c.tc : Thread Cert.AdamwFfIdeal.nD Cert.AdamwFfIdeal.τ).loc Cert.AdamwFfIdeal.main_arg2)
      ∧ r.2.mem ((c.tc : Thread Cert.AdamwFfIdeal.nD Cert.AdamwFfIdeal.τ).loc Cert.AdamwFfIdeal.main_arg3) = m ((c.tc : Thread Cert.AdamwFfIdeal.nD Cert.AdamwFfIdeal.τ).loc Cert.AdamwFfIdeal.main_arg3)
      ∧ r.2.mem ((c.tc : Thread Cert.AdamwFfIdeal.nD Cert.AdamwFfIdeal.τ).loc Cert.AdamwFfIdeal.main_arg4) = m ((c.tc : Thread Cert.AdamwFfIdeal.nD Cert.AdamwFfIdeal.τ).loc Cert.AdamwFfIdeal.main_arg4)
      ∧ r.2.mem ((c.tc : Thread Cert.AdamwFfIdeal.nD Cert.AdamwFfIdeal.τ).loc Cert.AdamwFfIdeal.main_arg5) = m ((c.tc : Thread Cert.AdamwFfIdeal.nD Cert.AdamwFfIdeal.τ).loc Cert.AdamwFfIdeal.main_arg5))
      ∧ r.2.sem = fun _ => 0)

def quiescent_AdamwFfReferenceIdeal [hAdamwFfReferenceIdeal : Cert.AdamwFfReferenceIdeal.Facts] : Prop :=
  ∀ (m : (ℓ : Loc Cert.AdamwFfReferenceIdeal.nD Cert.AdamwFfReferenceIdeal.τ Cert.AdamwFfReferenceIdeal.sig) → Buf (Elt Ideal) ℓ) (g : Dev Cert.AdamwFfReferenceIdeal.nD → PrngReg), Pre_AdamwFfReferenceIdeal m →
    θ_run (Cert.AdamwFfReferenceIdeal.defs (F := Ideal)) (onTc (τ := Cert.AdamwFfReferenceIdeal.τ) (Cert.AdamwFfReferenceIdeal.main (F := Ideal))) ⟨m, fun _ => 0, g⟩ (fun r => (∀ c : Dev Cert.AdamwFfReferenceIdeal.nD,
      r.2.mem ((c.tc : Thread Cert.AdamwFfReferenceIdeal.nD Cert.AdamwFfReferenceIdeal.τ).loc Cert.AdamwFfReferenceIdeal.main_arg0) = m ((c.tc : Thread Cert.AdamwFfReferenceIdeal.nD Cert.AdamwFfReferenceIdeal.τ).loc Cert.AdamwFfReferenceIdeal.main_arg0)
      ∧ r.2.mem ((c.tc : Thread Cert.AdamwFfReferenceIdeal.nD Cert.AdamwFfReferenceIdeal.τ).loc Cert.AdamwFfReferenceIdeal.main_arg1) = m ((c.tc : Thread Cert.AdamwFfReferenceIdeal.nD Cert.AdamwFfReferenceIdeal.τ).loc Cert.AdamwFfReferenceIdeal.main_arg1)
      ∧ r.2.mem ((c.tc : Thread Cert.AdamwFfReferenceIdeal.nD Cert.AdamwFfReferenceIdeal.τ).loc Cert.AdamwFfReferenceIdeal.main_arg2) = m ((c.tc : Thread Cert.AdamwFfReferenceIdeal.nD Cert.AdamwFfReferenceIdeal.τ).loc Cert.AdamwFfReferenceIdeal.main_arg2)
      ∧ r.2.mem ((c.tc : Thread Cert.AdamwFfReferenceIdeal.nD Cert.AdamwFfReferenceIdeal.τ).loc Cert.AdamwFfReferenceIdeal.main_arg3) = m ((c.tc : Thread Cert.AdamwFfReferenceIdeal.nD Cert.AdamwFfReferenceIdeal.τ).loc Cert.AdamwFfReferenceIdeal.main_arg3)
      ∧ r.2.mem ((c.tc : Thread Cert.AdamwFfReferenceIdeal.nD Cert.AdamwFfReferenceIdeal.τ).loc Cert.AdamwFfReferenceIdeal.main_arg4) = m ((c.tc : Thread Cert.AdamwFfReferenceIdeal.nD Cert.AdamwFfReferenceIdeal.τ).loc Cert.AdamwFfReferenceIdeal.main_arg4)
      ∧ r.2.mem ((c.tc : Thread Cert.AdamwFfReferenceIdeal.nD Cert.AdamwFfReferenceIdeal.τ).loc Cert.AdamwFfReferenceIdeal.main_arg5) = m ((c.tc : Thread Cert.AdamwFfReferenceIdeal.nD Cert.AdamwFfReferenceIdeal.τ).loc Cert.AdamwFfReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)) (v2 : (c : Dev Cert.KernelIdeal.nD) → Buf (Elt Ideal) ((c.tc : Thread Cert.KernelIdeal.nD Cert.KernelIdeal.τ).loc Cert.KernelIdeal.main_v23_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_v23_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_FfIn_FfInIdeal : Prop :=
  True

def algebraic_FfInIdeal_FfInReferenceIdeal [hFfInIdeal : Cert.FfInIdeal.Facts] [hFfInReferenceIdeal : Cert.FfInReferenceIdeal.Facts] : Prop :=
  ∀ (m : (ℓ : Loc Cert.FfInIdeal.nD Cert.FfInIdeal.τ Cert.FfInIdeal.sig) → Buf (Elt Ideal) ℓ) (g : Dev Cert.FfInIdeal.nD → PrngReg)
    (m' : (ℓ : Loc Cert.FfInReferenceIdeal.nD Cert.FfInReferenceIdeal.τ Cert.FfInReferenceIdeal.sig) → Buf (Elt Ideal) ℓ) (g' : Dev Cert.FfInReferenceIdeal.nD → PrngReg), Pre_FfInIdeal m →
    (∀ c : Dev Cert.FfInIdeal.nD,
      m' ((c.tc : Thread Cert.FfInReferenceIdeal.nD Cert.FfInReferenceIdeal.τ).loc Cert.FfInReferenceIdeal.main_arg0) = m ((c.tc : Thread Cert.FfInIdeal.nD Cert.FfInIdeal.τ).loc Cert.FfInIdeal.main_arg0)
      ∧ m' ((c.tc : Thread Cert.FfInReferenceIdeal.nD Cert.FfInReferenceIdeal.τ).loc Cert.FfInReferenceIdeal.main_arg1) = m ((c.tc : Thread Cert.FfInIdeal.nD Cert.FfInIdeal.τ).loc Cert.FfInIdeal.main_arg1)) →
    ∃ (v0 : (c : Dev Cert.FfInIdeal.nD) → Buf (Elt Ideal) ((c.tc : Thread Cert.FfInIdeal.nD Cert.FfInIdeal.τ).loc Cert.FfInIdeal.main_v0_0)) (v1 : (c : Dev Cert.FfInIdeal.nD) → Buf (Elt Ideal) ((c.tc : Thread Cert.FfInIdeal.nD Cert.FfInIdeal.τ).loc Cert.FfInIdeal.main_v0_1)),
      θ_run (Cert.FfInIdeal.defs (F := Ideal)) (onTc (τ := Cert.FfInIdeal.τ) (Cert.FfInIdeal.main (F := Ideal))) ⟨m, fun _ => 0, g⟩ (fun r => ∀ c : Dev Cert.FfInIdeal.nD,
          r.2.mem ((c.tc : Thread Cert.FfInIdeal.nD Cert.FfInIdeal.τ).loc Cert.FfInIdeal.main_v0_0) = v0 c
          ∧ r.2.mem ((c.tc : Thread Cert.FfInIdeal.nD Cert.FfInIdeal.τ).loc Cert.FfInIdeal.main_v0_1) = v1 c
          ∧ r.2.mem ((c.tc : Thread Cert.FfInIdeal.nD Cert.FfInIdeal.τ).loc Cert.FfInIdeal.main_arg0) = m ((c.tc : Thread Cert.FfInIdeal.nD Cert.FfInIdeal.τ).loc Cert.FfInIdeal.main_arg0)
          ∧ r.2.mem ((c.tc : Thread Cert.FfInIdeal.nD Cert.FfInIdeal.τ).loc Cert.FfInIdeal.main_arg1) = m ((c.tc : Thread Cert.FfInIdeal.nD Cert.FfInIdeal.τ).loc Cert.FfInIdeal.main_arg1))
      ∧ θ_run (Cert.FfInReferenceIdeal.defs (F := Ideal)) (onTc (τ := Cert.FfInReferenceIdeal.τ) (Cert.FfInReferenceIdeal.main (F := Ideal))) ⟨m', fun _ => 0, g'⟩ (fun r => ∀ c : Dev Cert.FfInReferenceIdeal.nD,
          r.2.mem ((c.tc : Thread Cert.FfInReferenceIdeal.nD Cert.FfInReferenceIdeal.τ).loc Cert.FfInReferenceIdeal.main_v3) = v0 c
          ∧ r.2.mem ((c.tc : Thread Cert.FfInReferenceIdeal.nD Cert.FfInReferenceIdeal.τ).loc Cert.FfInReferenceIdeal.main_v6) = v1 c
          ∧ r.2.mem ((c.tc : Thread Cert.FfInReferenceIdeal.nD Cert.FfInReferenceIdeal.τ).loc Cert.FfInReferenceIdeal.main_arg0) = m' ((c.tc : Thread Cert.FfInReferenceIdeal.nD Cert.FfInReferenceIdeal.τ).loc Cert.FfInReferenceIdeal.main_arg0)
          ∧ r.2.mem ((c.tc : Thread Cert.FfInReferenceIdeal.nD Cert.FfInReferenceIdeal.τ).loc Cert.FfInReferenceIdeal.main_arg1) = m' ((c.tc : Thread Cert.FfInReferenceIdeal.nD Cert.FfInReferenceIdeal.τ).loc Cert.FfInReferenceIdeal.main_arg1))

def preserves_FfOut_FfOutIdeal : Prop :=
  True

def algebraic_FfOutIdeal_FfOutReferenceIdeal [hFfOutIdeal : Cert.FfOutIdeal.Facts] [hFfOutReferenceIdeal : Cert.FfOutReferenceIdeal.Facts] : Prop :=
  ∀ (m : (ℓ : Loc Cert.FfOutIdeal.nD Cert.FfOutIdeal.τ Cert.FfOutIdeal.sig) → Buf (Elt Ideal) ℓ) (g : Dev Cert.FfOutIdeal.nD → PrngReg)
    (m' : (ℓ : Loc Cert.FfOutReferenceIdeal.nD Cert.FfOutReferenceIdeal.τ Cert.FfOutReferenceIdeal.sig) → Buf (Elt Ideal) ℓ) (g' : Dev Cert.FfOutReferenceIdeal.nD → PrngReg), Pre_FfOutIdeal m →
    (∀ c : Dev Cert.FfOutIdeal.nD,
      m' ((c.tc : Thread Cert.FfOutReferenceIdeal.nD Cert.FfOutReferenceIdeal.τ).loc Cert.FfOutReferenceIdeal.main_arg0) = m ((c.tc : Thread Cert.FfOutIdeal.nD Cert.FfOutIdeal.τ).loc Cert.FfOutIdeal.main_arg0)
      ∧ m' ((c.tc : Thread Cert.FfOutReferenceIdeal.nD Cert.FfOutReferenceIdeal.τ).loc Cert.FfOutReferenceIdeal.main_arg1) = m ((c.tc : Thread Cert.FfOutIdeal.nD Cert.FfOutIdeal.τ).loc Cert.FfOutIdeal.main_arg1)
      ∧ m' ((c.tc : Thread Cert.FfOutReferenceIdeal.nD Cert.FfOutReferenceIdeal.τ).loc Cert.FfOutReferenceIdeal.main_arg2) = m ((c.tc : Thread Cert.FfOutIdeal.nD Cert.FfOutIdeal.τ).loc Cert.FfOutIdeal.main_arg2)) →
    ∃ (v0 : (c : Dev Cert.FfOutIdeal.nD) → Buf (Elt Ideal) ((c.tc : Thread Cert.FfOutIdeal.nD Cert.FfOutIdeal.τ).loc Cert.FfOutIdeal.main_v6)),
      θ_run (Cert.FfOutIdeal.defs (F := Ideal)) (onTc (τ := Cert.FfOutIdeal.τ) (Cert.FfOutIdeal.main (F := Ideal))) ⟨m, fun _ => 0, g⟩ (fun r => ∀ c : Dev Cert.FfOutIdeal.nD,
          r.2.mem ((c.tc : Thread Cert.FfOutIdeal.nD Cert.FfOutIdeal.τ).loc Cert.FfOutIdeal.main_v6) = v0 c
          ∧ r.2.mem ((c.tc : Thread Cert.FfOutIdeal.nD Cert.FfOutIdeal.τ).loc Cert.FfOutIdeal.main_arg0) = m ((c.tc : Thread Cert.FfOutIdeal.nD Cert.FfOutIdeal.τ).loc Cert.FfOutIdeal.main_arg0)
          ∧ r.2.mem ((c.tc : Thread Cert.FfOutIdeal.nD Cert.FfOutIdeal.τ).loc Cert.FfOutIdeal.main_arg1) = m ((c.tc : Thread Cert.FfOutIdeal.nD Cert.FfOutIdeal.τ).loc Cert.FfOutIdeal.main_arg1)
          ∧ r.2.mem ((c.tc : Thread Cert.FfOutIdeal.nD Cert.FfOutIdeal.τ).loc Cert.FfOutIdeal.main_arg2) = m ((c.tc : Thread Cert.FfOutIdeal.nD Cert.FfOutIdeal.τ).loc Cert.FfOutIdeal.main_arg2))
      ∧ θ_run (Cert.FfOutReferenceIdeal.defs (F := Ideal)) (onTc (τ := Cert.FfOutReferenceIdeal.τ) (Cert.FfOutReferenceIdeal.main (F := Ideal))) ⟨m', fun _ => 0, g'⟩ (fun r => ∀ c : Dev Cert.FfOutReferenceIdeal.nD,
          r.2.mem ((c.tc : Thread Cert.FfOutReferenceIdeal.nD Cert.FfOutReferenceIdeal.τ).loc Cert.FfOutReferenceIdeal.main_v6) = v0 c
          ∧ r.2.mem ((c.tc : Thread Cert.FfOutReferenceIdeal.nD Cert.FfOutReferenceIdeal.τ).loc Cert.FfOutReferenceIdeal.main_arg0) = m' ((c.tc : Thread Cert.FfOutReferenceIdeal.nD Cert.FfOutReferenceIdeal.τ).loc Cert.FfOutReferenceIdeal.main_arg0)
          ∧ r.2.mem ((c.tc : Thread Cert.FfOutReferenceIdeal.nD Cert.FfOutReferenceIdeal.τ).loc Cert.FfOutReferenceIdeal.main_arg1) = m' ((c.tc : Thread Cert.FfOutReferenceIdeal.nD Cert.FfOutReferenceIdeal.τ).loc Cert.FfOutReferenceIdeal.main_arg1)
          ∧ r.2.mem ((c.tc : Thread Cert.FfOutReferenceIdeal.nD Cert.FfOutReferenceIdeal.τ).loc Cert.FfOutReferenceIdeal.main_arg2) = m' ((c.tc : Thread Cert.FfOutReferenceIdeal.nD Cert.FfOutReferenceIdeal.τ).loc Cert.FfOutReferenceIdeal.main_arg2))

def preserves_FfOutDw_FfOutDwIdeal : Prop :=
  True

def algebraic_FfOutDwIdeal_FfOutDwReferenceIdeal [hFfOutDwIdeal : Cert.FfOutDwIdeal.Facts] [hFfOutDwReferenceIdeal : Cert.FfOutDwReferenceIdeal.Facts] : Prop :=
  ∀ (m : (ℓ : Loc Cert.FfOutDwIdeal.nD Cert.FfOutDwIdeal.τ Cert.FfOutDwIdeal.sig) → Buf (Elt Ideal) ℓ) (g : Dev Cert.FfOutDwIdeal.nD → PrngReg)
    (m' : (ℓ : Loc Cert.FfOutDwReferenceIdeal.nD Cert.FfOutDwReferenceIdeal.τ Cert.FfOutDwReferenceIdeal.sig) → Buf (Elt Ideal) ℓ) (g' : Dev Cert.FfOutDwReferenceIdeal.nD → PrngReg), Pre_FfOutDwIdeal m →
    (∀ c : Dev Cert.FfOutDwIdeal.nD,
      m' ((c.tc : Thread Cert.FfOutDwReferenceIdeal.nD Cert.FfOutDwReferenceIdeal.τ).loc Cert.FfOutDwReferenceIdeal.main_arg0) = m ((c.tc : Thread Cert.FfOutDwIdeal.nD Cert.FfOutDwIdeal.τ).loc Cert.FfOutDwIdeal.main_arg0)
      ∧ m' ((c.tc : Thread Cert.FfOutDwReferenceIdeal.nD Cert.FfOutDwReferenceIdeal.τ).loc Cert.FfOutDwReferenceIdeal.main_arg1) = m ((c.tc : Thread Cert.FfOutDwIdeal.nD Cert.FfOutDwIdeal.τ).loc Cert.FfOutDwIdeal.main_arg1)
      ∧ m' ((c.tc : Thread Cert.FfOutDwReferenceIdeal.nD Cert.FfOutDwReferenceIdeal.τ).loc Cert.FfOutDwReferenceIdeal.main_arg2) = m ((c.tc : Thread Cert.FfOutDwIdeal.nD Cert.FfOutDwIdeal.τ).loc Cert.FfOutDwIdeal.main_arg2)) →
    ∃ (v0 : (c : Dev Cert.FfOutDwIdeal.nD) → Buf (Elt Ideal) ((c.tc : Thread Cert.FfOutDwIdeal.nD Cert.FfOutDwIdeal.τ).loc Cert.FfOutDwIdeal.main_v6)),
      θ_run (Cert.FfOutDwIdeal.defs (F := Ideal)) (onTc (τ := Cert.FfOutDwIdeal.τ) (Cert.FfOutDwIdeal.main (F := Ideal))) ⟨m, fun _ => 0, g⟩ (fun r => ∀ c : Dev Cert.FfOutDwIdeal.nD,
          r.2.mem ((c.tc : Thread Cert.FfOutDwIdeal.nD Cert.FfOutDwIdeal.τ).loc Cert.FfOutDwIdeal.main_v6) = v0 c
          ∧ r.2.mem ((c.tc : Thread Cert.FfOutDwIdeal.nD Cert.FfOutDwIdeal.τ).loc Cert.FfOutDwIdeal.main_arg0) = m ((c.tc : Thread Cert.FfOutDwIdeal.nD Cert.FfOutDwIdeal.τ).loc Cert.FfOutDwIdeal.main_arg0)
          ∧ r.2.mem ((c.tc : Thread Cert.FfOutDwIdeal.nD Cert.FfOutDwIdeal.τ).loc Cert.FfOutDwIdeal.main_arg1) = m ((c.tc : Thread Cert.FfOutDwIdeal.nD Cert.FfOutDwIdeal.τ).loc Cert.FfOutDwIdeal.main_arg1)
          ∧ r.2.mem ((c.tc : Thread Cert.FfOutDwIdeal.nD Cert.FfOutDwIdeal.τ).loc Cert.FfOutDwIdeal.main_arg2) = m ((c.tc : Thread Cert.FfOutDwIdeal.nD Cert.FfOutDwIdeal.τ).loc Cert.FfOutDwIdeal.main_arg2))
      ∧ θ_run (Cert.FfOutDwReferenceIdeal.defs (F := Ideal)) (onTc (τ := Cert.FfOutDwReferenceIdeal.τ) (Cert.FfOutDwReferenceIdeal.main (F := Ideal))) ⟨m', fun _ => 0, g'⟩ (fun r => ∀ c : Dev Cert.FfOutDwReferenceIdeal.nD,
          r.2.mem ((c.tc : Thread Cert.FfOutDwReferenceIdeal.nD Cert.FfOutDwReferenceIdeal.τ).loc Cert.FfOutDwReferenceIdeal.main_v9) = v0 c
          ∧ r.2.mem ((c.tc : Thread Cert.FfOutDwReferenceIdeal.nD Cert.FfOutDwReferenceIdeal.τ).loc Cert.FfOutDwReferenceIdeal.main_arg0) = m' ((c.tc : Thread Cert.FfOutDwReferenceIdeal.nD Cert.FfOutDwReferenceIdeal.τ).loc Cert.FfOutDwReferenceIdeal.main_arg0)
          ∧ r.2.mem ((c.tc : Thread Cert.FfOutDwReferenceIdeal.nD Cert.FfOutDwReferenceIdeal.τ).loc Cert.FfOutDwReferenceIdeal.main_arg1) = m' ((c.tc : Thread Cert.FfOutDwReferenceIdeal.nD Cert.FfOutDwReferenceIdeal.τ).loc Cert.FfOutDwReferenceIdeal.main_arg1)
          ∧ r.2.mem ((c.tc : Thread Cert.FfOutDwReferenceIdeal.nD Cert.FfOutDwReferenceIdeal.τ).loc Cert.FfOutDwReferenceIdeal.main_arg2) = m' ((c.tc : Thread Cert.FfOutDwReferenceIdeal.nD Cert.FfOutDwReferenceIdeal.τ).loc Cert.FfOutDwReferenceIdeal.main_arg2))

def preserves_FfInDx_FfInDxIdeal : Prop :=
  True

def algebraic_FfInDxIdeal_FfInDxReferenceIdeal [hFfInDxIdeal : Cert.FfInDxIdeal.Facts] [hFfInDxReferenceIdeal : Cert.FfInDxReferenceIdeal.Facts] : Prop :=
  ∀ (m : (ℓ : Loc Cert.FfInDxIdeal.nD Cert.FfInDxIdeal.τ Cert.FfInDxIdeal.sig) → Buf (Elt Ideal) ℓ) (g : Dev Cert.FfInDxIdeal.nD → PrngReg)
    (m' : (ℓ : Loc Cert.FfInDxReferenceIdeal.nD Cert.FfInDxReferenceIdeal.τ Cert.FfInDxReferenceIdeal.sig) → Buf (Elt Ideal) ℓ) (g' : Dev Cert.FfInDxReferenceIdeal.nD → PrngReg), Pre_FfInDxIdeal m →
    (∀ c : Dev Cert.FfInDxIdeal.nD,
      m' ((c.tc : Thread Cert.FfInDxReferenceIdeal.nD Cert.FfInDxReferenceIdeal.τ).loc Cert.FfInDxReferenceIdeal.main_arg0) = m ((c.tc : Thread Cert.FfInDxIdeal.nD Cert.FfInDxIdeal.τ).loc Cert.FfInDxIdeal.main_arg0)
      ∧ m' ((c.tc : Thread Cert.FfInDxReferenceIdeal.nD Cert.FfInDxReferenceIdeal.τ).loc Cert.FfInDxReferenceIdeal.main_arg1) = m ((c.tc : Thread Cert.FfInDxIdeal.nD Cert.FfInDxIdeal.τ).loc Cert.FfInDxIdeal.main_arg1)
      ∧ m' ((c.tc : Thread Cert.FfInDxReferenceIdeal.nD Cert.FfInDxReferenceIdeal.τ).loc Cert.FfInDxReferenceIdeal.main_arg2) = m ((c.tc : Thread Cert.FfInDxIdeal.nD Cert.FfInDxIdeal.τ).loc Cert.FfInDxIdeal.main_arg2)
      ∧ m' ((c.tc : Thread Cert.FfInDxReferenceIdeal.nD Cert.FfInDxReferenceIdeal.τ).loc Cert.FfInDxReferenceIdeal.main_arg3) = m ((c.tc : Thread Cert.FfInDxIdeal.nD Cert.FfInDxIdeal.τ).loc Cert.FfInDxIdeal.main_arg3)) →
    ∃ (v0 : (c : Dev Cert.FfInDxIdeal.nD) → Buf (Elt Ideal) ((c.tc : Thread Cert.FfInDxIdeal.nD Cert.FfInDxIdeal.τ).loc Cert.FfInDxIdeal.main_v18)),
      θ_run (Cert.FfInDxIdeal.defs (F := Ideal)) (onTc (τ := Cert.FfInDxIdeal.τ) (Cert.FfInDxIdeal.main (F := Ideal))) ⟨m, fun _ => 0, g⟩ (fun r => ∀ c : Dev Cert.FfInDxIdeal.nD,
          r.2.mem ((c.tc : Thread Cert.FfInDxIdeal.nD Cert.FfInDxIdeal.τ).loc Cert.FfInDxIdeal.main_v18) = v0 c
          ∧ r.2.mem ((c.tc : Thread Cert.FfInDxIdeal.nD Cert.FfInDxIdeal.τ).loc Cert.FfInDxIdeal.main_arg0) = m ((c.tc : Thread Cert.FfInDxIdeal.nD Cert.FfInDxIdeal.τ).loc Cert.FfInDxIdeal.main_arg0)
          ∧ r.2.mem ((c.tc : Thread Cert.FfInDxIdeal.nD Cert.FfInDxIdeal.τ).loc Cert.FfInDxIdeal.main_arg1) = m ((c.tc : Thread Cert.FfInDxIdeal.nD Cert.FfInDxIdeal.τ).loc Cert.FfInDxIdeal.main_arg1)
          ∧ r.2.mem ((c.tc : Thread Cert.FfInDxIdeal.nD Cert.FfInDxIdeal.τ).loc Cert.FfInDxIdeal.main_arg2) = m ((c.tc : Thread Cert.FfInDxIdeal.nD Cert.FfInDxIdeal.τ).loc Cert.FfInDxIdeal.main_arg2)
          ∧ r.2.mem ((c.tc : Thread Cert.FfInDxIdeal.nD Cert.FfInDxIdeal.τ).loc Cert.FfInDxIdeal.main_arg3) = m ((c.tc : Thread Cert.FfInDxIdeal.nD Cert.FfInDxIdeal.τ).loc Cert.FfInDxIdeal.main_arg3))
      ∧ θ_run (Cert.FfInDxReferenceIdeal.defs (F := Ideal)) (onTc (τ := Cert.FfInDxReferenceIdeal.τ) (Cert.FfInDxReferenceIdeal.main (F := Ideal))) ⟨m', fun _ => 0, g'⟩ (fun r => ∀ c : Dev Cert.FfInDxReferenceIdeal.nD,
          r.2.mem ((c.tc : Thread Cert.FfInDxReferenceIdeal.nD Cert.FfInDxReferenceIdeal.τ).loc Cert.FfInDxReferenceIdeal.main_v17) = v0 c
          ∧ r.2.mem ((c.tc : Thread Cert.FfInDxReferenceIdeal.nD Cert.FfInDxReferenceIdeal.τ).loc Cert.FfInDxReferenceIdeal.main_arg0) = m' ((c.tc : Thread Cert.FfInDxReferenceIdeal.nD Cert.FfInDxReferenceIdeal.τ).loc Cert.FfInDxReferenceIdeal.main_arg0)
          ∧ r.2.mem ((c.tc : Thread Cert.FfInDxReferenceIdeal.nD Cert.FfInDxReferenceIdeal.τ).loc Cert.FfInDxReferenceIdeal.main_arg1) = m' ((c.tc : Thread Cert.FfInDxReferenceIdeal.nD Cert.FfInDxReferenceIdeal.τ).loc Cert.FfInDxReferenceIdeal.main_arg1)
          ∧ r.2.mem ((c.tc : Thread Cert.FfInDxReferenceIdeal.nD Cert.FfInDxReferenceIdeal.τ).loc Cert.FfInDxReferenceIdeal.main_arg2) = m' ((c.tc : Thread Cert.FfInDxReferenceIdeal.nD Cert.FfInDxReferenceIdeal.τ).loc Cert.FfInDxReferenceIdeal.main_arg2)
          ∧ r.2.mem ((c.tc : Thread Cert.FfInDxReferenceIdeal.nD Cert.FfInDxReferenceIdeal.τ).loc Cert.FfInDxReferenceIdeal.main_arg3) = m' ((c.tc : Thread Cert.FfInDxReferenceIdeal.nD Cert.FfInDxReferenceIdeal.τ).loc Cert.FfInDxReferenceIdeal.main_arg3))

def preserves_FfInDw_FfInDwIdeal : Prop :=
  True

def algebraic_FfInDwIdeal_FfInDwReferenceIdeal [hFfInDwIdeal : Cert.FfInDwIdeal.Facts] [hFfInDwReferenceIdeal : Cert.FfInDwReferenceIdeal.Facts] : Prop :=
  ∀ (m : (ℓ : Loc Cert.FfInDwIdeal.nD Cert.FfInDwIdeal.τ Cert.FfInDwIdeal.sig) → Buf (Elt Ideal) ℓ) (g : Dev Cert.FfInDwIdeal.nD → PrngReg)
    (m' : (ℓ : Loc Cert.FfInDwReferenceIdeal.nD Cert.FfInDwReferenceIdeal.τ Cert.FfInDwReferenceIdeal.sig) → Buf (Elt Ideal) ℓ) (g' : Dev Cert.FfInDwReferenceIdeal.nD → PrngReg), Pre_FfInDwIdeal m →
    (∀ c : Dev Cert.FfInDwIdeal.nD,
      m' ((c.tc : Thread Cert.FfInDwReferenceIdeal.nD Cert.FfInDwReferenceIdeal.τ).loc Cert.FfInDwReferenceIdeal.main_arg0) = m ((c.tc : Thread Cert.FfInDwIdeal.nD Cert.FfInDwIdeal.τ).loc Cert.FfInDwIdeal.main_arg0)
      ∧ m' ((c.tc : Thread Cert.FfInDwReferenceIdeal.nD Cert.FfInDwReferenceIdeal.τ).loc Cert.FfInDwReferenceIdeal.main_arg1) = m ((c.tc : Thread Cert.FfInDwIdeal.nD Cert.FfInDwIdeal.τ).loc Cert.FfInDwIdeal.main_arg1)
      ∧ m' ((c.tc : Thread Cert.FfInDwReferenceIdeal.nD Cert.FfInDwReferenceIdeal.τ).loc Cert.FfInDwReferenceIdeal.main_arg2) = m ((c.tc : Thread Cert.FfInDwIdeal.nD Cert.FfInDwIdeal.τ).loc Cert.FfInDwIdeal.main_arg2)
      ∧ m' ((c.tc : Thread Cert.FfInDwReferenceIdeal.nD Cert.FfInDwReferenceIdeal.τ).loc Cert.FfInDwReferenceIdeal.main_arg3) = m ((c.tc : Thread Cert.FfInDwIdeal.nD Cert.FfInDwIdeal.τ).loc Cert.FfInDwIdeal.main_arg3)) →
    ∃ (v0 : (c : Dev Cert.FfInDwIdeal.nD) → Buf (Elt Ideal) ((c.tc : Thread Cert.FfInDwIdeal.nD Cert.FfInDwIdeal.τ).loc Cert.FfInDwIdeal.main_v18)),
      θ_run (Cert.FfInDwIdeal.defs (F := Ideal)) (onTc (τ := Cert.FfInDwIdeal.τ) (Cert.FfInDwIdeal.main (F := Ideal))) ⟨m, fun _ => 0, g⟩ (fun r => ∀ c : Dev Cert.FfInDwIdeal.nD,
          r.2.mem ((c.tc : Thread Cert.FfInDwIdeal.nD Cert.FfInDwIdeal.τ).loc Cert.FfInDwIdeal.main_v18) = v0 c
          ∧ r.2.mem ((c.tc : Thread Cert.FfInDwIdeal.nD Cert.FfInDwIdeal.τ).loc Cert.FfInDwIdeal.main_arg0) = m ((c.tc : Thread Cert.FfInDwIdeal.nD Cert.FfInDwIdeal.τ).loc Cert.FfInDwIdeal.main_arg0)
          ∧ r.2.mem ((c.tc : Thread Cert.FfInDwIdeal.nD Cert.FfInDwIdeal.τ).loc Cert.FfInDwIdeal.main_arg1) = m ((c.tc : Thread Cert.FfInDwIdeal.nD Cert.FfInDwIdeal.τ).loc Cert.FfInDwIdeal.main_arg1)
          ∧ r.2.mem ((c.tc : Thread Cert.FfInDwIdeal.nD Cert.FfInDwIdeal.τ).loc Cert.FfInDwIdeal.main_arg2) = m ((c.tc : Thread Cert.FfInDwIdeal.nD Cert.FfInDwIdeal.τ).loc Cert.FfInDwIdeal.main_arg2)
          ∧ r.2.mem ((c.tc : Thread Cert.FfInDwIdeal.nD Cert.FfInDwIdeal.τ).loc Cert.FfInDwIdeal.main_arg3) = m ((c.tc : Thread Cert.FfInDwIdeal.nD Cert.FfInDwIdeal.τ).loc Cert.FfInDwIdeal.main_arg3))
      ∧ θ_run (Cert.FfInDwReferenceIdeal.defs (F := Ideal)) (onTc (τ := Cert.FfInDwReferenceIdeal.τ) (Cert.FfInDwReferenceIdeal.main (F := Ideal))) ⟨m', fun _ => 0, g'⟩ (fun r => ∀ c : Dev Cert.FfInDwReferenceIdeal.nD,
          r.2.mem ((c.tc : Thread Cert.FfInDwReferenceIdeal.nD Cert.FfInDwReferenceIdeal.τ).loc Cert.FfInDwReferenceIdeal.main_v18) = v0 c
          ∧ r.2.mem ((c.tc : Thread Cert.FfInDwReferenceIdeal.nD Cert.FfInDwReferenceIdeal.τ).loc Cert.FfInDwReferenceIdeal.main_arg0) = m' ((c.tc : Thread Cert.FfInDwReferenceIdeal.nD Cert.FfInDwReferenceIdeal.τ).loc Cert.FfInDwReferenceIdeal.main_arg0)
          ∧ r.2.mem ((c.tc : Thread Cert.FfInDwReferenceIdeal.nD Cert.FfInDwReferenceIdeal.τ).loc Cert.FfInDwReferenceIdeal.main_arg1) = m' ((c.tc : Thread Cert.FfInDwReferenceIdeal.nD Cert.FfInDwReferenceIdeal.τ).loc Cert.FfInDwReferenceIdeal.main_arg1)
          ∧ r.2.mem ((c.tc : Thread Cert.FfInDwReferenceIdeal.nD Cert.FfInDwReferenceIdeal.τ).loc Cert.FfInDwReferenceIdeal.main_arg2) = m' ((c.tc : Thread Cert.FfInDwReferenceIdeal.nD Cert.FfInDwReferenceIdeal.τ).loc Cert.FfInDwReferenceIdeal.main_arg2)
          ∧ r.2.mem ((c.tc : Thread Cert.FfInDwReferenceIdeal.nD Cert.FfInDwReferenceIdeal.τ).loc Cert.FfInDwReferenceIdeal.main_arg3) = m' ((c.tc : Thread Cert.FfInDwReferenceIdeal.nD Cert.FfInDwReferenceIdeal.τ).loc Cert.FfInDwReferenceIdeal.main_arg3))

def preserves_FfOutDx_FfOutDxIdeal : Prop :=
  True

def algebraic_FfOutDxIdeal_FfOutDxReferenceIdeal [hFfOutDxIdeal : Cert.FfOutDxIdeal.Facts] [hFfOutDxReferenceIdeal : Cert.FfOutDxReferenceIdeal.Facts] : Prop :=
  ∀ (m : (ℓ : Loc Cert.FfOutDxIdeal.nD Cert.FfOutDxIdeal.τ Cert.FfOutDxIdeal.sig) → Buf (Elt Ideal) ℓ) (g : Dev Cert.FfOutDxIdeal.nD → PrngReg)
    (m' : (ℓ : Loc Cert.FfOutDxReferenceIdeal.nD Cert.FfOutDxReferenceIdeal.τ Cert.FfOutDxReferenceIdeal.sig) → Buf (Elt Ideal) ℓ) (g' : Dev Cert.FfOutDxReferenceIdeal.nD → PrngReg), Pre_FfOutDxIdeal m →
    (∀ c : Dev Cert.FfOutDxIdeal.nD,
      m' ((c.tc : Thread Cert.FfOutDxReferenceIdeal.nD Cert.FfOutDxReferenceIdeal.τ).loc Cert.FfOutDxReferenceIdeal.main_arg0) = m ((c.tc : Thread Cert.FfOutDxIdeal.nD Cert.FfOutDxIdeal.τ).loc Cert.FfOutDxIdeal.main_arg0)
      ∧ m' ((c.tc : Thread Cert.FfOutDxReferenceIdeal.nD Cert.FfOutDxReferenceIdeal.τ).loc Cert.FfOutDxReferenceIdeal.main_arg1) = m ((c.tc : Thread Cert.FfOutDxIdeal.nD Cert.FfOutDxIdeal.τ).loc Cert.FfOutDxIdeal.main_arg1)
      ∧ m' ((c.tc : Thread Cert.FfOutDxReferenceIdeal.nD Cert.FfOutDxReferenceIdeal.τ).loc Cert.FfOutDxReferenceIdeal.main_arg2) = m ((c.tc : Thread Cert.FfOutDxIdeal.nD Cert.FfOutDxIdeal.τ).loc Cert.FfOutDxIdeal.main_arg2)
      ∧ m' ((c.tc : Thread Cert.FfOutDxReferenceIdeal.nD Cert.FfOutDxReferenceIdeal.τ).loc Cert.FfOutDxReferenceIdeal.main_arg3) = m ((c.tc : Thread Cert.FfOutDxIdeal.nD Cert.FfOutDxIdeal.τ).loc Cert.FfOutDxIdeal.main_arg3)) →
    ∃ (v0 : (c : Dev Cert.FfOutDxIdeal.nD) → Buf (Elt Ideal) ((c.tc : Thread Cert.FfOutDxIdeal.nD Cert.FfOutDxIdeal.τ).loc Cert.FfOutDxIdeal.main_v4)),
      θ_run (Cert.FfOutDxIdeal.defs (F := Ideal)) (onTc (τ := Cert.FfOutDxIdeal.τ) (Cert.FfOutDxIdeal.main (F := Ideal))) ⟨m, fun _ => 0, g⟩ (fun r => ∀ c : Dev Cert.FfOutDxIdeal.nD,
          r.2.mem ((c.tc : Thread Cert.FfOutDxIdeal.nD Cert.FfOutDxIdeal.τ).loc Cert.FfOutDxIdeal.main_v4) = v0 c
          ∧ r.2.mem ((c.tc : Thread Cert.FfOutDxIdeal.nD Cert.FfOutDxIdeal.τ).loc Cert.FfOutDxIdeal.main_arg0) = m ((c.tc : Thread Cert.FfOutDxIdeal.nD Cert.FfOutDxIdeal.τ).loc Cert.FfOutDxIdeal.main_arg0)
          ∧ r.2.mem ((c.tc : Thread Cert.FfOutDxIdeal.nD Cert.FfOutDxIdeal.τ).loc Cert.FfOutDxIdeal.main_arg1) = m ((c.tc : Thread Cert.FfOutDxIdeal.nD Cert.FfOutDxIdeal.τ).loc Cert.FfOutDxIdeal.main_arg1)
          ∧ r.2.mem ((c.tc : Thread Cert.FfOutDxIdeal.nD Cert.FfOutDxIdeal.τ).loc Cert.FfOutDxIdeal.main_arg2) = m ((c.tc : Thread Cert.FfOutDxIdeal.nD Cert.FfOutDxIdeal.τ).loc Cert.FfOutDxIdeal.main_arg2)
          ∧ r.2.mem ((c.tc : Thread Cert.FfOutDxIdeal.nD Cert.FfOutDxIdeal.τ).loc Cert.FfOutDxIdeal.main_arg3) = m ((c.tc : Thread Cert.FfOutDxIdeal.nD Cert.FfOutDxIdeal.τ).loc Cert.FfOutDxIdeal.main_arg3))
      ∧ θ_run (Cert.FfOutDxReferenceIdeal.defs (F := Ideal)) (onTc (τ := Cert.FfOutDxReferenceIdeal.τ) (Cert.FfOutDxReferenceIdeal.main (F := Ideal))) ⟨m', fun _ => 0, g'⟩ (fun r => ∀ c : Dev Cert.FfOutDxReferenceIdeal.nD,
          r.2.mem ((c.tc : Thread Cert.FfOutDxReferenceIdeal.nD Cert.FfOutDxReferenceIdeal.τ).loc Cert.FfOutDxReferenceIdeal.main_v17) = v0 c
          ∧ r.2.mem ((c.tc : Thread Cert.FfOutDxReferenceIdeal.nD Cert.FfOutDxReferenceIdeal.τ).loc Cert.FfOutDxReferenceIdeal.main_arg0) = m' ((c.tc : Thread Cert.FfOutDxReferenceIdeal.nD Cert.FfOutDxReferenceIdeal.τ).loc Cert.FfOutDxReferenceIdeal.main_arg0)
          ∧ r.2.mem ((c.tc : Thread Cert.FfOutDxReferenceIdeal.nD Cert.FfOutDxReferenceIdeal.τ).loc Cert.FfOutDxReferenceIdeal.main_arg1) = m' ((c.tc : Thread Cert.FfOutDxReferenceIdeal.nD Cert.FfOutDxReferenceIdeal.τ).loc Cert.FfOutDxReferenceIdeal.main_arg1)
          ∧ r.2.mem ((c.tc : Thread Cert.FfOutDxReferenceIdeal.nD Cert.FfOutDxReferenceIdeal.τ).loc Cert.FfOutDxReferenceIdeal.main_arg2) = m' ((c.tc : Thread Cert.FfOutDxReferenceIdeal.nD Cert.FfOutDxReferenceIdeal.τ).loc Cert.FfOutDxReferenceIdeal.main_arg2)
          ∧ r.2.mem ((c.tc : Thread Cert.FfOutDxReferenceIdeal.nD Cert.FfOutDxReferenceIdeal.τ).loc Cert.FfOutDxReferenceIdeal.main_arg3) = m' ((c.tc : Thread Cert.FfOutDxReferenceIdeal.nD Cert.FfOutDxReferenceIdeal.τ).loc Cert.FfOutDxReferenceIdeal.main_arg3))

def preserves_ProjQkv_ProjQkvIdeal : Prop :=
  True

def algebraic_ProjQkvIdeal_ProjQkvReferenceIdeal [hProjQkvIdeal : Cert.ProjQkvIdeal.Facts] [hProjQkvReferenceIdeal : Cert.ProjQkvReferenceIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg)
    (m' : (ℓ : Loc Cert.ProjQkvReferenceIdeal.nD Cert.ProjQkvReferenceIdeal.τ Cert.ProjQkvReferenceIdeal.sig) → Buf (Elt Ideal) ℓ) (g' : Dev Cert.ProjQkvReferenceIdeal.nD → PrngReg), Pre_ProjQkvIdeal m →
    (∀ c : Dev Cert.ProjQkvIdeal.nD,
      m' ((c.tc : Thread Cert.ProjQkvReferenceIdeal.nD Cert.ProjQkvReferenceIdeal.τ).loc Cert.ProjQkvReferenceIdeal.main_arg0) = m ((c.tc : Thread Cert.ProjQkvIdeal.nD Cert.ProjQkvIdeal.τ).loc Cert.ProjQkvIdeal.main_arg0)
      ∧ m' ((c.tc : Thread Cert.ProjQkvReferenceIdeal.nD Cert.ProjQkvReferenceIdeal.τ).loc Cert.ProjQkvReferenceIdeal.main_arg1) = m ((c.tc : Thread Cert.ProjQkvIdeal.nD Cert.ProjQkvIdeal.τ).loc Cert.ProjQkvIdeal.main_arg1)) →
    ∃ (v0 : (c : Dev Cert.ProjQkvIdeal.nD) → Buf (Elt Ideal) ((c.tc : Thread Cert.ProjQkvIdeal.nD Cert.ProjQkvIdeal.τ).loc Cert.ProjQkvIdeal.main_v0)),
      θ_run (Cert.ProjQkvIdeal.defs (F := Ideal)) (onTc (τ := Cert.ProjQkvIdeal.τ) (Cert.ProjQkvIdeal.main (F := Ideal))) ⟨m, fun _ => 0, g⟩ (fun r => ∀ c : Dev Cert.ProjQkvIdeal.nD,
          r.2.mem ((c.tc : Thread Cert.ProjQkvIdeal.nD Cert.ProjQkvIdeal.τ).loc Cert.ProjQkvIdeal.main_v0) = v0 c
          ∧ r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
          ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1))
      ∧ θ_run (Cert.ProjQkvReferenceIdeal.defs (F := Ideal)) (onTc (τ := Cert.ProjQkvReferenceIdeal.τ) (Cert.ProjQkvReferenceIdeal.main (F := Ideal))) ⟨m', fun _ => 0, g'⟩ (fun r => ∀ c : Dev Cert.ProjQkvReferenceIdeal.nD,
          r.2.mem ((c.tc : Thread Cert.ProjQkvReferenceIdeal.nD Cert.ProjQkvReferenceIdeal.τ).loc Cert.ProjQkvReferenceIdeal.main_v4) = v0 c
          ∧ r.2.mem ((c.tc : Thread Cert.ProjQkvReferenceIdeal.nD Cert.ProjQkvReferenceIdeal.τ).loc Cert.ProjQkvReferenceIdeal.main_arg0) = m' ((c.tc : Thread Cert.ProjQkvReferenceIdeal.nD Cert.ProjQkvReferenceIdeal.τ).loc Cert.ProjQkvReferenceIdeal.main_arg0)
          ∧ r.2.mem ((c.tc : Thread Cert.ProjQkvReferenceIdeal.nD Cert.ProjQkvReferenceIdeal.τ).loc Cert.ProjQkvReferenceIdeal.main_arg1) = m' ((c.tc : Thread Cert.ProjQkvReferenceIdeal.nD Cert.ProjQkvReferenceIdeal.τ).loc Cert.ProjQkvReferenceIdeal.main_arg1))

def preserves_ProjMix_ProjMixIdeal : Prop :=
  True

def algebraic_ProjMixIdeal_ProjMixReferenceIdeal [hProjMixIdeal : Cert.ProjMixIdeal.Facts] [hProjMixReferenceIdeal : Cert.ProjMixReferenceIdeal.Facts] : Prop :=
  ∀ (m : (ℓ : Loc Cert.ProjMixIdeal.nD Cert.ProjMixIdeal.τ Cert.ProjMixIdeal.sig) → Buf (Elt Ideal) ℓ) (g : Dev Cert.ProjMixIdeal.nD → PrngReg)
    (m' : (ℓ : Loc Cert.ProjMixReferenceIdeal.nD Cert.ProjMixReferenceIdeal.τ Cert.ProjMixReferenceIdeal.sig) → Buf (Elt Ideal) ℓ) (g' : Dev Cert.ProjMixReferenceIdeal.nD → PrngReg), Pre_ProjMixIdeal m →
    (∀ c : Dev Cert.ProjMixIdeal.nD,
      m' ((c.tc : Thread Cert.ProjMixReferenceIdeal.nD Cert.ProjMixReferenceIdeal.τ).loc Cert.ProjMixReferenceIdeal.main_arg0) = m ((c.tc : Thread Cert.ProjMixIdeal.nD Cert.ProjMixIdeal.τ).loc Cert.ProjMixIdeal.main_arg0)
      ∧ m' ((c.tc : Thread Cert.ProjMixReferenceIdeal.nD Cert.ProjMixReferenceIdeal.τ).loc Cert.ProjMixReferenceIdeal.main_arg1) = m ((c.tc : Thread Cert.ProjMixIdeal.nD Cert.ProjMixIdeal.τ).loc Cert.ProjMixIdeal.main_arg1)) →
    ∃ (v0 : (c : Dev Cert.ProjMixIdeal.nD) → Buf (Elt Ideal) ((c.tc : Thread Cert.ProjMixIdeal.nD Cert.ProjMixIdeal.τ).loc Cert.ProjMixIdeal.main_v0)),
      θ_run (Cert.ProjMixIdeal.defs (F := Ideal)) (onTc (τ := Cert.ProjMixIdeal.τ) (Cert.ProjMixIdeal.main (F := Ideal))) ⟨m, fun _ => 0, g⟩ (fun r => ∀ c : Dev Cert.ProjMixIdeal.nD,
          r.2.mem ((c.tc : Thread Cert.ProjMixIdeal.nD Cert.ProjMixIdeal.τ).loc Cert.ProjMixIdeal.main_v0) = v0 c
          ∧ r.2.mem ((c.tc : Thread Cert.ProjMixIdeal.nD Cert.ProjMixIdeal.τ).loc Cert.ProjMixIdeal.main_arg0) = m ((c.tc : Thread Cert.ProjMixIdeal.nD Cert.ProjMixIdeal.τ).loc Cert.ProjMixIdeal.main_arg0)
          ∧ r.2.mem ((c.tc : Thread Cert.ProjMixIdeal.nD Cert.ProjMixIdeal.τ).loc Cert.ProjMixIdeal.main_arg1) = m ((c.tc : Thread Cert.ProjMixIdeal.nD Cert.ProjMixIdeal.τ).loc Cert.ProjMixIdeal.main_arg1))
      ∧ θ_run (Cert.ProjMixReferenceIdeal.defs (F := Ideal)) (onTc (τ := Cert.ProjMixReferenceIdeal.τ) (Cert.ProjMixReferenceIdeal.main (F := Ideal))) ⟨m', fun _ => 0, g'⟩ (fun r => ∀ c : Dev Cert.ProjMixReferenceIdeal.nD,
          r.2.mem ((c.tc : Thread Cert.ProjMixReferenceIdeal.nD Cert.ProjMixReferenceIdeal.τ).loc Cert.ProjMixReferenceIdeal.main_v3) = v0 c
          ∧ r.2.mem ((c.tc : Thread Cert.ProjMixReferenceIdeal.nD Cert.ProjMixReferenceIdeal.τ).loc Cert.ProjMixReferenceIdeal.main_arg0) = m' ((c.tc : Thread Cert.ProjMixReferenceIdeal.nD Cert.ProjMixReferenceIdeal.τ).loc Cert.ProjMixReferenceIdeal.main_arg0)
          ∧ r.2.mem ((c.tc : Thread Cert.ProjMixReferenceIdeal.nD Cert.ProjMixReferenceIdeal.τ).loc Cert.ProjMixReferenceIdeal.main_arg1) = m' ((c.tc : Thread Cert.ProjMixReferenceIdeal.nD Cert.ProjMixReferenceIdeal.τ).loc Cert.ProjMixReferenceIdeal.main_arg1))

def preserves_ProjGates_ProjGatesIdeal : Prop :=
  True

def algebraic_ProjGatesIdeal_ProjGatesReferenceIdeal [hProjGatesIdeal : Cert.ProjGatesIdeal.Facts] [hProjGatesReferenceIdeal : Cert.ProjGatesReferenceIdeal.Facts] : Prop :=
  ∀ (m : (ℓ : Loc Cert.ProjGatesIdeal.nD Cert.ProjGatesIdeal.τ Cert.ProjGatesIdeal.sig) → Buf (Elt Ideal) ℓ) (g : Dev Cert.ProjGatesIdeal.nD → PrngReg)
    (m' : (ℓ : Loc Cert.ProjGatesReferenceIdeal.nD Cert.ProjGatesReferenceIdeal.τ Cert.ProjGatesReferenceIdeal.sig) → Buf (Elt Ideal) ℓ) (g' : Dev Cert.ProjGatesReferenceIdeal.nD → PrngReg), Pre_ProjGatesIdeal m →
    (∀ c : Dev Cert.ProjGatesIdeal.nD,
      m' ((c.tc : Thread Cert.ProjGatesReferenceIdeal.nD Cert.ProjGatesReferenceIdeal.τ).loc Cert.ProjGatesReferenceIdeal.main_arg0) = m ((c.tc : Thread Cert.ProjGatesIdeal.nD Cert.ProjGatesIdeal.τ).loc Cert.ProjGatesIdeal.main_arg0)
      ∧ m' ((c.tc : Thread Cert.ProjGatesReferenceIdeal.nD Cert.ProjGatesReferenceIdeal.τ).loc Cert.ProjGatesReferenceIdeal.main_arg1) = m ((c.tc : Thread Cert.ProjGatesIdeal.nD Cert.ProjGatesIdeal.τ).loc Cert.ProjGatesIdeal.main_arg1)) →
    ∃ (v0 : (c : Dev Cert.ProjGatesIdeal.nD) → Buf (Elt Ideal) ((c.tc : Thread Cert.ProjGatesIdeal.nD Cert.ProjGatesIdeal.τ).loc Cert.ProjGatesIdeal.main_v0)),
      θ_run (Cert.ProjGatesIdeal.defs (F := Ideal)) (onTc (τ := Cert.ProjGatesIdeal.τ) (Cert.ProjGatesIdeal.main (F := Ideal))) ⟨m, fun _ => 0, g⟩ (fun r => ∀ c : Dev Cert.ProjGatesIdeal.nD,
          r.2.mem ((c.tc : Thread Cert.ProjGatesIdeal.nD Cert.ProjGatesIdeal.τ).loc Cert.ProjGatesIdeal.main_v0) = v0 c
          ∧ r.2.mem ((c.tc : Thread Cert.ProjGatesIdeal.nD Cert.ProjGatesIdeal.τ).loc Cert.ProjGatesIdeal.main_arg0) = m ((c.tc : Thread Cert.ProjGatesIdeal.nD Cert.ProjGatesIdeal.τ).loc Cert.ProjGatesIdeal.main_arg0)
          ∧ r.2.mem ((c.tc : Thread Cert.ProjGatesIdeal.nD Cert.ProjGatesIdeal.τ).loc Cert.ProjGatesIdeal.main_arg1) = m ((c.tc : Thread Cert.ProjGatesIdeal.nD Cert.ProjGatesIdeal.τ).loc Cert.ProjGatesIdeal.main_arg1))
      ∧ θ_run (Cert.ProjGatesReferenceIdeal.defs (F := Ideal)) (onTc (τ := Cert.ProjGatesReferenceIdeal.τ) (Cert.ProjGatesReferenceIdeal.main (F := Ideal))) ⟨m', fun _ => 0, g'⟩ (fun r => ∀ c : Dev Cert.ProjGatesReferenceIdeal.nD,
          r.2.mem ((c.tc : Thread Cert.ProjGatesReferenceIdeal.nD Cert.ProjGatesReferenceIdeal.τ).loc Cert.ProjGatesReferenceIdeal.main_v4) = v0 c
          ∧ r.2.mem ((c.tc : Thread Cert.ProjGatesReferenceIdeal.nD Cert.ProjGatesReferenceIdeal.τ).loc Cert.ProjGatesReferenceIdeal.main_arg0) = m' ((c.tc : Thread Cert.ProjGatesReferenceIdeal.nD Cert.ProjGatesReferenceIdeal.τ).loc Cert.ProjGatesReferenceIdeal.main_arg0)
          ∧ r.2.mem ((c.tc : Thread Cert.ProjGatesReferenceIdeal.nD Cert.ProjGatesReferenceIdeal.τ).loc Cert.ProjGatesReferenceIdeal.main_arg1) = m' ((c.tc : Thread Cert.ProjGatesReferenceIdeal.nD Cert.ProjGatesReferenceIdeal.τ).loc Cert.ProjGatesReferenceIdeal.main_arg1))

def preserves_ProjDx_ProjDxIdeal : Prop :=
  True

def algebraic_ProjDxIdeal_ProjDxReferenceIdeal [hProjDxIdeal : Cert.ProjDxIdeal.Facts] [hProjDxReferenceIdeal : Cert.ProjDxReferenceIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg)
    (m' : (ℓ : Loc Cert.ProjDxReferenceIdeal.nD Cert.ProjDxReferenceIdeal.τ Cert.ProjDxReferenceIdeal.sig) → Buf (Elt Ideal) ℓ) (g' : Dev Cert.ProjDxReferenceIdeal.nD → PrngReg), Pre_ProjDxIdeal m →
    (∀ c : Dev Cert.ProjDxIdeal.nD,
      m' ((c.tc : Thread Cert.ProjDxReferenceIdeal.nD Cert.ProjDxReferenceIdeal.τ).loc Cert.ProjDxReferenceIdeal.main_arg0) = m ((c.tc : Thread Cert.ProjDxIdeal.nD Cert.ProjDxIdeal.τ).loc Cert.ProjDxIdeal.main_arg0)
      ∧ m' ((c.tc : Thread Cert.ProjDxReferenceIdeal.nD Cert.ProjDxReferenceIdeal.τ).loc Cert.ProjDxReferenceIdeal.main_arg1) = m ((c.tc : Thread Cert.ProjDxIdeal.nD Cert.ProjDxIdeal.τ).loc Cert.ProjDxIdeal.main_arg1)
      ∧ m' ((c.tc : Thread Cert.ProjDxReferenceIdeal.nD Cert.ProjDxReferenceIdeal.τ).loc Cert.ProjDxReferenceIdeal.main_arg2) = m ((c.tc : Thread Cert.ProjDxIdeal.nD Cert.ProjDxIdeal.τ).loc Cert.ProjDxIdeal.main_arg2)) →
    ∃ (v0 : (c : Dev Cert.ProjDxIdeal.nD) → Buf (Elt Ideal) ((c.tc : Thread Cert.ProjDxIdeal.nD Cert.ProjDxIdeal.τ).loc Cert.ProjDxIdeal.main_v0)),
      θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
          r.2.mem ((c.tc : Thread Cert.ProjDxIdeal.nD Cert.ProjDxIdeal.τ).loc Cert.ProjDxIdeal.main_v0) = v0 c
          ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
          ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1)
          ∧ r.2.mem ((c.tc : Thread Cert.ProjDxIdeal.nD Cert.ProjDxIdeal.τ).loc Cert.ProjDxIdeal.main_arg2) = m ((c.tc : Thread Cert.ProjDxIdeal.nD Cert.ProjDxIdeal.τ).loc Cert.ProjDxIdeal.main_arg2))
      ∧ θ_run (Cert.ProjDxReferenceIdeal.defs (F := Ideal)) (onTc (τ := Cert.ProjDxReferenceIdeal.τ) (Cert.ProjDxReferenceIdeal.main (F := Ideal))) ⟨m', fun _ => 0, g'⟩ (fun r => ∀ c : Dev Cert.ProjDxReferenceIdeal.nD,
          r.2.mem ((c.tc : Thread Cert.ProjDxReferenceIdeal.nD Cert.ProjDxReferenceIdeal.τ).loc Cert.ProjDxReferenceIdeal.main_v6) = v0 c
          ∧ r.2.mem ((c.tc : Thread Cert.ProjDxReferenceIdeal.nD Cert.ProjDxReferenceIdeal.τ).loc Cert.ProjDxReferenceIdeal.main_arg0) = m' ((c.tc : Thread Cert.ProjDxReferenceIdeal.nD Cert.ProjDxReferenceIdeal.τ).loc Cert.ProjDxReferenceIdeal.main_arg0)
          ∧ r.2.mem ((c.tc : Thread Cert.ProjDxReferenceIdeal.nD Cert.ProjDxReferenceIdeal.τ).loc Cert.ProjDxReferenceIdeal.main_arg1) = m' ((c.tc : Thread Cert.ProjDxReferenceIdeal.nD Cert.ProjDxReferenceIdeal.τ).loc Cert.ProjDxReferenceIdeal.main_arg1)
          ∧ r.2.mem ((c.tc : Thread Cert.ProjDxReferenceIdeal.nD Cert.ProjDxReferenceIdeal.τ).loc Cert.ProjDxReferenceIdeal.main_arg2) = m' ((c.tc : Thread Cert.ProjDxReferenceIdeal.nD Cert.ProjDxReferenceIdeal.τ).loc Cert.ProjDxReferenceIdeal.main_arg2))

def preserves_ProjDw_ProjDwIdeal : Prop :=
  True

def algebraic_ProjDwIdeal_ProjDwReferenceIdeal [hProjDwIdeal : Cert.ProjDwIdeal.Facts] [hProjDwReferenceIdeal : Cert.ProjDwReferenceIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwReferenceIdeal.nD Cert.ProjDwReferenceIdeal.τ Cert.ProjDwReferenceIdeal.sig) → Buf (Elt Ideal) ℓ) (g' : Dev Cert.ProjDwReferenceIdeal.nD → PrngReg), Pre_ProjDwIdeal m →
    (∀ c : Dev Cert.ProjDwIdeal.nD,
      m' ((c.tc : Thread Cert.ProjDwReferenceIdeal.nD Cert.ProjDwReferenceIdeal.τ).loc Cert.ProjDwReferenceIdeal.main_arg0) = m ((c.tc : Thread Cert.ProjDwIdeal.nD Cert.ProjDwIdeal.τ).loc Cert.ProjDwIdeal.main_arg0)
      ∧ m' ((c.tc : Thread Cert.ProjDwReferenceIdeal.nD Cert.ProjDwReferenceIdeal.τ).loc Cert.ProjDwReferenceIdeal.main_arg1) = m ((c.tc : Thread Cert.ProjDwIdeal.nD Cert.ProjDwIdeal.τ).loc Cert.ProjDwIdeal.main_arg1)
      ∧ m' ((c.tc : Thread Cert.ProjDwReferenceIdeal.nD Cert.ProjDwReferenceIdeal.τ).loc Cert.ProjDwReferenceIdeal.main_arg2) = m ((c.tc : Thread Cert.ProjDwIdeal.nD Cert.ProjDwIdeal.τ).loc Cert.ProjDwIdeal.main_arg2)) →
    ∃ (v0 : (c : Dev Cert.ProjDwIdeal.nD) → Buf (Elt Ideal) ((c.tc : Thread Cert.ProjDwIdeal.nD Cert.ProjDwIdeal.τ).loc Cert.ProjDwIdeal.main_v0)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v0) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1)
          ∧ r.2.mem ((c.tc : Thread Cert.ProjDwIdeal.nD Cert.ProjDwIdeal.τ).loc Cert.ProjDwIdeal.main_arg2) = m ((c.tc : Thread Cert.ProjDwIdeal.nD Cert.ProjDwIdeal.τ).loc Cert.ProjDwIdeal.main_arg2))
      ∧ θ_run (Cert.ProjDwReferenceIdeal.defs (F := Ideal)) (onTc (τ := Cert.ProjDwReferenceIdeal.τ) (Cert.ProjDwReferenceIdeal.main (F := Ideal))) ⟨m', fun _ => 0, g'⟩ (fun r => ∀ c : Dev Cert.ProjDwReferenceIdeal.nD,
          r.2.mem ((c.tc : Thread Cert.ProjDwReferenceIdeal.nD Cert.ProjDwReferenceIdeal.τ).loc Cert.ProjDwReferenceIdeal.main_v5) = v0 c
          ∧ r.2.mem ((c.tc : Thread Cert.ProjDwReferenceIdeal.nD Cert.ProjDwReferenceIdeal.τ).loc Cert.ProjDwReferenceIdeal.main_arg0) = m' ((c.tc : Thread Cert.ProjDwReferenceIdeal.nD Cert.ProjDwReferenceIdeal.τ).loc Cert.ProjDwReferenceIdeal.main_arg0)
          ∧ r.2.mem ((c.tc : Thread Cert.ProjDwReferenceIdeal.nD Cert.ProjDwReferenceIdeal.τ).loc Cert.ProjDwReferenceIdeal.main_arg1) = m' ((c.tc : Thread Cert.ProjDwReferenceIdeal.nD Cert.ProjDwReferenceIdeal.τ).loc Cert.ProjDwReferenceIdeal.main_arg1)
          ∧ r.2.mem ((c.tc : Thread Cert.ProjDwReferenceIdeal.nD Cert.ProjDwReferenceIdeal.τ).loc Cert.ProjDwReferenceIdeal.main_arg2) = m' ((c.tc : Thread Cert.ProjDwReferenceIdeal.nD Cert.ProjDwReferenceIdeal.τ).loc Cert.ProjDwReferenceIdeal.main_arg2))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v2) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1))

def preserves_OutProjDx_OutProjDxIdeal : Prop :=
  True

def algebraic_OutProjDxIdeal_OutProjDxReferenceIdeal [hOutProjDxIdeal : Cert.OutProjDxIdeal.Facts] [hOutProjDxReferenceIdeal : Cert.OutProjDxReferenceIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg)
    (m' : (ℓ : Loc Cert.OutProjDxReferenceIdeal.nD Cert.OutProjDxReferenceIdeal.τ Cert.OutProjDxReferenceIdeal.sig) → Buf (Elt Ideal) ℓ) (g' : Dev Cert.OutProjDxReferenceIdeal.nD → PrngReg), Pre_OutProjDxIdeal m →
    (∀ c : Dev Cert.OutProjDxIdeal.nD,
      m' ((c.tc : Thread Cert.OutProjDxReferenceIdeal.nD Cert.OutProjDxReferenceIdeal.τ).loc Cert.OutProjDxReferenceIdeal.main_arg0) = m ((c.tc : Thread Cert.OutProjDxIdeal.nD Cert.OutProjDxIdeal.τ).loc Cert.OutProjDxIdeal.main_arg0)
      ∧ m' ((c.tc : Thread Cert.OutProjDxReferenceIdeal.nD Cert.OutProjDxReferenceIdeal.τ).loc Cert.OutProjDxReferenceIdeal.main_arg1) = m ((c.tc : Thread Cert.OutProjDxIdeal.nD Cert.OutProjDxIdeal.τ).loc Cert.OutProjDxIdeal.main_arg1)
      ∧ m' ((c.tc : Thread Cert.OutProjDxReferenceIdeal.nD Cert.OutProjDxReferenceIdeal.τ).loc Cert.OutProjDxReferenceIdeal.main_arg2) = m ((c.tc : Thread Cert.OutProjDxIdeal.nD Cert.OutProjDxIdeal.τ).loc Cert.OutProjDxIdeal.main_arg2)) →
    ∃ (v0 : (c : Dev Cert.OutProjDxIdeal.nD) → Buf (Elt Ideal) ((c.tc : Thread Cert.OutProjDxIdeal.nD Cert.OutProjDxIdeal.τ).loc Cert.OutProjDxIdeal.main_v0)),
      θ_run (Cert.OutProjDxIdeal.defs (F := Ideal)) (onTc (τ := Cert.OutProjDxIdeal.τ) (Cert.OutProjDxIdeal.main (F := Ideal))) ⟨m, fun _ => 0, g⟩ (fun r => ∀ c : Dev Cert.OutProjDxIdeal.nD,
          r.2.mem ((c.tc : Thread Cert.OutProjDxIdeal.nD Cert.OutProjDxIdeal.τ).loc Cert.OutProjDxIdeal.main_v0) = v0 c
          ∧ r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
          ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1)
          ∧ r.2.mem ((c.tc : Thread Cert.OutProjDxIdeal.nD Cert.OutProjDxIdeal.τ).loc Cert.OutProjDxIdeal.main_arg2) = m ((c.tc : Thread Cert.OutProjDxIdeal.nD Cert.OutProjDxIdeal.τ).loc Cert.OutProjDxIdeal.main_arg2))
      ∧ θ_run (Cert.OutProjDxReferenceIdeal.defs (F := Ideal)) (onTc (τ := Cert.OutProjDxReferenceIdeal.τ) (Cert.OutProjDxReferenceIdeal.main (F := Ideal))) ⟨m', fun _ => 0, g'⟩ (fun r => ∀ c : Dev Cert.OutProjDxReferenceIdeal.nD,
          r.2.mem ((c.tc : Thread Cert.OutProjDxReferenceIdeal.nD Cert.OutProjDxReferenceIdeal.τ).loc Cert.OutProjDxReferenceIdeal.main_v7) = v0 c
          ∧ r.2.mem ((c.tc : Thread Cert.OutProjDxReferenceIdeal.nD Cert.OutProjDxReferenceIdeal.τ).loc Cert.OutProjDxReferenceIdeal.main_arg0) = m' ((c.tc : Thread Cert.OutProjDxReferenceIdeal.nD Cert.OutProjDxReferenceIdeal.τ).loc Cert.OutProjDxReferenceIdeal.main_arg0)
          ∧ r.2.mem ((c.tc : Thread Cert.OutProjDxReferenceIdeal.nD Cert.OutProjDxReferenceIdeal.τ).loc Cert.OutProjDxReferenceIdeal.main_arg1) = m' ((c.tc : Thread Cert.OutProjDxReferenceIdeal.nD Cert.OutProjDxReferenceIdeal.τ).loc Cert.OutProjDxReferenceIdeal.main_arg1)
          ∧ r.2.mem ((c.tc : Thread Cert.OutProjDxReferenceIdeal.nD Cert.OutProjDxReferenceIdeal.τ).loc Cert.OutProjDxReferenceIdeal.main_arg2) = m' ((c.tc : Thread Cert.OutProjDxReferenceIdeal.nD Cert.OutProjDxReferenceIdeal.τ).loc Cert.OutProjDxReferenceIdeal.main_arg2))

def preserves_OutProjDw_OutProjDwIdeal : Prop :=
  True

def algebraic_OutProjDwIdeal_OutProjDwReferenceIdeal [hOutProjDwIdeal : Cert.OutProjDwIdeal.Facts] [hOutProjDwReferenceIdeal : Cert.OutProjDwReferenceIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg)
    (m' : (ℓ : Loc Cert.OutProjDwReferenceIdeal.nD Cert.OutProjDwReferenceIdeal.τ Cert.OutProjDwReferenceIdeal.sig) → Buf (Elt Ideal) ℓ) (g' : Dev Cert.OutProjDwReferenceIdeal.nD → PrngReg), Pre_OutProjDwIdeal m →
    (∀ c : Dev Cert.OutProjDwIdeal.nD,
      m' ((c.tc : Thread Cert.OutProjDwReferenceIdeal.nD Cert.OutProjDwReferenceIdeal.τ).loc Cert.OutProjDwReferenceIdeal.main_arg0) = m ((c.tc : Thread Cert.OutProjDwIdeal.nD Cert.OutProjDwIdeal.τ).loc Cert.OutProjDwIdeal.main_arg0)
      ∧ m' ((c.tc : Thread Cert.OutProjDwReferenceIdeal.nD Cert.OutProjDwReferenceIdeal.τ).loc Cert.OutProjDwReferenceIdeal.main_arg1) = m ((c.tc : Thread Cert.OutProjDwIdeal.nD Cert.OutProjDwIdeal.τ).loc Cert.OutProjDwIdeal.main_arg1)
      ∧ m' ((c.tc : Thread Cert.OutProjDwReferenceIdeal.nD Cert.OutProjDwReferenceIdeal.τ).loc Cert.OutProjDwReferenceIdeal.main_arg2) = m ((c.tc : Thread Cert.OutProjDwIdeal.nD Cert.OutProjDwIdeal.τ).loc Cert.OutProjDwIdeal.main_arg2)) →
    ∃ (v0 : (c : Dev Cert.OutProjDwIdeal.nD) → Buf (Elt Ideal) ((c.tc : Thread Cert.OutProjDwIdeal.nD Cert.OutProjDwIdeal.τ).loc Cert.OutProjDwIdeal.main_v0)),
      θ_run (Cert.OutProjDwIdeal.defs (F := Ideal)) (onTc (τ := Cert.OutProjDwIdeal.τ) (Cert.OutProjDwIdeal.main (F := Ideal))) ⟨m, fun _ => 0, g⟩ (fun r => ∀ c : Dev Cert.OutProjDwIdeal.nD,
          r.2.mem ((c.tc : Thread Cert.OutProjDwIdeal.nD Cert.OutProjDwIdeal.τ).loc Cert.OutProjDwIdeal.main_v0) = v0 c
          ∧ r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
          ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1)
          ∧ r.2.mem ((c.tc : Thread Cert.OutProjDwIdeal.nD Cert.OutProjDwIdeal.τ).loc Cert.OutProjDwIdeal.main_arg2) = m ((c.tc : Thread Cert.OutProjDwIdeal.nD Cert.OutProjDwIdeal.τ).loc Cert.OutProjDwIdeal.main_arg2))
      ∧ θ_run (Cert.OutProjDwReferenceIdeal.defs (F := Ideal)) (onTc (τ := Cert.OutProjDwReferenceIdeal.τ) (Cert.OutProjDwReferenceIdeal.main (F := Ideal))) ⟨m', fun _ => 0, g'⟩ (fun r => ∀ c : Dev Cert.OutProjDwReferenceIdeal.nD,
          r.2.mem ((c.tc : Thread Cert.OutProjDwReferenceIdeal.nD Cert.OutProjDwReferenceIdeal.τ).loc Cert.OutProjDwReferenceIdeal.main_v5) = v0 c
          ∧ r.2.mem ((c.tc : Thread Cert.OutProjDwReferenceIdeal.nD Cert.OutProjDwReferenceIdeal.τ).loc Cert.OutProjDwReferenceIdeal.main_arg0) = m' ((c.tc : Thread Cert.OutProjDwReferenceIdeal.nD Cert.OutProjDwReferenceIdeal.τ).loc Cert.OutProjDwReferenceIdeal.main_arg0)
          ∧ r.2.mem ((c.tc : Thread Cert.OutProjDwReferenceIdeal.nD Cert.OutProjDwReferenceIdeal.τ).loc Cert.OutProjDwReferenceIdeal.main_arg1) = m' ((c.tc : Thread Cert.OutProjDwReferenceIdeal.nD Cert.OutProjDwReferenceIdeal.τ).loc Cert.OutProjDwReferenceIdeal.main_arg1)
          ∧ r.2.mem ((c.tc : Thread Cert.OutProjDwReferenceIdeal.nD Cert.OutProjDwReferenceIdeal.τ).loc Cert.OutProjDwReferenceIdeal.main_arg2) = m' ((c.tc : Thread Cert.OutProjDwReferenceIdeal.nD Cert.OutProjDwReferenceIdeal.τ).loc Cert.OutProjDwReferenceIdeal.main_arg2))

def preserves_BrSb_BrSbIdeal : Prop :=
  True

def algebraic_BrSbIdeal_BrSbReferenceIdeal [hBrSbIdeal : Cert.BrSbIdeal.Facts] [hBrSbReferenceIdeal : Cert.BrSbReferenceIdeal.Facts] : Prop :=
  ∀ (m : (ℓ : Loc Cert.BrSbIdeal.nD Cert.BrSbIdeal.τ Cert.BrSbIdeal.sig) → Buf (Elt Ideal) ℓ) (g : Dev Cert.BrSbIdeal.nD → PrngReg)
    (m' : (ℓ : Loc Cert.BrSbReferenceIdeal.nD Cert.BrSbReferenceIdeal.τ Cert.BrSbReferenceIdeal.sig) → Buf (Elt Ideal) ℓ) (g' : Dev Cert.BrSbReferenceIdeal.nD → PrngReg), Pre_BrSbIdeal m →
    (∀ c : Dev Cert.BrSbIdeal.nD,
      m' ((c.tc : Thread Cert.BrSbReferenceIdeal.nD Cert.BrSbReferenceIdeal.τ).loc Cert.BrSbReferenceIdeal.main_arg0) = m ((c.tc : Thread Cert.BrSbIdeal.nD Cert.BrSbIdeal.τ).loc Cert.BrSbIdeal.main_arg0)
      ∧ m' ((c.tc : Thread Cert.BrSbReferenceIdeal.nD Cert.BrSbReferenceIdeal.τ).loc Cert.BrSbReferenceIdeal.main_arg1) = m ((c.tc : Thread Cert.BrSbIdeal.nD Cert.BrSbIdeal.τ).loc Cert.BrSbIdeal.main_arg1)) →
    ∃ (v0 : (c : Dev Cert.BrSbIdeal.nD) → Buf (Elt Ideal) ((c.tc : Thread Cert.BrSbIdeal.nD Cert.BrSbIdeal.τ).loc Cert.BrSbIdeal.main_v0)),
      θ_run (Cert.BrSbIdeal.defs (F := Ideal)) (onTc (τ := Cert.BrSbIdeal.τ) (Cert.BrSbIdeal.main (F := Ideal))) ⟨m, fun _ => 0, g⟩ (fun r => ∀ c : Dev Cert.BrSbIdeal.nD,
          r.2.mem ((c.tc : Thread Cert.BrSbIdeal.nD Cert.BrSbIdeal.τ).loc Cert.BrSbIdeal.main_v0) = v0 c
          ∧ r.2.mem ((c.tc : Thread Cert.BrSbIdeal.nD Cert.BrSbIdeal.τ).loc Cert.BrSbIdeal.main_arg0) = m ((c.tc : Thread Cert.BrSbIdeal.nD Cert.BrSbIdeal.τ).loc Cert.BrSbIdeal.main_arg0)
          ∧ r.2.mem ((c.tc : Thread Cert.BrSbIdeal.nD Cert.BrSbIdeal.τ).loc Cert.BrSbIdeal.main_arg1) = m ((c.tc : Thread Cert.BrSbIdeal.nD Cert.BrSbIdeal.τ).loc Cert.BrSbIdeal.main_arg1))
      ∧ θ_run (Cert.BrSbReferenceIdeal.defs (F := Ideal)) (onTc (τ := Cert.BrSbReferenceIdeal.τ) (Cert.BrSbReferenceIdeal.main (F := Ideal))) ⟨m', fun _ => 0, g'⟩ (fun r => ∀ c : Dev Cert.BrSbReferenceIdeal.nD,
          r.2.mem ((c.tc : Thread Cert.BrSbReferenceIdeal.nD Cert.BrSbReferenceIdeal.τ).loc Cert.BrSbReferenceIdeal.main_v3) = v0 c
          ∧ r.2.mem ((c.tc : Thread Cert.BrSbReferenceIdeal.nD Cert.BrSbReferenceIdeal.τ).loc Cert.BrSbReferenceIdeal.main_arg0) = m' ((c.tc : Thread Cert.BrSbReferenceIdeal.nD Cert.BrSbReferenceIdeal.τ).loc Cert.BrSbReferenceIdeal.main_arg0)
          ∧ r.2.mem ((c.tc : Thread Cert.BrSbReferenceIdeal.nD Cert.BrSbReferenceIdeal.τ).loc Cert.BrSbReferenceIdeal.main_arg1) = m' ((c.tc : Thread Cert.BrSbReferenceIdeal.nD Cert.BrSbReferenceIdeal.τ).loc Cert.BrSbReferenceIdeal.main_arg1))

def preserves_BrSbDx_BrSbDxIdeal : Prop :=
  True

def algebraic_BrSbDxIdeal_BrSbDxReferenceIdeal [hBrSbDxIdeal : Cert.BrSbDxIdeal.Facts] [hBrSbDxReferenceIdeal : Cert.BrSbDxReferenceIdeal.Facts] : Prop :=
  ∀ (m : (ℓ : Loc Cert.BrSbDxIdeal.nD Cert.BrSbDxIdeal.τ Cert.BrSbDxIdeal.sig) → Buf (Elt Ideal) ℓ) (g : Dev Cert.BrSbDxIdeal.nD → PrngReg)
    (m' : (ℓ : Loc Cert.BrSbDxReferenceIdeal.nD Cert.BrSbDxReferenceIdeal.τ Cert.BrSbDxReferenceIdeal.sig) → Buf (Elt Ideal) ℓ) (g' : Dev Cert.BrSbDxReferenceIdeal.nD → PrngReg), Pre_BrSbDxIdeal m →
    (∀ c : Dev Cert.BrSbDxIdeal.nD,
      m' ((c.tc : Thread Cert.BrSbDxReferenceIdeal.nD Cert.BrSbDxReferenceIdeal.τ).loc Cert.BrSbDxReferenceIdeal.main_arg0) = m ((c.tc : Thread Cert.BrSbDxIdeal.nD Cert.BrSbDxIdeal.τ).loc Cert.BrSbDxIdeal.main_arg0)
      ∧ m' ((c.tc : Thread Cert.BrSbDxReferenceIdeal.nD Cert.BrSbDxReferenceIdeal.τ).loc Cert.BrSbDxReferenceIdeal.main_arg1) = m ((c.tc : Thread Cert.BrSbDxIdeal.nD Cert.BrSbDxIdeal.τ).loc Cert.BrSbDxIdeal.main_arg1)
      ∧ m' ((c.tc : Thread Cert.BrSbDxReferenceIdeal.nD Cert.BrSbDxReferenceIdeal.τ).loc Cert.BrSbDxReferenceIdeal.main_arg2) = m ((c.tc : Thread Cert.BrSbDxIdeal.nD Cert.BrSbDxIdeal.τ).loc Cert.BrSbDxIdeal.main_arg2)) →
    ∃ (v0 : (c : Dev Cert.BrSbDxIdeal.nD) → Buf (Elt Ideal) ((c.tc : Thread Cert.BrSbDxIdeal.nD Cert.BrSbDxIdeal.τ).loc Cert.BrSbDxIdeal.main_v0)),
      θ_run (Cert.BrSbDxIdeal.defs (F := Ideal)) (onTc (τ := Cert.BrSbDxIdeal.τ) (Cert.BrSbDxIdeal.main (F := Ideal))) ⟨m, fun _ => 0, g⟩ (fun r => ∀ c : Dev Cert.BrSbDxIdeal.nD,
          r.2.mem ((c.tc : Thread Cert.BrSbDxIdeal.nD Cert.BrSbDxIdeal.τ).loc Cert.BrSbDxIdeal.main_v0) = v0 c
          ∧ r.2.mem ((c.tc : Thread Cert.BrSbDxIdeal.nD Cert.BrSbDxIdeal.τ).loc Cert.BrSbDxIdeal.main_arg0) = m ((c.tc : Thread Cert.BrSbDxIdeal.nD Cert.BrSbDxIdeal.τ).loc Cert.BrSbDxIdeal.main_arg0)
          ∧ r.2.mem ((c.tc : Thread Cert.BrSbDxIdeal.nD Cert.BrSbDxIdeal.τ).loc Cert.BrSbDxIdeal.main_arg1) = m ((c.tc : Thread Cert.BrSbDxIdeal.nD Cert.BrSbDxIdeal.τ).loc Cert.BrSbDxIdeal.main_arg1)
          ∧ r.2.mem ((c.tc : Thread Cert.BrSbDxIdeal.nD Cert.BrSbDxIdeal.τ).loc Cert.BrSbDxIdeal.main_arg2) = m ((c.tc : Thread Cert.BrSbDxIdeal.nD Cert.BrSbDxIdeal.τ).loc Cert.BrSbDxIdeal.main_arg2))
      ∧ θ_run (Cert.BrSbDxReferenceIdeal.defs (F := Ideal)) (onTc (τ := Cert.BrSbDxReferenceIdeal.τ) (Cert.BrSbDxReferenceIdeal.main (F := Ideal))) ⟨m', fun _ => 0, g'⟩ (fun r => ∀ c : Dev Cert.BrSbDxReferenceIdeal.nD,
          r.2.mem ((c.tc : Thread Cert.BrSbDxReferenceIdeal.nD Cert.BrSbDxReferenceIdeal.τ).loc Cert.BrSbDxReferenceIdeal.main_v7) = v0 c
          ∧ r.2.mem ((c.tc : Thread Cert.BrSbDxReferenceIdeal.nD Cert.BrSbDxReferenceIdeal.τ).loc Cert.BrSbDxReferenceIdeal.main_arg0) = m' ((c.tc : Thread Cert.BrSbDxReferenceIdeal.nD Cert.BrSbDxReferenceIdeal.τ).loc Cert.BrSbDxReferenceIdeal.main_arg0)
          ∧ r.2.mem ((c.tc : Thread Cert.BrSbDxReferenceIdeal.nD Cert.BrSbDxReferenceIdeal.τ).loc Cert.BrSbDxReferenceIdeal.main_arg1) = m' ((c.tc : Thread Cert.BrSbDxReferenceIdeal.nD Cert.BrSbDxReferenceIdeal.τ).loc Cert.BrSbDxReferenceIdeal.main_arg1)
          ∧ r.2.mem ((c.tc : Thread Cert.BrSbDxReferenceIdeal.nD Cert.BrSbDxReferenceIdeal.τ).loc Cert.BrSbDxReferenceIdeal.main_arg2) = m' ((c.tc : Thread Cert.BrSbDxReferenceIdeal.nD Cert.BrSbDxReferenceIdeal.τ).loc Cert.BrSbDxReferenceIdeal.main_arg2))

def preserves_BrSbDw_BrSbDwIdeal : Prop :=
  True

def algebraic_BrSbDwIdeal_BrSbDwReferenceIdeal [hBrSbDwIdeal : Cert.BrSbDwIdeal.Facts] [hBrSbDwReferenceIdeal : Cert.BrSbDwReferenceIdeal.Facts] : Prop :=
  ∀ (m : (ℓ : Loc Cert.BrSbDwIdeal.nD Cert.BrSbDwIdeal.τ Cert.BrSbDwIdeal.sig) → Buf (Elt Ideal) ℓ) (g : Dev Cert.BrSbDwIdeal.nD → PrngReg)
    (m' : (ℓ : Loc Cert.BrSbDwReferenceIdeal.nD Cert.BrSbDwReferenceIdeal.τ Cert.BrSbDwReferenceIdeal.sig) → Buf (Elt Ideal) ℓ) (g' : Dev Cert.BrSbDwReferenceIdeal.nD → PrngReg), Pre_BrSbDwIdeal m →
    (∀ c : Dev Cert.BrSbDwIdeal.nD,
      m' ((c.tc : Thread Cert.BrSbDwReferenceIdeal.nD Cert.BrSbDwReferenceIdeal.τ).loc Cert.BrSbDwReferenceIdeal.main_arg0) = m ((c.tc : Thread Cert.BrSbDwIdeal.nD Cert.BrSbDwIdeal.τ).loc Cert.BrSbDwIdeal.main_arg0)
      ∧ m' ((c.tc : Thread Cert.BrSbDwReferenceIdeal.nD Cert.BrSbDwReferenceIdeal.τ).loc Cert.BrSbDwReferenceIdeal.main_arg1) = m ((c.tc : Thread Cert.BrSbDwIdeal.nD Cert.BrSbDwIdeal.τ).loc Cert.BrSbDwIdeal.main_arg1)
      ∧ m' ((c.tc : Thread Cert.BrSbDwReferenceIdeal.nD Cert.BrSbDwReferenceIdeal.τ).loc Cert.BrSbDwReferenceIdeal.main_arg2) = m ((c.tc : Thread Cert.BrSbDwIdeal.nD Cert.BrSbDwIdeal.τ).loc Cert.BrSbDwIdeal.main_arg2)) →
    ∃ (v0 : (c : Dev Cert.BrSbDwIdeal.nD) → Buf (Elt Ideal) ((c.tc : Thread Cert.BrSbDwIdeal.nD Cert.BrSbDwIdeal.τ).loc Cert.BrSbDwIdeal.main_v0)),
      θ_run (Cert.BrSbDwIdeal.defs (F := Ideal)) (onTc (τ := Cert.BrSbDwIdeal.τ) (Cert.BrSbDwIdeal.main (F := Ideal))) ⟨m, fun _ => 0, g⟩ (fun r => ∀ c : Dev Cert.BrSbDwIdeal.nD,
          r.2.mem ((c.tc : Thread Cert.BrSbDwIdeal.nD Cert.BrSbDwIdeal.τ).loc Cert.BrSbDwIdeal.main_v0) = v0 c
          ∧ r.2.mem ((c.tc : Thread Cert.BrSbDwIdeal.nD Cert.BrSbDwIdeal.τ).loc Cert.BrSbDwIdeal.main_arg0) = m ((c.tc : Thread Cert.BrSbDwIdeal.nD Cert.BrSbDwIdeal.τ).loc Cert.BrSbDwIdeal.main_arg0)
          ∧ r.2.mem ((c.tc : Thread Cert.BrSbDwIdeal.nD Cert.BrSbDwIdeal.τ).loc Cert.BrSbDwIdeal.main_arg1) = m ((c.tc : Thread Cert.BrSbDwIdeal.nD Cert.BrSbDwIdeal.τ).loc Cert.BrSbDwIdeal.main_arg1)
          ∧ r.2.mem ((c.tc : Thread Cert.BrSbDwIdeal.nD Cert.BrSbDwIdeal.τ).loc Cert.BrSbDwIdeal.main_arg2) = m ((c.tc : Thread Cert.BrSbDwIdeal.nD Cert.BrSbDwIdeal.τ).loc Cert.BrSbDwIdeal.main_arg2))
      ∧ θ_run (Cert.BrSbDwReferenceIdeal.defs (F := Ideal)) (onTc (τ := Cert.BrSbDwReferenceIdeal.τ) (Cert.BrSbDwReferenceIdeal.main (F := Ideal))) ⟨m', fun _ => 0, g'⟩ (fun r => ∀ c : Dev Cert.BrSbDwReferenceIdeal.nD,
          r.2.mem ((c.tc : Thread Cert.BrSbDwReferenceIdeal.nD Cert.BrSbDwReferenceIdeal.τ).loc Cert.BrSbDwReferenceIdeal.main_v5) = v0 c
          ∧ r.2.mem ((c.tc : Thread Cert.BrSbDwReferenceIdeal.nD Cert.BrSbDwReferenceIdeal.τ).loc Cert.BrSbDwReferenceIdeal.main_arg0) = m' ((c.tc : Thread Cert.BrSbDwReferenceIdeal.nD Cert.BrSbDwReferenceIdeal.τ).loc Cert.BrSbDwReferenceIdeal.main_arg0)
          ∧ r.2.mem ((c.tc : Thread Cert.BrSbDwReferenceIdeal.nD Cert.BrSbDwReferenceIdeal.τ).loc Cert.BrSbDwReferenceIdeal.main_arg1) = m' ((c.tc : Thread Cert.BrSbDwReferenceIdeal.nD Cert.BrSbDwReferenceIdeal.τ).loc Cert.BrSbDwReferenceIdeal.main_arg1)
          ∧ r.2.mem ((c.tc : Thread Cert.BrSbDwReferenceIdeal.nD Cert.BrSbDwReferenceIdeal.τ).loc Cert.BrSbDwReferenceIdeal.main_arg2) = m' ((c.tc : Thread Cert.BrSbDwReferenceIdeal.nD Cert.BrSbDwReferenceIdeal.τ).loc Cert.BrSbDwReferenceIdeal.main_arg2))

def preserves_BrPool_BrPoolIdeal : Prop :=
  True

def algebraic_BrPoolIdeal_BrPoolReferenceIdeal [hBrPoolIdeal : Cert.BrPoolIdeal.Facts] [hBrPoolReferenceIdeal : Cert.BrPoolReferenceIdeal.Facts] : Prop :=
  ∀ (m : (ℓ : Loc Cert.BrPoolIdeal.nD Cert.BrPoolIdeal.τ Cert.BrPoolIdeal.sig) → Buf (Elt Ideal) ℓ) (g : Dev Cert.BrPoolIdeal.nD → PrngReg)
    (m' : (ℓ : Loc Cert.BrPoolReferenceIdeal.nD Cert.BrPoolReferenceIdeal.τ Cert.BrPoolReferenceIdeal.sig) → Buf (Elt Ideal) ℓ) (g' : Dev Cert.BrPoolReferenceIdeal.nD → PrngReg), Pre_BrPoolIdeal m →
    (∀ c : Dev Cert.BrPoolIdeal.nD,
      m' ((c.tc : Thread Cert.BrPoolReferenceIdeal.nD Cert.BrPoolReferenceIdeal.τ).loc Cert.BrPoolReferenceIdeal.main_arg0) = m ((c.tc : Thread Cert.BrPoolIdeal.nD Cert.BrPoolIdeal.τ).loc Cert.BrPoolIdeal.main_arg0)
      ∧ m' ((c.tc : Thread Cert.BrPoolReferenceIdeal.nD Cert.BrPoolReferenceIdeal.τ).loc Cert.BrPoolReferenceIdeal.main_arg1) = m ((c.tc : Thread Cert.BrPoolIdeal.nD Cert.BrPoolIdeal.τ).loc Cert.BrPoolIdeal.main_arg1)) →
    ∃ (v0 : (c : Dev Cert.BrPoolIdeal.nD) → Buf (Elt Ideal) ((c.tc : Thread Cert.BrPoolIdeal.nD Cert.BrPoolIdeal.τ).loc Cert.BrPoolIdeal.main_v0)),
      θ_run (Cert.BrPoolIdeal.defs (F := Ideal)) (onTc (τ := Cert.BrPoolIdeal.τ) (Cert.BrPoolIdeal.main (F := Ideal))) ⟨m, fun _ => 0, g⟩ (fun r => ∀ c : Dev Cert.BrPoolIdeal.nD,
          r.2.mem ((c.tc : Thread Cert.BrPoolIdeal.nD Cert.BrPoolIdeal.τ).loc Cert.BrPoolIdeal.main_v0) = v0 c
          ∧ r.2.mem ((c.tc : Thread Cert.BrPoolIdeal.nD Cert.BrPoolIdeal.τ).loc Cert.BrPoolIdeal.main_arg0) = m ((c.tc : Thread Cert.BrPoolIdeal.nD Cert.BrPoolIdeal.τ).loc Cert.BrPoolIdeal.main_arg0)
          ∧ r.2.mem ((c.tc : Thread Cert.BrPoolIdeal.nD Cert.BrPoolIdeal.τ).loc Cert.BrPoolIdeal.main_arg1) = m ((c.tc : Thread Cert.BrPoolIdeal.nD Cert.BrPoolIdeal.τ).loc Cert.BrPoolIdeal.main_arg1))
      ∧ θ_run (Cert.BrPoolReferenceIdeal.defs (F := Ideal)) (onTc (τ := Cert.BrPoolReferenceIdeal.τ) (Cert.BrPoolReferenceIdeal.main (F := Ideal))) ⟨m', fun _ => 0, g'⟩ (fun r => ∀ c : Dev Cert.BrPoolReferenceIdeal.nD,
          r.2.mem ((c.tc : Thread Cert.BrPoolReferenceIdeal.nD Cert.BrPoolReferenceIdeal.τ).loc Cert.BrPoolReferenceIdeal.main_v3) = v0 c
          ∧ r.2.mem ((c.tc : Thread Cert.BrPoolReferenceIdeal.nD Cert.BrPoolReferenceIdeal.τ).loc Cert.BrPoolReferenceIdeal.main_arg0) = m' ((c.tc : Thread Cert.BrPoolReferenceIdeal.nD Cert.BrPoolReferenceIdeal.τ).loc Cert.BrPoolReferenceIdeal.main_arg0)
          ∧ r.2.mem ((c.tc : Thread Cert.BrPoolReferenceIdeal.nD Cert.BrPoolReferenceIdeal.τ).loc Cert.BrPoolReferenceIdeal.main_arg1) = m' ((c.tc : Thread Cert.BrPoolReferenceIdeal.nD Cert.BrPoolReferenceIdeal.τ).loc Cert.BrPoolReferenceIdeal.main_arg1))

def preserves_BrPoolDx_BrPoolDxIdeal : Prop :=
  True

def algebraic_BrPoolDxIdeal_BrPoolDxReferenceIdeal [hBrPoolDxIdeal : Cert.BrPoolDxIdeal.Facts] [hBrPoolDxReferenceIdeal : Cert.BrPoolDxReferenceIdeal.Facts] : Prop :=
  ∀ (m : (ℓ : Loc Cert.BrPoolDxIdeal.nD Cert.BrPoolDxIdeal.τ Cert.BrPoolDxIdeal.sig) → Buf (Elt Ideal) ℓ) (g : Dev Cert.BrPoolDxIdeal.nD → PrngReg)
    (m' : (ℓ : Loc Cert.BrPoolDxReferenceIdeal.nD Cert.BrPoolDxReferenceIdeal.τ Cert.BrPoolDxReferenceIdeal.sig) → Buf (Elt Ideal) ℓ) (g' : Dev Cert.BrPoolDxReferenceIdeal.nD → PrngReg), Pre_BrPoolDxIdeal m →
    (∀ c : Dev Cert.BrPoolDxIdeal.nD,
      m' ((c.tc : Thread Cert.BrPoolDxReferenceIdeal.nD Cert.BrPoolDxReferenceIdeal.τ).loc Cert.BrPoolDxReferenceIdeal.main_arg0) = m ((c.tc : Thread Cert.BrPoolDxIdeal.nD Cert.BrPoolDxIdeal.τ).loc Cert.BrPoolDxIdeal.main_arg0)
      ∧ m' ((c.tc : Thread Cert.BrPoolDxReferenceIdeal.nD Cert.BrPoolDxReferenceIdeal.τ).loc Cert.BrPoolDxReferenceIdeal.main_arg1) = m ((c.tc : Thread Cert.BrPoolDxIdeal.nD Cert.BrPoolDxIdeal.τ).loc Cert.BrPoolDxIdeal.main_arg1)
      ∧ m' ((c.tc : Thread Cert.BrPoolDxReferenceIdeal.nD Cert.BrPoolDxReferenceIdeal.τ).loc Cert.BrPoolDxReferenceIdeal.main_arg2) = m ((c.tc : Thread Cert.BrPoolDxIdeal.nD Cert.BrPoolDxIdeal.τ).loc Cert.BrPoolDxIdeal.main_arg2)) →
    ∃ (v0 : (c : Dev Cert.BrPoolDxIdeal.nD) → Buf (Elt Ideal) ((c.tc : Thread Cert.BrPoolDxIdeal.nD Cert.BrPoolDxIdeal.τ).loc Cert.BrPoolDxIdeal.main_v0)),
      θ_run (Cert.BrPoolDxIdeal.defs (F := Ideal)) (onTc (τ := Cert.BrPoolDxIdeal.τ) (Cert.BrPoolDxIdeal.main (F := Ideal))) ⟨m, fun _ => 0, g⟩ (fun r => ∀ c : Dev Cert.BrPoolDxIdeal.nD,
          r.2.mem ((c.tc : Thread Cert.BrPoolDxIdeal.nD Cert.BrPoolDxIdeal.τ).loc Cert.BrPoolDxIdeal.main_v0) = v0 c
          ∧ r.2.mem ((c.tc : Thread Cert.BrPoolDxIdeal.nD Cert.BrPoolDxIdeal.τ).loc Cert.BrPoolDxIdeal.main_arg0) = m ((c.tc : Thread Cert.BrPoolDxIdeal.nD Cert.BrPoolDxIdeal.τ).loc Cert.BrPoolDxIdeal.main_arg0)
          ∧ r.2.mem ((c.tc : Thread Cert.BrPoolDxIdeal.nD Cert.BrPoolDxIdeal.τ).loc Cert.BrPoolDxIdeal.main_arg1) = m ((c.tc : Thread Cert.BrPoolDxIdeal.nD Cert.BrPoolDxIdeal.τ).loc Cert.BrPoolDxIdeal.main_arg1)
          ∧ r.2.mem ((c.tc : Thread Cert.BrPoolDxIdeal.nD Cert.BrPoolDxIdeal.τ).loc Cert.BrPoolDxIdeal.main_arg2) = m ((c.tc : Thread Cert.BrPoolDxIdeal.nD Cert.BrPoolDxIdeal.τ).loc Cert.BrPoolDxIdeal.main_arg2))
      ∧ θ_run (Cert.BrPoolDxReferenceIdeal.defs (F := Ideal)) (onTc (τ := Cert.BrPoolDxReferenceIdeal.τ) (Cert.BrPoolDxReferenceIdeal.main (F := Ideal))) ⟨m', fun _ => 0, g'⟩ (fun r => ∀ c : Dev Cert.BrPoolDxReferenceIdeal.nD,
          r.2.mem ((c.tc : Thread Cert.BrPoolDxReferenceIdeal.nD Cert.BrPoolDxReferenceIdeal.τ).loc Cert.BrPoolDxReferenceIdeal.main_v6) = v0 c
          ∧ r.2.mem ((c.tc : Thread Cert.BrPoolDxReferenceIdeal.nD Cert.BrPoolDxReferenceIdeal.τ).loc Cert.BrPoolDxReferenceIdeal.main_arg0) = m' ((c.tc : Thread Cert.BrPoolDxReferenceIdeal.nD Cert.BrPoolDxReferenceIdeal.τ).loc Cert.BrPoolDxReferenceIdeal.main_arg0)
          ∧ r.2.mem ((c.tc : Thread Cert.BrPoolDxReferenceIdeal.nD Cert.BrPoolDxReferenceIdeal.τ).loc Cert.BrPoolDxReferenceIdeal.main_arg1) = m' ((c.tc : Thread Cert.BrPoolDxReferenceIdeal.nD Cert.BrPoolDxReferenceIdeal.τ).loc Cert.BrPoolDxReferenceIdeal.main_arg1)
          ∧ r.2.mem ((c.tc : Thread Cert.BrPoolDxReferenceIdeal.nD Cert.BrPoolDxReferenceIdeal.τ).loc Cert.BrPoolDxReferenceIdeal.main_arg2) = m' ((c.tc : Thread Cert.BrPoolDxReferenceIdeal.nD Cert.BrPoolDxReferenceIdeal.τ).loc Cert.BrPoolDxReferenceIdeal.main_arg2))

def preserves_BrPoolDw_BrPoolDwIdeal : Prop :=
  True

def algebraic_BrPoolDwIdeal_BrPoolDwReferenceIdeal [hBrPoolDwIdeal : Cert.BrPoolDwIdeal.Facts] [hBrPoolDwReferenceIdeal : Cert.BrPoolDwReferenceIdeal.Facts] : Prop :=
  ∀ (m : (ℓ : Loc Cert.BrPoolDwIdeal.nD Cert.BrPoolDwIdeal.τ Cert.BrPoolDwIdeal.sig) → Buf (Elt Ideal) ℓ) (g : Dev Cert.BrPoolDwIdeal.nD → PrngReg)
    (m' : (ℓ : Loc Cert.BrPoolDwReferenceIdeal.nD Cert.BrPoolDwReferenceIdeal.τ Cert.BrPoolDwReferenceIdeal.sig) → Buf (Elt Ideal) ℓ) (g' : Dev Cert.BrPoolDwReferenceIdeal.nD → PrngReg), Pre_BrPoolDwIdeal m →
    (∀ c : Dev Cert.BrPoolDwIdeal.nD,
      m' ((c.tc : Thread Cert.BrPoolDwReferenceIdeal.nD Cert.BrPoolDwReferenceIdeal.τ).loc Cert.BrPoolDwReferenceIdeal.main_arg0) = m ((c.tc : Thread Cert.BrPoolDwIdeal.nD Cert.BrPoolDwIdeal.τ).loc Cert.BrPoolDwIdeal.main_arg0)
      ∧ m' ((c.tc : Thread Cert.BrPoolDwReferenceIdeal.nD Cert.BrPoolDwReferenceIdeal.τ).loc Cert.BrPoolDwReferenceIdeal.main_arg1) = m ((c.tc : Thread Cert.BrPoolDwIdeal.nD Cert.BrPoolDwIdeal.τ).loc Cert.BrPoolDwIdeal.main_arg1)
      ∧ m' ((c.tc : Thread Cert.BrPoolDwReferenceIdeal.nD Cert.BrPoolDwReferenceIdeal.τ).loc Cert.BrPoolDwReferenceIdeal.main_arg2) = m ((c.tc : Thread Cert.BrPoolDwIdeal.nD Cert.BrPoolDwIdeal.τ).loc Cert.BrPoolDwIdeal.main_arg2)) →
    ∃ (v0 : (c : Dev Cert.BrPoolDwIdeal.nD) → Buf (Elt Ideal) ((c.tc : Thread Cert.BrPoolDwIdeal.nD Cert.BrPoolDwIdeal.τ).loc Cert.BrPoolDwIdeal.main_v0)),
      θ_run (Cert.BrPoolDwIdeal.defs (F := Ideal)) (onTc (τ := Cert.BrPoolDwIdeal.τ) (Cert.BrPoolDwIdeal.main (F := Ideal))) ⟨m, fun _ => 0, g⟩ (fun r => ∀ c : Dev Cert.BrPoolDwIdeal.nD,
          r.2.mem ((c.tc : Thread Cert.BrPoolDwIdeal.nD Cert.BrPoolDwIdeal.τ).loc Cert.BrPoolDwIdeal.main_v0) = v0 c
          ∧ r.2.mem ((c.tc : Thread Cert.BrPoolDwIdeal.nD Cert.BrPoolDwIdeal.τ).loc Cert.BrPoolDwIdeal.main_arg0) = m ((c.tc : Thread Cert.BrPoolDwIdeal.nD Cert.BrPoolDwIdeal.τ).loc Cert.BrPoolDwIdeal.main_arg0)
          ∧ r.2.mem ((c.tc : Thread Cert.BrPoolDwIdeal.nD Cert.BrPoolDwIdeal.τ).loc Cert.BrPoolDwIdeal.main_arg1) = m ((c.tc : Thread Cert.BrPoolDwIdeal.nD Cert.BrPoolDwIdeal.τ).loc Cert.BrPoolDwIdeal.main_arg1)
          ∧ r.2.mem ((c.tc : Thread Cert.BrPoolDwIdeal.nD Cert.BrPoolDwIdeal.τ).loc Cert.BrPoolDwIdeal.main_arg2) = m ((c.tc : Thread Cert.BrPoolDwIdeal.nD Cert.BrPoolDwIdeal.τ).loc Cert.BrPoolDwIdeal.main_arg2))
      ∧ θ_run (Cert.BrPoolDwReferenceIdeal.defs (F := Ideal)) (onTc (τ := Cert.BrPoolDwReferenceIdeal.τ) (Cert.BrPoolDwReferenceIdeal.main (F := Ideal))) ⟨m', fun _ => 0, g'⟩ (fun r => ∀ c : Dev Cert.BrPoolDwReferenceIdeal.nD,
          r.2.mem ((c.tc : Thread Cert.BrPoolDwReferenceIdeal.nD Cert.BrPoolDwReferenceIdeal.τ).loc Cert.BrPoolDwReferenceIdeal.main_v5) = v0 c
          ∧ r.2.mem ((c.tc : Thread Cert.BrPoolDwReferenceIdeal.nD Cert.BrPoolDwReferenceIdeal.τ).loc Cert.BrPoolDwReferenceIdeal.main_arg0) = m' ((c.tc : Thread Cert.BrPoolDwReferenceIdeal.nD Cert.BrPoolDwReferenceIdeal.τ).loc Cert.BrPoolDwReferenceIdeal.main_arg0)
          ∧ r.2.mem ((c.tc : Thread Cert.BrPoolDwReferenceIdeal.nD Cert.BrPoolDwReferenceIdeal.τ).loc Cert.BrPoolDwReferenceIdeal.main_arg1) = m' ((c.tc : Thread Cert.BrPoolDwReferenceIdeal.nD Cert.BrPoolDwReferenceIdeal.τ).loc Cert.BrPoolDwReferenceIdeal.main_arg1)
          ∧ r.2.mem ((c.tc : Thread Cert.BrPoolDwReferenceIdeal.nD Cert.BrPoolDwReferenceIdeal.τ).loc Cert.BrPoolDwReferenceIdeal.main_arg2) = m' ((c.tc : Thread Cert.BrPoolDwReferenceIdeal.nD Cert.BrPoolDwReferenceIdeal.τ).loc Cert.BrPoolDwReferenceIdeal.main_arg2))

def preserves_MergeFwd_MergeFwdIdeal : Prop :=
  True

def algebraic_MergeFwdIdeal_MergeFwdReferenceIdeal [hMergeFwdIdeal : Cert.MergeFwdIdeal.Facts] [hMergeFwdReferenceIdeal : Cert.MergeFwdReferenceIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdReferenceIdeal.nD Cert.MergeFwdReferenceIdeal.τ Cert.MergeFwdReferenceIdeal.sig) → Buf (Elt Ideal) ℓ) (g' : Dev Cert.MergeFwdReferenceIdeal.nD → PrngReg), Pre_MergeFwdIdeal m →
    (∀ c : Dev Cert.MergeFwdIdeal.nD,
      m' ((c.tc : Thread Cert.MergeFwdReferenceIdeal.nD Cert.MergeFwdReferenceIdeal.τ).loc Cert.MergeFwdReferenceIdeal.main_arg0) = m ((c.tc : Thread Cert.MergeFwdIdeal.nD Cert.MergeFwdIdeal.τ).loc Cert.MergeFwdIdeal.main_arg0)
      ∧ m' ((c.tc : Thread Cert.MergeFwdReferenceIdeal.nD Cert.MergeFwdReferenceIdeal.τ).loc Cert.MergeFwdReferenceIdeal.main_arg1) = m ((c.tc : Thread Cert.MergeFwdIdeal.nD Cert.MergeFwdIdeal.τ).loc Cert.MergeFwdIdeal.main_arg1)
      ∧ m' ((c.tc : Thread Cert.MergeFwdReferenceIdeal.nD Cert.MergeFwdReferenceIdeal.τ).loc Cert.MergeFwdReferenceIdeal.main_arg2) = m ((c.tc : Thread Cert.MergeFwdIdeal.nD Cert.MergeFwdIdeal.τ).loc Cert.MergeFwdIdeal.main_arg2)
      ∧ m' ((c.tc : Thread Cert.MergeFwdReferenceIdeal.nD Cert.MergeFwdReferenceIdeal.τ).loc Cert.MergeFwdReferenceIdeal.main_arg3) = m ((c.tc : Thread Cert.MergeFwdIdeal.nD Cert.MergeFwdIdeal.τ).loc Cert.MergeFwdIdeal.main_arg3)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3))
      ∧ θ_run (Cert.MergeFwdReferenceIdeal.defs (F := Ideal)) (onTc (τ := Cert.MergeFwdReferenceIdeal.τ) (Cert.MergeFwdReferenceIdeal.main (F := Ideal))) ⟨m', fun _ => 0, g'⟩ (fun r => ∀ c : Dev Cert.MergeFwdReferenceIdeal.nD,
          r.2.mem ((c.tc : Thread Cert.MergeFwdReferenceIdeal.nD Cert.MergeFwdReferenceIdeal.τ).loc Cert.MergeFwdReferenceIdeal.main_v22) = v0 c
          ∧ r.2.mem ((c.tc : Thread Cert.MergeFwdReferenceIdeal.nD Cert.MergeFwdReferenceIdeal.τ).loc Cert.MergeFwdReferenceIdeal.main_arg0) = m' ((c.tc : Thread Cert.MergeFwdReferenceIdeal.nD Cert.MergeFwdReferenceIdeal.τ).loc Cert.MergeFwdReferenceIdeal.main_arg0)
          ∧ r.2.mem ((c.tc : Thread Cert.MergeFwdReferenceIdeal.nD Cert.MergeFwdReferenceIdeal.τ).loc Cert.MergeFwdReferenceIdeal.main_arg1) = m' ((c.tc : Thread Cert.MergeFwdReferenceIdeal.nD Cert.MergeFwdReferenceIdeal.τ).loc Cert.MergeFwdReferenceIdeal.main_arg1)
          ∧ r.2.mem ((c.tc : Thread Cert.MergeFwdReferenceIdeal.nD Cert.MergeFwdReferenceIdeal.τ).loc Cert.MergeFwdReferenceIdeal.main_arg2) = m' ((c.tc : Thread Cert.MergeFwdReferenceIdeal.nD Cert.MergeFwdReferenceIdeal.τ).loc Cert.MergeFwdReferenceIdeal.main_arg2)
          ∧ r.2.mem ((c.tc : Thread Cert.MergeFwdReferenceIdeal.nD Cert.MergeFwdReferenceIdeal.τ).loc Cert.MergeFwdReferenceIdeal.main_arg3) = m' ((c.tc : Thread Cert.MergeFwdReferenceIdeal.nD Cert.MergeFwdReferenceIdeal.τ).loc Cert.MergeFwdReferenceIdeal.main_arg3))

def preserves_MergeBwd_MergeBwdIdeal : Prop :=
  True

def algebraic_MergeBwdIdeal_MergeBwdReferenceIdeal [hMergeBwdIdeal : Cert.MergeBwdIdeal.Facts] [hMergeBwdReferenceIdeal : Cert.MergeBwdReferenceIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdReferenceIdeal.nD Cert.MergeBwdReferenceIdeal.τ Cert.MergeBwdReferenceIdeal.sig) → Buf (Elt Ideal) ℓ) (g' : Dev Cert.MergeBwdReferenceIdeal.nD → PrngReg), Pre_MergeBwdIdeal m →
    (∀ c : Dev Cert.MergeBwdIdeal.nD,
      m' ((c.tc : Thread Cert.MergeBwdReferenceIdeal.nD Cert.MergeBwdReferenceIdeal.τ).loc Cert.MergeBwdReferenceIdeal.main_arg0) = m ((c.tc : Thread Cert.MergeBwdIdeal.nD Cert.MergeBwdIdeal.τ).loc Cert.MergeBwdIdeal.main_arg0)
      ∧ m' ((c.tc : Thread Cert.MergeBwdReferenceIdeal.nD Cert.MergeBwdReferenceIdeal.τ).loc Cert.MergeBwdReferenceIdeal.main_arg1) = m ((c.tc : Thread Cert.MergeBwdIdeal.nD Cert.MergeBwdIdeal.τ).loc Cert.MergeBwdIdeal.main_arg1)
      ∧ m' ((c.tc : Thread Cert.MergeBwdReferenceIdeal.nD Cert.MergeBwdReferenceIdeal.τ).loc Cert.MergeBwdReferenceIdeal.main_arg2) = m ((c.tc : Thread Cert.MergeBwdIdeal.nD Cert.MergeBwdIdeal.τ).loc Cert.MergeBwdIdeal.main_arg2)
      ∧ m' ((c.tc : Thread Cert.MergeBwdReferenceIdeal.nD Cert.MergeBwdReferenceIdeal.τ).loc Cert.MergeBwdReferenceIdeal.main_arg3) = m ((c.tc : Thread Cert.MergeBwdIdeal.nD Cert.MergeBwdIdeal.τ).loc Cert.MergeBwdIdeal.main_arg3)
      ∧ m' ((c.tc : Thread Cert.MergeBwdReferenceIdeal.nD Cert.MergeBwdReferenceIdeal.τ).loc Cert.MergeBwdReferenceIdeal.main_arg4) = m ((c.tc : Thread Cert.MergeBwdIdeal.nD Cert.MergeBwdIdeal.τ).loc Cert.MergeBwdIdeal.main_arg4)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)) (v3 : (c : Dev Cert.MergeBwdIdeal.nD) → Buf (Elt Ideal) ((c.tc : Thread Cert.MergeBwdIdeal.nD Cert.MergeBwdIdeal.τ).loc Cert.MergeBwdIdeal.main_v0_3)) (v4 : (c : Dev Cert.MergeBwdIdeal.nD) → Buf (Elt Ideal) ((c.tc : Thread Cert.MergeBwdIdeal.nD Cert.MergeBwdIdeal.τ).loc Cert.MergeBwdIdeal.main_v0_4)) (v5 : (c : Dev Cert.MergeBwdIdeal.nD) → Buf (Elt Ideal) ((c.tc : Thread Cert.MergeBwdIdeal.nD Cert.MergeBwdIdeal.τ).loc Cert.MergeBwdIdeal.main_v0_5)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_v0_3) = v3 c
          ∧ r.2.mem ((c.tc : Thread Cert.MergeBwdIdeal.nD Cert.MergeBwdIdeal.τ).loc Cert.MergeBwdIdeal.main_v0_4) = v4 c
          ∧ r.2.mem ((c.tc : Thread Cert.MergeBwdIdeal.nD Cert.MergeBwdIdeal.τ).loc Cert.MergeBwdIdeal.main_v0_5) = v5 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ θ_run (Cert.MergeBwdReferenceIdeal.defs (F := Ideal)) (onTc (τ := Cert.MergeBwdReferenceIdeal.τ) (Cert.MergeBwdReferenceIdeal.main (F := Ideal))) ⟨m', fun _ => 0, g'⟩ (fun r => ∀ c : Dev Cert.MergeBwdReferenceIdeal.nD,
          r.2.mem ((c.tc : Thread Cert.MergeBwdReferenceIdeal.nD Cert.MergeBwdReferenceIdeal.τ).loc Cert.MergeBwdReferenceIdeal.main_v43) = v0 c
          ∧ r.2.mem ((c.tc : Thread Cert.MergeBwdReferenceIdeal.nD Cert.MergeBwdReferenceIdeal.τ).loc Cert.MergeBwdReferenceIdeal.main_v44) = v1 c
          ∧ r.2.mem ((c.tc : Thread Cert.MergeBwdReferenceIdeal.nD Cert.MergeBwdReferenceIdeal.τ).loc Cert.MergeBwdReferenceIdeal.main_v45) = v2 c
          ∧ r.2.mem ((c.tc : Thread Cert.MergeBwdReferenceIdeal.nD Cert.MergeBwdReferenceIdeal.τ).loc Cert.MergeBwdReferenceIdeal.main_v46) = v3 c
          ∧ r.2.mem ((c.tc : Thread Cert.MergeBwdReferenceIdeal.nD Cert.MergeBwdReferenceIdeal.τ).loc Cert.MergeBwdReferenceIdeal.main_v47) = v4 c
          ∧ r.2.mem ((c.tc : Thread Cert.MergeBwdReferenceIdeal.nD Cert.MergeBwdReferenceIdeal.τ).loc Cert.MergeBwdReferenceIdeal.main_v48) = v5 c
          ∧ r.2.mem ((c.tc : Thread Cert.MergeBwdReferenceIdeal.nD Cert.MergeBwdReferenceIdeal.τ).loc Cert.MergeBwdReferenceIdeal.main_arg0) = m' ((c.tc : Thread Cert.MergeBwdReferenceIdeal.nD Cert.MergeBwdReferenceIdeal.τ).loc Cert.MergeBwdReferenceIdeal.main_arg0)
          ∧ r.2.mem ((c.tc : Thread Cert.MergeBwdReferenceIdeal.nD Cert.MergeBwdReferenceIdeal.τ).loc Cert.MergeBwdReferenceIdeal.main_arg1) = m' ((c.tc : Thread Cert.MergeBwdReferenceIdeal.nD Cert.MergeBwdReferenceIdeal.τ).loc Cert.MergeBwdReferenceIdeal.main_arg1)
          ∧ r.2.mem ((c.tc : Thread Cert.MergeBwdReferenceIdeal.nD Cert.MergeBwdReferenceIdeal.τ).loc Cert.MergeBwdReferenceIdeal.main_arg2) = m' ((c.tc : Thread Cert.MergeBwdReferenceIdeal.nD Cert.MergeBwdReferenceIdeal.τ).loc Cert.MergeBwdReferenceIdeal.main_arg2)
          ∧ r.2.mem ((c.tc : Thread Cert.MergeBwdReferenceIdeal.nD Cert.MergeBwdReferenceIdeal.τ).loc Cert.MergeBwdReferenceIdeal.main_arg3) = m' ((c.tc : Thread Cert.MergeBwdReferenceIdeal.nD Cert.MergeBwdReferenceIdeal.τ).loc Cert.MergeBwdReferenceIdeal.main_arg3)
          ∧ r.2.mem ((c.tc : Thread Cert.MergeBwdReferenceIdeal.nD Cert.MergeBwdReferenceIdeal.τ).loc Cert.MergeBwdReferenceIdeal.main_arg4) = m' ((c.tc : Thread Cert.MergeBwdReferenceIdeal.nD Cert.MergeBwdReferenceIdeal.τ).loc Cert.MergeBwdReferenceIdeal.main_arg4))

def preserves_RmsFwd_RmsFwdIdeal : Prop :=
  True

def algebraic_RmsFwdIdeal_RmsFwdReferenceIdeal [hRmsFwdIdeal : Cert.RmsFwdIdeal.Facts] [hRmsFwdReferenceIdeal : Cert.RmsFwdReferenceIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdReferenceIdeal.nD Cert.RmsFwdReferenceIdeal.τ Cert.RmsFwdReferenceIdeal.sig) → Buf (Elt Ideal) ℓ) (g' : Dev Cert.RmsFwdReferenceIdeal.nD → PrngReg), Pre_RmsFwdIdeal m →
    (∀ c : Dev Cert.RmsFwdIdeal.nD,
      m' ((c.tc : Thread Cert.RmsFwdReferenceIdeal.nD Cert.RmsFwdReferenceIdeal.τ).loc Cert.RmsFwdReferenceIdeal.main_arg0) = m ((c.tc : Thread Cert.RmsFwdIdeal.nD Cert.RmsFwdIdeal.τ).loc Cert.RmsFwdIdeal.main_arg0)
      ∧ m' ((c.tc : Thread Cert.RmsFwdReferenceIdeal.nD Cert.RmsFwdReferenceIdeal.τ).loc Cert.RmsFwdReferenceIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v0)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v0) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdReferenceIdeal.defs (F := Ideal)) (onTc (τ := Cert.RmsFwdReferenceIdeal.τ) (Cert.RmsFwdReferenceIdeal.main (F := Ideal))) ⟨m', fun _ => 0, g'⟩ (fun r => ∀ c : Dev Cert.RmsFwdReferenceIdeal.nD,
          r.2.mem ((c.tc : Thread Cert.RmsFwdReferenceIdeal.nD Cert.RmsFwdReferenceIdeal.τ).loc Cert.RmsFwdReferenceIdeal.main_v12) = v0 c
          ∧ r.2.mem ((c.tc : Thread Cert.RmsFwdReferenceIdeal.nD Cert.RmsFwdReferenceIdeal.τ).loc Cert.RmsFwdReferenceIdeal.main_arg0) = m' ((c.tc : Thread Cert.RmsFwdReferenceIdeal.nD Cert.RmsFwdReferenceIdeal.τ).loc Cert.RmsFwdReferenceIdeal.main_arg0)
          ∧ r.2.mem ((c.tc : Thread Cert.RmsFwdReferenceIdeal.nD Cert.RmsFwdReferenceIdeal.τ).loc Cert.RmsFwdReferenceIdeal.main_arg1) = m' ((c.tc : Thread Cert.RmsFwdReferenceIdeal.nD Cert.RmsFwdReferenceIdeal.τ).loc Cert.RmsFwdReferenceIdeal.main_arg1))

def preserves_ResidMix_ResidMixIdeal : Prop :=
  True

def algebraic_ResidMixIdeal_ResidMixReferenceIdeal [hResidMixIdeal : Cert.ResidMixIdeal.Facts] [hResidMixReferenceIdeal : Cert.ResidMixReferenceIdeal.Facts] : Prop :=
  ∀ (m : (ℓ : Loc Cert.ResidMixIdeal.nD Cert.ResidMixIdeal.τ Cert.ResidMixIdeal.sig) → Buf (Elt Ideal) ℓ) (g : Dev Cert.ResidMixIdeal.nD → PrngReg)
    (m' : (ℓ : Loc Cert.ResidMixReferenceIdeal.nD Cert.ResidMixReferenceIdeal.τ Cert.ResidMixReferenceIdeal.sig) → Buf (Elt Ideal) ℓ) (g' : Dev Cert.ResidMixReferenceIdeal.nD → PrngReg), Pre_ResidMixIdeal m →
    (∀ c : Dev Cert.ResidMixIdeal.nD,
      m' ((c.tc : Thread Cert.ResidMixReferenceIdeal.nD Cert.ResidMixReferenceIdeal.τ).loc Cert.ResidMixReferenceIdeal.main_arg0) = m ((c.tc : Thread Cert.ResidMixIdeal.nD Cert.ResidMixIdeal.τ).loc Cert.ResidMixIdeal.main_arg0)
      ∧ m' ((c.tc : Thread Cert.ResidMixReferenceIdeal.nD Cert.ResidMixReferenceIdeal.τ).loc Cert.ResidMixReferenceIdeal.main_arg1) = m ((c.tc : Thread Cert.ResidMixIdeal.nD Cert.ResidMixIdeal.τ).loc Cert.ResidMixIdeal.main_arg1)
      ∧ m' ((c.tc : Thread Cert.ResidMixReferenceIdeal.nD Cert.ResidMixReferenceIdeal.τ).loc Cert.ResidMixReferenceIdeal.main_arg2) = m ((c.tc : Thread Cert.ResidMixIdeal.nD Cert.ResidMixIdeal.τ).loc Cert.ResidMixIdeal.main_arg2)
      ∧ m' ((c.tc : Thread Cert.ResidMixReferenceIdeal.nD Cert.ResidMixReferenceIdeal.τ).loc Cert.ResidMixReferenceIdeal.main_arg3) = m ((c.tc : Thread Cert.ResidMixIdeal.nD Cert.ResidMixIdeal.τ).loc Cert.ResidMixIdeal.main_arg3)) →
    ∃ (v0 : (c : Dev Cert.ResidMixIdeal.nD) → Buf (Elt Ideal) ((c.tc : Thread Cert.ResidMixIdeal.nD Cert.ResidMixIdeal.τ).loc Cert.ResidMixIdeal.main_v0_0)) (v1 : (c : Dev Cert.ResidMixIdeal.nD) → Buf (Elt Ideal) ((c.tc : Thread Cert.ResidMixIdeal.nD Cert.ResidMixIdeal.τ).loc Cert.ResidMixIdeal.main_v0_1)),
      θ_run (Cert.ResidMixIdeal.defs (F := Ideal)) (onTc (τ := Cert.ResidMixIdeal.τ) (Cert.ResidMixIdeal.main (F := Ideal))) ⟨m, fun _ => 0, g⟩ (fun r => ∀ c : Dev Cert.ResidMixIdeal.nD,
          r.2.mem ((c.tc : Thread Cert.ResidMixIdeal.nD Cert.ResidMixIdeal.τ).loc Cert.ResidMixIdeal.main_v0_0) = v0 c
          ∧ r.2.mem ((c.tc : Thread Cert.ResidMixIdeal.nD Cert.ResidMixIdeal.τ).loc Cert.ResidMixIdeal.main_v0_1) = v1 c
          ∧ r.2.mem ((c.tc : Thread Cert.ResidMixIdeal.nD Cert.ResidMixIdeal.τ).loc Cert.ResidMixIdeal.main_arg0) = m ((c.tc : Thread Cert.ResidMixIdeal.nD Cert.ResidMixIdeal.τ).loc Cert.ResidMixIdeal.main_arg0)
          ∧ r.2.mem ((c.tc : Thread Cert.ResidMixIdeal.nD Cert.ResidMixIdeal.τ).loc Cert.ResidMixIdeal.main_arg1) = m ((c.tc : Thread Cert.ResidMixIdeal.nD Cert.ResidMixIdeal.τ).loc Cert.ResidMixIdeal.main_arg1)
          ∧ r.2.mem ((c.tc : Thread Cert.ResidMixIdeal.nD Cert.ResidMixIdeal.τ).loc Cert.ResidMixIdeal.main_arg2) = m ((c.tc : Thread Cert.ResidMixIdeal.nD Cert.ResidMixIdeal.τ).loc Cert.ResidMixIdeal.main_arg2)
          ∧ r.2.mem ((c.tc : Thread Cert.ResidMixIdeal.nD Cert.ResidMixIdeal.τ).loc Cert.ResidMixIdeal.main_arg3) = m ((c.tc : Thread Cert.ResidMixIdeal.nD Cert.ResidMixIdeal.τ).loc Cert.ResidMixIdeal.main_arg3))
      ∧ θ_run (Cert.ResidMixReferenceIdeal.defs (F := Ideal)) (onTc (τ := Cert.ResidMixReferenceIdeal.τ) (Cert.ResidMixReferenceIdeal.main (F := Ideal))) ⟨m', fun _ => 0, g'⟩ (fun r => ∀ c : Dev Cert.ResidMixReferenceIdeal.nD,
          r.2.mem ((c.tc : Thread Cert.ResidMixReferenceIdeal.nD Cert.ResidMixReferenceIdeal.τ).loc Cert.ResidMixReferenceIdeal.main_v12) = v0 c
          ∧ r.2.mem ((c.tc : Thread Cert.ResidMixReferenceIdeal.nD Cert.ResidMixReferenceIdeal.τ).loc Cert.ResidMixReferenceIdeal.main_v25) = v1 c
          ∧ r.2.mem ((c.tc : Thread Cert.ResidMixReferenceIdeal.nD Cert.ResidMixReferenceIdeal.τ).loc Cert.ResidMixReferenceIdeal.main_arg0) = m' ((c.tc : Thread Cert.ResidMixReferenceIdeal.nD Cert.ResidMixReferenceIdeal.τ).loc Cert.ResidMixReferenceIdeal.main_arg0)
          ∧ r.2.mem ((c.tc : Thread Cert.ResidMixReferenceIdeal.nD Cert.ResidMixReferenceIdeal.τ).loc Cert.ResidMixReferenceIdeal.main_arg1) = m' ((c.tc : Thread Cert.ResidMixReferenceIdeal.nD Cert.ResidMixReferenceIdeal.τ).loc Cert.ResidMixReferenceIdeal.main_arg1)
          ∧ r.2.mem ((c.tc : Thread Cert.ResidMixReferenceIdeal.nD Cert.ResidMixReferenceIdeal.τ).loc Cert.ResidMixReferenceIdeal.main_arg2) = m' ((c.tc : Thread Cert.ResidMixReferenceIdeal.nD Cert.ResidMixReferenceIdeal.τ).loc Cert.ResidMixReferenceIdeal.main_arg2)
          ∧ r.2.mem ((c.tc : Thread Cert.ResidMixReferenceIdeal.nD Cert.ResidMixReferenceIdeal.τ).loc Cert.ResidMixReferenceIdeal.main_arg3) = m' ((c.tc : Thread Cert.ResidMixReferenceIdeal.nD Cert.ResidMixReferenceIdeal.τ).loc Cert.ResidMixReferenceIdeal.main_arg3))

def preserves_ResidLast_ResidLastIdeal : Prop :=
  True

def algebraic_ResidLastIdeal_ResidLastReferenceIdeal [hResidLastIdeal : Cert.ResidLastIdeal.Facts] [hResidLastReferenceIdeal : Cert.ResidLastReferenceIdeal.Facts] : Prop :=
  ∀ (m : (ℓ : Loc Cert.ResidLastIdeal.nD Cert.ResidLastIdeal.τ Cert.ResidLastIdeal.sig) → Buf (Elt Ideal) ℓ) (g : Dev Cert.ResidLastIdeal.nD → PrngReg)
    (m' : (ℓ : Loc Cert.ResidLastReferenceIdeal.nD Cert.ResidLastReferenceIdeal.τ Cert.ResidLastReferenceIdeal.sig) → Buf (Elt Ideal) ℓ) (g' : Dev Cert.ResidLastReferenceIdeal.nD → PrngReg), Pre_ResidLastIdeal m →
    (∀ c : Dev Cert.ResidLastIdeal.nD,
      m' ((c.tc : Thread Cert.ResidLastReferenceIdeal.nD Cert.ResidLastReferenceIdeal.τ).loc Cert.ResidLastReferenceIdeal.main_arg0) = m ((c.tc : Thread Cert.ResidLastIdeal.nD Cert.ResidLastIdeal.τ).loc Cert.ResidLastIdeal.main_arg0)
      ∧ m' ((c.tc : Thread Cert.ResidLastReferenceIdeal.nD Cert.ResidLastReferenceIdeal.τ).loc Cert.ResidLastReferenceIdeal.main_arg1) = m ((c.tc : Thread Cert.ResidLastIdeal.nD Cert.ResidLastIdeal.τ).loc Cert.ResidLastIdeal.main_arg1)
      ∧ m' ((c.tc : Thread Cert.ResidLastReferenceIdeal.nD Cert.ResidLastReferenceIdeal.τ).loc Cert.ResidLastReferenceIdeal.main_arg2) = m ((c.tc : Thread Cert.ResidLastIdeal.nD Cert.ResidLastIdeal.τ).loc Cert.ResidLastIdeal.main_arg2)) →
    ∃ (v0 : (c : Dev Cert.ResidLastIdeal.nD) → Buf (Elt Ideal) ((c.tc : Thread Cert.ResidLastIdeal.nD Cert.ResidLastIdeal.τ).loc Cert.ResidLastIdeal.main_v0)),
      θ_run (Cert.ResidLastIdeal.defs (F := Ideal)) (onTc (τ := Cert.ResidLastIdeal.τ) (Cert.ResidLastIdeal.main (F := Ideal))) ⟨m, fun _ => 0, g⟩ (fun r => ∀ c : Dev Cert.ResidLastIdeal.nD,
          r.2.mem ((c.tc : Thread Cert.ResidLastIdeal.nD Cert.ResidLastIdeal.τ).loc Cert.ResidLastIdeal.main_v0) = v0 c
          ∧ r.2.mem ((c.tc : Thread Cert.ResidLastIdeal.nD Cert.ResidLastIdeal.τ).loc Cert.ResidLastIdeal.main_arg0) = m ((c.tc : Thread Cert.ResidLastIdeal.nD Cert.ResidLastIdeal.τ).loc Cert.ResidLastIdeal.main_arg0)
          ∧ r.2.mem ((c.tc : Thread Cert.ResidLastIdeal.nD Cert.ResidLastIdeal.τ).loc Cert.ResidLastIdeal.main_arg1) = m ((c.tc : Thread Cert.ResidLastIdeal.nD Cert.ResidLastIdeal.τ).loc Cert.ResidLastIdeal.main_arg1)
          ∧ r.2.mem ((c.tc : Thread Cert.ResidLastIdeal.nD Cert.ResidLastIdeal.τ).loc Cert.ResidLastIdeal.main_arg2) = m ((c.tc : Thread Cert.ResidLastIdeal.nD Cert.ResidLastIdeal.τ).loc Cert.ResidLastIdeal.main_arg2))
      ∧ θ_run (Cert.ResidLastReferenceIdeal.defs (F := Ideal)) (onTc (τ := Cert.ResidLastReferenceIdeal.τ) (Cert.ResidLastReferenceIdeal.main (F := Ideal))) ⟨m', fun _ => 0, g'⟩ (fun r => ∀ c : Dev Cert.ResidLastReferenceIdeal.nD,
          r.2.mem ((c.tc : Thread Cert.ResidLastReferenceIdeal.nD Cert.ResidLastReferenceIdeal.τ).loc Cert.ResidLastReferenceIdeal.main_v12) = v0 c
          ∧ r.2.mem ((c.tc : Thread Cert.ResidLastReferenceIdeal.nD Cert.ResidLastReferenceIdeal.τ).loc Cert.ResidLastReferenceIdeal.main_arg0) = m' ((c.tc : Thread Cert.ResidLastReferenceIdeal.nD Cert.ResidLastReferenceIdeal.τ).loc Cert.ResidLastReferenceIdeal.main_arg0)
          ∧ r.2.mem ((c.tc : Thread Cert.ResidLastReferenceIdeal.nD Cert.ResidLastReferenceIdeal.τ).loc Cert.ResidLastReferenceIdeal.main_arg1) = m' ((c.tc : Thread Cert.ResidLastReferenceIdeal.nD Cert.ResidLastReferenceIdeal.τ).loc Cert.ResidLastReferenceIdeal.main_arg1)
          ∧ r.2.mem ((c.tc : Thread Cert.ResidLastReferenceIdeal.nD Cert.ResidLastReferenceIdeal.τ).loc Cert.ResidLastReferenceIdeal.main_arg2) = m' ((c.tc : Thread Cert.ResidLastReferenceIdeal.nD Cert.ResidLastReferenceIdeal.τ).loc Cert.ResidLastReferenceIdeal.main_arg2))

def preserves_RmsBwdLast_RmsBwdLastIdeal : Prop :=
  True

def algebraic_RmsBwdLastIdeal_RmsBwdLastReferenceIdeal [hRmsBwdLastIdeal : Cert.RmsBwdLastIdeal.Facts] [hRmsBwdLastReferenceIdeal : Cert.RmsBwdLastReferenceIdeal.Facts] : Prop :=
  ∀ (m : (ℓ : Loc Cert.RmsBwdLastIdeal.nD Cert.RmsBwdLastIdeal.τ Cert.RmsBwdLastIdeal.sig) → Buf (Elt Ideal) ℓ) (g : Dev Cert.RmsBwdLastIdeal.nD → PrngReg)
    (m' : (ℓ : Loc Cert.RmsBwdLastReferenceIdeal.nD Cert.RmsBwdLastReferenceIdeal.τ Cert.RmsBwdLastReferenceIdeal.sig) → Buf (Elt Ideal) ℓ) (g' : Dev Cert.RmsBwdLastReferenceIdeal.nD → PrngReg), Pre_RmsBwdLastIdeal m →
    (∀ c : Dev Cert.RmsBwdLastIdeal.nD,
      m' ((c.tc : Thread Cert.RmsBwdLastReferenceIdeal.nD Cert.RmsBwdLastReferenceIdeal.τ).loc Cert.RmsBwdLastReferenceIdeal.main_arg0) = m ((c.tc : Thread Cert.RmsBwdLastIdeal.nD Cert.RmsBwdLastIdeal.τ).loc Cert.RmsBwdLastIdeal.main_arg0)
      ∧ m' ((c.tc : Thread Cert.RmsBwdLastReferenceIdeal.nD Cert.RmsBwdLastReferenceIdeal.τ).loc Cert.RmsBwdLastReferenceIdeal.main_arg1) = m ((c.tc : Thread Cert.RmsBwdLastIdeal.nD Cert.RmsBwdLastIdeal.τ).loc Cert.RmsBwdLastIdeal.main_arg1)
      ∧ m' ((c.tc : Thread Cert.RmsBwdLastReferenceIdeal.nD Cert.RmsBwdLastReferenceIdeal.τ).loc Cert.RmsBwdLastReferenceIdeal.main_arg2) = m ((c.tc : Thread Cert.RmsBwdLastIdeal.nD Cert.RmsBwdLastIdeal.τ).loc Cert.RmsBwdLastIdeal.main_arg2)) →
    ∃ (v0 : (c : Dev Cert.RmsBwdLastIdeal.nD) → Buf (Elt Ideal) ((c.tc : Thread Cert.RmsBwdLastIdeal.nD Cert.RmsBwdLastIdeal.τ).loc Cert.RmsBwdLastIdeal.main_v0_0)) (v1 : (c : Dev Cert.RmsBwdLastIdeal.nD) → Buf (Elt Ideal) ((c.tc : Thread Cert.RmsBwdLastIdeal.nD Cert.RmsBwdLastIdeal.τ).loc Cert.RmsBwdLastIdeal.main_v0_1)),
      θ_run (Cert.RmsBwdLastIdeal.defs (F := Ideal)) (onTc (τ := Cert.RmsBwdLastIdeal.τ) (Cert.RmsBwdLastIdeal.main (F := Ideal))) ⟨m, fun _ => 0, g⟩ (fun r => ∀ c : Dev Cert.RmsBwdLastIdeal.nD,
          r.2.mem ((c.tc : Thread Cert.RmsBwdLastIdeal.nD Cert.RmsBwdLastIdeal.τ).loc Cert.RmsBwdLastIdeal.main_v0_0) = v0 c
          ∧ r.2.mem ((c.tc : Thread Cert.RmsBwdLastIdeal.nD Cert.RmsBwdLastIdeal.τ).loc Cert.RmsBwdLastIdeal.main_v0_1) = v1 c
          ∧ r.2.mem ((c.tc : Thread Cert.RmsBwdLastIdeal.nD Cert.RmsBwdLastIdeal.τ).loc Cert.RmsBwdLastIdeal.main_arg0) = m ((c.tc : Thread Cert.RmsBwdLastIdeal.nD Cert.RmsBwdLastIdeal.τ).loc Cert.RmsBwdLastIdeal.main_arg0)
          ∧ r.2.mem ((c.tc : Thread Cert.RmsBwdLastIdeal.nD Cert.RmsBwdLastIdeal.τ).loc Cert.RmsBwdLastIdeal.main_arg1) = m ((c.tc : Thread Cert.RmsBwdLastIdeal.nD Cert.RmsBwdLastIdeal.τ).loc Cert.RmsBwdLastIdeal.main_arg1)
          ∧ r.2.mem ((c.tc : Thread Cert.RmsBwdLastIdeal.nD Cert.RmsBwdLastIdeal.τ).loc Cert.RmsBwdLastIdeal.main_arg2) = m ((c.tc : Thread Cert.RmsBwdLastIdeal.nD Cert.RmsBwdLastIdeal.τ).loc Cert.RmsBwdLastIdeal.main_arg2))
      ∧ θ_run (Cert.RmsBwdLastReferenceIdeal.defs (F := Ideal)) (onTc (τ := Cert.RmsBwdLastReferenceIdeal.τ) (Cert.RmsBwdLastReferenceIdeal.main (F := Ideal))) ⟨m', fun _ => 0, g'⟩ (fun r => ∀ c : Dev Cert.RmsBwdLastReferenceIdeal.nD,
          r.2.mem ((c.tc : Thread Cert.RmsBwdLastReferenceIdeal.nD Cert.RmsBwdLastReferenceIdeal.τ).loc Cert.RmsBwdLastReferenceIdeal.main_v34) = v0 c
          ∧ r.2.mem ((c.tc : Thread Cert.RmsBwdLastReferenceIdeal.nD Cert.RmsBwdLastReferenceIdeal.τ).loc Cert.RmsBwdLastReferenceIdeal.main_v17) = v1 c
          ∧ r.2.mem ((c.tc : Thread Cert.RmsBwdLastReferenceIdeal.nD Cert.RmsBwdLastReferenceIdeal.τ).loc Cert.RmsBwdLastReferenceIdeal.main_arg0) = m' ((c.tc : Thread Cert.RmsBwdLastReferenceIdeal.nD Cert.RmsBwdLastReferenceIdeal.τ).loc Cert.RmsBwdLastReferenceIdeal.main_arg0)
          ∧ r.2.mem ((c.tc : Thread Cert.RmsBwdLastReferenceIdeal.nD Cert.RmsBwdLastReferenceIdeal.τ).loc Cert.RmsBwdLastReferenceIdeal.main_arg1) = m' ((c.tc : Thread Cert.RmsBwdLastReferenceIdeal.nD Cert.RmsBwdLastReferenceIdeal.τ).loc Cert.RmsBwdLastReferenceIdeal.main_arg1)
          ∧ r.2.mem ((c.tc : Thread Cert.RmsBwdLastReferenceIdeal.nD Cert.RmsBwdLastReferenceIdeal.τ).loc Cert.RmsBwdLastReferenceIdeal.main_arg2) = m' ((c.tc : Thread Cert.RmsBwdLastReferenceIdeal.nD Cert.RmsBwdLastReferenceIdeal.τ).loc Cert.RmsBwdLastReferenceIdeal.main_arg2))

def preserves_RmsBwdMid_RmsBwdMidIdeal : Prop :=
  True

def algebraic_RmsBwdMidIdeal_RmsBwdMidReferenceIdeal [hRmsBwdMidIdeal : Cert.RmsBwdMidIdeal.Facts] [hRmsBwdMidReferenceIdeal : Cert.RmsBwdMidReferenceIdeal.Facts] : Prop :=
  ∀ (m : (ℓ : Loc Cert.RmsBwdMidIdeal.nD Cert.RmsBwdMidIdeal.τ Cert.RmsBwdMidIdeal.sig) → Buf (Elt Ideal) ℓ) (g : Dev Cert.RmsBwdMidIdeal.nD → PrngReg)
    (m' : (ℓ : Loc Cert.RmsBwdMidReferenceIdeal.nD Cert.RmsBwdMidReferenceIdeal.τ Cert.RmsBwdMidReferenceIdeal.sig) → Buf (Elt Ideal) ℓ) (g' : Dev Cert.RmsBwdMidReferenceIdeal.nD → PrngReg), Pre_RmsBwdMidIdeal m →
    (∀ c : Dev Cert.RmsBwdMidIdeal.nD,
      m' ((c.tc : Thread Cert.RmsBwdMidReferenceIdeal.nD Cert.RmsBwdMidReferenceIdeal.τ).loc Cert.RmsBwdMidReferenceIdeal.main_arg0) = m ((c.tc : Thread Cert.RmsBwdMidIdeal.nD Cert.RmsBwdMidIdeal.τ).loc Cert.RmsBwdMidIdeal.main_arg0)
      ∧ m' ((c.tc : Thread Cert.RmsBwdMidReferenceIdeal.nD Cert.RmsBwdMidReferenceIdeal.τ).loc Cert.RmsBwdMidReferenceIdeal.main_arg1) = m ((c.tc : Thread Cert.RmsBwdMidIdeal.nD Cert.RmsBwdMidIdeal.τ).loc Cert.RmsBwdMidIdeal.main_arg1)
      ∧ m' ((c.tc : Thread Cert.RmsBwdMidReferenceIdeal.nD Cert.RmsBwdMidReferenceIdeal.τ).loc Cert.RmsBwdMidReferenceIdeal.main_arg2) = m ((c.tc : Thread Cert.RmsBwdMidIdeal.nD Cert.RmsBwdMidIdeal.τ).loc Cert.RmsBwdMidIdeal.main_arg2)
      ∧ m' ((c.tc : Thread Cert.RmsBwdMidReferenceIdeal.nD Cert.RmsBwdMidReferenceIdeal.τ).loc Cert.RmsBwdMidReferenceIdeal.main_arg3) = m ((c.tc : Thread Cert.RmsBwdMidIdeal.nD Cert.RmsBwdMidIdeal.τ).loc Cert.RmsBwdMidIdeal.main_arg3)
      ∧ m' ((c.tc : Thread Cert.RmsBwdMidReferenceIdeal.nD Cert.RmsBwdMidReferenceIdeal.τ).loc Cert.RmsBwdMidReferenceIdeal.main_arg4) = m ((c.tc : Thread Cert.RmsBwdMidIdeal.nD Cert.RmsBwdMidIdeal.τ).loc Cert.RmsBwdMidIdeal.main_arg4)
      ∧ m' ((c.tc : Thread Cert.RmsBwdMidReferenceIdeal.nD Cert.RmsBwdMidReferenceIdeal.τ).loc Cert.RmsBwdMidReferenceIdeal.main_arg5) = m ((c.tc : Thread Cert.RmsBwdMidIdeal.nD Cert.RmsBwdMidIdeal.τ).loc Cert.RmsBwdMidIdeal.main_arg5)) →
    ∃ (v0 : (c : Dev Cert.RmsBwdMidIdeal.nD) → Buf (Elt Ideal) ((c.tc : Thread Cert.RmsBwdMidIdeal.nD Cert.RmsBwdMidIdeal.τ).loc Cert.RmsBwdMidIdeal.main_v0_0)) (v1 : (c : Dev Cert.RmsBwdMidIdeal.nD) → Buf (Elt Ideal) ((c.tc : Thread Cert.RmsBwdMidIdeal.nD Cert.RmsBwdMidIdeal.τ).loc Cert.RmsBwdMidIdeal.main_v0_1)) (v2 : (c : Dev Cert.RmsBwdMidIdeal.nD) → Buf (Elt Ideal) ((c.tc : Thread Cert.RmsBwdMidIdeal.nD Cert.RmsBwdMidIdeal.τ).loc Cert.RmsBwdMidIdeal.main_v0_2)) (v3 : (c : Dev Cert.RmsBwdMidIdeal.nD) → Buf (Elt Ideal) ((c.tc : Thread Cert.RmsBwdMidIdeal.nD Cert.RmsBwdMidIdeal.τ).loc Cert.RmsBwdMidIdeal.main_v0_3)),
      θ_run (Cert.RmsBwdMidIdeal.defs (F := Ideal)) (onTc (τ := Cert.RmsBwdMidIdeal.τ) (Cert.RmsBwdMidIdeal.main (F := Ideal))) ⟨m, fun _ => 0, g⟩ (fun r => ∀ c : Dev Cert.RmsBwdMidIdeal.nD,
          r.2.mem ((c.tc : Thread Cert.RmsBwdMidIdeal.nD Cert.RmsBwdMidIdeal.τ).loc Cert.RmsBwdMidIdeal.main_v0_0) = v0 c
          ∧ r.2.mem ((c.tc : Thread Cert.RmsBwdMidIdeal.nD Cert.RmsBwdMidIdeal.τ).loc Cert.RmsBwdMidIdeal.main_v0_1) = v1 c
          ∧ r.2.mem ((c.tc : Thread Cert.RmsBwdMidIdeal.nD Cert.RmsBwdMidIdeal.τ).loc Cert.RmsBwdMidIdeal.main_v0_2) = v2 c
          ∧ r.2.mem ((c.tc : Thread Cert.RmsBwdMidIdeal.nD Cert.RmsBwdMidIdeal.τ).loc Cert.RmsBwdMidIdeal.main_v0_3) = v3 c
          ∧ r.2.mem ((c.tc : Thread Cert.RmsBwdMidIdeal.nD Cert.RmsBwdMidIdeal.τ).loc Cert.RmsBwdMidIdeal.main_arg0) = m ((c.tc : Thread Cert.RmsBwdMidIdeal.nD Cert.RmsBwdMidIdeal.τ).loc Cert.RmsBwdMidIdeal.main_arg0)
          ∧ r.2.mem ((c.tc : Thread Cert.RmsBwdMidIdeal.nD Cert.RmsBwdMidIdeal.τ).loc Cert.RmsBwdMidIdeal.main_arg1) = m ((c.tc : Thread Cert.RmsBwdMidIdeal.nD Cert.RmsBwdMidIdeal.τ).loc Cert.RmsBwdMidIdeal.main_arg1)
          ∧ r.2.mem ((c.tc : Thread Cert.RmsBwdMidIdeal.nD Cert.RmsBwdMidIdeal.τ).loc Cert.RmsBwdMidIdeal.main_arg2) = m ((c.tc : Thread Cert.RmsBwdMidIdeal.nD Cert.RmsBwdMidIdeal.τ).loc Cert.RmsBwdMidIdeal.main_arg2)
          ∧ r.2.mem ((c.tc : Thread Cert.RmsBwdMidIdeal.nD Cert.RmsBwdMidIdeal.τ).loc Cert.RmsBwdMidIdeal.main_arg3) = m ((c.tc : Thread Cert.RmsBwdMidIdeal.nD Cert.RmsBwdMidIdeal.τ).loc Cert.RmsBwdMidIdeal.main_arg3)
          ∧ r.2.mem ((c.tc : Thread Cert.RmsBwdMidIdeal.nD Cert.RmsBwdMidIdeal.τ).loc Cert.RmsBwdMidIdeal.main_arg4) = m ((c.tc : Thread Cert.RmsBwdMidIdeal.nD Cert.RmsBwdMidIdeal.τ).loc Cert.RmsBwdMidIdeal.main_arg4)
          ∧ r.2.mem ((c.tc : Thread Cert.RmsBwdMidIdeal.nD Cert.RmsBwdMidIdeal.τ).loc Cert.RmsBwdMidIdeal.main_arg5) = m ((c.tc : Thread Cert.RmsBwdMidIdeal.nD Cert.RmsBwdMidIdeal.τ).loc Cert.RmsBwdMidIdeal.main_arg5))
      ∧ θ_run (Cert.RmsBwdMidReferenceIdeal.defs (F := Ideal)) (onTc (τ := Cert.RmsBwdMidReferenceIdeal.τ) (Cert.RmsBwdMidReferenceIdeal.main (F := Ideal))) ⟨m', fun _ => 0, g'⟩ (fun r => ∀ c : Dev Cert.RmsBwdMidReferenceIdeal.nD,
          r.2.mem ((c.tc : Thread Cert.RmsBwdMidReferenceIdeal.nD Cert.RmsBwdMidReferenceIdeal.τ).loc Cert.RmsBwdMidReferenceIdeal.main_v34) = v0 c
          ∧ r.2.mem ((c.tc : Thread Cert.RmsBwdMidReferenceIdeal.nD Cert.RmsBwdMidReferenceIdeal.τ).loc Cert.RmsBwdMidReferenceIdeal.main_v17) = v1 c
          ∧ r.2.mem ((c.tc : Thread Cert.RmsBwdMidReferenceIdeal.nD Cert.RmsBwdMidReferenceIdeal.τ).loc Cert.RmsBwdMidReferenceIdeal.main_v69) = v2 c
          ∧ r.2.mem ((c.tc : Thread Cert.RmsBwdMidReferenceIdeal.nD Cert.RmsBwdMidReferenceIdeal.τ).loc Cert.RmsBwdMidReferenceIdeal.main_v52) = v3 c
          ∧ r.2.mem ((c.tc : Thread Cert.RmsBwdMidReferenceIdeal.nD Cert.RmsBwdMidReferenceIdeal.τ).loc Cert.RmsBwdMidReferenceIdeal.main_arg0) = m' ((c.tc : Thread Cert.RmsBwdMidReferenceIdeal.nD Cert.RmsBwdMidReferenceIdeal.τ).loc Cert.RmsBwdMidReferenceIdeal.main_arg0)
          ∧ r.2.mem ((c.tc : Thread Cert.RmsBwdMidReferenceIdeal.nD Cert.RmsBwdMidReferenceIdeal.τ).loc Cert.RmsBwdMidReferenceIdeal.main_arg1) = m' ((c.tc : Thread Cert.RmsBwdMidReferenceIdeal.nD Cert.RmsBwdMidReferenceIdeal.τ).loc Cert.RmsBwdMidReferenceIdeal.main_arg1)
          ∧ r.2.mem ((c.tc : Thread Cert.RmsBwdMidReferenceIdeal.nD Cert.RmsBwdMidReferenceIdeal.τ).loc Cert.RmsBwdMidReferenceIdeal.main_arg2) = m' ((c.tc : Thread Cert.RmsBwdMidReferenceIdeal.nD Cert.RmsBwdMidReferenceIdeal.τ).loc Cert.RmsBwdMidReferenceIdeal.main_arg2)
          ∧ r.2.mem ((c.tc : Thread Cert.RmsBwdMidReferenceIdeal.nD Cert.RmsBwdMidReferenceIdeal.τ).loc Cert.RmsBwdMidReferenceIdeal.main_arg3) = m' ((c.tc : Thread Cert.RmsBwdMidReferenceIdeal.nD Cert.RmsBwdMidReferenceIdeal.τ).loc Cert.RmsBwdMidReferenceIdeal.main_arg3)
          ∧ r.2.mem ((c.tc : Thread Cert.RmsBwdMidReferenceIdeal.nD Cert.RmsBwdMidReferenceIdeal.τ).loc Cert.RmsBwdMidReferenceIdeal.main_arg4) = m' ((c.tc : Thread Cert.RmsBwdMidReferenceIdeal.nD Cert.RmsBwdMidReferenceIdeal.τ).loc Cert.RmsBwdMidReferenceIdeal.main_arg4)
          ∧ r.2.mem ((c.tc : Thread Cert.RmsBwdMidReferenceIdeal.nD Cert.RmsBwdMidReferenceIdeal.τ).loc Cert.RmsBwdMidReferenceIdeal.main_arg5) = m' ((c.tc : Thread Cert.RmsBwdMidReferenceIdeal.nD Cert.RmsBwdMidReferenceIdeal.τ).loc Cert.RmsBwdMidReferenceIdeal.main_arg5))

def preserves_RmsBwdFirst_RmsBwdFirstIdeal : Prop :=
  True

def algebraic_RmsBwdFirstIdeal_RmsBwdFirstReferenceIdeal [hRmsBwdFirstIdeal : Cert.RmsBwdFirstIdeal.Facts] [hRmsBwdFirstReferenceIdeal : Cert.RmsBwdFirstReferenceIdeal.Facts] : Prop :=
  ∀ (m : (ℓ : Loc Cert.RmsBwdFirstIdeal.nD Cert.RmsBwdFirstIdeal.τ Cert.RmsBwdFirstIdeal.sig) → Buf (Elt Ideal) ℓ) (g : Dev Cert.RmsBwdFirstIdeal.nD → PrngReg)
    (m' : (ℓ : Loc Cert.RmsBwdFirstReferenceIdeal.nD Cert.RmsBwdFirstReferenceIdeal.τ Cert.RmsBwdFirstReferenceIdeal.sig) → Buf (Elt Ideal) ℓ) (g' : Dev Cert.RmsBwdFirstReferenceIdeal.nD → PrngReg), Pre_RmsBwdFirstIdeal m →
    (∀ c : Dev Cert.RmsBwdFirstIdeal.nD,
      m' ((c.tc : Thread Cert.RmsBwdFirstReferenceIdeal.nD Cert.RmsBwdFirstReferenceIdeal.τ).loc Cert.RmsBwdFirstReferenceIdeal.main_arg0) = m ((c.tc : Thread Cert.RmsBwdFirstIdeal.nD Cert.RmsBwdFirstIdeal.τ).loc Cert.RmsBwdFirstIdeal.main_arg0)
      ∧ m' ((c.tc : Thread Cert.RmsBwdFirstReferenceIdeal.nD Cert.RmsBwdFirstReferenceIdeal.τ).loc Cert.RmsBwdFirstReferenceIdeal.main_arg1) = m ((c.tc : Thread Cert.RmsBwdFirstIdeal.nD Cert.RmsBwdFirstIdeal.τ).loc Cert.RmsBwdFirstIdeal.main_arg1)
      ∧ m' ((c.tc : Thread Cert.RmsBwdFirstReferenceIdeal.nD Cert.RmsBwdFirstReferenceIdeal.τ).loc Cert.RmsBwdFirstReferenceIdeal.main_arg2) = m ((c.tc : Thread Cert.RmsBwdFirstIdeal.nD Cert.RmsBwdFirstIdeal.τ).loc Cert.RmsBwdFirstIdeal.main_arg2)
      ∧ m' ((c.tc : Thread Cert.RmsBwdFirstReferenceIdeal.nD Cert.RmsBwdFirstReferenceIdeal.τ).loc Cert.RmsBwdFirstReferenceIdeal.main_arg3) = m ((c.tc : Thread Cert.RmsBwdFirstIdeal.nD Cert.RmsBwdFirstIdeal.τ).loc Cert.RmsBwdFirstIdeal.main_arg3)) →
    ∃ (v0 : (c : Dev Cert.RmsBwdFirstIdeal.nD) → Buf (Elt Ideal) ((c.tc : Thread Cert.RmsBwdFirstIdeal.nD Cert.RmsBwdFirstIdeal.τ).loc Cert.RmsBwdFirstIdeal.main_v0_0)) (v1 : (c : Dev Cert.RmsBwdFirstIdeal.nD) → Buf (Elt Ideal) ((c.tc : Thread Cert.RmsBwdFirstIdeal.nD Cert.RmsBwdFirstIdeal.τ).loc Cert.RmsBwdFirstIdeal.main_v0_1)),
      θ_run (Cert.RmsBwdFirstIdeal.defs (F := Ideal)) (onTc (τ := Cert.RmsBwdFirstIdeal.τ) (Cert.RmsBwdFirstIdeal.main (F := Ideal))) ⟨m, fun _ => 0, g⟩ (fun r => ∀ c : Dev Cert.RmsBwdFirstIdeal.nD,
          r.2.mem ((c.tc : Thread Cert.RmsBwdFirstIdeal.nD Cert.RmsBwdFirstIdeal.τ).loc Cert.RmsBwdFirstIdeal.main_v0_0) = v0 c
          ∧ r.2.mem ((c.tc : Thread Cert.RmsBwdFirstIdeal.nD Cert.RmsBwdFirstIdeal.τ).loc Cert.RmsBwdFirstIdeal.main_v0_1) = v1 c
          ∧ r.2.mem ((c.tc : Thread Cert.RmsBwdFirstIdeal.nD Cert.RmsBwdFirstIdeal.τ).loc Cert.RmsBwdFirstIdeal.main_arg0) = m ((c.tc : Thread Cert.RmsBwdFirstIdeal.nD Cert.RmsBwdFirstIdeal.τ).loc Cert.RmsBwdFirstIdeal.main_arg0)
          ∧ r.2.mem ((c.tc : Thread Cert.RmsBwdFirstIdeal.nD Cert.RmsBwdFirstIdeal.τ).loc Cert.RmsBwdFirstIdeal.main_arg1) = m ((c.tc : Thread Cert.RmsBwdFirstIdeal.nD Cert.RmsBwdFirstIdeal.τ).loc Cert.RmsBwdFirstIdeal.main_arg1)
          ∧ r.2.mem ((c.tc : Thread Cert.RmsBwdFirstIdeal.nD Cert.RmsBwdFirstIdeal.τ).loc Cert.RmsBwdFirstIdeal.main_arg2) = m ((c.tc : Thread Cert.RmsBwdFirstIdeal.nD Cert.RmsBwdFirstIdeal.τ).loc Cert.RmsBwdFirstIdeal.main_arg2)
          ∧ r.2.mem ((c.tc : Thread Cert.RmsBwdFirstIdeal.nD Cert.RmsBwdFirstIdeal.τ).loc Cert.RmsBwdFirstIdeal.main_arg3) = m ((c.tc : Thread Cert.RmsBwdFirstIdeal.nD Cert.RmsBwdFirstIdeal.τ).loc Cert.RmsBwdFirstIdeal.main_arg3))
      ∧ θ_run (Cert.RmsBwdFirstReferenceIdeal.defs (F := Ideal)) (onTc (τ := Cert.RmsBwdFirstReferenceIdeal.τ) (Cert.RmsBwdFirstReferenceIdeal.main (F := Ideal))) ⟨m', fun _ => 0, g'⟩ (fun r => ∀ c : Dev Cert.RmsBwdFirstReferenceIdeal.nD,
          r.2.mem ((c.tc : Thread Cert.RmsBwdFirstReferenceIdeal.nD Cert.RmsBwdFirstReferenceIdeal.τ).loc Cert.RmsBwdFirstReferenceIdeal.main_v34) = v0 c
          ∧ r.2.mem ((c.tc : Thread Cert.RmsBwdFirstReferenceIdeal.nD Cert.RmsBwdFirstReferenceIdeal.τ).loc Cert.RmsBwdFirstReferenceIdeal.main_v17) = v1 c
          ∧ r.2.mem ((c.tc : Thread Cert.RmsBwdFirstReferenceIdeal.nD Cert.RmsBwdFirstReferenceIdeal.τ).loc Cert.RmsBwdFirstReferenceIdeal.main_arg0) = m' ((c.tc : Thread Cert.RmsBwdFirstReferenceIdeal.nD Cert.RmsBwdFirstReferenceIdeal.τ).loc Cert.RmsBwdFirstReferenceIdeal.main_arg0)
          ∧ r.2.mem ((c.tc : Thread Cert.RmsBwdFirstReferenceIdeal.nD Cert.RmsBwdFirstReferenceIdeal.τ).loc Cert.RmsBwdFirstReferenceIdeal.main_arg1) = m' ((c.tc : Thread Cert.RmsBwdFirstReferenceIdeal.nD Cert.RmsBwdFirstReferenceIdeal.τ).loc Cert.RmsBwdFirstReferenceIdeal.main_arg1)
          ∧ r.2.mem ((c.tc : Thread Cert.RmsBwdFirstReferenceIdeal.nD Cert.RmsBwdFirstReferenceIdeal.τ).loc Cert.RmsBwdFirstReferenceIdeal.main_arg2) = m' ((c.tc : Thread Cert.RmsBwdFirstReferenceIdeal.nD Cert.RmsBwdFirstReferenceIdeal.τ).loc Cert.RmsBwdFirstReferenceIdeal.main_arg2)
          ∧ r.2.mem ((c.tc : Thread Cert.RmsBwdFirstReferenceIdeal.nD Cert.RmsBwdFirstReferenceIdeal.τ).loc Cert.RmsBwdFirstReferenceIdeal.main_arg3) = m' ((c.tc : Thread Cert.RmsBwdFirstReferenceIdeal.nD Cert.RmsBwdFirstReferenceIdeal.τ).loc Cert.RmsBwdFirstReferenceIdeal.main_arg3))

def preserves_LossHead_LossHeadIdeal : Prop :=
  True

def algebraic_LossHeadIdeal_LossHeadReferenceIdeal [hLossHeadIdeal : Cert.LossHeadIdeal.Facts] [hLossHeadReferenceIdeal : Cert.LossHeadReferenceIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadReferenceIdeal.nD Cert.LossHeadReferenceIdeal.τ Cert.LossHeadReferenceIdeal.sig) → Buf (Elt Ideal) ℓ) (g' : Dev Cert.LossHeadReferenceIdeal.nD → PrngReg), Pre_LossHeadIdeal m →
    (∀ c : Dev Cert.LossHeadIdeal.nD,
      m' ((c.tc : Thread Cert.LossHeadReferenceIdeal.nD Cert.LossHeadReferenceIdeal.τ).loc Cert.LossHeadReferenceIdeal.main_arg0) = m ((c.tc : Thread Cert.LossHeadIdeal.nD Cert.LossHeadIdeal.τ).loc Cert.LossHeadIdeal.main_arg0)
      ∧ m' ((c.tc : Thread Cert.LossHeadReferenceIdeal.nD Cert.LossHeadReferenceIdeal.τ).loc Cert.LossHeadReferenceIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossHeadReferenceIdeal.defs (F := Ideal)) (onTc (τ := Cert.LossHeadReferenceIdeal.τ) (Cert.LossHeadReferenceIdeal.main (F := Ideal))) ⟨m', fun _ => 0, g'⟩ (fun r => ∀ c : Dev Cert.LossHeadReferenceIdeal.nD,
          r.2.mem ((c.tc : Thread Cert.LossHeadReferenceIdeal.nD Cert.LossHeadReferenceIdeal.τ).loc Cert.LossHeadReferenceIdeal.main_v14) = v0 c
          ∧ r.2.mem ((c.tc : Thread Cert.LossHeadReferenceIdeal.nD Cert.LossHeadReferenceIdeal.τ).loc Cert.LossHeadReferenceIdeal.main_v15) = v1 c
          ∧ r.2.mem ((c.tc : Thread Cert.LossHeadReferenceIdeal.nD Cert.LossHeadReferenceIdeal.τ).loc Cert.LossHeadReferenceIdeal.main_arg0) = m' ((c.tc : Thread Cert.LossHeadReferenceIdeal.nD Cert.LossHeadReferenceIdeal.τ).loc Cert.LossHeadReferenceIdeal.main_arg0)
          ∧ r.2.mem ((c.tc : Thread Cert.LossHeadReferenceIdeal.nD Cert.LossHeadReferenceIdeal.τ).loc Cert.LossHeadReferenceIdeal.main_arg1) = m' ((c.tc : Thread Cert.LossHeadReferenceIdeal.nD Cert.LossHeadReferenceIdeal.τ).loc Cert.LossHeadReferenceIdeal.main_arg1))

def preserves_AdamwSmall_AdamwSmallIdeal : Prop :=
  True

def algebraic_AdamwSmallIdeal_AdamwSmallReferenceIdeal [hAdamwSmallIdeal : Cert.AdamwSmallIdeal.Facts] [hAdamwSmallReferenceIdeal : Cert.AdamwSmallReferenceIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg)
    (m' : (ℓ : Loc Cert.AdamwSmallReferenceIdeal.nD Cert.AdamwSmallReferenceIdeal.τ Cert.AdamwSmallReferenceIdeal.sig) → Buf (Elt Ideal) ℓ) (g' : Dev Cert.AdamwSmallReferenceIdeal.nD → PrngReg), Pre_AdamwSmallIdeal m →
    (∀ c : Dev Cert.AdamwSmallIdeal.nD,
      m' ((c.tc : Thread Cert.AdamwSmallReferenceIdeal.nD Cert.AdamwSmallReferenceIdeal.τ).loc Cert.AdamwSmallReferenceIdeal.main_arg0) = m ((c.tc : Thread Cert.AdamwSmallIdeal.nD Cert.AdamwSmallIdeal.τ).loc Cert.AdamwSmallIdeal.main_arg0)
      ∧ m' ((c.tc : Thread Cert.AdamwSmallReferenceIdeal.nD Cert.AdamwSmallReferenceIdeal.τ).loc Cert.AdamwSmallReferenceIdeal.main_arg1) = m ((c.tc : Thread Cert.AdamwSmallIdeal.nD Cert.AdamwSmallIdeal.τ).loc Cert.AdamwSmallIdeal.main_arg1)
      ∧ m' ((c.tc : Thread Cert.AdamwSmallReferenceIdeal.nD Cert.AdamwSmallReferenceIdeal.τ).loc Cert.AdamwSmallReferenceIdeal.main_arg2) = m ((c.tc : Thread Cert.AdamwSmallIdeal.nD Cert.AdamwSmallIdeal.τ).loc Cert.AdamwSmallIdeal.main_arg2)
      ∧ m' ((c.tc : Thread Cert.AdamwSmallReferenceIdeal.nD Cert.AdamwSmallReferenceIdeal.τ).loc Cert.AdamwSmallReferenceIdeal.main_arg3) = m ((c.tc : Thread Cert.AdamwSmallIdeal.nD Cert.AdamwSmallIdeal.τ).loc Cert.AdamwSmallIdeal.main_arg3)) →
    ∃ (v0 : (c : Dev Cert.AdamwSmallIdeal.nD) → Buf (Elt Ideal) ((c.tc : Thread Cert.AdamwSmallIdeal.nD Cert.AdamwSmallIdeal.τ).loc Cert.AdamwSmallIdeal.main_v0_0)) (v1 : (c : Dev Cert.AdamwSmallIdeal.nD) → Buf (Elt Ideal) ((c.tc : Thread Cert.AdamwSmallIdeal.nD Cert.AdamwSmallIdeal.τ).loc Cert.AdamwSmallIdeal.main_v0_1)) (v2 : (c : Dev Cert.AdamwSmallIdeal.nD) → Buf (Elt Ideal) ((c.tc : Thread Cert.AdamwSmallIdeal.nD Cert.AdamwSmallIdeal.τ).loc Cert.AdamwSmallIdeal.main_v0_2)) (v3 : (c : Dev Cert.AdamwSmallIdeal.nD) → Buf (Elt Ideal) ((c.tc : Thread Cert.AdamwSmallIdeal.nD Cert.AdamwSmallIdeal.τ).loc Cert.AdamwSmallIdeal.main_v0_3)),
      θ_run (Cert.AdamwSmallIdeal.defs (F := Ideal)) (onTc (τ := Cert.AdamwSmallIdeal.τ) (Cert.AdamwSmallIdeal.main (F := Ideal))) ⟨m, fun _ => 0, g⟩ (fun r => ∀ c : Dev Cert.AdamwSmallIdeal.nD,
          r.2.mem ((c.tc : Thread Cert.AdamwSmallIdeal.nD Cert.AdamwSmallIdeal.τ).loc Cert.AdamwSmallIdeal.main_v0_0) = v0 c
          ∧ r.2.mem ((c.tc : Thread Cert.AdamwSmallIdeal.nD Cert.AdamwSmallIdeal.τ).loc Cert.AdamwSmallIdeal.main_v0_1) = v1 c
          ∧ r.2.mem ((c.tc : Thread Cert.AdamwSmallIdeal.nD Cert.AdamwSmallIdeal.τ).loc Cert.AdamwSmallIdeal.main_v0_2) = v2 c
          ∧ r.2.mem ((c.tc : Thread Cert.AdamwSmallIdeal.nD Cert.AdamwSmallIdeal.τ).loc Cert.AdamwSmallIdeal.main_v0_3) = v3 c
          ∧ r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
          ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
          ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
          ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ θ_run (Cert.AdamwSmallReferenceIdeal.defs (F := Ideal)) (onTc (τ := Cert.AdamwSmallReferenceIdeal.τ) (Cert.AdamwSmallReferenceIdeal.main (F := Ideal))) ⟨m', fun _ => 0, g'⟩ (fun r => ∀ c : Dev Cert.AdamwSmallReferenceIdeal.nD,
          r.2.mem ((c.tc : Thread Cert.AdamwSmallReferenceIdeal.nD Cert.AdamwSmallReferenceIdeal.τ).loc Cert.AdamwSmallReferenceIdeal.main_v0) = v0 c
          ∧ r.2.mem ((c.tc : Thread Cert.AdamwSmallReferenceIdeal.nD Cert.AdamwSmallReferenceIdeal.τ).loc Cert.AdamwSmallReferenceIdeal.main_v24) = v1 c
          ∧ r.2.mem ((c.tc : Thread Cert.AdamwSmallReferenceIdeal.nD Cert.AdamwSmallReferenceIdeal.τ).loc Cert.AdamwSmallReferenceIdeal.main_v5) = v2 c
          ∧ r.2.mem ((c.tc : Thread Cert.AdamwSmallReferenceIdeal.nD Cert.AdamwSmallReferenceIdeal.τ).loc Cert.AdamwSmallReferenceIdeal.main_v11) = v3 c
          ∧ r.2.mem ((c.tc : Thread Cert.AdamwSmallReferenceIdeal.nD Cert.AdamwSmallReferenceIdeal.τ).loc Cert.AdamwSmallReferenceIdeal.main_arg0) = m' ((c.tc : Thread Cert.AdamwSmallReferenceIdeal.nD Cert.AdamwSmallReferenceIdeal.τ).loc Cert.AdamwSmallReferenceIdeal.main_arg0)
          ∧ r.2.mem ((c.tc : Thread Cert.AdamwSmallReferenceIdeal.nD Cert.AdamwSmallReferenceIdeal.τ).loc Cert.AdamwSmallReferenceIdeal.main_arg1) = m' ((c.tc : Thread Cert.AdamwSmallReferenceIdeal.nD Cert.AdamwSmallReferenceIdeal.τ).loc Cert.AdamwSmallReferenceIdeal.main_arg1)
          ∧ r.2.mem ((c.tc : Thread Cert.AdamwSmallReferenceIdeal.nD Cert.AdamwSmallReferenceIdeal.τ).loc Cert.AdamwSmallReferenceIdeal.main_arg2) = m' ((c.tc : Thread Cert.AdamwSmallReferenceIdeal.nD Cert.AdamwSmallReferenceIdeal.τ).loc Cert.AdamwSmallReferenceIdeal.main_arg2)
          ∧ r.2.mem ((c.tc : Thread Cert.AdamwSmallReferenceIdeal.nD Cert.AdamwSmallReferenceIdeal.τ).loc Cert.AdamwSmallReferenceIdeal.main_arg3) = m' ((c.tc : Thread Cert.AdamwSmallReferenceIdeal.nD Cert.AdamwSmallReferenceIdeal.τ).loc Cert.AdamwSmallReferenceIdeal.main_arg3))

def preserves_AdamwIn_AdamwInIdeal : Prop :=
  True

def algebraic_AdamwInIdeal_AdamwInReferenceIdeal [hAdamwInIdeal : Cert.AdamwInIdeal.Facts] [hAdamwInReferenceIdeal : Cert.AdamwInReferenceIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg)
    (m' : (ℓ : Loc Cert.AdamwInReferenceIdeal.nD Cert.AdamwInReferenceIdeal.τ Cert.AdamwInReferenceIdeal.sig) → Buf (Elt Ideal) ℓ) (g' : Dev Cert.AdamwInReferenceIdeal.nD → PrngReg), Pre_AdamwInIdeal m →
    (∀ c : Dev Cert.AdamwInIdeal.nD,
      m' ((c.tc : Thread Cert.AdamwInReferenceIdeal.nD Cert.AdamwInReferenceIdeal.τ).loc Cert.AdamwInReferenceIdeal.main_arg0) = m ((c.tc : Thread Cert.AdamwInIdeal.nD Cert.AdamwInIdeal.τ).loc Cert.AdamwInIdeal.main_arg0)
      ∧ m' ((c.tc : Thread Cert.AdamwInReferenceIdeal.nD Cert.AdamwInReferenceIdeal.τ).loc Cert.AdamwInReferenceIdeal.main_arg1) = m ((c.tc : Thread Cert.AdamwInIdeal.nD Cert.AdamwInIdeal.τ).loc Cert.AdamwInIdeal.main_arg1)
      ∧ m' ((c.tc : Thread Cert.AdamwInReferenceIdeal.nD Cert.AdamwInReferenceIdeal.τ).loc Cert.AdamwInReferenceIdeal.main_arg2) = m ((c.tc : Thread Cert.AdamwInIdeal.nD Cert.AdamwInIdeal.τ).loc Cert.AdamwInIdeal.main_arg2)
      ∧ m' ((c.tc : Thread Cert.AdamwInReferenceIdeal.nD Cert.AdamwInReferenceIdeal.τ).loc Cert.AdamwInReferenceIdeal.main_arg3) = m ((c.tc : Thread Cert.AdamwInIdeal.nD Cert.AdamwInIdeal.τ).loc Cert.AdamwInIdeal.main_arg3)
      ∧ m' ((c.tc : Thread Cert.AdamwInReferenceIdeal.nD Cert.AdamwInReferenceIdeal.τ).loc Cert.AdamwInReferenceIdeal.main_arg4) = m ((c.tc : Thread Cert.AdamwInIdeal.nD Cert.AdamwInIdeal.τ).loc Cert.AdamwInIdeal.main_arg4)
      ∧ m' ((c.tc : Thread Cert.AdamwInReferenceIdeal.nD Cert.AdamwInReferenceIdeal.τ).loc Cert.AdamwInReferenceIdeal.main_arg5) = m ((c.tc : Thread Cert.AdamwInIdeal.nD Cert.AdamwInIdeal.τ).loc Cert.AdamwInIdeal.main_arg5)) →
    ∃ (v0 : (c : Dev Cert.AdamwInIdeal.nD) → Buf (Elt Ideal) ((c.tc : Thread Cert.AdamwInIdeal.nD Cert.AdamwInIdeal.τ).loc Cert.AdamwInIdeal.main_v0_0)) (v1 : (c : Dev Cert.AdamwInIdeal.nD) → Buf (Elt Ideal) ((c.tc : Thread Cert.AdamwInIdeal.nD Cert.AdamwInIdeal.τ).loc Cert.AdamwInIdeal.main_v0_1)) (v2 : (c : Dev Cert.AdamwInIdeal.nD) → Buf (Elt Ideal) ((c.tc : Thread Cert.AdamwInIdeal.nD Cert.AdamwInIdeal.τ).loc Cert.AdamwInIdeal.main_v0_2)) (v3 : (c : Dev Cert.AdamwInIdeal.nD) → Buf (Elt Ideal) ((c.tc : Thread Cert.AdamwInIdeal.nD Cert.AdamwInIdeal.τ).loc Cert.AdamwInIdeal.main_v0_3)),
      θ_run (Cert.AdamwInIdeal.defs (F := Ideal)) (onTc (τ := Cert.AdamwInIdeal.τ) (Cert.AdamwInIdeal.main (F := Ideal))) ⟨m, fun _ => 0, g⟩ (fun r => ∀ c : Dev Cert.AdamwInIdeal.nD,
          r.2.mem ((c.tc : Thread Cert.AdamwInIdeal.nD Cert.AdamwInIdeal.τ).loc Cert.AdamwInIdeal.main_v0_0) = v0 c
          ∧ r.2.mem ((c.tc : Thread Cert.AdamwInIdeal.nD Cert.AdamwInIdeal.τ).loc Cert.AdamwInIdeal.main_v0_1) = v1 c
          ∧ r.2.mem ((c.tc : Thread Cert.AdamwInIdeal.nD Cert.AdamwInIdeal.τ).loc Cert.AdamwInIdeal.main_v0_2) = v2 c
          ∧ r.2.mem ((c.tc : Thread Cert.AdamwInIdeal.nD Cert.AdamwInIdeal.τ).loc Cert.AdamwInIdeal.main_v0_3) = v3 c
          ∧ r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
          ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
          ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
          ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3)
          ∧ r.2.mem ((c.tc : Thread Cert.AdamwInIdeal.nD Cert.AdamwInIdeal.τ).loc Cert.AdamwInIdeal.main_arg4) = m ((c.tc : Thread Cert.AdamwInIdeal.nD Cert.AdamwInIdeal.τ).loc Cert.AdamwInIdeal.main_arg4)
          ∧ r.2.mem ((c.tc : Thread Cert.AdamwInIdeal.nD Cert.AdamwInIdeal.τ).loc Cert.AdamwInIdeal.main_arg5) = m ((c.tc : Thread Cert.AdamwInIdeal.nD Cert.AdamwInIdeal.τ).loc Cert.AdamwInIdeal.main_arg5))
      ∧ θ_run (Cert.AdamwInReferenceIdeal.defs (F := Ideal)) (onTc (τ := Cert.AdamwInReferenceIdeal.τ) (Cert.AdamwInReferenceIdeal.main (F := Ideal))) ⟨m', fun _ => 0, g'⟩ (fun r => ∀ c : Dev Cert.AdamwInReferenceIdeal.nD,
          r.2.mem ((c.tc : Thread Cert.AdamwInReferenceIdeal.nD Cert.AdamwInReferenceIdeal.τ).loc Cert.AdamwInReferenceIdeal.main_v6) = v0 c
          ∧ r.2.mem ((c.tc : Thread Cert.AdamwInReferenceIdeal.nD Cert.AdamwInReferenceIdeal.τ).loc Cert.AdamwInReferenceIdeal.main_v30) = v1 c
          ∧ r.2.mem ((c.tc : Thread Cert.AdamwInReferenceIdeal.nD Cert.AdamwInReferenceIdeal.τ).loc Cert.AdamwInReferenceIdeal.main_v11) = v2 c
          ∧ r.2.mem ((c.tc : Thread Cert.AdamwInReferenceIdeal.nD Cert.AdamwInReferenceIdeal.τ).loc Cert.AdamwInReferenceIdeal.main_v17) = v3 c
          ∧ r.2.mem ((c.tc : Thread Cert.AdamwInReferenceIdeal.nD Cert.AdamwInReferenceIdeal.τ).loc Cert.AdamwInReferenceIdeal.main_arg0) = m' ((c.tc : Thread Cert.AdamwInReferenceIdeal.nD Cert.AdamwInReferenceIdeal.τ).loc Cert.AdamwInReferenceIdeal.main_arg0)
          ∧ r.2.mem ((c.tc : Thread Cert.AdamwInReferenceIdeal.nD Cert.AdamwInReferenceIdeal.τ).loc Cert.AdamwInReferenceIdeal.main_arg1) = m' ((c.tc : Thread Cert.AdamwInReferenceIdeal.nD Cert.AdamwInReferenceIdeal.τ).loc Cert.AdamwInReferenceIdeal.main_arg1)
          ∧ r.2.mem ((c.tc : Thread Cert.AdamwInReferenceIdeal.nD Cert.AdamwInReferenceIdeal.τ).loc Cert.AdamwInReferenceIdeal.main_arg2) = m' ((c.tc : Thread Cert.AdamwInReferenceIdeal.nD Cert.AdamwInReferenceIdeal.τ).loc Cert.AdamwInReferenceIdeal.main_arg2)
          ∧ r.2.mem ((c.tc : Thread Cert.AdamwInReferenceIdeal.nD Cert.AdamwInReferenceIdeal.τ).loc Cert.AdamwInReferenceIdeal.main_arg3) = m' ((c.tc : Thread Cert.AdamwInReferenceIdeal.nD Cert.AdamwInReferenceIdeal.τ).loc Cert.AdamwInReferenceIdeal.main_arg3)
          ∧ r.2.mem ((c.tc : Thread Cert.AdamwInReferenceIdeal.nD Cert.AdamwInReferenceIdeal.τ).loc Cert.AdamwInReferenceIdeal.main_arg4) = m' ((c.tc : Thread Cert.AdamwInReferenceIdeal.nD Cert.AdamwInReferenceIdeal.τ).loc Cert.AdamwInReferenceIdeal.main_arg4)
          ∧ r.2.mem ((c.tc : Thread Cert.AdamwInReferenceIdeal.nD Cert.AdamwInReferenceIdeal.τ).loc Cert.AdamwInReferenceIdeal.main_arg5) = m' ((c.tc : Thread Cert.AdamwInReferenceIdeal.nD Cert.AdamwInReferenceIdeal.τ).loc Cert.AdamwInReferenceIdeal.main_arg5))

def preserves_AdamwBrSb_AdamwBrSbIdeal : Prop :=
  True

def algebraic_AdamwBrSbIdeal_AdamwBrSbReferenceIdeal [hAdamwBrSbIdeal : Cert.AdamwBrSbIdeal.Facts] [hAdamwBrSbReferenceIdeal : Cert.AdamwBrSbReferenceIdeal.Facts] : Prop :=
  ∀ (m : (ℓ : Loc Cert.AdamwBrSbIdeal.nD Cert.AdamwBrSbIdeal.τ Cert.AdamwBrSbIdeal.sig) → Buf (Elt Ideal) ℓ) (g : Dev Cert.AdamwBrSbIdeal.nD → PrngReg)
    (m' : (ℓ : Loc Cert.AdamwBrSbReferenceIdeal.nD Cert.AdamwBrSbReferenceIdeal.τ Cert.AdamwBrSbReferenceIdeal.sig) → Buf (Elt Ideal) ℓ) (g' : Dev Cert.AdamwBrSbReferenceIdeal.nD → PrngReg), Pre_AdamwBrSbIdeal m →
    (∀ c : Dev Cert.AdamwBrSbIdeal.nD,
      m' ((c.tc : Thread Cert.AdamwBrSbReferenceIdeal.nD Cert.AdamwBrSbReferenceIdeal.τ).loc Cert.AdamwBrSbReferenceIdeal.main_arg0) = m ((c.tc : Thread Cert.AdamwBrSbIdeal.nD Cert.AdamwBrSbIdeal.τ).loc Cert.AdamwBrSbIdeal.main_arg0)
      ∧ m' ((c.tc : Thread Cert.AdamwBrSbReferenceIdeal.nD Cert.AdamwBrSbReferenceIdeal.τ).loc Cert.AdamwBrSbReferenceIdeal.main_arg1) = m ((c.tc : Thread Cert.AdamwBrSbIdeal.nD Cert.AdamwBrSbIdeal.τ).loc Cert.AdamwBrSbIdeal.main_arg1)
      ∧ m' ((c.tc : Thread Cert.AdamwBrSbReferenceIdeal.nD Cert.AdamwBrSbReferenceIdeal.τ).loc Cert.AdamwBrSbReferenceIdeal.main_arg2) = m ((c.tc : Thread Cert.AdamwBrSbIdeal.nD Cert.AdamwBrSbIdeal.τ).loc Cert.AdamwBrSbIdeal.main_arg2)
      ∧ m' ((c.tc : Thread Cert.AdamwBrSbReferenceIdeal.nD Cert.AdamwBrSbReferenceIdeal.τ).loc Cert.AdamwBrSbReferenceIdeal.main_arg3) = m ((c.tc : Thread Cert.AdamwBrSbIdeal.nD Cert.AdamwBrSbIdeal.τ).loc Cert.AdamwBrSbIdeal.main_arg3)
      ∧ m' ((c.tc : Thread Cert.AdamwBrSbReferenceIdeal.nD Cert.AdamwBrSbReferenceIdeal.τ).loc Cert.AdamwBrSbReferenceIdeal.main_arg4) = m ((c.tc : Thread Cert.AdamwBrSbIdeal.nD Cert.AdamwBrSbIdeal.τ).loc Cert.AdamwBrSbIdeal.main_arg4)
      ∧ m' ((c.tc : Thread Cert.AdamwBrSbReferenceIdeal.nD Cert.AdamwBrSbReferenceIdeal.τ).loc Cert.AdamwBrSbReferenceIdeal.main_arg5) = m ((c.tc : Thread Cert.AdamwBrSbIdeal.nD Cert.AdamwBrSbIdeal.τ).loc Cert.AdamwBrSbIdeal.main_arg5)) →
    ∃ (v0 : (c : Dev Cert.AdamwBrSbIdeal.nD) → Buf (Elt Ideal) ((c.tc : Thread Cert.AdamwBrSbIdeal.nD Cert.AdamwBrSbIdeal.τ).loc Cert.AdamwBrSbIdeal.main_v0_0)) (v1 : (c : Dev Cert.AdamwBrSbIdeal.nD) → Buf (Elt Ideal) ((c.tc : Thread Cert.AdamwBrSbIdeal.nD Cert.AdamwBrSbIdeal.τ).loc Cert.AdamwBrSbIdeal.main_v0_1)) (v2 : (c : Dev Cert.AdamwBrSbIdeal.nD) → Buf (Elt Ideal) ((c.tc : Thread Cert.AdamwBrSbIdeal.nD Cert.AdamwBrSbIdeal.τ).loc Cert.AdamwBrSbIdeal.main_v0_2)) (v3 : (c : Dev Cert.AdamwBrSbIdeal.nD) → Buf (Elt Ideal) ((c.tc : Thread Cert.AdamwBrSbIdeal.nD Cert.AdamwBrSbIdeal.τ).loc Cert.AdamwBrSbIdeal.main_v0_3)),
      θ_run (Cert.AdamwBrSbIdeal.defs (F := Ideal)) (onTc (τ := Cert.AdamwBrSbIdeal.τ) (Cert.AdamwBrSbIdeal.main (F := Ideal))) ⟨m, fun _ => 0, g⟩ (fun r => ∀ c : Dev Cert.AdamwBrSbIdeal.nD,
          r.2.mem ((c.tc : Thread Cert.AdamwBrSbIdeal.nD Cert.AdamwBrSbIdeal.τ).loc Cert.AdamwBrSbIdeal.main_v0_0) = v0 c
          ∧ r.2.mem ((c.tc : Thread Cert.AdamwBrSbIdeal.nD Cert.AdamwBrSbIdeal.τ).loc Cert.AdamwBrSbIdeal.main_v0_1) = v1 c
          ∧ r.2.mem ((c.tc : Thread Cert.AdamwBrSbIdeal.nD Cert.AdamwBrSbIdeal.τ).loc Cert.AdamwBrSbIdeal.main_v0_2) = v2 c
          ∧ r.2.mem ((c.tc : Thread Cert.AdamwBrSbIdeal.nD Cert.AdamwBrSbIdeal.τ).loc Cert.AdamwBrSbIdeal.main_v0_3) = v3 c
          ∧ r.2.mem ((c.tc : Thread Cert.AdamwBrSbIdeal.nD Cert.AdamwBrSbIdeal.τ).loc Cert.AdamwBrSbIdeal.main_arg0) = m ((c.tc : Thread Cert.AdamwBrSbIdeal.nD Cert.AdamwBrSbIdeal.τ).loc Cert.AdamwBrSbIdeal.main_arg0)
          ∧ r.2.mem ((c.tc : Thread Cert.AdamwBrSbIdeal.nD Cert.AdamwBrSbIdeal.τ).loc Cert.AdamwBrSbIdeal.main_arg1) = m ((c.tc : Thread Cert.AdamwBrSbIdeal.nD Cert.AdamwBrSbIdeal.τ).loc Cert.AdamwBrSbIdeal.main_arg1)
          ∧ r.2.mem ((c.tc : Thread Cert.AdamwBrSbIdeal.nD Cert.AdamwBrSbIdeal.τ).loc Cert.AdamwBrSbIdeal.main_arg2) = m ((c.tc : Thread Cert.AdamwBrSbIdeal.nD Cert.AdamwBrSbIdeal.τ).loc Cert.AdamwBrSbIdeal.main_arg2)
          ∧ r.2.mem ((c.tc : Thread Cert.AdamwBrSbIdeal.nD Cert.AdamwBrSbIdeal.τ).loc Cert.AdamwBrSbIdeal.main_arg3) = m ((c.tc : Thread Cert.AdamwBrSbIdeal.nD Cert.AdamwBrSbIdeal.τ).loc Cert.AdamwBrSbIdeal.main_arg3)
          ∧ r.2.mem ((c.tc : Thread Cert.AdamwBrSbIdeal.nD Cert.AdamwBrSbIdeal.τ).loc Cert.AdamwBrSbIdeal.main_arg4) = m ((c.tc : Thread Cert.AdamwBrSbIdeal.nD Cert.AdamwBrSbIdeal.τ).loc Cert.AdamwBrSbIdeal.main_arg4)
          ∧ r.2.mem ((c.tc : Thread Cert.AdamwBrSbIdeal.nD Cert.AdamwBrSbIdeal.τ).loc Cert.AdamwBrSbIdeal.main_arg5) = m ((c.tc : Thread Cert.AdamwBrSbIdeal.nD Cert.AdamwBrSbIdeal.τ).loc Cert.AdamwBrSbIdeal.main_arg5))
      ∧ θ_run (Cert.AdamwBrSbReferenceIdeal.defs (F := Ideal)) (onTc (τ := Cert.AdamwBrSbReferenceIdeal.τ) (Cert.AdamwBrSbReferenceIdeal.main (F := Ideal))) ⟨m', fun _ => 0, g'⟩ (fun r => ∀ c : Dev Cert.AdamwBrSbReferenceIdeal.nD,
          r.2.mem ((c.tc : Thread Cert.AdamwBrSbReferenceIdeal.nD Cert.AdamwBrSbReferenceIdeal.τ).loc Cert.AdamwBrSbReferenceIdeal.main_v6) = v0 c
          ∧ r.2.mem ((c.tc : Thread Cert.AdamwBrSbReferenceIdeal.nD Cert.AdamwBrSbReferenceIdeal.τ).loc Cert.AdamwBrSbReferenceIdeal.main_v30) = v1 c
          ∧ r.2.mem ((c.tc : Thread Cert.AdamwBrSbReferenceIdeal.nD Cert.AdamwBrSbReferenceIdeal.τ).loc Cert.AdamwBrSbReferenceIdeal.main_v11) = v2 c
          ∧ r.2.mem ((c.tc : Thread Cert.AdamwBrSbReferenceIdeal.nD Cert.AdamwBrSbReferenceIdeal.τ).loc Cert.AdamwBrSbReferenceIdeal.main_v17) = v3 c
          ∧ r.2.mem ((c.tc : Thread Cert.AdamwBrSbReferenceIdeal.nD Cert.AdamwBrSbReferenceIdeal.τ).loc Cert.AdamwBrSbReferenceIdeal.main_arg0) = m' ((c.tc : Thread Cert.AdamwBrSbReferenceIdeal.nD Cert.AdamwBrSbReferenceIdeal.τ).loc Cert.AdamwBrSbReferenceIdeal.main_arg0)
          ∧ r.2.mem ((c.tc : Thread Cert.AdamwBrSbReferenceIdeal.nD Cert.AdamwBrSbReferenceIdeal.τ).loc Cert.AdamwBrSbReferenceIdeal.main_arg1) = m' ((c.tc : Thread Cert.AdamwBrSbReferenceIdeal.nD Cert.AdamwBrSbReferenceIdeal.τ).loc Cert.AdamwBrSbReferenceIdeal.main_arg1)
          ∧ r.2.mem ((c.tc : Thread Cert.AdamwBrSbReferenceIdeal.nD Cert.AdamwBrSbReferenceIdeal.τ).loc Cert.AdamwBrSbReferenceIdeal.main_arg2) = m' ((c.tc : Thread Cert.AdamwBrSbReferenceIdeal.nD Cert.AdamwBrSbReferenceIdeal.τ).loc Cert.AdamwBrSbReferenceIdeal.main_arg2)
          ∧ r.2.mem ((c.tc : Thread Cert.AdamwBrSbReferenceIdeal.nD Cert.AdamwBrSbReferenceIdeal.τ).loc Cert.AdamwBrSbReferenceIdeal.main_arg3) = m' ((c.tc : Thread Cert.AdamwBrSbReferenceIdeal.nD Cert.AdamwBrSbReferenceIdeal.τ).loc Cert.AdamwBrSbReferenceIdeal.main_arg3)
          ∧ r.2.mem ((c.tc : Thread Cert.AdamwBrSbReferenceIdeal.nD Cert.AdamwBrSbReferenceIdeal.τ).loc Cert.AdamwBrSbReferenceIdeal.main_arg4) = m' ((c.tc : Thread Cert.AdamwBrSbReferenceIdeal.nD Cert.AdamwBrSbReferenceIdeal.τ).loc Cert.AdamwBrSbReferenceIdeal.main_arg4)
          ∧ r.2.mem ((c.tc : Thread Cert.AdamwBrSbReferenceIdeal.nD Cert.AdamwBrSbReferenceIdeal.τ).loc Cert.AdamwBrSbReferenceIdeal.main_arg5) = m' ((c.tc : Thread Cert.AdamwBrSbReferenceIdeal.nD Cert.AdamwBrSbReferenceIdeal.τ).loc Cert.AdamwBrSbReferenceIdeal.main_arg5))

def preserves_AdamwBrPool_AdamwBrPoolIdeal : Prop :=
  True

def algebraic_AdamwBrPoolIdeal_AdamwBrPoolReferenceIdeal [hAdamwBrPoolIdeal : Cert.AdamwBrPoolIdeal.Facts] [hAdamwBrPoolReferenceIdeal : Cert.AdamwBrPoolReferenceIdeal.Facts] : Prop :=
  ∀ (m : (ℓ : Loc Cert.AdamwBrPoolIdeal.nD Cert.AdamwBrPoolIdeal.τ Cert.AdamwBrPoolIdeal.sig) → Buf (Elt Ideal) ℓ) (g : Dev Cert.AdamwBrPoolIdeal.nD → PrngReg)
    (m' : (ℓ : Loc Cert.AdamwBrPoolReferenceIdeal.nD Cert.AdamwBrPoolReferenceIdeal.τ Cert.AdamwBrPoolReferenceIdeal.sig) → Buf (Elt Ideal) ℓ) (g' : Dev Cert.AdamwBrPoolReferenceIdeal.nD → PrngReg), Pre_AdamwBrPoolIdeal m →
    (∀ c : Dev Cert.AdamwBrPoolIdeal.nD,
      m' ((c.tc : Thread Cert.AdamwBrPoolReferenceIdeal.nD Cert.AdamwBrPoolReferenceIdeal.τ).loc Cert.AdamwBrPoolReferenceIdeal.main_arg0) = m ((c.tc : Thread Cert.AdamwBrPoolIdeal.nD Cert.AdamwBrPoolIdeal.τ).loc Cert.AdamwBrPoolIdeal.main_arg0)
      ∧ m' ((c.tc : Thread Cert.AdamwBrPoolReferenceIdeal.nD Cert.AdamwBrPoolReferenceIdeal.τ).loc Cert.AdamwBrPoolReferenceIdeal.main_arg1) = m ((c.tc : Thread Cert.AdamwBrPoolIdeal.nD Cert.AdamwBrPoolIdeal.τ).loc Cert.AdamwBrPoolIdeal.main_arg1)
      ∧ m' ((c.tc : Thread Cert.AdamwBrPoolReferenceIdeal.nD Cert.AdamwBrPoolReferenceIdeal.τ).loc Cert.AdamwBrPoolReferenceIdeal.main_arg2) = m ((c.tc : Thread Cert.AdamwBrPoolIdeal.nD Cert.AdamwBrPoolIdeal.τ).loc Cert.AdamwBrPoolIdeal.main_arg2)
      ∧ m' ((c.tc : Thread Cert.AdamwBrPoolReferenceIdeal.nD Cert.AdamwBrPoolReferenceIdeal.τ).loc Cert.AdamwBrPoolReferenceIdeal.main_arg3) = m ((c.tc : Thread Cert.AdamwBrPoolIdeal.nD Cert.AdamwBrPoolIdeal.τ).loc Cert.AdamwBrPoolIdeal.main_arg3)
      ∧ m' ((c.tc : Thread Cert.AdamwBrPoolReferenceIdeal.nD Cert.AdamwBrPoolReferenceIdeal.τ).loc Cert.AdamwBrPoolReferenceIdeal.main_arg4) = m ((c.tc : Thread Cert.AdamwBrPoolIdeal.nD Cert.AdamwBrPoolIdeal.τ).loc Cert.AdamwBrPoolIdeal.main_arg4)
      ∧ m' ((c.tc : Thread Cert.AdamwBrPoolReferenceIdeal.nD Cert.AdamwBrPoolReferenceIdeal.τ).loc Cert.AdamwBrPoolReferenceIdeal.main_arg5) = m ((c.tc : Thread Cert.AdamwBrPoolIdeal.nD Cert.AdamwBrPoolIdeal.τ).loc Cert.AdamwBrPoolIdeal.main_arg5)) →
    ∃ (v0 : (c : Dev Cert.AdamwBrPoolIdeal.nD) → Buf (Elt Ideal) ((c.tc : Thread Cert.AdamwBrPoolIdeal.nD Cert.AdamwBrPoolIdeal.τ).loc Cert.AdamwBrPoolIdeal.main_v0_0)) (v1 : (c : Dev Cert.AdamwBrPoolIdeal.nD) → Buf (Elt Ideal) ((c.tc : Thread Cert.AdamwBrPoolIdeal.nD Cert.AdamwBrPoolIdeal.τ).loc Cert.AdamwBrPoolIdeal.main_v0_1)) (v2 : (c : Dev Cert.AdamwBrPoolIdeal.nD) → Buf (Elt Ideal) ((c.tc : Thread Cert.AdamwBrPoolIdeal.nD Cert.AdamwBrPoolIdeal.τ).loc Cert.AdamwBrPoolIdeal.main_v0_2)) (v3 : (c : Dev Cert.AdamwBrPoolIdeal.nD) → Buf (Elt Ideal) ((c.tc : Thread Cert.AdamwBrPoolIdeal.nD Cert.AdamwBrPoolIdeal.τ).loc Cert.AdamwBrPoolIdeal.main_v0_3)),
      θ_run (Cert.AdamwBrPoolIdeal.defs (F := Ideal)) (onTc (τ := Cert.AdamwBrPoolIdeal.τ) (Cert.AdamwBrPoolIdeal.main (F := Ideal))) ⟨m, fun _ => 0, g⟩ (fun r => ∀ c : Dev Cert.AdamwBrPoolIdeal.nD,
          r.2.mem ((c.tc : Thread Cert.AdamwBrPoolIdeal.nD Cert.AdamwBrPoolIdeal.τ).loc Cert.AdamwBrPoolIdeal.main_v0_0) = v0 c
          ∧ r.2.mem ((c.tc : Thread Cert.AdamwBrPoolIdeal.nD Cert.AdamwBrPoolIdeal.τ).loc Cert.AdamwBrPoolIdeal.main_v0_1) = v1 c
          ∧ r.2.mem ((c.tc : Thread Cert.AdamwBrPoolIdeal.nD Cert.AdamwBrPoolIdeal.τ).loc Cert.AdamwBrPoolIdeal.main_v0_2) = v2 c
          ∧ r.2.mem ((c.tc : Thread Cert.AdamwBrPoolIdeal.nD Cert.AdamwBrPoolIdeal.τ).loc Cert.AdamwBrPoolIdeal.main_v0_3) = v3 c
          ∧ r.2.mem ((c.tc : Thread Cert.AdamwBrPoolIdeal.nD Cert.AdamwBrPoolIdeal.τ).loc Cert.AdamwBrPoolIdeal.main_arg0) = m ((c.tc : Thread Cert.AdamwBrPoolIdeal.nD Cert.AdamwBrPoolIdeal.τ).loc Cert.AdamwBrPoolIdeal.main_arg0)
          ∧ r.2.mem ((c.tc : Thread Cert.AdamwBrPoolIdeal.nD Cert.AdamwBrPoolIdeal.τ).loc Cert.AdamwBrPoolIdeal.main_arg1) = m ((c.tc : Thread Cert.AdamwBrPoolIdeal.nD Cert.AdamwBrPoolIdeal.τ).loc Cert.AdamwBrPoolIdeal.main_arg1)
          ∧ r.2.mem ((c.tc : Thread Cert.AdamwBrPoolIdeal.nD Cert.AdamwBrPoolIdeal.τ).loc Cert.AdamwBrPoolIdeal.main_arg2) = m ((c.tc : Thread Cert.AdamwBrPoolIdeal.nD Cert.AdamwBrPoolIdeal.τ).loc Cert.AdamwBrPoolIdeal.main_arg2)
          ∧ r.2.mem ((c.tc : Thread Cert.AdamwBrPoolIdeal.nD Cert.AdamwBrPoolIdeal.τ).loc Cert.AdamwBrPoolIdeal.main_arg3) = m ((c.tc : Thread Cert.AdamwBrPoolIdeal.nD Cert.AdamwBrPoolIdeal.τ).loc Cert.AdamwBrPoolIdeal.main_arg3)
          ∧ r.2.mem ((c.tc : Thread Cert.AdamwBrPoolIdeal.nD Cert.AdamwBrPoolIdeal.τ).loc Cert.AdamwBrPoolIdeal.main_arg4) = m ((c.tc : Thread Cert.AdamwBrPoolIdeal.nD Cert.AdamwBrPoolIdeal.τ).loc Cert.AdamwBrPoolIdeal.main_arg4)
          ∧ r.2.mem ((c.tc : Thread Cert.AdamwBrPoolIdeal.nD Cert.AdamwBrPoolIdeal.τ).loc Cert.AdamwBrPoolIdeal.main_arg5) = m ((c.tc : Thread Cert.AdamwBrPoolIdeal.nD Cert.AdamwBrPoolIdeal.τ).loc Cert.AdamwBrPoolIdeal.main_arg5))
      ∧ θ_run (Cert.AdamwBrPoolReferenceIdeal.defs (F := Ideal)) (onTc (τ := Cert.AdamwBrPoolReferenceIdeal.τ) (Cert.AdamwBrPoolReferenceIdeal.main (F := Ideal))) ⟨m', fun _ => 0, g'⟩ (fun r => ∀ c : Dev Cert.AdamwBrPoolReferenceIdeal.nD,
          r.2.mem ((c.tc : Thread Cert.AdamwBrPoolReferenceIdeal.nD Cert.AdamwBrPoolReferenceIdeal.τ).loc Cert.AdamwBrPoolReferenceIdeal.main_v6) = v0 c
          ∧ r.2.mem ((c.tc : Thread Cert.AdamwBrPoolReferenceIdeal.nD Cert.AdamwBrPoolReferenceIdeal.τ).loc Cert.AdamwBrPoolReferenceIdeal.main_v30) = v1 c
          ∧ r.2.mem ((c.tc : Thread Cert.AdamwBrPoolReferenceIdeal.nD Cert.AdamwBrPoolReferenceIdeal.τ).loc Cert.AdamwBrPoolReferenceIdeal.main_v11) = v2 c
          ∧ r.2.mem ((c.tc : Thread Cert.AdamwBrPoolReferenceIdeal.nD Cert.AdamwBrPoolReferenceIdeal.τ).loc Cert.AdamwBrPoolReferenceIdeal.main_v17) = v3 c
          ∧ r.2.mem ((c.tc : Thread Cert.AdamwBrPoolReferenceIdeal.nD Cert.AdamwBrPoolReferenceIdeal.τ).loc Cert.AdamwBrPoolReferenceIdeal.main_arg0) = m' ((c.tc : Thread Cert.AdamwBrPoolReferenceIdeal.nD Cert.AdamwBrPoolReferenceIdeal.τ).loc Cert.AdamwBrPoolReferenceIdeal.main_arg0)
          ∧ r.2.mem ((c.tc : Thread Cert.AdamwBrPoolReferenceIdeal.nD Cert.AdamwBrPoolReferenceIdeal.τ).loc Cert.AdamwBrPoolReferenceIdeal.main_arg1) = m' ((c.tc : Thread Cert.AdamwBrPoolReferenceIdeal.nD Cert.AdamwBrPoolReferenceIdeal.τ).loc Cert.AdamwBrPoolReferenceIdeal.main_arg1)
          ∧ r.2.mem ((c.tc : Thread Cert.AdamwBrPoolReferenceIdeal.nD Cert.AdamwBrPoolReferenceIdeal.τ).loc Cert.AdamwBrPoolReferenceIdeal.main_arg2) = m' ((c.tc : Thread Cert.AdamwBrPoolReferenceIdeal.nD Cert.AdamwBrPoolReferenceIdeal.τ).loc Cert.AdamwBrPoolReferenceIdeal.main_arg2)
          ∧ r.2.mem ((c.tc : Thread Cert.AdamwBrPoolReferenceIdeal.nD Cert.AdamwBrPoolReferenceIdeal.τ).loc Cert.AdamwBrPoolReferenceIdeal.main_arg3) = m' ((c.tc : Thread Cert.AdamwBrPoolReferenceIdeal.nD Cert.AdamwBrPoolReferenceIdeal.τ).loc Cert.AdamwBrPoolReferenceIdeal.main_arg3)
          ∧ r.2.mem ((c.tc : Thread Cert.AdamwBrPoolReferenceIdeal.nD Cert.AdamwBrPoolReferenceIdeal.τ).loc Cert.AdamwBrPoolReferenceIdeal.main_arg4) = m' ((c.tc : Thread Cert.AdamwBrPoolReferenceIdeal.nD Cert.AdamwBrPoolReferenceIdeal.τ).loc Cert.AdamwBrPoolReferenceIdeal.main_arg4)
          ∧ r.2.mem ((c.tc : Thread Cert.AdamwBrPoolReferenceIdeal.nD Cert.AdamwBrPoolReferenceIdeal.τ).loc Cert.AdamwBrPoolReferenceIdeal.main_arg5) = m' ((c.tc : Thread Cert.AdamwBrPoolReferenceIdeal.nD Cert.AdamwBrPoolReferenceIdeal.τ).loc Cert.AdamwBrPoolReferenceIdeal.main_arg5))

def preserves_AdamwOut_AdamwOutIdeal : Prop :=
  True

def algebraic_AdamwOutIdeal_AdamwOutReferenceIdeal [hAdamwOutIdeal : Cert.AdamwOutIdeal.Facts] [hAdamwOutReferenceIdeal : Cert.AdamwOutReferenceIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg)
    (m' : (ℓ : Loc Cert.AdamwOutReferenceIdeal.nD Cert.AdamwOutReferenceIdeal.τ Cert.AdamwOutReferenceIdeal.sig) → Buf (Elt Ideal) ℓ) (g' : Dev Cert.AdamwOutReferenceIdeal.nD → PrngReg), Pre_AdamwOutIdeal m →
    (∀ c : Dev Cert.AdamwOutIdeal.nD,
      m' ((c.tc : Thread Cert.AdamwOutReferenceIdeal.nD Cert.AdamwOutReferenceIdeal.τ).loc Cert.AdamwOutReferenceIdeal.main_arg0) = m ((c.tc : Thread Cert.AdamwOutIdeal.nD Cert.AdamwOutIdeal.τ).loc Cert.AdamwOutIdeal.main_arg0)
      ∧ m' ((c.tc : Thread Cert.AdamwOutReferenceIdeal.nD Cert.AdamwOutReferenceIdeal.τ).loc Cert.AdamwOutReferenceIdeal.main_arg1) = m ((c.tc : Thread Cert.AdamwOutIdeal.nD Cert.AdamwOutIdeal.τ).loc Cert.AdamwOutIdeal.main_arg1)
      ∧ m' ((c.tc : Thread Cert.AdamwOutReferenceIdeal.nD Cert.AdamwOutReferenceIdeal.τ).loc Cert.AdamwOutReferenceIdeal.main_arg2) = m ((c.tc : Thread Cert.AdamwOutIdeal.nD Cert.AdamwOutIdeal.τ).loc Cert.AdamwOutIdeal.main_arg2)
      ∧ m' ((c.tc : Thread Cert.AdamwOutReferenceIdeal.nD Cert.AdamwOutReferenceIdeal.τ).loc Cert.AdamwOutReferenceIdeal.main_arg3) = m ((c.tc : Thread Cert.AdamwOutIdeal.nD Cert.AdamwOutIdeal.τ).loc Cert.AdamwOutIdeal.main_arg3)
      ∧ m' ((c.tc : Thread Cert.AdamwOutReferenceIdeal.nD Cert.AdamwOutReferenceIdeal.τ).loc Cert.AdamwOutReferenceIdeal.main_arg4) = m ((c.tc : Thread Cert.AdamwOutIdeal.nD Cert.AdamwOutIdeal.τ).loc Cert.AdamwOutIdeal.main_arg4)
      ∧ m' ((c.tc : Thread Cert.AdamwOutReferenceIdeal.nD Cert.AdamwOutReferenceIdeal.τ).loc Cert.AdamwOutReferenceIdeal.main_arg5) = m ((c.tc : Thread Cert.AdamwOutIdeal.nD Cert.AdamwOutIdeal.τ).loc Cert.AdamwOutIdeal.main_arg5)) →
    ∃ (v0 : (c : Dev Cert.AdamwOutIdeal.nD) → Buf (Elt Ideal) ((c.tc : Thread Cert.AdamwOutIdeal.nD Cert.AdamwOutIdeal.τ).loc Cert.AdamwOutIdeal.main_v0_0)) (v1 : (c : Dev Cert.AdamwOutIdeal.nD) → Buf (Elt Ideal) ((c.tc : Thread Cert.AdamwOutIdeal.nD Cert.AdamwOutIdeal.τ).loc Cert.AdamwOutIdeal.main_v0_1)) (v2 : (c : Dev Cert.AdamwOutIdeal.nD) → Buf (Elt Ideal) ((c.tc : Thread Cert.AdamwOutIdeal.nD Cert.AdamwOutIdeal.τ).loc Cert.AdamwOutIdeal.main_v0_2)) (v3 : (c : Dev Cert.AdamwOutIdeal.nD) → Buf (Elt Ideal) ((c.tc : Thread Cert.AdamwOutIdeal.nD Cert.AdamwOutIdeal.τ).loc Cert.AdamwOutIdeal.main_v0_3)),
      θ_run (Cert.AdamwOutIdeal.defs (F := Ideal)) (onTc (τ := Cert.AdamwOutIdeal.τ) (Cert.AdamwOutIdeal.main (F := Ideal))) ⟨m, fun _ => 0, g⟩ (fun r => ∀ c : Dev Cert.AdamwOutIdeal.nD,
          r.2.mem ((c.tc : Thread Cert.AdamwOutIdeal.nD Cert.AdamwOutIdeal.τ).loc Cert.AdamwOutIdeal.main_v0_0) = v0 c
          ∧ r.2.mem ((c.tc : Thread Cert.AdamwOutIdeal.nD Cert.AdamwOutIdeal.τ).loc Cert.AdamwOutIdeal.main_v0_1) = v1 c
          ∧ r.2.mem ((c.tc : Thread Cert.AdamwOutIdeal.nD Cert.AdamwOutIdeal.τ).loc Cert.AdamwOutIdeal.main_v0_2) = v2 c
          ∧ r.2.mem ((c.tc : Thread Cert.AdamwOutIdeal.nD Cert.AdamwOutIdeal.τ).loc Cert.AdamwOutIdeal.main_v0_3) = v3 c
          ∧ r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
          ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
          ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
          ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3)
          ∧ r.2.mem ((c.tc : Thread Cert.AdamwOutIdeal.nD Cert.AdamwOutIdeal.τ).loc Cert.AdamwOutIdeal.main_arg4) = m ((c.tc : Thread Cert.AdamwOutIdeal.nD Cert.AdamwOutIdeal.τ).loc Cert.AdamwOutIdeal.main_arg4)
          ∧ r.2.mem ((c.tc : Thread Cert.AdamwOutIdeal.nD Cert.AdamwOutIdeal.τ).loc Cert.AdamwOutIdeal.main_arg5) = m ((c.tc : Thread Cert.AdamwOutIdeal.nD Cert.AdamwOutIdeal.τ).loc Cert.AdamwOutIdeal.main_arg5))
      ∧ θ_run (Cert.AdamwOutReferenceIdeal.defs (F := Ideal)) (onTc (τ := Cert.AdamwOutReferenceIdeal.τ) (Cert.AdamwOutReferenceIdeal.main (F := Ideal))) ⟨m', fun _ => 0, g'⟩ (fun r => ∀ c : Dev Cert.AdamwOutReferenceIdeal.nD,
          r.2.mem ((c.tc : Thread Cert.AdamwOutReferenceIdeal.nD Cert.AdamwOutReferenceIdeal.τ).loc Cert.AdamwOutReferenceIdeal.main_v6) = v0 c
          ∧ r.2.mem ((c.tc : Thread Cert.AdamwOutReferenceIdeal.nD Cert.AdamwOutReferenceIdeal.τ).loc Cert.AdamwOutReferenceIdeal.main_v30) = v1 c
          ∧ r.2.mem ((c.tc : Thread Cert.AdamwOutReferenceIdeal.nD Cert.AdamwOutReferenceIdeal.τ).loc Cert.AdamwOutReferenceIdeal.main_v11) = v2 c
          ∧ r.2.mem ((c.tc : Thread Cert.AdamwOutReferenceIdeal.nD Cert.AdamwOutReferenceIdeal.τ).loc Cert.AdamwOutReferenceIdeal.main_v17) = v3 c
          ∧ r.2.mem ((c.tc : Thread Cert.AdamwOutReferenceIdeal.nD Cert.AdamwOutReferenceIdeal.τ).loc Cert.AdamwOutReferenceIdeal.main_arg0) = m' ((c.tc : Thread Cert.AdamwOutReferenceIdeal.nD Cert.AdamwOutReferenceIdeal.τ).loc Cert.AdamwOutReferenceIdeal.main_arg0)
          ∧ r.2.mem ((c.tc : Thread Cert.AdamwOutReferenceIdeal.nD Cert.AdamwOutReferenceIdeal.τ).loc Cert.AdamwOutReferenceIdeal.main_arg1) = m' ((c.tc : Thread Cert.AdamwOutReferenceIdeal.nD Cert.AdamwOutReferenceIdeal.τ).loc Cert.AdamwOutReferenceIdeal.main_arg1)
          ∧ r.2.mem ((c.tc : Thread Cert.AdamwOutReferenceIdeal.nD Cert.AdamwOutReferenceIdeal.τ).loc Cert.AdamwOutReferenceIdeal.main_arg2) = m' ((c.tc : Thread Cert.AdamwOutReferenceIdeal.nD Cert.AdamwOutReferenceIdeal.τ).loc Cert.AdamwOutReferenceIdeal.main_arg2)
          ∧ r.2.mem ((c.tc : Thread Cert.AdamwOutReferenceIdeal.nD Cert.AdamwOutReferenceIdeal.τ).loc Cert.AdamwOutReferenceIdeal.main_arg3) = m' ((c.tc : Thread Cert.AdamwOutReferenceIdeal.nD Cert.AdamwOutReferenceIdeal.τ).loc Cert.AdamwOutReferenceIdeal.main_arg3)
          ∧ r.2.mem ((c.tc : Thread Cert.AdamwOutReferenceIdeal.nD Cert.AdamwOutReferenceIdeal.τ).loc Cert.AdamwOutReferenceIdeal.main_arg4) = m' ((c.tc : Thread Cert.AdamwOutReferenceIdeal.nD Cert.AdamwOutReferenceIdeal.τ).loc Cert.AdamwOutReferenceIdeal.main_arg4)
          ∧ r.2.mem ((c.tc : Thread Cert.AdamwOutReferenceIdeal.nD Cert.AdamwOutReferenceIdeal.τ).loc Cert.AdamwOutReferenceIdeal.main_arg5) = m' ((c.tc : Thread Cert.AdamwOutReferenceIdeal.nD Cert.AdamwOutReferenceIdeal.τ).loc Cert.AdamwOutReferenceIdeal.main_arg5))

def preserves_AdamwFf_AdamwFfIdeal : Prop :=
  True

def algebraic_AdamwFfIdeal_AdamwFfReferenceIdeal [hAdamwFfIdeal : Cert.AdamwFfIdeal.Facts] [hAdamwFfReferenceIdeal : Cert.AdamwFfReferenceIdeal.Facts] : Prop :=
  ∀ (m : (ℓ : Loc Cert.AdamwFfIdeal.nD Cert.AdamwFfIdeal.τ Cert.AdamwFfIdeal.sig) → Buf (Elt Ideal) ℓ) (g : Dev Cert.AdamwFfIdeal.nD → PrngReg)
    (m' : (ℓ : Loc Cert.AdamwFfReferenceIdeal.nD Cert.AdamwFfReferenceIdeal.τ Cert.AdamwFfReferenceIdeal.sig) → Buf (Elt Ideal) ℓ) (g' : Dev Cert.AdamwFfReferenceIdeal.nD → PrngReg), Pre_AdamwFfIdeal m →
    (∀ c : Dev Cert.AdamwFfIdeal.nD,
      m' ((c.tc : Thread Cert.AdamwFfReferenceIdeal.nD Cert.AdamwFfReferenceIdeal.τ).loc Cert.AdamwFfReferenceIdeal.main_arg0) = m ((c.tc : Thread Cert.AdamwFfIdeal.nD Cert.AdamwFfIdeal.τ).loc Cert.AdamwFfIdeal.main_arg0)
      ∧ m' ((c.tc : Thread Cert.AdamwFfReferenceIdeal.nD Cert.AdamwFfReferenceIdeal.τ).loc Cert.AdamwFfReferenceIdeal.main_arg1) = m ((c.tc : Thread Cert.AdamwFfIdeal.nD Cert.AdamwFfIdeal.τ).loc Cert.AdamwFfIdeal.main_arg1)
      ∧ m' ((c.tc : Thread Cert.AdamwFfReferenceIdeal.nD Cert.AdamwFfReferenceIdeal.τ).loc Cert.AdamwFfReferenceIdeal.main_arg2) = m ((c.tc : Thread Cert.AdamwFfIdeal.nD Cert.AdamwFfIdeal.τ).loc Cert.AdamwFfIdeal.main_arg2)
      ∧ m' ((c.tc : Thread Cert.AdamwFfReferenceIdeal.nD Cert.AdamwFfReferenceIdeal.τ).loc Cert.AdamwFfReferenceIdeal.main_arg3) = m ((c.tc : Thread Cert.AdamwFfIdeal.nD Cert.AdamwFfIdeal.τ).loc Cert.AdamwFfIdeal.main_arg3)
      ∧ m' ((c.tc : Thread Cert.AdamwFfReferenceIdeal.nD Cert.AdamwFfReferenceIdeal.τ).loc Cert.AdamwFfReferenceIdeal.main_arg4) = m ((c.tc : Thread Cert.AdamwFfIdeal.nD Cert.AdamwFfIdeal.τ).loc Cert.AdamwFfIdeal.main_arg4)
      ∧ m' ((c.tc : Thread Cert.AdamwFfReferenceIdeal.nD Cert.AdamwFfReferenceIdeal.τ).loc Cert.AdamwFfReferenceIdeal.main_arg5) = m ((c.tc : Thread Cert.AdamwFfIdeal.nD Cert.AdamwFfIdeal.τ).loc Cert.AdamwFfIdeal.main_arg5)) →
    ∃ (v0 : (c : Dev Cert.AdamwFfIdeal.nD) → Buf (Elt Ideal) ((c.tc : Thread Cert.AdamwFfIdeal.nD Cert.AdamwFfIdeal.τ).loc Cert.AdamwFfIdeal.main_v0_0)) (v1 : (c : Dev Cert.AdamwFfIdeal.nD) → Buf (Elt Ideal) ((c.tc : Thread Cert.AdamwFfIdeal.nD Cert.AdamwFfIdeal.τ).loc Cert.AdamwFfIdeal.main_v0_1)) (v2 : (c : Dev Cert.AdamwFfIdeal.nD) → Buf (Elt Ideal) ((c.tc : Thread Cert.AdamwFfIdeal.nD Cert.AdamwFfIdeal.τ).loc Cert.AdamwFfIdeal.main_v0_2)) (v3 : (c : Dev Cert.AdamwFfIdeal.nD) → Buf (Elt Ideal) ((c.tc : Thread Cert.AdamwFfIdeal.nD Cert.AdamwFfIdeal.τ).loc Cert.AdamwFfIdeal.main_v0_3)),
      θ_run (Cert.AdamwFfIdeal.defs (F := Ideal)) (onTc (τ := Cert.AdamwFfIdeal.τ) (Cert.AdamwFfIdeal.main (F := Ideal))) ⟨m, fun _ => 0, g⟩ (fun r => ∀ c : Dev Cert.AdamwFfIdeal.nD,
          r.2.mem ((c.tc : Thread Cert.AdamwFfIdeal.nD Cert.AdamwFfIdeal.τ).loc Cert.AdamwFfIdeal.main_v0_0) = v0 c
          ∧ r.2.mem ((c.tc : Thread Cert.AdamwFfIdeal.nD Cert.AdamwFfIdeal.τ).loc Cert.AdamwFfIdeal.main_v0_1) = v1 c
          ∧ r.2.mem ((c.tc : Thread Cert.AdamwFfIdeal.nD Cert.AdamwFfIdeal.τ).loc Cert.AdamwFfIdeal.main_v0_2) = v2 c
          ∧ r.2.mem ((c.tc : Thread Cert.AdamwFfIdeal.nD Cert.AdamwFfIdeal.τ).loc Cert.AdamwFfIdeal.main_v0_3) = v3 c
          ∧ r.2.mem ((c.tc : Thread Cert.AdamwFfIdeal.nD Cert.AdamwFfIdeal.τ).loc Cert.AdamwFfIdeal.main_arg0) = m ((c.tc : Thread Cert.AdamwFfIdeal.nD Cert.AdamwFfIdeal.τ).loc Cert.AdamwFfIdeal.main_arg0)
          ∧ r.2.mem ((c.tc : Thread Cert.AdamwFfIdeal.nD Cert.AdamwFfIdeal.τ).loc Cert.AdamwFfIdeal.main_arg1) = m ((c.tc : Thread Cert.AdamwFfIdeal.nD Cert.AdamwFfIdeal.τ).loc Cert.AdamwFfIdeal.main_arg1)
          ∧ r.2.mem ((c.tc : Thread Cert.AdamwFfIdeal.nD Cert.AdamwFfIdeal.τ).loc Cert.AdamwFfIdeal.main_arg2) = m ((c.tc : Thread Cert.AdamwFfIdeal.nD Cert.AdamwFfIdeal.τ).loc Cert.AdamwFfIdeal.main_arg2)
          ∧ r.2.mem ((c.tc : Thread Cert.AdamwFfIdeal.nD Cert.AdamwFfIdeal.τ).loc Cert.AdamwFfIdeal.main_arg3) = m ((c.tc : Thread Cert.AdamwFfIdeal.nD Cert.AdamwFfIdeal.τ).loc Cert.AdamwFfIdeal.main_arg3)
          ∧ r.2.mem ((c.tc : Thread Cert.AdamwFfIdeal.nD Cert.AdamwFfIdeal.τ).loc Cert.AdamwFfIdeal.main_arg4) = m ((c.tc : Thread Cert.AdamwFfIdeal.nD Cert.AdamwFfIdeal.τ).loc Cert.AdamwFfIdeal.main_arg4)
          ∧ r.2.mem ((c.tc : Thread Cert.AdamwFfIdeal.nD Cert.AdamwFfIdeal.τ).loc Cert.AdamwFfIdeal.main_arg5) = m ((c.tc : Thread Cert.AdamwFfIdeal.nD Cert.AdamwFfIdeal.τ).loc Cert.AdamwFfIdeal.main_arg5))
      ∧ θ_run (Cert.AdamwFfReferenceIdeal.defs (F := Ideal)) (onTc (τ := Cert.AdamwFfReferenceIdeal.τ) (Cert.AdamwFfReferenceIdeal.main (F := Ideal))) ⟨m', fun _ => 0, g'⟩ (fun r => ∀ c : Dev Cert.AdamwFfReferenceIdeal.nD,
          r.2.mem ((c.tc : Thread Cert.AdamwFfReferenceIdeal.nD Cert.AdamwFfReferenceIdeal.τ).loc Cert.AdamwFfReferenceIdeal.main_v6) = v0 c
          ∧ r.2.mem ((c.tc : Thread Cert.AdamwFfReferenceIdeal.nD Cert.AdamwFfReferenceIdeal.τ).loc Cert.AdamwFfReferenceIdeal.main_v30) = v1 c
          ∧ r.2.mem ((c.tc : Thread Cert.AdamwFfReferenceIdeal.nD Cert.AdamwFfReferenceIdeal.τ).loc Cert.AdamwFfReferenceIdeal.main_v11) = v2 c
          ∧ r.2.mem ((c.tc : Thread Cert.AdamwFfReferenceIdeal.nD Cert.AdamwFfReferenceIdeal.τ).loc Cert.AdamwFfReferenceIdeal.main_v17) = v3 c
          ∧ r.2.mem ((c.tc : Thread Cert.AdamwFfReferenceIdeal.nD Cert.AdamwFfReferenceIdeal.τ).loc Cert.AdamwFfReferenceIdeal.main_arg0) = m' ((c.tc : Thread Cert.AdamwFfReferenceIdeal.nD Cert.AdamwFfReferenceIdeal.τ).loc Cert.AdamwFfReferenceIdeal.main_arg0)
          ∧ r.2.mem ((c.tc : Thread Cert.AdamwFfReferenceIdeal.nD Cert.AdamwFfReferenceIdeal.τ).loc Cert.AdamwFfReferenceIdeal.main_arg1) = m' ((c.tc : Thread Cert.AdamwFfReferenceIdeal.nD Cert.AdamwFfReferenceIdeal.τ).loc Cert.AdamwFfReferenceIdeal.main_arg1)
          ∧ r.2.mem ((c.tc : Thread Cert.AdamwFfReferenceIdeal.nD Cert.AdamwFfReferenceIdeal.τ).loc Cert.AdamwFfReferenceIdeal.main_arg2) = m' ((c.tc : Thread Cert.AdamwFfReferenceIdeal.nD Cert.AdamwFfReferenceIdeal.τ).loc Cert.AdamwFfReferenceIdeal.main_arg2)
          ∧ r.2.mem ((c.tc : Thread Cert.AdamwFfReferenceIdeal.nD Cert.AdamwFfReferenceIdeal.τ).loc Cert.AdamwFfReferenceIdeal.main_arg3) = m' ((c.tc : Thread Cert.AdamwFfReferenceIdeal.nD Cert.AdamwFfReferenceIdeal.τ).loc Cert.AdamwFfReferenceIdeal.main_arg3)
          ∧ r.2.mem ((c.tc : Thread Cert.AdamwFfReferenceIdeal.nD Cert.AdamwFfReferenceIdeal.τ).loc Cert.AdamwFfReferenceIdeal.main_arg4) = m' ((c.tc : Thread Cert.AdamwFfReferenceIdeal.nD Cert.AdamwFfReferenceIdeal.τ).loc Cert.AdamwFfReferenceIdeal.main_arg4)
          ∧ r.2.mem ((c.tc : Thread Cert.AdamwFfReferenceIdeal.nD Cert.AdamwFfReferenceIdeal.τ).loc Cert.AdamwFfReferenceIdeal.main_arg5) = m' ((c.tc : Thread Cert.AdamwFfReferenceIdeal.nD Cert.AdamwFfReferenceIdeal.τ).loc Cert.AdamwFfReferenceIdeal.main_arg5))

def Claim : Prop :=
  ∃ (hKernel : Cert.Kernel.Facts) (hKernelIdeal : Cert.KernelIdeal.Facts) (hReferenceIdeal : Cert.ReferenceIdeal.Facts) (hFfIn : Cert.FfIn.Facts) (hFfInIdeal : Cert.FfInIdeal.Facts) (hFfInReferenceIdeal : Cert.FfInReferenceIdeal.Facts) (hFfOut : Cert.FfOut.Facts) (hFfOutIdeal : Cert.FfOutIdeal.Facts) (hFfOutReferenceIdeal : Cert.FfOutReferenceIdeal.Facts) (hFfOutDw : Cert.FfOutDw.Facts) (hFfOutDwIdeal : Cert.FfOutDwIdeal.Facts) (hFfOutDwReferenceIdeal : Cert.FfOutDwReferenceIdeal.Facts) (hFfInDx : Cert.FfInDx.Facts) (hFfInDxIdeal : Cert.FfInDxIdeal.Facts) (hFfInDxReferenceIdeal : Cert.FfInDxReferenceIdeal.Facts) (hFfInDw : Cert.FfInDw.Facts) (hFfInDwIdeal : Cert.FfInDwIdeal.Facts) (hFfInDwReferenceIdeal : Cert.FfInDwReferenceIdeal.Facts) (hFfOutDx : Cert.FfOutDx.Facts) (hFfOutDxIdeal : Cert.FfOutDxIdeal.Facts) (hFfOutDxReferenceIdeal : Cert.FfOutDxReferenceIdeal.Facts) (hProjQkv : Cert.ProjQkv.Facts) (hProjQkvIdeal : Cert.ProjQkvIdeal.Facts) (hProjQkvReferenceIdeal : Cert.ProjQkvReferenceIdeal.Facts) (hProjMix : Cert.ProjMix.Facts) (hProjMixIdeal : Cert.ProjMixIdeal.Facts) (hProjMixReferenceIdeal : Cert.ProjMixReferenceIdeal.Facts) (hProjGates : Cert.ProjGates.Facts) (hProjGatesIdeal : Cert.ProjGatesIdeal.Facts) (hProjGatesReferenceIdeal : Cert.ProjGatesReferenceIdeal.Facts) (hProjDx : Cert.ProjDx.Facts) (hProjDxIdeal : Cert.ProjDxIdeal.Facts) (hProjDxReferenceIdeal : Cert.ProjDxReferenceIdeal.Facts) (hProjDw : Cert.ProjDw.Facts) (hProjDwIdeal : Cert.ProjDwIdeal.Facts) (hProjDwReferenceIdeal : Cert.ProjDwReferenceIdeal.Facts) (hOutProj : Cert.OutProj.Facts) (hOutProjIdeal : Cert.OutProjIdeal.Facts) (hOutProjReferenceIdeal : Cert.OutProjReferenceIdeal.Facts) (hOutProjDx : Cert.OutProjDx.Facts) (hOutProjDxIdeal : Cert.OutProjDxIdeal.Facts) (hOutProjDxReferenceIdeal : Cert.OutProjDxReferenceIdeal.Facts) (hOutProjDw : Cert.OutProjDw.Facts) (hOutProjDwIdeal : Cert.OutProjDwIdeal.Facts) (hOutProjDwReferenceIdeal : Cert.OutProjDwReferenceIdeal.Facts) (hBrSb : Cert.BrSb.Facts) (hBrSbIdeal : Cert.BrSbIdeal.Facts) (hBrSbReferenceIdeal : Cert.BrSbReferenceIdeal.Facts) (hBrSbDx : Cert.BrSbDx.Facts) (hBrSbDxIdeal : Cert.BrSbDxIdeal.Facts) (hBrSbDxReferenceIdeal : Cert.BrSbDxReferenceIdeal.Facts) (hBrSbDw : Cert.BrSbDw.Facts) (hBrSbDwIdeal : Cert.BrSbDwIdeal.Facts) (hBrSbDwReferenceIdeal : Cert.BrSbDwReferenceIdeal.Facts) (hBrPool : Cert.BrPool.Facts) (hBrPoolIdeal : Cert.BrPoolIdeal.Facts) (hBrPoolReferenceIdeal : Cert.BrPoolReferenceIdeal.Facts) (hBrPoolDx : Cert.BrPoolDx.Facts) (hBrPoolDxIdeal : Cert.BrPoolDxIdeal.Facts) (hBrPoolDxReferenceIdeal : Cert.BrPoolDxReferenceIdeal.Facts) (hBrPoolDw : Cert.BrPoolDw.Facts) (hBrPoolDwIdeal : Cert.BrPoolDwIdeal.Facts) (hBrPoolDwReferenceIdeal : Cert.BrPoolDwReferenceIdeal.Facts) (hMergeFwd : Cert.MergeFwd.Facts) (hMergeFwdIdeal : Cert.MergeFwdIdeal.Facts) (hMergeFwdReferenceIdeal : Cert.MergeFwdReferenceIdeal.Facts) (hMergeBwd : Cert.MergeBwd.Facts) (hMergeBwdIdeal : Cert.MergeBwdIdeal.Facts) (hMergeBwdReferenceIdeal : Cert.MergeBwdReferenceIdeal.Facts) (hRmsFwd : Cert.RmsFwd.Facts) (hRmsFwdIdeal : Cert.RmsFwdIdeal.Facts) (hRmsFwdReferenceIdeal : Cert.RmsFwdReferenceIdeal.Facts) (hResidMix : Cert.ResidMix.Facts) (hResidMixIdeal : Cert.ResidMixIdeal.Facts) (hResidMixReferenceIdeal : Cert.ResidMixReferenceIdeal.Facts) (hResidLast : Cert.ResidLast.Facts) (hResidLastIdeal : Cert.ResidLastIdeal.Facts) (hResidLastReferenceIdeal : Cert.ResidLastReferenceIdeal.Facts) (hRmsBwdLast : Cert.RmsBwdLast.Facts) (hRmsBwdLastIdeal : Cert.RmsBwdLastIdeal.Facts) (hRmsBwdLastReferenceIdeal : Cert.RmsBwdLastReferenceIdeal.Facts) (hRmsBwdMid : Cert.RmsBwdMid.Facts) (hRmsBwdMidIdeal : Cert.RmsBwdMidIdeal.Facts) (hRmsBwdMidReferenceIdeal : Cert.RmsBwdMidReferenceIdeal.Facts) (hRmsBwdFirst : Cert.RmsBwdFirst.Facts) (hRmsBwdFirstIdeal : Cert.RmsBwdFirstIdeal.Facts) (hRmsBwdFirstReferenceIdeal : Cert.RmsBwdFirstReferenceIdeal.Facts) (hLossHead : Cert.LossHead.Facts) (hLossHeadIdeal : Cert.LossHeadIdeal.Facts) (hLossHeadReferenceIdeal : Cert.LossHeadReferenceIdeal.Facts) (hAdamwSmall : Cert.AdamwSmall.Facts) (hAdamwSmallIdeal : Cert.AdamwSmallIdeal.Facts) (hAdamwSmallReferenceIdeal : Cert.AdamwSmallReferenceIdeal.Facts) (hAdamwIn : Cert.AdamwIn.Facts) (hAdamwInIdeal : Cert.AdamwInIdeal.Facts) (hAdamwInReferenceIdeal : Cert.AdamwInReferenceIdeal.Facts) (hAdamwBrSb : Cert.AdamwBrSb.Facts) (hAdamwBrSbIdeal : Cert.AdamwBrSbIdeal.Facts) (hAdamwBrSbReferenceIdeal : Cert.AdamwBrSbReferenceIdeal.Facts) (hAdamwBrPool : Cert.AdamwBrPool.Facts) (hAdamwBrPoolIdeal : Cert.AdamwBrPoolIdeal.Facts) (hAdamwBrPoolReferenceIdeal : Cert.AdamwBrPoolReferenceIdeal.Facts) (hAdamwOut : Cert.AdamwOut.Facts) (hAdamwOutIdeal : Cert.AdamwOutIdeal.Facts) (hAdamwOutReferenceIdeal : Cert.AdamwOutReferenceIdeal.Facts) (hAdamwFf : Cert.AdamwFf.Facts) (hAdamwFfIdeal : Cert.AdamwFfIdeal.Facts) (hAdamwFfReferenceIdeal : Cert.AdamwFfReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfIn (hFfIn := hFfIn)
    ∧ quiescent_FfInIdeal (hFfInIdeal := hFfInIdeal)
    ∧ quiescent_FfInReferenceIdeal (hFfInReferenceIdeal := hFfInReferenceIdeal)
    ∧ quiescent_FfOut (hFfOut := hFfOut)
    ∧ quiescent_FfOutIdeal (hFfOutIdeal := hFfOutIdeal)
    ∧ quiescent_FfOutReferenceIdeal (hFfOutReferenceIdeal := hFfOutReferenceIdeal)
    ∧ quiescent_FfOutDw (hFfOutDw := hFfOutDw)
    ∧ quiescent_FfOutDwIdeal (hFfOutDwIdeal := hFfOutDwIdeal)
    ∧ quiescent_FfOutDwReferenceIdeal (hFfOutDwReferenceIdeal := hFfOutDwReferenceIdeal)
    ∧ quiescent_FfInDx (hFfInDx := hFfInDx)
    ∧ quiescent_FfInDxIdeal (hFfInDxIdeal := hFfInDxIdeal)
    ∧ quiescent_FfInDxReferenceIdeal (hFfInDxReferenceIdeal := hFfInDxReferenceIdeal)
    ∧ quiescent_FfInDw (hFfInDw := hFfInDw)
    ∧ quiescent_FfInDwIdeal (hFfInDwIdeal := hFfInDwIdeal)
    ∧ quiescent_FfInDwReferenceIdeal (hFfInDwReferenceIdeal := hFfInDwReferenceIdeal)
    ∧ quiescent_FfOutDx (hFfOutDx := hFfOutDx)
    ∧ quiescent_FfOutDxIdeal (hFfOutDxIdeal := hFfOutDxIdeal)
    ∧ quiescent_FfOutDxReferenceIdeal (hFfOutDxReferenceIdeal := hFfOutDxReferenceIdeal)
    ∧ quiescent_ProjQkv (hProjQkv := hProjQkv)
    ∧ quiescent_ProjQkvIdeal (hProjQkvIdeal := hProjQkvIdeal)
    ∧ quiescent_ProjQkvReferenceIdeal (hProjQkvReferenceIdeal := hProjQkvReferenceIdeal)
    ∧ quiescent_ProjMix (hProjMix := hProjMix)
    ∧ quiescent_ProjMixIdeal (hProjMixIdeal := hProjMixIdeal)
    ∧ quiescent_ProjMixReferenceIdeal (hProjMixReferenceIdeal := hProjMixReferenceIdeal)
    ∧ quiescent_ProjGates (hProjGates := hProjGates)
    ∧ quiescent_ProjGatesIdeal (hProjGatesIdeal := hProjGatesIdeal)
    ∧ quiescent_ProjGatesReferenceIdeal (hProjGatesReferenceIdeal := hProjGatesReferenceIdeal)
    ∧ quiescent_ProjDx (hProjDx := hProjDx)
    ∧ quiescent_ProjDxIdeal (hProjDxIdeal := hProjDxIdeal)
    ∧ quiescent_ProjDxReferenceIdeal (hProjDxReferenceIdeal := hProjDxReferenceIdeal)
    ∧ quiescent_ProjDw (hProjDw := hProjDw)
    ∧ quiescent_ProjDwIdeal (hProjDwIdeal := hProjDwIdeal)
    ∧ quiescent_ProjDwReferenceIdeal (hProjDwReferenceIdeal := hProjDwReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_OutProjDx (hOutProjDx := hOutProjDx)
    ∧ quiescent_OutProjDxIdeal (hOutProjDxIdeal := hOutProjDxIdeal)
    ∧ quiescent_OutProjDxReferenceIdeal (hOutProjDxReferenceIdeal := hOutProjDxReferenceIdeal)
    ∧ quiescent_OutProjDw (hOutProjDw := hOutProjDw)
    ∧ quiescent_OutProjDwIdeal (hOutProjDwIdeal := hOutProjDwIdeal)
    ∧ quiescent_OutProjDwReferenceIdeal (hOutProjDwReferenceIdeal := hOutProjDwReferenceIdeal)
    ∧ quiescent_BrSb (hBrSb := hBrSb)
    ∧ quiescent_BrSbIdeal (hBrSbIdeal := hBrSbIdeal)
    ∧ quiescent_BrSbReferenceIdeal (hBrSbReferenceIdeal := hBrSbReferenceIdeal)
    ∧ quiescent_BrSbDx (hBrSbDx := hBrSbDx)
    ∧ quiescent_BrSbDxIdeal (hBrSbDxIdeal := hBrSbDxIdeal)
    ∧ quiescent_BrSbDxReferenceIdeal (hBrSbDxReferenceIdeal := hBrSbDxReferenceIdeal)
    ∧ quiescent_BrSbDw (hBrSbDw := hBrSbDw)
    ∧ quiescent_BrSbDwIdeal (hBrSbDwIdeal := hBrSbDwIdeal)
    ∧ quiescent_BrSbDwReferenceIdeal (hBrSbDwReferenceIdeal := hBrSbDwReferenceIdeal)
    ∧ quiescent_BrPool (hBrPool := hBrPool)
    ∧ quiescent_BrPoolIdeal (hBrPoolIdeal := hBrPoolIdeal)
    ∧ quiescent_BrPoolReferenceIdeal (hBrPoolReferenceIdeal := hBrPoolReferenceIdeal)
    ∧ quiescent_BrPoolDx (hBrPoolDx := hBrPoolDx)
    ∧ quiescent_BrPoolDxIdeal (hBrPoolDxIdeal := hBrPoolDxIdeal)
    ∧ quiescent_BrPoolDxReferenceIdeal (hBrPoolDxReferenceIdeal := hBrPoolDxReferenceIdeal)
    ∧ quiescent_BrPoolDw (hBrPoolDw := hBrPoolDw)
    ∧ quiescent_BrPoolDwIdeal (hBrPoolDwIdeal := hBrPoolDwIdeal)
    ∧ quiescent_BrPoolDwReferenceIdeal (hBrPoolDwReferenceIdeal := hBrPoolDwReferenceIdeal)
    ∧ quiescent_MergeFwd (hMergeFwd := hMergeFwd)
    ∧ quiescent_MergeFwdIdeal (hMergeFwdIdeal := hMergeFwdIdeal)
    ∧ quiescent_MergeFwdReferenceIdeal (hMergeFwdReferenceIdeal := hMergeFwdReferenceIdeal)
    ∧ quiescent_MergeBwd (hMergeBwd := hMergeBwd)
    ∧ quiescent_MergeBwdIdeal (hMergeBwdIdeal := hMergeBwdIdeal)
    ∧ quiescent_MergeBwdReferenceIdeal (hMergeBwdReferenceIdeal := hMergeBwdReferenceIdeal)
    ∧ quiescent_RmsFwd (hRmsFwd := hRmsFwd)
    ∧ quiescent_RmsFwdIdeal (hRmsFwdIdeal := hRmsFwdIdeal)
    ∧ quiescent_RmsFwdReferenceIdeal (hRmsFwdReferenceIdeal := hRmsFwdReferenceIdeal)
    ∧ quiescent_ResidMix (hResidMix := hResidMix)
    ∧ quiescent_ResidMixIdeal (hResidMixIdeal := hResidMixIdeal)
    ∧ quiescent_ResidMixReferenceIdeal (hResidMixReferenceIdeal := hResidMixReferenceIdeal)
    ∧ quiescent_ResidLast (hResidLast := hResidLast)
    ∧ quiescent_ResidLastIdeal (hResidLastIdeal := hResidLastIdeal)
    ∧ quiescent_ResidLastReferenceIdeal (hResidLastReferenceIdeal := hResidLastReferenceIdeal)
    ∧ quiescent_RmsBwdLast (hRmsBwdLast := hRmsBwdLast)
    ∧ quiescent_RmsBwdLastIdeal (hRmsBwdLastIdeal := hRmsBwdLastIdeal)
    ∧ quiescent_RmsBwdLastReferenceIdeal (hRmsBwdLastReferenceIdeal := hRmsBwdLastReferenceIdeal)
    ∧ quiescent_RmsBwdMid (hRmsBwdMid := hRmsBwdMid)
    ∧ quiescent_RmsBwdMidIdeal (hRmsBwdMidIdeal := hRmsBwdMidIdeal)
    ∧ quiescent_RmsBwdMidReferenceIdeal (hRmsBwdMidReferenceIdeal := hRmsBwdMidReferenceIdeal)
    ∧ quiescent_RmsBwdFirst (hRmsBwdFirst := hRmsBwdFirst)
    ∧ quiescent_RmsBwdFirstIdeal (hRmsBwdFirstIdeal := hRmsBwdFirstIdeal)
    ∧ quiescent_RmsBwdFirstReferenceIdeal (hRmsBwdFirstReferenceIdeal := hRmsBwdFirstReferenceIdeal)
    ∧ quiescent_LossHead (hLossHead := hLossHead)
    ∧ quiescent_LossHeadIdeal (hLossHeadIdeal := hLossHeadIdeal)
    ∧ quiescent_LossHeadReferenceIdeal (hLossHeadReferenceIdeal := hLossHeadReferenceIdeal)
    ∧ quiescent_AdamwSmall (hAdamwSmall := hAdamwSmall)
    ∧ quiescent_AdamwSmallIdeal (hAdamwSmallIdeal := hAdamwSmallIdeal)
    ∧ quiescent_AdamwSmallReferenceIdeal (hAdamwSmallReferenceIdeal := hAdamwSmallReferenceIdeal)
    ∧ quiescent_AdamwIn (hAdamwIn := hAdamwIn)
    ∧ quiescent_AdamwInIdeal (hAdamwInIdeal := hAdamwInIdeal)
    ∧ quiescent_AdamwInReferenceIdeal (hAdamwInReferenceIdeal := hAdamwInReferenceIdeal)
    ∧ quiescent_AdamwBrSb (hAdamwBrSb := hAdamwBrSb)
    ∧ quiescent_AdamwBrSbIdeal (hAdamwBrSbIdeal := hAdamwBrSbIdeal)
    ∧ quiescent_AdamwBrSbReferenceIdeal (hAdamwBrSbReferenceIdeal := hAdamwBrSbReferenceIdeal)
    ∧ quiescent_AdamwBrPool (hAdamwBrPool := hAdamwBrPool)
    ∧ quiescent_AdamwBrPoolIdeal (hAdamwBrPoolIdeal := hAdamwBrPoolIdeal)
    ∧ quiescent_AdamwBrPoolReferenceIdeal (hAdamwBrPoolReferenceIdeal := hAdamwBrPoolReferenceIdeal)
    ∧ quiescent_AdamwOut (hAdamwOut := hAdamwOut)
    ∧ quiescent_AdamwOutIdeal (hAdamwOutIdeal := hAdamwOutIdeal)
    ∧ quiescent_AdamwOutReferenceIdeal (hAdamwOutReferenceIdeal := hAdamwOutReferenceIdeal)
    ∧ quiescent_AdamwFf (hAdamwFf := hAdamwFf)
    ∧ quiescent_AdamwFfIdeal (hAdamwFfIdeal := hAdamwFfIdeal)
    ∧ quiescent_AdamwFfReferenceIdeal (hAdamwFfReferenceIdeal := hAdamwFfReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfIn_FfInIdeal
    ∧ algebraic_FfInIdeal_FfInReferenceIdeal (hFfInIdeal := hFfInIdeal) (hFfInReferenceIdeal := hFfInReferenceIdeal)
    ∧ preserves_FfOut_FfOutIdeal
    ∧ algebraic_FfOutIdeal_FfOutReferenceIdeal (hFfOutIdeal := hFfOutIdeal) (hFfOutReferenceIdeal := hFfOutReferenceIdeal)
    ∧ preserves_FfOutDw_FfOutDwIdeal
    ∧ algebraic_FfOutDwIdeal_FfOutDwReferenceIdeal (hFfOutDwIdeal := hFfOutDwIdeal) (hFfOutDwReferenceIdeal := hFfOutDwReferenceIdeal)
    ∧ preserves_FfInDx_FfInDxIdeal
    ∧ algebraic_FfInDxIdeal_FfInDxReferenceIdeal (hFfInDxIdeal := hFfInDxIdeal) (hFfInDxReferenceIdeal := hFfInDxReferenceIdeal)
    ∧ preserves_FfInDw_FfInDwIdeal
    ∧ algebraic_FfInDwIdeal_FfInDwReferenceIdeal (hFfInDwIdeal := hFfInDwIdeal) (hFfInDwReferenceIdeal := hFfInDwReferenceIdeal)
    ∧ preserves_FfOutDx_FfOutDxIdeal
    ∧ algebraic_FfOutDxIdeal_FfOutDxReferenceIdeal (hFfOutDxIdeal := hFfOutDxIdeal) (hFfOutDxReferenceIdeal := hFfOutDxReferenceIdeal)
    ∧ preserves_ProjQkv_ProjQkvIdeal
    ∧ algebraic_ProjQkvIdeal_ProjQkvReferenceIdeal (hProjQkvIdeal := hProjQkvIdeal) (hProjQkvReferenceIdeal := hProjQkvReferenceIdeal)
    ∧ preserves_ProjMix_ProjMixIdeal
    ∧ algebraic_ProjMixIdeal_ProjMixReferenceIdeal (hProjMixIdeal := hProjMixIdeal) (hProjMixReferenceIdeal := hProjMixReferenceIdeal)
    ∧ preserves_ProjGates_ProjGatesIdeal
    ∧ algebraic_ProjGatesIdeal_ProjGatesReferenceIdeal (hProjGatesIdeal := hProjGatesIdeal) (hProjGatesReferenceIdeal := hProjGatesReferenceIdeal)
    ∧ preserves_ProjDx_ProjDxIdeal
    ∧ algebraic_ProjDxIdeal_ProjDxReferenceIdeal (hProjDxIdeal := hProjDxIdeal) (hProjDxReferenceIdeal := hProjDxReferenceIdeal)
    ∧ preserves_ProjDw_ProjDwIdeal
    ∧ algebraic_ProjDwIdeal_ProjDwReferenceIdeal (hProjDwIdeal := hProjDwIdeal) (hProjDwReferenceIdeal := hProjDwReferenceIdeal)
    ∧ preserves_OutProj_OutProjIdeal
    ∧ algebraic_OutProjIdeal_OutProjReferenceIdeal (hOutProjIdeal := hOutProjIdeal) (hOutProjReferenceIdeal := hOutProjReferenceIdeal)
    ∧ preserves_OutProjDx_OutProjDxIdeal
    ∧ algebraic_OutProjDxIdeal_OutProjDxReferenceIdeal (hOutProjDxIdeal := hOutProjDxIdeal) (hOutProjDxReferenceIdeal := hOutProjDxReferenceIdeal)
    ∧ preserves_OutProjDw_OutProjDwIdeal
    ∧ algebraic_OutProjDwIdeal_OutProjDwReferenceIdeal (hOutProjDwIdeal := hOutProjDwIdeal) (hOutProjDwReferenceIdeal := hOutProjDwReferenceIdeal)
    ∧ preserves_BrSb_BrSbIdeal
    ∧ algebraic_BrSbIdeal_BrSbReferenceIdeal (hBrSbIdeal := hBrSbIdeal) (hBrSbReferenceIdeal := hBrSbReferenceIdeal)
    ∧ preserves_BrSbDx_BrSbDxIdeal
    ∧ algebraic_BrSbDxIdeal_BrSbDxReferenceIdeal (hBrSbDxIdeal := hBrSbDxIdeal) (hBrSbDxReferenceIdeal := hBrSbDxReferenceIdeal)
    ∧ preserves_BrSbDw_BrSbDwIdeal
    ∧ algebraic_BrSbDwIdeal_BrSbDwReferenceIdeal (hBrSbDwIdeal := hBrSbDwIdeal) (hBrSbDwReferenceIdeal := hBrSbDwReferenceIdeal)
    ∧ preserves_BrPool_BrPoolIdeal
    ∧ algebraic_BrPoolIdeal_BrPoolReferenceIdeal (hBrPoolIdeal := hBrPoolIdeal) (hBrPoolReferenceIdeal := hBrPoolReferenceIdeal)
    ∧ preserves_BrPoolDx_BrPoolDxIdeal
    ∧ algebraic_BrPoolDxIdeal_BrPoolDxReferenceIdeal (hBrPoolDxIdeal := hBrPoolDxIdeal) (hBrPoolDxReferenceIdeal := hBrPoolDxReferenceIdeal)
    ∧ preserves_BrPoolDw_BrPoolDwIdeal
    ∧ algebraic_BrPoolDwIdeal_BrPoolDwReferenceIdeal (hBrPoolDwIdeal := hBrPoolDwIdeal) (hBrPoolDwReferenceIdeal := hBrPoolDwReferenceIdeal)
    ∧ preserves_MergeFwd_MergeFwdIdeal
    ∧ algebraic_MergeFwdIdeal_MergeFwdReferenceIdeal (hMergeFwdIdeal := hMergeFwdIdeal) (hMergeFwdReferenceIdeal := hMergeFwdReferenceIdeal)
    ∧ preserves_MergeBwd_MergeBwdIdeal
    ∧ algebraic_MergeBwdIdeal_MergeBwdReferenceIdeal (hMergeBwdIdeal := hMergeBwdIdeal) (hMergeBwdReferenceIdeal := hMergeBwdReferenceIdeal)
    ∧ preserves_RmsFwd_RmsFwdIdeal
    ∧ algebraic_RmsFwdIdeal_RmsFwdReferenceIdeal (hRmsFwdIdeal := hRmsFwdIdeal) (hRmsFwdReferenceIdeal := hRmsFwdReferenceIdeal)
    ∧ preserves_ResidMix_ResidMixIdeal
    ∧ algebraic_ResidMixIdeal_ResidMixReferenceIdeal (hResidMixIdeal := hResidMixIdeal) (hResidMixReferenceIdeal := hResidMixReferenceIdeal)
    ∧ preserves_ResidLast_ResidLastIdeal
    ∧ algebraic_ResidLastIdeal_ResidLastReferenceIdeal (hResidLastIdeal := hResidLastIdeal) (hResidLastReferenceIdeal := hResidLastReferenceIdeal)
    ∧ preserves_RmsBwdLast_RmsBwdLastIdeal
    ∧ algebraic_RmsBwdLastIdeal_RmsBwdLastReferenceIdeal (hRmsBwdLastIdeal := hRmsBwdLastIdeal) (hRmsBwdLastReferenceIdeal := hRmsBwdLastReferenceIdeal)
    ∧ preserves_RmsBwdMid_RmsBwdMidIdeal
    ∧ algebraic_RmsBwdMidIdeal_RmsBwdMidReferenceIdeal (hRmsBwdMidIdeal := hRmsBwdMidIdeal) (hRmsBwdMidReferenceIdeal := hRmsBwdMidReferenceIdeal)
    ∧ preserves_RmsBwdFirst_RmsBwdFirstIdeal
    ∧ algebraic_RmsBwdFirstIdeal_RmsBwdFirstReferenceIdeal (hRmsBwdFirstIdeal := hRmsBwdFirstIdeal) (hRmsBwdFirstReferenceIdeal := hRmsBwdFirstReferenceIdeal)
    ∧ preserves_LossHead_LossHeadIdeal
    ∧ algebraic_LossHeadIdeal_LossHeadReferenceIdeal (hLossHeadIdeal := hLossHeadIdeal) (hLossHeadReferenceIdeal := hLossHeadReferenceIdeal)
    ∧ preserves_AdamwSmall_AdamwSmallIdeal
    ∧ algebraic_AdamwSmallIdeal_AdamwSmallReferenceIdeal (hAdamwSmallIdeal := hAdamwSmallIdeal) (hAdamwSmallReferenceIdeal := hAdamwSmallReferenceIdeal)
    ∧ preserves_AdamwIn_AdamwInIdeal
    ∧ algebraic_AdamwInIdeal_AdamwInReferenceIdeal (hAdamwInIdeal := hAdamwInIdeal) (hAdamwInReferenceIdeal := hAdamwInReferenceIdeal)
    ∧ preserves_AdamwBrSb_AdamwBrSbIdeal
    ∧ algebraic_AdamwBrSbIdeal_AdamwBrSbReferenceIdeal (hAdamwBrSbIdeal := hAdamwBrSbIdeal) (hAdamwBrSbReferenceIdeal := hAdamwBrSbReferenceIdeal)
    ∧ preserves_AdamwBrPool_AdamwBrPoolIdeal
    ∧ algebraic_AdamwBrPoolIdeal_AdamwBrPoolReferenceIdeal (hAdamwBrPoolIdeal := hAdamwBrPoolIdeal) (hAdamwBrPoolReferenceIdeal := hAdamwBrPoolReferenceIdeal)
    ∧ preserves_AdamwOut_AdamwOutIdeal
    ∧ algebraic_AdamwOutIdeal_AdamwOutReferenceIdeal (hAdamwOutIdeal := hAdamwOutIdeal) (hAdamwOutReferenceIdeal := hAdamwOutReferenceIdeal)
    ∧ preserves_AdamwFf_AdamwFfIdeal
    ∧ algebraic_AdamwFfIdeal_AdamwFfReferenceIdeal (hAdamwFfIdeal := hAdamwFfIdeal) (hAdamwFfReferenceIdeal := hAdamwFfReferenceIdeal)
-- ==== Pre_finite.lean ====
abbrev S8192x1536 : Shape := ⟨2, ![8192, 1536]⟩
abbrev S8192x512 : Shape := ⟨2, ![8192, 512]⟩
abbrev S_ : Shape := ⟨0, ![]⟩

class Facts : Prop where
  bitsLt_bf16_f32 : FTy.bits .bf16 < FTy.bits .f32
  bcast_S_S8192x1536 : S_.BroadcastsInDim S8192x1536 (![] : Fin 0 → Fin S8192x1536.rank)
  bcast_S_S8192x512 : S_.BroadcastsInDim S8192x512 (![] : Fin 0 → Fin S8192x512.rank)

variable [Facts]

def fn {F : FTy → Type} [FloatOps F] (main_arg0 : FVec F S8192x1536 .bf16) (main_arg1 : FVec F S8192x512 .bf16) : IVec S8192x1536 1 × IVec S8192x512 1 :=
  let main_v0 : FVec F S8192x1536 .f32 := (extf .f32 · bitsLt_bf16_f32) main_arg0
  let main_v1 : FVec F S8192x1536 .f32 := Host.absf main_v0
  let main_cst : FVec F S_ .f32 := constant S_ .f32 0x7F800000#32
  let main_v2 : FVec F S8192x1536 .f32 := broadcastInDim S8192x1536 ![] bcast_S_S8192x1536 main_cst
  let main_v3 : IVec S8192x1536 1 := cmpf .olt main_v1 main_v2
  let main_v4 : FVec F S8192x512 .f32 := (extf .f32 · bitsLt_bf16_f32) main_arg1
  let main_v5 : FVec F S8192x512 .f32 := Host.absf main_v4
  let main_cst_0 : FVec F S_ .f32 := constant S_ .f32 0x7F800000#32
  let main_v6 : FVec F S8192x512 .f32 := broadcastInDim S8192x512 ![] bcast_S_S8192x512 main_cst_0
  let main_v7 : IVec S8192x512 1 := cmpf .olt main_v5 main_v6
  (main_v3, main_v7)
-- ==== Kernel.lean ====
abbrev S8192x1536 : Shape := ⟨2, ![8192, 1536]⟩
abbrev S8192x512 : Shape := ⟨2, ![8192, 512]⟩
abbrev S_ : Shape := ⟨0, ![]⟩
abbrev S4x32x8x128 : Shape := ⟨4, ![4, 32, 8, 128]⟩
abbrev S1x8192x8x64 : Shape := ⟨4, ![1, 8192, 8, 64]⟩
abbrev S1x8x8192x8192 : Shape := ⟨4, ![1, 8, 8192, 8192]⟩
abbrev S8192x8192 : Shape := ⟨2, ![8192, 8192]⟩
abbrev S1x8x8192 : Shape := ⟨3, ![1, 8, 8192]⟩
abbrev S8x8192 : Shape := ⟨2, ![8, 8192]⟩
abbrev S8x8192x1 : Shape := ⟨3, ![8, 8192, 1]⟩
abbrev S8x8192x128 : Shape := ⟨3, ![8, 8192, 128]⟩
abbrev S256x128 : Shape := ⟨2, ![256, 128]⟩
abbrev S8192x128 : Shape := ⟨2, ![8192, 128]⟩
abbrev S2x256x128 : Shape := ⟨3, ![2, 256, 128]⟩
abbrev S1x1x8x128 : Shape := ⟨4, ![1, 1, 8, 128]⟩
abbrev S256x256 : Shape := ⟨2, ![256, 256]⟩
abbrev S512x256 : Shape := ⟨2, ![512, 256]⟩
abbrev S1x128 : Shape := ⟨2, ![1, 128]⟩
abbrev S1x256x128 : Shape := ⟨3, ![1, 256, 128]⟩
abbrev S256x1 : Shape := ⟨2, ![256, 1]⟩
abbrev S8x128 : Shape := ⟨2, ![8, 128]⟩
abbrev S1x8x128 : Shape := ⟨3, ![1, 8, 128]⟩
abbrev S1 : Shape := ⟨1, ![1]⟩
abbrev S1x1x1 : Shape := ⟨3, ![1, 1, 1]⟩
abbrev S256x512 : Shape := ⟨2, ![256, 512]⟩
abbrev S256 : Shape := ⟨1, ![256]⟩

abbrev nBuf : Space → Nat
  | .hbm => 50
  | .vmem => 20
  | .smem => 0
  | _ => 0

abbrev bufTy : (tb : Table) → Fin (tcTables nBuf tb) → BufTy
  | .hbm, ⟨0, _⟩ => ⟨S8192x1536, .bf16⟩
  | .hbm, ⟨1, _⟩ => ⟨S8192x512, .bf16⟩
  | .hbm, ⟨2, _⟩ => ⟨S_, .f32⟩
  | .hbm, ⟨3, _⟩ => ⟨S4x32x8x128, .f32⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S8192x512, .f32⟩
  | .hbm, ⟨8, _⟩ => ⟨S1x8192x8x64, .f32⟩
  | .hbm, ⟨9, _⟩ => ⟨S8192x512, .f32⟩
  | .hbm, ⟨10, _⟩ => ⟨S1x8192x8x64, .f32⟩
  | .hbm, ⟨11, _⟩ => ⟨S8192x512, .f32⟩
  | .hbm, ⟨12, _⟩ => ⟨S1x8192x8x64, .f32⟩
  | .hbm, ⟨13, _⟩ => ⟨S1x8x8192x8192, .f32⟩
  | .hbm, ⟨14, _⟩ => ⟨S_, .f32⟩
  | .hbm, ⟨15, _⟩ => ⟨S1x8x8192x8192, .f32⟩
  | .hbm, ⟨16, _⟩ => ⟨S1x8x8192x8192, .f32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S1x8x8192x8192, .f32⟩
  | .hbm, ⟨21, _⟩ => ⟨S1x8x8192x8192, .f32⟩
  | .hbm, ⟨22, _⟩ => ⟨S_, .f32⟩
  | .hbm, ⟨23, _⟩ => ⟨S1x8x8192x8192, .f32⟩
  | .hbm, ⟨24, _⟩ => ⟨S1x8x8192x8192, .f32⟩
  | .hbm, ⟨25, _⟩ => ⟨S1x8x8192x8192, .f32⟩
  | .hbm, ⟨26, _⟩ => ⟨S1x8x8192x8192, .f32⟩
  | .hbm, ⟨27, _⟩ => ⟨S1x8x8192x8192, .i1⟩
  | .hbm, ⟨28, _⟩ => ⟨S1x8x8192x8192, .f32⟩
  | .hbm, ⟨29, _⟩ => ⟨S1x8x8192x8192, .f32⟩
  | .hbm, ⟨30, _⟩ => ⟨S1x8x8192x8192, .f32⟩
  | .hbm, ⟨31, _⟩ => ⟨S1x8x8192x8192, .f32⟩
  | .hbm, ⟨32, _⟩ => ⟨S1x8x8192x8192, .f32⟩
  | .hbm, ⟨33, _⟩ => ⟨S1x8x8192x8192, .f32⟩
  | .hbm, ⟨34, _⟩ => ⟨S1x8x8192x8192, .f32⟩
  | .hbm, ⟨35, _⟩ => ⟨S1x8x8192x8192, .f32⟩
  | .hbm, ⟨36, _⟩ => ⟨S1x8x8192x8192, .f32⟩
  | .hbm, ⟨37, _⟩ => ⟨S_, .f32⟩
  | .hbm, ⟨38, _⟩ => ⟨S_, .f32⟩
  | .hbm, ⟨39, _⟩ => ⟨S1x8x8192x8192, .i1⟩
  | .hbm, ⟨40, _⟩ => ⟨S1x8x8192x8192, .f32⟩
  | .hbm, ⟨41, _⟩ => ⟨S1x8x8192x8192, .f32⟩
  | .hbm, ⟨42, _⟩ => ⟨S_, .f32⟩
  | .hbm, ⟨43, _⟩ => ⟨S1x8x8192, .f32⟩
  | .hbm, ⟨44, _⟩ => ⟨S8x8192, .f32⟩
  | .hbm, ⟨45, _⟩ => ⟨S8x8192x1, .f32⟩
  | .hbm, ⟨46, _⟩ => ⟨S8x8192x128, .f32⟩
  | .hbm, ⟨47, _⟩ => ⟨S8192x512, .bf16⟩
  | .hbm, ⟨48, _⟩ => ⟨S8192x512, .bf16⟩
  | .hbm, ⟨49, _⟩ => ⟨S8192x512, .bf16⟩
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x128, .bf16⟩
  | .local _ .vmem, ⟨7, _⟩ => ⟨S256x128, .bf16⟩
  | .local _ .vmem, ⟨8, _⟩ => ⟨S2x256x128, .f32⟩
  | .local _ .vmem, ⟨9, _⟩ => ⟨S2x256x128, .f32⟩
  | .local _ .vmem, ⟨10, _⟩ => ⟨S1x1x8x128, .f32⟩
  | .local _ .vmem, ⟨11, _⟩ => ⟨S1x1x8x128, .f32⟩
  | .local _ .vmem, ⟨12, _⟩ => ⟨S256x128, .bf16⟩
  | .local _ .vmem, ⟨13, _⟩ => ⟨S256x128, .bf16⟩
  | .local _ .vmem, ⟨14, _⟩ => ⟨S8192x128, .bf16⟩
  | .local _ .vmem, ⟨15, _⟩ => ⟨S8192x128, .bf16⟩
  | .local _ .vmem, ⟨16, _⟩ => ⟨S8192x128, .bf16⟩
  | .local _ .vmem, ⟨17, _⟩ => ⟨S8192x128, .bf16⟩
  | .local _ .vmem, ⟨18, _⟩ => ⟨S8192x128, .f32⟩
  | .local _ .vmem, ⟨19, _⟩ => ⟨S8192x128, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v17 : Ref sig .tc := ⟨.hbm, 36, rfl⟩
abbrev main_cst_1 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v18 : Ref sig .tc := ⟨.hbm, 41, rfl⟩
abbrev main_cst_2 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23_0 : Ref sig .tc := ⟨.hbm, 47, rfl⟩
abbrev main_v23_1 : Ref sig .tc := ⟨.hbm, 48, rfl⟩
abbrev main_v23_2 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 32], ![false, false]⟩

@[reducible] def k0_t1_loop (i : grid0.Coords) (v63 : BitVec 32) : Scf.Loop 32 :=
  let arg1 : BitVec 32 := BitVec.ofNat 32 (i 1).val
  let c1_i32 : BitVec 32 := 1#32
  let v55 : BitVec 32 := Scalar.subi arg1 c1_i32
  let c0_i32_20 : BitVec 32 := 0#32
  let v56 : BitVec 32 := Scalar.maxsi v55 c0_i32_20
  let c0_i32_26 : BitVec 32 := 0#32
  let v64 : BitVec 32 := Scalar.maxsi c0_i32_26 v63
  let v65 : BitVec 32 := Scalar.minsi v56 v64
  let v66 : BitVec 32 := Scalar.subi v56 v65
  let c1_i32_27 : BitVec 32 := 1#32
  let v68 : BitVec 32 := Scalar.divsi v66 c1_i32_27
  let v69 : BitVec 32 := Scalar.muli v68 c1_i32_27
  let v70 : BitVec 32 := Scalar.addi v65 v69
  let c1_i32_28 : BitVec 32 := 1#32
  ⟨v65, v70, c1_i32_28⟩

def k0_mult1 (i : grid0.Coords) (v63 : BitVec 32) (k0_t1 : Fin (k0_t1_loop i v63).trips) : BitVec 32 :=
  let arg1 : BitVec 32 := BitVec.ofNat 32 (i 1).val
  let c1_i32 : BitVec 32 := 1#32
  let v55 : BitVec 32 := Scalar.subi arg1 c1_i32
  let c0_i32_20 : BitVec 32 := 0#32
  let v56 : BitVec 32 := Scalar.maxsi v55 c0_i32_20
  let c0_i32_26 : BitVec 32 := 0#32
  let v64 : BitVec 32 := Scalar.maxsi c0_i32_26 v63
  let v65 : BitVec 32 := Scalar.minsi v56 v64
  let c1_i32_28 : BitVec 32 := 1#32
  let arg13 : BitVec 32 := Scf.iv v65 c1_i32_28 k0_t1
  let c256_i32 : BitVec 32 := 256#32
  let v87 : BitVec 32 := Scalar.muli arg13 c256_i32
  v87
def k0_off1 (i : grid0.Coords) (v63 : BitVec 32) (k0_t1 : Fin (k0_t1_loop i v63).trips) : Fin 2 → Nat :=
  let arg1 : BitVec 32 := BitVec.ofNat 32 (i 1).val
  let c1_i32 : BitVec 32 := 1#32
  let v55 : BitVec 32 := Scalar.subi arg1 c1_i32
  let c0_i32_20 : BitVec 32 := 0#32
  let v56 : BitVec 32 := Scalar.maxsi v55 c0_i32_20
  let c0_i32_26 : BitVec 32 := 0#32
  let v64 : BitVec 32 := Scalar.maxsi c0_i32_26 v63
  let v65 : BitVec 32 := Scalar.minsi v56 v64
  let c1_i32_28 : BitVec 32 := 1#32
  let arg13 : BitVec 32 := Scf.iv v65 c1_i32_28 k0_t1
  let c256_i32 : BitVec 32 := 256#32
  let v87 : BitVec 32 := Scalar.muli arg13 c256_i32
  let v88 : BitVec 32 := v87
  let v89 : Index := Scalar.indexCast v88
  let c0_36 : Index := 0#32
  ![v89.toNat, 0]
@[reducible] def k0_t2_loop (i : grid0.Coords) (v63 : BitVec 32) : Scf.Loop 32 :=
  let arg1 : BitVec 32 := BitVec.ofNat 32 (i 1).val
  let c1_i32 : BitVec 32 := 1#32
  let v55 : BitVec 32 := Scalar.subi arg1 c1_i32
  let c0_i32_20 : BitVec 32 := 0#32
  let v56 : BitVec 32 := Scalar.maxsi v55 c0_i32_20
  let c0_i32_26 : BitVec 32 := 0#32
  let v64 : BitVec 32 := Scalar.maxsi c0_i32_26 v63
  let v65 : BitVec 32 := Scalar.minsi v56 v64
  let v66 : BitVec 32 := Scalar.subi v56 v65
  let c1_i32_27 : BitVec 32 := 1#32
  let v68 : BitVec 32 := Scalar.divsi v66 c1_i32_27
  let v69 : BitVec 32 := Scalar.muli v68 c1_i32_27
  let v70 : BitVec 32 := Scalar.addi v65 v69
  let v67 : BitVec 32 := Scalar.addi v65 v66
  let c1_i32_29 : BitVec 32 := 1#32
  ⟨v70, v67, c1_i32_29⟩
def k0_mult2 (i : grid0.Coords) (v63 : BitVec 32) (k0_t2 : Fin (k0_t2_loop i v63).trips) : BitVec 32 :=
  let arg1 : BitVec 32 := BitVec.ofNat 32 (i 1).val
  let c1_i32 : BitVec 32 := 1#32
  let v55 : BitVec 32 := Scalar.subi arg1 c1_i32
  let c0_i32_20 : BitVec 32 := 0#32
  let v56 : BitVec 32 := Scalar.maxsi v55 c0_i32_20
  let c0_i32_26 : BitVec 32 := 0#32
  let v64 : BitVec 32 := Scalar.maxsi c0_i32_26 v63
  let v65 : BitVec 32 := Scalar.minsi v56 v64
  let v66 : BitVec 32 := Scalar.subi v56 v65
  let c1_i32_27 : BitVec 32 := 1#32
  let v68 : BitVec 32 := Scalar.divsi v66 c1_i32_27
  let v69 : BitVec 32 := Scalar.muli v68 c1_i32_27
  let v70 : BitVec 32 := Scalar.addi v65 v69
  let c1_i32_29 : BitVec 32 := 1#32
  let arg13 : BitVec 32 := Scf.iv v70 c1_i32_29 k0_t2
  let c256_i32 : BitVec 32 := 256#32
  let v87 : BitVec 32 := Scalar.muli arg13 c256_i32
  v87
def k0_off2 (i : grid0.Coords) (v63 : BitVec 32) (k0_t2 : Fin (k0_t2_loop i v63).trips) : Fin 2 → Nat :=
  let arg1 : BitVec 32 := BitVec.ofNat 32 (i 1).val
  let c1_i32 : BitVec 32 := 1#32
  let v55 : BitVec 32 := Scalar.subi arg1 c1_i32
  let c0_i32_20 : BitVec 32 := 0#32
  let v56 : BitVec 32 := Scalar.maxsi v55 c0_i32_20
  let c0_i32_26 : BitVec 32 := 0#32
  let v64 : BitVec 32 := Scalar.maxsi c0_i32_26 v63
  let v65 : BitVec 32 := Scalar.minsi v56 v64
  let v66 : BitVec 32 := Scalar.subi v56 v65
  let c1_i32_27 : BitVec 32 := 1#32
  let v68 : BitVec 32 := Scalar.divsi v66 c1_i32_27
  let v69 : BitVec 32 := Scalar.muli v68 c1_i32_27
  let v70 : BitVec 32 := Scalar.addi v65 v69
  let c1_i32_29 : BitVec 32 := 1#32
  let arg13 : BitVec 32 := Scf.iv v70 c1_i32_29 k0_t2
  let c256_i32 : BitVec 32 := 256#32
  let v87 : BitVec 32 := Scalar.muli arg13 c256_i32
  let v88 : BitVec 32 := v87
  let v89 : Index := Scalar.indexCast v88
  let c0_36 : Index := 0#32
  ![v89.toNat, 0]

def k0_chk1 (i : grid0.Coords) (v63 : BitVec 32) : Prop :=
  ((k0_t1_loop i v63).OK) ∧
  (∀ k0_t1 : Fin (k0_t1_loop i v63).trips, 256 ∣ (k0_mult1 i v63 k0_t1).toNat) ∧
  (∀ k0_t1 : Fin (k0_t1_loop i v63).trips, ∀ a, (k0_off1 i v63 k0_t1) a + S256x128.size a ≤ S8192x128.size a) ∧
  ((k0_t2_loop i v63).OK) ∧
  (∀ k0_t2 : Fin (k0_t2_loop i v63).trips, 256 ∣ (k0_mult2 i v63 k0_t2).toNat) ∧
  (∀ k0_t2 : Fin (k0_t2_loop i v63).trips, ∀ a, (k0_off2 i v63 k0_t2) a + S256x128.size a ≤ S8192x128.size a)
theorem k0_t1_ok : ∀ (i : grid0.Coords) (v63 : BitVec 32) (k0_hw1 : k0_chk1 i v63), (k0_t1_loop i v63).OK := fun i v63 k0_hw1 => k0_hw1.1
theorem k0_mult1_dvd : ∀ (i : grid0.Coords) (v63 : BitVec 32) (k0_hw1 : k0_chk1 i v63) (k0_t1 : Fin (k0_t1_loop i v63).trips), 256 ∣ (k0_mult1 i v63 k0_t1).toNat := fun i v63 k0_hw1 k0_t1 => k0_hw1.2.1 k0_t1
theorem k0_off1_inb : ∀ (i : grid0.Coords) (v63 : BitVec 32) (k0_hw1 : k0_chk1 i v63) (k0_t1 : Fin (k0_t1_loop i v63).trips), ∀ a, (k0_off1 i v63 k0_t1) a + S256x128.size a ≤ S8192x128.size a := fun i v63 k0_hw1 k0_t1 => k0_hw1.2.2.1 k0_t1
theorem k0_t2_ok : ∀ (i : grid0.Coords) (v63 : BitVec 32) (k0_hw1 : k0_chk1 i v63), (k0_t2_loop i v63).OK := fun i v63 k0_hw1 => k0_hw1.2.2.2.1
theorem k0_mult2_dvd : ∀ (i : grid0.Coords) (v63 : BitVec 32) (k0_hw1 : k0_chk1 i v63) (k0_t2 : Fin (k0_t2_loop i v63).trips), 256 ∣ (k0_mult2 i v63 k0_t2).toNat := fun i v63 k0_hw1 k0_t2 => k0_hw1.2.2.2.2.1 k0_t2
theorem k0_off2_inb : ∀ (i : grid0.Coords) (v63 : BitVec 32) (k0_hw1 : k0_chk1 i v63) (k0_t2 : Fin (k0_t2_loop i v63).trips), ∀ a, (k0_off2 i v63 k0_t2) a + S256x128.size a ≤ S8192x128.size a := fun i v63 k0_hw1 k0_t2 => k0_hw1.2.2.2.2.2 k0_t2

def k0_cond2 (i : grid0.Coords) : BitVec 1 :=
  let arg1 : BitVec 32 := BitVec.ofNat 32 (i 1).val
  let c0_i32_30 : BitVec 32 := 0#32
  let v73 : BitVec 1 := Scalar.cmpi .sgt arg1 c0_i32_30
  let v74 : BitVec 32 := Scalar.extui v73
  let c0_i32_31 : BitVec 32 := 0#32
  let v75 : BitVec 1 := Scalar.cmpi .ne v74 c0_i32_31
  v75

def k0_mult3 (i : grid0.Coords) : BitVec 32 :=
  let arg1 : BitVec 32 := BitVec.ofNat 32 (i 1).val
  let c1_i32_36 : BitVec 32 := 1#32
  let v87 : BitVec 32 := Scalar.subi arg1 c1_i32_36
  let c256_i32 : BitVec 32 := 256#32
  let v88 : BitVec 32 := Scalar.muli v87 c256_i32
  v88
def k0_mult4 (i : grid0.Coords) : BitVec 32 :=
  let arg1 : BitVec 32 := BitVec.ofNat 32 (i 1).val
  let c256_i32_37 : BitVec 32 := 256#32
  let v90 : BitVec 32 := Scalar.muli arg1 c256_i32_37
  v90
def k0_off3 (i : grid0.Coords) : Fin 2 → Nat :=
  let arg1 : BitVec 32 := BitVec.ofNat 32 (i 1).val
  let c1_i32_36 : BitVec 32 := 1#32
  let v87 : BitVec 32 := Scalar.subi arg1 c1_i32_36
  let c256_i32 : BitVec 32 := 256#32
  let v88 : BitVec 32 := Scalar.muli v87 c256_i32
  let v89 : BitVec 32 := v88
  let v92 : Index := Scalar.indexCast v89
  let c0_38 : Index := 0#32
  ![v92.toNat, 0]
def k0_off4 (i : grid0.Coords) : Fin 2 → Nat :=
  let arg1 : BitVec 32 := BitVec.ofNat 32 (i 1).val
  let c256_i32_37 : BitVec 32 := 256#32
  let v90 : BitVec 32 := Scalar.muli arg1 c256_i32_37
  let v91 : BitVec 32 := v90
  let v94 : Index := Scalar.indexCast v91
  let c0_39 : Index := 0#32
  ![v94.toNat, 0]
def k0_mult5 (i : grid0.Coords) : BitVec 32 :=
  let arg1 : BitVec 32 := BitVec.ofNat 32 (i 1).val
  let c256_i32 : BitVec 32 := 256#32
  let v87 : BitVec 32 := Scalar.muli arg1 c256_i32
  v87
def k0_off5 (i : grid0.Coords) : Fin 2 → Nat :=
  let arg1 : BitVec 32 := BitVec.ofNat 32 (i 1).val
  let c256_i32 : BitVec 32 := 256#32
  let v87 : BitVec 32 := Scalar.muli arg1 c256_i32
  let v88 : BitVec 32 := v87
  let v89 : Index := Scalar.indexCast v88
  let c0_36 : Index := 0#32
  ![v89.toNat, 0]
def k0_cond3 (i : grid0.Coords) : BitVec 1 :=
  let arg1 : BitVec 32 := BitVec.ofNat 32 (i 1).val
  let c31_i32 : BitVec 32 := 31#32
  let v84 : BitVec 1 := Scalar.cmpi .eq arg1 c31_i32
  let v85 : BitVec 32 := Scalar.extui v84
  let c0_i32_35 : BitVec 32 := 0#32
  let v86 : BitVec 1 := Scalar.cmpi .ne v85 c0_i32_35
  v86

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8192x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S8192x1536 : Shape := ⟨2, ![8192, 1536]⟩
abbrev S8192x512 : Shape := ⟨2, ![8192, 512]⟩
abbrev S1x8192x8x64 : Shape := ⟨4, ![1, 8192, 8, 64]⟩
abbrev S1x8x8192x8192 : Shape := ⟨4, ![1, 8, 8192, 8192]⟩
abbrev S_ : Shape := ⟨0, ![]⟩
abbrev S8192x8192 : Shape := ⟨2, ![8192, 8192]⟩
abbrev S1x8x64x8192 : Shape := ⟨4, ![1, 8, 64, 8192]⟩
abbrev S1x8x8192x64 : Shape := ⟨4, ![1, 8, 8192, 64]⟩

abbrev nBuf : Space → Nat
  | .hbm => 176
  | .vmem => 0
  | .smem => 0
  | _ => 0

abbrev hbmTy0_0 (i : Nat) : BufTy := match i % 128 with
  | 0 => ⟨S8192x1536, .bf16⟩
  | 1 => ⟨S8192x512, .bf16⟩
  | 2 => ⟨S8192x512, .bf16⟩
  | 3 => ⟨S8192x512, .bf16⟩
  | 4 => ⟨S8192x512, .bf16⟩
  | 5 => ⟨S8192x512, .f32⟩
  | 6 => ⟨S1x8192x8x64, .f32⟩
  | 7 => ⟨S8192x512, .f32⟩
  | 8 => ⟨S1x8192x8x64, .f32⟩
  | 9 => ⟨S8192x512, .f32⟩
  | 10 => ⟨S1x8192x8x64, .f32⟩
  | 11 => ⟨S1x8x8192x8192, .f32⟩
  | 12 => ⟨S_, .f32⟩
  | 13 => ⟨S1x8x8192x8192, .f32⟩
  | 14 => ⟨S1x8x8192x8192, .f32⟩
  | 15 => ⟨S8192x8192, .i32⟩
  | 16 => ⟨S8192x8192, .i32⟩
  | 17 => ⟨S8192x8192, .i1⟩
  | 18 => ⟨S1x8x8192x8192, .f32⟩
  | 19 => ⟨S1x8x8192x8192, .f32⟩
  | 20 => ⟨S_, .f32⟩
  | 21 => ⟨S1x8x8192x8192, .f32⟩
  | 22 => ⟨S1x8x8192x8192, .f32⟩
  | 23 => ⟨S1x8x8192x8192, .f32⟩
  | 24 => ⟨S1x8x8192x8192, .f32⟩
  | 25 => ⟨S1x8x8192x8192, .i1⟩
  | 26 => ⟨S1x8x8192x8192, .f32⟩
  | 27 => ⟨S1x8x8192x8192, .f32⟩
  | 28 => ⟨S1x8x8192x8192, .f32⟩
  | 29 => ⟨S1x8x8192x8192, .f32⟩
  | 30 => ⟨S1x8x8192x8192, .f32⟩
  | 31 => ⟨S1x8x8192x8192, .f32⟩
  | 32 => ⟨S1x8x8192x8192, .f32⟩
  | 33 => ⟨S1x8x8192x8192, .f32⟩
  | 34 => ⟨S_, .f32⟩
  | 35 => ⟨S1x8x8192x8192, .f32⟩
  | 36 => ⟨S1x8x8192x8192, .i1⟩
  | 37 => ⟨S_, .f32⟩
  | 38 => ⟨S1x8x8192x8192, .f32⟩
  | 39 => ⟨S1x8x8192x8192, .f32⟩
  | 40 => ⟨S_, .f32⟩
  | 41 => ⟨S1x8x8192x8192, .f32⟩
  | 42 => ⟨S1x8x8192x8192, .i1⟩
  | 43 => ⟨S_, .f32⟩
  | 44 => ⟨S1x8x8192x8192, .f32⟩
  | 45 => ⟨S1x8x8192x8192, .f32⟩
  | 46 => ⟨S1x8x8192x8192, .f32⟩
  | 47 => ⟨S1x8x8192x8192, .f32⟩
  | 48 => ⟨S_, .f32⟩
  | 49 => ⟨S_, .f32⟩
  | 50 => ⟨S_, .i1⟩
  | 51 => ⟨S_, .f32⟩
  | 52 => ⟨S_, .f32⟩
  | 53 => ⟨S_, .f32⟩
  | 54 => ⟨S_, .f32⟩
  | 55 => ⟨S1x8x8192x8192, .f32⟩
  | 56 => ⟨S1x8x8192x8192, .i1⟩
  | 57 => ⟨S_, .f32⟩
  | 58 => ⟨S1x8x8192x8192, .f32⟩
  | 59 => ⟨S1x8x8192x8192, .f32⟩
  | 60 => ⟨S1x8x8192x8192, .f32⟩
  | 61 => ⟨S1x8x8192x8192, .f32⟩
  | 62 => ⟨S1x8x8192x8192, .f32⟩
  | 63 => ⟨S_, .f32⟩
  | 64 => ⟨S1x8x8192x8192, .f32⟩
  | 65 => ⟨S1x8x8192x8192, .f32⟩
  | 66 => ⟨S1x8x8192x8192, .f32⟩
  | 67 => ⟨S_, .f32⟩
  | 68 => ⟨S_, .f32⟩
  | 69 => ⟨S1x8x8192x8192, .i1⟩
  | 70 => ⟨S1x8x8192x8192, .f32⟩
  | 71 => ⟨S1x8x8192x8192, .f32⟩
  | 72 => ⟨S_, .f32⟩
  | 73 => ⟨S1x8x8192x8192, .f32⟩
  | 74 => ⟨S_, .f32⟩
  | 75 => ⟨S_, .f32⟩
  | 76 => ⟨S1x8x8192x8192, .f32⟩
  | 77 => ⟨S1x8x8192x8192, .f32⟩
  | 78 => ⟨S1x8x8192x8192, .f32⟩
  | 79 => ⟨S_, .f32⟩
  | 80 => ⟨S1x8x8192x8192, .f32⟩
  | 81 => ⟨S1x8x8192x8192, .f32⟩
  | 82 => ⟨S1x8x8192x8192, .f32⟩
  | 83 => ⟨S1x8x8192x8192, .f32⟩
  | 84 => ⟨S1x8x8192x8192, .i1⟩
  | 85 => ⟨S1x8x8192x8192, .f32⟩
  | 86 => ⟨S1x8x8192x8192, .f32⟩
  | 87 => ⟨S1x8x8192x8192, .f32⟩
  | 88 => ⟨S1x8x8192x8192, .f32⟩
  | 89 => ⟨S1x8x8192x8192, .f32⟩
  | 90 => ⟨S1x8x8192x8192, .f32⟩
  | 91 => ⟨S1x8x8192x8192, .f32⟩
  | 92 => ⟨S1x8x8192x8192, .f32⟩
  | 93 => ⟨S_, .f32⟩
  | 94 => ⟨S1x8x8192x8192, .f32⟩
  | 95 => ⟨S1x8x8192x8192, .i1⟩
  | 96 => ⟨S_, .f32⟩
  | 97 => ⟨S1x8x8192x8192, .f32⟩
  | 98 => ⟨S1x8x8192x8192, .f32⟩
  | 99 => ⟨S_, .f32⟩
  | 100 => ⟨S1x8x8192x8192, .f32⟩
  | 101 => ⟨S1x8x8192x8192, .i1⟩
  | 102 => ⟨S_, .f32⟩
  | 103 => ⟨S1x8x8192x8192, .f32⟩
  | 104 => ⟨S1x8x8192x8192, .f32⟩
  | 105 => ⟨S1x8x8192x8192, .f32⟩
  | 106 => ⟨S1x8x8192x8192, .f32⟩
  | 107 => ⟨S_, .f32⟩
  | 108 => ⟨S_, .f32⟩
  | 109 => ⟨S_, .i1⟩
  | 110 => ⟨S_, .f32⟩
  | 111 => ⟨S_, .f32⟩
  | 112 => ⟨S_, .f32⟩
  | 113 => ⟨S_, .f32⟩
  | 114 => ⟨S1x8x8192x8192, .f32⟩
  | 115 => ⟨S1x8x8192x8192, .i1⟩
  | 116 => ⟨S_, .f32⟩
  | 117 => ⟨S1x8x8192x8192, .f32⟩
  | 118 => ⟨S1x8x8192x8192, .f32⟩
  | 119 => ⟨S1x8x8192x8192, .f32⟩
  | 120 => ⟨S1x8x8192x8192, .f32⟩
  | 121 => ⟨S1x8x8192x8192, .f32⟩
  | 122 => ⟨S_, .f32⟩
  | 123 => ⟨S1x8x8192x8192, .f32⟩
  | 124 => ⟨S1x8x8192x8192, .f32⟩
  | 125 => ⟨S1x8x8192x8192, .f32⟩
  | 126 => ⟨S1x8x8192x8192, .f32⟩
  | 127 => ⟨S1x8x8192x8192, .f32⟩
  | _ => ⟨S8192x1536, .bf16⟩

abbrev hbmTy0_1 (i : Nat) : BufTy := match i % 128 with
  | 0 => ⟨S_, .f32⟩
  | 1 => ⟨S_, .f32⟩
  | 2 => ⟨S1x8x8192x8192, .i1⟩
  | 3 => ⟨S1x8x8192x8192, .f32⟩
  | 4 => ⟨S1x8x8192x8192, .f32⟩
  | 5 => ⟨S_, .f32⟩
  | 6 => ⟨S1x8x8192x8192, .f32⟩
  | 7 => ⟨S1x8x64x8192, .f32⟩
  | 8 => ⟨S1x8192x8x64, .f32⟩
  | 9 => ⟨S8192x512, .f32⟩
  | 10 => ⟨S1x8192x8x64, .f32⟩
  | 11 => ⟨S1x8x64x8192, .f32⟩
  | 12 => ⟨S1x8x8192x8192, .f32⟩
  | 13 => ⟨S1x8x64x8192, .f32⟩
  | 14 => ⟨S1x8192x8x64, .f32⟩
  | 15 => ⟨S_, .f32⟩
  | 16 => ⟨S1x8x8192x8192, .f32⟩
  | 17 => ⟨S1x8x8192x8192, .f32⟩
  | 18 => ⟨S1x8x8192x8192, .f32⟩
  | 19 => ⟨S1x8x8192x8192, .f32⟩
  | 20 => ⟨S1x8x8192x8192, .f32⟩
  | 21 => ⟨S1x8x8192x8192, .f32⟩
  | 22 => ⟨S1x8x8192x8192, .f32⟩
  | 23 => ⟨S_, .f32⟩
  | 24 => ⟨S_, .f32⟩
  | 25 => ⟨S1x8x8192x8192, .f32⟩
  | 26 => ⟨S1x8x8192x8192, .f32⟩
  | 27 => ⟨S_, .f32⟩
  | 28 => ⟨S1x8x8192x8192, .f32⟩
  | 29 => ⟨S1x8x8192x8192, .f32⟩
  | 30 => ⟨S1x8x8192x8192, .f32⟩
  | 31 => ⟨S1x8x8192x8192, .f32⟩
  | 32 => ⟨S1x8x8192x8192, .f32⟩
  | 33 => ⟨S1x8x8192x8192, .f32⟩
  | 34 => ⟨S1x8x8192x8192, .f32⟩
  | 35 => ⟨S_, .f32⟩
  | 36 => ⟨S1x8x8192x8192, .f32⟩
  | 37 => ⟨S1x8x8192x8192, .f32⟩
  | 38 => ⟨S1x8x8192x64, .f32⟩
  | 39 => ⟨S1x8192x8x64, .f32⟩
  | 40 => ⟨S1x8x8192x64, .f32⟩
  | 41 => ⟨S1x8192x8x64, .f32⟩
  | 42 => ⟨S8192x512, .f32⟩
  | 43 => ⟨S8192x512, .bf16⟩
  | 44 => ⟨S8192x512, .f32⟩
  | 45 => ⟨S8192x512, .bf16⟩
  | 46 => ⟨S8192x512, .f32⟩
  | 47 => ⟨S8192x512, .bf16⟩
  | _ => ⟨S8192x1536, .bf16⟩

abbrev hbmTy (i : Nat) : BufTy := match i / 128 with
  | 0 => hbmTy0_0 i
  | 1 => hbmTy0_1 i
  | _ => ⟨S8192x1536, .bf16⟩

abbrev bufTy : (tb : Table) → Fin (tcTables nBuf tb) → BufTy
  | .hbm, ⟨i, _⟩ => hbmTy i
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1_0 : Ref sig .tc := ⟨.hbm, 33, rfl⟩
abbrev main_call0_call0_cst_0 : Ref sig .tc := ⟨.hbm, 34, rfl⟩
abbrev main_call0_call0_v13 : Ref sig .tc := ⟨.hbm, 35, rfl⟩
abbrev main_call0_call0_v14 : Ref sig .tc := ⟨.hbm, 36, rfl⟩
abbrev main_call0_call0_cst_1 : Ref sig .tc := ⟨.hbm, 37, rfl⟩
abbrev main_call0_call0_v15 : Ref sig .tc := ⟨.hbm, 38, rfl⟩
abbrev main_call0_call0_v16 : Ref sig .tc := ⟨.hbm, 39, rfl⟩
abbrev main_call0_call0_cst_2 : Ref sig .tc := ⟨.hbm, 40, rfl⟩
abbrev main_call0_call0_v17 : Ref sig .tc := ⟨.hbm, 41, rfl⟩
abbrev main_call0_call0_v18 : Ref sig .tc := ⟨.hbm, 42, rfl⟩
abbrev main_call0_call0_cst_3 : Ref sig .tc := ⟨.hbm, 43, rfl⟩
abbrev main_call0_call0_v19 : Ref sig .tc := ⟨.hbm, 44, rfl⟩
abbrev main_call0_call0_v20 : Ref sig .tc := ⟨.hbm, 45, rfl⟩
abbrev main_call0_call0_v21 : Ref sig .tc := ⟨.hbm, 46, rfl⟩
abbrev main_v16_1 : Ref sig .tc := ⟨.hbm, 47, rfl⟩
abbrev main_call0_call0_cst_4 : Ref sig .tc := ⟨.hbm, 48, rfl⟩
abbrev main_call0_call0_cst_5 : Ref sig .tc := ⟨.hbm, 49, rfl⟩
abbrev main_call0_call0_v23 : Ref sig .tc := ⟨.hbm, 50, rfl⟩
abbrev main_call0_call0_cst_6 : Ref sig .tc := ⟨.hbm, 51, rfl⟩
abbrev main_call0_call0_cst_7 : Ref sig .tc := ⟨.hbm, 52, rfl⟩
abbrev main_call0_call0_v24 : Ref sig .tc := ⟨.hbm, 53, rfl⟩
abbrev main_call0_call0_cst_8 : Ref sig .tc := ⟨.hbm, 54, rfl⟩
abbrev main_call0_call0_v25 : Ref sig .tc := ⟨.hbm, 55, rfl⟩
abbrev main_call0_call0_v26 : Ref sig .tc := ⟨.hbm, 56, rfl⟩
abbrev main_call0_call0_cst_9 : Ref sig .tc := ⟨.hbm, 57, rfl⟩
abbrev main_call0_call0_v27 : Ref sig .tc := ⟨.hbm, 58, rfl⟩
abbrev main_call0_call0_v28 : Ref sig .tc := ⟨.hbm, 59, rfl⟩
abbrev main_call0_call0_v29 : Ref sig .tc := ⟨.hbm, 60, rfl⟩
abbrev main_call0_call0_v30 : Ref sig .tc := ⟨.hbm, 61, rfl⟩
abbrev main_call0_call0_v31 : Ref sig .tc := ⟨.hbm, 62, rfl⟩
abbrev main_call0_call0_cst_10 : Ref sig .tc := ⟨.hbm, 63, rfl⟩
abbrev main_call0_call0_v32 : Ref sig .tc := ⟨.hbm, 64, rfl⟩
abbrev main_v16_2 : Ref sig .tc := ⟨.hbm, 65, rfl⟩
abbrev main_v16_0 : Ref sig .tc := ⟨.hbm, 66, rfl⟩
abbrev main_cst_0 : Ref sig .tc := ⟨.hbm, 67, rfl⟩
abbrev main_call1_v0 : Ref sig .tc := ⟨.hbm, 68, rfl⟩
abbrev main_v17_1 : Ref sig .tc := ⟨.hbm, 69, rfl⟩
abbrev main_call1_v2 : Ref sig .tc := ⟨.hbm, 70, rfl⟩
abbrev main_v17_0 : Ref sig .tc := ⟨.hbm, 71, rfl⟩
abbrev main_call1_cst : Ref sig .tc := ⟨.hbm, 72, rfl⟩
abbrev main_v17_2 : Ref sig .tc := ⟨.hbm, 73, rfl⟩
abbrev main_call2_cst : Ref sig .tc := ⟨.hbm, 74, rfl⟩
abbrev main_call2_v0 : Ref sig .tc := ⟨.hbm, 75, rfl⟩
abbrev main_v18 : Ref sig .tc := ⟨.hbm, 76, rfl⟩
abbrev main_v19 : Ref sig .tc := ⟨.hbm, 77, rfl⟩
abbrev main_call3_v0 : Ref sig .tc := ⟨.hbm, 78, rfl⟩
abbrev main_call3_call0_cst : Ref sig .tc := ⟨.hbm, 79, rfl⟩
abbrev main_call3_call0_v0 : Ref sig .tc := ⟨.hbm, 80, rfl⟩
abbrev main_call3_call0_v1 : Ref sig .tc := ⟨.hbm, 81, rfl⟩
abbrev main_call3_call0_v2 : Ref sig .tc := ⟨.hbm, 82, rfl⟩
abbrev main_call3_call0_v3 : Ref sig .tc := ⟨.hbm, 83, rfl⟩
abbrev main_call3_call0_v4 : Ref sig .tc := ⟨.hbm, 84, rfl⟩
abbrev main_call3_call0_v5 : Ref sig .tc := ⟨.hbm, 85, rfl⟩
abbrev main_call3_call0_v6 : Ref sig .tc := ⟨.hbm, 86, rfl⟩
abbrev main_call3_call0_v7 : Ref sig .tc := ⟨.hbm, 87, rfl⟩
abbrev main_call3_call0_v8 : Ref sig .tc := ⟨.hbm, 88, rfl⟩
abbrev main_call3_call0_v9 : Ref sig .tc := ⟨.hbm, 89, rfl⟩
abbrev main_call3_call0_v10 : Ref sig .tc := ⟨.hbm, 90, rfl⟩
abbrev main_call3_call0_v11 : Ref sig .tc := ⟨.hbm, 91, rfl⟩
abbrev main_call3_v1_0 : Ref sig .tc := ⟨.hbm, 92, rfl⟩
abbrev main_call3_call0_cst_0 : Ref sig .tc := ⟨.hbm, 93, rfl⟩
abbrev main_call3_call0_v13 : Ref sig .tc := ⟨.hbm, 94, rfl⟩
abbrev main_call3_call0_v14 : Ref sig .tc := ⟨.hbm, 95, rfl⟩
abbrev main_call3_call0_cst_1 : Ref sig .tc := ⟨.hbm, 96, rfl⟩
abbrev main_call3_call0_v15 : Ref sig .tc := ⟨.hbm, 97, rfl⟩
abbrev main_call3_call0_v16 : Ref sig .tc := ⟨.hbm, 98, rfl⟩
abbrev main_call3_call0_cst_2 : Ref sig .tc := ⟨.hbm, 99, rfl⟩
abbrev main_call3_call0_v17 : Ref sig .tc := ⟨.hbm, 100, rfl⟩
abbrev main_call3_call0_v18 : Ref sig .tc := ⟨.hbm, 101, rfl⟩
abbrev main_call3_call0_cst_3 : Ref sig .tc := ⟨.hbm, 102, rfl⟩
abbrev main_call3_call0_v19 : Ref sig .tc := ⟨.hbm, 103, rfl⟩
abbrev main_call3_call0_v20 : Ref sig .tc := ⟨.hbm, 104, rfl⟩
abbrev main_call3_call0_v21 : Ref sig .tc := ⟨.hbm, 105, rfl⟩
abbrev main_v20_1 : Ref sig .tc := ⟨.hbm, 106, rfl⟩
abbrev main_call3_call0_cst_4 : Ref sig .tc := ⟨.hbm, 107, rfl⟩
abbrev main_call3_call0_cst_5 : Ref sig .tc := ⟨.hbm, 108, rfl⟩
abbrev main_call3_call0_v23 : Ref sig .tc := ⟨.hbm, 109, rfl⟩
abbrev main_call3_call0_cst_6 : Ref sig .tc := ⟨.hbm, 110, rfl⟩
abbrev main_call3_call0_cst_7 : Ref sig .tc := ⟨.hbm, 111, rfl⟩
abbrev main_call3_call0_v24 : Ref sig .tc := ⟨.hbm, 112, rfl⟩
abbrev main_call3_call0_cst_8 : Ref sig .tc := ⟨.hbm, 113, rfl⟩
abbrev main_call3_call0_v25 : Ref sig .tc := ⟨.hbm, 114, rfl⟩
abbrev main_call3_call0_v26 : Ref sig .tc := ⟨.hbm, 115, rfl⟩
abbrev main_call3_call0_cst_9 : Ref sig .tc := ⟨.hbm, 116, rfl⟩
abbrev main_call3_call0_v27 : Ref sig .tc := ⟨.hbm, 117, rfl⟩
abbrev main_call3_call0_v28 : Ref sig .tc := ⟨.hbm, 118, rfl⟩
abbrev main_call3_call0_v29 : Ref sig .tc := ⟨.hbm, 119, rfl⟩
abbrev main_call3_call0_v30 : Ref sig .tc := ⟨.hbm, 120, rfl⟩
abbrev main_call3_call0_v31 : Ref sig .tc := ⟨.hbm, 121, rfl⟩
abbrev main_call3_call0_cst_10 : Ref sig .tc := ⟨.hbm, 122, rfl⟩
abbrev main_call3_call0_v32 : Ref sig .tc := ⟨.hbm, 123, rfl⟩
abbrev main_v20_2 : Ref sig .tc := ⟨.hbm, 124, rfl⟩
abbrev main_v20_0 : Ref sig .tc := ⟨.hbm, 125, rfl⟩
abbrev main_v21 : Ref sig .tc := ⟨.hbm, 126, rfl⟩
abbrev main_v22 : Ref sig .tc := ⟨.hbm, 127, rfl⟩
abbrev main_cst_1 : Ref sig .tc := ⟨.hbm, 128, rfl⟩
abbrev main_call4_v0 : Ref sig .tc := ⟨.hbm, 129, rfl⟩
abbrev main_v23_1 : Ref sig .tc := ⟨.hbm, 130, rfl⟩
abbrev main_call4_v2 : Ref sig .tc := ⟨.hbm, 131, rfl⟩
abbrev main_v23_0 : Ref sig .tc := ⟨.hbm, 132, rfl⟩
abbrev main_call4_cst : Ref sig .tc := ⟨.hbm, 133, rfl⟩
abbrev main_v23_2 : Ref sig .tc := ⟨.hbm, 134, rfl⟩
abbrev main_v24 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_call5_cst : Ref sig .tc := ⟨.hbm, 143, rfl⟩
abbrev main_call5_v0 : Ref sig .tc := ⟨.hbm, 144, rfl⟩
abbrev main_v32 : Ref sig .tc := ⟨.hbm, 145, rfl⟩
abbrev main_v33 : Ref sig .tc := ⟨.hbm, 146, rfl⟩
abbrev main_call6_v0 : Ref sig .tc := ⟨.hbm, 147, rfl⟩
abbrev main_call6_v1 : Ref sig .tc := ⟨.hbm, 148, rfl⟩
abbrev main_v34 : Ref sig .tc := ⟨.hbm, 149, rfl⟩
abbrev main_v35 : Ref sig .tc := ⟨.hbm, 150, rfl⟩
abbrev main_call7_cst : Ref sig .tc := ⟨.hbm, 151, rfl⟩
abbrev main_call7_v0 : Ref sig .tc := ⟨.hbm, 152, rfl⟩
abbrev main_v36 : Ref sig .tc := ⟨.hbm, 153, rfl⟩
abbrev main_v37 : Ref sig .tc := ⟨.hbm, 154, rfl⟩
abbrev main_call8_cst : Ref sig .tc := ⟨.hbm, 155, rfl⟩
abbrev main_call8_v0 : Ref sig .tc := ⟨.hbm, 156, rfl⟩
abbrev main_v38 : Ref sig .tc := ⟨.hbm, 157, rfl⟩
abbrev main_call9_v0 : Ref sig .tc := ⟨.hbm, 158, rfl⟩
abbrev main_call9_v1 : Ref sig .tc := ⟨.hbm, 159, rfl⟩
abbrev main_v39 : Ref sig .tc := ⟨.hbm, 160, rfl⟩
abbrev main_v40 : Ref sig .tc := ⟨.hbm, 161, rfl⟩
abbrev main_v41 : Ref sig .tc := ⟨.hbm, 162, rfl⟩
abbrev main_cst_2 : Ref sig .tc := ⟨.hbm, 163, rfl⟩
abbrev main_v42 : Ref sig .tc := ⟨.hbm, 164, rfl⟩
abbrev main_v43 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩

abbrev nD : Nat := 1
abbrev τ : Topo := Topo.v7x

variable {F : FTy → Type} [FloatOps F]
-- ==== FfIn.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .bf16⟩
  | .hbm, ⟨3, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfInReferenceIdeal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x1024, .f32⟩
  | .hbm, ⟨3, _⟩ => ⟨S1024x4096, .f32⟩
  | .hbm, ⟨4, _⟩ => ⟨S8192x4096, .f32⟩
  | .hbm, ⟨5, _⟩ => ⟨S8192x4096, .bf16⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== FfOut.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 12
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S4096x1024, .bf16⟩
  | .hbm, ⟨3, _⟩ => ⟨S8192x1024, .f32⟩
  | .hbm, ⟨4, _⟩ => ⟨S1024x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .bf16⟩
  | .hbm, ⟨11, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfOutReferenceIdeal.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S4096x1024, .bf16⟩
  | .hbm, ⟨3, _⟩ => ⟨S8192x1024, .f32⟩
  | .hbm, ⟨4, _⟩ => ⟨S1024x4096, .f32⟩
  | .hbm, ⟨5, _⟩ => ⟨S4096x1024, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== FfOutDw.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 12
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x1024, .bf16⟩
  | .hbm, ⟨3, _⟩ => ⟨S8192x1024, .f32⟩
  | .hbm, ⟨4, _⟩ => ⟨S1024x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .bf16⟩
  | .hbm, ⟨11, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfOutDwReferenceIdeal.lean ====
abbrev S8192x1024 : Shape := ⟨2, ![8192, 1024]⟩
abbrev S1024x4096 : Shape := ⟨2, ![1024, 4096]⟩
abbrev S_ : Shape := ⟨0, ![]⟩
abbrev S4096x1024 : Shape := ⟨2, ![4096, 1024]⟩
abbrev S8192x4096 : Shape := ⟨2, ![8192, 4096]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x1024, .bf16⟩
  | .hbm, ⟨3, _⟩ => ⟨S8192x1024, .f32⟩
  | .hbm, ⟨4, _⟩ => ⟨S1024x4096, .f32⟩
  | .hbm, ⟨5, _⟩ => ⟨S8192x1024, .f32⟩
  | .hbm, ⟨6, _⟩ => ⟨S_, .f32⟩
  | .hbm, ⟨7, _⟩ => ⟨S4096x1024, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x1024, .f32⟩
  | .hbm, ⟨14, _⟩ => ⟨S1024x4096, .f32⟩
  | .hbm, ⟨15, _⟩ => ⟨S4096x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== FfInDx.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩
abbrev S1024x2048 : Shape := ⟨2, ![1024, 2048]⟩
abbrev S1024x1024 : Shape := ⟨2, ![1024, 1024]⟩

abbrev nBuf : Space → Nat
  | .hbm => 29
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S4096x1024, .bf16⟩
  | .hbm, ⟨3, _⟩ => ⟨S8192x1024, .bf16⟩
  | .hbm, ⟨4, _⟩ => ⟨S8192x1024, .f32⟩
  | .hbm, ⟨5, _⟩ => ⟨S1024x4096, .f32⟩
  | .hbm, ⟨6, _⟩ => ⟨S4096x1024, .f32⟩
  | .hbm, ⟨7, _⟩ => ⟨S8192x1024, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .i1⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x1024, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S8192x4096, .bf16⟩
  | .hbm, ⟨28, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfInDxReferenceIdeal.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S4096x1024, .bf16⟩
  | .hbm, ⟨3, _⟩ => ⟨S8192x1024, .bf16⟩
  | .hbm, ⟨4, _⟩ => ⟨S8192x1024, .f32⟩
  | .hbm, ⟨5, _⟩ => ⟨S1024x4096, .f32⟩
  | .hbm, ⟨6, _⟩ => ⟨S4096x1024, .f32⟩
  | .hbm, ⟨7, _⟩ => ⟨S8192x1024, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .i1⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x1024, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== FfInDw.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩
abbrev S2048x1024 : Shape := ⟨2, ![2048, 1024]⟩
abbrev S1024x1024 : Shape := ⟨2, ![1024, 1024]⟩

abbrev nBuf : Space → Nat
  | .hbm => 29
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S4096x1024, .bf16⟩
  | .hbm, ⟨3, _⟩ => ⟨S8192x1024, .bf16⟩
  | .hbm, ⟨4, _⟩ => ⟨S8192x1024, .f32⟩
  | .hbm, ⟨5, _⟩ => ⟨S1024x4096, .f32⟩
  | .hbm, ⟨6, _⟩ => ⟨S4096x1024, .f32⟩
  | .hbm, ⟨7, _⟩ => ⟨S8192x1024, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .i1⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x1024, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S8192x4096, .bf16⟩
  | .hbm, ⟨28, _⟩ => ⟨S1024x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfInDwReferenceIdeal.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S4096x1024, .bf16⟩
  | .hbm, ⟨3, _⟩ => ⟨S8192x1024, .bf16⟩
  | .hbm, ⟨4, _⟩ => ⟨S8192x1024, .f32⟩
  | .hbm, ⟨5, _⟩ => ⟨S1024x4096, .f32⟩
  | .hbm, ⟨6, _⟩ => ⟨S4096x1024, .f32⟩
  | .hbm, ⟨7, _⟩ => ⟨S8192x1024, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .i1⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x1024, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S4096x1024, .f32⟩
  | .hbm, ⟨28, _⟩ => ⟨S1024x4096, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== FfOutDx.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S4096x1024, .bf16⟩
  | .hbm, ⟨3, _⟩ => ⟨S8192x1024, .bf16⟩
  | .hbm, ⟨4, _⟩ => ⟨S8192x1024, .f32⟩
  | .hbm, ⟨5, _⟩ => ⟨S1024x4096, .f32⟩
  | .hbm, ⟨6, _⟩ => ⟨S8192x4096, .f32⟩
  | .hbm, ⟨7, _⟩ => ⟨S8192x4096, .bf16⟩
  | .hbm, ⟨8, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfOutDxReferenceIdeal.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S4096x1024, .bf16⟩
  | .hbm, ⟨3, _⟩ => ⟨S8192x1024, .bf16⟩
  | .hbm, ⟨4, _⟩ => ⟨S8192x1024, .f32⟩
  | .hbm, ⟨5, _⟩ => ⟨S1024x4096, .f32⟩
  | .hbm, ⟨6, _⟩ => ⟨S4096x1024, .f32⟩
  | .hbm, ⟨7, _⟩ => ⟨S8192x1024, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .i1⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x1024, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== ProjQkv.lean ====
abbrev S8192x1024 : Shape := ⟨2, ![8192, 1024]⟩
abbrev S1024x5376 : Shape := ⟨2, ![1024, 5376]⟩
abbrev S8192x1536 : Shape := ⟨2, ![8192, 1536]⟩
abbrev S1024x1024 : Shape := ⟨2, ![1024, 1024]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5376, .bf16⟩
  | .hbm, ⟨2, _⟩ => ⟨S8192x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjQkvReferenceIdeal.lean ====
abbrev S8192x1024 : Shape := ⟨2, ![8192, 1024]⟩
abbrev S1024x5376 : Shape := ⟨2, ![1024, 5376]⟩
abbrev S8192x5376 : Shape := ⟨2, ![8192, 5376]⟩
abbrev S8192x1536 : Shape := ⟨2, ![8192, 1536]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5376, .bf16⟩
  | .hbm, ⟨2, _⟩ => ⟨S8192x1024, .f32⟩
  | .hbm, ⟨3, _⟩ => ⟨S1024x5376, .f32⟩
  | .hbm, ⟨4, _⟩ => ⟨S8192x5376, .f32⟩
  | .hbm, ⟨5, _⟩ => ⟨S8192x1536, .f32⟩
  | .hbm, ⟨6, _⟩ => ⟨S8192x1536, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProjMix.lean ====
abbrev S8192x1024 : Shape := ⟨2, ![8192, 1024]⟩
abbrev S1024x5376 : Shape := ⟨2, ![1024, 5376]⟩
abbrev S8192x768 : Shape := ⟨2, ![8192, 768]⟩
abbrev S1024x1024 : Shape := ⟨2, ![1024, 1024]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x5376, .bf16⟩
  | .hbm, ⟨2, _⟩ => ⟨S8192x768, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .f32⟩
  | .local _ .vmem, ⟨4, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjMixReferenceIdeal.lean ====
abbrev S8192x1024 : Shape := ⟨2, ![8192, 1024]⟩
abbrev S1024x5376 : Shape := ⟨2, ![1024, 5376]⟩
abbrev S8192x5376 : Shape := ⟨2, ![8192, 5376]⟩
abbrev S8192x768 : Shape := ⟨2, ![8192, 768]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5376, .bf16⟩
  | .hbm, ⟨2, _⟩ => ⟨S8192x1024, .f32⟩
  | .hbm, ⟨3, _⟩ => ⟨S1024x5376, .f32⟩
  | .hbm, ⟨4, _⟩ => ⟨S8192x5376, .f32⟩
  | .hbm, ⟨5, _⟩ => ⟨S8192x768, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjGates.lean ====
abbrev S8192x1024 : Shape := ⟨2, ![8192, 1024]⟩
abbrev S1024x5376 : Shape := ⟨2, ![1024, 5376]⟩
abbrev S8192x3072 : Shape := ⟨2, ![8192, 3072]⟩
abbrev S1024x1024 : Shape := ⟨2, ![1024, 1024]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5376, .bf16⟩
  | .hbm, ⟨2, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg1 c3_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjGatesReferenceIdeal.lean ====
abbrev S8192x1024 : Shape := ⟨2, ![8192, 1024]⟩
abbrev S1024x5376 : Shape := ⟨2, ![1024, 5376]⟩
abbrev S8192x5376 : Shape := ⟨2, ![8192, 5376]⟩
abbrev S8192x3072 : Shape := ⟨2, ![8192, 3072]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5376, .bf16⟩
  | .hbm, ⟨2, _⟩ => ⟨S8192x1024, .f32⟩
  | .hbm, ⟨3, _⟩ => ⟨S1024x5376, .f32⟩
  | .hbm, ⟨4, _⟩ => ⟨S8192x5376, .f32⟩
  | .hbm, ⟨5, _⟩ => ⟨S8192x3072, .f32⟩
  | .hbm, ⟨6, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProjDx.lean ====
abbrev S8192x1024 : Shape := ⟨2, ![8192, 1024]⟩
abbrev S1024x5376 : Shape := ⟨2, ![1024, 5376]⟩
abbrev S8192x5376 : Shape := ⟨2, ![8192, 5376]⟩
abbrev S1024x1792 : Shape := ⟨2, ![1024, 1792]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5376, .bf16⟩
  | .hbm, ⟨2, _⟩ => ⟨S8192x5376, .bf16⟩
  | .hbm, ⟨3, _⟩ => ⟨S8192x1024, .f32⟩
  | .local _ .vmem, ⟨0, _⟩ => ⟨S1024x1792, .bf16⟩
  | .local _ .vmem, ⟨1, _⟩ => ⟨S1024x1792, .bf16⟩
  | .local _ .vmem, ⟨2, _⟩ => ⟨S1024x1792, .bf16⟩
  | .local _ .vmem, ⟨3, _⟩ => ⟨S1024x1792, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 3], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDxReferenceIdeal.lean ====
abbrev S8192x1024 : Shape := ⟨2, ![8192, 1024]⟩
abbrev S1024x5376 : Shape := ⟨2, ![1024, 5376]⟩
abbrev S8192x5376 : Shape := ⟨2, ![8192, 5376]⟩
abbrev S5376x1024 : Shape := ⟨2, ![5376, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5376, .bf16⟩
  | .hbm, ⟨2, _⟩ => ⟨S8192x5376, .bf16⟩
  | .hbm, ⟨3, _⟩ => ⟨S8192x1024, .f32⟩
  | .hbm, ⟨4, _⟩ => ⟨S1024x5376, .f32⟩
  | .hbm, ⟨5, _⟩ => ⟨S8192x5376, .f32⟩
  | .hbm, ⟨6, _⟩ => ⟨S8192x5376, .f32⟩
  | .hbm, ⟨7, _⟩ => ⟨S5376x1024, .f32⟩
  | .hbm, ⟨8, _⟩ => ⟨S1024x5376, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjDw.lean ====
abbrev S8192x1024 : Shape := ⟨2, ![8192, 1024]⟩
abbrev S1024x5376 : Shape := ⟨2, ![1024, 5376]⟩
abbrev S8192x5376 : Shape := ⟨2, ![8192, 5376]⟩
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5376, .bf16⟩
  | .hbm, ⟨2, _⟩ => ⟨S8192x5376, .bf16⟩
  | .hbm, ⟨3, _⟩ => ⟨S1024x5376, .f32⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .f32⟩
  | .local _ .vmem, ⟨5, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 7, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDwReferenceIdeal.lean ====
abbrev S8192x1024 : Shape := ⟨2, ![8192, 1024]⟩
abbrev S1024x5376 : Shape := ⟨2, ![1024, 5376]⟩
abbrev S8192x5376 : Shape := ⟨2, ![8192, 5376]⟩
abbrev S5376x1024 : Shape := ⟨2, ![5376, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5376, .bf16⟩
  | .hbm, ⟨2, _⟩ => ⟨S8192x5376, .bf16⟩
  | .hbm, ⟨3, _⟩ => ⟨S8192x1024, .f32⟩
  | .hbm, ⟨4, _⟩ => ⟨S1024x5376, .f32⟩
  | .hbm, ⟨5, _⟩ => ⟨S8192x5376, .f32⟩
  | .hbm, ⟨6, _⟩ => ⟨S8192x5376, .f32⟩
  | .hbm, ⟨7, _⟩ => ⟨S5376x1024, .f32⟩
  | .hbm, ⟨8, _⟩ => ⟨S1024x5376, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutProj.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjReferenceIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutProjDx.lean ====
abbrev S8192x1024 : Shape := ⟨2, ![8192, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDxReferenceIdeal.lean ====
abbrev S8192x1024 : Shape := ⟨2, ![8192, 1024]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S8192x1024, .f32⟩
  | .hbm, ⟨10, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OutProjDw.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutProjDwReferenceIdeal.lean ====
abbrev S8192x1024 : Shape := ⟨2, ![8192, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== BrSb.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrSbReferenceIdeal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x512, .f32⟩
  | .hbm, ⟨3, _⟩ => ⟨S512x1024, .f32⟩
  | .hbm, ⟨4, _⟩ => ⟨S8192x1024, .f32⟩
  | .hbm, ⟨5, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BrSbDx.lean ====
abbrev S8192x512 : Shape := ⟨2, ![8192, 512]⟩
abbrev S512x1024 : Shape := ⟨2, ![512, 1024]⟩
abbrev S8192x1024 : Shape := ⟨2, ![8192, 1024]⟩
abbrev S1024x1024 : Shape := ⟨2, ![1024, 1024]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .bf16⟩
  | .hbm, ⟨3, _⟩ => ⟨S8192x512, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrSbDxReferenceIdeal.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .bf16⟩
  | .hbm, ⟨3, _⟩ => ⟨S8192x512, .f32⟩
  | .hbm, ⟨4, _⟩ => ⟨S512x1024, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S8192x512, .f32⟩
  | .hbm, ⟨10, _⟩ => ⟨S8192x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== BrSbDw.lean ====
abbrev S8192x512 : Shape := ⟨2, ![8192, 512]⟩
abbrev S512x1024 : Shape := ⟨2, ![512, 1024]⟩
abbrev S8192x1024 : Shape := ⟨2, ![8192, 1024]⟩
abbrev S2048x512 : Shape := ⟨2, ![2048, 512]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .bf16⟩
  | .hbm, ⟨3, _⟩ => ⟨S512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BrSbDwReferenceIdeal.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .bf16⟩
  | .hbm, ⟨3, _⟩ => ⟨S8192x512, .f32⟩
  | .hbm, ⟨4, _⟩ => ⟨S512x1024, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S8192x512, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== BrPool.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .bf16⟩
  | .hbm, ⟨1, _⟩ => ⟨S256x1024, .bf16⟩
  | .hbm, ⟨2, _⟩ => ⟨S8192x1024, .bf16⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S1024x1024, .bf16⟩
  | .local _ .vmem, ⟨4, _⟩ => ⟨S1024x1024, .bf16⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrPoolReferenceIdeal.lean ====
abbrev S8192x256 : Shape := ⟨2, ![8192, 256]⟩
abbrev S256x1024 : Shape := ⟨2, ![256, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S256x1024, .bf16⟩
  | .hbm, ⟨2, _⟩ => ⟨S8192x256, .f32⟩
  | .hbm, ⟨3, _⟩ => ⟨S256x1024, .f32⟩
  | .hbm, ⟨4, _⟩ => ⟨S8192x1024, .f32⟩
  | .hbm, ⟨5, _⟩ => ⟨S8192x1024, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BrPoolDx.lean ====
abbrev S8192x256 : Shape := ⟨2, ![8192, 256]⟩
abbrev S256x1024 : Shape := ⟨2, ![256, 1024]⟩
abbrev S8192x1024 : Shape := ⟨2, ![8192, 1024]⟩
abbrev S1024x1024 : Shape := ⟨2, ![1024, 1024]⟩
abbrev S1024x256 : Shape := ⟨2, ![1024, 256]⟩

abbrev nBuf : Space → Nat
  | .hbm => 4
  | .vmem => 5
  | .smem => 0
  | _ => 0

abbrev bufTy : (tb : Table) → Fin (tcTables nBuf tb) → BufTy
  | .hbm, ⟨0, _⟩ => ⟨S8192x256, .bf16⟩
  | .hbm, ⟨1, _⟩ => ⟨S256x1024, .bf16⟩
  | .hbm, ⟨2, _⟩ => ⟨S8192x1024, .bf16⟩
  | .hbm, ⟨3, _⟩ => ⟨S8192x256, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S1024x256, .f32⟩
  | .local _ .vmem, ⟨4, _⟩ => ⟨S1024x256, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BrPoolDxReferenceIdeal.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S256x1024, .bf16⟩
  | .hbm, ⟨2, _⟩ => ⟨S8192x1024, .bf16⟩
  | .hbm, ⟨3, _⟩ => ⟨S8192x256, .f32⟩
  | .hbm, ⟨4, _⟩ => ⟨S256x1024, .f32⟩
  | .hbm, ⟨5, _⟩ => ⟨S8192x1024, .f32⟩
  | .hbm, ⟨6, _⟩ => ⟨S8192x1024, .f32⟩
  | .hbm, ⟨7, _⟩ => ⟨S1024x256, .f32⟩
  | .hbm, ⟨8, _⟩ => ⟨S256x1024, .f32⟩
  | .hbm, ⟨9, _⟩ => ⟨S8192x256, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== BrPoolDw.lean ====
abbrev S8192x256 : Shape := ⟨2, ![8192, 256]⟩
abbrev S256x1024 : Shape := ⟨2, ![256, 1024]⟩
abbrev S8192x1024 : Shape := ⟨2, ![8192, 1024]⟩
abbrev S2048x256 : Shape := ⟨2, ![2048, 256]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x256, .bf16⟩
  | .hbm, ⟨1, _⟩ => ⟨S256x1024, .bf16⟩
  | .hbm, ⟨2, _⟩ => ⟨S8192x1024, .bf16⟩
  | .hbm, ⟨3, _⟩ => ⟨S256x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BrPoolDwReferenceIdeal.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S256x1024, .bf16⟩
  | .hbm, ⟨2, _⟩ => ⟨S8192x1024, .bf16⟩
  | .hbm, ⟨3, _⟩ => ⟨S8192x256, .f32⟩
  | .hbm, ⟨4, _⟩ => ⟨S256x1024, .f32⟩
  | .hbm, ⟨5, _⟩ => ⟨S8192x1024, .f32⟩
  | .hbm, ⟨6, _⟩ => ⟨S8192x1024, .f32⟩
  | .hbm, ⟨7, _⟩ => ⟨S1024x256, .f32⟩
  | .hbm, ⟨8, _⟩ => ⟨S256x1024, .f32⟩
  | .hbm, ⟨9, _⟩ => ⟨S8192x256, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MergeFwd.lean ====
abbrev S8192x3072 : Shape := ⟨2, ![8192, 3072]⟩
abbrev S8192x1024 : Shape := ⟨2, ![8192, 1024]⟩
abbrev S1024x256 : Shape := ⟨2, ![1024, 256]⟩

abbrev nBuf : Space → Nat
  | .hbm => 5
  | .vmem => 14
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeFwdReferenceIdeal.lean ====
abbrev S8192x3072 : Shape := ⟨2, ![8192, 3072]⟩
abbrev S8192x1024 : Shape := ⟨2, ![8192, 1024]⟩
abbrev S8192x3x1024 : Shape := ⟨3, ![8192, 3, 1024]⟩
abbrev S_ : Shape := ⟨0, ![]⟩
abbrev S8192x1x1024 : Shape := ⟨3, ![8192, 1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x3072, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x3x1024, .f32⟩
  | .hbm, ⟨9, _⟩ => ⟨S8192x3x1024, .f32⟩
  | .hbm, ⟨10, _⟩ => ⟨S8192x3x1024, .f32⟩
  | .hbm, ⟨11, _⟩ => ⟨S_, .f32⟩
  | .hbm, ⟨12, _⟩ => ⟨S8192x3x1024, .f32⟩
  | .hbm, ⟨13, _⟩ => ⟨S8192x3x1024, .f32⟩
  | .hbm, ⟨14, _⟩ => ⟨S_, .f32⟩
  | .hbm, ⟨15, _⟩ => ⟨S8192x3x1024, .f32⟩
  | .hbm, ⟨16, _⟩ => ⟨S8192x3x1024, .f32⟩
  | .hbm, ⟨17, _⟩ => ⟨S8192x1x1024, .f32⟩
  | .hbm, ⟨18, _⟩ => ⟨S8192x1024, .f32⟩
  | .hbm, ⟨19, _⟩ => ⟨S8192x1024, .f32⟩
  | .hbm, ⟨20, _⟩ => ⟨S8192x1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== MergeBwd.lean ====
abbrev S8192x3072 : Shape := ⟨2, ![8192, 3072]⟩
abbrev S8192x1024 : Shape := ⟨2, ![8192, 1024]⟩
abbrev S1024x256 : Shape := ⟨2, ![1024, 256]⟩

abbrev nBuf : Space → Nat
  | .hbm => 11
  | .vmem => 26
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S8192x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x256, .bf16⟩
  | .local _ .vmem, ⟨20, _⟩ => ⟨S1024x256, .bf16⟩
  | .local _ .vmem, ⟨21, _⟩ => ⟨S1024x256, .bf16⟩
  | .local _ .vmem, ⟨22, _⟩ => ⟨S1024x256, .bf16⟩
  | .local _ .vmem, ⟨23, _⟩ => ⟨S1024x256, .bf16⟩
  | .local _ .vmem, ⟨24, _⟩ => ⟨S1024x256, .bf16⟩
  | .local _ .vmem, ⟨25, _⟩ => ⟨S1024x256, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MergeBwdReferenceIdeal.lean ====
abbrev S8192x3072 : Shape := ⟨2, ![8192, 3072]⟩
abbrev S8192x1024 : Shape := ⟨2, ![8192, 1024]⟩
abbrev S8192x3x1024 : Shape := ⟨3, ![8192, 3, 1024]⟩
abbrev S_ : Shape := ⟨0, ![]⟩
abbrev S8192x1x1024 : Shape := ⟨3, ![8192, 1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x3072, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x3x1024, .f32⟩
  | .hbm, ⟨11, _⟩ => ⟨S8192x3x1024, .f32⟩
  | .hbm, ⟨12, _⟩ => ⟨S8192x3x1024, .f32⟩
  | .hbm, ⟨13, _⟩ => ⟨S_, .f32⟩
  | .hbm, ⟨14, _⟩ => ⟨S8192x3x1024, .f32⟩
  | .hbm, ⟨15, _⟩ => ⟨S8192x3x1024, .f32⟩
  | .hbm, ⟨16, _⟩ => ⟨S_, .f32⟩
  | .hbm, ⟨17, _⟩ => ⟨S8192x3x1024, .f32⟩
  | .hbm, ⟨18, _⟩ => ⟨S8192x3x1024, .f32⟩
  | .hbm, ⟨19, _⟩ => ⟨S_, .f32⟩
  | .hbm, ⟨20, _⟩ => ⟨S8192x3x1024, .f32⟩
  | .hbm, ⟨21, _⟩ => ⟨S8192x3x1024, .f32⟩
  | .hbm, ⟨22, _⟩ => ⟨S8192x3x1024, .f32⟩
  | .hbm, ⟨23, _⟩ => ⟨S8192x1x1024, .f32⟩
  | .hbm, ⟨24, _⟩ => ⟨S8192x1024, .f32⟩
  | .hbm, ⟨25, _⟩ => ⟨S8192x1024, .f32⟩
  | .hbm, ⟨26, _⟩ => ⟨S8192x1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1x1024, .f32⟩
  | .hbm, ⟨37, _⟩ => ⟨S_, .f32⟩
  | .hbm, ⟨38, _⟩ => ⟨S8192x3x1024, .f32⟩
  | .hbm, ⟨39, _⟩ => ⟨S8192x1024, .f32⟩
  | .hbm, ⟨40, _⟩ => ⟨S8192x1024, .f32⟩
  | .hbm, ⟨41, _⟩ => ⟨S8192x1x1024, .f32⟩
  | .hbm, ⟨42, _⟩ => ⟨S_, .f32⟩
  | .hbm, ⟨43, _⟩ => ⟨S8192x3x1024, .f32⟩
  | .hbm, ⟨44, _⟩ => ⟨S8192x3x1024, .f32⟩
  | .hbm, ⟨45, _⟩ => ⟨S8192x1024, .f32⟩
  | .hbm, ⟨46, _⟩ => ⟨S8192x1024, .f32⟩
  | .hbm, ⟨47, _⟩ => ⟨S8192x1x1024, .f32⟩
  | .hbm, ⟨48, _⟩ => ⟨S_, .f32⟩
  | .hbm, ⟨49, _⟩ => ⟨S8192x3x1024, .f32⟩
  | .hbm, ⟨50, _⟩ => ⟨S8192x3x1024, .f32⟩
  | .hbm, ⟨51, _⟩ => ⟨S8192x3x1024, .f32⟩
  | .hbm, ⟨52, _⟩ => ⟨S8192x3072, .f32⟩
  | .hbm, ⟨53, _⟩ => ⟨S8192x3072, .bf16⟩
  | .hbm, ⟨54, _⟩ => ⟨S8192x1024, .bf16⟩
  | .hbm, ⟨55, _⟩ => ⟨S8192x1024, .bf16⟩
  | .hbm, ⟨56, _⟩ => ⟨S8192x1024, .bf16⟩
  | .hbm, ⟨57, _⟩ => ⟨S8192x1024, .bf16⟩
  | .hbm, ⟨58, _⟩ => ⟨S8192x1024, .bf16⟩
  | .hbm, ⟨59, _⟩ => ⟨S8192x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_4 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩

abbrev nD : Nat := 1
abbrev τ : Topo := Topo.v7x

variable {F : FTy → Type} [FloatOps F]
-- ==== RmsFwd.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdReferenceIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== ResidMix.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ResidMixReferenceIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== ResidLast.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ResidLastReferenceIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== RmsBwdLast.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .bf16⟩
  | .hbm, ⟨4, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_12 : BitVec 32 := 0#32
  let v36 : BitVec 1 := Scalar.cmpi .ne v35 c0_i32_12
  v36

def k0_cond2 (i : grid0.Coords) : BitVec 1 :=
  let arg0 : BitVec 32 := BitVec.ofNat 32 (i 0).val
  let c0_i32_13 : BitVec 32 := 0#32
  let v37 : BitVec 1 := Scalar.cmpi .sgt arg0 c0_i32_13
  let v38 : BitVec 32 := Scalar.extui v37
  let c0_i32_14 : BitVec 32 := 0#32
  let v39 : BitVec 1 := Scalar.cmpi .ne v38 c0_i32_14
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RmsBwdLastReferenceIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== RmsBwdMid.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1x1024, .f32⟩
  | .hbm, ⟨8, _⟩ => ⟨S8192x1024, .bf16⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_14 : BitVec 32 := 0#32
  let v37 : BitVec 1 := Scalar.cmpi .ne v36 c0_i32_14
  v37

def k0_cond2 (i : grid0.Coords) : BitVec 1 :=
  let arg0 : BitVec 32 := BitVec.ofNat 32 (i 0).val
  let c0_i32_15 : BitVec 32 := 0#32
  let v38 : BitVec 1 := Scalar.cmpi .sgt arg0 c0_i32_15
  let v39 : BitVec 32 := Scalar.extui v38
  let c0_i32_16 : BitVec 32 := 0#32
  let v40 : BitVec 1 := Scalar.cmpi .ne v39 c0_i32_16
  v40

def k0_cond3 (i : grid0.Coords) : BitVec 1 :=
  let arg0 : BitVec 32 := BitVec.ofNat 32 (i 0).val
  let c0_i32_29 : BitVec 32 := 0#32
  let v74 : BitVec 1 := Scalar.cmpi .eq arg0 c0_i32_29
  let v75 : BitVec 32 := Scalar.extui v74
  let c0_i32_30 : BitVec 32 := 0#32
  let v76 : BitVec 1 := Scalar.cmpi .ne v75 c0_i32_30
  v76

def k0_cond4 (i : grid0.Coords) : BitVec 1 :=
  let arg0 : BitVec 32 := BitVec.ofNat 32 (i 0).val
  let c0_i32_31 : BitVec 32 := 0#32
  let v77 : BitVec 1 := Scalar.cmpi .sgt arg0 c0_i32_31
  let v78 : BitVec 32 := Scalar.extui v77
  let c0_i32_32 : BitVec 32 := 0#32
  let v79 : BitVec 1 := Scalar.cmpi .ne v78 c0_i32_32
  v79

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== RmsBwdMidReferenceIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 92
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S_, .f32⟩
  | .hbm, ⟨76, _⟩ => ⟨S8192, .f32⟩
  | .hbm, ⟨77, _⟩ => ⟨S8192x1, .f32⟩
  | .hbm, ⟨78, _⟩ => ⟨S8192x1024, .f32⟩
  | .hbm, ⟨79, _⟩ => ⟨S8192x1024, .f32⟩
  | .hbm, ⟨80, _⟩ => ⟨S8192x1, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S_, .f32⟩
  | .hbm, ⟨85, _⟩ => ⟨S8192, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩
abbrev main_cst_14 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩

abbrev nD : Nat := 1
abbrev τ : Topo := Topo.v7x

variable {F : FTy → Type} [FloatOps F]
-- ==== RmsBwdFirst.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_14 : BitVec 32 := 0#32
  let v37 : BitVec 1 := Scalar.cmpi .ne v36 c0_i32_14
  v37

def k0_cond2 (i : grid0.Coords) : BitVec 1 :=
  let arg0 : BitVec 32 := BitVec.ofNat 32 (i 0).val
  let c0_i32_15 : BitVec 32 := 0#32
  let v38 : BitVec 1 := Scalar.cmpi .sgt arg0 c0_i32_15
  let v39 : BitVec 32 := Scalar.extui v38
  let c0_i32_16 : BitVec 32 := 0#32
  let v40 : BitVec 1 := Scalar.cmpi .ne v39 c0_i32_16
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsBwdFirstReferenceIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== LossHead.lean ====
abbrev S8192x1024 : Shape := ⟨2, ![8192, 1024]⟩
abbrev S1x1 : Shape := ⟨2, ![1, 1]⟩
abbrev S512x1024 : Shape := ⟨2, ![512, 1024]⟩
abbrev S1x1024 : Shape := ⟨2, ![1, 1024]⟩
abbrev S1024 : Shape := ⟨1, ![1024]⟩
abbrev S1 : Shape := ⟨1, ![1]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1, .f32⟩
  | .local _ .vmem, ⟨7, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v15 : BitVec 1 := Scalar.cmpi .eq arg0 c15_i32
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossHeadReferenceIdeal.lean ====
abbrev S8192x1024 : Shape := ⟨2, ![8192, 1024]⟩
abbrev S_ : Shape := ⟨0, ![]⟩
abbrev S8192 : Shape := ⟨1, ![8192]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S1x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== AdamwSmall.lean ====
abbrev S2720x128 : Shape := ⟨2, ![2720, 128]⟩
abbrev S8x2720x128 : Shape := ⟨3, ![8, 2720, 128]⟩
abbrev S1360x128 : Shape := ⟨2, ![1360, 128]⟩
abbrev S8x1360x128 : Shape := ⟨3, ![8, 1360, 128]⟩
abbrev S1x1360x128 : Shape := ⟨3, ![1, 1360, 128]⟩

abbrev nBuf : Space → Nat
  | .hbm => 8
  | .vmem => 16
  | .smem => 0
  | _ => 0

abbrev bufTy : (tb : Table) → Fin (tcTables nBuf tb) → BufTy
  | .hbm, ⟨0, _⟩ => ⟨S2720x128, .f32⟩
  | .hbm, ⟨1, _⟩ => ⟨S2720x128, .f32⟩
  | .hbm, ⟨2, _⟩ => ⟨S2720x128, .f32⟩
  | .hbm, ⟨3, _⟩ => ⟨S8x2720x128, .f32⟩
  | .hbm, ⟨4, _⟩ => ⟨S2720x128, .f32⟩
  | .hbm, ⟨5, _⟩ => ⟨S2720x128, .f32⟩
  | .hbm, ⟨6, _⟩ => ⟨S2720x128, .f32⟩
  | .hbm, ⟨7, _⟩ => ⟨S2720x128, .f32⟩
  | .local _ .vmem, ⟨0, _⟩ => ⟨S1360x128, .f32⟩
  | .local _ .vmem, ⟨1, _⟩ => ⟨S1360x128, .f32⟩
  | .local _ .vmem, ⟨2, _⟩ => ⟨S1360x128, .f32⟩
  | .local _ .vmem, ⟨3, _⟩ => ⟨S1360x128, .f32⟩
  | .local _ .vmem, ⟨4, _⟩ => ⟨S1360x128, .f32⟩
  | .local _ .vmem, ⟨5, _⟩ => ⟨S1360x128, .f32⟩
  | .local _ .vmem, ⟨6, _⟩ => ⟨S8x1360x128, .f32⟩
  | .local _ .vmem, ⟨7, _⟩ => ⟨S8x1360x128, .f32⟩
  | .local _ .vmem, ⟨8, _⟩ => ⟨S1360x128, .f32⟩
  | .local _ .vmem, ⟨9, _⟩ => ⟨S1360x128, .f32⟩
  | .local _ .vmem, ⟨10, _⟩ => ⟨S1360x128, .f32⟩
  | .local _ .vmem, ⟨11, _⟩ => ⟨S1360x128, .f32⟩
  | .local _ .vmem, ⟨12, _⟩ => ⟨S1360x128, .f32⟩
  | .local _ .vmem, ⟨13, _⟩ => ⟨S1360x128, .f32⟩
  | .local _ .vmem, ⟨14, _⟩ => ⟨S1360x128, .f32⟩
  | .local _ .vmem, ⟨15, _⟩ => ⟨S1360x128, .f32⟩
  | _, _ => ⟨S2720x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1360x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1360x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1360x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1360x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1360x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1360x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1360x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1360x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwSmallReferenceIdeal.lean ====
abbrev S2720x128 : Shape := ⟨2, ![2720, 128]⟩
abbrev S8x2720x128 : Shape := ⟨3, ![8, 2720, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2720x128, .f32⟩
  | .hbm, ⟨1, _⟩ => ⟨S2720x128, .f32⟩
  | .hbm, ⟨2, _⟩ => ⟨S2720x128, .f32⟩
  | .hbm, ⟨3, _⟩ => ⟨S8x2720x128, .f32⟩
  | .hbm, ⟨4, _⟩ => ⟨S_, .f32⟩
  | .hbm, ⟨5, _⟩ => ⟨S2720x128, .f32⟩
  | .hbm, ⟨6, _⟩ => ⟨S_, .f32⟩
  | .hbm, ⟨7, _⟩ => ⟨S2720x128, .f32⟩
  | .hbm, ⟨8, _⟩ => ⟨S2720x128, .f32⟩
  | .hbm, ⟨9, _⟩ => ⟨S_, .f32⟩
  | .hbm, ⟨10, _⟩ => ⟨S2720x128, .f32⟩
  | .hbm, ⟨11, _⟩ => ⟨S2720x128, .f32⟩
  | .hbm, ⟨12, _⟩ => ⟨S2720x128, .f32⟩
  | .hbm, ⟨13, _⟩ => ⟨S_, .f32⟩
  | .hbm, ⟨14, _⟩ => ⟨S2720x128, .f32⟩
  | .hbm, ⟨15, _⟩ => ⟨S2720x128, .f32⟩
  | .hbm, ⟨16, _⟩ => ⟨S2720x128, .f32⟩
  | .hbm, ⟨17, _⟩ => ⟨S_, .f32⟩
  | .hbm, ⟨18, _⟩ => ⟨S2720x128, .f32⟩
  | .hbm, ⟨19, _⟩ => ⟨S2720x128, .f32⟩
  | .hbm, ⟨20, _⟩ => ⟨S2720x128, .f32⟩
  | .hbm, ⟨21, _⟩ => ⟨S_, .f32⟩
  | .hbm, ⟨22, _⟩ => ⟨S2720x128, .f32⟩
  | .hbm, ⟨23, _⟩ => ⟨S2720x128, .f32⟩
  | .hbm, ⟨24, _⟩ => ⟨S_, .f32⟩
  | .hbm, ⟨25, _⟩ => ⟨S2720x128, .f32⟩
  | .hbm, ⟨26, _⟩ => ⟨S2720x128, .f32⟩
  | .hbm, ⟨27, _⟩ => ⟨S2720x128, .f32⟩
  | .hbm, ⟨28, _⟩ => ⟨S_, .f32⟩
  | .hbm, ⟨29, _⟩ => ⟨S2720x128, .f32⟩
  | .hbm, ⟨30, _⟩ => ⟨S2720x128, .f32⟩
  | .hbm, ⟨31, _⟩ => ⟨S2720x128, .f32⟩
  | .hbm, ⟨32, _⟩ => ⟨S_, .f32⟩
  | .hbm, ⟨33, _⟩ => ⟨S2720x128, .f32⟩
  | .hbm, ⟨34, _⟩ => ⟨S2720x128, .f32⟩
  | .hbm, ⟨35, _⟩ => ⟨S2720x128, .f32⟩
  | .hbm, ⟨36, _⟩ => ⟨S_, .f32⟩
  | .hbm, ⟨37, _⟩ => ⟨S2720x128, .f32⟩
  | .hbm, ⟨38, _⟩ => ⟨S2720x128, .f32⟩
  | _, _ => ⟨S2720x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamwIn.lean ====
abbrev S4x1024x1344 : Shape := ⟨3, ![4, 1024, 1344]⟩
abbrev S4x512x1344 : Shape := ⟨3, ![4, 512, 1344]⟩
abbrev S1 : Shape := ⟨1, ![1]⟩
abbrev S1x128x1344 : Shape := ⟨3, ![1, 128, 1344]⟩
abbrev S128x1344 : Shape := ⟨2, ![128, 1344]⟩

abbrev nBuf : Space → Nat
  | .hbm => 9
  | .vmem => 18
  | .smem => 1
  | _ => 0

abbrev bufTy : (tb : Table) → Fin (tcTables nBuf tb) → BufTy
  | .hbm, ⟨0, _⟩ => ⟨S4x1024x1344, .f32⟩
  | .hbm, ⟨1, _⟩ => ⟨S4x1024x1344, .f32⟩
  | .hbm, ⟨2, _⟩ => ⟨S4x1024x1344, .f32⟩
  | .hbm, ⟨3, _⟩ => ⟨S4x512x1344, .f32⟩
  | .hbm, ⟨4, _⟩ => ⟨S4x512x1344, .f32⟩
  | .hbm, ⟨5, _⟩ => ⟨S4x1024x1344, .f32⟩
  | .hbm, ⟨6, _⟩ => ⟨S4x1024x1344, .f32⟩
  | .hbm, ⟨7, _⟩ => ⟨S4x1024x1344, .f32⟩
  | .hbm, ⟨8, _⟩ => ⟨S4x1024x1344, .f32⟩
  | .local _ .vmem, ⟨0, _⟩ => ⟨S1x128x1344, .f32⟩
  | .local _ .vmem, ⟨1, _⟩ => ⟨S1x128x1344, .f32⟩
  | .local _ .vmem, ⟨2, _⟩ => ⟨S1x128x1344, .f32⟩
  | .local _ .vmem, ⟨3, _⟩ => ⟨S1x128x1344, .f32⟩
  | .local _ .vmem, ⟨4, _⟩ => ⟨S1x128x1344, .f32⟩
  | .local _ .vmem, ⟨5, _⟩ => ⟨S1x128x1344, .f32⟩
  | .local _ .vmem, ⟨6, _⟩ => ⟨S1x128x1344, .f32⟩
  | .local _ .vmem, ⟨7, _⟩ => ⟨S1x128x1344, .f32⟩
  | .local _ .vmem, ⟨8, _⟩ => ⟨S1x128x1344, .f32⟩
  | .local _ .vmem, ⟨9, _⟩ => ⟨S1x128x1344, .f32⟩
  | .local _ .vmem, ⟨10, _⟩ => ⟨S1x128x1344, .f32⟩
  | .local _ .vmem, ⟨11, _⟩ => ⟨S1x128x1344, .f32⟩
  | .local _ .vmem, ⟨12, _⟩ => ⟨S1x128x1344, .f32⟩
  | .local _ .vmem, ⟨13, _⟩ => ⟨S1x128x1344, .f32⟩
  | .local _ .vmem, ⟨14, _⟩ => ⟨S1x128x1344, .f32⟩
  | .local _ .vmem, ⟨15, _⟩ => ⟨S1x128x1344, .f32⟩
  | .local _ .vmem, ⟨16, _⟩ => ⟨S1x128x1344, .f32⟩
  | .local _ .vmem, ⟨17, _⟩ => ⟨S1x128x1344, .f32⟩
  | .local _ .smem, ⟨0, _⟩ => ⟨S1, .i32⟩
  | _, _ => ⟨S4x1024x1344, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![arg0.toNat, v9.toNat, c0_i32_3.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![arg0.toNat, v9.toNat, c0_i32_3.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1344 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1344 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1344 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1344 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1344 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1344 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1344 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1344 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1344 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamwInReferenceIdeal.lean ====
abbrev S4x1024x1344 : Shape := ⟨3, ![4, 1024, 1344]⟩
abbrev S4x512x1344 : Shape := ⟨3, ![4, 512, 1344]⟩
abbrev S1 : Shape := ⟨1, ![1]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S4x1024x1344, .f32⟩
  | .hbm, ⟨1, _⟩ => ⟨S4x1024x1344, .f32⟩
  | .hbm, ⟨2, _⟩ => ⟨S4x1024x1344, .f32⟩
  | .hbm, ⟨3, _⟩ => ⟨S4x512x1344, .f32⟩
  | .hbm, ⟨4, _⟩ => ⟨S4x512x1344, .f32⟩
  | .hbm, ⟨5, _⟩ => ⟨S1, .i32⟩
  | .hbm, ⟨6, _⟩ => ⟨S_, .i32⟩
  | .hbm, ⟨7, _⟩ => ⟨S1, .i32⟩
  | .hbm, ⟨8, _⟩ => ⟨S1, .i1⟩
  | .hbm, ⟨9, _⟩ => ⟨S4x512x1344, .i1⟩
  | .hbm, ⟨10, _⟩ => ⟨S4x512x1344, .f32⟩
  | .hbm, ⟨11, _⟩ => ⟨S_, .i32⟩
  | .hbm, ⟨12, _⟩ => ⟨S1, .i32⟩
  | .hbm, ⟨13, _⟩ => ⟨S1, .i1⟩
  | .hbm, ⟨14, _⟩ => ⟨S4x512x1344, .i1⟩
  | .hbm, ⟨15, _⟩ => ⟨S4x512x1344, .f32⟩
  | .hbm, ⟨16, _⟩ => ⟨S4x1024x1344, .f32⟩
  | .hbm, ⟨17, _⟩ => ⟨S_, .f32⟩
  | .hbm, ⟨18, _⟩ => ⟨S4x1024x1344, .f32⟩
  | .hbm, ⟨19, _⟩ => ⟨S4x1024x1344, .f32⟩
  | .hbm, ⟨20, _⟩ => ⟨S_, .f32⟩
  | .hbm, ⟨21, _⟩ => ⟨S4x1024x1344, .f32⟩
  | .hbm, ⟨22, _⟩ => ⟨S4x1024x1344, .f32⟩
  | .hbm, ⟨23, _⟩ => ⟨S4x1024x1344, .f32⟩
  | .hbm, ⟨24, _⟩ => ⟨S_, .f32⟩
  | .hbm, ⟨25, _⟩ => ⟨S4x1024x1344, .f32⟩
  | .hbm, ⟨26, _⟩ => ⟨S4x1024x1344, .f32⟩
  | .hbm, ⟨27, _⟩ => ⟨S4x1024x1344, .f32⟩
  | .hbm, ⟨28, _⟩ => ⟨S_, .f32⟩
  | .hbm, ⟨29, _⟩ => ⟨S4x1024x1344, .f32⟩
  | .hbm, ⟨30, _⟩ => ⟨S4x1024x1344, .f32⟩
  | .hbm, ⟨31, _⟩ => ⟨S4x1024x1344, .f32⟩
  | .hbm, ⟨32, _⟩ => ⟨S_, .f32⟩
  | .hbm, ⟨33, _⟩ => ⟨S4x1024x1344, .f32⟩
  | .hbm, ⟨34, _⟩ => ⟨S4x1024x1344, .f32⟩
  | .hbm, ⟨35, _⟩ => ⟨S_, .f32⟩
  | .hbm, ⟨36, _⟩ => ⟨S4x1024x1344, .f32⟩
  | .hbm, ⟨37, _⟩ => ⟨S4x1024x1344, .f32⟩
  | .hbm, ⟨38, _⟩ => ⟨S4x1024x1344, .f32⟩
  | .hbm, ⟨39, _⟩ => ⟨S_, .f32⟩
  | .hbm, ⟨40, _⟩ => ⟨S4x1024x1344, .f32⟩
  | .hbm, ⟨41, _⟩ => ⟨S4x1024x1344, .f32⟩
  | .hbm, ⟨42, _⟩ => ⟨S4x1024x1344, .f32⟩
  | .hbm, ⟨43, _⟩ => ⟨S_, .f32⟩
  | .hbm, ⟨44, _⟩ => ⟨S4x1024x1344, .f32⟩
  | .hbm, ⟨45, _⟩ => ⟨S4x1024x1344, .f32⟩
  | .hbm, ⟨46, _⟩ => ⟨S4x1024x1344, .f32⟩
  | .hbm, ⟨47, _⟩ => ⟨S_, .f32⟩
  | .hbm, ⟨48, _⟩ => ⟨S4x1024x1344, .f32⟩
  | .hbm, ⟨49, _⟩ => ⟨S4x1024x1344, .f32⟩
  | _, _ => ⟨S4x1024x1344, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩

abbrev nD : Nat := 1
abbrev τ : Topo := Topo.v7x

variable {F : FTy → Type} [FloatOps F]
-- ==== AdamwBrSb.lean ====
abbrev S4x512x256 : Shape := ⟨3, ![4, 512, 256]⟩
abbrev S4x256x256 : Shape := ⟨3, ![4, 256, 256]⟩
abbrev S1 : Shape := ⟨1, ![1]⟩
abbrev S1x256x256 : Shape := ⟨3, ![1, 256, 256]⟩
abbrev S256x256 : Shape := ⟨2, ![256, 256]⟩

abbrev nBuf : Space → Nat
  | .hbm => 9
  | .vmem => 18
  | .smem => 1
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S4x256x256, .f32⟩
  | .hbm, ⟨4, _⟩ => ⟨S4x256x256, .f32⟩
  | .hbm, ⟨5, _⟩ => ⟨S4x512x256, .f32⟩
  | .hbm, ⟨6, _⟩ => ⟨S4x512x256, .f32⟩
  | .hbm, ⟨7, _⟩ => ⟨S4x512x256, .f32⟩
  | .hbm, ⟨8, _⟩ => ⟨S4x512x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .smem, ⟨0, _⟩ => ⟨S1, .i32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamwBrSbReferenceIdeal.lean ====
abbrev S4x512x256 : Shape := ⟨3, ![4, 512, 256]⟩
abbrev S4x256x256 : Shape := ⟨3, ![4, 256, 256]⟩
abbrev S1 : Shape := ⟨1, ![1]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S4x256x256, .f32⟩
  | .hbm, ⟨4, _⟩ => ⟨S4x256x256, .f32⟩
  | .hbm, ⟨5, _⟩ => ⟨S1, .i32⟩
  | .hbm, ⟨6, _⟩ => ⟨S_, .i32⟩
  | .hbm, ⟨7, _⟩ => ⟨S1, .i32⟩
  | .hbm, ⟨8, _⟩ => ⟨S1, .i1⟩
  | .hbm, ⟨9, _⟩ => ⟨S4x256x256, .i1⟩
  | .hbm, ⟨10, _⟩ => ⟨S4x256x256, .f32⟩
  | .hbm, ⟨11, _⟩ => ⟨S_, .i32⟩
  | .hbm, ⟨12, _⟩ => ⟨S1, .i32⟩
  | .hbm, ⟨13, _⟩ => ⟨S1, .i1⟩
  | .hbm, ⟨14, _⟩ => ⟨S4x256x256, .i1⟩
  | .hbm, ⟨15, _⟩ => ⟨S4x256x256, .f32⟩
  | .hbm, ⟨16, _⟩ => ⟨S4x512x256, .f32⟩
  | .hbm, ⟨17, _⟩ => ⟨S_, .f32⟩
  | .hbm, ⟨18, _⟩ => ⟨S4x512x256, .f32⟩
  | .hbm, ⟨19, _⟩ => ⟨S4x512x256, .f32⟩
  | .hbm, ⟨20, _⟩ => ⟨S_, .f32⟩
  | .hbm, ⟨21, _⟩ => ⟨S4x512x256, .f32⟩
  | .hbm, ⟨22, _⟩ => ⟨S4x512x256, .f32⟩
  | .hbm, ⟨23, _⟩ => ⟨S4x512x256, .f32⟩
  | .hbm, ⟨24, _⟩ => ⟨S_, .f32⟩
  | .hbm, ⟨25, _⟩ => ⟨S4x512x256, .f32⟩
  | .hbm, ⟨26, _⟩ => ⟨S4x512x256, .f32⟩
  | .hbm, ⟨27, _⟩ => ⟨S4x512x256, .f32⟩
  | .hbm, ⟨28, _⟩ => ⟨S_, .f32⟩
  | .hbm, ⟨29, _⟩ => ⟨S4x512x256, .f32⟩
  | .hbm, ⟨30, _⟩ => ⟨S4x512x256, .f32⟩
  | .hbm, ⟨31, _⟩ => ⟨S4x512x256, .f32⟩
  | .hbm, ⟨32, _⟩ => ⟨S_, .f32⟩
  | .hbm, ⟨33, _⟩ => ⟨S4x512x256, .f32⟩
  | .hbm, ⟨34, _⟩ => ⟨S4x512x256, .f32⟩
  | .hbm, ⟨35, _⟩ => ⟨S_, .f32⟩
  | .hbm, ⟨36, _⟩ => ⟨S4x512x256, .f32⟩
  | .hbm, ⟨37, _⟩ => ⟨S4x512x256, .f32⟩
  | .hbm, ⟨38, _⟩ => ⟨S4x512x256, .f32⟩
  | .hbm, ⟨39, _⟩ => ⟨S_, .f32⟩
  | .hbm, ⟨40, _⟩ => ⟨S4x512x256, .f32⟩
  | .hbm, ⟨41, _⟩ => ⟨S4x512x256, .f32⟩
  | .hbm, ⟨42, _⟩ => ⟨S4x512x256, .f32⟩
  | .hbm, ⟨43, _⟩ => ⟨S_, .f32⟩
  | .hbm, ⟨44, _⟩ => ⟨S4x512x256, .f32⟩
  | .hbm, ⟨45, _⟩ => ⟨S4x512x256, .f32⟩
  | .hbm, ⟨46, _⟩ => ⟨S4x512x256, .f32⟩
  | .hbm, ⟨47, _⟩ => ⟨S_, .f32⟩
  | .hbm, ⟨48, _⟩ => ⟨S4x512x256, .f32⟩
  | .hbm, ⟨49, _⟩ => ⟨S4x512x256, .f32⟩
  | _, _ => ⟨S4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩

abbrev nD : Nat := 1
abbrev τ : Topo := Topo.v7x

variable {F : FTy → Type} [FloatOps F]
-- ==== AdamwBrPool.lean ====
abbrev S4x256x256 : Shape := ⟨3, ![4, 256, 256]⟩
abbrev S4x128x256 : Shape := ⟨3, ![4, 128, 256]⟩
abbrev S1 : Shape := ⟨1, ![1]⟩
abbrev S1x128x256 : Shape := ⟨3, ![1, 128, 256]⟩
abbrev S128x256 : Shape := ⟨2, ![128, 256]⟩

abbrev nBuf : Space → Nat
  | .hbm => 9
  | .vmem => 18
  | .smem => 1
  | _ => 0

abbrev bufTy : (tb : Table) → Fin (tcTables nBuf tb) → BufTy
  | .hbm, ⟨0, _⟩ => ⟨S4x256x256, .f32⟩
  | .hbm, ⟨1, _⟩ => ⟨S4x256x256, .f32⟩
  | .hbm, ⟨2, _⟩ => ⟨S4x256x256, .f32⟩
  | .hbm, ⟨3, _⟩ => ⟨S4x128x256, .f32⟩
  | .hbm, ⟨4, _⟩ => ⟨S4x128x256, .f32⟩
  | .hbm, ⟨5, _⟩ => ⟨S4x256x256, .f32⟩
  | .hbm, ⟨6, _⟩ => ⟨S4x256x256, .f32⟩
  | .hbm, ⟨7, _⟩ => ⟨S4x256x256, .f32⟩
  | .hbm, ⟨8, _⟩ => ⟨S4x256x256, .f32⟩
  | .local _ .vmem, ⟨0, _⟩ => ⟨S1x128x256, .f32⟩
  | .local _ .vmem, ⟨1, _⟩ => ⟨S1x128x256, .f32⟩
  | .local _ .vmem, ⟨2, _⟩ => ⟨S1x128x256, .f32⟩
  | .local _ .vmem, ⟨3, _⟩ => ⟨S1x128x256, .f32⟩
  | .local _ .vmem, ⟨4, _⟩ => ⟨S1x128x256, .f32⟩
  | .local _ .vmem, ⟨5, _⟩ => ⟨S1x128x256, .f32⟩
  | .local _ .vmem, ⟨6, _⟩ => ⟨S1x128x256, .f32⟩
  | .local _ .vmem, ⟨7, _⟩ => ⟨S1x128x256, .f32⟩
  | .local _ .vmem, ⟨8, _⟩ => ⟨S1x128x256, .f32⟩
  | .local _ .vmem, ⟨9, _⟩ => ⟨S1x128x256, .f32⟩
  | .local _ .vmem, ⟨10, _⟩ => ⟨S1x128x256, .f32⟩
  | .local _ .vmem, ⟨11, _⟩ => ⟨S1x128x256, .f32⟩
  | .local _ .vmem, ⟨12, _⟩ => ⟨S1x128x256, .f32⟩
  | .local _ .vmem, ⟨13, _⟩ => ⟨S1x128x256, .f32⟩
  | .local _ .vmem, ⟨14, _⟩ => ⟨S1x128x256, .f32⟩
  | .local _ .vmem, ⟨15, _⟩ => ⟨S1x128x256, .f32⟩
  | .local _ .vmem, ⟨16, _⟩ => ⟨S1x128x256, .f32⟩
  | .local _ .vmem, ⟨17, _⟩ => ⟨S1x128x256, .f32⟩
  | .local _ .smem, ⟨0, _⟩ => ⟨S1, .i32⟩
  | _, _ => ⟨S4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamwBrPoolReferenceIdeal.lean ====
abbrev S4x256x256 : Shape := ⟨3, ![4, 256, 256]⟩
abbrev S4x128x256 : Shape := ⟨3, ![4, 128, 256]⟩
abbrev S1 : Shape := ⟨1, ![1]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S4x256x256, .f32⟩
  | .hbm, ⟨1, _⟩ => ⟨S4x256x256, .f32⟩
  | .hbm, ⟨2, _⟩ => ⟨S4x256x256, .f32⟩
  | .hbm, ⟨3, _⟩ => ⟨S4x128x256, .f32⟩
  | .hbm, ⟨4, _⟩ => ⟨S4x128x256, .f32⟩
  | .hbm, ⟨5, _⟩ => ⟨S1, .i32⟩
  | .hbm, ⟨6, _⟩ => ⟨S_, .i32⟩
  | .hbm, ⟨7, _⟩ => ⟨S1, .i32⟩
  | .hbm, ⟨8, _⟩ => ⟨S1, .i1⟩
  | .hbm, ⟨9, _⟩ => ⟨S4x128x256, .i1⟩
  | .hbm, ⟨10, _⟩ => ⟨S4x128x256, .f32⟩
  | .hbm, ⟨11, _⟩ => ⟨S_, .i32⟩
  | .hbm, ⟨12, _⟩ => ⟨S1, .i32⟩
  | .hbm, ⟨13, _⟩ => ⟨S1, .i1⟩
  | .hbm, ⟨14, _⟩ => ⟨S4x128x256, .i1⟩
  | .hbm, ⟨15, _⟩ => ⟨S4x128x256, .f32⟩
  | .hbm, ⟨16, _⟩ => ⟨S4x256x256, .f32⟩
  | .hbm, ⟨17, _⟩ => ⟨S_, .f32⟩
  | .hbm, ⟨18, _⟩ => ⟨S4x256x256, .f32⟩
  | .hbm, ⟨19, _⟩ => ⟨S4x256x256, .f32⟩
  | .hbm, ⟨20, _⟩ => ⟨S_, .f32⟩
  | .hbm, ⟨21, _⟩ => ⟨S4x256x256, .f32⟩
  | .hbm, ⟨22, _⟩ => ⟨S4x256x256, .f32⟩
  | .hbm, ⟨23, _⟩ => ⟨S4x256x256, .f32⟩
  | .hbm, ⟨24, _⟩ => ⟨S_, .f32⟩
  | .hbm, ⟨25, _⟩ => ⟨S4x256x256, .f32⟩
  | .hbm, ⟨26, _⟩ => ⟨S4x256x256, .f32⟩
  | .hbm, ⟨27, _⟩ => ⟨S4x256x256, .f32⟩
  | .hbm, ⟨28, _⟩ => ⟨S_, .f32⟩
  | .hbm, ⟨29, _⟩ => ⟨S4x256x256, .f32⟩
  | .hbm, ⟨30, _⟩ => ⟨S4x256x256, .f32⟩
  | .hbm, ⟨31, _⟩ => ⟨S4x256x256, .f32⟩
  | .hbm, ⟨32, _⟩ => ⟨S_, .f32⟩
  | .hbm, ⟨33, _⟩ => ⟨S4x256x256, .f32⟩
  | .hbm, ⟨34, _⟩ => ⟨S4x256x256, .f32⟩
  | .hbm, ⟨35, _⟩ => ⟨S_, .f32⟩
  | .hbm, ⟨36, _⟩ => ⟨S4x256x256, .f32⟩
  | .hbm, ⟨37, _⟩ => ⟨S4x256x256, .f32⟩
  | .hbm, ⟨38, _⟩ => ⟨S4x256x256, .f32⟩
  | .hbm, ⟨39, _⟩ => ⟨S_, .f32⟩
  | .hbm, ⟨40, _⟩ => ⟨S4x256x256, .f32⟩
  | .hbm, ⟨41, _⟩ => ⟨S4x256x256, .f32⟩
  | .hbm, ⟨42, _⟩ => ⟨S4x256x256, .f32⟩
  | .hbm, ⟨43, _⟩ => ⟨S_, .f32⟩
  | .hbm, ⟨44, _⟩ => ⟨S4x256x256, .f32⟩
  | .hbm, ⟨45, _⟩ => ⟨S4x256x256, .f32⟩
  | .hbm, ⟨46, _⟩ => ⟨S4x256x256, .f32⟩
  | .hbm, ⟨47, _⟩ => ⟨S_, .f32⟩
  | .hbm, ⟨48, _⟩ => ⟨S4x256x256, .f32⟩
  | .hbm, ⟨49, _⟩ => ⟨S4x256x256, .f32⟩
  | _, _ => ⟨S4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩

abbrev nD : Nat := 1
abbrev τ : Topo := Topo.v7x

variable {F : FTy → Type} [FloatOps F]
-- ==== AdamwOut.lean ====
abbrev S4x256x1024 : Shape := ⟨3, ![4, 256, 1024]⟩
abbrev S4x128x1024 : Shape := ⟨3, ![4, 128, 1024]⟩
abbrev S1 : Shape := ⟨1, ![1]⟩
abbrev S1x128x1024 : Shape := ⟨3, ![1, 128, 1024]⟩
abbrev S128x1024 : Shape := ⟨2, ![128, 1024]⟩

abbrev nBuf : Space → Nat
  | .hbm => 9
  | .vmem => 18
  | .smem => 1
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x128x1024, .f32⟩
  | .hbm, ⟨4, _⟩ => ⟨S4x128x1024, .f32⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S4x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .smem, ⟨0, _⟩ => ⟨S1, .i32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamwOutReferenceIdeal.lean ====
abbrev S4x256x1024 : Shape := ⟨3, ![4, 256, 1024]⟩
abbrev S4x128x1024 : Shape := ⟨3, ![4, 128, 1024]⟩
abbrev S1 : Shape := ⟨1, ![1]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x128x1024, .f32⟩
  | .hbm, ⟨4, _⟩ => ⟨S4x128x1024, .f32⟩
  | .hbm, ⟨5, _⟩ => ⟨S1, .i32⟩
  | .hbm, ⟨6, _⟩ => ⟨S_, .i32⟩
  | .hbm, ⟨7, _⟩ => ⟨S1, .i32⟩
  | .hbm, ⟨8, _⟩ => ⟨S1, .i1⟩
  | .hbm, ⟨9, _⟩ => ⟨S4x128x1024, .i1⟩
  | .hbm, ⟨10, _⟩ => ⟨S4x128x1024, .f32⟩
  | .hbm, ⟨11, _⟩ => ⟨S_, .i32⟩
  | .hbm, ⟨12, _⟩ => ⟨S1, .i32⟩
  | .hbm, ⟨13, _⟩ => ⟨S1, .i1⟩
  | .hbm, ⟨14, _⟩ => ⟨S4x128x1024, .i1⟩
  | .hbm, ⟨15, _⟩ => ⟨S4x128x1024, .f32⟩
  | .hbm, ⟨16, _⟩ => ⟨S4x256x1024, .f32⟩
  | .hbm, ⟨17, _⟩ => ⟨S_, .f32⟩
  | .hbm, ⟨18, _⟩ => ⟨S4x256x1024, .f32⟩
  | .hbm, ⟨19, _⟩ => ⟨S4x256x1024, .f32⟩
  | .hbm, ⟨20, _⟩ => ⟨S_, .f32⟩
  | .hbm, ⟨21, _⟩ => ⟨S4x256x1024, .f32⟩
  | .hbm, ⟨22, _⟩ => ⟨S4x256x1024, .f32⟩
  | .hbm, ⟨23, _⟩ => ⟨S4x256x1024, .f32⟩
  | .hbm, ⟨24, _⟩ => ⟨S_, .f32⟩
  | .hbm, ⟨25, _⟩ => ⟨S4x256x1024, .f32⟩
  | .hbm, ⟨26, _⟩ => ⟨S4x256x1024, .f32⟩
  | .hbm, ⟨27, _⟩ => ⟨S4x256x1024, .f32⟩
  | .hbm, ⟨28, _⟩ => ⟨S_, .f32⟩
  | .hbm, ⟨29, _⟩ => ⟨S4x256x1024, .f32⟩
  | .hbm, ⟨30, _⟩ => ⟨S4x256x1024, .f32⟩
  | .hbm, ⟨31, _⟩ => ⟨S4x256x1024, .f32⟩
  | .hbm, ⟨32, _⟩ => ⟨S_, .f32⟩
  | .hbm, ⟨33, _⟩ => ⟨S4x256x1024, .f32⟩
  | .hbm, ⟨34, _⟩ => ⟨S4x256x1024, .f32⟩
  | .hbm, ⟨35, _⟩ => ⟨S_, .f32⟩
  | .hbm, ⟨36, _⟩ => ⟨S4x256x1024, .f32⟩
  | .hbm, ⟨37, _⟩ => ⟨S4x256x1024, .f32⟩
  | .hbm, ⟨38, _⟩ => ⟨S4x256x1024, .f32⟩
  | .hbm, ⟨39, _⟩ => ⟨S_, .f32⟩
  | .hbm, ⟨40, _⟩ => ⟨S4x256x1024, .f32⟩
  | .hbm, ⟨41, _⟩ => ⟨S4x256x1024, .f32⟩
  | .hbm, ⟨42, _⟩ => ⟨S4x256x1024, .f32⟩
  | .hbm, ⟨43, _⟩ => ⟨S_, .f32⟩
  | .hbm, ⟨44, _⟩ => ⟨S4x256x1024, .f32⟩
  | .hbm, ⟨45, _⟩ => ⟨S4x256x1024, .f32⟩
  | .hbm, ⟨46, _⟩ => ⟨S4x256x1024, .f32⟩
  | .hbm, ⟨47, _⟩ => ⟨S_, .f32⟩
  | .hbm, ⟨48, _⟩ => ⟨S4x256x1024, .f32⟩
  | .hbm, ⟨49, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩

abbrev nD : Nat := 1
abbrev τ : Topo := Topo.v7x

variable {F : FTy → Type} [FloatOps F]
-- ==== AdamwFf.lean ====
abbrev S4x1024x1024 : Shape := ⟨3, ![4, 1024, 1024]⟩
abbrev S4x512x1024 : Shape := ⟨3, ![4, 512, 1024]⟩
abbrev S1 : Shape := ⟨1, ![1]⟩
abbrev S1x256x1024 : Shape := ⟨3, ![1, 256, 1024]⟩
abbrev S256x1024 : Shape := ⟨2, ![256, 1024]⟩

abbrev nBuf : Space → Nat
  | .hbm => 9
  | .vmem => 18
  | .smem => 1
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S4x512x1024, .f32⟩
  | .hbm, ⟨4, _⟩ => ⟨S4x512x1024, .f32⟩
  | .hbm, ⟨5, _⟩ => ⟨S4x1024x1024, .f32⟩
  | .hbm, ⟨6, _⟩ => ⟨S4x1024x1024, .f32⟩
  | .hbm, ⟨7, _⟩ => ⟨S4x1024x1024, .f32⟩
  | .hbm, ⟨8, _⟩ => ⟨S4x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .smem, ⟨0, _⟩ => ⟨S1, .i32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![arg0.toNat, v9.toNat, c0_i32_3.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![arg0.toNat, v9.toNat, c0_i32_3.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamwFfReferenceIdeal.lean ====
abbrev S4x1024x1024 : Shape := ⟨3, ![4, 1024, 1024]⟩
abbrev S4x512x1024 : Shape := ⟨3, ![4, 512, 1024]⟩
abbrev S1 : Shape := ⟨1, ![1]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S4x512x1024, .f32⟩
  | .hbm, ⟨4, _⟩ => ⟨S4x512x1024, .f32⟩
  | .hbm, ⟨5, _⟩ => ⟨S1, .i32⟩
  | .hbm, ⟨6, _⟩ => ⟨S_, .i32⟩
  | .hbm, ⟨7, _⟩ => ⟨S1, .i32⟩
  | .hbm, ⟨8, _⟩ => ⟨S1, .i1⟩
  | .hbm, ⟨9, _⟩ => ⟨S4x512x1024, .i1⟩
  | .hbm, ⟨10, _⟩ => ⟨S4x512x1024, .f32⟩
  | .hbm, ⟨11, _⟩ => ⟨S_, .i32⟩
  | .hbm, ⟨12, _⟩ => ⟨S1, .i32⟩
  | .hbm, ⟨13, _⟩ => ⟨S1, .i1⟩
  | .hbm, ⟨14, _⟩ => ⟨S4x512x1024, .i1⟩
  | .hbm, ⟨15, _⟩ => ⟨S4x512x1024, .f32⟩
  | .hbm, ⟨16, _⟩ => ⟨S4x1024x1024, .f32⟩
  | .hbm, ⟨17, _⟩ => ⟨S_, .f32⟩
  | .hbm, ⟨18, _⟩ => ⟨S4x1024x1024, .f32⟩
  | .hbm, ⟨19, _⟩ => ⟨S4x1024x1024, .f32⟩
  | .hbm, ⟨20, _⟩ => ⟨S_, .f32⟩
  | .hbm, ⟨21, _⟩ => ⟨S4x1024x1024, .f32⟩
  | .hbm, ⟨22, _⟩ => ⟨S4x1024x1024, .f32⟩
  | .hbm, ⟨23, _⟩ => ⟨S4x1024x1024, .f32⟩
  | .hbm, ⟨24, _⟩ => ⟨S_, .f32⟩
  | .hbm, ⟨25, _⟩ => ⟨S4x1024x1024, .f32⟩
  | .hbm, ⟨26, _⟩ => ⟨S4x1024x1024, .f32⟩
  | .hbm, ⟨27, _⟩ => ⟨S4x1024x1024, .f32⟩
  | .hbm, ⟨28, _⟩ => ⟨S_, .f32⟩
  | .hbm, ⟨29, _⟩ => ⟨S4x1024x1024, .f32⟩
  | .hbm, ⟨30, _⟩ => ⟨S4x1024x1024, .f32⟩
  | .hbm, ⟨31, _⟩ => ⟨S4x1024x1024, .f32⟩
  | .hbm, ⟨32, _⟩ => ⟨S_, .f32⟩
  | .hbm, ⟨33, _⟩ => ⟨S4x1024x1024, .f32⟩
  | .hbm, ⟨34, _⟩ => ⟨S4x1024x1024, .f32⟩
  | .hbm, ⟨35, _⟩ => ⟨S_, .f32⟩
  | .hbm, ⟨36, _⟩ => ⟨S4x1024x1024, .f32⟩
  | .hbm, ⟨37, _⟩ => ⟨S4x1024x1024, .f32⟩
  | .hbm, ⟨38, _⟩ => ⟨S4x1024x1024, .f32⟩
  | .hbm, ⟨39, _⟩ => ⟨S_, .f32⟩
  | .hbm, ⟨40, _⟩ => ⟨S4x1024x1024, .f32⟩
  | .hbm, ⟨41, _⟩ => ⟨S4x1024x1024, .f32⟩
  | .hbm, ⟨42, _⟩ => ⟨S4x1024x1024, .f32⟩
  | .hbm, ⟨43, _⟩ => ⟨S_, .f32⟩
  | .hbm, ⟨44, _⟩ => ⟨S4x1024x1024, .f32⟩
  | .hbm, ⟨45, _⟩ => ⟨S4x1024x1024, .f32⟩
  | .hbm, ⟨46, _⟩ => ⟨S4x1024x1024, .f32⟩
  | .hbm, ⟨47, _⟩ => ⟨S_, .f32⟩
  | .hbm, ⟨48, _⟩ => ⟨S4x1024x1024, .f32⟩
  | .hbm, ⟨49, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩

abbrev nD : Nat := 1
abbrev τ : Topo := Topo.v7x

variable {F : FTy → Type} [FloatOps F]
-- ==== Proof.Words.lean ====
/- The words the kernel's control computes: the first key tile of a query tile's walk, clipped between zero and the last single tile
   whatever the number of skipped tiles is; the trip counts and the offsets that follow from it, in closed form. -/
module

public import proofs.«01_k».proof.Proof.Gen.KernelIdeal.Skeleton
public import Idealize.ShloMosaic.Lib.Affine
public import Mathlib.Tactic.Ring
public import Mathlib.Tactic.NormNum

@[expose] public section

noncomputable section

namespace Cert.KernelIdeal.Grad

open Cert.KernelIdeal Cert.KernelIdeal.Gen
open Idealize.ShloMosaic Idealize.ShloMosaic.Affine

/-- The number of key tiles a query tile walks one by one, before the last two. -/
def singles (i : grid0.Coords) : Nat := (i 1).val - 1

/-- The first tile walked, out of the word that counts the skipped ones. -/
def start (i : grid0.Coords) (w : BitVec 32) : Nat := min (singles i) w.toInt.toNat

theorem start_le (i : grid0.Coords) (w : BitVec 32) : start i w ≤ singles i := Nat.min_le_left _ _

theorem start_zero (i : grid0.Coords) : start i 0#32 = 0 := by
  unfold start; simp

theorem row_lt (i : grid0.Coords) : (i 1).val < 32 := (i 1).isLt

/-- The last single tile, as the kernel computes it. -/
theorem last_word (i : grid0.Coords) :
    IsInt (Scalar.maxsi (Scalar.subi (BitVec.ofNat 32 (i 1).val) 1#32) 0#32) (singles i : Int) := by
  have h := row_lt i
  refine Affine.maxsi (ea := (i 1).val - 1) (eb := 0) (Affine.subi (ea := (i 1).val) (eb := 1) (Affine.ofNat _ ⟨rfl, by omega⟩) (Affine.ofNat 1 ⟨rfl, by omega⟩) ⟨rfl, by omega, by omega⟩)
    (Affine.ofNat 0 ⟨rfl, by omega⟩) ?_
  unfold singles; omega

/-- The first tile, as the kernel computes it. -/
theorem first_word (i : grid0.Coords) (w : BitVec 32) :
    IsInt (Scalar.minsi (Scalar.maxsi (Scalar.subi (BitVec.ofNat 32 (i 1).val) 1#32) 0#32) (Scalar.maxsi 0#32 w)) (start i w : Int) := by
  refine Affine.minsi (last_word i) (Affine.maxsi (ea := 0) (eb := w.toInt) (Affine.ofNat 0 ⟨rfl, by omega⟩) (Affine.word w) rfl) ?_
  unfold start; omega

theorem toInt_of {x : BitVec 32} {e : Int} (h : IsInt x e) : x.toInt = e := by unfold IsInt at h; exact h

/-- Where the single tiles end. -/
theorem last_word' (i : grid0.Coords) (w : BitVec 32) :
    IsInt (k0_t1_loop i w).ub (singles i : Int) := by
  have h := row_lt i
  have hs := start_le i w
  have hv : IsInt (Scalar.subi (Scalar.maxsi (Scalar.subi (BitVec.ofNat 32 (i 1).val) 1#32) 0#32)
      (Scalar.minsi (Scalar.maxsi (Scalar.subi (BitVec.ofNat 32 (i 1).val) 1#32) 0#32) (Scalar.maxsi 0#32 w))) ((singles i : Int) - start i w) :=
    Affine.subi (last_word i) (first_word i w) ⟨rfl, by omega, by unfold singles at *; omega⟩
  have hone : IsInt (1#32) 1 := Affine.ofNat 1 ⟨rfl, by omega⟩
  have hd := Affine.divsi_one hv hone ⟨rfl, rfl⟩
  have hm := Affine.muli hd hone (e := (singles i : Int) - start i w) ⟨by omega, by omega, by unfold singles at *; omega⟩
  exact Affine.addi (first_word i w) hm ⟨by omega, by omega, by unfold singles; omega⟩

theorem trips_t1 (i : grid0.Coords) (w : BitVec 32) : (k0_t1_loop i w).trips = singles i - start i w := by
  have h1 := toInt_of (last_word' i w)
  have h0 : (k0_t1_loop i w).lb.toInt = start i w := toInt_of (first_word i w)
  have hs := start_le i w
  have h1' : (k0_t1_loop i w).st.toInt = 1 := by rw [show (k0_t1_loop i w).st = 1#32 from rfl]; rfl
  unfold Scf.Loop.trips Scf.trips
  rw [h1, h0, h1']
  omega

theorem ok_t1 (i : grid0.Coords) (w : BitVec 32) : (k0_t1_loop i w).OK := by
  have h0 : (k0_t1_loop i w).lb.toInt = start i w := toInt_of (first_word i w)
  have h1' : (k0_t1_loop i w).st.toInt = 1 := by rw [show (k0_t1_loop i w).st = 1#32 from rfl]; rfl
  have ht : Scf.trips (k0_t1_loop i w).lb (k0_t1_loop i w).ub (k0_t1_loop i w).st = singles i - start i w := trips_t1 i w
  have hs := start_le i w
  have h := row_lt i
  refine ⟨by rw [h1']; decide, ?_⟩
  rw [h0, h1', ht]
  rw [show ((2 : Int) ^ (32 - 1)) = 2147483648 from by norm_num]
  unfold singles at *
  omega

/-- The tile of trip `k`. -/
theorem tile_word (i : grid0.Coords) (w : BitVec 32) (k : Nat) (hk : k < 32) :
    IsInt (Scf.iv (Scalar.minsi (Scalar.maxsi (Scalar.subi (BitVec.ofNat 32 (i 1).val) 1#32) 0#32) (Scalar.maxsi 0#32 w)) 1#32 k)
      ((start i w : Int) + k) := by
  have h := row_lt i
  have hs := start_le i w
  have hone : IsInt (1#32) 1 := Affine.ofNat 1 ⟨rfl, by omega⟩
  exact Affine.addi (first_word i w) (Affine.muli (Affine.ofNat k ⟨rfl, by omega⟩) hone (e := (k : Int)) ⟨by omega, by omega, by omega⟩)
    ⟨rfl, by omega, by unfold singles at *; omega⟩

theorem mult1_word (i : grid0.Coords) (w : BitVec 32) (k : Fin (k0_t1_loop i w).trips) :
    IsInt (k0_mult1 i w k) (256 * ((start i w : Int) + k.val)) := by
  have h := row_lt i
  have hk : k.val < singles i - start i w := trips_t1 i w ▸ k.isLt
  exact Affine.muli (tile_word i w k.val (by unfold singles at *; omega)) (Affine.ofNat 256 ⟨rfl, by omega⟩) ⟨by push_cast; ring, by omega, by unfold singles at *; omega⟩

theorem off1_eq (i : grid0.Coords) (w : BitVec 32) (k : Fin (k0_t1_loop i w).trips) :
    k0_off1 i w k = ![256 * (start i w + k.val), 0] := by
  have h : ((k0_mult1 i w k).toNat : Int) = 256 * ((start i w : Int) + k.val) := toNat_of (mult1_word i w k) (by omega)
  have h2 : (k0_mult1 i w k).toNat = 256 * (start i w + k.val) := by omega
  have h3 : k0_off1 i w k = ![(k0_mult1 i w k).toNat, 0] := rfl
  rw [h3, h2]

theorem trips_t2 (i : grid0.Coords) (w : BitVec 32) : (k0_t2_loop i w).trips = 0 := by
  have h1 : (k0_t2_loop i w).lb.toInt = singles i := toInt_of (last_word' i w)
  have h := row_lt i
  have hs := start_le i w
  have hv : IsInt (Scalar.subi (Scalar.maxsi (Scalar.subi (BitVec.ofNat 32 (i 1).val) 1#32) 0#32)
      (Scalar.minsi (Scalar.maxsi (Scalar.subi (BitVec.ofNat 32 (i 1).val) 1#32) 0#32) (Scalar.maxsi 0#32 w))) ((singles i : Int) - start i w) :=
    Affine.subi (last_word i) (first_word i w) ⟨rfl, by omega, by unfold singles at *; omega⟩
  have h0 : (k0_t2_loop i w).ub.toInt = singles i :=
    toInt_of (Affine.addi (first_word i w) hv ⟨by omega, by omega, by unfold singles at *; omega⟩)
  have h1' : (k0_t2_loop i w).st.toInt = 1 := by rw [show (k0_t2_loop i w).st = 1#32 from rfl]; rfl
  unfold Scf.Loop.trips Scf.trips
  rw [h1, h0, h1']
  omega

theorem ok_t2 (i : grid0.Coords) (w : BitVec 32) : (k0_t2_loop i w).OK := by
  have h0 : (k0_t2_loop i w).lb.toInt = singles i := toInt_of (last_word' i w)
  have h1' : (k0_t2_loop i w).st.toInt = 1 := by rw [show (k0_t2_loop i w).st = 1#32 from rfl]; rfl
  have ht : Scf.trips (k0_t2_loop i w).lb (k0_t2_loop i w).ub (k0_t2_loop i w).st = 0 := trips_t2 i w
  have h := row_lt i
  refine ⟨by rw [h1']; decide, ?_⟩
  rw [h0, h1', ht]
  rw [show ((2 : Int) ^ (32 - 1)) = 2147483648 from by norm_num]
  unfold singles at *
  omega

/-- The side condition the body assumes holds whatever the word is. -/
theorem chk1_all (i : grid0.Coords) (w : BitVec 32) : k0_chk1 i w := by
  have h := row_lt i
  have hs := start_le i w
  refine ⟨ok_t1 i w, fun k => ?_, fun k a => ?_, ok_t2 i w, fun k => absurd (trips_t2 i w ▸ k.pos) (Nat.lt_irrefl 0),
    fun k => absurd (trips_t2 i w ▸ k.pos) (Nat.lt_irrefl 0)⟩
  · have hw : ((k0_mult1 i w k).toNat : Int) = 256 * ((start i w : Int) + k.val) := toNat_of (mult1_word i w k) (by omega)
    exact ⟨start i w + k.val, by omega⟩
  · have hk : k.val < singles i - start i w := trips_t1 i w ▸ k.isLt
    rw [off1_eq]
    unfold singles at *
    match a with
    | ⟨0, _⟩ => show 256 * (start i w + k.val) + 256 ≤ 8192; omega
    | ⟨1, _⟩ => show 0 + 128 ≤ 128; omega

/-! ## The last two tiles -/

theorem words32 : ∀ n : Fin 32, (Scalar.indexCast (Scalar.muli (BitVec.ofNat 32 n.val) 256#32)).toNat = 256 * n.val
    ∧ (n.val ≠ 0 → (Scalar.indexCast (Scalar.muli (Scalar.subi (BitVec.ofNat 32 n.val) 1#32) 256#32)).toNat = 256 * (n.val - 1))
    ∧ ((Scalar.cmpi .ne (Scalar.extui (Scalar.cmpi .sgt (BitVec.ofNat 32 n.val) 0#32)) 0#32 = 1#1) ↔ n.val ≠ 0)
    ∧ ((Scalar.cmpi .ne (Scalar.extui (Scalar.cmpi .eq (BitVec.ofNat 32 n.val) 31#32)) 0#32 = 1#1) ↔ n.val = 31)
    ∧ ((Scalar.cmpi .ne (Scalar.extui (Scalar.cmpi .eq (BitVec.ofNat 32 n.val) 0#32)) 0#32 = 1#1) ↔ n.val = 0) := by
  decide +kernel

theorem off3_eq (i : grid0.Coords) (h : (i 1).val ≠ 0) : k0_off3 i = ![256 * ((i 1).val - 1), 0] := by
  have h3 : k0_off3 i = ![(Scalar.indexCast (Scalar.muli (Scalar.subi (BitVec.ofNat 32 (i 1).val) 1#32) 256#32)).toNat, 0] := rfl
  rw [h3, (words32 ⟨(i 1).val, row_lt i⟩).2.1 h]

theorem off4_eq (i : grid0.Coords) : k0_off4 i = ![256 * (i 1).val, 0] := by
  have h3 : k0_off4 i = ![(Scalar.indexCast (Scalar.muli (BitVec.ofNat 32 (i 1).val) 256#32)).toNat, 0] := rfl
  rw [h3, (words32 ⟨(i 1).val, row_lt i⟩).1]

theorem off5_eq (i : grid0.Coords) : k0_off5 i = ![256 * (i 1).val, 0] := off4_eq i

theorem cond2_iff (i : grid0.Coords) : k0_cond2 i = 1#1 ↔ (i 1).val ≠ 0 := (words32 ⟨(i 1).val, row_lt i⟩).2.2.1
theorem cond3_iff (i : grid0.Coords) : k0_cond3 i = 1#1 ↔ (i 1).val = 31 := (words32 ⟨(i 1).val, row_lt i⟩).2.2.2.1
theorem cond1_iff (i : grid0.Coords) :
    Scalar.cmpi .ne (Scalar.extui (Scalar.cmpi .eq (BitVec.ofNat 32 (i 1).val) 0#32)) 0#32 = 1#1 ↔ (i 1).val = 0 :=
  (words32 ⟨(i 1).val, row_lt i⟩).2.2.2.2

end Cert.KernelIdeal.Grad

/-- The condition of the words read, at every word. -/
theorem Cert.KernelIdeal.Gen.k0_chk1_all (i : Cert.KernelIdeal.grid0.Coords) (v63 : BitVec 32) : Cert.KernelIdeal.k0_chk1 i v63 :=
  Cert.KernelIdeal.Grad.chk1_all i v63

end
-- ==== Proof.Tiles.lean ====
/- One tile's work, as functions of its blocks: what the kernel computes for 256 queries of a head pair against 256 keys, over any
   floats. The kernel's values, spelt operation by operation in its printed form, are these. -/
module

public import proofs.«01_k».proof.Proof.Words

@[expose] public section

set_option maxRecDepth 65536

noncomputable section

namespace Cert.KernelIdeal.Grad

open Cert.KernelIdeal Cert.KernelIdeal.Gen
open Idealize.ShloMosaic

variable {F : FTy → Type} [FloatOps F]

/-- What a query tile brings along: the strict-triangle mask, the two triangles of ones, and for each of the two heads the scaled queries,
    the cotangents, and the row totals. -/
structure Ctx (F : FTy → Type) [FloatOps F] where
  m : IVec S256x256 1
  u : FVec F S512x256 .bf16
  b : FVec F S512x256 .bf16
  q : Fin 2 → FVec F S256x128 .bf16
  d : Fin 2 → FVec F S256x128 .bf16
  t : Fin 2 → FVec F S256x1 .f32

/-- The value a walk carries: per head the running row sums of the logarithms and of the products, and the query gradient. -/
abbrev Carry (F : FTy → Type) [FloatOps F] :=
  FVec F S256x1 .f32 × FVec F S256x1 .f32 × FVec F S256x128 .f32 × FVec F S256x1 .f32 × FVec F S256x1 .f32 × FVec F S256x128 .f32

abbrev Blk (F : FTy → Type) [FloatOps F] := FVec F S256x256 .f32

def zT (q k : FVec F S256x128 .bf16) : Blk F := matmul dot_S256x128_S256x128_S256x256_1_1_0_0_n_n none q k (constant S256x256 .f32 0x00000000#32)

def l1pT (z : Blk F) : Blk F :=
  log (addf (broadcast S256x256 (Scalar.ofBits .f32 0x3F800000#32)) (exp (subf (broadcast S256x256 (Scalar.ofBits .f32 0x00000000#32)) (absf z))))

def lsT (z : Blk F) : Blk F := subf (minimumf z (broadcast S256x256 (Scalar.ofBits .f32 0x00000000#32))) (l1pT z)

def lnT (z : Blk F) : Blk F :=
  subf (minimumf (subf (broadcast S256x256 (Scalar.ofBits .f32 0x00000000#32)) z) (broadcast S256x256 (Scalar.ofBits .f32 0x00000000#32))) (l1pT z)

/-- On the diagonal tile only the keys before the query count. -/
def keepT (dg : Bool) (m : IVec S256x256 1) (x : Blk F) : Blk F :=
  bif dg then select m x (broadcast S256x256 (Scalar.ofBits .f32 0x00000000#32)) else x

def pairT (x : Blk F) : FVec F S256x512 .bf16 :=
  concatenate S256x512 1 [⟨S256x256, truncf .bf16 x bitsLt_bf16_f32⟩,
    ⟨S256x256, truncf .bf16 (subf x (extf .f32 (truncf .bf16 x bitsLt_bf16_f32) bitsLt_bf16_f32)) bitsLt_bf16_f32⟩] concatenates_S256x256_S256x256_S256x512_d1

def sumsT (u : FVec F S512x256 .bf16) (x : Blk F) : Blk F :=
  matmul dot_S256x512_S512x256_S256x256_1_0_0_1_n_n none (pairT x) u (constant S256x256 .f32 0x00000000#32)

def rowT (x : Blk F) : FVec F S256x1 .f32 :=
  shapeCast S256x1 (multiReduction .add [1] S256 x 0x00000000#32 reduces_S256x256_S256 (.inl rfl) rfl) shapeCasts_S256_S256x1

def LT (dg : Bool) (C : Ctx F) (h : Fin 2) (k : FVec F S256x128 .bf16) : Blk F := keepT dg C.m (lnT (zT (C.q h) k))

def aT (dg : Bool) (C : Ctx F) (h : Fin 2) (k : FVec F S256x128 .bf16) (P : FVec F S256x1 .f32) : Blk F :=
  keepT dg C.m (exp (addf (lsT (zT (C.q h) k)) (subf (broadcastTo S256x256 (subf (C.t h) P) broadcasts_S256x1_S256x256) (sumsT C.u (LT dg C h k)))))

def gT (dg : Bool) (C : Ctx F) (h : Fin 2) (k v : FVec F S256x128 .bf16) (P : FVec F S256x1 .f32) : Blk F :=
  mulf (aT dg C h k P) (zT (C.d h) v)

def dzT (dg : Bool) (C : Ctx F) (h : Fin 2) (k v : FVec F S256x128 .bf16) (P G : FVec F S256x1 .f32) : FVec F S256x256 .bf16 :=
  truncf .bf16 (keepT dg C.m (subf (mulf (gT dg C h k v P) (subf (broadcast S256x256 (Scalar.ofBits .f32 0x3F800000#32)) (exp (lsT (zT (C.q h) k)))))
    (mulf (addf (broadcastTo S256x256 G broadcasts_S256x1_S256x256) (sumsT C.b (gT dg C h k v P))) (exp (lsT (zT (C.q h) k)))))) bitsLt_bf16_f32

def PT (dg : Bool) (C : Ctx F) (h : Fin 2) (k : FVec F S256x128 .bf16) (P : FVec F S256x1 .f32) : FVec F S256x1 .f32 := addf P (rowT (LT dg C h k))

def GT (dg : Bool) (C : Ctx F) (h : Fin 2) (k v : FVec F S256x128 .bf16) (P G : FVec F S256x1 .f32) : FVec F S256x1 .f32 := addf G (rowT (gT dg C h k v P))

def QT (dg : Bool) (C : Ctx F) (h : Fin 2) (k v : FVec F S256x128 .bf16) (P G : FVec F S256x1 .f32) (D : FVec F S256x128 .f32) : FVec F S256x128 .f32 :=
  addf D (matmul dot_S256x256_S256x128_S256x128_1_0_0_1_n_n none (dzT dg C h k v P G) k (constant S256x128 .f32 0x00000000#32))

/-- The carried value after a tile. -/
def stepT (dg : Bool) (C : Ctx F) (k v : FVec F S256x128 .bf16) (c : Carry F) : Carry F :=
  (PT dg C 0 k c.1, GT dg C 0 k v c.1 c.2.1, QT dg C 0 k v c.1 c.2.1 c.2.2.1,
    PT dg C 1 k c.2.2.2.1, GT dg C 1 k v c.2.2.2.1 c.2.2.2.2.1, QT dg C 1 k v c.2.2.2.1 c.2.2.2.2.1 c.2.2.2.2.2)

/-- Two heads' products summed over the queries, added to what the rows hold. -/
def overT (x y : FVec F S256x256 .bf16) (p q : FVec F S256x128 .bf16) (old : FVec F S256x128 .f32) : FVec F S256x128 .f32 :=
  addf old (addf (addf (broadcast S256x128 (Scalar.ofBits .f32 0x00000000#32))
    (matmul dot_S256x256_S256x128_S256x128_0_0_1_1_n_n none x p (constant S256x128 .f32 0x00000000#32)))
    (matmul dot_S256x256_S256x128_S256x128_0_0_1_1_n_n none y q (constant S256x128 .f32 0x00000000#32)))

def dkT (dg : Bool) (C : Ctx F) (k v : FVec F S256x128 .bf16) (c : Carry F) (old : FVec F S256x128 .f32) : FVec F S256x128 .f32 :=
  shapeCast S256x128 (overT (dzT dg C 0 k v c.1 c.2.1) (dzT dg C 1 k v c.2.2.2.1 c.2.2.2.2.1) (C.q 0) (C.q 1) old) shapeCasts_S256x128_S256x128

def dvT (dg : Bool) (C : Ctx F) (k : FVec F S256x128 .bf16) (c : Carry F) (old : FVec F S256x128 .f32) : FVec F S256x128 .f32 :=
  shapeCast S256x128 (overT (truncf .bf16 (aT dg C 0 k c.1) bitsLt_bf16_f32) (truncf .bf16 (aT dg C 1 k c.2.2.2.1) bitsLt_bf16_f32) (C.d 0) (C.d 1) old)
    shapeCasts_S256x128_S256x128

end Cert.KernelIdeal.Grad

end
-- ==== Proof.Trip.lean ====
/- One trip of the walk over the single key tiles, run once at a symbolic trip, and the walk's invariant: before trip `k` the carried
   value and the two accumulators are what `k` steps make of them. -/
module

public import proofs.«01_k».proof.Proof.Tiles
public import Idealize.ShloMosaic.Lib.Exec
public import Idealize.ShloMosaic.Lib.Tactic
public import Idealize.ShloMosaic.Lib.Pipeline.Kit
public import Idealize.ShloMosaic.Lib.LoopEntry

@[expose] public section

set_option maxRecDepth 16384
set_option maxHeartbeats 4000000

noncomputable section

namespace Cert.KernelIdeal.Grad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A query tile's context out of the values the body binds before its walk. -/
def ctxOf (v5 : IVec S256x256 1) (v13 v21 : FVec F S512x256 .bf16) (v26 : IVec S1x128 1) (v28 : Vec F S256x128 .bf16) (v34 v38 v39 : FVec F S256x128 .bf16)
    (v40 : IVec S1x128 1) (v47 v50 : Vec F S1x256x128 .f32) : Ctx F where
  m := v5
  u := v13
  b := v21
  q := fun h => match h with | 0 => v34 | 1 => v38
  d := fun h => match h with | 0 => k0_pay135 v28 v39 v40 | 1 => k0_pay136 v26 v28
  t := fun h => match h with | 0 => k0_pay137 v47 | 1 => k0_pay138 v50

/-- Rows `off` of a resident block. -/
abbrev rowsOf {e : EltTy} (a : Memref sig .tc .vmem S8192x128 e) (off : Fin 2 → Nat) (h : ∀ x, off x + S256x128.size x ≤ S8192x128.size x)
    (X : BufTy.Contents (Elt F) a.view.ty) : Vec F S256x128 e :=
  View.readAt (Elt F) a.view (Rect.unit (s := S8192x128) off S256x128.size h).toLoadRect X

/-- The block with rows `off` replaced. -/
abbrev setRows {e : EltTy} (a : Memref sig .tc .vmem S8192x128 e) (off : Fin 2 → Nat) (h : ∀ x, off x + S256x128.size x ≤ S8192x128.size x)
    (X : BufTy.Contents (Elt F) a.view.ty) (w : Vec F S256x128 e) : BufTy.Contents (Elt F) a.view.ty :=
  a.view.writes (Elt F) X [⟨Rect.unit (s := S8192x128) off S256x128.size h, w⟩]

section
variable (𝒱 : Variants) (c : Dev nD) (bd : Option 𝒱.V) (i : grid0.Coords) (arg2 : Memref sig .tc .vmem S256x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x128 .bf16) (harg5 : arg5.IsWhole) (arg6 : Memref sig .tc .vmem S2x256x128 .f32) (harg6 : arg6.IsWhole) (arg7 : Memref sig .tc .vmem S1x1x8x128 .f32) (harg7 : arg7.IsWhole) (arg8 : Memref sig .tc .vmem S256x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S8192x128 .f32) (harg11 : arg11.IsWhole) (arg12 : Memref sig .tc .vmem S8192x128 .f32) (harg12 : arg12.IsWhole)

/-- The state of a walk: the carried value and the accumulators' contents. -/
abbrev Walk := Carry F × BufTy.Contents (Elt F) arg11.view.ty × BufTy.Contents (Elt F) arg12.view.ty

/-- One tile at rows `off`. -/
def tileW (dg : Bool) (C : Ctx F) (X3 : BufTy.Contents (Elt F) arg3.view.ty) (X4 : BufTy.Contents (Elt F) arg4.view.ty)
    (off : Fin 2 → Nat) (h : ∀ x, off x + S256x128.size x ≤ S8192x128.size x) (s : Walk (F := F) arg11 arg12) : Walk (F := F) arg11 arg12 :=
  (stepT dg C (rowsOf arg3 off h X3) (rowsOf arg4 off h X4) s.1,
    setRows arg11 off h s.2.1 (dkT dg C (rowsOf arg3 off h X3) (rowsOf arg4 off h X4) s.1 (rowsOf arg11 off h s.2.1)),
    setRows arg12 off h s.2.2 (dvT dg C (rowsOf arg3 off h X3) s.1 (rowsOf arg12 off h s.2.2)))

variable (arg1 : BitVec 32) (v5 : IVec S256x256 1) (v13 : FVec F S512x256 .bf16) (v21 : FVec F S512x256 .bf16) (v24 : IVec S1x128 1) (v26 : IVec S1x128 1) (v28 : Vec F S256x128 .bf16) (v34 : FVec F S256x128 .bf16) (v38 : FVec F S256x128 .bf16) (v39 : FVec F S256x128 .bf16) (v40 : IVec S1x128 1) (v47 : Vec F S1x256x128 .f32) (v50 : Vec F S1x256x128 .f32) (v63 : BitVec 32) (k0_hw1 : k0_chk1 i v63) (v65 : BitVec 32)

abbrev Res (X3 : BufTy.Contents (Elt F) arg3.view.ty) (X4 : BufTy.Contents (Elt F) arg4.view.ty)
    (f11 : BufTy.Contents (Elt F) arg11.view.ty) (f12 : BufTy.Contents (Elt F) arg12.view.ty) : sProp 𝕄 :=
  iprop((arg3.view.loc (c : Thread nD τ) ↦[arg3.view.set]{fullShare} X3) ∗ (arg4.view.loc (c : Thread nD τ) ↦[arg4.view.set]{fullShare} X4)
    ∗ (arg11.view.loc (c : Thread nD τ) ↦[arg11.view.set]{fullShare} f11) ∗ (arg12.view.loc (c : Thread nD τ) ↦[arg12.view.set]{fullShare} f12))

/-- One trip, run; what it leaves is found by the run. -/
def trip (X3 : BufTy.Contents (Elt F) arg3.view.ty) (X4 : BufTy.Contents (Elt F) arg4.view.ty) (k : Fin (k0_t1_loop i v63).trips) :
    Σ' (R : Walk (F := F) arg11 arg12 → Carry F) (L : Walk (F := F) arg11 arg12 → List (View.Piece (Elt F) S8192x128 .f32)),
      { L' : Walk (F := F) arg11 arg12 → List (View.Piece (Elt F) S8192x128 .f32) // ∀ (E : Set ℕ) (s : Walk (F := F) arg11 arg12),
        Res (F := F) c arg3 arg4 arg11 arg12 X3 X4 s.2.1 s.2.2
        ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg1 v5 v13 v21 v24 v26 v28 v34 v38 v39 v40 v47 v50 v63 k0_hw1 v65 k s.1)
            (fun yld => iprop(⌜yld = R s⌝ ∗ Res (F := F) c arg3 arg4 arg11 arg12 X3 X4 (arg11.view.writes (Elt F) s.2.1 (L s)) (arg12.view.writes (Elt F) s.2.2 (L' s)))) } := by
  refine ⟨?_, ?_, ?_, fun E s => ?run⟩
  case run =>
    unfold k0_t1_body
    iintro ⟨HR_arg3, HR_arg4, HW_arg11, HW_arg12⟩
    sl_exec
    sl_step
    sl_close

/-- A trip is the tile's step. -/
theorem trip_tile (X3 : BufTy.Contents (Elt F) arg3.view.ty) (X4 : BufTy.Contents (Elt F) arg4.view.ty) (k : Fin (k0_t1_loop i v63).trips)
    (E : Set ℕ) (s : Walk (F := F) arg11 arg12) :
    Res (F := F) c arg3 arg4 arg11 arg12 X3 X4 s.2.1 s.2.2
    ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg1 v5 v13 v21 v24 v26 v28 v34 v38 v39 v40 v47 v50 v63 k0_hw1 v65 k s.1)
        (fun yld => iprop(⌜yld = (tileW arg3 arg4 arg11 arg12 false (ctxOf v5 v13 v21 v26 v28 v34 v38 v39 v40 v47 v50) X3 X4 (k0_off1 i v63 k) (k0_off1_inb i v63 k0_hw1 k) s).1⌝
          ∗ Res (F := F) c arg3 arg4 arg11 arg12 X3 X4
            (tileW arg3 arg4 arg11 arg12 false (ctxOf v5 v13 v21 v26 v28 v34 v38 v39 v40 v47 v50) X3 X4 (k0_off1 i v63 k) (k0_off1_inb i v63 k0_hw1 k) s).2.1
            (tileW arg3 arg4 arg11 arg12 false (ctxOf v5 v13 v21 v26 v28 v34 v38 v39 v40 v47 v50) X3 X4 (k0_off1 i v63 k) (k0_off1_inb i v63 k0_hw1 k) s).2.2)) :=
  (trip 𝒱 c bd i arg2 harg2 arg3 harg3 arg4 harg4 arg5 harg5 arg6 harg6 arg7 harg7 arg8 harg8 arg9 harg9 arg10 harg10 arg11 harg11 arg12 harg12 arg1 v5 v13 v21 v24 v26 v28 v34 v38 v39 v40 v47 v50 v63 k0_hw1 v65 X3 X4 k).2.2.2 E s

/-- The walk's state before trip `k`. -/
def walk (C : Ctx F) (w : BitVec 32) (hw : k0_chk1 i w) (X3 : BufTy.Contents (Elt F) arg3.view.ty) (X4 : BufTy.Contents (Elt F) arg4.view.ty)
    (s : Walk (F := F) arg11 arg12) : ℕ → Walk (F := F) arg11 arg12
  | 0 => s
  | k + 1 => if h : k < (k0_t1_loop i w).trips then
      tileW arg3 arg4 arg11 arg12 false C X3 X4 (k0_off1 i w ⟨k, h⟩) (k0_off1_inb i w hw ⟨k, h⟩) (walk C w hw X3 X4 s k)
    else walk C w hw X3 X4 s k

theorem walk_succ (C : Ctx F) (w : BitVec 32) (hw : k0_chk1 i w) (X3 : BufTy.Contents (Elt F) arg3.view.ty) (X4 : BufTy.Contents (Elt F) arg4.view.ty)
    (s : Walk (F := F) arg11 arg12) (k : Fin (k0_t1_loop i w).trips) :
    walk i arg3 arg4 arg11 arg12 C w hw X3 X4 s (k.val + 1)
      = tileW arg3 arg4 arg11 arg12 false C X3 X4 (k0_off1 i w k) (k0_off1_inb i w hw k) (walk i arg3 arg4 arg11 arg12 C w hw X3 X4 s k.val) := by
  rw [walk.eq_2]; exact dif_pos k.isLt

set_option warn.classDefReducibility false in
/-- The walk over the single tiles by its invariant. -/
@[sl_loop] def walkInv (E : Set ℕ) (X3 : BufTy.Contents (Elt F) arg3.view.ty) (X4 : BufTy.Contents (Elt F) arg4.view.ty)
    (G11 : BufTy.Contents (Elt F) arg11.view.ty) (G12 : BufTy.Contents (Elt F) arg12.view.ty) (init : Carry F) :
    Idealize.ShloMosaic.LoopInv (M := 𝕄) Idealize.ShloMosaic.frame (wpE (defs₀ (F := F)) 𝒱 (c : Thread nD τ) bd) E
      (k0_t1_loop i v63).lb (k0_t1_loop i v63).ub (k0_t1_loop i v63).st (k0_t1_ok i v63 k0_hw1) init
      (k0_t1_body (F := F) i arg2 harg2 arg3 harg3 arg4 harg4 arg5 harg5 arg6 harg6 arg7 harg7 arg8 harg8 arg9 harg9 arg10 harg10 arg11 harg11 arg12 harg12 arg1 v5 v13 v21 v24 v26 v28 v34 v38 v39 v40 v47 v50 v63 k0_hw1 v65) where
  inv k acc := iprop((arg3.view.loc (c : Thread nD τ) ↦[arg3.view.set]{fullShare} X3) ∗ (arg4.view.loc (c : Thread nD τ) ↦[arg4.view.set]{fullShare} X4)
    ∗ (∃ f, (arg11.view.loc (c : Thread nD τ) ↦[arg11.view.set]{fullShare} f) ∗ ⌜f = (walk i arg3 arg4 arg11 arg12 (ctxOf v5 v13 v21 v26 v28 v34 v38 v39 v40 v47 v50) v63 k0_hw1 X3 X4 (init, G11, G12) k).2.1⌝)
    ∗ (∃ f, (arg12.view.loc (c : Thread nD τ) ↦[arg12.view.set]{fullShare} f) ∗ ⌜f = (walk i arg3 arg4 arg11 arg12 (ctxOf v5 v13 v21 v26 v28 v34 v38 v39 v40 v47 v50) v63 k0_hw1 X3 X4 (init, G11, G12) k).2.2⌝)
    ∗ ⌜acc = (walk i arg3 arg4 arg11 arg12 (ctxOf v5 v13 v21 v26 v28 v34 v38 v39 v40 v47 v50) v63 k0_hw1 X3 X4 (init, G11, G12) k).1⌝)
  step k acc := by
    iintro ⟨HR_arg3, HR_arg4, ⟨%f_arg11, HW_arg11, %h_arg11⟩, ⟨%f_arg12, HW_arg12, %h_arg12⟩, %h_acc⟩
    subst h_acc h_arg11 h_arg12
    iapply (wp_wand_r Idealize.ShloMosaic.frame (wpE (defs₀ (F := F)) 𝒱 (c : Thread nD τ) bd) E)
    isplitl [HR_arg3 HR_arg4 HW_arg11 HW_arg12]
    · iapply (trip_tile (F := F) 𝒱 c bd i arg2 harg2 arg3 harg3 arg4 harg4 arg5 harg5 arg6 harg6 arg7 harg7 arg8 harg8 arg9 harg9 arg10 harg10 arg11 harg11 arg12 harg12 arg1 v5 v13 v21 v24 v26 v28 v34 v38 v39 v40 v47 v50 v63 k0_hw1 v65 X3 X4 k E
        (walk i arg3 arg4 arg11 arg12 (ctxOf v5 v13 v21 v26 v28 v34 v38 v39 v40 v47 v50) v63 k0_hw1 X3 X4 (init, G11, G12) k))
      isplitl [HR_arg3]; · iexact HR_arg3
      isplitl [HR_arg4]; · iexact HR_arg4
      isplitl [HW_arg11]; · iexact HW_arg11
      iexact HW_arg12
    · iintro %yld ⟨%h_res, HR_arg3, HR_arg4, HW_arg11, HW_arg12⟩
      isplitl [HR_arg3]; · iexact HR_arg3
      isplitl [HR_arg4]; · iexact HR_arg4
      simp only [walk_succ]
      isplitl [HW_arg11]
      · iexists _; isplitl [HW_arg11]; · iexact HW_arg11
        ipureintro; rfl
      isplitl [HW_arg12]
      · iexists _; isplitl [HW_arg12]; · iexact HW_arg12
        ipureintro; rfl
      ipureintro; exact h_res

end

end Cert.KernelIdeal.Grad

end
-- ==== Proof.Rest.lean ====
/- The loop without a trip. -/
module

public import proofs.«01_k».proof.Proof.Tiles
public import Idealize.ShloMosaic.Lib.Exec
public import Idealize.ShloMosaic.Lib.Tactic
public import Idealize.ShloMosaic.Lib.Pipeline.Kit
public import Idealize.ShloMosaic.Lib.LoopEntry

@[expose] public section

set_option maxRecDepth 16384
set_option maxHeartbeats 8000000

noncomputable section

namespace Cert.KernelIdeal.Grad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option warn.classDefReducibility false in
/-- The loop over what is left of the single tiles has no trip. -/
@[sl_loop] def restInv (𝒱 : Variants) (c : Dev nD) (bd : Option 𝒱.V) (i : grid0.Coords) (arg2 : Memref sig .tc .vmem S256x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x128 .bf16) (harg5 : arg5.IsWhole) (arg6 : Memref sig .tc .vmem S2x256x128 .f32) (harg6 : arg6.IsWhole) (arg7 : Memref sig .tc .vmem S1x1x8x128 .f32) (harg7 : arg7.IsWhole) (arg8 : Memref sig .tc .vmem S256x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S8192x128 .f32) (harg11 : arg11.IsWhole) (arg12 : Memref sig .tc .vmem S8192x128 .f32) (harg12 : arg12.IsWhole) (arg1 : BitVec 32) (v5 : IVec S256x256 1) (v13 : FVec F S512x256 .bf16) (v21 : FVec F S512x256 .bf16) (v24 : IVec S1x128 1) (v26 : IVec S1x128 1) (v28 : Vec F S256x128 .bf16) (v34 : FVec F S256x128 .bf16) (v38 : FVec F S256x128 .bf16) (v39 : FVec F S256x128 .bf16) (v40 : IVec S1x128 1) (v47 : Vec F S1x256x128 .f32) (v50 : Vec F S1x256x128 .f32) (v63 : BitVec 32) (k0_hw1 : k0_chk1 i v63) (v70 : BitVec 32) (E : Set ℕ) (init : Carry F) :
    Idealize.ShloMosaic.LoopInv (M := 𝕄) Idealize.ShloMosaic.frame (wpE (defs₀ (F := F)) 𝒱 (c : Thread nD τ) bd) E
      (k0_t2_loop i v63).lb (k0_t2_loop i v63).ub (k0_t2_loop i v63).st (k0_t2_ok i v63 k0_hw1) init
      (k0_t2_body (F := F) i arg2 harg2 arg3 harg3 arg4 harg4 arg5 harg5 arg6 harg6 arg7 harg7 arg8 harg8 arg9 harg9 arg10 harg10 arg11 harg11 arg12 harg12 arg1 v5 v13 v21 v24 v26 v28 v34 v38 v39 v40 v47 v50 v63 k0_hw1 v70) where
  inv _ acc := iprop(⌜acc = init⌝)
  step k _ := absurd (trips_t2 i v63 ▸ k.pos) (Nat.lt_irrefl 0)

end Cert.KernelIdeal.Grad

end
-- ==== Proof.Body.lean ====
/- The body's run at a middle query tile of a head pair and at the last one. -/
module

public import proofs.«01_k».proof.Proof.Trip
public import proofs.«01_k».proof.Proof.Rest

@[expose] public section

set_option maxRecDepth 16384
set_option maxHeartbeats 8000000

noncomputable section

namespace Cert.KernelIdeal.Grad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A middle point's run. -/
def bodyMid (𝒱 : Variants) (c : Dev nD) (bd : Option 𝒱.V) (i : grid0.Coords) (arg2 : Memref sig .tc .vmem S256x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x128 .bf16) (harg5 : arg5.IsWhole) (arg6 : Memref sig .tc .vmem S2x256x128 .f32) (harg6 : arg6.IsWhole) (arg7 : Memref sig .tc .vmem S1x1x8x128 .f32) (harg7 : arg7.IsWhole) (arg8 : Memref sig .tc .vmem S256x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S8192x128 .f32) (harg11 : arg11.IsWhole) (arg12 : Memref sig .tc .vmem S8192x128 .f32) (harg12 : arg12.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (hi : (i 1).val ≠ 0) (h31 : (i 1).val ≠ 31) :
    Σ' (R8 : BufTy.Contents (Elt F) arg8.view.ty → BufTy.Contents (Elt F) arg11.view.ty → BufTy.Contents (Elt F) arg12.view.ty → BufTy.Contents (Elt F) arg8.view.ty), Σ' (R11 : BufTy.Contents (Elt F) arg8.view.ty → BufTy.Contents (Elt F) arg11.view.ty → BufTy.Contents (Elt F) arg12.view.ty → BufTy.Contents (Elt F) arg11.view.ty), { R12 : BufTy.Contents (Elt F) arg8.view.ty → BufTy.Contents (Elt F) arg11.view.ty → BufTy.Contents (Elt F) arg12.view.ty → BufTy.Contents (Elt F) arg12.view.ty // ∀ (E : Set ℕ) (f8 : BufTy.Contents (Elt F) arg8.view.ty) (f11 : BufTy.Contents (Elt F) arg11.view.ty) (f12 : BufTy.Contents (Elt F) arg12.view.ty),
      (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg11.view.loc (c : Thread nD τ) ↦[arg11.view.set]{fullShare} f11) ∗ (arg12.view.loc (c : Thread nD τ) ↦[arg12.view.set]{fullShare} f12)) : sProp 𝕄)
      ⊢ wp frame (wpE (defs₀ (F := F)) 𝒱 (c : Thread nD τ) bd) E (cc0_sba_bwd (F := F) i arg2 harg2 arg3 harg3 arg4 harg4 arg5 harg5 arg6 harg6 arg7 harg7 arg8 harg8 arg9 harg9 arg10 harg10 arg11 harg11 arg12 harg12)
        (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} (R8 f8 f11 f12)) ∗ (arg11.view.loc (c : Thread nD τ) ↦[arg11.view.set]{fullShare} (R11 f8 f11 f12)) ∗ (arg12.view.loc (c : Thread nD τ) ↦[arg12.view.set]{fullShare} (R12 f8 f11 f12)))) } := by
    have h1 : ¬ (Scalar.cmpi .ne (Scalar.extui (Scalar.cmpi .eq (BitVec.ofNat 32 (i 1).val) 0#32)) 0#32 = 1#1) := fun h => hi ((cond1_iff i).mp h)
    have h2 : k0_cond2 i = 1#1 := (cond2_iff i).mpr hi
    letI : ClosedOff (k0_off3 i) := ⟨![256 * ((i 1).val - 1), 0], off3_eq i hi⟩
    letI : ClosedOff (k0_off4 i) := ⟨![256 * (i 1).val, 0], off4_eq i⟩
    have h3 : ¬ (k0_cond3 i = 1#1) := fun h => h31 ((cond3_iff i).mp h)
    refine ⟨?_, ?_, ?_, fun E f8 f11 f12 => ?run⟩
    case run =>
      unfold cc0_sba_bwd
      iintro ⟨HR2, HR3, HR4, HR5, HR6, HR7, HW8, HW11, HW12⟩
      sl_exec
      sl_step
      sl_close

/-- A last point's run. -/
def bodyLast (𝒱 : Variants) (c : Dev nD) (bd : Option 𝒱.V) (i : grid0.Coords) (arg2 : Memref sig .tc .vmem S256x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x128 .bf16) (harg5 : arg5.IsWhole) (arg6 : Memref sig .tc .vmem S2x256x128 .f32) (harg6 : arg6.IsWhole) (arg7 : Memref sig .tc .vmem S1x1x8x128 .f32) (harg7 : arg7.IsWhole) (arg8 : Memref sig .tc .vmem S256x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S8192x128 .f32) (harg11 : arg11.IsWhole) (arg12 : Memref sig .tc .vmem S8192x128 .f32) (harg12 : arg12.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (h31 : (i 1).val = 31) :
    Σ' (R8 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg8.view.ty), Σ' (R9 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg9.view.ty), Σ' (R10 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg10.view.ty), Σ' (R11 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg11.view.ty), { R12 : BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg12.view.ty // ∀ (E : Set ℕ) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty),
      (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp 𝕄)
      ⊢ wp frame (wpE (defs₀ (F := F)) 𝒱 (c : Thread nD τ) bd) E (cc0_sba_bwd (F := F) i arg2 harg2 arg3 harg3 arg4 harg4 arg5 harg5 arg6 harg6 arg7 harg7 arg8 harg8 arg9 harg9 arg10 harg10 arg11 harg11 arg12 harg12)
        (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} (R8 f8 f9 f10 f11 f12)) ∗ (arg9.view.loc (c : Thread nD τ) ↦[arg9.view.set]{fullShare} (R9 f8 f9 f10 f11 f12)) ∗ (arg10.view.loc (c : Thread nD τ) ↦[arg10.view.set]{fullShare} (R10 f8 f9 f10 f11 f12)) ∗ (arg11.view.loc (c : Thread nD τ) ↦[arg11.view.set]{fullShare} (R11 f8 f9 f10 f11 f12)) ∗ (arg12.view.loc (c : Thread nD τ) ↦[arg12.view.set]{fullShare} (R12 f8 f9 f10 f11 f12)))) } := by
    have hi : (i 1).val ≠ 0 := fun h => absurd (h.symm.trans h31) (by decide)
    have h1 : ¬ (Scalar.cmpi .ne (Scalar.extui (Scalar.cmpi .eq (BitVec.ofNat 32 (i 1).val) 0#32)) 0#32 = 1#1) := fun h => hi ((cond1_iff i).mp h)
    have h2 : k0_cond2 i = 1#1 := (cond2_iff i).mpr hi
    letI : ClosedOff (k0_off3 i) := ⟨![256 * ((i 1).val - 1), 0], off3_eq i hi⟩
    letI : ClosedOff (k0_off4 i) := ⟨![256 * (i 1).val, 0], off4_eq i⟩
    have h3 : k0_cond3 i = 1#1 := (cond3_iff i).mpr h31
    refine ⟨?_, ?_, ?_, ?_, ?_, fun E f8 f9 f10 f11 f12 => ?run⟩
    case run =>
      unfold cc0_sba_bwd
      iintro ⟨HR2, HR3, HR4, HR5, HR6, HR7, HW8, HW9, HW10, HW11, HW12⟩
      sl_exec
      sl_step
      sl_close

end Cert.KernelIdeal.Grad

end
-- ==== Proof.First.lean ====
/- The body's run at the first query tile of a head pair. -/
module

public import proofs.«01_k».proof.Proof.Rest

@[expose] public section

set_option maxRecDepth 16384
set_option maxHeartbeats 8000000

noncomputable section

namespace Cert.KernelIdeal.Grad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option warn.classDefReducibility false in
/-- At a first point the loop over the single tiles has no trip either. -/
@[sl_loop] def noneInv (𝒱 : Variants) (c : Dev nD) (bd : Option 𝒱.V) (i : grid0.Coords) (arg2 : Memref sig .tc .vmem S256x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x128 .bf16) (harg5 : arg5.IsWhole) (arg6 : Memref sig .tc .vmem S2x256x128 .f32) (harg6 : arg6.IsWhole) (arg7 : Memref sig .tc .vmem S1x1x8x128 .f32) (harg7 : arg7.IsWhole) (arg8 : Memref sig .tc .vmem S256x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S8192x128 .f32) (harg11 : arg11.IsWhole) (arg12 : Memref sig .tc .vmem S8192x128 .f32) (harg12 : arg12.IsWhole) (arg1 : BitVec 32) (v5 : IVec S256x256 1) (v13 : FVec F S512x256 .bf16) (v21 : FVec F S512x256 .bf16) (v24 : IVec S1x128 1) (v26 : IVec S1x128 1) (v28 : Vec F S256x128 .bf16) (v34 : FVec F S256x128 .bf16) (v38 : FVec F S256x128 .bf16) (v39 : FVec F S256x128 .bf16) (v40 : IVec S1x128 1) (v47 : Vec F S1x256x128 .f32) (v50 : Vec F S1x256x128 .f32) (v63 : BitVec 32) (k0_hw1 : k0_chk1 i v63) (v65 : BitVec 32) (hi : (i 1).val = 0) (E : Set ℕ) (init : Carry F) :
    Idealize.ShloMosaic.LoopInv (M := 𝕄) Idealize.ShloMosaic.frame (wpE (defs₀ (F := F)) 𝒱 (c : Thread nD τ) bd) E
      (k0_t1_loop i v63).lb (k0_t1_loop i v63).ub (k0_t1_loop i v63).st (k0_t1_ok i v63 k0_hw1) init
      (k0_t1_body (F := F) i arg2 harg2 arg3 harg3 arg4 harg4 arg5 harg5 arg6 harg6 arg7 harg7 arg8 harg8 arg9 harg9 arg10 harg10 arg11 harg11 arg12 harg12 arg1 v5 v13 v21 v24 v26 v28 v34 v38 v39 v40 v47 v50 v63 k0_hw1 v65) where
  inv _ acc := iprop(⌜acc = init⌝)
  step k _ := absurd (lt_of_lt_of_eq k.isLt (show Scf.trips (k0_t1_loop i v63).lb (k0_t1_loop i v63).ub (k0_t1_loop i v63).st = 0 from (trips_t1 i v63).trans (by rw [singles, hi]; simp))) (Nat.not_lt_zero _)

/-- A first point's run. -/
def bodyFirst (𝒱 : Variants) (c : Dev nD) (bd : Option 𝒱.V) (i : grid0.Coords) (arg2 : Memref sig .tc .vmem S256x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x128 .bf16) (harg5 : arg5.IsWhole) (arg6 : Memref sig .tc .vmem S2x256x128 .f32) (harg6 : arg6.IsWhole) (arg7 : Memref sig .tc .vmem S1x1x8x128 .f32) (harg7 : arg7.IsWhole) (arg8 : Memref sig .tc .vmem S256x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S8192x128 .f32) (harg11 : arg11.IsWhole) (arg12 : Memref sig .tc .vmem S8192x128 .f32) (harg12 : arg12.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (hi : (i 1).val = 0) :
    Σ' (R8 : BufTy.Contents (Elt F) arg8.view.ty → BufTy.Contents (Elt F) arg11.view.ty → BufTy.Contents (Elt F) arg12.view.ty → BufTy.Contents (Elt F) arg8.view.ty), Σ' (R11 : BufTy.Contents (Elt F) arg8.view.ty → BufTy.Contents (Elt F) arg11.view.ty → BufTy.Contents (Elt F) arg12.view.ty → BufTy.Contents (Elt F) arg11.view.ty), { R12 : BufTy.Contents (Elt F) arg8.view.ty → BufTy.Contents (Elt F) arg11.view.ty → BufTy.Contents (Elt F) arg12.view.ty → BufTy.Contents (Elt F) arg12.view.ty // ∀ (E : Set ℕ) (f8 : BufTy.Contents (Elt F) arg8.view.ty) (f11 : BufTy.Contents (Elt F) arg11.view.ty) (f12 : BufTy.Contents (Elt F) arg12.view.ty),
      (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg11.view.loc (c : Thread nD τ) ↦[arg11.view.set]{fullShare} f11) ∗ (arg12.view.loc (c : Thread nD τ) ↦[arg12.view.set]{fullShare} f12)) : sProp 𝕄)
      ⊢ wp frame (wpE (defs₀ (F := F)) 𝒱 (c : Thread nD τ) bd) E (cc0_sba_bwd (F := F) i arg2 harg2 arg3 harg3 arg4 harg4 arg5 harg5 arg6 harg6 arg7 harg7 arg8 harg8 arg9 harg9 arg10 harg10 arg11 harg11 arg12 harg12)
        (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} (R8 f8 f11 f12)) ∗ (arg11.view.loc (c : Thread nD τ) ↦[arg11.view.set]{fullShare} (R11 f8 f11 f12)) ∗ (arg12.view.loc (c : Thread nD τ) ↦[arg12.view.set]{fullShare} (R12 f8 f11 f12)))) } := by
    have h1 : Scalar.cmpi .ne (Scalar.extui (Scalar.cmpi .eq (BitVec.ofNat 32 (i 1).val) 0#32)) 0#32 = 1#1 := (cond1_iff i).mpr hi
    have h2 : ¬ (k0_cond2 i = 1#1) := fun h => (cond2_iff i).mp h hi
    letI : ClosedOff (k0_off5 i) := ⟨![256 * (i 1).val, 0], off5_eq i⟩
    have h3 : ¬ (k0_cond3 i = 1#1) := fun h => absurd (hi.symm.trans ((cond3_iff i).mp h)) (by decide)
    refine ⟨?_, ?_, ?_, fun E f8 f11 f12 => ?run⟩
    case run =>
      unfold cc0_sba_bwd
      iintro ⟨HR2, HR3, HR4, HR5, HR6, HR7, HW8, HW11, HW12⟩
      sl_exec
      sl_step
      sl_close

end Cert.KernelIdeal.Grad

end
-- ==== Proof.Restate.lean ====
/- What the body's runs leave, restated by the tile functions. -/
module

public import proofs.«01_k».proof.Proof.Body
public import proofs.«01_k».proof.Proof.First

@[expose] public section

set_option maxRecDepth 16384
set_option maxHeartbeats 8000000

noncomputable section

namespace Cert.KernelIdeal.Grad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

attribute [local irreducible] addf subf mulf exp log absf minimumf truncf extf select concatenate broadcastTo broadcast multiReduction shapeCast
  constant walk View.readAt View.writes Scalar.ofBits Scalar.fptosi Scalar.addi Scalar.subi Scalar.minsi Scalar.maxsi Scalar.muli Scalar.divsi

theorem writes_pair {κ : Kind} {sp : Space} {s : Shape} {e : EltTy} (v : View sig κ sp s e) (f : v.ty.Contents (Elt F)) (p q : View.Piece (Elt F) s e) :
    v.writes (Elt F) (v.writes (Elt F) f [p]) [q] = v.writes (Elt F) f [q, p] := by
  rw [← View.writes_append]; rfl

/-- The carried value before the first tile. -/
def carry0 : Carry F := (k0_pay139, k0_pay139, k0_pay140, k0_pay139, k0_pay139, k0_pay140)

section
variable (𝒱 : Variants) (c : Dev nD) (bd : Option 𝒱.V) (i : grid0.Coords) (arg2 : Memref sig .tc .vmem S256x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x128 .bf16) (harg5 : arg5.IsWhole) (arg6 : Memref sig .tc .vmem S2x256x128 .f32) (harg6 : arg6.IsWhole) (arg7 : Memref sig .tc .vmem S1x1x8x128 .f32) (harg7 : arg7.IsWhole) (arg8 : Memref sig .tc .vmem S256x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S8192x128 .f32) (harg11 : arg11.IsWhole) (arg12 : Memref sig .tc .vmem S8192x128 .f32) (harg12 : arg12.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)

/-- The context the body builds from its resident blocks. -/
def ctxW : Ctx F :=
  ctxOf k0_pay125 k0_pay126 k0_pay127 k0_pay129
    (View.readAt (Elt F) arg5.view (Rect.unit (s := S256x128) ![0, 0] S256x128.size inb_S256x128_S256x128_0_0).toLoadRect X5)
    (k0_pay131 (View.readAt (Elt F) arg2.view (Rect.unit (s := S256x128) ![0, 0] S256x128.size inb_S256x128_S256x128_0_0).toLoadRect X2))
    (k0_pay132 (View.readAt (Elt F) arg2.view (Rect.unit (s := S256x128) ![0, 0] S256x128.size inb_S256x128_S256x128_0_0).toLoadRect X2))
    k0_pay133 k0_pay134
    (View.readAt (Elt F) arg6.view (Rect.unit (s := S2x256x128) ![0, 0, 0] S1x256x128.size inb_S2x256x128_S1x256x128_0_0_0).toLoadRect X6)
    (View.readAt (Elt F) arg6.view (Rect.unit (s := S2x256x128) ![1, 0, 0] S1x256x128.size inb_S2x256x128_S1x256x128_1_0_0).toLoadRect X6)

/-- The word that says where the walk begins. -/
def wordW : BitVec 32 :=
  Scalar.fptosi 32 (k0_pay141 (View.readAt (Elt F) arg7.view (Rect.unit (s := S1x1x8x128) ![0, 0, 0, 0] S1x1x8x128.size inb_S1x1x8x128_S1x1x8x128_0_0_0_0).toLoadRect X7))

/-- The state after the single tiles. -/
def single (f11 : BufTy.Contents (Elt F) arg11.view.ty) (f12 : BufTy.Contents (Elt F) arg12.view.ty) : Walk (F := F) arg11 arg12 :=
  walk i arg3 arg4 arg11 arg12 (ctxW arg2 arg5 arg6 X2 X5 X6) (wordW arg7 X7) (chk1_all i _) X3 X4 (carry0, f11, f12)
    (k0_t1_loop i (wordW arg7 X7)).trips

/-- The query gradient's block, of a carried value. -/
def dqOf (s : Carry F) : FVec F S256x128 .bf16 := k0_pay1 s.2.2.1 s.2.2.2.2.2 (k0_pay143 k0_pay128)

abbrev put8 (f8 : BufTy.Contents (Elt F) arg8.view.ty) (w : FVec F S256x128 .bf16) : BufTy.Contents (Elt F) arg8.view.ty :=
  arg8.view.writes (Elt F) f8 [⟨Rect.unit (s := S256x128) ![0, 0] S256x128.size inb_S256x128_S256x128_0_0, w⟩]

abbrev whole32 {e : EltTy} (a : Memref sig .tc .vmem S8192x128 e) (X : BufTy.Contents (Elt F) a.view.ty) : Vec F S8192x128 e :=
  View.readAt (Elt F) a.view (Rect.unit (s := S8192x128) ![0, 0] S8192x128.size inb_S8192x128_S8192x128_0_0).toLoadRect X

abbrev putAll {e : EltTy} (a : Memref sig .tc .vmem S8192x128 e) (f : BufTy.Contents (Elt F) a.view.ty) (w : Vec F S8192x128 e) : BufTy.Contents (Elt F) a.view.ty :=
  a.view.writes (Elt F) f [⟨Rect.unit (s := S8192x128) ![0, 0] S8192x128.size inb_S8192x128_S8192x128_0_0, w⟩]

section
variable (hi : (i 1).val ≠ 0)

/-- The state after the first of the two last tiles. -/
def penult (f11 : BufTy.Contents (Elt F) arg11.view.ty) (f12 : BufTy.Contents (Elt F) arg12.view.ty) : Walk (F := F) arg11 arg12 :=
  tileW arg3 arg4 arg11 arg12 false (ctxW arg2 arg5 arg6 X2 X5 X6) X3 X4 (k0_off3 i) (k0_off3_inb i ((cond2_iff i).mpr hi))
    (single i arg2 arg3 arg4 arg5 arg6 arg7 arg11 arg12 X2 X3 X4 X5 X6 X7 f11 f12)

/-- The state after the diagonal tile. -/
def finalW (f11 : BufTy.Contents (Elt F) arg11.view.ty) (f12 : BufTy.Contents (Elt F) arg12.view.ty) : Walk (F := F) arg11 arg12 :=
  tileW arg3 arg4 arg11 arg12 true (ctxW arg2 arg5 arg6 X2 X5 X6) X3 X4 (k0_off4 i) (k0_off4_inb i ((cond2_iff i).mpr hi))
    (penult i arg2 arg3 arg4 arg5 arg6 arg7 arg11 arg12 X2 X3 X4 X5 X6 X7 hi f11 f12)

end

theorem mid_11 (hi : (i 1).val ≠ 0) (h31 : (i 1).val ≠ 31) (f8 : BufTy.Contents (Elt F) arg8.view.ty) (f11 : BufTy.Contents (Elt F) arg11.view.ty) (f12 : BufTy.Contents (Elt F) arg12.view.ty) :
    (bodyMid 𝒱 c bd i arg2 harg2 arg3 harg3 arg4 harg4 arg5 harg5 arg6 harg6 arg7 harg7 arg8 harg8 arg9 harg9 arg10 harg10 arg11 harg11 arg12 harg12 X2 X3 X4 X5 X6 X7 hi h31).2.1 f8 f11 f12 = (finalW i arg2 arg3 arg4 arg5 arg6 arg7 arg11 arg12 X2 X3 X4 X5 X6 X7 hi f11 f12).2.1 := by
  unfold finalW penult tileW; dsimp only [setRows]; try rw [writes_pair]
  rfl

theorem mid_12 (hi : (i 1).val ≠ 0) (h31 : (i 1).val ≠ 31) (f8 : BufTy.Contents (Elt F) arg8.view.ty) (f11 : BufTy.Contents (Elt F) arg11.view.ty) (f12 : BufTy.Contents (Elt F) arg12.view.ty) :
    (bodyMid 𝒱 c bd i arg2 harg2 arg3 harg3 arg4 harg4 arg5 harg5 arg6 harg6 arg7 harg7 arg8 harg8 arg9 harg9 arg10 harg10 arg11 harg11 arg12 harg12 X2 X3 X4 X5 X6 X7 hi h31).2.2.1 f8 f11 f12 = (finalW i arg2 arg3 arg4 arg5 arg6 arg7 arg11 arg12 X2 X3 X4 X5 X6 X7 hi f11 f12).2.2 := by
  unfold finalW penult tileW; dsimp only [setRows]; try rw [writes_pair]
  rfl

theorem mid_8 (hi : (i 1).val ≠ 0) (h31 : (i 1).val ≠ 31) (f8 : BufTy.Contents (Elt F) arg8.view.ty) (f11 : BufTy.Contents (Elt F) arg11.view.ty) (f12 : BufTy.Contents (Elt F) arg12.view.ty) :
    (bodyMid 𝒱 c bd i arg2 harg2 arg3 harg3 arg4 harg4 arg5 harg5 arg6 harg6 arg7 harg7 arg8 harg8 arg9 harg9 arg10 harg10 arg11 harg11 arg12 harg12 X2 X3 X4 X5 X6 X7 hi h31).1 f8 f11 f12 = put8 arg8 f8 (dqOf (finalW i arg2 arg3 arg4 arg5 arg6 arg7 arg11 arg12 X2 X3 X4 X5 X6 X7 hi f11 f12).1) := rfl

theorem last_8 (h31 : (i 1).val = 31) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) :
    (bodyLast 𝒱 c bd i arg2 harg2 arg3 harg3 arg4 harg4 arg5 harg5 arg6 harg6 arg7 harg7 arg8 harg8 arg9 harg9 arg10 harg10 arg11 harg11 arg12 harg12 X2 X3 X4 X5 X6 X7 h31).1 f8 f9 f10 f11 f12 = put8 arg8 f8 (dqOf (finalW i arg2 arg3 arg4 arg5 arg6 arg7 arg11 arg12 X2 X3 X4 X5 X6 X7 (fun h => absurd (h.symm.trans h31) (by decide)) f11 f12).1) := by
  unfold finalW penult tileW; dsimp only [setRows]; try rw [writes_pair]
  rfl

theorem last_9 (h31 : (i 1).val = 31) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) :
    (bodyLast 𝒱 c bd i arg2 harg2 arg3 harg3 arg4 harg4 arg5 harg5 arg6 harg6 arg7 harg7 arg8 harg8 arg9 harg9 arg10 harg10 arg11 harg11 arg12 harg12 X2 X3 X4 X5 X6 X7 h31).2.1 f8 f9 f10 f11 f12 = putAll arg9 f9 (k0_pay2 (whole32 arg11 (finalW i arg2 arg3 arg4 arg5 arg6 arg7 arg11 arg12 X2 X3 X4 X5 X6 X7 (fun h => absurd (h.symm.trans h31) (by decide)) f11 f12).2.1)) := by
  unfold finalW penult tileW; dsimp only [setRows]; try rw [writes_pair]
  rfl

theorem last_10 (h31 : (i 1).val = 31) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) :
    (bodyLast 𝒱 c bd i arg2 harg2 arg3 harg3 arg4 harg4 arg5 harg5 arg6 harg6 arg7 harg7 arg8 harg8 arg9 harg9 arg10 harg10 arg11 harg11 arg12 harg12 X2 X3 X4 X5 X6 X7 h31).2.2.1 f8 f9 f10 f11 f12 = putAll arg10 f10 (k0_pay3 (whole32 arg12 (finalW i arg2 arg3 arg4 arg5 arg6 arg7 arg11 arg12 X2 X3 X4 X5 X6 X7 (fun h => absurd (h.symm.trans h31) (by decide)) f11 f12).2.2)) := by
  unfold finalW penult tileW; dsimp only [setRows]; try rw [writes_pair]
  rfl

theorem last_11 (h31 : (i 1).val = 31) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) :
    (bodyLast 𝒱 c bd i arg2 harg2 arg3 harg3 arg4 harg4 arg5 harg5 arg6 harg6 arg7 harg7 arg8 harg8 arg9 harg9 arg10 harg10 arg11 harg11 arg12 harg12 X2 X3 X4 X5 X6 X7 h31).2.2.2.1 f8 f9 f10 f11 f12 = (finalW i arg2 arg3 arg4 arg5 arg6 arg7 arg11 arg12 X2 X3 X4 X5 X6 X7 (fun h => absurd (h.symm.trans h31) (by decide)) f11 f12).2.1 := by
  unfold finalW penult tileW; dsimp only [setRows]; try rw [writes_pair]
  rfl

theorem last_12 (h31 : (i 1).val = 31) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) :
    (bodyLast 𝒱 c bd i arg2 harg2 arg3 harg3 arg4 harg4 arg5 harg5 arg6 harg6 arg7 harg7 arg8 harg8 arg9 harg9 arg10 harg10 arg11 harg11 arg12 harg12 X2 X3 X4 X5 X6 X7 h31).2.2.2.2.1 f8 f9 f10 f11 f12 = (finalW i arg2 arg3 arg4 arg5 arg6 arg7 arg11 arg12 X2 X3 X4 X5 X6 X7 (fun h => absurd (h.symm.trans h31) (by decide)) f11 f12).2.2 := by
  unfold finalW penult tileW; dsimp only [setRows]; try rw [writes_pair]
  rfl

/-- The state after a first point's one tile, over accumulators set to zero. -/
def firstW (hi : (i 1).val = 0) : Walk (F := F) arg11 arg12 :=
  tileW arg3 arg4 arg11 arg12 true (ctxW arg2 arg5 arg6 X2 X5 X6) X3 X4 (k0_off5 i) (k0_off5_inb i (fun h => (cond2_iff i).mp h hi))
    (carry0, putAll arg11 arg11.view.junk k0_pay123, putAll arg12 arg12.view.junk k0_pay124)

theorem first_8 (hi : (i 1).val = 0) (f8 : BufTy.Contents (Elt F) arg8.view.ty) (f11 : BufTy.Contents (Elt F) arg11.view.ty) (f12 : BufTy.Contents (Elt F) arg12.view.ty) :
    (bodyFirst 𝒱 c bd i arg2 harg2 arg3 harg3 arg4 harg4 arg5 harg5 arg6 harg6 arg7 harg7 arg8 harg8 arg9 harg9 arg10 harg10 arg11 harg11 arg12 harg12 X2 X3 X4 X5 X6 X7 hi).1 f8 f11 f12 = put8 arg8 f8 (dqOf (firstW i arg2 arg3 arg4 arg5 arg6 arg11 arg12 X2 X3 X4 X5 X6 hi).1) := by
  unfold firstW tileW; dsimp only [setRows, putAll]; try rw [writes_pair]
  rfl

theorem first_11 (hi : (i 1).val = 0) (f8 : BufTy.Contents (Elt F) arg8.view.ty) (f11 : BufTy.Contents (Elt F) arg11.view.ty) (f12 : BufTy.Contents (Elt F) arg12.view.ty) :
    (bodyFirst 𝒱 c bd i arg2 harg2 arg3 harg3 arg4 harg4 arg5 harg5 arg6 harg6 arg7 harg7 arg8 harg8 arg9 harg9 arg10 harg10 arg11 harg11 arg12 harg12 X2 X3 X4 X5 X6 X7 hi).2.1 f8 f11 f12 = (firstW i arg2 arg3 arg4 arg5 arg6 arg11 arg12 X2 X3 X4 X5 X6 hi).2.1 := by
  unfold firstW tileW; dsimp only [setRows, putAll]; try rw [writes_pair]
  rfl

theorem first_12 (hi : (i 1).val = 0) (f8 : BufTy.Contents (Elt F) arg8.view.ty) (f11 : BufTy.Contents (Elt F) arg11.view.ty) (f12 : BufTy.Contents (Elt F) arg12.view.ty) :
    (bodyFirst 𝒱 c bd i arg2 harg2 arg3 harg3 arg4 harg4 arg5 harg5 arg6 harg6 arg7 harg7 arg8 harg8 arg9 harg9 arg10 harg10 arg11 harg11 arg12 harg12 X2 X3 X4 X5 X6 X7 hi).2.2.1 f8 f11 f12 = (firstW i arg2 arg3 arg4 arg5 arg6 arg11 arg12 X2 X3 X4 X5 X6 hi).2.2 := by
  unfold firstW tileW; dsimp only [setRows, putAll]; try rw [writes_pair]
  rfl

end

end Cert.KernelIdeal.Grad

end
-- ==== Proof.Pure.lean ====
/- The walk over blocks as functions of their indices, and the body's run stated by it. -/
module

public import proofs.«01_k».proof.Proof.Restate
public import Idealize.ShloMosaic.Lib.ValueIdxCore
public import Idealize.ShloMosaic.Lib.WholeRead
public import Idealize.ShloMosaic.Lib.Pipeline.Frame

@[expose] public section

set_option maxRecDepth 16384
set_option maxHeartbeats 8000000

noncomputable section

namespace Cert.KernelIdeal.Grad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx (ix2 eq_ix2)
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Tile `j`'s 256 rows. -/
def rowsP {e : EltTy} (X : Vec F S8192x128 e) (j : ℕ) : Vec F S256x128 e :=
  fun y => X (ix2 (⟨(256 * j + (y 0).val) % 8192, Nat.mod_lt _ (by decide)⟩ : Fin 8192) (y 1))

/-- The block with tile `j`'s rows replaced. -/
def putP {e : EltTy} (X : Vec F S8192x128 e) (j : ℕ) (w : Vec F S256x128 e) : Vec F S8192x128 e :=
  fun y => if (y 0).val / 256 = j then w (ix2 (⟨(y 0).val % 256, Nat.mod_lt _ (by decide)⟩ : Fin 256) (y 1)) else X y

/-- The state of a walk: the carried value and the two accumulators. -/
abbrev WalkP (F : FTy → Type) [FloatOps F] := Carry F × Vec F S8192x128 .f32 × Vec F S8192x128 .f32

/-- Tile `j` of the walk. -/
def tileP (dg : Bool) (C : Ctx F) (K V : Vec F S8192x128 .bf16) (j : ℕ) (s : WalkP F) : WalkP F :=
  (stepT dg C (rowsP K j) (rowsP V j) s.1,
    putP s.2.1 j (dkT dg C (rowsP K j) (rowsP V j) s.1 (rowsP s.2.1 j)),
    putP s.2.2 j (dvT dg C (rowsP K j) s.1 (rowsP s.2.2 j)))

/-- The walk from tile `j0` on. -/
def walkP (C : Ctx F) (K V : Vec F S8192x128 .bf16) (j0 : ℕ) (s : WalkP F) : ℕ → WalkP F
  | 0 => s
  | k + 1 => tileP false C K V (j0 + k) (walkP C K V j0 s k)

/-- A query tile's context, of its blocks. -/
def ctxP (q d : Vec F S256x128 .bf16) (t : Vec F S2x256x128 .f32) : Ctx F :=
  ctxOf k0_pay125 k0_pay126 k0_pay127 k0_pay129 d (k0_pay131 q) (k0_pay132 q) k0_pay133 k0_pay134
    (fun y => t ((Rect.unit (s := S2x256x128) ![0, 0, 0] S1x256x128.size inb_S2x256x128_S1x256x128_0_0_0).toLoadRect.idx y))
    (fun y => t ((Rect.unit (s := S2x256x128) ![1, 0, 0] S1x256x128.size inb_S2x256x128_S1x256x128_1_0_0).toLoadRect.idx y))

/-- What query tile `n` makes of the accumulators, its walk beginning at tile `j0`. -/
def ptP (n j0 : ℕ) (C : Ctx F) (K V : Vec F S8192x128 .bf16) (A B : Vec F S8192x128 .f32) : WalkP F :=
  if n = 0 then tileP true C K V 0 (carry0, k0_pay123, k0_pay124)
  else tileP true C K V n (tileP false C K V (n - 1) (walkP C K V j0 (carry0, A, B) (n - 1 - j0)))

section
variable {e : EltTy} (a : Memref sig .tc .vmem S8192x128 e) (ha : a.IsWhole)

theorem off_idx (j : ℕ) (hj : j < 32) (off : Fin 2 → Nat) (h : ∀ x, off x + S256x128.size x ≤ S8192x128.size x) (ho : off = ![256 * j, 0])
    (y : S256x128.Idx) :
    (Rect.unit (s := S8192x128) off S256x128.size h).toLoadRect.idx y
      = ix2 (⟨(256 * j + (y 0).val) % 8192, Nat.mod_lt _ (by decide)⟩ : Fin 8192) (y 1) := by
  subst ho
  have h0 : (y 0).val < 256 := (y 0).isLt
  funext x
  match x with
  | ⟨0, _⟩ =>
    apply Fin.ext
    show 256 * j + 1 * (y 0).val = (256 * j + (y 0).val) % 8192
    omega
  | ⟨1, _⟩ =>
    apply Fin.ext
    show 0 + 1 * (y 1).val = (y 1).val
    omega

theorem rowsOf_unread (X : Vec F S8192x128 e) (j : ℕ) (hj : j < 32) (off : Fin 2 → Nat) (h : ∀ x, off x + S256x128.size x ≤ S8192x128.size x)
    (ho : off = ![256 * j, 0]) : rowsOf a off h (ha.unread X) = rowsP X j := by
  funext y
  refine (ha.readAt_unread X (Rect.unit (s := S8192x128) off S256x128.size h).toLoadRect y).trans ?_
  exact congrArg X (off_idx j hj off h ho y)

theorem setRows_unread (X : Vec F S8192x128 e) (j : ℕ) (hj : j < 32) (off : Fin 2 → Nat) (h : ∀ x, off x + S256x128.size x ≤ S8192x128.size x)
    (ho : off = ![256 * j, 0]) (w : Vec F S256x128 e) : setRows a off h (ha.unread X) w = ha.unread (putP X j w) := by
  apply ha.eq_unread
  funext y
  have hy : (y 0).val < 8192 := (y 0).isLt
  unfold putP
  split
  · next hd =>
    refine View.read_writes_cons_hit (Val := Elt F) a.view _ (Rect.unit (s := S8192x128) off S256x128.size h) w []
      (ix2 (⟨(y 0).val % 256, Nat.mod_lt _ (by decide)⟩ : Fin 256) (y 1)) y ?_
    refine (off_idx j hj off h ho _).trans ?_
    refine Eq.trans ?_ (eq_ix2 y).symm
    congr 1
    apply Fin.ext
    show (256 * j + (y 0).val % 256) % 8192 = (y 0).val
    omega
  · next hd =>
    subst ho
    rw [View.read_writes_cons_miss_of_axis (Val := Elt F) a.view _ ⟨Rect.unit (s := S8192x128) ![256 * j, 0] S256x128.size h, w⟩ [] y 0 (256 * j) 256 rfl rfl rfl (by omega),
      View.writes_nil, ha.read_unread]

theorem whole_idx {s : Shape} (off : Fin s.rank → ℕ) (ho : off = fun _ => 0) (h : ∀ x, off x + s.size x ≤ s.size x) (y : s.Idx) :
    (Rect.unit (s := s) off s.size h).toLoadRect.idx y = y := by
  subst ho
  funext x
  apply Fin.ext
  show 0 + 1 * (y x).val = (y x).val
  omega

theorem readWhole {s : Shape} {sp : Space} (a : Memref sig .tc sp s e) (ha : a.IsWhole) (X : Vec F s e) (off : Fin s.rank → ℕ) (ho : off = fun _ => 0)
    (h : ∀ x, off x + s.size x ≤ s.size x) : View.readAt (Elt F) a.view (Rect.unit (s := s) off s.size h).toLoadRect (ha.unread X) = X := by
  funext y
  exact (ha.readAt_unread X _ y).trans (congrArg X (whole_idx off ho h y))

theorem putWhole {s : Shape} {sp : Space} (a : Memref sig .tc sp s e) (ha : a.IsWhole) (f : BufTy.Contents (Elt F) a.view.ty) (X : Vec F s e)
    (off : Fin s.rank → ℕ) (ho : off = fun _ => 0) (h : ∀ x, off x + s.size x ≤ s.size x) :
    a.view.writes (Elt F) f [⟨Rect.unit (s := s) off s.size h, X⟩] = ha.unread X := by
  apply ha.eq_unread
  funext y
  exact View.read_writes_cons_hit (Val := Elt F) a.view f (Rect.unit (s := s) off s.size h) X [] y y (whole_idx off ho h y)

end

theorem zero2 : (![0, 0] : Fin 2 → ℕ) = fun _ => 0 := by
  funext x; match x with | ⟨0, _⟩ => rfl | ⟨1, _⟩ => rfl

theorem zero4 : (![0, 0, 0, 0] : Fin 4 → ℕ) = fun _ => 0 := by
  funext x; match x with | ⟨0, _⟩ => rfl | ⟨1, _⟩ => rfl | ⟨2, _⟩ => rfl | ⟨3, _⟩ => rfl

section
variable (i : grid0.Coords) (arg2 : Memref sig .tc .vmem S256x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x128 .bf16) (harg5 : arg5.IsWhole) (arg6 : Memref sig .tc .vmem S2x256x128 .f32) (harg6 : arg6.IsWhole) (arg7 : Memref sig .tc .vmem S1x1x8x128 .f32) (harg7 : arg7.IsWhole) (arg8 : Memref sig .tc .vmem S256x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S8192x128 .f32) (harg11 : arg11.IsWhole) (arg12 : Memref sig .tc .vmem S8192x128 .f32) (harg12 : arg12.IsWhole)
  (q : Vec F S256x128 .bf16) (K V : Vec F S8192x128 .bf16) (d : Vec F S256x128 .bf16) (t : Vec F S2x256x128 .f32) (s0 : Vec F S1x1x8x128 .f32)

/-- The state over blocks as contents of the memrefs. -/
abbrev liftW (s : WalkP F) : Walk (F := F) arg11 arg12 := (s.1, harg11.unread s.2.1, harg12.unread s.2.2)

theorem tileW_lift (dg : Bool) (C : Ctx F) (s : WalkP F) (j : ℕ) (hj : j < 32) (off : Fin 2 → Nat)
    (h : ∀ x, off x + S256x128.size x ≤ S8192x128.size x) (ho : off = ![256 * j, 0]) :
    tileW arg3 arg4 arg11 arg12 dg C (harg3.unread K) (harg4.unread V) off h (liftW arg11 harg11 arg12 harg12 s)
      = liftW arg11 harg11 arg12 harg12 (tileP dg C K V j s) := by
  unfold tileW tileP liftW
  dsimp only
  rw [rowsOf_unread arg3 harg3 K j hj off h ho, rowsOf_unread arg4 harg4 V j hj off h ho, rowsOf_unread arg11 harg11 s.2.1 j hj off h ho,
    rowsOf_unread arg12 harg12 s.2.2 j hj off h ho, setRows_unread arg11 harg11 s.2.1 j hj off h ho, setRows_unread arg12 harg12 s.2.2 j hj off h ho]

theorem walk_lift (C : Ctx F) (w : BitVec 32) (hw : k0_chk1 i w) (s : WalkP F) :
    ∀ k, k ≤ (k0_t1_loop i w).trips → walk i arg3 arg4 arg11 arg12 C w hw (harg3.unread K) (harg4.unread V) (liftW arg11 harg11 arg12 harg12 s) k
      = liftW arg11 harg11 arg12 harg12 (walkP C K V (start i w) s k)
  | 0, _ => rfl
  | k + 1, hk => by
    have ht := trips_t1 i w
    have hs := start_le i w
    have hn := row_lt i
    have hsi : singles i = (i 1).val - 1 := rfl
    rw [walk_succ i arg3 arg4 arg11 arg12 C w hw _ _ _ ⟨k, hk⟩, walk_lift C w hw s k (Nat.le_of_succ_le hk),
      tileW_lift (j := start i w + k) (hj := by omega) (ho := off1_eq i w ⟨k, hk⟩)]
    rfl

theorem ctxW_unread : ctxW arg2 arg5 arg6 (harg2.unread q) (harg5.unread d) (harg6.unread t) = ctxP q d t := by
  unfold ctxW ctxP
  rw [readWhole arg2 harg2 q _ zero2, readWhole arg5 harg5 d _ zero2]
  congr 1
  · funext y; exact harg6.readAt_unread t _ y
  · funext y; exact harg6.readAt_unread t _ y

/-- The word read from the first-tile block. -/
def wordP (s0 : Vec F S1x1x8x128 .f32) : BitVec 32 := Scalar.fptosi 32 (k0_pay141 s0)

theorem wordW_unread : wordW arg7 (harg7.unread s0) = wordP s0 := by
  unfold wordW wordP
  rw [readWhole arg7 harg7 s0 _ zero4]

theorem finalW_lift (hi : (i 1).val ≠ 0) (A B : Vec F S8192x128 .f32) :
    finalW i arg2 arg3 arg4 arg5 arg6 arg7 arg11 arg12 (harg2.unread q) (harg3.unread K) (harg4.unread V) (harg5.unread d) (harg6.unread t) (harg7.unread s0) hi
        (harg11.unread A) (harg12.unread B)
      = liftW arg11 harg11 arg12 harg12 (ptP (i 1).val (start i (wordP s0)) (ctxP q d t) K V A B) := by
  have hn := row_lt i
  unfold finalW penult single ptP
  rw [if_neg hi]
  simp only [ctxW_unread arg2 harg2 arg5 harg5 arg6 harg6, wordW_unread arg7 harg7]
  have e := walk_lift i arg3 harg3 arg4 harg4 arg11 harg11 arg12 harg12 K V (ctxP q d t) (wordP s0) (chk1_all i _) (carry0, A, B) _ (le_refl _)
  rw [trips_t1 i (wordP s0)] at e
  rw [trips_t1 i (wordP s0)]
  unfold liftW at e
  dsimp only at e
  rw [e]
  rw [tileW_lift (j := (i 1).val - 1) (hj := by omega) (ho := off3_eq i hi), tileW_lift (j := (i 1).val) (hj := hn) (ho := off4_eq i)]
  rfl

theorem firstW_lift (hi : (i 1).val = 0) (A B : Vec F S8192x128 .f32) :
    firstW i arg2 arg3 arg4 arg5 arg6 arg11 arg12 (harg2.unread q) (harg3.unread K) (harg4.unread V) (harg5.unread d) (harg6.unread t) hi
      = liftW arg11 harg11 arg12 harg12 (ptP (i 1).val (start i (wordP s0)) (ctxP q d t) K V A B) := by
  unfold firstW ptP
  rw [if_pos hi, ctxW_unread arg2 harg2 arg5 harg5 arg6 harg6]
  have e11 : putAll arg11 (arg11.view.junk (Val := Elt F)) k0_pay123 = harg11.unread k0_pay123 := putWhole arg11 harg11 _ _ _ zero2 _
  have e12 : putAll arg12 (arg12.view.junk (Val := Elt F)) k0_pay124 = harg12.unread k0_pay124 := putWhole arg12 harg12 _ _ _ zero2 _
  rw [e11, e12]
  exact tileW_lift arg3 harg3 arg4 harg4 arg11 harg11 arg12 harg12 K V true (ctxP q d t) (carry0, k0_pay123, k0_pay124) 0 (by decide) _ _ (by rw [off5_eq, hi])

end

end Cert.KernelIdeal.Grad

end
-- ==== Proof.Step.lean ====
/- The body's run at a point, over blocks. -/
module

public import proofs.«01_k».proof.Proof.Pure
public import Idealize.ShloMosaic.Lib.ValueIdxCore
public import Idealize.ShloMosaic.Lib.WholeRead
public import Idealize.ShloMosaic.Lib.Pipeline.Frame

@[expose] public section

set_option maxRecDepth 16384
set_option maxHeartbeats 8000000

noncomputable section

namespace Cert.KernelIdeal.Grad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx (ix2 eq_ix2)
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (𝒱 : Variants) (c : Dev nD) (bd : Option 𝒱.V) (i : grid0.Coords) (arg2 : Memref sig .tc .vmem S256x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x128 .bf16) (harg5 : arg5.IsWhole) (arg6 : Memref sig .tc .vmem S2x256x128 .f32) (harg6 : arg6.IsWhole) (arg7 : Memref sig .tc .vmem S1x1x8x128 .f32) (harg7 : arg7.IsWhole) (arg8 : Memref sig .tc .vmem S256x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S8192x128 .f32) (harg11 : arg11.IsWhole) (arg12 : Memref sig .tc .vmem S8192x128 .f32) (harg12 : arg12.IsWhole)
  (q : Vec F S256x128 .bf16) (K V : Vec F S8192x128 .bf16) (d : Vec F S256x128 .bf16) (t : Vec F S2x256x128 .f32) (s0 : Vec F S1x1x8x128 .f32)
  (E : Set ℕ) (f8 : BufTy.Contents (Elt F) arg8.view.ty) (f9 : BufTy.Contents (Elt F) arg9.view.ty) (f10 : BufTy.Contents (Elt F) arg10.view.ty)

/-- A query tile's first point. -/
theorem step_first (hi : (i 1).val = 0) (A B : Vec F S8192x128 .f32) (f11 : BufTy.Contents (Elt F) arg11.view.ty) (f12 : BufTy.Contents (Elt F) arg12.view.ty) :
    (iprop((arg2.view.loc (c : Thread nD τ) ↦[arg2.view.set]{fullShare} (harg2.unread q)) ∗ (arg3.view.loc (c : Thread nD τ) ↦[arg3.view.set]{fullShare} (harg3.unread K)) ∗ (arg4.view.loc (c : Thread nD τ) ↦[arg4.view.set]{fullShare} (harg4.unread V)) ∗ (arg5.view.loc (c : Thread nD τ) ↦[arg5.view.set]{fullShare} (harg5.unread d)) ∗ (arg6.view.loc (c : Thread nD τ) ↦[arg6.view.set]{fullShare} (harg6.unread t)) ∗ (arg7.view.loc (c : Thread nD τ) ↦[arg7.view.set]{fullShare} (harg7.unread s0)) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp 𝕄)
      ⊢ wp frame (wpE (defs₀ (F := F)) 𝒱 (c : Thread nD τ) bd) E (cc0_sba_bwd (F := F) i arg2 harg2 arg3 harg3 arg4 harg4 arg5 harg5 arg6 harg6 arg7 harg7 arg8 harg8 arg9 harg9 arg10 harg10 arg11 harg11 arg12 harg12)
        (fun _ => iprop((arg2.view.loc (c : Thread nD τ) ↦[arg2.view.set]{fullShare} (harg2.unread q)) ∗ (arg3.view.loc (c : Thread nD τ) ↦[arg3.view.set]{fullShare} (harg3.unread K)) ∗ (arg4.view.loc (c : Thread nD τ) ↦[arg4.view.set]{fullShare} (harg4.unread V)) ∗ (arg5.view.loc (c : Thread nD τ) ↦[arg5.view.set]{fullShare} (harg5.unread d)) ∗ (arg6.view.loc (c : Thread nD τ) ↦[arg6.view.set]{fullShare} (harg6.unread t)) ∗ (arg7.view.loc (c : Thread nD τ) ↦[arg7.view.set]{fullShare} (harg7.unread s0)) ∗ (arg8.view.loc (c : Thread nD τ) ↦[arg8.view.set]{fullShare} (harg8.unread (dqOf (ptP (i 1).val (start i (wordP s0)) (ctxP q d t) K V A B).1))) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} (harg11.unread (ptP (i 1).val (start i (wordP s0)) (ctxP q d t) K V A B).2.1)) ∗ (arg12.view.loc (c : Thread nD τ) ↦[arg12.view.set]{fullShare} (harg12.unread (ptP (i 1).val (start i (wordP s0)) (ctxP q d t) K V A B).2.2)))) := by
  have h := (bodyFirst 𝒱 c bd i arg2 harg2 arg3 harg3 arg4 harg4 arg5 harg5 arg6 harg6 arg7 harg7 arg8 harg8 arg9 harg9 arg10 harg10 arg11 harg11 arg12 harg12 (harg2.unread q) (harg3.unread K) (harg4.unread V) (harg5.unread d) (harg6.unread t) (harg7.unread s0) hi).2.2.2 E f8 f11 f12
  rw [first_8, first_11, first_12] at h
  rw [firstW_lift (hi := hi) (s0 := s0) (A := A) (B := B)] at h
  simp only [putWhole arg8 harg8 f8 _ _ zero2] at h
  refine BIBase.Entails.trans (Q := iprop(((arg2.view.loc (c : Thread nD τ) ↦[arg2.view.set]{fullShare} (harg2.unread q)) ∗ (arg3.view.loc (c : Thread nD τ) ↦[arg3.view.set]{fullShare} (harg3.unread K)) ∗ (arg4.view.loc (c : Thread nD τ) ↦[arg4.view.set]{fullShare} (harg4.unread V)) ∗ (arg5.view.loc (c : Thread nD τ) ↦[arg5.view.set]{fullShare} (harg5.unread d)) ∗ (arg6.view.loc (c : Thread nD τ) ↦[arg6.view.set]{fullShare} (harg6.unread t)) ∗ (arg7.view.loc (c : Thread nD τ) ↦[arg7.view.set]{fullShare} (harg7.unread s0)) ∗ (arg8.view.loc (c : Thread nD τ) ↦[arg8.view.set]{fullShare} f8) ∗ (arg11.view.loc (c : Thread nD τ) ↦[arg11.view.set]{fullShare} f11) ∗ (arg12.view.loc (c : Thread nD τ) ↦[arg12.view.set]{fullShare} f12)) ∗ (arg9.view.loc (c : Thread nD τ) ↦[arg9.view.set]{fullShare} f9) ∗ (arg10.view.loc (c : Thread nD τ) ↦[arg10.view.set]{fullShare} f10))) ?_ ((BI.sep_mono_l h).trans ((wp_frame_r _ _ _ (R := iprop((arg9.view.loc (c : Thread nD τ) ↦[arg9.view.set]{fullShare} f9) ∗ (arg10.view.loc (c : Thread nD τ) ↦[arg10.view.set]{fullShare} f10)))).trans (wp_mono _ _ _ fun _ => ?_)))
  · iintro ⟨H2, H3, H4, H5, H6, H7, H8, H9, H10, H11, H12⟩
    isplitl [H2 H3 H4 H5 H6 H7 H8 H11 H12]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H11]; · iexact H11
      iexact H12
    isplitl [H9]; · iexact H9
    iexact H10
  · iintro ⟨⟨H2, H3, H4, H5, H6, H7, H8, H11, H12⟩, H9, H10⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- A middle point. -/
theorem step_mid (hi : (i 1).val ≠ 0) (h31 : (i 1).val ≠ 31) (A B : Vec F S8192x128 .f32) :
    (iprop((arg2.view.loc (c : Thread nD τ) ↦[arg2.view.set]{fullShare} (harg2.unread q)) ∗ (arg3.view.loc (c : Thread nD τ) ↦[arg3.view.set]{fullShare} (harg3.unread K)) ∗ (arg4.view.loc (c : Thread nD τ) ↦[arg4.view.set]{fullShare} (harg4.unread V)) ∗ (arg5.view.loc (c : Thread nD τ) ↦[arg5.view.set]{fullShare} (harg5.unread d)) ∗ (arg6.view.loc (c : Thread nD τ) ↦[arg6.view.set]{fullShare} (harg6.unread t)) ∗ (arg7.view.loc (c : Thread nD τ) ↦[arg7.view.set]{fullShare} (harg7.unread s0)) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} (harg11.unread A)) ∗ (arg12.view.loc (c : Thread nD τ) ↦[arg12.view.set]{fullShare} (harg12.unread B))) : sProp 𝕄)
      ⊢ wp frame (wpE (defs₀ (F := F)) 𝒱 (c : Thread nD τ) bd) E (cc0_sba_bwd (F := F) i arg2 harg2 arg3 harg3 arg4 harg4 arg5 harg5 arg6 harg6 arg7 harg7 arg8 harg8 arg9 harg9 arg10 harg10 arg11 harg11 arg12 harg12)
        (fun _ => iprop((arg2.view.loc (c : Thread nD τ) ↦[arg2.view.set]{fullShare} (harg2.unread q)) ∗ (arg3.view.loc (c : Thread nD τ) ↦[arg3.view.set]{fullShare} (harg3.unread K)) ∗ (arg4.view.loc (c : Thread nD τ) ↦[arg4.view.set]{fullShare} (harg4.unread V)) ∗ (arg5.view.loc (c : Thread nD τ) ↦[arg5.view.set]{fullShare} (harg5.unread d)) ∗ (arg6.view.loc (c : Thread nD τ) ↦[arg6.view.set]{fullShare} (harg6.unread t)) ∗ (arg7.view.loc (c : Thread nD τ) ↦[arg7.view.set]{fullShare} (harg7.unread s0)) ∗ (arg8.view.loc (c : Thread nD τ) ↦[arg8.view.set]{fullShare} (harg8.unread (dqOf (ptP (i 1).val (start i (wordP s0)) (ctxP q d t) K V A B).1))) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} (harg11.unread (ptP (i 1).val (start i (wordP s0)) (ctxP q d t) K V A B).2.1)) ∗ (arg12.view.loc (c : Thread nD τ) ↦[arg12.view.set]{fullShare} (harg12.unread (ptP (i 1).val (start i (wordP s0)) (ctxP q d t) K V A B).2.2)))) := by
  have h := (bodyMid 𝒱 c bd i arg2 harg2 arg3 harg3 arg4 harg4 arg5 harg5 arg6 harg6 arg7 harg7 arg8 harg8 arg9 harg9 arg10 harg10 arg11 harg11 arg12 harg12 (harg2.unread q) (harg3.unread K) (harg4.unread V) (harg5.unread d) (harg6.unread t) (harg7.unread s0) hi h31).2.2.2 E f8 (harg11.unread A) (harg12.unread B)
  rw [mid_8, mid_11, mid_12] at h
  rw [finalW_lift (hi := hi)] at h
  simp only [putWhole arg8 harg8 f8 _ _ zero2] at h
  refine BIBase.Entails.trans (Q := iprop(((arg2.view.loc (c : Thread nD τ) ↦[arg2.view.set]{fullShare} (harg2.unread q)) ∗ (arg3.view.loc (c : Thread nD τ) ↦[arg3.view.set]{fullShare} (harg3.unread K)) ∗ (arg4.view.loc (c : Thread nD τ) ↦[arg4.view.set]{fullShare} (harg4.unread V)) ∗ (arg5.view.loc (c : Thread nD τ) ↦[arg5.view.set]{fullShare} (harg5.unread d)) ∗ (arg6.view.loc (c : Thread nD τ) ↦[arg6.view.set]{fullShare} (harg6.unread t)) ∗ (arg7.view.loc (c : Thread nD τ) ↦[arg7.view.set]{fullShare} (harg7.unread s0)) ∗ (arg8.view.loc (c : Thread nD τ) ↦[arg8.view.set]{fullShare} f8) ∗ (arg11.view.loc (c : Thread nD τ) ↦[arg11.view.set]{fullShare} (harg11.unread A)) ∗ (arg12.view.loc (c : Thread nD τ) ↦[arg12.view.set]{fullShare} (harg12.unread B))) ∗ (arg9.view.loc (c : Thread nD τ) ↦[arg9.view.set]{fullShare} f9) ∗ (arg10.view.loc (c : Thread nD τ) ↦[arg10.view.set]{fullShare} f10))) ?_ ((BI.sep_mono_l h).trans ((wp_frame_r _ _ _ (R := iprop((arg9.view.loc (c : Thread nD τ) ↦[arg9.view.set]{fullShare} f9) ∗ (arg10.view.loc (c : Thread nD τ) ↦[arg10.view.set]{fullShare} f10)))).trans (wp_mono _ _ _ fun _ => ?_)))
  · iintro ⟨H2, H3, H4, H5, H6, H7, H8, H9, H10, H11, H12⟩
    isplitl [H2 H3 H4 H5 H6 H7 H8 H11 H12]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H11]; · iexact H11
      iexact H12
    isplitl [H9]; · iexact H9
    iexact H10
  · iintro ⟨⟨H2, H3, H4, H5, H6, H7, H8, H11, H12⟩, H9, H10⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- A last point. -/
theorem step_last (h31 : (i 1).val = 31) (A B : Vec F S8192x128 .f32) :
    (iprop((arg2.view.loc (c : Thread nD τ) ↦[arg2.view.set]{fullShare} (harg2.unread q)) ∗ (arg3.view.loc (c : Thread nD τ) ↦[arg3.view.set]{fullShare} (harg3.unread K)) ∗ (arg4.view.loc (c : Thread nD τ) ↦[arg4.view.set]{fullShare} (harg4.unread V)) ∗ (arg5.view.loc (c : Thread nD τ) ↦[arg5.view.set]{fullShare} (harg5.unread d)) ∗ (arg6.view.loc (c : Thread nD τ) ↦[arg6.view.set]{fullShare} (harg6.unread t)) ∗ (arg7.view.loc (c : Thread nD τ) ↦[arg7.view.set]{fullShare} (harg7.unread s0)) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} (harg11.unread A)) ∗ (arg12.view.loc (c : Thread nD τ) ↦[arg12.view.set]{fullShare} (harg12.unread B))) : sProp 𝕄)
      ⊢ wp frame (wpE (defs₀ (F := F)) 𝒱 (c : Thread nD τ) bd) E (cc0_sba_bwd (F := F) i arg2 harg2 arg3 harg3 arg4 harg4 arg5 harg5 arg6 harg6 arg7 harg7 arg8 harg8 arg9 harg9 arg10 harg10 arg11 harg11 arg12 harg12)
        (fun _ => iprop((arg2.view.loc (c : Thread nD τ) ↦[arg2.view.set]{fullShare} (harg2.unread q)) ∗ (arg3.view.loc (c : Thread nD τ) ↦[arg3.view.set]{fullShare} (harg3.unread K)) ∗ (arg4.view.loc (c : Thread nD τ) ↦[arg4.view.set]{fullShare} (harg4.unread V)) ∗ (arg5.view.loc (c : Thread nD τ) ↦[arg5.view.set]{fullShare} (harg5.unread d)) ∗ (arg6.view.loc (c : Thread nD τ) ↦[arg6.view.set]{fullShare} (harg6.unread t)) ∗ (arg7.view.loc (c : Thread nD τ) ↦[arg7.view.set]{fullShare} (harg7.unread s0)) ∗ (arg8.view.loc (c : Thread nD τ) ↦[arg8.view.set]{fullShare} (harg8.unread (dqOf (ptP (i 1).val (start i (wordP s0)) (ctxP q d t) K V A B).1))) ∗ (arg9.view.loc (c : Thread nD τ) ↦[arg9.view.set]{fullShare} (harg9.unread (k0_pay2 (ptP (i 1).val (start i (wordP s0)) (ctxP q d t) K V A B).2.1))) ∗ (arg10.view.loc (c : Thread nD τ) ↦[arg10.view.set]{fullShare} (harg10.unread (k0_pay3 (ptP (i 1).val (start i (wordP s0)) (ctxP q d t) K V A B).2.2))) ∗ (arg11.view.loc (c : Thread nD τ) ↦[arg11.view.set]{fullShare} (harg11.unread (ptP (i 1).val (start i (wordP s0)) (ctxP q d t) K V A B).2.1)) ∗ (arg12.view.loc (c : Thread nD τ) ↦[arg12.view.set]{fullShare} (harg12.unread (ptP (i 1).val (start i (wordP s0)) (ctxP q d t) K V A B).2.2)))) := by
  have hi : (i 1).val ≠ 0 := fun h => absurd (h.symm.trans h31) (by decide)
  have h := (bodyLast 𝒱 c bd i arg2 harg2 arg3 harg3 arg4 harg4 arg5 harg5 arg6 harg6 arg7 harg7 arg8 harg8 arg9 harg9 arg10 harg10 arg11 harg11 arg12 harg12 (harg2.unread q) (harg3.unread K) (harg4.unread V) (harg5.unread d) (harg6.unread t) (harg7.unread s0) h31).2.2.2.2.2 E f8 f9 f10 (harg11.unread A) (harg12.unread B)
  rw [last_8, last_9, last_10, last_11, last_12] at h
  rw [finalW_lift (hi := hi)] at h
  simp only [putWhole arg8 harg8 f8 _ _ zero2, putWhole arg9 harg9 f9 _ _ zero2, putWhole arg10 harg10 f10 _ _ zero2,
    readWhole arg11 harg11 _ _ zero2, readWhole arg12 harg12 _ _ zero2] at h
  refine BIBase.Entails.trans ?_ (h.trans (wp_mono _ _ _ fun _ => ?_))
  · iintro ⟨H2, H3, H4, H5, H6, H7, H8, H9, H10, H11, H12⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iintro ⟨H2, H3, H4, H5, H6, H7, H8, H9, H10, H11, H12⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

end

end Cert.KernelIdeal.Grad

end
-- ==== Proof.Point.lean ====
/- The pipeline's proof data and the run of the whole program. -/
module

public import proofs.«01_k».proof.Proof.Step
public import proofs.«01_k».proof.Proof.Gen.KernelIdeal.Frame
public import Idealize.ShloMosaic.Lib.Pipeline.KitQuiescent

@[expose] public section

set_option maxRecDepth 16384
set_option maxHeartbeats 8000000

noncomputable section

namespace Cert.KernelIdeal.Grad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx (ix2 eq_ix2)
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none

theorem coord_1 : ∀ t : Fin cfg0.N, (grid0.coords t 1).val = t.val % 32 :=
  (by decide +kernel : ∀ t : Fin grid0.N, (grid0.coords t 1).val = t.val % 32)

theorem idle_7 (t : Fin cfg0.N) (h : t.val % 32 ≠ 31) : cfg0.idle 7 (cfg0.grid.coords t) = true := by
  have h' : ¬ (k0_cond3 (grid0.coords t) = 1#1) := fun e => h ((coord_1 t).symm.trans ((cond3_iff _).mp e))
  show (!(k0_cond3 (grid0.coords t) == 1#1)) = true
  rw [Bool.not_eq_true', beq_eq_false_iff_ne]; exact h'

theorem idle_8 (t : Fin cfg0.N) (h : t.val % 32 ≠ 31) : cfg0.idle 8 (cfg0.grid.coords t) = true := idle_7 t h

theorem active_7 (t : Fin cfg0.N) (h : t.val % 32 = 31) : cfg0.idle 7 (cfg0.grid.coords t) = false := by
  have h' : k0_cond3 (grid0.coords t) = 1#1 := (cond3_iff _).mpr ((coord_1 t).trans h)
  show (!(k0_cond3 (grid0.coords t) == 1#1)) = false
  rw [h']; rfl

theorem active_8 (t : Fin cfg0.N) (h : t.val % 32 = 31) : cfg0.idle 8 (cfg0.grid.coords t) = false := active_7 t h

/-- What point `t` makes of the accumulators. -/
def pointP (c : Dev nD) (t : Fin cfg0.N) (AB : Vec F S8192x128 .f32 × Vec F S8192x128 .f32) : WalkP F :=
  ptP (grid0.coords t 1).val (start (grid0.coords t) (wordP (iblk m c 5 t))) (ctxP (iblk m c 0 t) (iblk m c 3 t) (iblk m c 4 t))
    (iblk m c 1 t) (iblk m c 2 t) AB.1 AB.2

/-- The accumulators before point `n`. -/
def accs (c : Dev nD) : ℕ → Vec F S8192x128 .f32 × Vec F S8192x128 .f32
  | 0 => (k0_pay123, k0_pay124)
  | n + 1 => if h : n < cfg0.N then (pointP m c ⟨n, h⟩ (accs c n)).2 else accs c n

theorem accs_next (c : Dev nD) (t : Fin cfg0.N) : accs m c (t.val + 1) = (pointP m c t (accs m c t.val)).2 := by
  show (if h : t.val < cfg0.N then (pointP m c ⟨t.val, h⟩ (accs m c t.val)).2 else accs m c t.val) = _
  rw [dif_pos t.isLt]

/-- Before point `n`: the accumulators, of known contents inside a pair of heads, and the generator register. -/
def Phi (c : Dev nD) (n : ℕ) : sProp 𝕄 :=
  iprop((∃ (f11 : BufTy.Contents (Elt F) (Memref.whole cc0_scratch0 : Memref sig .tc .vmem S8192x128 .f32).view.ty) (f12 : BufTy.Contents (Elt F) (Memref.whole cc0_scratch1 : Memref sig .tc .vmem S8192x128 .f32).view.ty),
      ⌜n % 32 ≠ 0 → f11 = (Memref.isWhole_whole cc0_scratch0).unread (accs m c n).1 ∧ f12 = (Memref.isWhole_whole cc0_scratch1).unread (accs m c n).2⌝
      ∗ ((Memref.whole cc0_scratch0).view.loc (c : Thread nD τ) ↦[(Memref.whole cc0_scratch0).view.set]{fullShare} f11) ∗ ((Memref.whole cc0_scratch1).view.loc (c : Thread nD τ) ↦[(Memref.whole cc0_scratch1).view.set]{fullShare} f12))
    ∗ ∃ r, prngReg c r)

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqOf (pointP m c t (accs m c t.val)).1
    | ⟨7, _⟩ => k0_pay2 (pointP m c t (accs m c t.val)).2.1
    | ⟨8, _⟩ => k0_pay3 (pointP m c t (accs m c t.val)).2.2
  Φ t := Phi m c t.val
  q w := Pipeline.shareOf spec0 w
  owed _ := 0

theorem before_0 (c : Dev nD) (t : Fin cfg0.N) (d) : (dats m 0 c).before 0 t d = iblk m c 0 t := before0_0_of m (dats m 0 c) rfl (fun _ => rfl) t d
theorem before_1 (c : Dev nD) (t : Fin cfg0.N) (d) : (dats m 0 c).before 1 t d = iblk m c 1 t := before0_1_of m (dats m 0 c) rfl (fun _ => rfl) t d
theorem before_2 (c : Dev nD) (t : Fin cfg0.N) (d) : (dats m 0 c).before 2 t d = iblk m c 2 t := before0_2_of m (dats m 0 c) rfl (fun _ => rfl) t d
theorem before_3 (c : Dev nD) (t : Fin cfg0.N) (d) : (dats m 0 c).before 3 t d = iblk m c 3 t := before0_3_of m (dats m 0 c) rfl (fun _ => rfl) t d
theorem before_4 (c : Dev nD) (t : Fin cfg0.N) (d) : (dats m 0 c).before 4 t d = iblk m c 4 t := before0_4_of m (dats m 0 c) rfl (fun _ => rfl) t d
theorem before_5 (c : Dev nD) (t : Fin cfg0.N) (d) : (dats m 0 c).before 5 t d = iblk m c 5 t := before0_5_of m (dats m 0 c) rfl (fun _ => rfl) t d

theorem accs_succ (c : Dev nD) (t : Fin cfg0.N) :
    (Memref.isWhole_whole cc0_scratch0).unread (pointP m c t (accs m c t.val)).2.1 = (Memref.isWhole_whole cc0_scratch0).unread (accs m c (t.val + 1)).1
    ∧ (Memref.isWhole_whole cc0_scratch1).unread (pointP m c t (accs m c t.val)).2.2 = (Memref.isWhole_whole cc0_scratch1).unread (accs m c (t.val + 1)).2 := by
  rw [accs_next]; exact ⟨rfl, rfl⟩

/-- What the body leaves in window `w`'s buffer. -/
def leave (c : Dev nD) (t : Fin cfg0.N) (w : Fin cfg0.W) : sProp 𝕄 :=
  match cfg0.idle w (cfg0.grid.coords t) with
  | true => match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

/-- The body's obligation at a query tile's first point. -/
theorem body_first (c : Dev nD) (t : Fin cfg0.N) (ht : t.val % 32 = 0) :
    iprop((dats m 0 c).Φ t.castSucc ∗ (dats m 0 c).owesAt () t.castSucc ∗ bigSep Finset.univ (fun w : Fin cfg0.W => iprop(∃ d, owns (c : Thread nD τ) ((cfg0.win w).stage (cfg0.slots t w)) fullShare ((dats m 0 c).before w t d))))
      ⊢ wp frame (wpE (defs₀ (F := F)) 𝒱₀ (c : Thread nD τ) none) Set.univ (bodyAt0 t) fun _ =>
        iprop((dats m 0 c).Φ t.succ ∗ (dats m 0 c).owesAt () t.succ ∗ bigSep Finset.univ (fun w : Fin cfg0.W => leave m c t w)) := by
  have hc := coord_1 t
  have hid7 : cfg0.idle 7 (cfg0.grid.coords t) = true := idle_7 t (by omega)
  have hid8 : cfg0.idle 8 (cfg0.grid.coords t) = true := idle_8 t (by omega)
  have hfl7 : (cfg0.win 7).flush t = false := Bool.eq_false_iff.mpr fun h => absurd ((flush0_7 t).mp h) (by omega)
  have hfl8 : (cfg0.win 8).flush t = false := Bool.eq_false_iff.mpr fun h => absurd ((flush0_8 t).mp h) (by omega)
  have hl7 : leave m c t 7 = iprop(∃ d, owns (c : Thread nD τ) ((cfg0.win 7).stage (cfg0.slots t 7)) fullShare ((dats m 0 c).before 7 t d)) := by unfold leave; rw [hid7, hfl7]
  have hl8 : leave m c t 8 = iprop(∃ d, owns (c : Thread nD τ) ((cfg0.win 8).stage (cfg0.slots t 8)) fullShare ((dats m 0 c).before 8 t d)) := by unfold leave; rw [hid8, hfl8]
  rw [bigSep_W0, bigSep_W0, hl7, hl8]
  have hl (w : Fin 9) (hw : cfg0.idle w (cfg0.grid.coords t) = false) : leave m c t w = owns (c : Thread nD τ) ((cfg0.win w).stage (cfg0.slots t w)) fullShare ((dats m 0 c).after w t) := by unfold leave; rw [hw]
  rw [hl 0 rfl, hl 1 rfl, hl 2 rfl, hl 3 rfl, hl 4 rfl, hl 5 rfl, hl 6 rfl]
  rw [show (dats m 0 c).Φ t.castSucc = Phi m c t.val from rfl, show (dats m 0 c).Φ t.succ = Phi m c (t.val + 1) from rfl, show (dats m 0 c).owesAt () t.succ = (dats m 0 c).owesAt () t.castSucc from rfl]
  unfold Phi owns
  iintro ⟨⟨⟨%f11, %f12, %hacc, H11, H12⟩, Hg⟩, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩⟩
  rw [before_0] at hf0
  obtain rfl := (hstage0_0 ((cfg0.slots t 0).cast nbuf0_0)).eq_unread hf0
  rw [before_1] at hf1
  obtain rfl := (hstage0_1 ((cfg0.slots t 1).cast nbuf0_1)).eq_unread hf1
  rw [before_2] at hf2
  obtain rfl := (hstage0_2 ((cfg0.slots t 2).cast nbuf0_2)).eq_unread hf2
  rw [before_3] at hf3
  obtain rfl := (hstage0_3 ((cfg0.slots t 3).cast nbuf0_3)).eq_unread hf3
  rw [before_4] at hf4
  obtain rfl := (hstage0_4 ((cfg0.slots t 4).cast nbuf0_4)).eq_unread hf4
  rw [before_5] at hf5
  obtain rfl := (hstage0_5 ((cfg0.slots t 5).cast nbuf0_5)).eq_unread hf5
  have K := step_first 𝒱₀ c none (grid0.coords t) ((cfg0.win 0).stage (cfg0.slots t 0)) (hstage0_0 ((cfg0.slots t 0).cast nbuf0_0)) ((cfg0.win 1).stage (cfg0.slots t 1)) (hstage0_1 ((cfg0.slots t 1).cast nbuf0_1)) ((cfg0.win 2).stage (cfg0.slots t 2)) (hstage0_2 ((cfg0.slots t 2).cast nbuf0_2)) ((cfg0.win 3).stage (cfg0.slots t 3)) (hstage0_3 ((cfg0.slots t 3).cast nbuf0_3)) ((cfg0.win 4).stage (cfg0.slots t 4)) (hstage0_4 ((cfg0.slots t 4).cast nbuf0_4)) ((cfg0.win 5).stage (cfg0.slots t 5)) (hstage0_5 ((cfg0.slots t 5).cast nbuf0_5)) ((cfg0.win 6).stage (cfg0.slots t 6)) (hstage0_6 ((cfg0.slots t 6).cast nbuf0_6)) ((cfg0.win 7).stage (cfg0.slots t 7)) (hstage0_7 ((cfg0.slots t 7).cast nbuf0_7)) ((cfg0.win 8).stage (cfg0.slots t 8)) (hstage0_8 ((cfg0.slots t 8).cast nbuf0_8)) (Memref.whole cc0_scratch0) (Memref.isWhole_whole _) (Memref.whole cc0_scratch1) (Memref.isWhole_whole _)
    (iblk m c 0 t) (iblk m c 1 t) (iblk m c 2 t) (iblk m c 3 t) (iblk m c 4 t) (iblk m c 5 t) Set.univ f6 f7 f8 (hc.trans ht) (accs m c t.val).1 (accs m c t.val).2 f11 f12
  iapply (wp_wand_r _ _ _)
  isplitl [H0 H1 H2 H3 H4 H5 H6 H7 H8 H11 H12]
  · iapply K
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H11]; · iexact H11
    iexact H12
  iintro %a ⟨H0, H1, H2, H3, H4, H5, H6, H7, H8, H11, H12⟩
  isplitl [H11 H12 Hg]
  · isplitr [Hg]
    · iexists _; iexists _
      isplitr; swap
      · isplitl [H11]; · iexact H11
        iexact H12
      ipureintro; intro _; exact accs_succ m c t
    · iexact Hg
  isplitl [Howes]; · iexact Howes
  isplitl [H0]; · iexists _; isplitr; swap; (· iexact H0); ipureintro; exact (hstage0_0 ((cfg0.slots t 0).cast nbuf0_0)).read_unread _
  isplitl [H1]; · iexists _; isplitr; swap; (· iexact H1); ipureintro; exact (hstage0_1 ((cfg0.slots t 1).cast nbuf0_1)).read_unread _
  isplitl [H2]; · iexists _; isplitr; swap; (· iexact H2); ipureintro; exact (hstage0_2 ((cfg0.slots t 2).cast nbuf0_2)).read_unread _
  isplitl [H3]; · iexists _; isplitr; swap; (· iexact H3); ipureintro; exact (hstage0_3 ((cfg0.slots t 3).cast nbuf0_3)).read_unread _
  isplitl [H4]; · iexists _; isplitr; swap; (· iexact H4); ipureintro; exact (hstage0_4 ((cfg0.slots t 4).cast nbuf0_4)).read_unread _
  isplitl [H5]; · iexists _; isplitr; swap; (· iexact H5); ipureintro; exact (hstage0_5 ((cfg0.slots t 5).cast nbuf0_5)).read_unread _
  isplitl [H6]; · iexists _; isplitr; swap; (· iexact H6); ipureintro; exact (hstage0_6 ((cfg0.slots t 6).cast nbuf0_6)).read_unread _
  isplitl [H7]; · iexists d7; iexists _; isplitr; swap; (· iexact H7); ipureintro; exact hf7
  iexists d8; iexists _; isplitr; swap; (· iexact H8); ipureintro; exact hf8

/-- The body's obligation at a query tile's middle points. -/
theorem body_mid (c : Dev nD) (t : Fin cfg0.N) (ht : t.val % 32 ≠ 0) (ht' : t.val % 32 ≠ 31) :
    iprop((dats m 0 c).Φ t.castSucc ∗ (dats m 0 c).owesAt () t.castSucc ∗ bigSep Finset.univ (fun w : Fin cfg0.W => iprop(∃ d, owns (c : Thread nD τ) ((cfg0.win w).stage (cfg0.slots t w)) fullShare ((dats m 0 c).before w t d))))
      ⊢ wp frame (wpE (defs₀ (F := F)) 𝒱₀ (c : Thread nD τ) none) Set.univ (bodyAt0 t) fun _ =>
        iprop((dats m 0 c).Φ t.succ ∗ (dats m 0 c).owesAt () t.succ ∗ bigSep Finset.univ (fun w : Fin cfg0.W => leave m c t w)) := by
  have hc := coord_1 t
  have hid7 : cfg0.idle 7 (cfg0.grid.coords t) = true := idle_7 t (by omega)
  have hid8 : cfg0.idle 8 (cfg0.grid.coords t) = true := idle_8 t (by omega)
  have hfl7 : (cfg0.win 7).flush t = false := Bool.eq_false_iff.mpr fun h => absurd ((flush0_7 t).mp h) (by omega)
  have hfl8 : (cfg0.win 8).flush t = false := Bool.eq_false_iff.mpr fun h => absurd ((flush0_8 t).mp h) (by omega)
  have hl7 : leave m c t 7 = iprop(∃ d, owns (c : Thread nD τ) ((cfg0.win 7).stage (cfg0.slots t 7)) fullShare ((dats m 0 c).before 7 t d)) := by unfold leave; rw [hid7, hfl7]
  have hl8 : leave m c t 8 = iprop(∃ d, owns (c : Thread nD τ) ((cfg0.win 8).stage (cfg0.slots t 8)) fullShare ((dats m 0 c).before 8 t d)) := by unfold leave; rw [hid8, hfl8]
  rw [bigSep_W0, bigSep_W0, hl7, hl8]
  have hl (w : Fin 9) (hw : cfg0.idle w (cfg0.grid.coords t) = false) : leave m c t w = owns (c : Thread nD τ) ((cfg0.win w).stage (cfg0.slots t w)) fullShare ((dats m 0 c).after w t) := by unfold leave; rw [hw]
  rw [hl 0 rfl, hl 1 rfl, hl 2 rfl, hl 3 rfl, hl 4 rfl, hl 5 rfl, hl 6 rfl]
  rw [show (dats m 0 c).Φ t.castSucc = Phi m c t.val from rfl, show (dats m 0 c).Φ t.succ = Phi m c (t.val + 1) from rfl, show (dats m 0 c).owesAt () t.succ = (dats m 0 c).owesAt () t.castSucc from rfl]
  unfold Phi owns
  iintro ⟨⟨⟨%f11, %f12, %hacc, H11, H12⟩, Hg⟩, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩⟩
  rw [before_0] at hf0
  obtain rfl := (hstage0_0 ((cfg0.slots t 0).cast nbuf0_0)).eq_unread hf0
  rw [before_1] at hf1
  obtain rfl := (hstage0_1 ((cfg0.slots t 1).cast nbuf0_1)).eq_unread hf1
  rw [before_2] at hf2
  obtain rfl := (hstage0_2 ((cfg0.slots t 2).cast nbuf0_2)).eq_unread hf2
  rw [before_3] at hf3
  obtain rfl := (hstage0_3 ((cfg0.slots t 3).cast nbuf0_3)).eq_unread hf3
  rw [before_4] at hf4
  obtain rfl := (hstage0_4 ((cfg0.slots t 4).cast nbuf0_4)).eq_unread hf4
  rw [before_5] at hf5
  obtain rfl := (hstage0_5 ((cfg0.slots t 5).cast nbuf0_5)).eq_unread hf5
  obtain ⟨rfl, rfl⟩ := hacc (by omega)
  have K := step_mid 𝒱₀ c none (grid0.coords t) ((cfg0.win 0).stage (cfg0.slots t 0)) (hstage0_0 ((cfg0.slots t 0).cast nbuf0_0)) ((cfg0.win 1).stage (cfg0.slots t 1)) (hstage0_1 ((cfg0.slots t 1).cast nbuf0_1)) ((cfg0.win 2).stage (cfg0.slots t 2)) (hstage0_2 ((cfg0.slots t 2).cast nbuf0_2)) ((cfg0.win 3).stage (cfg0.slots t 3)) (hstage0_3 ((cfg0.slots t 3).cast nbuf0_3)) ((cfg0.win 4).stage (cfg0.slots t 4)) (hstage0_4 ((cfg0.slots t 4).cast nbuf0_4)) ((cfg0.win 5).stage (cfg0.slots t 5)) (hstage0_5 ((cfg0.slots t 5).cast nbuf0_5)) ((cfg0.win 6).stage (cfg0.slots t 6)) (hstage0_6 ((cfg0.slots t 6).cast nbuf0_6)) ((cfg0.win 7).stage (cfg0.slots t 7)) (hstage0_7 ((cfg0.slots t 7).cast nbuf0_7)) ((cfg0.win 8).stage (cfg0.slots t 8)) (hstage0_8 ((cfg0.slots t 8).cast nbuf0_8)) (Memref.whole cc0_scratch0) (Memref.isWhole_whole _) (Memref.whole cc0_scratch1) (Memref.isWhole_whole _)
    (iblk m c 0 t) (iblk m c 1 t) (iblk m c 2 t) (iblk m c 3 t) (iblk m c 4 t) (iblk m c 5 t) Set.univ f6 f7 f8 (fun h => ht (hc.symm.trans h)) (fun h => ht' (hc.symm.trans h)) (accs m c t.val).1 (accs m c t.val).2
  iapply (wp_wand_r _ _ _)
  isplitl [H0 H1 H2 H3 H4 H5 H6 H7 H8 H11 H12]
  · iapply K
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H11]; · iexact H11
    iexact H12
  iintro %a ⟨H0, H1, H2, H3, H4, H5, H6, H7, H8, H11, H12⟩
  isplitl [H11 H12 Hg]
  · isplitr [Hg]
    · iexists _; iexists _
      isplitr; swap
      · isplitl [H11]; · iexact H11
        iexact H12
      ipureintro; intro _; exact accs_succ m c t
    · iexact Hg
  isplitl [Howes]; · iexact Howes
  isplitl [H0]; · iexists _; isplitr; swap; (· iexact H0); ipureintro; exact (hstage0_0 ((cfg0.slots t 0).cast nbuf0_0)).read_unread _
  isplitl [H1]; · iexists _; isplitr; swap; (· iexact H1); ipureintro; exact (hstage0_1 ((cfg0.slots t 1).cast nbuf0_1)).read_unread _
  isplitl [H2]; · iexists _; isplitr; swap; (· iexact H2); ipureintro; exact (hstage0_2 ((cfg0.slots t 2).cast nbuf0_2)).read_unread _
  isplitl [H3]; · iexists _; isplitr; swap; (· iexact H3); ipureintro; exact (hstage0_3 ((cfg0.slots t 3).cast nbuf0_3)).read_unread _
  isplitl [H4]; · iexists _; isplitr; swap; (· iexact H4); ipureintro; exact (hstage0_4 ((cfg0.slots t 4).cast nbuf0_4)).read_unread _
  isplitl [H5]; · iexists _; isplitr; swap; (· iexact H5); ipureintro; exact (hstage0_5 ((cfg0.slots t 5).cast nbuf0_5)).read_unread _
  isplitl [H6]; · iexists _; isplitr; swap; (· iexact H6); ipureintro; exact (hstage0_6 ((cfg0.slots t 6).cast nbuf0_6)).read_unread _
  isplitl [H7]; · iexists d7; iexists _; isplitr; swap; (· iexact H7); ipureintro; exact hf7
  iexists d8; iexists _; isplitr; swap; (· iexact H8); ipureintro; exact hf8

/-- The body's obligation at a query tile's last point. -/
theorem body_last (c : Dev nD) (t : Fin cfg0.N) (ht : t.val % 32 = 31) :
    iprop((dats m 0 c).Φ t.castSucc ∗ (dats m 0 c).owesAt () t.castSucc ∗ bigSep Finset.univ (fun w : Fin cfg0.W => iprop(∃ d, owns (c : Thread nD τ) ((cfg0.win w).stage (cfg0.slots t w)) fullShare ((dats m 0 c).before w t d))))
      ⊢ wp frame (wpE (defs₀ (F := F)) 𝒱₀ (c : Thread nD τ) none) Set.univ (bodyAt0 t) fun _ =>
        iprop((dats m 0 c).Φ t.succ ∗ (dats m 0 c).owesAt () t.succ ∗ bigSep Finset.univ (fun w : Fin cfg0.W => leave m c t w)) := by
  have hc := coord_1 t
  have hid7 : cfg0.idle 7 (cfg0.grid.coords t) = false := active_7 t ht
  have hid8 : cfg0.idle 8 (cfg0.grid.coords t) = false := active_8 t ht
  have hl7 : leave m c t 7 = owns (c : Thread nD τ) ((cfg0.win 7).stage (cfg0.slots t 7)) fullShare ((dats m 0 c).after 7 t) := by unfold leave; rw [hid7]
  have hl8 : leave m c t 8 = owns (c : Thread nD τ) ((cfg0.win 8).stage (cfg0.slots t 8)) fullShare ((dats m 0 c).after 8 t) := by unfold leave; rw [hid8]
  rw [bigSep_W0, bigSep_W0, hl7, hl8]
  have hl (w : Fin 9) (hw : cfg0.idle w (cfg0.grid.coords t) = false) : leave m c t w = owns (c : Thread nD τ) ((cfg0.win w).stage (cfg0.slots t w)) fullShare ((dats m 0 c).after w t) := by unfold leave; rw [hw]
  rw [hl 0 rfl, hl 1 rfl, hl 2 rfl, hl 3 rfl, hl 4 rfl, hl 5 rfl, hl 6 rfl]
  rw [show (dats m 0 c).Φ t.castSucc = Phi m c t.val from rfl, show (dats m 0 c).Φ t.succ = Phi m c (t.val + 1) from rfl, show (dats m 0 c).owesAt () t.succ = (dats m 0 c).owesAt () t.castSucc from rfl]
  unfold Phi owns
  iintro ⟨⟨⟨%f11, %f12, %hacc, H11, H12⟩, Hg⟩, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩⟩
  rw [before_0] at hf0
  obtain rfl := (hstage0_0 ((cfg0.slots t 0).cast nbuf0_0)).eq_unread hf0
  rw [before_1] at hf1
  obtain rfl := (hstage0_1 ((cfg0.slots t 1).cast nbuf0_1)).eq_unread hf1
  rw [before_2] at hf2
  obtain rfl := (hstage0_2 ((cfg0.slots t 2).cast nbuf0_2)).eq_unread hf2
  rw [before_3] at hf3
  obtain rfl := (hstage0_3 ((cfg0.slots t 3).cast nbuf0_3)).eq_unread hf3
  rw [before_4] at hf4
  obtain rfl := (hstage0_4 ((cfg0.slots t 4).cast nbuf0_4)).eq_unread hf4
  rw [before_5] at hf5
  obtain rfl := (hstage0_5 ((cfg0.slots t 5).cast nbuf0_5)).eq_unread hf5
  obtain ⟨rfl, rfl⟩ := hacc (by omega)
  have K := step_last 𝒱₀ c none (grid0.coords t) ((cfg0.win 0).stage (cfg0.slots t 0)) (hstage0_0 ((cfg0.slots t 0).cast nbuf0_0)) ((cfg0.win 1).stage (cfg0.slots t 1)) (hstage0_1 ((cfg0.slots t 1).cast nbuf0_1)) ((cfg0.win 2).stage (cfg0.slots t 2)) (hstage0_2 ((cfg0.slots t 2).cast nbuf0_2)) ((cfg0.win 3).stage (cfg0.slots t 3)) (hstage0_3 ((cfg0.slots t 3).cast nbuf0_3)) ((cfg0.win 4).stage (cfg0.slots t 4)) (hstage0_4 ((cfg0.slots t 4).cast nbuf0_4)) ((cfg0.win 5).stage (cfg0.slots t 5)) (hstage0_5 ((cfg0.slots t 5).cast nbuf0_5)) ((cfg0.win 6).stage (cfg0.slots t 6)) (hstage0_6 ((cfg0.slots t 6).cast nbuf0_6)) ((cfg0.win 7).stage (cfg0.slots t 7)) (hstage0_7 ((cfg0.slots t 7).cast nbuf0_7)) ((cfg0.win 8).stage (cfg0.slots t 8)) (hstage0_8 ((cfg0.slots t 8).cast nbuf0_8)) (Memref.whole cc0_scratch0) (Memref.isWhole_whole _) (Memref.whole cc0_scratch1) (Memref.isWhole_whole _)
    (iblk m c 0 t) (iblk m c 1 t) (iblk m c 2 t) (iblk m c 3 t) (iblk m c 4 t) (iblk m c 5 t) Set.univ f6 f7 f8 (hc.trans ht) (accs m c t.val).1 (accs m c t.val).2
  iapply (wp_wand_r _ _ _)
  isplitl [H0 H1 H2 H3 H4 H5 H6 H7 H8 H11 H12]
  · iapply K
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H11]; · iexact H11
    iexact H12
  iintro %a ⟨H0, H1, H2, H3, H4, H5, H6, H7, H8, H11, H12⟩
  isplitl [H11 H12 Hg]
  · isplitr [Hg]
    · iexists _; iexists _
      isplitr; swap
      · isplitl [H11]; · iexact H11
        iexact H12
      ipureintro; intro _; exact accs_succ m c t
    · iexact Hg
  isplitl [Howes]; · iexact Howes
  isplitl [H0]; · iexists _; isplitr; swap; (· iexact H0); ipureintro; exact (hstage0_0 ((cfg0.slots t 0).cast nbuf0_0)).read_unread _
  isplitl [H1]; · iexists _; isplitr; swap; (· iexact H1); ipureintro; exact (hstage0_1 ((cfg0.slots t 1).cast nbuf0_1)).read_unread _
  isplitl [H2]; · iexists _; isplitr; swap; (· iexact H2); ipureintro; exact (hstage0_2 ((cfg0.slots t 2).cast nbuf0_2)).read_unread _
  isplitl [H3]; · iexists _; isplitr; swap; (· iexact H3); ipureintro; exact (hstage0_3 ((cfg0.slots t 3).cast nbuf0_3)).read_unread _
  isplitl [H4]; · iexists _; isplitr; swap; (· iexact H4); ipureintro; exact (hstage0_4 ((cfg0.slots t 4).cast nbuf0_4)).read_unread _
  isplitl [H5]; · iexists _; isplitr; swap; (· iexact H5); ipureintro; exact (hstage0_5 ((cfg0.slots t 5).cast nbuf0_5)).read_unread _
  isplitl [H6]; · iexists _; isplitr; swap; (· iexact H6); ipureintro; exact (hstage0_6 ((cfg0.slots t 6).cast nbuf0_6)).read_unread _
  isplitl [H7]; · iexists _; isplitr; swap; (· iexact H7); ipureintro; exact (hstage0_7 ((cfg0.slots t 7).cast nbuf0_7)).read_unread _
  iexists _; isplitr; swap; (· iexact H8); ipureintro; exact (hstage0_8 ((cfg0.slots t 8).cast nbuf0_8)).read_unread _

theorem body_obligation (c : Dev nD) : BodyObligation (dats m 0 c) (defs₀ (F := F)) 𝒱₀ () Set.univ := fun t => by
  by_cases h0 : t.val % 32 = 0
  · exact body_first m c t h0
  by_cases h1 : t.val % 32 = 31
  · exact body_last m c t h1
  exact body_mid m c t h0 h1

end Cert.KernelIdeal.Grad

end
-- ==== Proof.Run.lean ====
/- The launch: the run of the whole program. -/
module

public import proofs.«01_k».proof.Proof.Point
public import proofs.«01_k».proof.Proof.Gen.KernelIdeal.Frame
public import Idealize.ShloMosaic.Lib.Pipeline.KitQuiescent

@[expose] public section

set_option maxRecDepth 16384
set_option maxHeartbeats 8000000

noncomputable section

namespace Cert.KernelIdeal.Grad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx (ix2 eq_ix2)
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem phi_in (c : Dev nD) : (Pipeline.ΦA spec0 c : sProp 𝕄) ⊢ (dats m 0 c).Φ 0 := by
  show _ ⊢ Phi m c 0
  unfold Pipeline.ΦA Phi
  rw [scopedRest0_eq]
  simp only [Memref.view_whole, View.set_whole]
  iintro ⟨⟨⟨%f, H0⟩, ⟨%g, H1⟩⟩, Hg⟩
  isplitr [Hg]
  · iexists f; iexists g
    isplitr; swap
    · isplitl [H0]; · iexact H0
      iexact H1
    ipureintro; intro h; exact absurd rfl h
  · iexact Hg

theorem phi_out (c : Dev nD) : (dats m 0 c).Φ (Fin.last cfg0.N) ⊢ (Pipeline.ΦA spec0 c : sProp 𝕄) := by
  show Phi m c _ ⊢ _
  unfold Pipeline.ΦA Phi
  rw [scopedRest0_eq]
  simp only [Memref.view_whole, View.set_whole]
  iintro ⟨⟨%f, %g, -, H0, H1⟩, Hg⟩
  isplitr [Hg]
  · isplitl [H0]; · iexists f; iexact H0
    iexists g; iexact H1
  · iexact Hg

/-- From any memory with zero counters the program terminates, its arrays are what the proof data says and every counter is zero. -/
theorem run_main : θ_run defs (onTc (τ := τ) (main (F := F))) (s₀ m ρ)
    (fun r => Pipeline.FramePost cfgs (dats m) 0 (V m) r ∧ r.2.sem = fun _ => 0) :=
  Pipeline.θ_run_frame_track_shared cfgs (dats m) 0 launch₀0 defs₀ 𝒱₀ m ρ main
    (fun c => (body_obligation m c).loose) (fun _ _ _ => rfl) (fun _ _ => rfl) (V m) (hmain m 𝒱₀) (fun _ _ => rfl)
    (phi_in m) (phi_out m) _ (fun _ h => h)

/-- The same, read at the arguments. -/
theorem run_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).1 2).trans (((dats m 0 c).arrAt_in 2 rfl _).trans (V_main_arg0 m c)),
      ((h.1 c).1 3).trans (((dats m 0 c).arrAt_in 3 rfl _).trans (V_main_arg1 m c))⟩, h.2⟩) (run_main m ρ)

end Cert.KernelIdeal.Grad

end
-- ==== Proof.Frames.lean ====
/- The claims that speak of termination, the arguments and the counters. -/
module

public import proofs.«01_k».proof.Defs
public import proofs.«01_k».proof.Proof.Gen.Kernel.Launch
public import proofs.«01_k».proof.Proof.Run
public import proofs.«01_k».proof.Proof.Gen.ReferenceIdeal
public import proofs.«01_k».proof.Proof.Gen.ReferenceIdeal.Run
public import Idealize.ShloMosaic.Lib.Quiescent
public import Idealize.ShloMosaic.Lib.Claim

@[expose] public section

noncomputable section

namespace Cert.Proof

open Idealize.ShloMosaic Idealize.SL.Sem

theorem preFacts : Cert.Pre_finite.Facts := ⟨by decide, by decide, by decide⟩

section
variable {F : FTy → Type} [FloatOps F]
set_option maxRecDepth 16384
set_option maxHeartbeats 8000000

theorem defs₀_eq : Cert.Kernel.defs₀ (F := F) = Cert.KernelIdeal.defs₀ := by
  unfold Cert.Kernel.defs₀ Cert.KernelIdeal.defs₀
  congr 1
  funext l x
  match l with
  | ⟨0, _⟩ => rfl
  | ⟨_ + 1, h⟩ => exact absurd h (Nat.not_lt.2 (Nat.le_add_left _ _))

theorem defs_eq : Cert.Kernel.defs (F := F) = Cert.KernelIdeal.defs := by
  unfold Cert.Kernel.defs Cert.KernelIdeal.defs
  rw [defs₀_eq]
  rfl

theorem main_eq : Cert.Kernel.main (F := F) = Cert.KernelIdeal.main := by
  funext c
  rw [Cert.Kernel.Gen.main_chain, Cert.KernelIdeal.Gen.main_chain]
  rfl

end

theorem frame_kernel : Cert.quiescent_Kernel (hKernel := Cert.Kernel.Gen.facts) := fun m g _ => by
  rw [defs_eq, main_eq]
  exact Cert.KernelIdeal.Grad.run_args (F := Bits) m g

theorem frame_ideal : Cert.quiescent_KernelIdeal (hKernelIdeal := Cert.KernelIdeal.Gen.facts) := fun m g _ =>
  Cert.KernelIdeal.Grad.run_args (F := Ideal) m g

theorem frame_ideal_pre : Cert.quiescent_KernelIdeal_pre_finite (hKernelIdeal := Cert.KernelIdeal.Gen.facts) (hPre_finite := preFacts) := fun m g _ =>
  Cert.KernelIdeal.Grad.run_args (F := Ideal) m g

theorem frame_ref : Cert.quiescent_ReferenceIdeal (hReferenceIdeal := Cert.ReferenceIdeal.Gen.facts) := fun m g _ =>
  (θ_run Cert.ReferenceIdeal.defs _ _).mono (fun r h => ⟨fun c => ⟨(h c).2.2.2.1, (h c).2.2.2.2⟩, sem_eq_zero_of_no_sems rfl r.2⟩)
    (Cert.ReferenceIdeal.Value.run (F := Ideal) m g)

theorem frame_ref_pre : Cert.quiescent_ReferenceIdeal_pre_finite (hReferenceIdeal := Cert.ReferenceIdeal.Gen.facts) (hPre_finite := preFacts) := fun m g _ =>
  frame_ref m g trivial

end Cert.Proof

end
-- ==== Proof.Reals.lean ====
/- The gradient of the attention, over the reals: one head's terms, and the identities that its two forms share. -/
module

public import Mathlib.Analysis.SpecialFunctions.Log.Basic
public import Mathlib.Algebra.BigOperators.Intervals

@[expose] public section

noncomputable section

namespace Cert.Grad

open Finset

/-- log (sigmoid z). -/
def lsR (z : ℝ) : ℝ := min z 0 - Real.log (1 + Real.exp (-|z|))

/-- log (1 - sigmoid z). -/
def lnR (z : ℝ) : ℝ := min (-z) 0 - Real.log (1 + Real.exp (-|z|))

theorem exp_ln (z : ℝ) : Real.exp (lnR z) = 1 - Real.exp (lsR z) := by
  have hp : (0 : ℝ) < 1 + Real.exp (-|z|) := by positivity
  have h : Real.exp (min (-z) 0) + Real.exp (min z 0) = 1 + Real.exp (-|z|) := by
    rcases le_total z 0 with hz | hz
    · rw [min_eq_right (by linarith), min_eq_left hz, abs_of_nonpos hz, Real.exp_zero, neg_neg]
    · rw [min_eq_left (by linarith), min_eq_right hz, abs_of_nonneg hz, Real.exp_zero, add_comm]
  unfold lnR lsR
  rw [Real.exp_sub, Real.exp_sub, Real.exp_log hp]
  field_simp
  linarith

/-- The scores of one head: a contraction over `n` columns. -/
def zR (n : ℕ) (q k : ℕ → ℕ → ℝ) (t s : ℕ) : ℝ := ∑ c ∈ range n, q t c * k s c

section
variable (z e : ℕ → ℕ → ℝ) (tot : ℕ → ℝ)

def LR (t s : ℕ) : ℝ := if s < t then lnR (z t s) else 0

def aR (t s : ℕ) : ℝ := if s < t then Real.exp (lsR (z t s) + (tot t - ∑ j ∈ range (s + 1), LR z t j)) else 0

def gR (t s : ℕ) : ℝ := aR z tot t s * e t s

def dzR (t s : ℕ) : ℝ :=
  if s < t then gR z e tot t s * (1 - Real.exp (lsR (z t s))) - (∑ j ∈ range s, gR z e tot t j) * Real.exp (lsR (z t s)) else 0

end

end Cert.Grad

end
-- ==== Proof.Sem.lean ====
/- One tile's work over the extended reals, on finite blocks. -/
module

public import proofs.«01_k».proof.Proof.Tiles
public import proofs.«01_k».proof.Proof.Reals
public import Idealize.ShloMosaic.Lib.MatmulPlain
public import Idealize.ShloMosaic.Lib.IdealHost
public import Idealize.ShloMosaic.Lib.ValueIdx
public import Idealize.ShloMosaic.Lib.Pipeline.Value

@[expose] public section

set_option maxRecDepth 65536

noncomputable section

namespace Cert.KernelIdeal.Grad

open Cert.KernelIdeal Cert.KernelIdeal.Gen Cert.Grad
open Idealize.ShloMosaic Idealize.ShloMosaic.ValueIdx
open Finset (range)

/-- A block of finite values. -/
def Is {n m : ℕ} (X : (⟨2, ![n, m]⟩ : Shape).Idx → EReal) (f : ℕ → ℕ → ℝ) : Prop :=
  ∀ (a : Fin n) (b : Fin m), X (ix2 a b) = ((f a.val b.val : ℝ) : EReal)

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_sum_range (n : ℕ) (f : ℕ → ℝ) (g : Fin n → EReal) (h : ∀ i, g i = ((f i.val : ℝ) : EReal)) :
    ∑ i, g i = ((∑ i ∈ range n, f i : ℝ) : EReal) := by
  rw [Finset.sum_range, coe_sum]
  exact Finset.sum_congr rfl fun i _ => h i

theorem zero_f32 : Scalar.ofBits (F := Ideal) .f32 0x00000000#32 = (0 : EReal) := by
  show Ideal.ofBits .f32 0x00000000#32 = 0
  simp [Ideal.ofBits, Ideal.ieee]

theorem one_f32 : Scalar.ofBits (F := Ideal) .f32 0x3F800000#32 = (1 : EReal) := Ideal.ofBits_one_f32

theorem is_zT (q k : FVec Ideal S256x128 .bf16) (f g : ℕ → ℕ → ℝ) (hq : Is q f) (hk : Is k g) : Is (zT q k) (zR 128 f g) := by
  intro a b
  unfold zT
  refine (Ideal.matmul_transposedRhs_apply none q k _ a b).trans ?_
  rw [coe_sum_range 128 (fun c => f a c * g b c) (fun c => q (ix2 a c) * k (ix2 b c)) (fun c => by rw [hq, hk, EReal.coe_mul])]
  show Ideal.ofBits .f32 0x00000000#32 + _ = _
  rw [show Ideal.ofBits .f32 0x00000000#32 = (0 : EReal) from zero_f32, zero_add]
  rfl

theorem coe_min' (x y : ℝ) : ((min x y : ℝ) : EReal) = min (x : EReal) (y : EReal) := EReal.coe_strictMono.monotone.map_min

theorem coe_max' (x y : ℝ) : ((max x y : ℝ) : EReal) = max (x : EReal) (y : EReal) := EReal.coe_strictMono.monotone.map_max

theorem ereal_abs (x : ℝ) : FloatOps.absf (F := Ideal) (φ := .f32) (x : EReal) = ((|x| : ℝ) : EReal) := by
  show max (x : EReal) (-(x : EReal)) = _
  rw [← EReal.coe_neg, ← coe_max']; rfl

theorem is_l1pT (z : Blk Ideal) (f : ℕ → ℕ → ℝ) (hz : Is z f) : Is (l1pT z) (fun a b => Real.log (1 + Real.exp (-|f a b|))) := by
  intro a b
  have hp : ¬ (1 + Real.exp (-|f a b|) ≤ 0) := by have := Real.exp_pos (-|f a b|); linarith
  show Ideal.log (Scalar.ofBits (F := Ideal) .f32 0x3F800000#32 + Ideal.exp (Scalar.ofBits (F := Ideal) .f32 0x00000000#32 - FloatOps.absf (F := Ideal) (φ := .f32) (z (ix2 a b)))) = _
  rw [hz, ereal_abs, one_f32, zero_f32, zero_sub, ← EReal.coe_neg, Ideal.exp_coe, ← EReal.coe_one, ← EReal.coe_add, Ideal.log_coe, if_neg hp]

theorem is_lsT (z : Blk Ideal) (f : ℕ → ℕ → ℝ) (hz : Is z f) : Is (lsT z) (fun a b => lsR (f a b)) := by
  intro a b
  show min (z (ix2 a b)) (Scalar.ofBits (F := Ideal) .f32 0x00000000#32) - l1pT z (ix2 a b) = _
  rw [hz, is_l1pT z f hz, zero_f32, ← EReal.coe_zero, ← coe_min', ← EReal.coe_sub]; rfl

theorem is_lnT (z : Blk Ideal) (f : ℕ → ℕ → ℝ) (hz : Is z f) : Is (lnT z) (fun a b => lnR (f a b)) := by
  intro a b
  show min (Scalar.ofBits (F := Ideal) .f32 0x00000000#32 - z (ix2 a b)) (Scalar.ofBits (F := Ideal) .f32 0x00000000#32) - l1pT z (ix2 a b) = _
  rw [hz, is_l1pT z f hz, zero_f32, zero_sub, ← EReal.coe_neg, ← EReal.coe_zero, ← coe_min', ← EReal.coe_sub]; rfl

/-- The strict triangle as a mask. -/
def IsMask (m : IVec S256x256 1) : Prop := ∀ a b : Fin 256, m (ix2 a b) = if b.val < a.val then 1#1 else 0#1

theorem is_keepT (dg : Bool) (m : IVec S256x256 1) (hm : IsMask m) (x : Blk Ideal) (f : ℕ → ℕ → ℝ) (hx : Is x f) :
    Is (keepT dg m x) (fun a b => if dg = true → b < a then f a b else 0) := by
  intro a b
  cases dg with
  | false => simpa [keepT] using hx a b
  | true =>
    show Scalar.select (m (ix2 a b)) (x (ix2 a b)) (Scalar.ofBits (F := Ideal) .f32 0x00000000#32) = _
    rw [hm a b, hx a b, zero_f32]
    by_cases h : b.val < a.val
    · simp [h, select_one]
    · simp [h, select_zero]

/-- A triangle of ones, twice over. -/
def IsTri (u : FVec Ideal S512x256 .bf16) (p : ℕ → ℕ → Prop) [DecidableRel p] : Prop :=
  ∀ (j : Fin 512) (b : Fin 256), u (ix2 j b) = (((if p (j.val % 256) b.val then 1 else 0 : ℝ)) : EReal)

theorem pairT_apply (x : Blk Ideal) (f : ℕ → ℕ → ℝ) (hx : Is x f) (a : Fin 256) (j : Fin 512) :
    pairT x (ix2 a j) = (((if j.val < 256 then f a.val j.val else 0 : ℝ)) : EReal) := by
  unfold pairT
  by_cases h : j.val < 256
  · rw [concatenate_pair_apply_left 1 _ _ concatenates_S256x256_S256x256_S256x512_d1 (ix2 a j) rfl (ix2 a (⟨j.val, h⟩ : Fin 256))
      (fun b => by match b with | ⟨0, _⟩ => rfl | ⟨1, _⟩ => rfl), if_pos h]
    exact hx a ⟨j.val, h⟩
  · have hj : j.val < 512 := j.isLt
    have hj' : j.val - 256 < 256 := by omega
    rw [concatenate_pair_apply_right 1 _ _ concatenates_S256x256_S256x256_S256x512_d1 (ix2 a j) rfl rfl (ix2 a (⟨j.val - 256, hj'⟩ : Fin 256))
      (fun b hb => by match b with | ⟨0, _⟩ => rfl | ⟨1, _⟩ => exact absurd rfl hb) (by show j.val - 256 + 256 = j.val; omega), if_neg h]
    show x (ix2 a ⟨j.val - 256, hj'⟩) - x (ix2 a ⟨j.val - 256, hj'⟩) = _
    rw [hx a ⟨j.val - 256, hj'⟩, ← EReal.coe_sub, sub_self]

theorem is_sumsT (u : FVec Ideal S512x256 .bf16) (p : ℕ → ℕ → Prop) [DecidableRel p] (hu : IsTri u p) (x : Blk Ideal) (f : ℕ → ℕ → ℝ) (hx : Is x f) :
    Is (sumsT u x) (fun a b => ∑ j ∈ range 256, if p j b then f a j else 0) := by
  intro a b
  unfold sumsT
  refine (Ideal.matmul_plain_apply none (pairT x) u _ a b).trans ?_
  rw [coe_sum_range 512 (fun j => (if j < 256 then f a j else 0) * (if p (j % 256) b then 1 else 0)) _
    (fun j => by rw [pairT_apply x f hx, hu, EReal.coe_mul])]
  show Ideal.ofBits .f32 0x00000000#32 + _ = _
  rw [show Ideal.ofBits .f32 0x00000000#32 = (0 : EReal) from zero_f32, zero_add]
  congr 1
  rw [show (512 : ℕ) = 256 + 256 from rfl, Finset.sum_range_add]
  rw [Finset.sum_eq_zero (s := range 256) (f := fun x => (if 256 + x < 256 then f a (256 + x) else 0) * _) (fun j _ => by simp), add_zero]
  refine Finset.sum_congr rfl fun j hj => ?_
  have hj' := Finset.mem_range.1 hj
  simp [hj', Nat.mod_eq_of_lt hj']

theorem sum_upto (n b : ℕ) (hb : b < n) (f : ℕ → ℝ) : (∑ j ∈ range n, if j ≤ b then f j else 0) = ∑ j ∈ range (b + 1), f j := by
  rw [← Finset.sum_filter]
  congr 1
  ext j
  simp
  omega

theorem sum_before (n b : ℕ) (hb : b < n) (f : ℕ → ℝ) : (∑ j ∈ range n, if j < b then f j else 0) = ∑ j ∈ range b, f j := by
  rw [← Finset.sum_filter]
  congr 1
  ext j
  simp
  omega

theorem is_rowT (x : Blk Ideal) (f : ℕ → ℕ → ℝ) (hx : Is x f) : Is (rowT x) (fun a _ => ∑ j ∈ range 256, f a j) := by
  intro a b
  unfold rowT
  rw [shapeCast_apply (α := EReal) _ shapeCasts_S256_S256x1 (ix2 a b) (ix1 a) (by
    rw [Shape.rowMajor_val_one, Shape.rowMajor_val_two]
    show a.val = a.val * 1 + b.val
    omega)]
  refine (Ideal.multiReduction_add_single x _ reduces_S256x256_S256 _ _ (ix1 a)).trans ?_
  refine coe_sum_range 256 (fun j => f a j) _ fun j => ?_
  refine Eq.trans ?_ (hx a j)
  congr 1
  funext d
  match d with
  | ⟨0, _⟩ => rfl
  | ⟨1, _⟩ => rfl

theorem is_spread (x : FVec Ideal S256x1 .f32) (f : ℕ → ℝ) (hx : Is x (fun a _ => f a)) :
    Is (broadcastTo S256x256 x broadcasts_S256x1_S256x256) (fun a _ => f a) := by
  intro a b
  refine Eq.trans (broadcastTo_apply x broadcasts_S256x1_S256x256 (ix2 a b) (ix2 a (0 : Fin 1)) ?_) (hx a 0)
  intro d
  match d with
  | ⟨0, _⟩ => rfl
  | ⟨1, _⟩ => rfl

theorem Is.congr {n m : ℕ} {X : (⟨2, ![n, m]⟩ : Shape).Idx → EReal} {f g : ℕ → ℕ → ℝ} (h : Is X f) (e : ∀ a b, a < n → b < m → f a b = g a b) : Is X g :=
  fun a b => by rw [h a b, e _ _ a.isLt b.isLt]

/-- Rows contracted with rows. -/
theorem over_apply (x : FVec Ideal S256x256 .bf16) (p : FVec Ideal S256x128 .bf16) (acc : FVec Ideal S256x128 .f32) (b : Fin 256) (c : Fin 128) :
    matmul dot_S256x256_S256x128_S256x128_0_0_1_1_n_n none x p acc (ix2 b c) = acc (ix2 b c) + ∑ a : Fin 256, x (ix2 a b) * p (ix2 a c) := by
  refine (Ideal.matmul_apply _ none x p acc (ix2 b c)).trans ?_
  rw [← Equiv.sum_comp (contrEquiv1 dot_S256x256_S256x128_S256x128_0_0_1_1_n_n 256 rfl rfl).symm]
  refine congrArg (acc (ix2 b c) + ·) (Finset.sum_congr rfl fun k _ => ?_)
  have hk := contrEquiv1_symm_val dot_S256x256_S256x128_S256x128_0_0_1_1_n_n 256 rfl rfl k
  have el : dot_S256x256_S256x128_S256x128_0_0_1_1_n_n.lhsIdx (ix2 b c) ((contrEquiv1 dot_S256x256_S256x128_S256x128_0_0_1_1_n_n 256 rfl rfl).symm k) = ix2 k b := by
    funext a; apply Fin.ext
    match a with
    | ⟨0, _⟩ => exact hk
    | ⟨1, _⟩ => rfl
  have er : dot_S256x256_S256x128_S256x128_0_0_1_1_n_n.rhsIdx (ix2 b c) ((contrEquiv1 dot_S256x256_S256x128_S256x128_0_0_1_1_n_n 256 rfl rfl).symm k) = ix2 k c := by
    funext a; apply Fin.ext
    match a with
    | ⟨0, _⟩ => exact hk
    | ⟨1, _⟩ => rfl
  rw [el, er]

theorem is_overT (x y : FVec Ideal S256x256 .bf16) (p q : FVec Ideal S256x128 .bf16) (old : FVec Ideal S256x128 .f32) (fx fy fp fq fo : ℕ → ℕ → ℝ)
    (hx : Is x fx) (hy : Is y fy) (hp : Is p fp) (hq : Is q fq) (ho : Is old fo) :
    Is (overT x y p q old) (fun b c => fo b c + ((∑ a ∈ range 256, fx a b * fp a c) + ∑ a ∈ range 256, fy a b * fq a c)) := by
  intro b c
  show old (ix2 b c) + ((Scalar.ofBits (F := Ideal) .f32 0x00000000#32
    + matmul dot_S256x256_S256x128_S256x128_0_0_1_1_n_n none x p (constant S256x128 .f32 0x00000000#32) (ix2 b c))
    + matmul dot_S256x256_S256x128_S256x128_0_0_1_1_n_n none y q (constant S256x128 .f32 0x00000000#32) (ix2 b c)) = _
  rw [over_apply, over_apply, ho b c,
    coe_sum_range 256 (fun a => fx a b * fp a c) _ (fun a => by rw [hx, hp, EReal.coe_mul]),
    coe_sum_range 256 (fun a => fy a b * fq a c) _ (fun a => by rw [hy, hq, EReal.coe_mul])]
  rw [show constant (F := Ideal) S256x128 .f32 0x00000000#32 (ix2 b c) = (0 : EReal) from zero_f32, zero_f32, zero_add, zero_add, zero_add]
  rw [← EReal.coe_add, ← EReal.coe_add]

theorem is_times (x : FVec Ideal S256x256 .bf16) (k : FVec Ideal S256x128 .bf16) (f g : ℕ → ℕ → ℝ) (hx : Is x f) (hk : Is k g) :
    Is (matmul dot_S256x256_S256x128_S256x128_1_0_0_1_n_n none x k (constant S256x128 .f32 0x00000000#32)) (fun a c => ∑ b ∈ range 256, f a b * g b c) := by
  intro a c
  refine (Ideal.matmul_plain_apply none x k _ a c).trans ?_
  rw [coe_sum_range 256 (fun b => f a b * g b c) _ (fun b => by rw [hx, hk, EReal.coe_mul])]
  show Ideal.ofBits .f32 0x00000000#32 + _ = _
  rw [show Ideal.ofBits .f32 0x00000000#32 = (0 : EReal) from zero_f32, zero_add]

/-! One tile's work in terms of the whole head's terms. -/

theorem sum_tile (j : ℕ) (f : ℕ → ℝ) : (∑ s ∈ range (256 * j), f s) + ∑ b ∈ range 256, f (256 * j + b) = ∑ s ∈ range (256 * (j + 1)), f s := by
  rw [Nat.mul_succ, Finset.sum_range_add]

/-- A query tile's context, for heads with queries `q`, cotangents `d` and row totals `tot`. -/
structure CtxIs (C : Ctx Ideal) (q d : Fin 2 → ℕ → ℕ → ℝ) (tot : Fin 2 → ℕ → ℝ) (n : ℕ) : Prop where
  m : IsMask C.m
  u : IsTri C.u (· ≤ ·)
  b : IsTri C.b (· < ·)
  q : ∀ h, Is (C.q h) (fun a c => q h (256 * n + a) c)
  d : ∀ h, Is (C.d h) (fun a c => d h (256 * n + a) c)
  t : ∀ h, Is (C.t h) (fun a _ => tot h (256 * n + a))

section
variable {C : Ctx Ideal} {q d : Fin 2 → ℕ → ℕ → ℝ} {tot : Fin 2 → ℕ → ℝ} {n : ℕ} (hC : CtxIs C q d tot n)
  {kf vf : ℕ → ℕ → ℝ} {kb vb : FVec Ideal S256x128 .bf16} {j : ℕ}
  (hk : Is kb (fun b c => kf (256 * j + b) c)) (hv : Is vb (fun b c => vf (256 * j + b) c))
  {dg : Bool} (hd : if dg = true then j = n else j < n) (h : Fin 2)

include hd in
theorem strict_iff (a b : ℕ) (ha : a < 256) (hb : b < 256) : (dg = true → b < a) ↔ 256 * j + b < 256 * n + a := by
  cases dg <;> simp at hd ⊢ <;> omega

include hC hk in
theorem is_z : Is (zT (C.q h) kb) (fun a b => zR 128 (q h) kf (256 * n + a) (256 * j + b)) := is_zT _ _ _ _ (hC.q h) hk

include hC hv in
theorem is_e : Is (zT (C.d h) vb) (fun a b => zR 128 (d h) vf (256 * n + a) (256 * j + b)) := is_zT _ _ _ _ (hC.d h) hv

include hC hk hd in
theorem is_LT : Is (LT dg C h kb) (fun a b => LR (zR 128 (q h) kf) (256 * n + a) (256 * j + b)) :=
  (is_keepT dg _ hC.m _ _ (is_lnT _ _ (is_z hC hk h))).congr fun a b ha hb => by
    unfold LR; exact if_congr (strict_iff hd a b ha hb) rfl rfl

variable {P G : FVec Ideal S256x1 .f32}
  (hP : Is P (fun a _ => ∑ s ∈ range (256 * j), LR (zR 128 (q h) kf) (256 * n + a) s))

include hC hk hd in
theorem is_upto : Is (sumsT C.u (LT dg C h kb)) (fun a b => ∑ b' ∈ range (b + 1), LR (zR 128 (q h) kf) (256 * n + a) (256 * j + b')) :=
  (is_sumsT _ _ hC.u _ _ (is_LT hC hk hd h)).congr fun a b _ hb => sum_upto 256 b hb _

include hC hk hd hP in
theorem is_aT : Is (aT dg C h kb P) (fun a b => aR (zR 128 (q h) kf) (tot h) (256 * n + a) (256 * j + b)) := by
  refine (is_keepT dg _ hC.m _ (fun a b => Real.exp (lsR (zR 128 (q h) kf (256 * n + a) (256 * j + b))
    + ((tot h (256 * n + a) - ∑ s ∈ range (256 * j), LR (zR 128 (q h) kf) (256 * n + a) s)
      - ∑ b' ∈ range (b + 1), LR (zR 128 (q h) kf) (256 * n + a) (256 * j + b')))) ?_).congr fun a b ha hb => ?_
  · intro a b
    have e := is_spread (subf (C.t h) P) (fun a => tot h (256 * n + a) - ∑ s ∈ range (256 * j), LR (zR 128 (q h) kf) (256 * n + a) s)
      (fun a b => by
        show C.t h (ix2 a b) - P (ix2 a b) = _
        rw [hC.t h a b, hP a b, ← EReal.coe_sub])
    show Ideal.exp (lsT (zT (C.q h) kb) (ix2 a b) + (broadcastTo S256x256 (subf (C.t h) P) broadcasts_S256x1_S256x256 (ix2 a b) - sumsT C.u (LT dg C h kb) (ix2 a b))) = _
    rw [is_lsT _ _ (is_z hC hk h) a b, e a b, is_upto hC hk hd h a b, ← EReal.coe_sub, ← EReal.coe_add, Ideal.exp_coe]
  · unfold aR
    refine if_congr (strict_iff hd a b ha hb) ?_ rfl
    rw [add_assoc (256 * j) b 1, Finset.sum_range_add _ (256 * j) (b + 1), sub_sub]

include hC hk hv hd hP in
theorem is_gT : Is (gT dg C h kb vb P) (fun a b => gR (zR 128 (q h) kf) (zR 128 (d h) vf) (tot h) (256 * n + a) (256 * j + b)) := by
  intro a b
  show aT dg C h kb P (ix2 a b) * zT (C.d h) vb (ix2 a b) = _
  rw [is_aT hC hk hd h hP a b, is_e hC hv h a b, ← EReal.coe_mul]; rfl

variable (hG : Is G (fun a _ => ∑ s ∈ range (256 * j), gR (zR 128 (q h) kf) (zR 128 (d h) vf) (tot h) (256 * n + a) s))

include hC hk hv hd hP in
theorem is_before : Is (sumsT C.b (gT dg C h kb vb P))
    (fun a b => ∑ b' ∈ range b, gR (zR 128 (q h) kf) (zR 128 (d h) vf) (tot h) (256 * n + a) (256 * j + b')) :=
  (is_sumsT _ _ hC.b _ _ (is_gT hC hk hv hd h hP)).congr fun a b _ hb => sum_before 256 b hb _

include hC hk hv hd hP hG in
theorem is_dzT : Is (dzT dg C h kb vb P G) (fun a b => dzR (zR 128 (q h) kf) (zR 128 (d h) vf) (tot h) (256 * n + a) (256 * j + b)) := by
  refine (is_keepT dg _ hC.m _ (fun a b => gR (zR 128 (q h) kf) (zR 128 (d h) vf) (tot h) (256 * n + a) (256 * j + b)
      * (1 - Real.exp (lsR (zR 128 (q h) kf (256 * n + a) (256 * j + b))))
    - ((∑ s ∈ range (256 * j), gR (zR 128 (q h) kf) (zR 128 (d h) vf) (tot h) (256 * n + a) s)
      + ∑ b' ∈ range b, gR (zR 128 (q h) kf) (zR 128 (d h) vf) (tot h) (256 * n + a) (256 * j + b'))
      * Real.exp (lsR (zR 128 (q h) kf (256 * n + a) (256 * j + b)))) ?_).congr fun a b ha hb => ?_
  · intro a b
    have e := is_spread G _ hG
    show gT dg C h kb vb P (ix2 a b) * (Scalar.ofBits (F := Ideal) .f32 0x3F800000#32 - Ideal.exp (lsT (zT (C.q h) kb) (ix2 a b)))
      - (broadcastTo S256x256 G broadcasts_S256x1_S256x256 (ix2 a b) + sumsT C.b (gT dg C h kb vb P) (ix2 a b)) * Ideal.exp (lsT (zT (C.q h) kb) (ix2 a b)) = _
    rw [is_lsT _ _ (is_z hC hk h) a b, e a b, is_before hC hk hv hd h hP a b, is_gT hC hk hv hd h hP a b, one_f32, Ideal.exp_coe,
      ← EReal.coe_one, ← EReal.coe_sub, ← EReal.coe_mul, ← EReal.coe_add, ← EReal.coe_mul, ← EReal.coe_sub]
  · unfold dzR
    refine if_congr (strict_iff hd a b ha hb) ?_ rfl
    rw [Finset.sum_range_add]

include hC hk hd hP in
theorem is_PT : Is (PT dg C h kb P) (fun a _ => ∑ s ∈ range (256 * (j + 1)), LR (zR 128 (q h) kf) (256 * n + a) s) := by
  intro a b
  show P (ix2 a b) + rowT (LT dg C h kb) (ix2 a b) = _
  rw [hP a b, is_rowT _ _ (is_LT hC hk hd h) a b, ← EReal.coe_add]
  exact congrArg Real.toEReal (sum_tile j _)

include hC hk hv hd hP hG in
theorem is_GT : Is (GT dg C h kb vb P G)
    (fun a _ => ∑ s ∈ range (256 * (j + 1)), gR (zR 128 (q h) kf) (zR 128 (d h) vf) (tot h) (256 * n + a) s) := by
  intro a b
  show G (ix2 a b) + rowT (gT dg C h kb vb P) (ix2 a b) = _
  rw [hG a b, is_rowT _ _ (is_gT hC hk hv hd h hP) a b, ← EReal.coe_add]
  exact congrArg Real.toEReal (sum_tile j _)

variable {D : FVec Ideal S256x128 .f32}
  (hD : Is D (fun a c => ∑ s ∈ range (256 * j), dzR (zR 128 (q h) kf) (zR 128 (d h) vf) (tot h) (256 * n + a) s * kf s c))

include hC hk hv hd hP hG hD in
theorem is_QT : Is (QT dg C h kb vb P G D)
    (fun a c => ∑ s ∈ range (256 * (j + 1)), dzR (zR 128 (q h) kf) (zR 128 (d h) vf) (tot h) (256 * n + a) s * kf s c) := by
  intro a c
  show D (ix2 a c) + matmul dot_S256x256_S256x128_S256x128_1_0_0_1_n_n none (dzT dg C h kb vb P G) kb (constant S256x128 .f32 0x00000000#32) (ix2 a c) = _
  rw [hD a c, is_times _ _ _ _ (is_dzT hC hk hv hd h hP hG) hk a c, ← EReal.coe_add]
  exact congrArg Real.toEReal (sum_tile j _)

end

end Cert.KernelIdeal.Grad

end
-- ==== Proof.Walk.lean ====
/- The walk of a query tile over its key tiles, over the extended reals. -/
module

public import proofs.«01_k».proof.Proof.Sem
public import proofs.«01_k».proof.Proof.Pure

@[expose] public section

set_option maxRecDepth 65536

noncomputable section

namespace Cert.KernelIdeal.Grad

open Cert.KernelIdeal Cert.KernelIdeal.Gen Cert.Grad
open Idealize.ShloMosaic Idealize.ShloMosaic.ValueIdx
open Finset (range)

/-- The two heads' terms summed over the first `256 * N` queries. -/
def accR (w0 w1 p0 p1 : ℕ → ℕ → ℝ) (N r c : ℕ) : ℝ := ∑ t ∈ range (256 * N), (w0 t r * p0 t c + w1 t r * p1 t c)

theorem accR_succ (w0 w1 p0 p1 : ℕ → ℕ → ℝ) (N r c : ℕ) :
    accR w0 w1 p0 p1 N r c + ((∑ a ∈ range 256, w0 (256 * N + a) r * p0 (256 * N + a) c) + ∑ a ∈ range 256, w1 (256 * N + a) r * p1 (256 * N + a) c)
      = accR w0 w1 p0 p1 (N + 1) r c := by
  rw [← Finset.sum_add_distrib]
  exact sum_tile N (fun t => w0 t r * p0 t c + w1 t r * p1 t c)

theorem is_rowsP (X : Vec Ideal S8192x128 .bf16) (f : ℕ → ℕ → ℝ) (hX : Is (n := 8192) (m := 128) X f) (j : ℕ) (hj : j < 32) :
    Is (n := 256) (m := 128) (rowsP X j) (fun b c => f (256 * j + b) c) := by
  intro b c
  have hb : b.val < 256 := b.isLt
  refine Eq.trans (hX (⟨(256 * j + b.val) % 8192, Nat.mod_lt _ (by decide)⟩ : Fin 8192) c) ?_
  show ((f ((256 * j + b.val) % 8192) c.val : ℝ) : EReal) = _
  rw [Nat.mod_eq_of_lt (by omega)]

theorem is_rowsF (X : Vec Ideal S8192x128 .f32) (f : ℕ → ℕ → ℝ) (hX : Is (n := 8192) (m := 128) X f) (j : ℕ) (hj : j < 32) :
    Is (n := 256) (m := 128) (rowsP X j) (fun b c => f (256 * j + b) c) := by
  intro b c
  have hb : b.val < 256 := b.isLt
  refine Eq.trans (hX (⟨(256 * j + b.val) % 8192, Nat.mod_lt _ (by decide)⟩ : Fin 8192) c) ?_
  show ((f ((256 * j + b.val) % 8192) c.val : ℝ) : EReal) = _
  rw [Nat.mod_eq_of_lt (by omega)]

theorem is_putP (X : Vec Ideal S8192x128 .f32) (f g : ℕ → ℕ → ℝ) (j : ℕ) (hj : j < 32) (hX : Is (n := 8192) (m := 128) X f)
    (w : Vec Ideal S256x128 .f32) (hw : Is (n := 256) (m := 128) w (fun b c => g (256 * j + b) c)) :
    Is (n := 8192) (m := 128) (putP X j w) (fun r c => if r / 256 = j then g r c else f r c) := by
  intro r c
  show (if r.val / 256 = j then w (ix2 (⟨r.val % 256, Nat.mod_lt _ (by decide)⟩ : Fin 256) c) else X (ix2 r c)) = ((if r.val / 256 = j then g r.val c.val else f r.val c.val : ℝ) : EReal)
  by_cases h : r.val / 256 = j
  · rw [if_pos h, if_pos h, hw]
    show ((g (256 * j + r.val % 256) c.val : ℝ) : EReal) = _
    rw [show 256 * j + r.val % 256 = r.val by omega]
  · rw [if_neg h, if_neg h, hX]

section
variable (q d : Fin 2 → ℕ → ℕ → ℝ) (tot : Fin 2 → ℕ → ℝ) (kf vf : ℕ → ℕ → ℝ)

/-- One head's weights and the gradients of its scores. -/
abbrev wA (h : Fin 2) : ℕ → ℕ → ℝ := aR (zR 128 (q h) kf) (tot h)
abbrev wZ (h : Fin 2) : ℕ → ℕ → ℝ := dzR (zR 128 (q h) kf) (zR 128 (d h) vf) (tot h)

/-- The state before key tile `j` of query tile `n`. -/
structure WalkIs (n j : ℕ) (s : WalkP Ideal) : Prop where
  P0 : Is s.1.1 (fun a _ => ∑ i ∈ range (256 * j), LR (zR 128 (q 0) kf) (256 * n + a) i)
  G0 : Is s.1.2.1 (fun a _ => ∑ i ∈ range (256 * j), gR (zR 128 (q 0) kf) (zR 128 (d 0) vf) (tot 0) (256 * n + a) i)
  D0 : Is s.1.2.2.1 (fun a c => ∑ i ∈ range (256 * j), wZ q d tot kf vf 0 (256 * n + a) i * kf i c)
  P1 : Is s.1.2.2.2.1 (fun a _ => ∑ i ∈ range (256 * j), LR (zR 128 (q 1) kf) (256 * n + a) i)
  G1 : Is s.1.2.2.2.2.1 (fun a _ => ∑ i ∈ range (256 * j), gR (zR 128 (q 1) kf) (zR 128 (d 1) vf) (tot 1) (256 * n + a) i)
  D1 : Is s.1.2.2.2.2.2 (fun a c => ∑ i ∈ range (256 * j), wZ q d tot kf vf 1 (256 * n + a) i * kf i c)
  A : Is (n := 8192) (m := 128) s.2.1 (fun r c => accR (wZ q d tot kf vf 0) (wZ q d tot kf vf 1) (q 0) (q 1) (if r < 256 * j then n + 1 else n) r c)
  B : Is (n := 8192) (m := 128) s.2.2 (fun r c => accR (wA q tot kf 0) (wA q tot kf 1) (d 0) (d 1) (if r < 256 * j then n + 1 else n) r c)

variable {q d tot kf vf} {C : Ctx Ideal} {n : ℕ} (hC : CtxIs C q d tot n) {K V : Vec Ideal S8192x128 .bf16}
  (hK : Is (n := 8192) (m := 128) K kf) (hV : Is (n := 8192) (m := 128) V vf)

theorem put_acc (w0 w1 p0 p1 : ℕ → ℕ → ℝ) (n j r c : ℕ) (g : ℝ) (hg : r / 256 = j → g = accR w0 w1 p0 p1 (n + 1) r c) :
    (if r / 256 = j then g else accR w0 w1 p0 p1 (if r < 256 * j then n + 1 else n) r c)
      = accR w0 w1 p0 p1 (if r < 256 * (j + 1) then n + 1 else n) r c := by
  by_cases h : r / 256 = j
  · rw [if_pos h, hg h, if_pos (by omega)]
  · rw [if_neg h]
    congr 1
    exact if_congr (by omega) rfl rfl

include hC hK hV in
theorem tile_is {dg : Bool} {j : ℕ} (hj : j < 32) (hd : if dg = true then j = n else j < n) {s : WalkP Ideal} (hs : WalkIs q d tot kf vf n j s) :
    WalkIs q d tot kf vf n (j + 1) (tileP dg C K V j s) := by
  have hk := is_rowsP K kf hK j hj
  have hv := is_rowsP V vf hV j hj
  have z0 := is_dzT hC hk hv hd 0 hs.P0 hs.G0
  have z1 := is_dzT hC hk hv hd 1 hs.P1 hs.G1
  have a0 := is_aT hC hk hd 0 hs.P0
  have a1 := is_aT hC hk hd 1 hs.P1
  have oA : Is (n := 256) (m := 128) (rowsP s.2.1 j) (fun b c => accR (wZ q d tot kf vf 0) (wZ q d tot kf vf 1) (q 0) (q 1) n (256 * j + b) c) :=
    (is_rowsF s.2.1 _ hs.A j hj).congr fun b c hb hc => by rw [if_neg (by omega)]
  have oB : Is (n := 256) (m := 128) (rowsP s.2.2 j) (fun b c => accR (wA q tot kf 0) (wA q tot kf 1) (d 0) (d 1) n (256 * j + b) c) :=
    (is_rowsF s.2.2 _ hs.B j hj).congr fun b c hb hc => by rw [if_neg (by omega)]
  have nA : Is (n := 256) (m := 128) (dkT dg C (rowsP K j) (rowsP V j) s.1 (rowsP s.2.1 j))
      (fun b c => accR (wZ q d tot kf vf 0) (wZ q d tot kf vf 1) (q 0) (q 1) (n + 1) (256 * j + b) c) := by
    unfold dkT
    rw [shapeCast_self]
    exact (is_overT _ _ _ _ _ _ _ _ _ _ z0 z1 (hC.q 0) (hC.q 1) oA).congr fun b c hb hc => accR_succ _ _ _ _ n _ c
  have nB : Is (n := 256) (m := 128) (dvT dg C (rowsP K j) s.1 (rowsP s.2.2 j))
      (fun b c => accR (wA q tot kf 0) (wA q tot kf 1) (d 0) (d 1) (n + 1) (256 * j + b) c) := by
    unfold dvT
    rw [shapeCast_self]
    exact (is_overT _ _ _ _ _ _ _ _ _ _ a0 a1 (hC.d 0) (hC.d 1) oB).congr fun b c hb hc => accR_succ _ _ _ _ n _ c
  exact
    { P0 := is_PT hC hk hd 0 hs.P0
      G0 := is_GT hC hk hv hd 0 hs.P0 hs.G0
      D0 := is_QT hC hk hv hd 0 hs.P0 hs.G0 hs.D0
      P1 := is_PT hC hk hd 1 hs.P1
      G1 := is_GT hC hk hv hd 1 hs.P1 hs.G1
      D1 := is_QT hC hk hv hd 1 hs.P1 hs.G1 hs.D1
      A := (is_putP s.2.1 _ _ j hj hs.A _ nA).congr fun r c _ _ => put_acc _ _ _ _ n j r c _ fun _ => rfl
      B := (is_putP s.2.2 _ _ j hj hs.B _ nB).congr fun r c _ _ => put_acc _ _ _ _ n j r c _ fun _ => rfl }

include hC hK hV in
theorem walk_is {s : WalkP Ideal} (hs : WalkIs q d tot kf vf n 0 s) (hn : n ≤ 32) (k : ℕ) (hkn : k ≤ n) :
    WalkIs q d tot kf vf n k (walkP C K V 0 s k) := by
  induction k with
  | zero => exact hs
  | succ k ih =>
    show WalkIs q d tot kf vf n (k + 1) (tileP false C K V (0 + k) (walkP C K V 0 s k))
    rw [Nat.zero_add]
    exact tile_is hC hK hV (by omega) (by simp; omega) (ih (by omega))

theorem zero_is {n' m' : ℕ} (X : (⟨2, ![n', m']⟩ : Shape).Idx → EReal) (hX : ∀ y, X y = 0) (f : ℕ → ℕ → ℝ) (hf : ∀ a b, f a b = 0) : Is X f :=
  fun a b => by rw [hX, hf]; rfl

theorem pay139_zero (y : S256x1.Idx) : (k0_pay139 : FVec Ideal S256x1 .f32) y = (0 : EReal) := zero_f32
theorem pay140_zero (y : S256x128.Idx) : (k0_pay140 : FVec Ideal S256x128 .f32) y = (0 : EReal) := zero_f32
theorem pay123_zero (y : S8192x128.Idx) : (k0_pay123 : FVec Ideal S8192x128 .f32) y = (0 : EReal) := by
  unfold k0_pay123
  rw [shapeCast_self]; exact zero_f32
theorem pay124_zero (y : S8192x128.Idx) : (k0_pay124 : FVec Ideal S8192x128 .f32) y = (0 : EReal) := by
  unfold k0_pay124
  rw [shapeCast_self]; exact zero_f32

/-- The accumulators after the query tiles before `n`. -/
structure AccIs (q d : Fin 2 → ℕ → ℕ → ℝ) (tot : Fin 2 → ℕ → ℝ) (kf vf : ℕ → ℕ → ℝ) (n : ℕ) (A B : Vec Ideal S8192x128 .f32) : Prop where
  A : Is (n := 8192) (m := 128) A (fun r c => accR (wZ q d tot kf vf 0) (wZ q d tot kf vf 1) (q 0) (q 1) n r c)
  B : Is (n := 8192) (m := 128) B (fun r c => accR (wA q tot kf 0) (wA q tot kf 1) (d 0) (d 1) n r c)

theorem fresh_is {A B : Vec Ideal S8192x128 .f32} (h : AccIs q d tot kf vf n A B) : WalkIs q d tot kf vf n 0 (carry0, A, B) where
  P0 := zero_is _ pay139_zero _ fun _ _ => by simp
  G0 := zero_is _ pay139_zero _ fun _ _ => by simp
  D0 := zero_is _ pay140_zero _ fun _ _ => by simp
  P1 := zero_is _ pay139_zero _ fun _ _ => by simp
  G1 := zero_is _ pay139_zero _ fun _ _ => by simp
  D1 := zero_is _ pay140_zero _ fun _ _ => by simp
  A := h.A.congr fun _ _ _ _ => by simp
  B := h.B.congr fun _ _ _ _ => by simp

theorem acc_zero : AccIs q d tot kf vf 0 (k0_pay123 (F := Ideal)) (k0_pay124 (F := Ideal)) where
  A := zero_is _ pay123_zero _ fun _ _ => by simp [accR]
  B := zero_is _ pay124_zero _ fun _ _ => by simp [accR]

include hC hK hV in
theorem pt_is (hn : n < 32) {A B : Vec Ideal S8192x128 .f32} (h : AccIs q d tot kf vf n A B) : WalkIs q d tot kf vf n (n + 1) (ptP n 0 C K V A B) := by
  unfold ptP
  by_cases h0 : n = 0
  · rw [if_pos h0]
    subst h0
    exact tile_is hC hK hV hn (by simp) (fresh_is acc_zero)
  · rw [if_neg h0]
    refine tile_is hC hK hV hn (by simp) ?_
    have e : n = (n - 1) + 1 := by omega
    have := tile_is hC hK hV (dg := false) (j := n - 1) (by omega) (by simp; omega) (walk_is hC hK hV (fresh_is h) (by omega) (n - 1) (by omega))
    rw [Nat.sub_add_cancel (by omega)] at this
    exact this

theorem acc_stop (w0 w1 p0 p1 : ℕ → ℕ → ℝ) (h0 : ∀ t r, ¬ r < t → w0 t r = 0) (h1 : ∀ t r, ¬ r < t → w1 t r = 0) (n r c : ℕ) :
    accR w0 w1 p0 p1 (if r < 256 * (n + 1) then n + 1 else n) r c = accR w0 w1 p0 p1 (n + 1) r c := by
  by_cases h : r < 256 * (n + 1)
  · rw [if_pos h]
  · rw [if_neg h, ← accR_succ, Finset.sum_eq_zero (fun a ha => ?_), Finset.sum_eq_zero (fun a ha => ?_), add_zero, add_zero]
    · rw [h1 _ _ (by have := Finset.mem_range.1 ha; omega), zero_mul]
    · rw [h0 _ _ (by have := Finset.mem_range.1 ha; omega), zero_mul]

theorem aR_off (z : ℕ → ℕ → ℝ) (tot : ℕ → ℝ) (t r : ℕ) (h : ¬ r < t) : aR z tot t r = 0 := if_neg h
theorem dzR_off (z e : ℕ → ℕ → ℝ) (tot : ℕ → ℝ) (t r : ℕ) (h : ¬ r < t) : dzR z e tot t r = 0 := if_neg h

include hC hK hV in
theorem pt_acc (hn : n < 32) {A B : Vec Ideal S8192x128 .f32} (h : AccIs q d tot kf vf n A B) :
    AccIs q d tot kf vf (n + 1) (ptP n 0 C K V A B).2.1 (ptP n 0 C K V A B).2.2 where
  A := (pt_is hC hK hV hn h).A.congr fun r c _ _ => acc_stop _ _ _ _ (fun _ _ => dzR_off _ _ _ _ _) (fun _ _ => dzR_off _ _ _ _ _) n r c
  B := (pt_is hC hK hV hn h).B.congr fun r c _ _ => acc_stop _ _ _ _ (fun _ _ => aR_off _ _ _ _) (fun _ _ => aR_off _ _ _ _) n r c

/-- The query gradients of both heads, over all keys. -/
theorem sum_all (w : ℕ → ℕ → ℝ) (hw : ∀ t r, ¬ r < t → w t r = 0) (n a c : ℕ) (hn : n < 32) (ha : a < 256) (k : ℕ → ℕ → ℝ) :
    ∑ i ∈ range (256 * (n + 1)), w (256 * n + a) i * k i c = ∑ i ∈ range 8192, w (256 * n + a) i * k i c := by
  refine Finset.sum_subset (fun i hi => ?_) fun i _ hi => ?_
  · rw [Finset.mem_range] at hi ⊢; omega
  · rw [hw _ _ (by rw [Finset.mem_range] at hi; omega), zero_mul]

end

end Cert.KernelIdeal.Grad

end
-- ==== Proof.Masks.lean ====
/- The query tile's context over the extended reals: the masks, the triangles and the scaled queries. -/
module

public import proofs.«01_k».proof.Proof.Walk

@[expose] public section

set_option maxRecDepth 65536

noncomputable section

namespace Cert.KernelIdeal.Grad

open Cert.KernelIdeal Cert.KernelIdeal.Gen Cert.Grad
open Idealize.ShloMosaic Idealize.ShloMosaic.ValueIdx
open Finset (range)

theorem toInt_small (n : ℕ) (hn : n < 2 ^ 31) : (BitVec.ofNat 32 n).toInt = n := by
  have e : (BitVec.ofNat 32 n).toNat = n := by rw [BitVec.toNat_ofNat]; omega
  rw [BitVec.toInt_eq_toNat_of_lt (by rw [e]; omega), e]

theorem slt_small (a b : ℕ) (ha : a < 2 ^ 31) (hb : b < 2 ^ 31) :
    IntOp.cmpi .slt (BitVec.ofNat 32 a) (BitVec.ofNat 32 b) = if a < b then 1#1 else 0#1 := by
  show BitVec.ofBool (BitVec.slt _ _) = _
  rw [BitVec.slt_eq_decide, toInt_small a ha, toInt_small b hb]
  by_cases h : a < b <;> simp [h]

theorem sle_small (a b : ℕ) (ha : a < 2 ^ 31) (hb : b < 2 ^ 31) :
    IntOp.cmpi .sle (BitVec.ofNat 32 a) (BitVec.ofNat 32 b) = if a ≤ b then 1#1 else 0#1 := by
  show BitVec.ofBool (BitVec.sle _ _) = _
  rw [BitVec.sle_eq_decide, toInt_small a ha, toInt_small b hb]
  by_cases h : a ≤ b <;> simp [h]

theorem sge_small (a b : ℕ) (ha : a < 2 ^ 31) (hb : b < 2 ^ 31) :
    IntOp.cmpi .sge (BitVec.ofNat 32 a) (BitVec.ofNat 32 b) = if b ≤ a then 1#1 else 0#1 := by
  show BitVec.ofBool (BitVec.sle _ _) = _
  rw [BitVec.sle_eq_decide, toInt_small a ha, toInt_small b hb]
  by_cases h : b ≤ a <;> simp [h]

theorem mask_is : IsMask k0_pay125 := by
  intro a b
  show IntOp.cmpi .slt (iota .tc S256x256 32 [1] iota_S256x256_d1_w32 (ix2 a b)) (iota .tc S256x256 32 [0] iota_S256x256_d0_w32 (ix2 a b)) = _
  rw [iota_single_apply, iota_single_apply]
  exact slt_small b.val a.val (by have := b.isLt; omega) (by have := a.isLt; omega)

theorem twice_apply (X : FVec Ideal S256x256 .bf16) (j : Fin 512) (b : Fin 256) :
    concatenate S512x256 0 [⟨S256x256, X⟩, ⟨S256x256, X⟩] concatenates_S256x256_S256x256_S512x256_d0 (ix2 j b)
      = X (ix2 ⟨j.val % 256, Nat.mod_lt _ (by decide)⟩ b) := by
  by_cases h : j.val < 256
  · rw [concatenate_pair_apply_left 0 _ _ concatenates_S256x256_S256x256_S512x256_d0 (ix2 j b) rfl (ix2 (⟨j.val, h⟩ : Fin 256) b)
      (fun b => by match b with | ⟨0, _⟩ => rfl | ⟨1, _⟩ => rfl)]
    congr 2
    exact Fin.ext (Nat.mod_eq_of_lt h).symm
  · have hj : j.val < 512 := j.isLt
    have hj' : j.val - 256 < 256 := by omega
    rw [concatenate_pair_apply_right 0 _ _ concatenates_S256x256_S256x256_S512x256_d0 (ix2 j b) rfl rfl (ix2 (⟨j.val - 256, hj'⟩ : Fin 256) b)
      (fun b hb => by match b with | ⟨0, _⟩ => exact absurd rfl hb | ⟨1, _⟩ => rfl) (by show j.val - 256 + 256 = j.val; omega)]
    congr 2
    exact Fin.ext (by show j.val - 256 = j.val % 256; omega)

theorem upto_is : IsTri (k0_pay126 (F := Ideal)) (· ≤ ·) := by
  intro j b
  unfold k0_pay126
  refine (twice_apply _ j b).trans ?_
  show Scalar.select (IntOp.cmpi .sle (iota .tc S256x256 32 [0] iota_S256x256_d0_w32 (ix2 _ b)) (iota .tc S256x256 32 [1] iota_S256x256_d1_w32 (ix2 _ b)))
    (Scalar.ofBits (F := Ideal) .f32 0x3F800000#32) (Scalar.ofBits (F := Ideal) .f32 0x00000000#32) = _
  rw [iota_single_apply, iota_single_apply, one_f32, zero_f32]
  rw [show IntOp.cmpi .sle (BitVec.ofNat 32 ((ix2 (⟨j.val % 256, Nat.mod_lt _ (by decide)⟩ : Fin 256) b) 0).val) (BitVec.ofNat 32 ((ix2 (⟨j.val % 256, Nat.mod_lt _ (by decide)⟩ : Fin 256) b) 1).val)
    = _ from sle_small (j.val % 256) b.val (by omega) (by have := b.isLt; omega)]
  by_cases h : j.val % 256 ≤ b.val
  · rw [if_pos h, if_pos h, select_one]; rfl
  · rw [if_neg h, if_neg h, select_zero]; rfl

theorem below_is : IsTri (k0_pay127 (F := Ideal)) (· < ·) := by
  intro j b
  unfold k0_pay127
  refine (twice_apply _ j b).trans ?_
  show Scalar.select (IntOp.cmpi .slt (iota .tc S256x256 32 [0] iota_S256x256_d0_w32 (ix2 _ b)) (iota .tc S256x256 32 [1] iota_S256x256_d1_w32 (ix2 _ b)))
    (Scalar.ofBits (F := Ideal) .f32 0x3F800000#32) (Scalar.ofBits (F := Ideal) .f32 0x00000000#32) = _
  rw [iota_single_apply, iota_single_apply, one_f32, zero_f32]
  rw [show IntOp.cmpi .slt (BitVec.ofNat 32 ((ix2 (⟨j.val % 256, Nat.mod_lt _ (by decide)⟩ : Fin 256) b) 0).val) (BitVec.ofNat 32 ((ix2 (⟨j.val % 256, Nat.mod_lt _ (by decide)⟩ : Fin 256) b) 1).val)
    = _ from slt_small (j.val % 256) b.val (by omega) (by have := b.isLt; omega)]
  by_cases h : j.val % 256 < b.val
  · rw [if_pos h, if_pos h, select_one]; rfl
  · rw [if_neg h, if_neg h, select_zero]; rfl

theorem low_apply (c : Fin 128) : k0_pay128 (ix2 (0 : Fin 1) c) = if c.val < 64 then 1#1 else 0#1 := by
  show IntOp.cmpi .slt (iota .tc S1x128 32 [1] iota_S1x128_d1_w32 (ix2 0 c)) 64#32 = _
  rw [iota_single_apply]
  exact slt_small c.val 64 (by have := c.isLt; omega) (by decide)

theorem high_apply (c : Fin 128) : k0_pay129 (ix2 (0 : Fin 1) c) = if 64 ≤ c.val then 1#1 else 0#1 := by
  show IntOp.cmpi .sge (iota .tc S1x128 32 [1] iota_S1x128_d1_w32 (ix2 0 c)) 64#32 = _
  rw [iota_single_apply]
  exact sge_small c.val 64 (by have := c.isLt; omega) (by decide)

theorem row_over (m : IVec S1x128 1) (a : Fin 256) (c : Fin 128) :
    broadcastTo S256x128 (shapeCast S1x128 m shapeCasts_S1x128_S1x128) broadcasts_S1x128_S256x128 (ix2 a c) = m (ix2 (0 : Fin 1) c) := by
  rw [shapeCast_self]
  refine broadcastTo_apply m broadcasts_S1x128_S256x128 (ix2 a c) (ix2 (0 : Fin 1) c) ?_
  intro x
  match x with
  | ⟨0, _⟩ => rfl
  | ⟨1, _⟩ => rfl

theorem zero_bf16 : Scalar.ofBits (F := Ideal) .bf16 0x0000#16 = (0 : EReal) := by
  show Ideal.ofBits .bf16 0x0000#16 = 0
  simp [Ideal.ofBits, Ideal.ieee]

theorem eighth_bf16 : Scalar.ofBits (F := Ideal) .bf16 0x3E00#16 = (((1 / 8 : ℝ)) : EReal) := by
  show Ideal.ofBits .bf16 0x3E00#16 = _
  simp [Ideal.ofBits, Ideal.ieee]
  rw [← EReal.coe_mul]
  norm_num

theorem eighth_f32 : Scalar.ofBits (F := Ideal) .f32 0x3E000000#32 = (((1 / 8 : ℝ)) : EReal) := by
  show Ideal.ofBits .f32 0x3E000000#32 = _
  simp [Ideal.ofBits, Ideal.ieee]
  rw [← EReal.coe_mul]
  norm_num

/-- A head's half of a row of 128 lanes. -/
def half (h : Fin 2) (f : ℕ → ℕ → ℝ) (t c : ℕ) : ℝ := if c / 64 = h.val then f t c else 0

theorem half_on (h : Fin 2) (f : ℕ → ℕ → ℝ) (t c : ℕ) (e : c / 64 = h.val) : half h f t c = f t c := if_pos e
theorem half_off (h : Fin 2) (f : ℕ → ℕ → ℝ) (t c : ℕ) (e : ¬ c / 64 = h.val) : half h f t c = 0 := if_neg e

theorem div0 (c : ℕ) : c / 64 = (0 : Fin 2).val ↔ c < 64 := by show c / 64 = 0 ↔ _; omega
theorem div1 (c : ℕ) (hc : c < 128) : c / 64 = (1 : Fin 2).val ↔ 64 ≤ c := by show c / 64 = 1 ↔ _; omega

section
variable {q d : FVec Ideal S256x128 .bf16} {T : FVec Ideal S2x256x128 .f32} {qf df : ℕ → ℕ → ℝ} {tot : Fin 2 → ℕ → ℝ} {n : ℕ}
  (hq : Is q (fun a c => qf (256 * n + a) c)) (hd : Is d (fun a c => df (256 * n + a) c))
  (hT : ∀ (h : Fin 2) (a : Fin 256) (c : Fin 128), T (ix3 h a c) = ((tot h (256 * n + a.val) : ℝ) : EReal))

include hq in
theorem q0_is : Is (n := 256) (m := 128) (k0_pay131 (F := Ideal) q) (fun a c => half 0 (fun t c => qf t c * (1 / 8)) (256 * n + a) c) := by
  intro a c
  show Scalar.select (broadcastTo S256x128 (shapeCast S1x128 k0_pay128 shapeCasts_S1x128_S1x128) broadcasts_S1x128_S256x128 (ix2 a c))
    (q (ix2 a c) * Scalar.ofBits (F := Ideal) .bf16 0x3E00#16) (Scalar.ofBits (F := Ideal) .bf16 0x0000#16) = _
  rw [row_over, low_apply, hq, eighth_bf16, zero_bf16, ← EReal.coe_mul]
  by_cases h : c.val < 64
  · rw [if_pos h, select_one]; exact congrArg Real.toEReal (half_on 0 (fun t c => qf t c * (1 / 8)) (256 * n + a.val) c.val ((div0 _).2 h)).symm
  · rw [if_neg h, select_zero]; exact congrArg Real.toEReal (half_off 0 _ _ _ (fun e => h ((div0 _).1 e))).symm

include hq in
theorem q1_is : Is (n := 256) (m := 128) (k0_pay132 (F := Ideal) q) (fun a c => half 1 (fun t c => qf t c * (1 / 8)) (256 * n + a) c) := by
  intro a c
  show Scalar.select (broadcastTo S256x128 (shapeCast S1x128 k0_pay129 shapeCasts_S1x128_S1x128) broadcasts_S1x128_S256x128 (ix2 a c))
    (q (ix2 a c) * Scalar.ofBits (F := Ideal) .bf16 0x3E00#16) (Scalar.ofBits (F := Ideal) .bf16 0x0000#16) = _
  rw [row_over, high_apply, hq, eighth_bf16, zero_bf16, ← EReal.coe_mul]
  by_cases h : 64 ≤ c.val
  · rw [if_pos h, select_one]; exact congrArg Real.toEReal (half_on 1 (fun t c => qf t c * (1 / 8)) (256 * n + a.val) c.val ((div1 _ c.isLt).2 h)).symm
  · rw [if_neg h, select_zero]; exact congrArg Real.toEReal (half_off 1 _ _ _ (fun e => h ((div1 _ c.isLt).1 e))).symm

include hd in
theorem d0_is : Is (n := 256) (m := 128) (k0_pay135 (F := Ideal) d k0_pay133 k0_pay134) (fun a c => half 0 df (256 * n + a) c) := by
  intro a c
  show Scalar.select (broadcastTo S256x128 (shapeCast S1x128 k0_pay128 shapeCasts_S1x128_S1x128) broadcasts_S1x128_S256x128 (ix2 a c))
    (d (ix2 a c)) (Scalar.ofBits (F := Ideal) .bf16 0x0000#16) = _
  rw [row_over, low_apply, hd, zero_bf16]
  by_cases h : c.val < 64
  · rw [if_pos h, select_one]; exact congrArg Real.toEReal (half_on 0 _ _ _ ((div0 _).2 h)).symm
  · rw [if_neg h, select_zero]; exact congrArg Real.toEReal (half_off 0 _ _ _ (fun e => h ((div0 _).1 e))).symm

include hd in
theorem d1_is : Is (n := 256) (m := 128) (k0_pay136 (F := Ideal) k0_pay129 d) (fun a c => half 1 df (256 * n + a) c) := by
  intro a c
  show Scalar.select (broadcastTo S256x128 (shapeCast S1x128 k0_pay129 shapeCasts_S1x128_S1x128) broadcasts_S1x128_S256x128 (ix2 a c))
    (d (ix2 a c)) (Scalar.ofBits (F := Ideal) .bf16 0x0000#16) = _
  rw [row_over, high_apply, hd, zero_bf16]
  by_cases h : 64 ≤ c.val
  · rw [if_pos h, select_one]; exact congrArg Real.toEReal (half_on 1 _ _ _ ((div1 _ c.isLt).2 h)).symm
  · rw [if_neg h, select_zero]; exact congrArg Real.toEReal (half_off 1 _ _ _ (fun e => h ((div1 _ c.isLt).1 e))).symm

/-- The first lane of a page of the totals. -/
theorem page_apply (x : FVec Ideal S1x256x128 .f32) (a : Fin 256) (c : Fin 128) :
    shapeCast S256x128 x shapeCasts_S1x256x128_S256x128 (ix2 a c) = x (ix3 (0 : Fin 1) a c) := by
  refine shapeCast_apply (α := EReal) x shapeCasts_S1x256x128_S256x128 (ix2 a c) (ix3 (0 : Fin 1) a c) ?_
  rw [Shape.rowMajor_val_three, Shape.rowMajor_val_two]
  show (0 * 256 + a.val) * 128 + c.val = a.val * 128 + c.val
  omega

theorem first_col (x : FVec Ideal S256x128 .f32) (a : Fin 256) (b : Fin 1) :
    extractStridedSlice S256x1 ![0, 0] x slices_S256x128_o0_0_S256x1 (ix2 a b) = x (ix2 a (0 : Fin 128)) := by
  have hk : ∀ d : Fin S256x128.rank, ((ix2 a (0 : Fin 128) : S256x128.Idx) d).val
      = (![0, 0] : Fin S256x128.rank → ℕ) d + ((ix2 a b : S256x1.Idx) (d.cast slices_S256x128_o0_0_S256x1.1.symm)).val := by
    intro d
    match d with
    | ⟨0, _⟩ => show a.val = 0 + a.val; omega
    | ⟨1, _⟩ => show 0 = 0 + b.val; omega
  exact extractStridedSlice_apply _ x _ _ _ hk

include hT in
theorem t0_is : Is (n := 256) (m := 1) (k0_pay137 (F := Ideal) (fun y => T ((Rect.unit (s := S2x256x128) ![0, 0, 0] S1x256x128.size inb_S2x256x128_S1x256x128_0_0_0).toLoadRect.idx y)))
    (fun a _ => tot 0 (256 * n + a)) := by
  intro a b
  unfold k0_pay137
  refine (first_col _ a b).trans ((page_apply _ a 0).trans (Eq.trans (congrArg T ?_) (hT 0 a 0)))
  funext x
  refine Fin.ext ?_
  match x with
  | ⟨0, _⟩ => rfl
  | ⟨1, _⟩ => show 0 + 1 * a.val = a.val; omega
  | ⟨2, _⟩ => rfl

include hT in
theorem t1_is : Is (n := 256) (m := 1) (k0_pay138 (F := Ideal) (fun y => T ((Rect.unit (s := S2x256x128) ![1, 0, 0] S1x256x128.size inb_S2x256x128_S1x256x128_1_0_0).toLoadRect.idx y)))
    (fun a _ => tot 1 (256 * n + a)) := by
  intro a b
  unfold k0_pay138
  refine (first_col _ a b).trans ((page_apply _ a 0).trans (Eq.trans (congrArg T ?_) (hT 1 a 0)))
  funext x
  refine Fin.ext ?_
  match x with
  | ⟨0, _⟩ => rfl
  | ⟨1, _⟩ => show 0 + 1 * a.val = a.val; omega
  | ⟨2, _⟩ => rfl

include hq hd hT in
theorem ctx_is : CtxIs (ctxP q d T) (fun h => half h (fun t c => qf t c * (1 / 8))) (fun h => half h df) tot n where
  m := mask_is
  u := upto_is
  b := below_is
  q := fun h => match h with | 0 => q0_is hq | 1 => q1_is hq
  d := fun h => match h with | 0 => d0_is hd | 1 => d1_is hd
  t := fun h => match h with | 0 => t0_is hT | 1 => t1_is hT

end

/-- The query gradient a point leaves: each half from its head, times one eighth. -/
theorem dq_is {q d : Fin 2 → ℕ → ℕ → ℝ} {tot : Fin 2 → ℕ → ℝ} {kf vf : ℕ → ℕ → ℝ} {n : ℕ} {s : WalkP Ideal} (hs : WalkIs q d tot kf vf n (n + 1) s) (hn : n < 32) :
    Is (n := 256) (m := 128) (dqOf s.1) (fun a c => (∑ i ∈ range 8192, wZ q d tot kf vf (if c / 64 = 0 then 0 else 1) (256 * n + a) i * kf i c) * (1 / 8)) := by
  intro a c
  show Scalar.select (broadcastTo S256x128 (shapeCast S1x128 k0_pay128 shapeCasts_S1x128_S1x128) broadcasts_S1x128_S256x128 (ix2 a c))
    (s.1.2.2.1 (ix2 a c)) (s.1.2.2.2.2.2 (ix2 a c)) * Scalar.ofBits (F := Ideal) .f32 0x3E000000#32 = _
  rw [row_over, low_apply, hs.D0, hs.D1, eighth_f32]
  by_cases h : c.val < 64
  · rw [if_pos h, select_one, ← EReal.coe_mul]
    show (((_ : ℝ) * _ : ℝ) : EReal) = (((∑ i ∈ range 8192, wZ q d tot kf vf (if c.val / 64 = 0 then 0 else 1) (256 * n + a.val) i * kf i c.val) * (1 / 8) : ℝ) : EReal)
    rw [if_pos (show c.val / 64 = 0 by omega), ← sum_all (wZ q d tot kf vf 0) (fun t r => dzR_off _ _ _ t r) n a.val c.val hn a.isLt]
  · rw [if_neg h, select_zero, ← EReal.coe_mul]
    show (((_ : ℝ) * _ : ℝ) : EReal) = (((∑ i ∈ range 8192, wZ q d tot kf vf (if c.val / 64 = 0 then 0 else 1) (256 * n + a.val) i * kf i c.val) * (1 / 8) : ℝ) : EReal)
    rw [if_neg (show ¬ c.val / 64 = 0 by omega), ← sum_all (wZ q d tot kf vf 1) (fun t r => dzR_off _ _ _ t r) n a.val c.val hn a.isLt]

end Cert.KernelIdeal.Grad

end
-- ==== Proof.Blocks.lean ====
/- The blocks a grid point reads, and the accumulators over the points of a pair of heads. -/
module

public import proofs.«01_k».proof.Proof.Masks
public import proofs.«01_k».proof.Proof.Point
public import Idealize.ShloMosaic.Lib.Pipeline.ValueKit

@[expose] public section

set_option maxRecDepth 16384

noncomputable section

namespace Cert.KernelIdeal.Grad

open Cert.KernelIdeal Cert.KernelIdeal.Gen Cert.Grad
open Idealize.ShloMosaic hiding ix1 ix2 ix3 ix4
open Idealize.ShloMosaic.TcCoe Idealize.ShloMosaic.ValueIdx
open Finset (range)

theorem at_0 : ∀ t : Fin grid0.N, win0_0.index t = ![t.val % 32, t.val / 32] := by decide +kernel
theorem at_1 : ∀ t : Fin grid0.N, win0_1.index t = ![0, 4 + t.val / 32] := by decide +kernel
theorem at_2 : ∀ t : Fin grid0.N, win0_2.index t = ![0, 8 + t.val / 32] := by decide +kernel
theorem at_3 : ∀ t : Fin grid0.N, win0_3.index t = ![t.val % 32, t.val / 32] := by decide +kernel
theorem at_4 : ∀ t : Fin grid0.N, win0_4.index t = ![t.val / 32, t.val % 32, 0] := by decide +kernel
theorem at_6 : ∀ t : Fin grid0.N, win0_6.index t = ![t.val % 32, t.val / 32] := by decide +kernel
theorem at_7 : ∀ t : Fin grid0.N, win0_7.index t = ![0, t.val / 32] := by decide +kernel
theorem at_8 : ∀ t : Fin grid0.N, win0_8.index t = ![0, t.val / 32] := by decide +kernel

variable (m : (ℓ : Loc nD τ sig) → Buf (Elt Ideal) ℓ) (c : Dev nD)

/-- The arguments and the row totals are finite. -/
structure Known (X : ℕ → ℕ → ℝ) (D : ℕ → ℕ → ℝ) (T : ℕ → ℕ → ℝ) : Prop where
  x : Is (n := 8192) (m := 1536) (m ((c : Thread nD τ).loc main_arg0)) X
  d : Is (n := 8192) (m := 512) (m ((c : Thread nD τ).loc main_arg1)) D
  t : ∀ (h : Fin 8) (a : Fin 8192) (b : Fin 128), V m c main_v22 (ix3 h a b) = ((T h.val a.val : ℝ) : EReal)
  f : ∀ y, V m c main_v0 y = (0 : EReal)

variable {m c} {X D T : ℕ → ℕ → ℝ} (hK : Known m c X D T) (t : Fin cfg0.N)

theorem t_lt : t.val < 128 := t.isLt

include hK in
theorem blk_0 : Is (n := 256) (m := 128) (iblk m c 0 t) (fun a b => X (256 * (t.val % 32) + a) (128 * (t.val / 32) + b)) := by
  intro a b
  have h := hK.x ⟨256 * (t.val % 32) + a.val, by have := a.isLt; omega⟩ ⟨128 * (t.val / 32) + b.val, by have := b.isLt; have := t_lt t; omega⟩
  refine Eq.trans ?_ h
  rw [← V_main_arg0 m c]
  blk_ext [iblk, at_0]
  · show t.val % 32 * 256 + a.val = _; omega
  · show t.val / 32 * 128 + b.val = _; omega

include hK in
theorem blk_1 : Is (n := 8192) (m := 128) (iblk m c 1 t) (fun a b => X a (512 + 128 * (t.val / 32) + b)) := by
  intro a b
  have h := hK.x a ⟨512 + 128 * (t.val / 32) + b.val, by have := b.isLt; have := t_lt t; omega⟩
  refine Eq.trans ?_ h
  rw [← V_main_arg0 m c]
  blk_ext [iblk, at_1]
  · show (4 + t.val / 32) * 128 + b.val = _; omega

include hK in
theorem blk_2 : Is (n := 8192) (m := 128) (iblk m c 2 t) (fun a b => X a (1024 + 128 * (t.val / 32) + b)) := by
  intro a b
  have h := hK.x a ⟨1024 + 128 * (t.val / 32) + b.val, by have := b.isLt; have := t_lt t; omega⟩
  refine Eq.trans ?_ h
  rw [← V_main_arg0 m c]
  blk_ext [iblk, at_2]
  · show (8 + t.val / 32) * 128 + b.val = _; omega

include hK in
theorem blk_3 : Is (n := 256) (m := 128) (iblk m c 3 t) (fun a b => D (256 * (t.val % 32) + a) (128 * (t.val / 32) + b)) := by
  intro a b
  have h := hK.d ⟨256 * (t.val % 32) + a.val, by have := a.isLt; omega⟩ ⟨128 * (t.val / 32) + b.val, by have := b.isLt; have := t_lt t; omega⟩
  refine Eq.trans ?_ h
  rw [← V_main_arg1 m c]
  blk_ext [iblk, at_3]
  · show t.val % 32 * 256 + a.val = _; omega
  · show t.val / 32 * 128 + b.val = _; omega

include hK in
theorem blk_4 (h : Fin 2) (a : Fin 256) (b : Fin 128) :
    iblk m c 4 t (ix3 h a b) = ((T (2 * (t.val / 32) + h.val) (256 * (t.val % 32) + a.val) : ℝ) : EReal) := by
  have e := hK.t ⟨2 * (t.val / 32) + h.val, by have := h.isLt; have := t_lt t; omega⟩ ⟨256 * (t.val % 32) + a.val, by have := a.isLt; omega⟩ b
  refine Eq.trans ?_ e
  blk_ext [iblk, at_4]
  · show t.val / 32 * 2 + h.val = _; omega
  · show t.val % 32 * 256 + a.val = _; omega

include hK in
theorem blk_5 (y) : iblk m c 5 t y = (0 : EReal) := hK.f _

theorem max_zero (x : Vec Ideal S1x1x8x128 .f32) (hx : ∀ y, x y = (0 : EReal)) : k0_pay141 (F := Ideal) x = (0 : EReal) := by
  show multiReduction (F := Ideal) (φ := .f32) .maximumf [1, 2] S1 (shapeCast S1x8x128 (shapeCast (α := EReal) S8x128 x shapeCasts_S1x1x8x128_S8x128) shapeCasts_S8x128_S1x8x128) 0xFF800000#32 reduces_S1x8x128_S1 (.inl rfl) rfl _ = _
  generalize hX : shapeCast S1x8x128 (shapeCast (α := EReal) S8x128 x shapeCasts_S1x1x8x128_S8x128) shapeCasts_S8x128_S1x8x128 = Y
  have hY : Y = fun _ => (0 : EReal) := by
    subst hX; funext y; exact hx _
  subst hY
  refine (multiReduction_maximumf_eq_fold (F := Ideal) (φ := .f32) _ _ _ _ _ _).trans ?_
  refine (Finset.fold_const (op := FloatOps.maximumf (F := Ideal) (φ := .f32)) (0 : EReal) ?_).trans ?_
  · show max (0 : EReal) (max _ 0) = max _ 0
    simp
  · have e : (FloatOps.ofBits .f32 0xFF800000#32 : Ideal .f32) = (⊥ : EReal) := by
      show Ideal.ofBits .f32 0xFF800000#32 = ⊥
      simp [Ideal.ofBits, Ideal.ieee]
    rw [if_neg]
    · rw [e]; show max (⊥ : EReal) 0 = 0; simp
    · refine Finset.nonempty_iff_ne_empty.1 ⟨ix3 0 0 0, Finset.mem_filter.2 ⟨Finset.mem_univ _, ?_⟩⟩
      funext d
      match d with
      | ⟨0, _⟩ => exact Subsingleton.elim (α := Fin 1) _ _

include hK in
theorem word_zero : wordP (F := Ideal) (iblk m c 5 t) = 0#32 := by
  unfold wordP
  rw [max_zero _ (blk_5 hK t)]
  show Ideal.fptosi 32 (((0 : ℝ)) : EReal) = 0#32
  show BitVec.ofInt 32 (max _ (min _ (if (0 : ℝ) ≤ 0 then ⌊(0 : ℝ)⌋ else ⌈(0 : ℝ)⌉))) = 0#32
  rw [if_pos le_rfl, Int.floor_zero]
  rfl

/-- The pair's two heads of 128 columns. -/
def qP (X : ℕ → ℕ → ℝ) (p : ℕ) (h : Fin 2) : ℕ → ℕ → ℝ := half h fun t b => X t (128 * p + b) * (1 / 8)
def dP (D : ℕ → ℕ → ℝ) (p : ℕ) (h : Fin 2) : ℕ → ℕ → ℝ := half h fun t b => D t (128 * p + b)
def tP (T : ℕ → ℕ → ℝ) (p : ℕ) (h : Fin 2) : ℕ → ℝ := T (2 * p + h.val)
def kP (X : ℕ → ℕ → ℝ) (p : ℕ) : ℕ → ℕ → ℝ := fun s b => X s (512 + 128 * p + b)
def vP (X : ℕ → ℕ → ℝ) (p : ℕ) : ℕ → ℕ → ℝ := fun s b => X s (1024 + 128 * p + b)

include hK in
theorem ctx_at : CtxIs (ctxP (iblk m c 0 t) (iblk m c 3 t) (iblk m c 4 t)) (qP X (t.val / 32)) (dP D (t.val / 32)) (tP T (t.val / 32)) (t.val % 32) :=
  ctx_is (qf := fun t' b => X t' (128 * (t.val / 32) + b)) (df := fun t' b => D t' (128 * (t.val / 32) + b)) (tot := tP T (t.val / 32))
    (blk_0 hK t) (blk_3 hK t) (blk_4 hK t)

include hK in
theorem point_eq (AB) : pointP m c t AB = ptP (t.val % 32) 0 (ctxP (iblk m c 0 t) (iblk m c 3 t) (iblk m c 4 t)) (iblk m c 1 t) (iblk m c 2 t) AB.1 AB.2 := by
  unfold pointP
  rw [word_zero hK t, start_zero, coord_1]

theorem ptP_fresh {n j0 : ℕ} (h : n = 0) (C : Ctx Ideal) (K V : Vec Ideal S8192x128 .bf16) (A B A' B' : Vec Ideal S8192x128 .f32) :
    ptP n j0 C K V A B = ptP n j0 C K V A' B' := by
  unfold ptP
  rw [if_pos h, if_pos h]

include hK in
/-- Before a point that continues a pair of heads, the accumulators hold the pair's query tiles so far. -/
theorem accs_is (n : ℕ) (hn : n < 128) (h0 : n % 32 ≠ 0) :
    AccIs (qP X (n / 32)) (dP D (n / 32)) (tP T (n / 32)) (kP X (n / 32)) (vP X (n / 32)) (n % 32) (accs m c n).1 (accs m c n).2 := by
  induction n with
  | zero => exact absurd rfl h0
  | succ n ih =>
    have ep : (n + 1) / 32 = n / 32 := by omega
    have ei : (n + 1) % 32 = n % 32 + 1 := by omega
    have hN : n < cfg0.N := by show n < 128; omega
    have e := accs_next m c ⟨n, hN⟩
    rw [e, point_eq hK, ep, ei]
    by_cases h : n % 32 = 0
    · rw [ptP_fresh h _ _ _ _ _ (k0_pay123 (F := Ideal)) (k0_pay124 (F := Ideal))]
      exact pt_acc (ctx_at hK ⟨n, hN⟩) (blk_1 hK ⟨n, hN⟩) (blk_2 hK ⟨n, hN⟩) (by omega) (by rw [h]; exact acc_zero)
    · exact pt_acc (ctx_at hK ⟨n, hN⟩) (blk_1 hK ⟨n, hN⟩) (blk_2 hK ⟨n, hN⟩) (by omega) (ih (by omega) h)

include hK in
theorem point_is : WalkIs (qP X (t.val / 32)) (dP D (t.val / 32)) (tP T (t.val / 32)) (kP X (t.val / 32)) (vP X (t.val / 32)) (t.val % 32) (t.val % 32 + 1)
    (pointP m c t (accs m c t.val)) := by
  rw [point_eq hK]
  by_cases h : t.val % 32 = 0
  · rw [ptP_fresh h _ _ _ _ _ (k0_pay123 (F := Ideal)) (k0_pay124 (F := Ideal))]
    exact pt_is (ctx_at hK t) (blk_1 hK t) (blk_2 hK t) (by omega) (by rw [h]; exact acc_zero)
  · exact pt_is (ctx_at hK t) (blk_1 hK t) (blk_2 hK t) (by omega) (accs_is hK t.val (t_lt t) h)

include hK in
theorem point_acc : AccIs (qP X (t.val / 32)) (dP D (t.val / 32)) (tP T (t.val / 32)) (kP X (t.val / 32)) (vP X (t.val / 32)) (t.val % 32 + 1)
    (pointP m c t (accs m c t.val)).2.1 (pointP m c t (accs m c t.val)).2.2 := by
  rw [point_eq hK]
  by_cases h : t.val % 32 = 0
  · rw [ptP_fresh h _ _ _ _ _ (k0_pay123 (F := Ideal)) (k0_pay124 (F := Ideal))]
    exact pt_acc (ctx_at hK t) (blk_1 hK t) (blk_2 hK t) (by omega) (by rw [h]; exact acc_zero)
  · exact pt_acc (ctx_at hK t) (blk_1 hK t) (blk_2 hK t) (by omega) (accs_is hK t.val (t_lt t) h)

end Cert.KernelIdeal.Grad

end
-- ==== Proof.Window.lean ====
/- A running sum along the last of four axes, over the extended reals, read as a sum of the operand's elements. -/
module

public import proofs.«01_k».proof.Proof.Sem

@[expose] public section

set_option maxRecDepth 16384

noncomputable section

namespace Cert.Grad

open Idealize.ShloMosaic Idealize.ShloMosaic.ValueIdx
open Cert.KernelIdeal.Grad (coe_sum_range)
open Finset (range)

/-- An array over four axes, the first of size one, of the finite values `f`. -/
def Is4 {a b c d : ℕ} (Y : (⟨4, ![a, b, c, d]⟩ : Shape).Idx → EReal) (f : ℕ → ℕ → ℕ → ℝ) : Prop :=
  ∀ i, Y i = ((f (i 1).val (i 2).val (i 3).val : ℝ) : EReal)

theorem foldl_add_sum {α : Type*} (g : α → EReal) (l : List α) (a : EReal) :
    l.foldl (fun r n => r + g n) a = a + (l.map g).sum := by
  induction l generalizing a with
  | nil => simp
  | cons x l ih => rw [List.foldl_cons, ih, List.map_cons, List.sum_cons, add_assoc]

/-- The indices of a shape whose only axis of size other than one is the last. -/
def lastAxis (N : ℕ) : (⟨4, ![1, 1, 1, N]⟩ : Shape).Idx ≃ Fin N where
  toFun i := i 3
  invFun n := fun a => match a with
    | ⟨0, _⟩ => (0 : Fin 1)
    | ⟨1, _⟩ => (0 : Fin 1)
    | ⟨2, _⟩ => (0 : Fin 1)
    | ⟨3, _⟩ => n
  left_inv i := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  right_inv _ := rfl

/-- What one position of the window adds. -/
def term {s : Shape} (lo strides : Fin s.rank → ℕ) (x : s.Idx → EReal) (j w : Fin s.rank → ℕ) : EReal :=
  let p : Fin s.rank → ℕ := fun a => j a * strides a + w a
  if hin : ∀ a, lo a ≤ p a ∧ p a - lo a < s.size a then x (fun a => ⟨p a - lo a, (hin a).2⟩) else 0

/-- A window of the last axis' whole length, padded by `L` below and `U` above. -/
theorem windowed {A B N L U : ℕ} (x : (⟨4, ![1, A, B, N]⟩ : Shape).Idx → EReal) (f : ℕ → ℕ → ℕ → ℝ) (hx : Is4 x f)
    (h : (⟨4, ![1, A, B, N]⟩ : Shape).ReduceWindows ![1, 1, 1, N] ![1, 1, 1, 1] ![0, 0, 0, L] ![0, 0, 0, U] ⟨4, ![1, A, B, N]⟩)
    (j : (⟨4, ![1, A, B, N]⟩ : Shape).Idx) :
    Ideal.hostReduceWindowAdd ![1, 1, 1, N] ![1, 1, 1, 1] ![0, 0, 0, L] ![0, 0, 0, U] h x 0 j
      = ((∑ n ∈ range N, (if L ≤ (j 3).val + n ∧ (j 3).val + n - L < N then f (j 1).val (j 2).val ((j 3).val + n - L) else 0) : ℝ) : EReal) := by
  unfold Ideal.hostReduceWindowAdd Host.reduceWindow
  refine (foldl_add_sum _ _ _).trans ?_
  rw [zero_add, ← Fin.sum_univ_def]
  refine Eq.trans (b := ∑ i, term (s := ⟨4, ![1, A, B, N]⟩) ![0, 0, 0, L] ![1, 1, 1, 1] x (fun a => (j a).val)
    fun a => (((⟨4, ![1, 1, 1, N]⟩ : Shape).rowMajor).symm i a).val) (Finset.sum_congr rfl fun i _ => ?_) ?_
  · unfold term
    congr
  refine (Equiv.sum_comp ((⟨4, ![1, 1, 1, N]⟩ : Shape).rowMajor).symm fun w => term (s := ⟨4, ![1, A, B, N]⟩)
    ![0, 0, 0, L] ![1, 1, 1, 1] x (fun a => (j a).val) fun a => (w a).val).trans ?_
  rw [← Equiv.sum_comp (lastAxis N).symm]
  refine coe_sum_range N _ _ fun n => ?_
  unfold term
  by_cases hc : L ≤ (j 3).val + n.val ∧ (j 3).val + n.val - L < N
  · rw [if_pos hc, dif_pos]
    · rw [hx]
      show ((f ((j 1).val * 1 + 0 - 0) ((j 2).val * 1 + 0 - 0) ((j 3).val * 1 + n.val - L) : ℝ) : EReal) = _
      rw [mul_one, mul_one, mul_one]; rfl
    · intro a
      match a with
      | ⟨0, _⟩ => exact ⟨Nat.zero_le _, by show (j 0).val * 1 + 0 - 0 < 1; have : (j 0).val < 1 := (j 0).isLt; omega⟩
      | ⟨1, _⟩ => exact ⟨Nat.zero_le _, by show (j 1).val * 1 + 0 - 0 < A; have : (j 1).val < A := (j 1).isLt; omega⟩
      | ⟨2, _⟩ => exact ⟨Nat.zero_le _, by show (j 2).val * 1 + 0 - 0 < B; have : (j 2).val < B := (j 2).isLt; omega⟩
      | ⟨3, _⟩ => exact ⟨by show L ≤ (j 3).val * 1 + n.val; omega, by show (j 3).val * 1 + n.val - L < N; omega⟩
  · rw [if_neg hc, dif_neg, EReal.coe_zero]
    intro hin
    have h3 : L ≤ (j 3).val * 1 + n.val ∧ (j 3).val * 1 + n.val - L < N := hin 3
    exact hc ⟨by omega, by omega⟩

/-- The host's operation from an initial value of zero. -/
theorem windowed_host {A B N L U : ℕ} {u : Shape} (x : FVec Ideal ⟨4, ![1, A, B, N]⟩ .f32) (f : ℕ → ℕ → ℕ → ℝ) (hx : Is4 x f)
    (h : (⟨4, ![1, A, B, N]⟩ : Shape).ReduceWindows ![1, 1, 1, N] ![1, 1, 1, 1] ![0, 0, 0, L] ![0, 0, 0, U] ⟨4, ![1, A, B, N]⟩)
    (init : u.Idx → Ideal .f32) (hu : 0 < u.numel) (h0 : (init (Shape.Idx.first hu) : EReal) = 0) (j : (⟨4, ![1, A, B, N]⟩ : Shape).Idx) :
    Host.reduceWindowAdd ![1, 1, 1, N] ![1, 1, 1, 1] ![0, 0, 0, L] ![0, 0, 0, U] x init h hu j
      = ((∑ n ∈ range N, (if L ≤ (j 3).val + n ∧ (j 3).val + n - L < N then f (j 1).val (j 2).val ((j 3).val + n - L) else 0) : ℝ) : EReal) := by
  show Ideal.hostReduceWindowAdd ![1, 1, 1, N] ![1, 1, 1, 1] ![0, 0, 0, L] ![0, 0, 0, U] h x (init (Shape.Idx.first hu)) j = _
  rw [h0]
  exact windowed x f hx h j

/-- The sum from `s` on. -/
theorem window_suffix (N s : ℕ) (hs : s < N) (f : ℕ → ℝ) :
    ∑ n ∈ range N, (if 0 ≤ s + n ∧ s + n - 0 < N then f (s + n - 0) else 0) = ∑ n ∈ range N, f n - ∑ n ∈ range s, f n := by
  rw [← Finset.sum_filter, show (range N).filter (fun n => 0 ≤ s + n ∧ s + n - 0 < N) = range (N - s) from by ext n; simp; omega]
  have e := Finset.sum_range_add (f := f) (n := s) (m := N - s)
  rw [show s + (N - s) = N by omega] at e
  rw [e]; simp

/-- The sum up to `s`. -/
theorem window_prefix (N M s : ℕ) (hM : N = M + 1) (hs : s < N) (f : ℕ → ℝ) :
    ∑ n ∈ range N, (if M ≤ s + n ∧ s + n - M < N then f (s + n - M) else 0) = ∑ n ∈ range (s + 1), f n := by
  have e : N = (M - s) + (s + 1) := by omega
  rw [e, Finset.sum_range_add, Finset.sum_eq_zero, zero_add]
  · refine Finset.sum_congr rfl fun n hn => ?_
    have := Finset.mem_range.1 hn
    rw [if_pos (by omega)]; congr 1; omega
  · intro n hn
    have := Finset.mem_range.1 hn
    rw [if_neg (by omega)]

end Cert.Grad

end
-- ==== Proof.RefSide.lean ====
/- The reference's three gradients at an element, on finite arguments: sums over the reals. -/
module

public import proofs.«01_k».proof.Proof.Gen.ReferenceIdeal.Read
public import proofs.«01_k».proof.Proof.Gen.ReferenceIdeal.Run
public import proofs.«01_k».proof.Proof.Window
public import proofs.«01_k».proof.Proof.Masks

@[expose] public section

set_option maxRecDepth 16384

noncomputable section

namespace Cert.ReferenceIdeal.Grad

open Cert.ReferenceIdeal Cert.ReferenceIdeal.Gen Cert.ReferenceIdeal.Read Cert.Grad
open Idealize.ShloMosaic Idealize.ShloMosaic.TcCoe
open Cert.KernelIdeal.Grad (Is coe_sum_range zero_f32 eighth_f32 coe_max' coe_min' slt_small)
open Finset (range)

/-! ## The soft plus and its derivative on a finite value -/

def sp (o y : Ideal .f32) : Ideal .f32 :=
  Scalar.select (FloatOps.cmpf .une (FloatOps.subf y o) (FloatOps.subf y o)) (FloatOps.addf y o)
    (FloatOps.addf (FloatOps.maximumf y o) (FloatOps.hostUnary .log1p (FloatOps.hostUnary .exp (FloatOps.hostNegf (FloatOps.hostAbsf (FloatOps.subf y o))))))

def dsp (o w y s : Ideal .f32) : Ideal .f32 :=
  FloatOps.hostUnary .exp (FloatOps.subf (Scalar.select (FloatOps.cmpf .oeq y w) o y) (Scalar.select (FloatOps.cmpf .oeq s w) o s))

theorem cmp_une (y : Ideal .f32) : FloatOps.cmpf .une y y = 0#1 := by
  show BitVec.ofBool (decide ((y : EReal) ≠ y)) = 0#1
  simp

theorem inf_f32 : (FloatOps.ofBits (F := Ideal) .f32 0x7F800000#32 : EReal) = ⊤ := by
  show Ideal.ofBits .f32 0x7F800000#32 = ⊤
  simp [Ideal.ofBits, Ideal.ieee]

theorem cmp_top (r : ℝ) : FloatOps.cmpf (F := Ideal) (φ := .f32) .oeq ((r : ℝ) : EReal) (⊤ : EReal) = 0#1 := by
  show BitVec.ofBool (decide (((r : ℝ) : EReal) = ⊤)) = 0#1
  simp

theorem sp_coe (r : ℝ) : sp (0 : EReal) (r : EReal) = ((max r 0 + Real.log (1 + Real.exp (-|r|)) : ℝ) : EReal) := by
  have hp : ¬ (1 + Real.exp (-|r|) ≤ 0) := by have := Real.exp_pos (-|r|); linarith
  unfold sp
  rw [cmp_une, ValueIdx.select_zero]
  show max (r : EReal) 0 + Ideal.log (1 + Ideal.exp (-(max ((r : EReal) - 0) (-((r : EReal) - 0))))) = _
  rw [sub_zero, ← EReal.coe_neg, ← coe_max' r (-r), ← EReal.coe_zero, ← coe_max', ← EReal.coe_neg, Ideal.exp_coe, ← EReal.coe_one,
    ← EReal.coe_add, show max r (-r) = |r| from rfl, Ideal.log_coe, if_neg hp, ← EReal.coe_add]

theorem dsp_coe (r s : ℝ) : dsp (0 : EReal) (⊤ : EReal) (r : EReal) (s : EReal) = ((Real.exp (r - s) : ℝ) : EReal) := by
  unfold dsp
  rw [cmp_top, cmp_top, ValueIdx.select_zero, ValueIdx.select_zero]
  show Ideal.exp ((r : EReal) - (s : EReal)) = _
  rw [← EReal.coe_sub, Ideal.exp_coe]

theorem neg_sp (r : ℝ) : -(max r 0 + Real.log (1 + Real.exp (-|r|))) = lnR r := by
  unfold lnR
  have : min (-r) 0 = -max r 0 := by rw [← neg_zero, min_neg_neg, neg_zero]
  rw [this]; ring

theorem neg_sp' (r : ℝ) : -(max (-r) 0 + Real.log (1 + Real.exp (-|(-r)|))) = lsR r := by
  unfold lsR
  have : min r 0 = -max (-r) 0 := by rw [← min_neg_neg, neg_neg, neg_zero]
  rw [this, abs_neg]; ring

theorem sub_sp (r : ℝ) : r - (max r 0 + Real.log (1 + Real.exp (-|r|))) = lsR r := by
  unfold lsR
  have : max r 0 + min r 0 = r + 0 := max_add_min r 0
  linarith

theorem sub_sp' (r : ℝ) : -r - (max (-r) 0 + Real.log (1 + Real.exp (-|(-r)|))) = lnR r := by
  unfold lnR
  have : max (-r) 0 + min (-r) 0 = -r + 0 := max_add_min (-r) 0
  rw [abs_neg]; linarith

/-! ## The heads, the scores and the attention -/

abbrev IsH (Y : S1x8192x8x64.Idx → EReal) (f : ℕ → ℕ → ℕ → ℝ) : Prop := Is4 (a := 1) (b := 8192) (c := 8) (d := 64) Y f

abbrev IsS (Y : S1x8x8192x8192.Idx → EReal) (f : ℕ → ℕ → ℕ → ℝ) : Prop := Is4 (a := 1) (b := 8) (c := 8192) (d := 8192) Y f

def zH (X : ℕ → ℕ → ℝ) (h t s : ℕ) : ℝ := (∑ c ∈ range 64, X t (64 * h + c) * X s (512 + (64 * h + c))) * (1 / 8)

def eH (X D : ℕ → ℕ → ℝ) (h t s : ℕ) : ℝ := ∑ c ∈ range 64, D t (64 * h + c) * X s (1024 + (64 * h + c))

def tH (X : ℕ → ℕ → ℝ) (h t : ℕ) : ℝ := ∑ s ∈ range 8192, LR (zH X h) t s

theorem is_at {n m : ℕ} {Y : (⟨2, ![n, m]⟩ : Shape).Idx → EReal} {f : ℕ → ℕ → ℝ} (hY : Is Y f) (i : (⟨2, ![n, m]⟩ : Shape).Idx) :
    Y i = ((f (i 0).val (i 1).val : ℝ) : EReal) := by
  rw [ValueIdx.eq_ix2 i]; exact hY _ _

theorem coe_congr {a b : ℝ} (h : a = b) : (a : EReal) = (b : EReal) := by rw [h]

section
variable {x0 : (⟨S8192x1536, .bf16⟩ : BufTy).Contents (Elt Ideal)} {x1 : (⟨S8192x512, .bf16⟩ : BufTy).Contents (Elt Ideal)}
variable {X D : ℕ → ℕ → ℝ}
variable (hx : Is (n := 8192) (m := 1536) x0 X) (hd : Is (n := 8192) (m := 512) x1 D)

include hx in
theorem q_is : IsH (val_main_v4 (F := Ideal) x0) fun t h c => X t (64 * h + c) := by
  intro i
  have h0 : (i 0).val < 1 := (i 0).isLt
  have h1 : (i 1).val < 8192 := (i 1).isLt
  have h2 : (i 2).val < 8 := (i 2).isLt
  have h3 : (i 3).val < 64 := (i 3).isLt
  rw [val_main_v4_apply]
  show val_main_v0 (F := Ideal) x0 _ = _
  rw [val_main_v0_apply, is_at hx]
  refine coe_congr (congrArg₂ X ?_ ?_)
  · show ((((i 0).val * 8192 + (i 1).val) * 8 + (i 2).val) * 64 + (i 3).val) / 512 = (i 1).val; omega
  · show ((((i 0).val * 8192 + (i 1).val) * 8 + (i 2).val) * 64 + (i 3).val) % 512 = 64 * (i 2).val + (i 3).val; omega

include hx in
theorem k_is : IsH (val_main_v6 (F := Ideal) x0) fun t h c => X t (512 + (64 * h + c)) := by
  intro i
  have h0 : (i 0).val < 1 := (i 0).isLt
  have h1 : (i 1).val < 8192 := (i 1).isLt
  have h2 : (i 2).val < 8 := (i 2).isLt
  have h3 : (i 3).val < 64 := (i 3).isLt
  rw [val_main_v6_apply]
  show val_main_v1 (F := Ideal) x0 _ = _
  rw [val_main_v1_apply, is_at hx]
  refine coe_congr (congrArg₂ X ?_ ?_)
  · show ((((i 0).val * 8192 + (i 1).val) * 8 + (i 2).val) * 64 + (i 3).val) / 512 = (i 1).val; omega
  · show 512 + ((((i 0).val * 8192 + (i 1).val) * 8 + (i 2).val) * 64 + (i 3).val) % 512 = 512 + (64 * (i 2).val + (i 3).val); omega

include hx in
theorem v_is : IsH (val_main_v8 (F := Ideal) x0) fun t h c => X t (1024 + (64 * h + c)) := by
  intro i
  have h0 : (i 0).val < 1 := (i 0).isLt
  have h1 : (i 1).val < 8192 := (i 1).isLt
  have h2 : (i 2).val < 8 := (i 2).isLt
  have h3 : (i 3).val < 64 := (i 3).isLt
  rw [val_main_v8_apply]
  show val_main_v2 (F := Ideal) x0 _ = _
  rw [val_main_v2_apply, is_at hx]
  refine coe_congr (congrArg₂ X ?_ ?_)
  · show ((((i 0).val * 8192 + (i 1).val) * 8 + (i 2).val) * 64 + (i 3).val) / 512 = (i 1).val; omega
  · show 1024 + ((((i 0).val * 8192 + (i 1).val) * 8 + (i 2).val) * 64 + (i 3).val) % 512 = 1024 + (64 * (i 2).val + (i 3).val); omega

include hd in
/-- The cotangent by head, channel and token. -/
theorem d_is : Is4 (a := 1) (b := 8) (c := 64) (d := 8192) (val_main_v28 (F := Ideal) x1) fun h c t => D t (64 * h + c) := by
  intro i
  have h0 : (i 0).val < 1 := (i 0).isLt
  have h1 : (i 1).val < 8 := (i 1).isLt
  have h2 : (i 2).val < 64 := (i 2).isLt
  have h3 : (i 3).val < 8192 := (i 3).isLt
  rw [val_main_v28_apply, val_main_v27_apply]
  show x1 _ = _
  rw [is_at hd]
  refine coe_congr (congrArg₂ D ?_ ?_)
  · show ((((i 0).val * 8192 + (i 3).val) * 8 + (i 1).val) * 64 + (i 2).val) / 512 = (i 3).val; omega
  · show ((((i 0).val * 8192 + (i 3).val) * 8 + (i 1).val) * 64 + (i 2).val) % 512 = 64 * (i 1).val + (i 2).val; omega

include hx in
theorem z_is : IsS (val_main_v11 (F := Ideal) x0) (zH X) := by
  intro i
  rw [val_main_v11_apply, val_main_v9_apply]
  rw [coe_sum_range 64 (fun c => X (i 2).val (64 * (i 1).val + c) * X (i 3).val (512 + (64 * (i 1).val + c))) _ (fun c => by
    rw [q_is hx, k_is hx, EReal.coe_mul])]
  show _ * Scalar.ofBits (F := Ideal) .f32 0x3E000000#32 = _
  rw [eighth_f32, ← EReal.coe_mul]; rfl

theorem keep_is (i : S1x8x8192x8192.Idx) : val_main_v17_1 (F := Ideal) i = if (i 3).val < (i 2).val then 1#1 else 0#1 := by
  have h2 : (i 2).val < 8192 := (i 2).isLt
  have h3 : (i 3).val < 8192 := (i 3).isLt
  rw [val_main_v17_1_apply]
  show IntOp.cmpi .slt (BitVec.ofNat 32 (i 3).val) (BitVec.ofNat 32 (i 2).val) = _
  exact slt_small _ _ (by omega) (by omega)

theorem keep_is' (i : S1x8x8192x8192.Idx) : val_main_v23_1 (F := Ideal) i = if (i 3).val < (i 2).val then 1#1 else 0#1 := keep_is i

/-- A choice by the strict triangle. -/
theorem sel_is (i : S1x8x8192x8192.Idx) (m : BitVec 1) (hm : m = if (i 3).val < (i 2).val then 1#1 else 0#1) (y o : EReal) (r : ℝ)
    (hy : y = (r : EReal)) (ho : o = 0) : Scalar.select m y o = (((if (i 3).val < (i 2).val then r else 0) : ℝ) : EReal) := by
  subst hm hy ho
  by_cases h : (i 3).val < (i 2).val
  · rw [if_pos h, if_pos h, ValueIdx.select_one]
  · rw [if_neg h, if_neg h, ValueIdx.select_zero, EReal.coe_zero]

include hx in
theorem sp0_is : IsS (val_main_call0_v1_0 (F := Ideal) x0) fun h t s => max (zH X h t s) 0 + Real.log (1 + Real.exp (-|zH X h t s|)) := by
  intro i
  refine Eq.trans (b := sp (Scalar.ofBits (F := Ideal) .f32 0x00000000#32) (-(-(val_main_v11 (F := Ideal) x0 i : EReal)))) rfl ?_
  rw [neg_neg, z_is hx, zero_f32]
  exact sp_coe _

include hx in
theorem sp3_is : IsS (val_main_call3_v1_0 (F := Ideal) x0) fun h t s => max (-zH X h t s) 0 + Real.log (1 + Real.exp (-|(-zH X h t s)|)) := by
  intro i
  refine Eq.trans (b := sp (Scalar.ofBits (F := Ideal) .f32 0x00000000#32) (-(val_main_v11 (F := Ideal) x0 i : EReal))) rfl ?_
  rw [z_is hx, zero_f32, ← EReal.coe_neg]
  exact sp_coe _

include hx in
theorem ln_is : IsS (val_main_v16_0 (F := Ideal) x0) fun h t s => lnR (zH X h t s) := by
  intro i
  show -(val_main_call0_v1_0 (F := Ideal) x0 i : EReal) = _
  rw [sp0_is hx, ← EReal.coe_neg]
  exact coe_congr (neg_sp _)

include hx in
theorem ls_is : IsS (val_main_v20_0 (F := Ideal) x0) fun h t s => lsR (zH X h t s) := by
  intro i
  show -(val_main_call3_v1_0 (F := Ideal) x0 i : EReal) = _
  rw [sp3_is hx, ← EReal.coe_neg]
  exact coe_congr (neg_sp' _)

include hx in
theorem sig_is : IsS (val_main_v16_1 (F := Ideal) x0) fun h t s => Real.exp (lsR (zH X h t s)) := by
  intro i
  refine Eq.trans (b := dsp (Scalar.ofBits (F := Ideal) .f32 0x00000000#32) (FloatOps.ofBits .f32 0x7F800000#32)
    (-(-(val_main_v11 (F := Ideal) x0 i : EReal))) (val_main_call0_v1_0 (F := Ideal) x0 i)) rfl ?_
  rw [neg_neg, z_is hx, sp0_is hx, zero_f32, inf_f32, dsp_coe, sub_sp]

include hx in
theorem cosig_is : IsS (val_main_v20_1 (F := Ideal) x0) fun h t s => 1 - Real.exp (lsR (zH X h t s)) := by
  intro i
  refine Eq.trans (b := dsp (Scalar.ofBits (F := Ideal) .f32 0x00000000#32) (FloatOps.ofBits .f32 0x7F800000#32)
    (-(val_main_v11 (F := Ideal) x0 i : EReal)) (val_main_call3_v1_0 (F := Ideal) x0 i)) rfl ?_
  rw [z_is hx, sp3_is hx, zero_f32, inf_f32, ← EReal.coe_neg, dsp_coe, sub_sp', exp_ln]

include hx in
theorem kept_is : IsS (val_main_v17_0 (F := Ideal) x0) fun h t s => LR (zH X h) t s := by
  intro i
  rw [val_main_v17_0_apply]
  exact sel_is i _ (keep_is i) _ _ _ (ln_is hx i) zero_f32

include hx in
theorem suffix_is : IsS (val_main_v18 (F := Ideal) x0) fun h t s => tH X h t - ∑ j ∈ range s, LR (zH X h) t j := by
  intro i
  have h3 : (i 3).val < 8192 := (i 3).isLt
  have e := windowed_host (A := 8) (B := 8192) (N := 8192) (L := 0) (U := 8191) (val_main_v17_0 (F := Ideal) x0) _ (kept_is hx)
    reduceWindows_S1x8x8192x8192_S1x8x8192x8192_w1s1p0_0_w1s1p0_0_w1s1p0_0_w8192s1p0_8191
    (val_main_call2_v0 (F := Ideal)) (by decide) zero_f32 i
  rw [window_suffix 8192 (i 3).val h3 (fun n => LR (zH X (i 1).val) (i 2).val n)] at e
  exact e

include hx in
theorem expo_is : IsS (val_main_v22 (F := Ideal) x0) fun h t s =>
    Real.exp (lsR (zH X h t s) + (tH X h t - ∑ j ∈ range (s + 1), LR (zH X h) t j)) := by
  intro i
  show Ideal.exp ((val_main_v20_0 (F := Ideal) x0 i : EReal) + ((val_main_v18 (F := Ideal) x0 i : EReal) - (val_main_v17_0 (F := Ideal) x0 i : EReal))) = _
  rw [ls_is hx, suffix_is hx, kept_is hx, ← EReal.coe_sub, ← EReal.coe_add, Ideal.exp_coe]
  beta_reduce
  rw [Finset.sum_range_succ, sub_sub]

include hx in
theorem att_is : IsS (val_main_v23_0 (F := Ideal) x0) fun h t s => aR (zH X h) (tH X h) t s := by
  intro i
  rw [val_main_v23_0_apply]
  exact sel_is i _ (keep_is' i) _ _ _ (expo_is hx i) zero_f32

include hx hd in
theorem e_is : IsS (val_main_v29 (F := Ideal) x0 x1) (eH X D) := by
  intro i
  rw [val_main_v29_apply]
  exact coe_sum_range 64 (fun c => D (i 2).val (64 * (i 1).val + c) * X (i 3).val (1024 + (64 * (i 1).val + c))) _ (fun c => by
    rw [d_is hd, v_is hx, EReal.coe_mul])

include hx hd in
theorem g_is : IsS (val_main_v33 (F := Ideal) x0 x1) fun h t s => gR (zH X h) (eH X D h) (tH X h) t s := by
  intro i
  have e : (val_main_v32 (F := Ideal) x0 x1 i : EReal) = _ := sel_is i _ (keep_is' i) _ _ _ (e_is hx hd i) zero_f32
  show (val_main_v32 (F := Ideal) x0 x1 i : EReal) * (val_main_v22 (F := Ideal) x0 i : EReal) = _
  rw [e, expo_is hx, ← EReal.coe_mul]
  refine coe_congr ?_
  unfold gR aR
  beta_reduce
  by_cases h : (i 3).val < (i 2).val
  · rw [if_pos h, if_pos h, mul_comm]
  · rw [if_neg h, if_neg h, zero_mul, zero_mul]

include hx hd in
theorem prefix_is : IsS (val_main_v36 (F := Ideal) x0 x1) fun h t s => ∑ j ∈ range (s + 1), gR (zH X h) (eH X D h) (tH X h) t j := by
  intro i
  have h3 : (i 3).val < 8192 := (i 3).isLt
  have e := windowed_host (A := 8) (B := 8192) (N := 8192) (L := 8191) (U := 0) (val_main_v33 (F := Ideal) x0 x1) _ (g_is hx hd)
    reduceWindows_S1x8x8192x8192_S1x8x8192x8192_w1s1p0_0_w1s1p0_0_w1s1p0_0_w8192s1p8191_0
    (val_main_call7_v0 (F := Ideal)) (by decide) zero_f32 i
  rw [window_prefix 8192 8191 (i 3).val rfl h3 (fun n => gR (zH X (i 1).val) (eH X D (i 1).val) (tH X (i 1).val) (i 2).val n)] at e
  exact e

include hx hd in
theorem dz_is : IsS (val_main_v43 (F := Ideal) x0 x1) fun h t s => dzR (zH X h) (eH X D h) (tH X h) t s * (1 / 8) := by
  intro i
  have e : (val_main_v38 (F := Ideal) x0 x1 i : EReal)
      = (((if (i 3).val < (i 2).val then ∑ j ∈ range (i 3).val, gR (zH X (i 1).val) (eH X D (i 1).val) (tH X (i 1).val) (i 2).val j else 0) : ℝ) : EReal) := by
    refine sel_is i _ (keep_is i) _ _ _ ?_ zero_f32
    show -(val_main_v33 (F := Ideal) x0 x1 i : EReal) + (val_main_v36 (F := Ideal) x0 x1 i : EReal) = _
    rw [g_is hx hd, prefix_is hx hd, ← EReal.coe_neg, ← EReal.coe_add]
    beta_reduce
    rw [Finset.sum_range_succ]
    exact coe_congr (by ring)
  show ((-(-(val_main_v33 (F := Ideal) x0 x1 i : EReal) * (val_main_v20_1 (F := Ideal) x0 i : EReal)))
    + -(-(-(val_main_v38 (F := Ideal) x0 x1 i : EReal) * (val_main_v16_1 (F := Ideal) x0 i : EReal))))
    * (Scalar.ofBits (F := Ideal) .f32 0x3E000000#32 : EReal) = _
  rw [e, g_is hx hd, cosig_is hx, sig_is hx, eighth_f32]
  simp only [← EReal.coe_neg, ← EReal.coe_mul, ← EReal.coe_add]
  refine coe_congr ?_
  congr 1
  unfold dzR
  by_cases h : (i 3).val < (i 2).val
  · rw [if_pos h, if_pos h]; ring
  · rw [if_neg h, if_neg h]
    unfold gR aR
    rw [if_neg h]; ring

/-! ## The three gradients -/

def dqR (X D : ℕ → ℕ → ℝ) (a b : ℕ) : ℝ :=
  ∑ s ∈ range 8192, dzR (zH X (b / 64)) (eH X D (b / 64)) (tH X (b / 64)) a s * (1 / 8) * X s (512 + b)

def dkR (X D : ℕ → ℕ → ℝ) (a b : ℕ) : ℝ :=
  ∑ t ∈ range 8192, dzR (zH X (b / 64)) (eH X D (b / 64)) (tH X (b / 64)) t a * (1 / 8) * X t b

def dvR (X D : ℕ → ℕ → ℝ) (a b : ℕ) : ℝ :=
  ∑ t ∈ range 8192, D t b * aR (zH X (b / 64)) (tH X (b / 64)) t a

theorem head_split (a b : ℕ) (ha : a < 8192) (hb : b < 512) :
    (a * 512 + b) / 512 % 8192 = a ∧ (a * 512 + b) / 64 % 8 = b / 64 ∧ 64 * (b / 64) + (a * 512 + b) % 64 = b := by omega

include hx hd in
theorem dq_ref (i : S8192x512.Idx) : val_main_v49 (F := Ideal) x0 x1 i = ((dqR X D (i 0).val (i 1).val : ℝ) : EReal) := by
  obtain ⟨e1, e2, e3⟩ := head_split (i 0).val (i 1).val (i 0).isLt (i 1).isLt
  show val_main_v48 (F := Ideal) x0 x1 i = _
  rw [val_main_v48_apply, val_main_v47_apply, val_main_v46_apply]
  refine coe_sum_range 8192 _ _ fun s => ?_
  rw [dz_is hx hd, k_is hx, ← EReal.coe_mul]
  refine coe_congr ?_
  show dzR (zH X (((i 0).val * 512 + (i 1).val) / 64 % 8)) (eH X D (((i 0).val * 512 + (i 1).val) / 64 % 8)) (tH X (((i 0).val * 512 + (i 1).val) / 64 % 8))
      (((i 0).val * 512 + (i 1).val) / 512 % 8192) s.val * (1 / 8)
    * X s.val (512 + (64 * (((i 0).val * 512 + (i 1).val) / 64 % 8) + ((i 0).val * 512 + (i 1).val) % 64)) = _
  rw [e1, e2, e3]

include hx hd in
theorem dk_ref (i : S8192x512.Idx) : val_main_v51 (F := Ideal) x0 x1 i = ((dkR X D (i 0).val (i 1).val : ℝ) : EReal) := by
  obtain ⟨e1, e2, e3⟩ := head_split (i 0).val (i 1).val (i 0).isLt (i 1).isLt
  show val_main_v50 (F := Ideal) x0 x1 i = _
  rw [val_main_v50_apply, val_main_v45_apply, val_main_v44_apply]
  refine coe_sum_range 8192 _ _ fun s => ?_
  rw [dz_is hx hd, q_is hx, ← EReal.coe_mul]
  refine coe_congr ?_
  show dzR (zH X (((i 0).val * 512 + (i 1).val) / 64 % 8)) (eH X D (((i 0).val * 512 + (i 1).val) / 64 % 8)) (tH X (((i 0).val * 512 + (i 1).val) / 64 % 8))
      s.val (((i 0).val * 512 + (i 1).val) / 512 % 8192) * (1 / 8)
    * X s.val (64 * (((i 0).val * 512 + (i 1).val) / 64 % 8) + ((i 0).val * 512 + (i 1).val) % 64) = _
  rw [e1, e2, e3]

include hx hd in
theorem dv_ref (i : S8192x512.Idx) : val_main_v53 (F := Ideal) x0 x1 i = ((dvR X D (i 0).val (i 1).val : ℝ) : EReal) := by
  obtain ⟨e1, e2, e3⟩ := head_split (i 0).val (i 1).val (i 0).isLt (i 1).isLt
  show val_main_v52 (F := Ideal) x0 x1 i = _
  rw [val_main_v52_apply, val_main_v31_apply, val_main_v30_apply]
  refine coe_sum_range 8192 _ _ fun s => ?_
  rw [d_is hd, att_is hx, ← EReal.coe_mul]
  refine coe_congr ?_
  show D s.val (64 * (((i 0).val * 512 + (i 1).val) / 64 % 8) + ((i 0).val * 512 + (i 1).val) % 64)
    * aR (zH X (((i 0).val * 512 + (i 1).val) / 64 % 8)) (tH X (((i 0).val * 512 + (i 1).val) / 64 % 8)) s.val (((i 0).val * 512 + (i 1).val) / 512 % 8192) = _
  rw [e1, e2, e3]

end

end Cert.ReferenceIdeal.Grad

end
-- ==== Proof.Totals.lean ====
/- What the host hands the kernel beside its arguments: each row's total, and zeros. -/
module

public import proofs.«01_k».proof.Proof.Blocks
public import proofs.«01_k».proof.Proof.RefSide

@[expose] public section

set_option maxRecDepth 65536

noncomputable section

namespace Cert.KernelIdeal.Grad

open Cert.KernelIdeal Cert.KernelIdeal.Gen Cert.Grad Cert.ReferenceIdeal.Grad
open Idealize.ShloMosaic hiding ix1 ix2 ix3 ix4
open Idealize.ShloMosaic.TcCoe Idealize.ShloMosaic.ValueIdx
open Finset (range)

variable (m : (ℓ : Loc nD τ sig) → Buf (Elt Ideal) ℓ) (c : Dev nD)

theorem first_is (y : S4x32x8x128.Idx) : V m c main_v0 y = (0 : EReal) := by
  entry_read
  exact zero_f32

/-- Each row's total, repeated along the lanes. -/
def totE (y : FVec Ideal S1x8x8192x8192 .f32) : FVec Ideal S8x8192x128 .f32 :=
  broadcastInDim S8x8192x128 ![0, 1, 2] bcast_S8x8192x1_S8x8192x128_0_1_2
    (broadcastInDim S8x8192x1 ![0, 1] bcast_S8x8192_S8x8192x1_0_1
      (shapeCast S8x8192 (Host.reduceAdd y (constant S_ .f32 0x00000000#32) reducesTo_S1x8x8192x8192_S1x8x8192_d3 h_S_) shapeCasts_S1x8x8192_S8x8192))

theorem V_v22 : V m c main_v22 = totE (Cert.ReferenceIdeal.Read.val_main_v17_0 (F := Ideal) (m ((c.tc : Thread nD τ).loc main_arg0))) := by
  entry_read
  rfl

theorem lastReduces : S1x8x8192x8192.Reduces [3] S1x8x8192 := by decide

theorem totE_apply (y : FVec Ideal S1x8x8192x8192 .f32) (f : ℕ → ℕ → ℕ → ℝ) (hy : Is4 (a := 1) (b := 8) (c := 8192) (d := 8192) y f)
    (h : Fin 8) (a : Fin 8192) (b : Fin 128) :
    totE y (ix3 h a b) = ((∑ s ∈ range 8192, f h.val a.val s : ℝ) : EReal) := by
  unfold totE
  refine (broadcastInDim_apply ![0, 1, 2] bcast_S8x8192x1_S8x8192x128_0_1_2 _ (ix3 h a b) (ix3 h a (0 : Fin 1)) (fun d => match d with
    | ⟨0, _⟩ => rfl
    | ⟨1, _⟩ => rfl
    | ⟨2, _⟩ => rfl)).trans ?_
  refine (broadcastInDim_apply ![0, 1] bcast_S8x8192_S8x8192x1_0_1 _ (ix3 h a (0 : Fin 1)) (ix2 h a) (fun d => match d with
    | ⟨0, _⟩ => rfl
    | ⟨1, _⟩ => rfl)).trans ?_
  refine (shapeCast_apply _ shapeCasts_S1x8x8192_S8x8192 (ix2 h a) (ix3 (0 : Fin 1) h a) ?_).trans ?_
  · rw [Shape.rowMajor_val_three, Shape.rowMajor_val_two]
    show (0 * 8 + h.val) * 8192 + a.val = h.val * 8192 + a.val
    omega
  refine (Ideal.hostReduceAdd_single _ lastReduces y _ (ix3 (0 : Fin 1) h a)).trans ?_
  refine (congrArg₂ (fun u v : EReal => u + v) zero_f32 (coe_sum_range 8192 (fun s => f h.val a.val s) _ (fun s => hy _))).trans ?_
  exact zero_add _

/-- Finite arguments are known, and with them everything the kernel is handed. -/
theorem known_of (X D : ℕ → ℕ → ℝ) (hx : Is (n := 8192) (m := 1536) (m ((c.tc : Thread nD τ).loc main_arg0)) X)
    (hd : Is (n := 8192) (m := 512) (m ((c.tc : Thread nD τ).loc main_arg1)) D) : Known m c X D (tH X) where
  x := hx
  d := hd
  t h a b := by
    rw [V_v22]
    exact totE_apply _ _ (kept_is hx) h a b
  f y := first_is m c y

end Cert.KernelIdeal.Grad

end
-- ==== Proof.Out.lean ====
/- The result arrays after the run. -/
module

public import proofs.«01_k».proof.Proof.Blocks

@[expose] public section

set_option maxRecDepth 16384

noncomputable section

namespace Cert.KernelIdeal.Grad

open Cert.KernelIdeal Cert.KernelIdeal.Gen Cert.Grad
open Idealize.ShloMosaic hiding ix1 ix2 ix3 ix4
open Idealize.ShloMosaic.TcCoe Idealize.ShloMosaic.ValueIdx
open Finset (range)

def pZ (X D T : ℕ → ℕ → ℝ) (p : ℕ) (h : Fin 2) : ℕ → ℕ → ℝ := wZ (qP X p) (dP D p) (tP T p) (kP X p) (vP X p) h
def pA (X T : ℕ → ℕ → ℝ) (p : ℕ) (h : Fin 2) : ℕ → ℕ → ℝ := wA (qP X p) (tP T p) (kP X p) h

/-- What the kernel leaves at row `a`, column `b` of the three results. -/
def dqK (X D T : ℕ → ℕ → ℝ) (a b : ℕ) : ℝ :=
  (∑ i ∈ range 8192, pZ X D T (b / 128) (if b % 128 / 64 = 0 then 0 else 1) a i * kP X (b / 128) i (b % 128)) * (1 / 8)
def dkK (X D T : ℕ → ℕ → ℝ) (a b : ℕ) : ℝ :=
  accR (pZ X D T (b / 128) 0) (pZ X D T (b / 128) 1) (qP X (b / 128) 0) (qP X (b / 128) 1) 32 a (b % 128)
def dvK (X D T : ℕ → ℕ → ℝ) (a b : ℕ) : ℝ :=
  accR (pA X T (b / 128) 0) (pA X T (b / 128) 1) (dP D (b / 128) 0) (dP D (b / 128) 1) 32 a (b % 128)

/-- The array of a function's values. -/
def arr512 (f : ℕ → ℕ → ℝ) : S8192x512.Idx → EReal := fun i => ((f (i 0).val (i 1).val : ℝ) : EReal)

variable {m : (ℓ : Loc nD τ sig) → Buf (Elt Ideal) ℓ} {c : Dev nD} {X D T : ℕ → ℕ → ℝ} (hK : Known m c X D T)

theorem col_div (p b : ℕ) (hb : b < 128) : (128 * p + b) / 128 = p := by omega
theorem col_mod (p b : ℕ) (hb : b < 128) : (128 * p + b) % 128 = b := by omega

include hK in
theorem out_6 : (dats m 0 c).arrAt 6 cfg0.N = arr512 (dqK X D T) := by
  refine (dats m 0 c).arrAt_eq_of_covers 6 _ (by decide +kernel) fun t hf y => ?_
  have h1 : (y 1).val < 128 := (y 1).isLt
  have e0 : ((((cfg0.win 6).blk t).view.emb y) 0 : ℕ) = 256 * (t.val % 32) + (y 0).val := by
    blk_simp [at_6]
    show t.val % 32 * 256 + (y 0).val = _
    omega
  have e1 : ((((cfg0.win 6).blk t).view.emb y) 1 : ℕ) = 128 * (t.val / 32) + (y 1).val := by
    blk_simp [at_6]
    show t.val / 32 * 128 + (y 1).val = _
    omega
  have hy : y = (ix2 (y 0) (y 1) : S256x128.Idx) := ValueIdx.eq_ix2 y
  have hv := dq_is (point_is hK t) (by omega) (y 0) (y 1)
  have hr : arr512 (dqK X D T) (((cfg0.win 6).blk t).view.emb y)
      = ((dqK X D T (256 * (t.val % 32) + (y 0).val) (128 * (t.val / 32) + (y 1).val) : ℝ) : EReal) := by
    show ((dqK X D T _ _ : ℝ) : EReal) = _
    rw [e0, e1]
  refine Eq.trans ?_ hr.symm
  unfold dqK
  rw [col_div _ _ h1, col_mod _ _ h1]
  refine Eq.trans ?_ hv
  show dqOf (pointP m c t (accs m c t.val)).1 y = _
  exact congrArg _ hy

include hK in
theorem out_7 : (dats m 0 c).arrAt 7 cfg0.N = arr512 (dkK X D T) := by
  refine (dats m 0 c).arrAt_eq_of_covers 7 _ (by decide +kernel) fun t hf y => ?_
  have ht : t.val % 32 = 31 := (flush0_7 t).1 hf
  have h1 : (y 1).val < 128 := (y 1).isLt
  have e0 : ((((cfg0.win 7).blk t).view.emb y) 0 : ℕ) = (y 0).val := by
    blk_simp [at_7]
  have e1 : ((((cfg0.win 7).blk t).view.emb y) 1 : ℕ) = 128 * (t.val / 32) + (y 1).val := by
    blk_simp [at_7]
    show t.val / 32 * 128 + (y 1).val = _
    omega
  have hy : y = (ix2 (y 0) (y 1) : S8192x128.Idx) := ValueIdx.eq_ix2 y
  have hv := (point_acc hK t).A (y 0) (y 1)
  have hr : arr512 (dkK X D T) (((cfg0.win 7).blk t).view.emb y)
      = ((dkK X D T (y 0).val (128 * (t.val / 32) + (y 1).val) : ℝ) : EReal) := by
    show ((dkK X D T _ _ : ℝ) : EReal) = _
    rw [e0, e1]
  refine Eq.trans ?_ hr.symm
  unfold dkK
  rw [col_div _ _ h1, col_mod _ _ h1]
  rw [ht] at hv
  refine Eq.trans ?_ hv
  show (pointP m c t (accs m c t.val)).2.1 y = _
  exact congrArg _ hy

include hK in
theorem out_8 : (dats m 0 c).arrAt 8 cfg0.N = arr512 (dvK X D T) := by
  refine (dats m 0 c).arrAt_eq_of_covers 8 _ (by decide +kernel) fun t hf y => ?_
  have ht : t.val % 32 = 31 := (flush0_8 t).1 hf
  have h1 : (y 1).val < 128 := (y 1).isLt
  have e0 : ((((cfg0.win 8).blk t).view.emb y) 0 : ℕ) = (y 0).val := by
    blk_simp [at_8]
  have e1 : ((((cfg0.win 8).blk t).view.emb y) 1 : ℕ) = 128 * (t.val / 32) + (y 1).val := by
    blk_simp [at_8]
    show t.val / 32 * 128 + (y 1).val = _
    omega
  have hy : y = (ix2 (y 0) (y 1) : S8192x128.Idx) := ValueIdx.eq_ix2 y
  have hv := (point_acc hK t).B (y 0) (y 1)
  have hr : arr512 (dvK X D T) (((cfg0.win 8).blk t).view.emb y)
      = ((dvK X D T (y 0).val (128 * (t.val / 32) + (y 1).val) : ℝ) : EReal) := by
    show ((dvK X D T _ _ : ℝ) : EReal) = _
    rw [e0, e1]
  refine Eq.trans ?_ hr.symm
  unfold dvK
  rw [col_div _ _ h1, col_mod _ _ h1]
  rw [ht] at hv
  refine Eq.trans ?_ hv
  show (pointP m c t (accs m c t.val)).2.2 y = _
  exact congrArg _ hy

end Cert.KernelIdeal.Grad

end
-- ==== Proof.Equal.lean ====
/- Over the reals the kernel's sums are the reference's: the masked lanes of a pair of heads add nothing. -/
module

public import proofs.«01_k».proof.Proof.Out
public import proofs.«01_k».proof.Proof.RefSide

@[expose] public section

set_option maxRecDepth 16384

noncomputable section

namespace Cert.KernelIdeal.Grad

open Cert.Grad Cert.ReferenceIdeal.Grad
open Finset (range)

/-- A sum over a pair of heads' lanes of which only one head's count. -/
theorem sum_half (h : Fin 2) (f : ℕ → ℝ) :
    ∑ c ∈ range 128, (if c / 64 = h.val then f c else 0) = ∑ c ∈ range 64, f (64 * h.val + c) := by
  have e := Finset.sum_range_add (f := fun c => if c / 64 = h.val then f c else 0) (n := 64) (m := 64)
  rw [show (128 : ℕ) = 64 + 64 from rfl, e]
  match h with
  | ⟨0, _⟩ =>
    have e0 : ∑ c ∈ range 64, (if (64 + c) / 64 = 0 then f (64 + c) else 0) = 0 := by
      refine Finset.sum_eq_zero fun c hc => ?_
      have := Finset.mem_range.1 hc; rw [if_neg (by omega)]
    show (∑ c ∈ range 64, if c / 64 = 0 then f c else 0) + ∑ c ∈ range 64, (if (64 + c) / 64 = 0 then f (64 + c) else 0)
      = ∑ c ∈ range 64, f (64 * 0 + c)
    rw [e0, add_zero]
    refine Finset.sum_congr rfl fun c hc => ?_
    have := Finset.mem_range.1 hc; rw [if_pos (by omega), Nat.mul_zero, Nat.zero_add]
  | ⟨1, _⟩ =>
    rw [Finset.sum_eq_zero, zero_add]
    · refine Finset.sum_congr rfl fun c hc => ?_
      have := Finset.mem_range.1 hc; rw [if_pos (by show (64 + c) / 64 = 1; omega)]; rfl
    · intro c hc; have := Finset.mem_range.1 hc; rw [if_neg]; show ¬ c / 64 = 1; omega

theorem z_half (X : ℕ → ℕ → ℝ) (p : ℕ) (h : Fin 2) : zR 128 (qP X p h) (kP X p) = zH X (2 * p + h.val) := by
  funext t s
  unfold zR qP kP half zH
  rw [Finset.sum_mul]
  rw [Finset.sum_congr rfl (g := fun c => if c / 64 = h.val then X t (128 * p + c) * (1 / 8) * X s (512 + 128 * p + c) else 0)]
  · rw [sum_half]
    refine Finset.sum_congr rfl fun c _ => ?_
    rw [show 128 * p + (64 * h.val + c) = 64 * (2 * p + h.val) + c by omega,
      show 512 + 128 * p + (64 * h.val + c) = 512 + (64 * (2 * p + h.val) + c) by omega]
    ring
  · intro c _
    by_cases hc : c / 64 = h.val
    · rw [if_pos hc, if_pos hc]
    · rw [if_neg hc, if_neg hc, zero_mul]

theorem e_half (X D : ℕ → ℕ → ℝ) (p : ℕ) (h : Fin 2) : zR 128 (dP D p h) (vP X p) = eH X D (2 * p + h.val) := by
  funext t s
  unfold zR dP vP half eH
  rw [Finset.sum_congr rfl (g := fun c => if c / 64 = h.val then D t (128 * p + c) * X s (1024 + 128 * p + c) else 0)]
  · rw [sum_half]
    refine Finset.sum_congr rfl fun c _ => ?_
    rw [show 128 * p + (64 * h.val + c) = 64 * (2 * p + h.val) + c by omega,
      show 1024 + 128 * p + (64 * h.val + c) = 1024 + (64 * (2 * p + h.val) + c) by omega]
  · intro c _
    by_cases hc : c / 64 = h.val
    · rw [if_pos hc, if_pos hc]
    · rw [if_neg hc, if_neg hc, zero_mul]

theorem pZ_eq (X D : ℕ → ℕ → ℝ) (p : ℕ) (h : Fin 2) :
    pZ X D (tH X) p h = dzR (zH X (2 * p + h.val)) (eH X D (2 * p + h.val)) (tH X (2 * p + h.val)) := by
  unfold pZ wZ tP
  rw [z_half, e_half]

theorem pA_eq (X : ℕ → ℕ → ℝ) (p : ℕ) (h : Fin 2) :
    pA X (tH X) p h = aR (zH X (2 * p + h.val)) (tH X (2 * p + h.val)) := by
  unfold pA wA tP
  rw [z_half]

theorem dq_eq (X D : ℕ → ℕ → ℝ) (a b : ℕ) : dqK X D (tH X) a b = dqR X D a b := by
  unfold dqK dqR
  rw [Finset.sum_mul]
  refine Finset.sum_congr rfl fun s _ => ?_
  rw [pZ_eq]
  have e : 2 * (b / 128) + (if b % 128 / 64 = 0 then (0 : Fin 2) else 1).val = b / 64 := by
    split_ifs with h
    · show 2 * (b / 128) + 0 = b / 64; omega
    · show 2 * (b / 128) + 1 = b / 64; omega
  rw [e]
  unfold kP
  rw [show 512 + 128 * (b / 128) + b % 128 = 512 + b by omega]
  ring

/-- The lane's own head is the only one that counts. -/
theorem pick (w : Fin 2 → ℝ) (f : ℕ → ℕ → ℝ) (g : ℕ → ℝ) (t b : ℕ) (hw : ∀ h : Fin 2, w h = g (2 * (b / 128) + h.val)) :
    w 0 * half 0 f t (b % 128) + w 1 * half 1 f t (b % 128) = g (b / 64) * f t (b % 128) := by
  unfold half
  by_cases h : b % 128 / 64 = 0
  · have h1 : ¬ b % 128 / 64 = (1 : Fin 2).val := by show ¬ b % 128 / 64 = 1; omega
    rw [if_pos (show b % 128 / 64 = (0 : Fin 2).val from h), if_neg h1, mul_zero, add_zero, hw]
    rw [show 2 * (b / 128) + (0 : Fin 2).val = b / 64 by show 2 * (b / 128) + 0 = b / 64; omega]
  · have h1 : b % 128 / 64 = (1 : Fin 2).val := by show b % 128 / 64 = 1; omega
    rw [if_neg (show ¬ b % 128 / 64 = (0 : Fin 2).val from h), if_pos h1, mul_zero, zero_add, hw]
    rw [show 2 * (b / 128) + (1 : Fin 2).val = b / 64 by show 2 * (b / 128) + 1 = b / 64; omega]

theorem dk_eq (X D : ℕ → ℕ → ℝ) (a b : ℕ) : dkK X D (tH X) a b = dkR X D a b := by
  unfold dkK dkR accR
  rw [show 256 * 32 = 8192 from rfl]
  refine Finset.sum_congr rfl fun t _ => ?_
  unfold qP
  rw [pick (fun h => pZ X D (tH X) (b / 128) h t a) _ (fun h => dzR (zH X h) (eH X D h) (tH X h) t a) t b (fun h => by rw [pZ_eq])]
  rw [show 128 * (b / 128) + b % 128 = b by omega]
  ring

theorem dv_eq (X D : ℕ → ℕ → ℝ) (a b : ℕ) : dvK X D (tH X) a b = dvR X D a b := by
  unfold dvK dvR accR
  rw [show 256 * 32 = 8192 from rfl]
  refine Finset.sum_congr rfl fun t _ => ?_
  unfold dP
  rw [pick (fun h => pA X (tH X) (b / 128) h t a) _ (fun h => aR (zH X h) (tH X h) t a) t b (fun h => by rw [pA_eq])]
  rw [show 128 * (b / 128) + b % 128 = b by omega]
  ring

end Cert.KernelIdeal.Grad

end
-- ==== Proof.Algebra.lean ====
/- On finite arguments the kernel's three arrays are the reference's. -/
module

public import proofs.«01_k».proof.Proof.Frames
public import proofs.«01_k».proof.Proof.Totals
public import proofs.«01_k».proof.Proof.Equal

@[expose] public section

set_option maxRecDepth 16384

noncomputable section

namespace Cert.Proof

open Idealize.ShloMosaic Idealize.SL.Sem
open Cert.KernelIdeal.Grad Cert.ReferenceIdeal.Grad Cert.Grad

/-- An array's elements as reals. -/
def realOf {n m : ℕ} (Y : (⟨2, ![n, m]⟩ : Shape).Idx → EReal) (a b : ℕ) : ℝ :=
  if h : a < n ∧ b < m then (Y (ValueIdx.ix2 ⟨a, h.1⟩ ⟨b, h.2⟩)).toReal else 0

theorem realOf_is {n m : ℕ} (Y : (⟨2, ![n, m]⟩ : Shape).Idx → EReal) (hY : ∀ i, Y i ≠ ⊤ ∧ Y i ≠ ⊥) : Is Y (realOf Y) := by
  intro a b
  unfold realOf
  rw [dif_pos ⟨a.isLt, b.isLt⟩]
  exact (EReal.coe_toReal (hY _).1 (hY _).2).symm

/-- The two arguments, as arrays of extended reals. -/
abbrev arg0 (m : (ℓ : Loc Cert.KernelIdeal.nD Cert.KernelIdeal.τ Cert.KernelIdeal.sig) → Buf (Elt Ideal) ℓ) (c : Dev Cert.KernelIdeal.nD) :
    (⟨2, ![8192, 1536]⟩ : Shape).Idx → EReal := m ((c.tc : Thread Cert.KernelIdeal.nD Cert.KernelIdeal.τ).loc Cert.KernelIdeal.main_arg0)

abbrev arg1 (m : (ℓ : Loc Cert.KernelIdeal.nD Cert.KernelIdeal.τ Cert.KernelIdeal.sig) → Buf (Elt Ideal) ℓ) (c : Dev Cert.KernelIdeal.nD) :
    (⟨2, ![8192, 512]⟩ : Shape).Idx → EReal := m ((c.tc : Thread Cert.KernelIdeal.nD Cert.KernelIdeal.τ).loc Cert.KernelIdeal.main_arg1)

/-- A value whose size is below infinity is finite. -/
theorem finite_of (y : Ideal .f32) (h : FloatOps.cmpf (F := Ideal) .olt (FloatOps.hostAbsf y) (FloatOps.ofBits .f32 0x7F800000#32) = 1#1) :
    (y : EReal) ≠ ⊤ ∧ (y : EReal) ≠ ⊥ := by
  rw [inf_f32] at h
  have h' : BitVec.ofBool (decide (max (y : EReal) (-(y : EReal)) < ⊤)) = 1#1 := h
  refine ⟨fun e => ?_, fun e => ?_⟩ <;> rw [e] at h' <;> simp at h'

set_option maxHeartbeats 4000000 in
theorem algebraic : Cert.algebraic_KernelIdeal_ReferenceIdeal_pre_finite (hKernelIdeal := Cert.KernelIdeal.Gen.facts)
    (hReferenceIdeal := Cert.ReferenceIdeal.Gen.facts) (hPre_finite := preFacts) := by
  intro m g m' g' hpre hargs
  have hx : ∀ c, Is (arg0 m c) (realOf (arg0 m c)) :=
    fun c => realOf_is _ fun i => finite_of _ (congrFun (hpre c).1 i)
  have hd : ∀ c, Is (arg1 m c) (realOf (arg1 m c)) :=
    fun c => realOf_is _ fun i => finite_of _ (congrFun (hpre c).2 i)
  refine ⟨fun c => arr512 (dqR (realOf (arg0 m c)) (realOf (arg1 m c))), fun c => arr512 (dkR (realOf (arg0 m c)) (realOf (arg1 m c))), fun c => arr512 (dvR (realOf (arg0 m c)) (realOf (arg1 m c))), ?_, ?_⟩
  · refine (θ_run _ _ _).mono (fun r h c => ?_) (run_main m g)
    have hK := known_of m c (realOf (arg0 m c)) (realOf (arg1 m c)) (hx c) (hd c)
    refine ⟨((h.1 c).1 6).trans ((out_6 hK).trans ?_), ((h.1 c).1 7).trans ((out_7 hK).trans ?_),
      ((h.1 c).1 8).trans ((out_8 hK).trans ?_),
      ((h.1 c).1 2).trans (((dats m 0 c).arrAt_in 2 rfl _).trans (Cert.KernelIdeal.Gen.V_main_arg0 m c)),
      ((h.1 c).1 3).trans (((dats m 0 c).arrAt_in 3 rfl _).trans (Cert.KernelIdeal.Gen.V_main_arg1 m c))⟩
    · funext i; exact coe_congr (dq_eq _ _ _ _)
    · funext i; exact coe_congr (dk_eq _ _ _ _)
    · funext i; exact coe_congr (dv_eq _ _ _ _)
  · refine (θ_run _ _ _).mono (fun r h c => ?_) (Cert.ReferenceIdeal.Value.run (F := Ideal) m' g')
    obtain ⟨h0, h1, h2, h3, h4⟩ := h c
    obtain ⟨a0, a1⟩ := hargs c
    refine ⟨h0.trans ?_, h1.trans ?_, h2.trans ?_, h3, h4⟩
    · rw [Cert.ReferenceIdeal.Read.val_main_v49_eq, a0, a1]
      funext i; exact dq_ref (hx c) (hd c) i
    · rw [Cert.ReferenceIdeal.Read.val_main_v51_eq, a0, a1]
      funext i; exact dk_ref (hx c) (hd c) i
    · rw [Cert.ReferenceIdeal.Read.val_main_v53_eq, a0, a1]
      funext i; exact dv_ref (hx c) (hd c) i

end Cert.Proof

end
-- ==== Proof.Product.lean ====
/- A product of two arrays, element by element and block by block. -/
module

public import Idealize.ShloMosaic.Lib.ValueIdx
public import Idealize.ShloMosaic.Lib.MatmulPlain
public import Idealize.ShloMosaic.Lib.Pipeline.ValueKit
public import Idealize.ShloMosaic.PureOps.Ideal.Laws
public import proofs.«01_k».proof.Proof.Sem

@[expose] public section

noncomputable section

namespace Cert.Product

open Idealize.ShloMosaic hiding ix1 ix2 ix3 ix4 eq_ix2
open Idealize.ShloMosaic.ValueIdx
open Finset (range)

/-- An array's element at two numbers. -/
def at2 {n m : ℕ} (x : (⟨2, ![n, m]⟩ : Shape).Idx → EReal) (a b : ℕ) : EReal :=
  if h : a < n ∧ b < m then x (ix2 ⟨a, h.1⟩ ⟨b, h.2⟩) else 0

theorem at2_fin {n m : ℕ} (x : (⟨2, ![n, m]⟩ : Shape).Idx → EReal) (a : Fin n) (b : Fin m) : at2 x a.val b.val = x (ix2 a b) := by
  unfold at2
  exact dif_pos ⟨a.isLt, b.isLt⟩

theorem at2_of {n m : ℕ} (x : (⟨2, ![n, m]⟩ : Shape).Idx → EReal) {a b : ℕ} (ha : a < n) (hb : b < m) : at2 x a b = x (ix2 ⟨a, ha⟩ ⟨b, hb⟩) :=
  at2_fin x ⟨a, ha⟩ ⟨b, hb⟩

theorem at2_idx {n m : ℕ} (x : (⟨2, ![n, m]⟩ : Shape).Idx → EReal) (i : (⟨2, ![n, m]⟩ : Shape).Idx) : at2 x (i 0).val (i 1).val = x i :=
  (at2_fin x (i 0) (i 1)).trans (congrArg x (eq_ix2 i).symm)

/-- An array's element at an index whose two numbers are known. -/
theorem at2_place {n m : ℕ} (x : (⟨2, ![n, m]⟩ : Shape).Idx → EReal) (i : (⟨2, ![n, m]⟩ : Shape).Idx) {a b : ℕ} (h0 : (i 0).val = a) (h1 : (i 1).val = b) :
    x i = at2 x a b := by
  rw [← h0, ← h1]
  exact (at2_idx x i).symm

/-- The block's own offset, where every offset is zero. -/
theorem hz : (![0, 0] : Fin 2 → Nat) = fun _ => 0 := by decide

/-- A sum over a block's own indices. -/
theorem sum_block (w : ℕ) (f : ℕ → EReal) (g : Fin w → EReal) (h : ∀ q, g q = f q.val) : ∑ q : Fin w, g q = ∑ q ∈ range w, f q := by
  rw [Finset.sum_range]
  exact Finset.sum_congr rfl fun q _ => h q

/-- A product of two blocks, at an element, its terms given. -/
theorem times {M K N : ℕ} {φ₁ φ₂ : FTy} (x : FVec Ideal ⟨2, ![M, K]⟩ φ₁) (y : FVec Ideal ⟨2, ![K, N]⟩ φ₂) (j : (⟨2, ![M, N]⟩ : Shape).Idx) (f : ℕ → EReal)
    (h : ∀ k : Fin K, (x (ix2 (j 0) k) * y (ix2 k (j 1)) : EReal) = f k.val) :
    matmul (DotDims.plain M K N) none x y (constant ⟨2, ![M, N]⟩ .f32 0x00000000#32) j = ∑ q ∈ range K, f q := by
  refine Eq.trans ?_ (sum_block K f _ h)
  conv_lhs => rw [eq_ix2 j]
  refine (Ideal.matmul_plain_apply none x y _ (j 0) (j 1)).trans ?_
  exact (congrArg (fun u : EReal => u + _) Cert.KernelIdeal.Grad.zero_f32).trans (zero_add _)

/-- A product by the rows of the second block. -/
theorem times_rows {M K N : ℕ} {φ₁ φ₂ : FTy} (x : FVec Ideal ⟨2, ![M, K]⟩ φ₁) (y : FVec Ideal ⟨2, ![N, K]⟩ φ₂) (j : (⟨2, ![M, N]⟩ : Shape).Idx) (f : ℕ → EReal)
    (h : ∀ k : Fin K, (x (ix2 (j 0) k) * y (ix2 (j 1) k) : EReal) = f k.val) :
    matmul (DotDims.transposedRhs M K N) none x y (constant ⟨2, ![M, N]⟩ .f32 0x00000000#32) j = ∑ q ∈ range K, f q := by
  refine Eq.trans ?_ (sum_block K f _ h)
  conv_lhs => rw [eq_ix2 j]
  refine (Ideal.matmul_transposedRhs_apply none x y _ (j 0) (j 1)).trans ?_
  exact (congrArg (fun u : EReal => u + _) Cert.KernelIdeal.Grad.zero_f32).trans (zero_add _)

/-- The axes of a product of the columns of two blocks. -/
def columns (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- A product of the columns of two blocks. -/
theorem times_columns {K M N : ℕ} {φ₁ φ₂ : FTy} (x : FVec Ideal ⟨2, ![K, M]⟩ φ₁) (y : FVec Ideal ⟨2, ![K, N]⟩ φ₂) (j : (⟨2, ![M, N]⟩ : Shape).Idx) (f : ℕ → EReal)
    (h : ∀ k : Fin K, (x (ix2 k (j 0)) * y (ix2 k (j 1)) : EReal) = f k.val) :
    matmul (columns K M N) none x y (constant ⟨2, ![M, N]⟩ .f32 0x00000000#32) j = ∑ q ∈ range K, f q := by
  refine Eq.trans ?_ (sum_block K f _ h)
  refine (Ideal.matmul_apply _ none x y _ j).trans ?_
  rw [← Equiv.sum_comp (contrEquiv1 (columns K M N) K rfl rfl).symm]
  refine (congrArg₂ (fun u v : EReal => u + v) Cert.KernelIdeal.Grad.zero_f32 (Finset.sum_congr rfl fun k _ => ?_)).trans (zero_add _)
  have hk := contrEquiv1_symm_val (columns K M N) K rfl rfl k
  have el : (columns K M N).lhsIdx j ((contrEquiv1 (columns K M N) K rfl rfl).symm k) = ix2 k (j 0) := by
    funext a; apply Fin.ext
    match a with
    | ⟨0, _⟩ => exact hk
    | ⟨1, _⟩ => exact rfl
  have er : (columns K M N).rhsIdx j ((contrEquiv1 (columns K M N) K rfl rfl).symm k) = ix2 k (j 1) := by
    funext a; apply Fin.ext
    match a with
    | ⟨0, _⟩ => exact hk
    | ⟨1, _⟩ => exact rfl
  exact congrArg₂ (fun u v : EReal => u * v) (congrArg x el) (congrArg y er)

/-- A block that a run's first point sets and its later points add to holds, at the run's last point, the sum of the run's terms. -/
theorem run_total {ι : Type} {N : ℕ} (f : (n : ℕ) → n < N → ι → EReal) (J w : ℕ) (term : ℕ → ι → ℕ → EReal)
    (h0 : ∀ t : Fin N, t.val % J = 0 → ∀ i, f t.val t.isLt i = ∑ q ∈ range w, term (t.val / J) i (t.val % J * w + q))
    (hs : ∀ t : Fin N, ¬t.val % J = 0 → ∀ i, f t.val t.isLt i
      = f (t.val - 1) (Nat.lt_of_le_of_lt (Nat.sub_le _ _) t.isLt) i + ∑ q ∈ range w, term (t.val / J) i (t.val % J * w + q))
    (t : Fin N) {r : ℕ} (hr : t.val % J = r) (i : ι) : f t.val t.isLt i = ∑ q ∈ range ((r + 1) * w), term (t.val / J) i q := by
  rw [Pipeline.eq_sum_of_reset_step_apply_divmod f J (fun _ => 0) (fun a k i => ∑ q ∈ range w, term a i (k * w + q))
    (fun t h i => (h0 t h i).trans (zero_add _).symm) hs t i, hr, zero_add, Finset.sum_range_range_mul_add]

end Cert.Product

end
-- ==== Proof.FfInBlock.lean ====
/- The product that `FfIn` forms, block by block. -/
module

public import proofs.«01_k».proof.Proof.Product
public import proofs.«01_k».proof.Proof.Gen.FfInIdeal.Value

@[expose] public section

set_option maxRecDepth 65536

noncomputable section

namespace Cert.FfInIdeal.Block

open Cert.FfInIdeal Cert.FfInIdeal.Gen Cert.Product
open Idealize.ShloMosaic hiding ix1 ix2 ix3 ix4 eq_ix2
open Idealize.SL.Sem
open Idealize.ShloMosaic.TcCoe Idealize.ShloMosaic.ValueIdx
open Finset (range)

theorem at_0 : ∀ t : Fin grid0.N, win0_0.index t = ![t.val / 4, 0] := by decide +kernel
theorem at_1 : ∀ t : Fin grid0.N, win0_1.index t = ![0, t.val % 4] := by decide +kernel
theorem at_2 : ∀ t : Fin grid0.N, win0_2.index t = ![t.val / 4, t.val % 4] := by decide +kernel
theorem at_3 : ∀ t : Fin grid0.N, win0_3.index t = ![t.val / 4, t.val % 4] := by decide +kernel

/-- The square of a value's positive part. -/
def relu2 (x : EReal) : EReal := max x (Scalar.ofBits (F := Ideal) .f32 0x00000000#32) * max x (Scalar.ofBits (F := Ideal) .f32 0x00000000#32)

variable (m : (ℓ : Loc nD τ sig) → Buf (Elt Ideal) ℓ) (c : Dev nD)

/-- The two arrays the call multiplies. -/
def lhs : (⟨2, ![8192, 1024]⟩ : Shape).Idx → EReal := V m c main_arg0
def rhs : (⟨2, ![1024, 4096]⟩ : Shape).Idx → EReal := V m c main_arg1

/-- One term of the product's element at a row and a column. -/
def term (i j q : ℕ) : EReal := at2 (lhs m c) i q * at2 (rhs m c) q j

/-- The product's element at a row and a column. -/
def sums (i j : ℕ) : EReal := ∑ q ∈ range 1024, term m c i j q

theorem blk_0 (t : Fin cfg0.N) (y : S1024x1024.Idx) : iblk m c 0 t y = at2 (lhs m c) (t.val / 4 * 1024 + (y 0).val) (y 1).val :=
  at2_place (lhs m c) (((cfg0.win 0).blk t).view.emb y) (by blk_simp [at_0]) (by blk_simp [at_0])

theorem blk_1 (t : Fin cfg0.N) (y : S1024x1024.Idx) : iblk m c 1 t y = at2 (rhs m c) (y 0).val (t.val % 4 * 1024 + (y 1).val) :=
  at2_place (rhs m c) (((cfg0.win 1).blk t).view.emb y) (by blk_simp [at_1]) (by blk_simp [at_1])

/-- What one point forms. -/
theorem part (t : Fin cfg0.N) (j : S1024x1024.Idx) : k0_pay1 (F := Ideal) (iblk m c 0 t) (iblk m c 1 t) j
    = sums m c (t.val / 4 * 1024 + (j 0).val) (t.val % 4 * 1024 + (j 1).val) :=
  times (φ₁ := .bf16) (φ₂ := .bf16) _ _ j _ fun _ => congrArg₂ (fun u v : EReal => u * v) (blk_0 m c t _) (blk_1 m c t _)

/-- The whole product, and its positive part's square. -/
def prod : S8192x4096.Idx → EReal := fun i => sums m c (i 0).val (i 1).val
def prod2 : S8192x4096.Idx → EReal := fun i => relu2 (sums m c (i 0).val (i 1).val)

theorem out_2 : (dats m 0 c).arrAt 2 cfg0.N = prod m c := by
  refine (dats m 0 c).arrAt_eq_of_covers 2 _ (by decide +kernel) fun t hf y => ?_
  have e0 : ((((cfg0.win 2).blk t).view.emb y) 0 : ℕ) = t.val / 4 * 1024 + (y 0).val := by blk_simp [at_2]
  have e1 : ((((cfg0.win 2).blk t).view.emb y) 1 : ℕ) = t.val % 4 * 1024 + (y 1).val := by blk_simp [at_2]
  unfold prod
  rw [e0, e1, after0_2]
  frame_out
  exact part m c t y

theorem out_3 : (dats m 0 c).arrAt 3 cfg0.N = prod2 m c := by
  refine (dats m 0 c).arrAt_eq_of_covers 3 _ (by decide +kernel) fun t hf y => ?_
  have e0 : ((((cfg0.win 3).blk t).view.emb y) 0 : ℕ) = t.val / 4 * 1024 + (y 0).val := by blk_simp [at_3]
  have e1 : ((((cfg0.win 3).blk t).view.emb y) 1 : ℕ) = t.val % 4 * 1024 + (y 1).val := by blk_simp [at_3]
  unfold prod2
  rw [e0, e1, after0_3]
  frame_out
  exact congrArg relu2 (part m c t y)

end Cert.FfInIdeal.Block

end
-- ==== Proof.FfInValue.lean ====
/- The arrays of `FfIn` are the reference's. -/
module

public import proofs.«01_k».proof.Defs
public import proofs.«01_k».proof.Proof.FfInBlock
public import proofs.«01_k».proof.Proof.Gen.FfIn.Frame
public import proofs.«01_k».proof.Proof.Gen.FfInReferenceIdeal.Read
public import Idealize.ShloMosaic.Lib.Quiescent
public import Idealize.ShloMosaic.Lib.Claim

@[expose] public section

set_option maxRecDepth 65536

noncomputable section

namespace Cert.FfInIdeal.Block

open Cert.FfInIdeal Cert.FfInIdeal.Gen Cert.Product
open Idealize.ShloMosaic Idealize.SL.Sem
open Idealize.ShloMosaic.TcCoe
open Finset (range)

variable (m : (ℓ : Loc nD τ sig) → Buf (Elt Ideal) ℓ) (c : Dev nD)

theorem sums_eq (i : S8192x4096.Idx) : sums m c (i 0).val (i 1).val = Cert.FfInReferenceIdeal.Read.val_main_v2 (F := Ideal) (m ((c.tc : Thread nD τ).loc main_arg0)) (m ((c.tc : Thread nD τ).loc main_arg1)) i := by
  rw [Cert.FfInReferenceIdeal.Read.val_main_v2_apply]
  unfold sums
  refine (sum_block 1024 _ _ fun k => ?_).symm
  unfold term
  have el := at2_idx (lhs m c) (Cert.FfInReferenceIdeal.Read.lidx_main_v2 i k)
  have er := at2_idx (rhs m c) (Cert.FfInReferenceIdeal.Read.ridx_main_v2 i k)
  refine Eq.trans ?_ (congrArg₂ (fun u v : EReal => u * v) el er).symm
  unfold lhs rhs
  rw [V_main_arg0, V_main_arg1]
  rfl

theorem prod_eq : prod m c = Cert.FfInReferenceIdeal.Read.val_main_v3 (F := Ideal) (m ((c.tc : Thread nD τ).loc main_arg0)) (m ((c.tc : Thread nD τ).loc main_arg1)) := by
  funext i
  exact sums_eq m c i

theorem prod2_eq : prod2 m c = Cert.FfInReferenceIdeal.Read.val_main_v6 (F := Ideal) (m ((c.tc : Thread nD τ).loc main_arg0)) (m ((c.tc : Thread nD τ).loc main_arg1)) := by
  funext i
  refine (congrArg relu2 (sums_eq m c i)).trans ?_
  rw [Cert.FfInReferenceIdeal.Read.val_main_v6_apply, Cert.FfInReferenceIdeal.Read.val_main_v5_apply, Cert.FfInReferenceIdeal.Read.val_main_v4_apply, Cert.FfInReferenceIdeal.Read.val_main_call0_v0_apply, Cert.FfInReferenceIdeal.Read.val_main_call0_cst_apply]
  rfl

end Cert.FfInIdeal.Block

namespace Cert.Proof.FfIn

open Idealize.ShloMosaic Idealize.SL.Sem
open Cert.FfInIdeal.Block

theorem frame_bits : Cert.quiescent_FfIn (hFfIn := Cert.FfIn.Gen.facts) := fun m g _ => Cert.FfIn.Gen.frame m g

theorem frame_ideal : Cert.quiescent_FfInIdeal (hFfInIdeal := Cert.FfInIdeal.Gen.facts) := fun m g _ => Cert.FfInIdeal.Gen.frame m g

theorem frame_ref : Cert.quiescent_FfInReferenceIdeal (hFfInReferenceIdeal := Cert.FfInReferenceIdeal.Gen.facts) := fun m g _ =>
  (θ_run Cert.FfInReferenceIdeal.defs _ _).mono (fun r h => ⟨fun c => (h c).2.2, sem_eq_zero_of_no_sems rfl r.2⟩)
    (Cert.FfInReferenceIdeal.Value.run (F := Ideal) m g)

set_option maxHeartbeats 4000000 in
theorem algebraic : Cert.algebraic_FfInIdeal_FfInReferenceIdeal (hFfInIdeal := Cert.FfInIdeal.Gen.facts)
    (hFfInReferenceIdeal := Cert.FfInReferenceIdeal.Gen.facts) := by
  intro m g m' g' _ hargs
  refine ⟨fun c => prod m c, fun c => prod2 m c, ?_, ?_⟩
  · refine (θ_run _ _ _).mono (fun r h c => ⟨(h c).1.trans (out_2 m c), (h c).2.1.trans (out_3 m c), (h c).2.2⟩) (Cert.FfInIdeal.Value.run_blocks (F := Ideal) m g)
  · refine (θ_run _ _ _).mono (fun r h c => ⟨(h c).1.trans ?_, (h c).2.1.trans ?_, (h c).2.2⟩) (Cert.FfInReferenceIdeal.Value.run (F := Ideal) m' g')
    · obtain ⟨a0, a1⟩ := hargs c
      rw [Cert.FfInReferenceIdeal.Read.val_main_v3_eq, a0, a1]
      exact (prod_eq m c).symm
    · obtain ⟨a0, a1⟩ := hargs c
      rw [Cert.FfInReferenceIdeal.Read.val_main_v6_eq, a0, a1]
      exact (prod2_eq m c).symm

end Cert.Proof.FfIn

end
-- ==== Proof.FfOutBlock.lean ====
/- The product that `FfOut` forms, block by block. -/
module

public import proofs.«01_k».proof.Proof.Product
public import proofs.«01_k».proof.Proof.Gen.FfOutIdeal.Value

@[expose] public section

set_option maxRecDepth 65536

noncomputable section

namespace Cert.FfOutIdeal.Block

open Cert.FfOutIdeal Cert.FfOutIdeal.Gen Cert.Product
open Idealize.ShloMosaic hiding ix1 ix2 ix3 ix4 eq_ix2
open Idealize.SL.Sem
open Idealize.ShloMosaic.TcCoe Idealize.ShloMosaic.ValueIdx
open Finset (range)

theorem at_0 : ∀ t : Fin grid0.N, win0_0.index t = ![t.val / 2, t.val % 2] := by decide +kernel
theorem at_1 : ∀ t : Fin grid0.N, win0_1.index t = ![t.val % 2, 0] := by decide +kernel
theorem at_2 : ∀ t : Fin grid0.N, win0_2.index t = ![t.val / 2, 0] := by decide +kernel

variable (m : (ℓ : Loc nD τ sig) → Buf (Elt Ideal) ℓ) (c : Dev nD)

/-- The two arrays the call multiplies. -/
def lhs : (⟨2, ![8192, 4096]⟩ : Shape).Idx → EReal := V m c main_v5
def rhs : (⟨2, ![4096, 1024]⟩ : Shape).Idx → EReal := V m c main_arg2

/-- One term of the product's element at a row and a column. -/
def term (i j q : ℕ) : EReal := at2 (lhs m c) i q * at2 (rhs m c) q j

theorem blk_0 (t : Fin cfg0.N) (y : S1024x2048.Idx) : iblk m c 0 t y = at2 (lhs m c) (t.val / 2 * 1024 + (y 0).val) (t.val % 2 * 2048 + (y 1).val) :=
  at2_place (lhs m c) (((cfg0.win 0).blk t).view.emb y) (by blk_simp [at_0]) (by blk_simp [at_0])

theorem blk_1 (t : Fin cfg0.N) (y : S2048x1024.Idx) : iblk m c 1 t y = at2 (rhs m c) (t.val % 2 * 2048 + (y 0).val) (y 1).val :=
  at2_place (rhs m c) (((cfg0.win 1).blk t).view.emb y) (by blk_simp [at_1]) (by blk_simp [at_1])

/-- What one point adds. -/
theorem part (t : Fin cfg0.N) (j : S1024x1024.Idx) : k0_pay1 (F := Ideal) (iblk m c 0 t) (iblk m c 1 t) j
    = ∑ q ∈ range 2048, term m c (t.val / 2 * 1024 + (j 0).val) (j 1).val (t.val % 2 * 2048 + q) := by
  unfold k0_pay1
  simp only [shapeCast_self]
  exact times (φ₁ := .bf16) (φ₂ := .bf16) _ _ j _ fun _ => congrArg₂ (fun u v : EReal => u * v) (blk_0 m c t _) (blk_1 m c t _)

/-- What the block holds when it is written back. -/
theorem held (t : Fin cfg0.N) (ht : t.val % 2 = 1) (j : S1024x1024.Idx) : outsAt0 m c t.val t.isLt j
    = ∑ q ∈ range 4096, term m c (t.val / 2 * 1024 + (j 0).val) (j 1).val q := by
  refine run_total (fun n h => outsAt0 m c n h) 2 2048 (fun a j q => term m c (a * 1024 + (j 0).val) (j 1).val q) (fun t h j => ?_) (fun t h j => ?_) t ht j
  · have hl := lt_of_lt_of_eq t.isLt N_0
    dsimp only
    rw [outsAt0_A m c t h (by omega)]
    frame_out
    exact part m c t j
  · dsimp only
    rw [outsAt0_B m c t h (by omega)]
    frame_out
    unfold k0_pay2
    rw [shapeCast_self]
    exact congrArg (fun u : EReal => outsAt0 m c (t.val - 1) _ j + u) (part m c t j)

/-- The whole product. -/
def prod : S8192x1024.Idx → EReal := fun i => ∑ q ∈ range 4096, term m c (i 0).val (i 1).val q

theorem out_2 : (dats m 0 c).arrAt 2 cfg0.N = prod m c := by
  refine (dats m 0 c).arrAt_eq_of_covers 2 _ (by decide +kernel) fun t hf y => ?_
  have e0 : ((((cfg0.win 2).blk t).view.emb y) 0 : ℕ) = t.val / 2 * 1024 + (y 0).val := by blk_simp [at_2]
  have e1 : ((((cfg0.win 2).blk t).view.emb y) 1 : ℕ) = (y 1).val := by blk_simp [at_2]
  unfold prod
  rw [e0, e1]
  exact held m c t ((flush0_2 t).mp hf) y

end Cert.FfOutIdeal.Block

end
-- ==== Proof.FfOutValue.lean ====
/- The array of `FfOut` is the reference's. -/
module

public import proofs.«01_k».proof.Defs
public import proofs.«01_k».proof.Proof.FfOutBlock
public import proofs.«01_k».proof.Proof.Gen.FfOut.Frame
public import proofs.«01_k».proof.Proof.Gen.FfOutReferenceIdeal.Read
public import Idealize.ShloMosaic.Lib.Quiescent
public import Idealize.ShloMosaic.Lib.Claim

@[expose] public section

set_option maxRecDepth 65536

noncomputable section

namespace Cert.FfOutIdeal.Block

open Cert.FfOutIdeal Cert.FfOutIdeal.Gen Cert.Product
open Idealize.ShloMosaic Idealize.SL.Sem
open Idealize.ShloMosaic.TcCoe
open Finset (range)

variable (m : (ℓ : Loc nD τ sig) → Buf (Elt Ideal) ℓ) (c : Dev nD)

/-- What the host hands the call. -/
theorem V_host : V m c main_v5 = Cert.FfOutReferenceIdeal.Read.val_main_v5 (F := Ideal) (m ((c.tc : Thread nD τ).loc main_arg0)) (m ((c.tc : Thread nD τ).loc main_arg1)) := by
  entry_read
  rfl

theorem prod_eq : prod m c = Cert.FfOutReferenceIdeal.Read.val_main_v6 (F := Ideal) (m ((c.tc : Thread nD τ).loc main_arg0)) (m ((c.tc : Thread nD τ).loc main_arg1)) (m ((c.tc : Thread nD τ).loc main_arg2)) := by
  funext i
  rw [Cert.FfOutReferenceIdeal.Read.val_main_v6_apply]
  unfold prod
  refine (sum_block 4096 _ _ fun k => ?_).symm
  unfold term
  have el := at2_idx (lhs m c) (Cert.FfOutReferenceIdeal.Read.lidx_main_v6 i k)
  have er := at2_idx (rhs m c) (Cert.FfOutReferenceIdeal.Read.ridx_main_v6 i k)
  refine Eq.trans ?_ (congrArg₂ (fun u v : EReal => u * v) el er).symm
  unfold lhs rhs
  rw [V_host, V_main_arg2]
  exact rfl

end Cert.FfOutIdeal.Block

namespace Cert.Proof.FfOut

open Idealize.ShloMosaic Idealize.SL.Sem
open Cert.FfOutIdeal.Block

theorem frame_bits : Cert.quiescent_FfOut (hFfOut := Cert.FfOut.Gen.facts) := fun m g _ => Cert.FfOut.Gen.frame m g

theorem frame_ideal : Cert.quiescent_FfOutIdeal (hFfOutIdeal := Cert.FfOutIdeal.Gen.facts) := fun m g _ => Cert.FfOutIdeal.Gen.frame m g

theorem frame_ref : Cert.quiescent_FfOutReferenceIdeal (hFfOutReferenceIdeal := Cert.FfOutReferenceIdeal.Gen.facts) := fun m g _ =>
  (θ_run Cert.FfOutReferenceIdeal.defs _ _).mono (fun r h => ⟨fun c => (h c).2, sem_eq_zero_of_no_sems rfl r.2⟩)
    (Cert.FfOutReferenceIdeal.Value.run (F := Ideal) m g)

set_option maxHeartbeats 4000000 in
theorem algebraic : Cert.algebraic_FfOutIdeal_FfOutReferenceIdeal (hFfOutIdeal := Cert.FfOutIdeal.Gen.facts)
    (hFfOutReferenceIdeal := Cert.FfOutReferenceIdeal.Gen.facts) := by
  intro m g m' g' _ hargs
  refine ⟨fun c => prod m c, ?_, ?_⟩
  · refine (θ_run _ _ _).mono (fun r h c => ⟨(h c).1.trans (out_2 m c), (h c).2⟩) (Cert.FfOutIdeal.Value.run_blocks (F := Ideal) m g)
  · refine (θ_run _ _ _).mono (fun r h c => ⟨(h c).1.trans ?_, (h c).2⟩) (Cert.FfOutReferenceIdeal.Value.run (F := Ideal) m' g')
    obtain ⟨a0, a1, a2⟩ := hargs c
    rw [Cert.FfOutReferenceIdeal.Read.val_main_v6_eq, a0, a1, a2]
    exact (prod_eq m c).symm

end Cert.Proof.FfOut

end
-- ==== Proof.FfOutDwBlock.lean ====
/- The product that `FfOutDw` forms, block by block. -/
module

public import proofs.«01_k».proof.Proof.Product
public import proofs.«01_k».proof.Proof.Gen.FfOutDwIdeal.Value

@[expose] public section

set_option maxRecDepth 65536

noncomputable section

namespace Cert.FfOutDwIdeal.Block

open Cert.FfOutDwIdeal Cert.FfOutDwIdeal.Gen Cert.Product
open Idealize.ShloMosaic hiding ix1 ix2 ix3 ix4 eq_ix2
open Idealize.SL.Sem
open Idealize.ShloMosaic.TcCoe Idealize.ShloMosaic.ValueIdx
open Finset (range)

theorem at_0 : ∀ t : Fin grid0.N, win0_0.index t = ![t.val % 4, t.val / 4] := by decide +kernel
theorem at_1 : ∀ t : Fin grid0.N, win0_1.index t = ![t.val % 4, 0] := by decide +kernel
theorem at_2 : ∀ t : Fin grid0.N, win0_2.index t = ![t.val / 4, 0] := by decide +kernel

variable (m : (ℓ : Loc nD τ sig) → Buf (Elt Ideal) ℓ) (c : Dev nD)

/-- The two arrays the call multiplies. -/
def lhs : (⟨2, ![8192, 4096]⟩ : Shape).Idx → EReal := V m c main_v5
def rhs : (⟨2, ![8192, 1024]⟩ : Shape).Idx → EReal := V m c main_arg2

/-- One term of the product's element at a row and a column. -/
def term (i j q : ℕ) : EReal := at2 (lhs m c) q i * at2 (rhs m c) q j

theorem blk_0 (t : Fin cfg0.N) (y : S2048x1024.Idx) : iblk m c 0 t y = at2 (lhs m c) (t.val % 4 * 2048 + (y 0).val) (t.val / 4 * 1024 + (y 1).val) :=
  at2_place (lhs m c) (((cfg0.win 0).blk t).view.emb y) (by blk_simp [at_0]) (by blk_simp [at_0])

theorem blk_1 (t : Fin cfg0.N) (y : S2048x1024.Idx) : iblk m c 1 t y = at2 (rhs m c) (t.val % 4 * 2048 + (y 0).val) (y 1).val :=
  at2_place (rhs m c) (((cfg0.win 1).blk t).view.emb y) (by blk_simp [at_1]) (by blk_simp [at_1])

/-- What one point adds. -/
theorem part (t : Fin cfg0.N) (j : S1024x1024.Idx) : k0_pay1 (F := Ideal) (iblk m c 0 t) (iblk m c 1 t) j
    = ∑ q ∈ range 2048, term m c (t.val / 4 * 1024 + (j 0).val) (j 1).val (t.val % 4 * 2048 + q) := by
  unfold k0_pay1
  simp only [shapeCast_self]
  exact times_columns (φ₁ := .bf16) (φ₂ := .bf16) _ _ j _ fun _ => congrArg₂ (fun u v : EReal => u * v) (blk_0 m c t _) (blk_1 m c t _)

/-- What the block holds when it is written back. -/
theorem held (t : Fin cfg0.N) (ht : t.val % 4 = 3) (j : S1024x1024.Idx) : outsAt0 m c t.val t.isLt j
    = ∑ q ∈ range 8192, term m c (t.val / 4 * 1024 + (j 0).val) (j 1).val q := by
  refine run_total (fun n h => outsAt0 m c n h) 4 2048 (fun a j q => term m c (a * 1024 + (j 0).val) (j 1).val q) (fun t h j => ?_) (fun t h j => ?_) t ht j
  · have hl := lt_of_lt_of_eq t.isLt N_0
    dsimp only
    rw [outsAt0_A m c t h (by omega)]
    frame_out
    exact part m c t j
  · dsimp only
    rw [outsAt0_B m c t h (by omega)]
    frame_out
    unfold k0_pay2
    rw [shapeCast_self]
    exact congrArg (fun u : EReal => outsAt0 m c (t.val - 1) _ j + u) (part m c t j)

/-- The whole product. -/
def prod : S4096x1024.Idx → EReal := fun i => ∑ q ∈ range 8192, term m c (i 0).val (i 1).val q

theorem out_2 : (dats m 0 c).arrAt 2 cfg0.N = prod m c := by
  refine (dats m 0 c).arrAt_eq_of_covers 2 _ (by decide +kernel) fun t hf y => ?_
  have e0 : ((((cfg0.win 2).blk t).view.emb y) 0 : ℕ) = t.val / 4 * 1024 + (y 0).val := by blk_simp [at_2]
  have e1 : ((((cfg0.win 2).blk t).view.emb y) 1 : ℕ) = (y 1).val := by blk_simp [at_2]
  unfold prod
  rw [e0, e1]
  exact held m c t ((flush0_2 t).mp hf) y

end Cert.FfOutDwIdeal.Block

end
-- ==== Proof.FfOutDwValue.lean ====
/- The array of `FfOutDw` is the reference's. -/
module

public import proofs.«01_k».proof.Defs
public import proofs.«01_k».proof.Proof.FfOutDwBlock
public import proofs.«01_k».proof.Proof.Gen.FfOutDw.Frame
public import proofs.«01_k».proof.Proof.Gen.FfOutDwReferenceIdeal.Read
public import Idealize.ShloMosaic.Lib.Quiescent
public import Idealize.ShloMosaic.Lib.Claim

@[expose] public section

set_option maxRecDepth 65536

noncomputable section

namespace Cert.FfOutDwIdeal.Block

open Cert.FfOutDwIdeal Cert.FfOutDwIdeal.Gen Cert.Product
open Idealize.ShloMosaic Idealize.SL.Sem
open Idealize.ShloMosaic.TcCoe
open Finset (range)

variable (m : (ℓ : Loc nD τ sig) → Buf (Elt Ideal) ℓ) (c : Dev nD)

/-- What the host hands the call. -/
theorem V_host : V m c main_v5 = Cert.FfOutDwReferenceIdeal.Read.val_main_v6 (F := Ideal) (m ((c.tc : Thread nD τ).loc main_arg0)) (m ((c.tc : Thread nD τ).loc main_arg1)) := by
  entry_read
  rfl

theorem prod_eq : prod m c = Cert.FfOutDwReferenceIdeal.Read.val_main_v9 (F := Ideal) (m ((c.tc : Thread nD τ).loc main_arg0)) (m ((c.tc : Thread nD τ).loc main_arg1)) (m ((c.tc : Thread nD τ).loc main_arg2)) := by
  funext i
  rw [Cert.FfOutDwReferenceIdeal.Read.val_main_v9_apply, Cert.FfOutDwReferenceIdeal.Read.val_main_v8_apply]
  unfold prod
  refine (sum_block 8192 _ _ fun k => ?_).symm
  unfold term
  have el := at2_idx (lhs m c) (Cert.FfOutDwReferenceIdeal.Read.ridx_main_v8 (Cert.FfOutDwReferenceIdeal.Read.idx_main_v9 i) k)
  have er := at2_idx (rhs m c) (Cert.FfOutDwReferenceIdeal.Read.lidx_main_v8 (Cert.FfOutDwReferenceIdeal.Read.idx_main_v9 i) k)
  refine Eq.trans ?_ (congrArg₂ (fun u v : EReal => u * v) el er).symm
  unfold lhs rhs
  rw [V_host, V_main_arg2]
  exact mul_comm (_ : EReal) _

end Cert.FfOutDwIdeal.Block

namespace Cert.Proof.FfOutDw

open Idealize.ShloMosaic Idealize.SL.Sem
open Cert.FfOutDwIdeal.Block

theorem frame_bits : Cert.quiescent_FfOutDw (hFfOutDw := Cert.FfOutDw.Gen.facts) := fun m g _ => Cert.FfOutDw.Gen.frame m g

theorem frame_ideal : Cert.quiescent_FfOutDwIdeal (hFfOutDwIdeal := Cert.FfOutDwIdeal.Gen.facts) := fun m g _ => Cert.FfOutDwIdeal.Gen.frame m g

theorem frame_ref : Cert.quiescent_FfOutDwReferenceIdeal (hFfOutDwReferenceIdeal := Cert.FfOutDwReferenceIdeal.Gen.facts) := fun m g _ =>
  (θ_run Cert.FfOutDwReferenceIdeal.defs _ _).mono (fun r h => ⟨fun c => (h c).2, sem_eq_zero_of_no_sems rfl r.2⟩)
    (Cert.FfOutDwReferenceIdeal.Value.run (F := Ideal) m g)

set_option maxHeartbeats 4000000 in
theorem algebraic : Cert.algebraic_FfOutDwIdeal_FfOutDwReferenceIdeal (hFfOutDwIdeal := Cert.FfOutDwIdeal.Gen.facts)
    (hFfOutDwReferenceIdeal := Cert.FfOutDwReferenceIdeal.Gen.facts) := by
  intro m g m' g' _ hargs
  refine ⟨fun c => prod m c, ?_, ?_⟩
  · refine (θ_run _ _ _).mono (fun r h c => ⟨(h c).1.trans (out_2 m c), (h c).2⟩) (Cert.FfOutDwIdeal.Value.run_blocks (F := Ideal) m g)
  · refine (θ_run _ _ _).mono (fun r h c => ⟨(h c).1.trans ?_, (h c).2⟩) (Cert.FfOutDwReferenceIdeal.Value.run (F := Ideal) m' g')
    obtain ⟨a0, a1, a2⟩ := hargs c
    rw [Cert.FfOutDwReferenceIdeal.Read.val_main_v9_eq, a0, a1, a2]
    exact (prod_eq m c).symm

end Cert.Proof.FfOutDw

end
-- ==== Proof.FfInDxBlock.lean ====
/- The product that `FfInDx` forms, block by block. -/
module

public import proofs.«01_k».proof.Proof.Product
public import proofs.«01_k».proof.Proof.Gen.FfInDxIdeal.Value

@[expose] public section

set_option maxRecDepth 65536

noncomputable section

namespace Cert.FfInDxIdeal.Block

open Cert.FfInDxIdeal Cert.FfInDxIdeal.Gen Cert.Product
open Idealize.ShloMosaic hiding ix1 ix2 ix3 ix4 eq_ix2
open Idealize.SL.Sem
open Idealize.ShloMosaic.TcCoe Idealize.ShloMosaic.ValueIdx
open Finset (range)

theorem at_0 : ∀ t : Fin grid0.N, win0_0.index t = ![t.val / 2, t.val % 2] := by decide +kernel
theorem at_1 : ∀ t : Fin grid0.N, win0_1.index t = ![0, t.val % 2] := by decide +kernel
theorem at_2 : ∀ t : Fin grid0.N, win0_2.index t = ![t.val / 2, 0] := by decide +kernel

variable (m : (ℓ : Loc nD τ sig) → Buf (Elt Ideal) ℓ) (c : Dev nD)

/-- The two arrays the call multiplies. -/
def lhs : (⟨2, ![8192, 4096]⟩ : Shape).Idx → EReal := V m c main_v17
def rhs : (⟨2, ![1024, 4096]⟩ : Shape).Idx → EReal := V m c main_arg1

/-- One term of the product's element at a row and a column. -/
def term (i j q : ℕ) : EReal := at2 (lhs m c) i q * at2 (rhs m c) j q

theorem blk_0 (t : Fin cfg0.N) (y : S1024x2048.Idx) : iblk m c 0 t y = at2 (lhs m c) (t.val / 2 * 1024 + (y 0).val) (t.val % 2 * 2048 + (y 1).val) :=
  at2_place (lhs m c) (((cfg0.win 0).blk t).view.emb y) (by blk_simp [at_0]) (by blk_simp [at_0])

theorem blk_1 (t : Fin cfg0.N) (y : S1024x2048.Idx) : iblk m c 1 t y = at2 (rhs m c) (y 0).val (t.val % 2 * 2048 + (y 1).val) :=
  at2_place (rhs m c) (((cfg0.win 1).blk t).view.emb y) (by blk_simp [at_1]) (by blk_simp [at_1])

/-- What one point adds. -/
theorem part (t : Fin cfg0.N) (j : S1024x1024.Idx) : k0_pay1 (F := Ideal) (iblk m c 0 t) (iblk m c 1 t) j
    = ∑ q ∈ range 2048, term m c (t.val / 2 * 1024 + (j 0).val) (j 1).val (t.val % 2 * 2048 + q) := by
  unfold k0_pay1
  simp only [shapeCast_self]
  exact times_rows (φ₁ := .bf16) (φ₂ := .bf16) _ _ j _ fun _ => congrArg₂ (fun u v : EReal => u * v) (blk_0 m c t _) (blk_1 m c t _)

/-- What the block holds when it is written back. -/
theorem held (t : Fin cfg0.N) (ht : t.val % 2 = 1) (j : S1024x1024.Idx) : outsAt0 m c t.val t.isLt j
    = ∑ q ∈ range 4096, term m c (t.val / 2 * 1024 + (j 0).val) (j 1).val q := by
  refine run_total (fun n h => outsAt0 m c n h) 2 2048 (fun a j q => term m c (a * 1024 + (j 0).val) (j 1).val q) (fun t h j => ?_) (fun t h j => ?_) t ht j
  · have hl := lt_of_lt_of_eq t.isLt N_0
    dsimp only
    rw [outsAt0_A m c t h (by omega)]
    frame_out
    exact part m c t j
  · dsimp only
    rw [outsAt0_B m c t h (by omega)]
    frame_out
    unfold k0_pay2
    rw [shapeCast_self]
    exact congrArg (fun u : EReal => outsAt0 m c (t.val - 1) _ j + u) (part m c t j)

/-- The whole product. -/
def prod : S8192x1024.Idx → EReal := fun i => ∑ q ∈ range 4096, term m c (i 0).val (i 1).val q

theorem out_2 : (dats m 0 c).arrAt 2 cfg0.N = prod m c := by
  refine (dats m 0 c).arrAt_eq_of_covers 2 _ (by decide +kernel) fun t hf y => ?_
  have e0 : ((((cfg0.win 2).blk t).view.emb y) 0 : ℕ) = t.val / 2 * 1024 + (y 0).val := by blk_simp [at_2]
  have e1 : ((((cfg0.win 2).blk t).view.emb y) 1 : ℕ) = (y 1).val := by blk_simp [at_2]
  unfold prod
  rw [e0, e1]
  exact held m c t ((flush0_2 t).mp hf) y

end Cert.FfInDxIdeal.Block

end
-- ==== Proof.FfInDxValue.lean ====
/- The array of `FfInDx` is the reference's. -/
module

public import proofs.«01_k».proof.Defs
public import proofs.«01_k».proof.Proof.FfInDxBlock
public import proofs.«01_k».proof.Proof.Gen.FfInDx.Frame
public import proofs.«01_k».proof.Proof.Gen.FfInDxReferenceIdeal.Read
public import Idealize.ShloMosaic.Lib.Quiescent
public import Idealize.ShloMosaic.Lib.Claim

@[expose] public section

set_option maxRecDepth 65536

noncomputable section

namespace Cert.FfInDxIdeal.Block

open Cert.FfInDxIdeal Cert.FfInDxIdeal.Gen Cert.Product
open Idealize.ShloMosaic Idealize.SL.Sem
open Idealize.ShloMosaic.TcCoe
open Finset (range)

variable (m : (ℓ : Loc nD τ sig) → Buf (Elt Ideal) ℓ) (c : Dev nD)

/-- What the host hands the call. -/
theorem V_host : V m c main_v17 = Cert.FfInDxReferenceIdeal.Read.val_main_v16 (F := Ideal) (m ((c.tc : Thread nD τ).loc main_arg0)) (m ((c.tc : Thread nD τ).loc main_arg1)) (m ((c.tc : Thread nD τ).loc main_arg2)) (m ((c.tc : Thread nD τ).loc main_arg3)) := by
  entry_read
  rfl

theorem prod_eq : prod m c = Cert.FfInDxReferenceIdeal.Read.val_main_v17 (F := Ideal) (m ((c.tc : Thread nD τ).loc main_arg0)) (m ((c.tc : Thread nD τ).loc main_arg1)) (m ((c.tc : Thread nD τ).loc main_arg2)) (m ((c.tc : Thread nD τ).loc main_arg3)) := by
  funext i
  rw [Cert.FfInDxReferenceIdeal.Read.val_main_v17_apply]
  unfold prod
  refine (sum_block 4096 _ _ fun k => ?_).symm
  unfold term
  have el := at2_idx (lhs m c) (Cert.FfInDxReferenceIdeal.Read.lidx_main_v17 i k)
  have er := at2_idx (rhs m c) (Cert.FfInDxReferenceIdeal.Read.ridx_main_v17 i k)
  refine Eq.trans ?_ (congrArg₂ (fun u v : EReal => u * v) el er).symm
  unfold lhs rhs
  rw [V_host, V_main_arg1]
  exact rfl

end Cert.FfInDxIdeal.Block

namespace Cert.Proof.FfInDx

open Idealize.ShloMosaic Idealize.SL.Sem
open Cert.FfInDxIdeal.Block

theorem frame_bits : Cert.quiescent_FfInDx (hFfInDx := Cert.FfInDx.Gen.facts) := fun m g _ => Cert.FfInDx.Gen.frame m g

theorem frame_ideal : Cert.quiescent_FfInDxIdeal (hFfInDxIdeal := Cert.FfInDxIdeal.Gen.facts) := fun m g _ => Cert.FfInDxIdeal.Gen.frame m g

theorem frame_ref : Cert.quiescent_FfInDxReferenceIdeal (hFfInDxReferenceIdeal := Cert.FfInDxReferenceIdeal.Gen.facts) := fun m g _ =>
  (θ_run Cert.FfInDxReferenceIdeal.defs _ _).mono (fun r h => ⟨fun c => (h c).2, sem_eq_zero_of_no_sems rfl r.2⟩)
    (Cert.FfInDxReferenceIdeal.Value.run (F := Ideal) m g)

set_option maxHeartbeats 4000000 in
theorem algebraic : Cert.algebraic_FfInDxIdeal_FfInDxReferenceIdeal (hFfInDxIdeal := Cert.FfInDxIdeal.Gen.facts)
    (hFfInDxReferenceIdeal := Cert.FfInDxReferenceIdeal.Gen.facts) := by
  intro m g m' g' _ hargs
  refine ⟨fun c => prod m c, ?_, ?_⟩
  · refine (θ_run _ _ _).mono (fun r h c => ⟨(h c).1.trans (out_2 m c), (h c).2⟩) (Cert.FfInDxIdeal.Value.run_blocks (F := Ideal) m g)
  · refine (θ_run _ _ _).mono (fun r h c => ⟨(h c).1.trans ?_, (h c).2⟩) (Cert.FfInDxReferenceIdeal.Value.run (F := Ideal) m' g')
    obtain ⟨a0, a1, a2, a3⟩ := hargs c
    rw [Cert.FfInDxReferenceIdeal.Read.val_main_v17_eq, a0, a1, a2, a3]
    exact (prod_eq m c).symm

end Cert.Proof.FfInDx

end
-- ==== Proof.FfInDwBlock.lean ====
/- The product that `FfInDw` forms, block by block. -/
module

public import proofs.«01_k».proof.Proof.Product
public import proofs.«01_k».proof.Proof.Gen.FfInDwIdeal.Value

@[expose] public section

set_option maxRecDepth 65536

noncomputable section

namespace Cert.FfInDwIdeal.Block

open Cert.FfInDwIdeal Cert.FfInDwIdeal.Gen Cert.Product
open Idealize.ShloMosaic hiding ix1 ix2 ix3 ix4 eq_ix2
open Idealize.SL.Sem
open Idealize.ShloMosaic.TcCoe Idealize.ShloMosaic.ValueIdx
open Finset (range)

theorem at_0 : ∀ t : Fin grid0.N, win0_0.index t = ![t.val % 4, 0] := by decide +kernel
theorem at_1 : ∀ t : Fin grid0.N, win0_1.index t = ![t.val % 4, t.val / 4] := by decide +kernel
theorem at_2 : ∀ t : Fin grid0.N, win0_2.index t = ![0, t.val / 4] := by decide +kernel

variable (m : (ℓ : Loc nD τ sig) → Buf (Elt Ideal) ℓ) (c : Dev nD)

/-- The two arrays the call multiplies. -/
def lhs : (⟨2, ![8192, 1024]⟩ : Shape).Idx → EReal := V m c main_arg0
def rhs : (⟨2, ![8192, 4096]⟩ : Shape).Idx → EReal := V m c main_v17

/-- One term of the product's element at a row and a column. -/
def term (i j q : ℕ) : EReal := at2 (lhs m c) q i * at2 (rhs m c) q j

theorem blk_0 (t : Fin cfg0.N) (y : S2048x1024.Idx) : iblk m c 0 t y = at2 (lhs m c) (t.val % 4 * 2048 + (y 0).val) (y 1).val :=
  at2_place (lhs m c) (((cfg0.win 0).blk t).view.emb y) (by blk_simp [at_0]) (by blk_simp [at_0])

theorem blk_1 (t : Fin cfg0.N) (y : S2048x1024.Idx) : iblk m c 1 t y = at2 (rhs m c) (t.val % 4 * 2048 + (y 0).val) (t.val / 4 * 1024 + (y 1).val) :=
  at2_place (rhs m c) (((cfg0.win 1).blk t).view.emb y) (by blk_simp [at_1]) (by blk_simp [at_1])

/-- What one point adds. -/
theorem part (t : Fin cfg0.N) (j : S1024x1024.Idx) : k0_pay1 (F := Ideal) (iblk m c 0 t) (iblk m c 1 t) j
    = ∑ q ∈ range 2048, term m c (j 0).val (t.val / 4 * 1024 + (j 1).val) (t.val % 4 * 2048 + q) := by
  unfold k0_pay1
  simp only [shapeCast_self]
  exact times_columns (φ₁ := .bf16) (φ₂ := .bf16) _ _ j _ fun _ => congrArg₂ (fun u v : EReal => u * v) (blk_0 m c t _) (blk_1 m c t _)

/-- What the block holds when it is written back. -/
theorem held (t : Fin cfg0.N) (ht : t.val % 4 = 3) (j : S1024x1024.Idx) : outsAt0 m c t.val t.isLt j
    = ∑ q ∈ range 8192, term m c (j 0).val (t.val / 4 * 1024 + (j 1).val) q := by
  refine run_total (fun n h => outsAt0 m c n h) 4 2048 (fun a j q => term m c (j 0).val (a * 1024 + (j 1).val) q) (fun t h j => ?_) (fun t h j => ?_) t ht j
  · have hl := lt_of_lt_of_eq t.isLt N_0
    dsimp only
    rw [outsAt0_A m c t h (by omega)]
    frame_out
    exact part m c t j
  · dsimp only
    rw [outsAt0_B m c t h (by omega)]
    frame_out
    unfold k0_pay2
    rw [shapeCast_self]
    exact congrArg (fun u : EReal => outsAt0 m c (t.val - 1) _ j + u) (part m c t j)

/-- The whole product. -/
def prod : S1024x4096.Idx → EReal := fun i => ∑ q ∈ range 8192, term m c (i 0).val (i 1).val q

theorem out_2 : (dats m 0 c).arrAt 2 cfg0.N = prod m c := by
  refine (dats m 0 c).arrAt_eq_of_covers 2 _ (by decide +kernel) fun t hf y => ?_
  have e0 : ((((cfg0.win 2).blk t).view.emb y) 0 : ℕ) = (y 0).val := by blk_simp [at_2]
  have e1 : ((((cfg0.win 2).blk t).view.emb y) 1 : ℕ) = t.val / 4 * 1024 + (y 1).val := by blk_simp [at_2]
  unfold prod
  rw [e0, e1]
  exact held m c t ((flush0_2 t).mp hf) y

end Cert.FfInDwIdeal.Block

end
-- ==== Proof.FfInDwValue.lean ====
/- The array of `FfInDw` is the reference's. -/
module

public import proofs.«01_k».proof.Defs
public import proofs.«01_k».proof.Proof.FfInDwBlock
public import proofs.«01_k».proof.Proof.Gen.FfInDw.Frame
public import proofs.«01_k».proof.Proof.Gen.FfInDwReferenceIdeal.Read
public import Idealize.ShloMosaic.Lib.Quiescent
public import Idealize.ShloMosaic.Lib.Claim

@[expose] public section

set_option maxRecDepth 65536

noncomputable section

namespace Cert.FfInDwIdeal.Block

open Cert.FfInDwIdeal Cert.FfInDwIdeal.Gen Cert.Product
open Idealize.ShloMosaic Idealize.SL.Sem
open Idealize.ShloMosaic.TcCoe
open Finset (range)

variable (m : (ℓ : Loc nD τ sig) → Buf (Elt Ideal) ℓ) (c : Dev nD)

/-- What the host hands the call. -/
theorem V_host : V m c main_v17 = Cert.FfInDwReferenceIdeal.Read.val_main_v16 (F := Ideal) (m ((c.tc : Thread nD τ).loc main_arg0)) (m ((c.tc : Thread nD τ).loc main_arg1)) (m ((c.tc : Thread nD τ).loc main_arg2)) (m ((c.tc : Thread nD τ).loc main_arg3)) := by
  entry_read
  rfl

theorem prod_eq : prod m c = Cert.FfInDwReferenceIdeal.Read.val_main_v18 (F := Ideal) (m ((c.tc : Thread nD τ).loc main_arg0)) (m ((c.tc : Thread nD τ).loc main_arg1)) (m ((c.tc : Thread nD τ).loc main_arg2)) (m ((c.tc : Thread nD τ).loc main_arg3)) := by
  funext i
  rw [Cert.FfInDwReferenceIdeal.Read.val_main_v18_apply, Cert.FfInDwReferenceIdeal.Read.val_main_v17_apply]
  unfold prod
  refine (sum_block 8192 _ _ fun k => ?_).symm
  unfold term
  have el := at2_idx (lhs m c) (Cert.FfInDwReferenceIdeal.Read.ridx_main_v17 (Cert.FfInDwReferenceIdeal.Read.idx_main_v18 i) k)
  have er := at2_idx (rhs m c) (Cert.FfInDwReferenceIdeal.Read.lidx_main_v17 (Cert.FfInDwReferenceIdeal.Read.idx_main_v18 i) k)
  refine Eq.trans ?_ (congrArg₂ (fun u v : EReal => u * v) el er).symm
  unfold lhs rhs
  rw [V_host, V_main_arg0]
  exact mul_comm (_ : EReal) _

end Cert.FfInDwIdeal.Block

namespace Cert.Proof.FfInDw

open Idealize.ShloMosaic Idealize.SL.Sem
open Cert.FfInDwIdeal.Block

theorem frame_bits : Cert.quiescent_FfInDw (hFfInDw := Cert.FfInDw.Gen.facts) := fun m g _ => Cert.FfInDw.Gen.frame m g

theorem frame_ideal : Cert.quiescent_FfInDwIdeal (hFfInDwIdeal := Cert.FfInDwIdeal.Gen.facts) := fun m g _ => Cert.FfInDwIdeal.Gen.frame m g

theorem frame_ref : Cert.quiescent_FfInDwReferenceIdeal (hFfInDwReferenceIdeal := Cert.FfInDwReferenceIdeal.Gen.facts) := fun m g _ =>
  (θ_run Cert.FfInDwReferenceIdeal.defs _ _).mono (fun r h => ⟨fun c => (h c).2, sem_eq_zero_of_no_sems rfl r.2⟩)
    (Cert.FfInDwReferenceIdeal.Value.run (F := Ideal) m g)

set_option maxHeartbeats 4000000 in
theorem algebraic : Cert.algebraic_FfInDwIdeal_FfInDwReferenceIdeal (hFfInDwIdeal := Cert.FfInDwIdeal.Gen.facts)
    (hFfInDwReferenceIdeal := Cert.FfInDwReferenceIdeal.Gen.facts) := by
  intro m g m' g' _ hargs
  refine ⟨fun c => prod m c, ?_, ?_⟩
  · refine (θ_run _ _ _).mono (fun r h c => ⟨(h c).1.trans (out_2 m c), (h c).2⟩) (Cert.FfInDwIdeal.Value.run_blocks (F := Ideal) m g)
  · refine (θ_run _ _ _).mono (fun r h c => ⟨(h c).1.trans ?_, (h c).2⟩) (Cert.FfInDwReferenceIdeal.Value.run (F := Ideal) m' g')
    obtain ⟨a0, a1, a2, a3⟩ := hargs c
    rw [Cert.FfInDwReferenceIdeal.Read.val_main_v18_eq, a0, a1, a2, a3]
    exact (prod_eq m c).symm

end Cert.Proof.FfInDw

end
-- ==== Proof.FfOutDxBlock.lean ====
/- The product that `FfOutDx` forms, block by block. -/
module

public import proofs.«01_k».proof.Proof.Product
public import proofs.«01_k».proof.Proof.Gen.FfOutDxIdeal.Value

@[expose] public section

set_option maxRecDepth 65536

noncomputable section

namespace Cert.FfOutDxIdeal.Block

open Cert.FfOutDxIdeal Cert.FfOutDxIdeal.Gen Cert.Product
open Idealize.ShloMosaic hiding ix1 ix2 ix3 ix4 eq_ix2
open Idealize.SL.Sem
open Idealize.ShloMosaic.TcCoe Idealize.ShloMosaic.ValueIdx
open Finset (range)

theorem at_0 : ∀ t : Fin grid0.N, win0_0.index t = ![t.val / 4, 0] := by decide +kernel
theorem at_1 : ∀ t : Fin grid0.N, win0_1.index t = ![t.val % 4, 0] := by decide +kernel
theorem at_2 : ∀ t : Fin grid0.N, win0_2.index t = ![t.val / 4, t.val % 4] := by decide +kernel
theorem at_3 : ∀ t : Fin grid0.N, win0_3.index t = ![t.val / 4, t.val % 4] := by decide +kernel

/-- Twice a value's positive part, times another. -/
def slope (p x : EReal) : EReal :=
  p * (Scalar.ofBits (F := Ideal) .f32 0x40000000#32 * max x (Scalar.ofBits (F := Ideal) .f32 0x00000000#32))

variable (m : (ℓ : Loc nD τ sig) → Buf (Elt Ideal) ℓ) (c : Dev nD)

/-- The two arrays the call multiplies, and the one whose sign decides. -/
def lhs : (⟨2, ![8192, 1024]⟩ : Shape).Idx → EReal := V m c main_arg3
def rhs : (⟨2, ![4096, 1024]⟩ : Shape).Idx → EReal := V m c main_arg2
def pre : (⟨2, ![8192, 4096]⟩ : Shape).Idx → EReal := V m c main_v3

/-- One term of the product's element at a row and a column. -/
def term (i j q : ℕ) : EReal := at2 (lhs m c) i q * at2 (rhs m c) j q

/-- The product's element at a row and a column. -/
def sums (i j : ℕ) : EReal := ∑ q ∈ range 1024, term m c i j q

theorem blk_0 (t : Fin cfg0.N) (y : S1024x1024.Idx) : iblk m c 0 t y = at2 (lhs m c) (t.val / 4 * 1024 + (y 0).val) (y 1).val :=
  at2_place (lhs m c) (((cfg0.win 0).blk t).view.emb y) (by blk_simp [at_0]) (by blk_simp [at_0])

theorem blk_1 (t : Fin cfg0.N) (y : S1024x1024.Idx) : iblk m c 1 t y = at2 (rhs m c) (t.val % 4 * 1024 + (y 0).val) (y 1).val :=
  at2_place (rhs m c) (((cfg0.win 1).blk t).view.emb y) (by blk_simp [at_1]) (by blk_simp [at_1])

theorem blk_2 (t : Fin cfg0.N) (y : S1024x1024.Idx) : iblk m c 2 t y = at2 (pre m c) (t.val / 4 * 1024 + (y 0).val) (t.val % 4 * 1024 + (y 1).val) :=
  at2_place (pre m c) (((cfg0.win 2).blk t).view.emb y) (by blk_simp [at_2]) (by blk_simp [at_2])

/-- What one point forms. -/
theorem part (t : Fin cfg0.N) (j : S1024x1024.Idx) : matmul dot_S1024x1024_S1024x1024_S1024x1024_1_1_0_0_n_n none (φ₁ := .bf16) (φ₂ := .bf16) (iblk m c 0 t) (iblk m c 1 t) (constant (F := Ideal) S1024x1024 .f32 0x00000000#32) j
    = sums m c (t.val / 4 * 1024 + (j 0).val) (t.val % 4 * 1024 + (j 1).val) :=
  times_rows (φ₁ := .bf16) (φ₂ := .bf16) _ _ j _ fun _ => congrArg₂ (fun u v : EReal => u * v) (blk_0 m c t _) (blk_1 m c t _)

/-- The whole array. -/
def grad : S8192x4096.Idx → EReal := fun i => slope (sums m c (i 0).val (i 1).val) (at2 (pre m c) (i 0).val (i 1).val)

theorem out_3 : (dats m 0 c).arrAt 3 cfg0.N = grad m c := by
  refine (dats m 0 c).arrAt_eq_of_covers 3 _ (by decide +kernel) fun t hf y => ?_
  have e0 : ((((cfg0.win 3).blk t).view.emb y) 0 : ℕ) = t.val / 4 * 1024 + (y 0).val := by blk_simp [at_3]
  have e1 : ((((cfg0.win 3).blk t).view.emb y) 1 : ℕ) = t.val % 4 * 1024 + (y 1).val := by blk_simp [at_3]
  unfold grad
  rw [e0, e1, after0_3]
  frame_out
  unfold k0_pay1
  simp only [shapeCast_self]
  exact congrArg₂ slope (part m c t y) (blk_2 m c t y)

end Cert.FfOutDxIdeal.Block

end
-- ==== Proof.FfOutDxValue.lean ====
/- The arrays of `FfOutDx` are the reference's. -/
module

public import proofs.«01_k».proof.Defs
public import proofs.«01_k».proof.Proof.FfOutDxBlock
public import proofs.«01_k».proof.Proof.Gen.FfOutDx.Frame
public import proofs.«01_k».proof.Proof.Gen.FfOutDxReferenceIdeal.Read
public import Idealize.ShloMosaic.Lib.Quiescent
public import Idealize.ShloMosaic.Lib.Claim

@[expose] public section

set_option maxRecDepth 65536

noncomputable section

namespace Cert.FfOutDxIdeal.Block

open Cert.FfOutDxIdeal Cert.FfOutDxIdeal.Gen Cert.Product
open Idealize.ShloMosaic Idealize.SL.Sem
open Idealize.ShloMosaic.TcCoe
open Finset (range)

variable (m : (ℓ : Loc nD τ sig) → Buf (Elt Ideal) ℓ) (c : Dev nD)

/-- What the host hands the call. -/
theorem V_host : V m c main_v3 = Cert.FfOutDxReferenceIdeal.Read.val_main_v4 (F := Ideal) (m ((c.tc : Thread nD τ).loc main_arg0)) (m ((c.tc : Thread nD τ).loc main_arg1)) := by
  entry_read
  rfl

theorem sums_eq (i : S8192x4096.Idx) : sums m c (i 0).val (i 1).val = Cert.FfOutDxReferenceIdeal.Read.val_main_v13 (F := Ideal) (m ((c.tc : Thread nD τ).loc main_arg2)) (m ((c.tc : Thread nD τ).loc main_arg3)) i := by
  rw [Cert.FfOutDxReferenceIdeal.Read.val_main_v13_apply]
  unfold sums
  refine (sum_block 1024 _ _ fun k => ?_).symm
  unfold term
  have el := at2_idx (lhs m c) (Cert.FfOutDxReferenceIdeal.Read.lidx_main_v13 i k)
  have er := at2_idx (rhs m c) (Cert.FfOutDxReferenceIdeal.Read.ridx_main_v13 i k)
  refine Eq.trans ?_ (congrArg₂ (fun u v : EReal => u * v) el er).symm
  unfold lhs rhs
  rw [V_main_arg2, V_main_arg3]
  rfl

theorem pre_eq (i : S8192x4096.Idx) : at2 (pre m c) (i 0).val (i 1).val = Cert.FfOutDxReferenceIdeal.Read.val_main_v4 (F := Ideal) (m ((c.tc : Thread nD τ).loc main_arg0)) (m ((c.tc : Thread nD τ).loc main_arg1)) i := by
  rw [at2_idx]
  exact congrFun (V_host m c) i

/-- Where a value is not positive its positive part is zero, and so the whole. -/
theorem slope_select (p x : EReal) : slope p x = (if FloatOps.cmpf (F := Ideal) (φ := .f32) .ogt x (FloatOps.ofBits .f32 0x00000000#32) = 1#1
    then p * ((FloatOps.ofBits (F := Ideal) .f32 0x40000000#32 : EReal) * max x (FloatOps.ofBits (F := Ideal) .f32 0x00000000#32 : EReal))
    else (FloatOps.ofBits (F := Ideal) .f32 0x00000000#32 : EReal)) := by
  have hz : (FloatOps.ofBits (F := Ideal) .f32 0x00000000#32 : EReal) = 0 := Cert.KernelIdeal.Grad.zero_f32
  unfold slope
  by_cases h : (0 : EReal) < x
  · refine (if_pos ?_).symm
    · show BitVec.ofBool (decide ((FloatOps.ofBits (F := Ideal) .f32 0x00000000#32 : EReal) < x)) = 1#1
      rw [hz, decide_eq_true h]
      rfl
  · rw [if_neg]
    · show p * (_ * max x (FloatOps.ofBits (F := Ideal) .f32 0x00000000#32 : EReal)) = _
      rw [hz, max_eq_right (not_lt.1 h), mul_zero, mul_zero]
    · show ¬BitVec.ofBool (decide ((FloatOps.ofBits (F := Ideal) .f32 0x00000000#32 : EReal) < x)) = 1#1
      rw [hz, decide_eq_false h]
      decide

theorem grad_eq : grad m c = Cert.FfOutDxReferenceIdeal.Read.val_main_v17 (F := Ideal) (m ((c.tc : Thread nD τ).loc main_arg0)) (m ((c.tc : Thread nD τ).loc main_arg1)) (m ((c.tc : Thread nD τ).loc main_arg2)) (m ((c.tc : Thread nD τ).loc main_arg3)) := by
  funext i
  refine (congrArg₂ slope (sums_eq m c i) (pre_eq m c i)).trans ((slope_select _ _).trans ?_)
  rw [Cert.FfOutDxReferenceIdeal.Read.val_main_v17_apply, Cert.FfOutDxReferenceIdeal.Read.val_main_v16_apply, Cert.FfOutDxReferenceIdeal.Read.val_main_v7_apply, Cert.FfOutDxReferenceIdeal.Read.val_main_v14_apply, Cert.FfOutDxReferenceIdeal.Read.val_main_v15_apply, Cert.FfOutDxReferenceIdeal.Read.val_main_v11_apply, Cert.FfOutDxReferenceIdeal.Read.val_main_v10_apply,
    Cert.FfOutDxReferenceIdeal.Read.val_main_v5_apply, Cert.FfOutDxReferenceIdeal.Read.val_main_v6_apply, Cert.FfOutDxReferenceIdeal.Read.val_main_cst_apply, Cert.FfOutDxReferenceIdeal.Read.val_main_cst_1_apply, Cert.FfOutDxReferenceIdeal.Read.val_main_cst_2_apply,
    Cert.FfOutDxReferenceIdeal.Read.val_main_call0_v0_apply, Cert.FfOutDxReferenceIdeal.Read.val_main_call0_cst_apply]
  rfl

end Cert.FfOutDxIdeal.Block

namespace Cert.Proof.FfOutDx

open Idealize.ShloMosaic Idealize.SL.Sem
open Cert.FfOutDxIdeal.Block

theorem frame_bits : Cert.quiescent_FfOutDx (hFfOutDx := Cert.FfOutDx.Gen.facts) := fun m g _ => Cert.FfOutDx.Gen.frame m g

theorem frame_ideal : Cert.quiescent_FfOutDxIdeal (hFfOutDxIdeal := Cert.FfOutDxIdeal.Gen.facts) := fun m g _ => Cert.FfOutDxIdeal.Gen.frame m g

theorem frame_ref : Cert.quiescent_FfOutDxReferenceIdeal (hFfOutDxReferenceIdeal := Cert.FfOutDxReferenceIdeal.Gen.facts) := fun m g _ =>
  (θ_run Cert.FfOutDxReferenceIdeal.defs _ _).mono (fun r h => ⟨fun c => (h c).2, sem_eq_zero_of_no_sems rfl r.2⟩)
    (Cert.FfOutDxReferenceIdeal.Value.run (F := Ideal) m g)

set_option maxHeartbeats 4000000 in
theorem algebraic : Cert.algebraic_FfOutDxIdeal_FfOutDxReferenceIdeal (hFfOutDxIdeal := Cert.FfOutDxIdeal.Gen.facts)
    (hFfOutDxReferenceIdeal := Cert.FfOutDxReferenceIdeal.Gen.facts) := by
  intro m g m' g' _ hargs
  refine ⟨fun c => grad m c, ?_, ?_⟩
  · refine (θ_run _ _ _).mono (fun r h c => ⟨(h c).1.trans (out_3 m c), (h c).2⟩) (Cert.FfOutDxIdeal.Value.run_blocks (F := Ideal) m g)
  · refine (θ_run _ _ _).mono (fun r h c => ⟨(h c).1.trans ?_, (h c).2⟩) (Cert.FfOutDxReferenceIdeal.Value.run (F := Ideal) m' g')
    obtain ⟨a0, a1, a2, a3⟩ := hargs c
    rw [Cert.FfOutDxReferenceIdeal.Read.val_main_v17_eq, a0, a1, a2, a3]
    exact (grad_eq m c).symm

end Cert.Proof.FfOutDx

end
-- ==== Proof.ProjQkvValue.lean ====
/- What `ProjQkv` leaves is the reference's array. -/
module

public import proofs.«01_k».proof.Defs
public import proofs.«01_k».proof.Proof.Product
public import proofs.«01_k».proof.Proof.Gen.ProjQkvIdeal.Value
public import proofs.«01_k».proof.Proof.Gen.ProjQkv.Frame
public import proofs.«01_k».proof.Proof.Gen.ProjQkvReferenceIdeal.Read
public import Idealize.ShloMosaic.Lib.Quiescent
public import Idealize.ShloMosaic.Lib.Claim

@[expose] public section

set_option maxRecDepth 65536

noncomputable section

namespace Cert.ProjQkvIdeal.Block

open Cert.ProjQkvIdeal Cert.ProjQkvIdeal.Gen Cert.Product
open Idealize.ShloMosaic hiding ix1 ix2 ix3 ix4 eq_ix2
open Idealize.SL.Sem
open Idealize.ShloMosaic.TcCoe Idealize.ShloMosaic.ValueIdx
open Finset (range)

theorem at_0 : ∀ t : Fin grid0.N, win0_0.index t = ![t.val / 2, 0] := by decide +kernel
theorem at_1 : ∀ t : Fin grid0.N, win0_1.index t = ![0, t.val % 2] := by decide +kernel
theorem at_2 : ∀ t : Fin grid0.N, win0_2.index t = ![t.val / 2, t.val % 2] := by decide +kernel

variable (m : (ℓ : Loc nD τ sig) → Buf (Elt Ideal) ℓ) (c : Dev nD)

/-- The two arrays the call multiplies. -/
def lhs : (⟨2, ![8192, 1024]⟩ : Shape).Idx → EReal := V m c main_arg0
def rhs : (⟨2, ![1024, 5376]⟩ : Shape).Idx → EReal := V m c main_arg1

/-- One term of the product's element at a row and a column. -/
def term (i j q : ℕ) : EReal := at2 (lhs m c) i q * at2 (rhs m c) q j

theorem blk_0 (t : Fin cfg0.N) (y : S1024x1024.Idx) : iblk m c 0 t y = at2 (lhs m c) (t.val / 2 * 1024 + (y 0).val) (y 1).val :=
  at2_place (lhs m c) (((cfg0.win 0).blk t).view.emb y) (by blk_simp [at_0]) (by blk_simp [at_0])

theorem blk_1 (t : Fin cfg0.N) (y : S1024x768.Idx) : iblk m c 1 t y = at2 (rhs m c) (y 0).val (t.val % 2 * 768 + (y 1).val) :=
  at2_place (rhs m c) (((cfg0.win 1).blk t).view.emb y) (by blk_simp [at_1]) (by blk_simp [at_1])

/-- What one point forms. -/
theorem part (t : Fin cfg0.N) (j : S1024x768.Idx) : k0_pay1 (F := Ideal) (iblk m c 0 t) (iblk m c 1 t) j
    = ∑ q ∈ range 1024, term m c (t.val / 2 * 1024 + (j 0).val) (t.val % 2 * 768 + (j 1).val) q :=
  times (φ₁ := .bf16) (φ₂ := .bf16) _ _ j _ fun _ => congrArg₂ (fun u v : EReal => u * v) (blk_0 m c t _) (blk_1 m c t _)

/-- The whole product. -/
def prod : S8192x1536.Idx → EReal := fun i => ∑ q ∈ range 1024, term m c (i 0).val (i 1).val q

theorem out_2 : (dats m 0 c).arrAt 2 cfg0.N = prod m c := by
  refine (dats m 0 c).arrAt_eq_of_covers 2 _ (by decide +kernel) fun t hf y => ?_
  have e0 : ((((cfg0.win 2).blk t).view.emb y) 0 : ℕ) = t.val / 2 * 1024 + (y 0).val := by blk_simp [at_2]
  have e1 : ((((cfg0.win 2).blk t).view.emb y) 1 : ℕ) = t.val % 2 * 768 + (y 1).val := by blk_simp [at_2]
  unfold prod
  rw [e0, e1, after0_2]
  frame_out
  exact part m c t y

theorem prod_eq : prod m c = Cert.ProjQkvReferenceIdeal.Read.val_main_v4 (F := Ideal) (m ((c.tc : Thread nD τ).loc main_arg0)) (m ((c.tc : Thread nD τ).loc main_arg1)) := by
  funext i
  rw [Cert.ProjQkvReferenceIdeal.Read.val_main_v4_apply, Cert.ProjQkvReferenceIdeal.Read.val_main_v3_apply, Cert.ProjQkvReferenceIdeal.Read.val_main_v2_apply]
  refine (sum_block 1024 _ _ fun k => ?_).symm
  unfold term
  refine Eq.trans ?_ (congrArg₂ (fun u v : EReal => u * v) (at2_place (lhs m c) (Cert.ProjQkvReferenceIdeal.Read.lidx_main_v2 (Cert.ProjQkvReferenceIdeal.Read.idx_main_v3 i) k) rfl rfl) (at2_place (rhs m c) (Cert.ProjQkvReferenceIdeal.Read.ridx_main_v2 (Cert.ProjQkvReferenceIdeal.Read.idx_main_v3 i) k) rfl rfl))
  rfl

end Cert.ProjQkvIdeal.Block

namespace Cert.Proof.ProjQkv

open Idealize.ShloMosaic Idealize.SL.Sem
open Cert.ProjQkvIdeal.Block

theorem frame_bits : Cert.quiescent_ProjQkv (hProjQkv := Cert.ProjQkv.Gen.facts) := fun m g _ => Cert.ProjQkv.Gen.frame m g

theorem frame_ideal : Cert.quiescent_ProjQkvIdeal (hProjQkvIdeal := Cert.ProjQkvIdeal.Gen.facts) := fun m g _ => Cert.ProjQkvIdeal.Gen.frame m g

theorem frame_ref : Cert.quiescent_ProjQkvReferenceIdeal (hProjQkvReferenceIdeal := Cert.ProjQkvReferenceIdeal.Gen.facts) := fun m g _ =>
  (θ_run Cert.ProjQkvReferenceIdeal.defs _ _).mono (fun r h => ⟨fun c => (h c).2, sem_eq_zero_of_no_sems rfl r.2⟩)
    (Cert.ProjQkvReferenceIdeal.Value.run (F := Ideal) m g)

theorem algebraic : Cert.algebraic_ProjQkvIdeal_ProjQkvReferenceIdeal (hProjQkvIdeal := Cert.ProjQkvIdeal.Gen.facts)
    (hProjQkvReferenceIdeal := Cert.ProjQkvReferenceIdeal.Gen.facts) := by
  intro m g m' g' _ hargs
  refine ⟨fun c => prod m c, ?_, ?_⟩
  · exact (θ_run _ _ _).mono (fun r h c => ⟨(h c).1.trans (out_2 m c), (h c).2⟩) (Cert.ProjQkvIdeal.Value.run_blocks (F := Ideal) m g)
  · refine (θ_run _ _ _).mono (fun r h c => ⟨(h c).1.trans ?_, (h c).2⟩) (Cert.ProjQkvReferenceIdeal.Value.run (F := Ideal) m' g')
    obtain ⟨a0, a1⟩ := hargs c
    rw [Cert.ProjQkvReferenceIdeal.Read.val_main_v4_eq, a0, a1]
    exact (prod_eq m c).symm

end Cert.Proof.ProjQkv

end
-- ==== Proof.ProjMixValue.lean ====
/- What `ProjMix` leaves is the reference's array. -/
module

public import proofs.«01_k».proof.Defs
public import proofs.«01_k».proof.Proof.Product
public import proofs.«01_k».proof.Proof.Gen.ProjMixIdeal.Value
public import proofs.«01_k».proof.Proof.Gen.ProjMix.Frame
public import proofs.«01_k».proof.Proof.Gen.ProjMixReferenceIdeal.Read
public import Idealize.ShloMosaic.Lib.Quiescent
public import Idealize.ShloMosaic.Lib.Claim

@[expose] public section

set_option maxRecDepth 65536

noncomputable section

namespace Cert.ProjMixIdeal.Block

open Cert.ProjMixIdeal Cert.ProjMixIdeal.Gen Cert.Product
open Idealize.ShloMosaic hiding ix1 ix2 ix3 ix4 eq_ix2
open Idealize.SL.Sem
open Idealize.ShloMosaic.TcCoe Idealize.ShloMosaic.ValueIdx
open Finset (range)

theorem at_0 : ∀ t : Fin grid0.N, win0_0.index t = ![t.val, 0] := by decide +kernel
theorem at_1 : ∀ t : Fin grid0.N, win0_1.index t = ![0, 2] := by decide +kernel
theorem at_2 : ∀ t : Fin grid0.N, win0_2.index t = ![t.val, 0] := by decide +kernel

variable (m : (ℓ : Loc nD τ sig) → Buf (Elt Ideal) ℓ) (c : Dev nD)

/-- The two arrays the call multiplies. -/
def lhs : (⟨2, ![8192, 1024]⟩ : Shape).Idx → EReal := V m c main_arg0
def rhs : (⟨2, ![1024, 5376]⟩ : Shape).Idx → EReal := V m c main_arg1

/-- One term of the product's element at a row and a column. -/
def term (i j q : ℕ) : EReal := at2 (lhs m c) i q * at2 (rhs m c) q (1536 + j)

theorem blk_0 (t : Fin cfg0.N) (y : S1024x1024.Idx) : iblk m c 0 t y = at2 (lhs m c) (t.val * 1024 + (y 0).val) (y 1).val :=
  at2_place (lhs m c) (((cfg0.win 0).blk t).view.emb y) (by blk_simp [at_0]) (by blk_simp [at_0])

theorem blk_1 (t : Fin cfg0.N) (y : S1024x768.Idx) : iblk m c 1 t y = at2 (rhs m c) (y 0).val (1536 + ((y 1).val)) :=
  at2_place (rhs m c) (((cfg0.win 1).blk t).view.emb y) (by blk_simp [at_1]) (by blk_simp [at_1])

/-- What one point forms. -/
theorem part (t : Fin cfg0.N) (j : S1024x768.Idx) : k0_pay1 (F := Ideal) (iblk m c 0 t) (iblk m c 1 t) j
    = ∑ q ∈ range 1024, term m c (t.val * 1024 + (j 0).val) (j 1).val q :=
  times (φ₁ := .bf16) (φ₂ := .bf16) _ _ j _ fun _ => congrArg₂ (fun u v : EReal => u * v) (blk_0 m c t _) (blk_1 m c t _)

/-- The whole product. -/
def prod : S8192x768.Idx → EReal := fun i => ∑ q ∈ range 1024, term m c (i 0).val (i 1).val q

theorem out_2 : (dats m 0 c).arrAt 2 cfg0.N = prod m c := by
  refine (dats m 0 c).arrAt_eq_of_covers 2 _ (by decide +kernel) fun t hf y => ?_
  have e0 : ((((cfg0.win 2).blk t).view.emb y) 0 : ℕ) = t.val * 1024 + (y 0).val := by blk_simp [at_2]
  have e1 : ((((cfg0.win 2).blk t).view.emb y) 1 : ℕ) = (y 1).val := by blk_simp [at_2]
  unfold prod
  rw [e0, e1, after0_2]
  frame_out
  exact part m c t y

theorem prod_eq : prod m c = Cert.ProjMixReferenceIdeal.Read.val_main_v3 (F := Ideal) (m ((c.tc : Thread nD τ).loc main_arg0)) (m ((c.tc : Thread nD τ).loc main_arg1)) := by
  funext i
  rw [Cert.ProjMixReferenceIdeal.Read.val_main_v3_apply, Cert.ProjMixReferenceIdeal.Read.val_main_v2_apply]
  refine (sum_block 1024 _ _ fun k => ?_).symm
  unfold term
  refine Eq.trans ?_ (congrArg₂ (fun u v : EReal => u * v) (at2_place (lhs m c) (Cert.ProjMixReferenceIdeal.Read.lidx_main_v2 (Cert.ProjMixReferenceIdeal.Read.idx_main_v3 i) k) rfl rfl) (at2_place (rhs m c) (Cert.ProjMixReferenceIdeal.Read.ridx_main_v2 (Cert.ProjMixReferenceIdeal.Read.idx_main_v3 i) k) rfl rfl))
  rfl

end Cert.ProjMixIdeal.Block

namespace Cert.Proof.ProjMix

open Idealize.ShloMosaic Idealize.SL.Sem
open Cert.ProjMixIdeal.Block

theorem frame_bits : Cert.quiescent_ProjMix (hProjMix := Cert.ProjMix.Gen.facts) := fun m g _ => Cert.ProjMix.Gen.frame m g

theorem frame_ideal : Cert.quiescent_ProjMixIdeal (hProjMixIdeal := Cert.ProjMixIdeal.Gen.facts) := fun m g _ => Cert.ProjMixIdeal.Gen.frame m g

theorem frame_ref : Cert.quiescent_ProjMixReferenceIdeal (hProjMixReferenceIdeal := Cert.ProjMixReferenceIdeal.Gen.facts) := fun m g _ =>
  (θ_run Cert.ProjMixReferenceIdeal.defs _ _).mono (fun r h => ⟨fun c => (h c).2, sem_eq_zero_of_no_sems rfl r.2⟩)
    (Cert.ProjMixReferenceIdeal.Value.run (F := Ideal) m g)

theorem algebraic : Cert.algebraic_ProjMixIdeal_ProjMixReferenceIdeal (hProjMixIdeal := Cert.ProjMixIdeal.Gen.facts)
    (hProjMixReferenceIdeal := Cert.ProjMixReferenceIdeal.Gen.facts) := by
  intro m g m' g' _ hargs
  refine ⟨fun c => prod m c, ?_, ?_⟩
  · exact (θ_run _ _ _).mono (fun r h c => ⟨(h c).1.trans (out_2 m c), (h c).2⟩) (Cert.ProjMixIdeal.Value.run_blocks (F := Ideal) m g)
  · refine (θ_run _ _ _).mono (fun r h c => ⟨(h c).1.trans ?_, (h c).2⟩) (Cert.ProjMixReferenceIdeal.Value.run (F := Ideal) m' g')
    obtain ⟨a0, a1⟩ := hargs c
    rw [Cert.ProjMixReferenceIdeal.Read.val_main_v3_eq, a0, a1]
    exact (prod_eq m c).symm

end Cert.Proof.ProjMix

end
-- ==== Proof.ProjGatesValue.lean ====
/- What `ProjGates` leaves is the reference's array. -/
module

public import proofs.«01_k».proof.Defs
public import proofs.«01_k».proof.Proof.Product
public import proofs.«01_k».proof.Proof.Gen.ProjGatesIdeal.Value
public import proofs.«01_k».proof.Proof.Gen.ProjGates.Frame
public import proofs.«01_k».proof.Proof.Gen.ProjGatesReferenceIdeal.Read
public import Idealize.ShloMosaic.Lib.Quiescent
public import Idealize.ShloMosaic.Lib.Claim

@[expose] public section

set_option maxRecDepth 65536

noncomputable section

namespace Cert.ProjGatesIdeal.Block

open Cert.ProjGatesIdeal Cert.ProjGatesIdeal.Gen Cert.Product
open Idealize.ShloMosaic hiding ix1 ix2 ix3 ix4 eq_ix2
open Idealize.SL.Sem
open Idealize.ShloMosaic.TcCoe Idealize.ShloMosaic.ValueIdx
open Finset (range)

theorem at_0 : ∀ t : Fin grid0.N, win0_0.index t = ![t.val / 4, 0] := by decide +kernel
theorem at_1 : ∀ t : Fin grid0.N, win0_1.index t = ![0, 3 + t.val % 4] := by decide +kernel
theorem at_2 : ∀ t : Fin grid0.N, win0_2.index t = ![t.val / 4, t.val % 4] := by decide +kernel

variable (m : (ℓ : Loc nD τ sig) → Buf (Elt Ideal) ℓ) (c : Dev nD)

/-- The two arrays the call multiplies. -/
def lhs : (⟨2, ![8192, 1024]⟩ : Shape).Idx → EReal := V m c main_arg0
def rhs : (⟨2, ![1024, 5376]⟩ : Shape).Idx → EReal := V m c main_arg1

/-- One term of the product's element at a row and a column. -/
def term (i j q : ℕ) : EReal := at2 (lhs m c) i q * at2 (rhs m c) q (2304 + j)

theorem blk_0 (t : Fin cfg0.N) (y : S1024x1024.Idx) : iblk m c 0 t y = at2 (lhs m c) (t.val / 4 * 1024 + (y 0).val) (y 1).val :=
  at2_place (lhs m c) (((cfg0.win 0).blk t).view.emb y) (by blk_simp [at_0]) (by blk_simp [at_0])

theorem blk_1 (t : Fin cfg0.N) (y : S1024x768.Idx) : iblk m c 1 t y = at2 (rhs m c) (y 0).val (2304 + (t.val % 4 * 768 + (y 1).val)) :=
  at2_place (rhs m c) (((cfg0.win 1).blk t).view.emb y) (by blk_simp [at_1]) (by blk_simp [at_1]; omega)

/-- What one point forms. -/
theorem part (t : Fin cfg0.N) (j : S1024x768.Idx) : k0_pay1 (F := Ideal) (iblk m c 0 t) (iblk m c 1 t) j
    = ∑ q ∈ range 1024, term m c (t.val / 4 * 1024 + (j 0).val) (t.val % 4 * 768 + (j 1).val) q :=
  times (φ₁ := .bf16) (φ₂ := .bf16) _ _ j _ fun _ => congrArg₂ (fun u v : EReal => u * v) (blk_0 m c t _) (blk_1 m c t _)

/-- The whole product. -/
def prod : S8192x3072.Idx → EReal := fun i => ∑ q ∈ range 1024, term m c (i 0).val (i 1).val q

theorem out_2 : (dats m 0 c).arrAt 2 cfg0.N = prod m c := by
  refine (dats m 0 c).arrAt_eq_of_covers 2 _ (by decide +kernel) fun t hf y => ?_
  have e0 : ((((cfg0.win 2).blk t).view.emb y) 0 : ℕ) = t.val / 4 * 1024 + (y 0).val := by blk_simp [at_2]
  have e1 : ((((cfg0.win 2).blk t).view.emb y) 1 : ℕ) = t.val % 4 * 768 + (y 1).val := by blk_simp [at_2]
  unfold prod
  rw [e0, e1, after0_2]
  frame_out
  exact part m c t y

theorem prod_eq : prod m c = Cert.ProjGatesReferenceIdeal.Read.val_main_v4 (F := Ideal) (m ((c.tc : Thread nD τ).loc main_arg0)) (m ((c.tc : Thread nD τ).loc main_arg1)) := by
  funext i
  rw [Cert.ProjGatesReferenceIdeal.Read.val_main_v4_apply, Cert.ProjGatesReferenceIdeal.Read.val_main_v3_apply, Cert.ProjGatesReferenceIdeal.Read.val_main_v2_apply]
  refine (sum_block 1024 _ _ fun k => ?_).symm
  unfold term
  refine Eq.trans ?_ (congrArg₂ (fun u v : EReal => u * v) (at2_place (lhs m c) (Cert.ProjGatesReferenceIdeal.Read.lidx_main_v2 (Cert.ProjGatesReferenceIdeal.Read.idx_main_v3 i) k) rfl rfl) (at2_place (rhs m c) (Cert.ProjGatesReferenceIdeal.Read.ridx_main_v2 (Cert.ProjGatesReferenceIdeal.Read.idx_main_v3 i) k) rfl rfl))
  rfl

end Cert.ProjGatesIdeal.Block

namespace Cert.Proof.ProjGates

open Idealize.ShloMosaic Idealize.SL.Sem
open Cert.ProjGatesIdeal.Block

theorem frame_bits : Cert.quiescent_ProjGates (hProjGates := Cert.ProjGates.Gen.facts) := fun m g _ => Cert.ProjGates.Gen.frame m g

theorem frame_ideal : Cert.quiescent_ProjGatesIdeal (hProjGatesIdeal := Cert.ProjGatesIdeal.Gen.facts) := fun m g _ => Cert.ProjGatesIdeal.Gen.frame m g

theorem frame_ref : Cert.quiescent_ProjGatesReferenceIdeal (hProjGatesReferenceIdeal := Cert.ProjGatesReferenceIdeal.Gen.facts) := fun m g _ =>
  (θ_run Cert.ProjGatesReferenceIdeal.defs _ _).mono (fun r h => ⟨fun c => (h c).2, sem_eq_zero_of_no_sems rfl r.2⟩)
    (Cert.ProjGatesReferenceIdeal.Value.run (F := Ideal) m g)

theorem algebraic : Cert.algebraic_ProjGatesIdeal_ProjGatesReferenceIdeal (hProjGatesIdeal := Cert.ProjGatesIdeal.Gen.facts)
    (hProjGatesReferenceIdeal := Cert.ProjGatesReferenceIdeal.Gen.facts) := by
  intro m g m' g' _ hargs
  refine ⟨fun c => prod m c, ?_, ?_⟩
  · exact (θ_run _ _ _).mono (fun r h c => ⟨(h c).1.trans (out_2 m c), (h c).2⟩) (Cert.ProjGatesIdeal.Value.run_blocks (F := Ideal) m g)
  · refine (θ_run _ _ _).mono (fun r h c => ⟨(h c).1.trans ?_, (h c).2⟩) (Cert.ProjGatesReferenceIdeal.Value.run (F := Ideal) m' g')
    obtain ⟨a0, a1⟩ := hargs c
    rw [Cert.ProjGatesReferenceIdeal.Read.val_main_v4_eq, a0, a1]
    exact (prod_eq m c).symm

end Cert.Proof.ProjGates

end
-- ==== Proof.ProjDxValue.lean ====
/- What `ProjDx` leaves is the reference's array. -/
module

public import proofs.«01_k».proof.Defs
public import proofs.«01_k».proof.Proof.Product
public import proofs.«01_k».proof.Proof.Gen.ProjDxIdeal.Value
public import proofs.«01_k».proof.Proof.Gen.ProjDx.Frame
public import proofs.«01_k».proof.Proof.Gen.ProjDxReferenceIdeal.Read
public import Idealize.ShloMosaic.Lib.Quiescent
public import Idealize.ShloMosaic.Lib.Claim

@[expose] public section

set_option maxRecDepth 65536

noncomputable section

namespace Cert.ProjDxIdeal.Block

open Cert.ProjDxIdeal Cert.ProjDxIdeal.Gen Cert.Product
open Idealize.ShloMosaic hiding ix1 ix2 ix3 ix4 eq_ix2
open Idealize.SL.Sem
open Idealize.ShloMosaic.TcCoe Idealize.ShloMosaic.ValueIdx
open Finset (range)

theorem at_0 : ∀ t : Fin grid0.N, win0_0.index t = ![t.val / 3, t.val % 3] := by decide +kernel
theorem at_1 : ∀ t : Fin grid0.N, win0_1.index t = ![0, t.val % 3] := by decide +kernel
theorem at_2 : ∀ t : Fin grid0.N, win0_2.index t = ![t.val / 3, 0] := by decide +kernel

variable (m : (ℓ : Loc nD τ sig) → Buf (Elt Ideal) ℓ) (c : Dev nD)

/-- The two arrays the call multiplies. -/
def lhs : (⟨2, ![8192, 5376]⟩ : Shape).Idx → EReal := V m c main_arg2
def rhs : (⟨2, ![1024, 5376]⟩ : Shape).Idx → EReal := V m c main_arg1

/-- One term of the product's element at a row and a column. -/
def term (i j q : ℕ) : EReal := at2 (lhs m c) i q * at2 (rhs m c) j q

theorem blk_0 (t : Fin cfg0.N) (y : S1024x1792.Idx) : iblk m c 0 t y = at2 (lhs m c) (t.val / 3 * 1024 + (y 0).val) (t.val % 3 * 1792 + (y 1).val) :=
  at2_place (lhs m c) (((cfg0.win 0).blk t).view.emb y) (by blk_simp [at_0]) (by blk_simp [at_0])

theorem blk_1 (t : Fin cfg0.N) (y : S1024x1792.Idx) : iblk m c 1 t y = at2 (rhs m c) (y 0).val (t.val % 3 * 1792 + (y 1).val) :=
  at2_place (rhs m c) (((cfg0.win 1).blk t).view.emb y) (by blk_simp [at_1]) (by blk_simp [at_1])

/-- What one point adds. -/
theorem part (t : Fin cfg0.N) (j : S1024x1024.Idx) : k0_pay1 (F := Ideal) (iblk m c 0 t) (iblk m c 1 t) j
    = ∑ q ∈ range 1792, term m c (t.val / 3 * 1024 + (j 0).val) (j 1).val (t.val % 3 * 1792 + q) :=
  times_rows (φ₁ := .bf16) (φ₂ := .bf16) _ _ j _ fun _ => congrArg₂ (fun u v : EReal => u * v) (blk_0 m c t _) (blk_1 m c t _)

/-- What the block holds when it is written back. -/
theorem held (t : Fin cfg0.N) (ht : t.val % 3 = 2) (j : S1024x1024.Idx) : outsAt0 m c t.val t.isLt j
    = ∑ q ∈ range 5376, term m c (t.val / 3 * 1024 + (j 0).val) (j 1).val q := by
  refine run_total (fun n h => outsAt0 m c n h) 3 1792 (fun a j q => term m c (a * 1024 + (j 0).val) (j 1).val q) (fun t h j => ?_) (fun t h j => ?_) t ht j
  · have hl := lt_of_lt_of_eq t.isLt N_0
    dsimp only
    rw [outsAt0_A m c t h (by omega)]
    frame_out
    exact part m c t j
  · dsimp only
    rw [outsAt0_B m c t h (by omega)]
    frame_out
    unfold k0_pay2
    rw [shapeCast_self]
    exact congrArg (fun u : EReal => outsAt0 m c (t.val - 1) _ j + u) (part m c t j)

/-- The whole product. -/
def prod : S8192x1024.Idx → EReal := fun i => ∑ q ∈ range 5376, term m c (i 0).val (i 1).val q

theorem out_2 : (dats m 0 c).arrAt 2 cfg0.N = prod m c := by
  refine (dats m 0 c).arrAt_eq_of_covers 2 _ (by decide +kernel) fun t hf y => ?_
  have e0 : ((((cfg0.win 2).blk t).view.emb y) 0 : ℕ) = t.val / 3 * 1024 + (y 0).val := by blk_simp [at_2]
  have e1 : ((((cfg0.win 2).blk t).view.emb y) 1 : ℕ) = (y 1).val := by blk_simp [at_2]
  unfold prod
  rw [e0, e1]
  exact held m c t ((flush0_2 t).mp hf) y

theorem prod_eq : prod m c = Cert.ProjDxReferenceIdeal.Read.val_main_v6 (F := Ideal) (m ((c.tc : Thread nD τ).loc main_arg1)) (m ((c.tc : Thread nD τ).loc main_arg2)) := by
  funext i
  rw [Cert.ProjDxReferenceIdeal.Read.val_main_v6_apply]
  refine (sum_block 5376 _ _ fun k => ?_).symm
  unfold term
  refine Eq.trans ?_ (congrArg₂ (fun u v : EReal => u * v) (at2_place (lhs m c) (Cert.ProjDxReferenceIdeal.Read.lidx_main_v6 i k) rfl rfl) (at2_place (rhs m c) (Cert.ProjDxReferenceIdeal.Read.ridx_main_v6 i k) rfl rfl))
  rfl

end Cert.ProjDxIdeal.Block

namespace Cert.Proof.ProjDx

open Idealize.ShloMosaic Idealize.SL.Sem
open Cert.ProjDxIdeal.Block

theorem frame_bits : Cert.quiescent_ProjDx (hProjDx := Cert.ProjDx.Gen.facts) := fun m g _ => Cert.ProjDx.Gen.frame m g

theorem frame_ideal : Cert.quiescent_ProjDxIdeal (hProjDxIdeal := Cert.ProjDxIdeal.Gen.facts) := fun m g _ => Cert.ProjDxIdeal.Gen.frame m g

theorem frame_ref : Cert.quiescent_ProjDxReferenceIdeal (hProjDxReferenceIdeal := Cert.ProjDxReferenceIdeal.Gen.facts) := fun m g _ =>
  (θ_run Cert.ProjDxReferenceIdeal.defs _ _).mono (fun r h => ⟨fun c => (h c).2, sem_eq_zero_of_no_sems rfl r.2⟩)
    (Cert.ProjDxReferenceIdeal.Value.run (F := Ideal) m g)

theorem algebraic : Cert.algebraic_ProjDxIdeal_ProjDxReferenceIdeal (hProjDxIdeal := Cert.ProjDxIdeal.Gen.facts)
    (hProjDxReferenceIdeal := Cert.ProjDxReferenceIdeal.Gen.facts) := by
  intro m g m' g' _ hargs
  refine ⟨fun c => prod m c, ?_, ?_⟩
  · exact (θ_run _ _ _).mono (fun r h c => ⟨(h c).1.trans (out_2 m c), (h c).2⟩) (Cert.ProjDxIdeal.Value.run_blocks (F := Ideal) m g)
  · refine (θ_run _ _ _).mono (fun r h c => ⟨(h c).1.trans ?_, (h c).2⟩) (Cert.ProjDxReferenceIdeal.Value.run (F := Ideal) m' g')
    obtain ⟨a0, a1, a2⟩ := hargs c
    rw [Cert.ProjDxReferenceIdeal.Read.val_main_v6_eq, a1, a2]
    exact (prod_eq m c).symm

end Cert.Proof.ProjDx

end
-- ==== Proof.ProjDwValue.lean ====
/- What `ProjDw` leaves is the reference's array. -/
module

public import proofs.«01_k».proof.Defs
public import proofs.«01_k».proof.Proof.Product
public import proofs.«01_k».proof.Proof.Gen.ProjDwIdeal.Value
public import proofs.«01_k».proof.Proof.Gen.ProjDw.Frame
public import proofs.«01_k».proof.Proof.Gen.ProjDwReferenceIdeal.Read
public import Idealize.ShloMosaic.Lib.Quiescent
public import Idealize.ShloMosaic.Lib.Claim

@[expose] public section

set_option maxRecDepth 65536

noncomputable section

namespace Cert.ProjDwIdeal.Block

open Cert.ProjDwIdeal Cert.ProjDwIdeal.Gen Cert.Product
open Idealize.ShloMosaic hiding ix1 ix2 ix3 ix4 eq_ix2
open Idealize.SL.Sem
open Idealize.ShloMosaic.TcCoe Idealize.ShloMosaic.ValueIdx
open Finset (range)

theorem at_0 : ∀ t : Fin grid0.N, win0_0.index t = ![t.val % 4, 0] := by decide +kernel
theorem at_1 : ∀ t : Fin grid0.N, win0_1.index t = ![t.val % 4, t.val / 4] := by decide +kernel
theorem at_2 : ∀ t : Fin grid0.N, win0_2.index t = ![0, t.val / 4] := by decide +kernel

variable (m : (ℓ : Loc nD τ sig) → Buf (Elt Ideal) ℓ) (c : Dev nD)

/-- The two arrays the call multiplies. -/
def lhs : (⟨2, ![8192, 1024]⟩ : Shape).Idx → EReal := V m c main_arg0
def rhs : (⟨2, ![8192, 5376]⟩ : Shape).Idx → EReal := V m c main_arg2

/-- One term of the product's element at a row and a column. -/
def term (i j q : ℕ) : EReal := at2 (lhs m c) q i * at2 (rhs m c) q j

theorem blk_0 (t : Fin cfg0.N) (y : S2048x1024.Idx) : iblk m c 0 t y = at2 (lhs m c) (t.val % 4 * 2048 + (y 0).val) (y 1).val :=
  at2_place (lhs m c) (((cfg0.win 0).blk t).view.emb y) (by blk_simp [at_0]) (by blk_simp [at_0])

theorem blk_1 (t : Fin cfg0.N) (y : S2048x768.Idx) : iblk m c 1 t y = at2 (rhs m c) (t.val % 4 * 2048 + (y 0).val) (t.val / 4 * 768 + (y 1).val) :=
  at2_place (rhs m c) (((cfg0.win 1).blk t).view.emb y) (by blk_simp [at_1]) (by blk_simp [at_1])

/-- What one point adds. -/
theorem part (t : Fin cfg0.N) (j : S1024x768.Idx) : k0_pay1 (F := Ideal) (iblk m c 0 t) (iblk m c 1 t) j
    = ∑ q ∈ range 2048, term m c (j 0).val (t.val / 4 * 768 + (j 1).val) (t.val % 4 * 2048 + q) :=
  times_columns (φ₁ := .bf16) (φ₂ := .bf16) _ _ j _ fun _ => congrArg₂ (fun u v : EReal => u * v) (blk_0 m c t _) (blk_1 m c t _)

/-- What the block holds when it is written back. -/
theorem held (t : Fin cfg0.N) (ht : t.val % 4 = 3) (j : S1024x768.Idx) : outsAt0 m c t.val t.isLt j
    = ∑ q ∈ range 8192, term m c (j 0).val (t.val / 4 * 768 + (j 1).val) q := by
  refine run_total (fun n h => outsAt0 m c n h) 4 2048 (fun a j q => term m c (j 0).val (a * 768 + (j 1).val) q) (fun t h j => ?_) (fun t h j => ?_) t ht j
  · have hl := lt_of_lt_of_eq t.isLt N_0
    dsimp only
    rw [outsAt0_A m c t h (by omega)]
    frame_out
    exact part m c t j
  · dsimp only
    rw [outsAt0_B m c t h (by omega)]
    frame_out
    unfold k0_pay2
    rw [shapeCast_self]
    exact congrArg (fun u : EReal => outsAt0 m c (t.val - 1) _ j + u) (part m c t j)

/-- The whole product. -/
def prod : S1024x5376.Idx → EReal := fun i => ∑ q ∈ range 8192, term m c (i 0).val (i 1).val q

theorem out_2 : (dats m 0 c).arrAt 2 cfg0.N = prod m c := by
  refine (dats m 0 c).arrAt_eq_of_covers 2 _ (by decide +kernel) fun t hf y => ?_
  have e0 : ((((cfg0.win 2).blk t).view.emb y) 0 : ℕ) = (y 0).val := by blk_simp [at_2]
  have e1 : ((((cfg0.win 2).blk t).view.emb y) 1 : ℕ) = t.val / 4 * 768 + (y 1).val := by blk_simp [at_2]
  unfold prod
  rw [e0, e1]
  exact held m c t ((flush0_2 t).mp hf) y

theorem prod_eq : prod m c = Cert.ProjDwReferenceIdeal.Read.val_main_v5 (F := Ideal) (m ((c.tc : Thread nD τ).loc main_arg0)) (m ((c.tc : Thread nD τ).loc main_arg2)) := by
  funext i
  rw [Cert.ProjDwReferenceIdeal.Read.val_main_v5_apply, Cert.ProjDwReferenceIdeal.Read.val_main_v4_apply]
  refine (sum_block 8192 _ _ fun k => ?_).symm
  unfold term
  refine Eq.trans ?_ (congrArg₂ (fun u v : EReal => u * v) (at2_place (lhs m c) (Cert.ProjDwReferenceIdeal.Read.ridx_main_v4 (Cert.ProjDwReferenceIdeal.Read.idx_main_v5 i) k) rfl rfl) (at2_place (rhs m c) (Cert.ProjDwReferenceIdeal.Read.lidx_main_v4 (Cert.ProjDwReferenceIdeal.Read.idx_main_v5 i) k) rfl rfl))
  exact mul_comm (_ : EReal) _

end Cert.ProjDwIdeal.Block

namespace Cert.Proof.ProjDw

open Idealize.ShloMosaic Idealize.SL.Sem
open Cert.ProjDwIdeal.Block

theorem frame_bits : Cert.quiescent_ProjDw (hProjDw := Cert.ProjDw.Gen.facts) := fun m g _ => Cert.ProjDw.Gen.frame m g

theorem frame_ideal : Cert.quiescent_ProjDwIdeal (hProjDwIdeal := Cert.ProjDwIdeal.Gen.facts) := fun m g _ => Cert.ProjDwIdeal.Gen.frame m g

theorem frame_ref : Cert.quiescent_ProjDwReferenceIdeal (hProjDwReferenceIdeal := Cert.ProjDwReferenceIdeal.Gen.facts) := fun m g _ =>
  (θ_run Cert.ProjDwReferenceIdeal.defs _ _).mono (fun r h => ⟨fun c => (h c).2, sem_eq_zero_of_no_sems rfl r.2⟩)
    (Cert.ProjDwReferenceIdeal.Value.run (F := Ideal) m g)

theorem algebraic : Cert.algebraic_ProjDwIdeal_ProjDwReferenceIdeal (hProjDwIdeal := Cert.ProjDwIdeal.Gen.facts)
    (hProjDwReferenceIdeal := Cert.ProjDwReferenceIdeal.Gen.facts) := by
  intro m g m' g' _ hargs
  refine ⟨fun c => prod m c, ?_, ?_⟩
  · exact (θ_run _ _ _).mono (fun r h c => ⟨(h c).1.trans (out_2 m c), (h c).2⟩) (Cert.ProjDwIdeal.Value.run_blocks (F := Ideal) m g)
  · refine (θ_run _ _ _).mono (fun r h c => ⟨(h c).1.trans ?_, (h c).2⟩) (Cert.ProjDwReferenceIdeal.Value.run (F := Ideal) m' g')
    obtain ⟨a0, a1, a2⟩ := hargs c
    rw [Cert.ProjDwReferenceIdeal.Read.val_main_v5_eq, a0, a2]
    exact (prod_eq m c).symm

end Cert.Proof.ProjDw

end
-- ==== Proof.OutProjValue.lean ====
/- What `OutProj` leaves is the reference's array. -/
module

public import proofs.«01_k».proof.Defs
public import proofs.«01_k».proof.Proof.Product
public import proofs.«01_k».proof.Proof.Gen.OutProjIdeal.Value
public import proofs.«01_k».proof.Proof.Gen.OutProj.Frame
public import proofs.«01_k».proof.Proof.Gen.OutProjReferenceIdeal.Read
public import Idealize.ShloMosaic.Lib.Quiescent
public import Idealize.ShloMosaic.Lib.Claim

@[expose] public section

set_option maxRecDepth 65536

noncomputable section

namespace Cert.OutProjIdeal.Block

open Cert.OutProjIdeal Cert.OutProjIdeal.Gen Cert.Product
open Idealize.ShloMosaic hiding ix1 ix2 ix3 ix4 eq_ix2
open Idealize.SL.Sem
open Idealize.ShloMosaic.TcCoe Idealize.ShloMosaic.ValueIdx
open Finset (range)

theorem at_0 : ∀ t : Fin grid0.N, win0_0.index t = ![t.val, 0] := by decide +kernel
theorem at_1 : ∀ t : Fin grid0.N, win0_1.index t = ![0, 0] := by decide +kernel
theorem at_2 : ∀ t : Fin grid0.N, win0_2.index t = ![t.val, 0] := by decide +kernel

variable (m : (ℓ : Loc nD τ sig) → Buf (Elt Ideal) ℓ) (c : Dev nD)

/-- The two arrays the call multiplies. -/
def lhs : (⟨2, ![8192, 1024]⟩ : Shape).Idx → EReal := V m c main_arg0
def rhs : (⟨2, ![1024, 1024]⟩ : Shape).Idx → EReal := V m c main_arg1

/-- One term of the product's element at a row and a column. -/
def term (i j q : ℕ) : EReal := at2 (lhs m c) i q * at2 (rhs m c) q j

theorem blk_0 (t : Fin cfg0.N) (y : S1024x1024.Idx) : iblk m c 0 t y = at2 (lhs m c) (t.val * 1024 + (y 0).val) (y 1).val :=
  at2_place (lhs m c) (((cfg0.win 0).blk t).view.emb y) (by blk_simp [at_0]) (by blk_simp [at_0])

theorem blk_1 (t : Fin cfg0.N) (y : S1024x1024.Idx) : iblk m c 1 t y = at2 (rhs m c) (y 0).val (y 1).val :=
  at2_place (rhs m c) (((cfg0.win 1).blk t).view.emb y) (by blk_simp [at_1]) (by blk_simp [at_1])

/-- What one point forms. -/
theorem part (t : Fin cfg0.N) (j : S1024x1024.Idx) : k0_pay1 (F := Ideal) (iblk m c 0 t) (iblk m c 1 t) j
    = ∑ q ∈ range 1024, term m c (t.val * 1024 + (j 0).val) (j 1).val q :=
  times (φ₁ := .bf16) (φ₂ := .bf16) _ _ j _ fun _ => congrArg₂ (fun u v : EReal => u * v) (blk_0 m c t _) (blk_1 m c t _)

/-- The whole product. -/
def prod : S8192x1024.Idx → EReal := fun i => ∑ q ∈ range 1024, term m c (i 0).val (i 1).val q

theorem out_2 : (dats m 0 c).arrAt 2 cfg0.N = prod m c := by
  refine (dats m 0 c).arrAt_eq_of_covers 2 _ (by decide +kernel) fun t hf y => ?_
  have e0 : ((((cfg0.win 2).blk t).view.emb y) 0 : ℕ) = t.val * 1024 + (y 0).val := by blk_simp [at_2]
  have e1 : ((((cfg0.win 2).blk t).view.emb y) 1 : ℕ) = (y 1).val := by blk_simp [at_2]
  unfold prod
  rw [e0, e1, after0_2]
  frame_out
  exact part m c t y

theorem prod_eq : prod m c = Cert.OutProjReferenceIdeal.Read.val_main_v2 (F := Ideal) (m ((c.tc : Thread nD τ).loc main_arg0)) (m ((c.tc : Thread nD τ).loc main_arg1)) := by
  funext i
  rw [Cert.OutProjReferenceIdeal.Read.val_main_v2_apply]
  refine (sum_block 1024 _ _ fun k => ?_).symm
  unfold term
  refine Eq.trans ?_ (congrArg₂ (fun u v : EReal => u * v) (at2_place (lhs m c) (Cert.OutProjReferenceIdeal.Read.lidx_main_v2 i k) rfl rfl) (at2_place (rhs m c) (Cert.OutProjReferenceIdeal.Read.ridx_main_v2 i k) rfl rfl))
  rfl

end Cert.OutProjIdeal.Block

namespace Cert.Proof.OutProj

open Idealize.ShloMosaic Idealize.SL.Sem
open Cert.OutProjIdeal.Block

theorem frame_bits : Cert.quiescent_OutProj (hOutProj := Cert.OutProj.Gen.facts) := fun m g _ => Cert.OutProj.Gen.frame m g

theorem frame_ideal : Cert.quiescent_OutProjIdeal (hOutProjIdeal := Cert.OutProjIdeal.Gen.facts) := fun m g _ => Cert.OutProjIdeal.Gen.frame m g

theorem frame_ref : Cert.quiescent_OutProjReferenceIdeal (hOutProjReferenceIdeal := Cert.OutProjReferenceIdeal.Gen.facts) := fun m g _ =>
  (θ_run Cert.OutProjReferenceIdeal.defs _ _).mono (fun r h => ⟨fun c => (h c).2, sem_eq_zero_of_no_sems rfl r.2⟩)
    (Cert.OutProjReferenceIdeal.Value.run (F := Ideal) m g)

theorem algebraic : Cert.algebraic_OutProjIdeal_OutProjReferenceIdeal (hOutProjIdeal := Cert.OutProjIdeal.Gen.facts)
    (hOutProjReferenceIdeal := Cert.OutProjReferenceIdeal.Gen.facts) := by
  intro m g m' g' _ hargs
  refine ⟨fun c => prod m c, ?_, ?_⟩
  · exact (θ_run _ _ _).mono (fun r h c => ⟨(h c).1.trans (out_2 m c), (h c).2⟩) (Cert.OutProjIdeal.Value.run_blocks (F := Ideal) m g)
  · refine (θ_run _ _ _).mono (fun r h c => ⟨(h c).1.trans ?_, (h c).2⟩) (Cert.OutProjReferenceIdeal.Value.run (F := Ideal) m' g')
    obtain ⟨a0, a1⟩ := hargs c
    rw [Cert.OutProjReferenceIdeal.Read.val_main_v2_eq, a0, a1]
    exact (prod_eq m c).symm

end Cert.Proof.OutProj

end
-- ==== Proof.OutProjDxValue.lean ====
/- What `OutProjDx` leaves is the reference's array. -/
module

public import proofs.«01_k».proof.Defs
public import proofs.«01_k».proof.Proof.Product
public import proofs.«01_k».proof.Proof.Gen.OutProjDxIdeal.Value
public import proofs.«01_k».proof.Proof.Gen.OutProjDx.Frame
public import proofs.«01_k».proof.Proof.Gen.OutProjDxReferenceIdeal.Read
public import Idealize.ShloMosaic.Lib.Quiescent
public import Idealize.ShloMosaic.Lib.Claim

@[expose] public section

set_option maxRecDepth 65536

noncomputable section

namespace Cert.OutProjDxIdeal.Block

open Cert.OutProjDxIdeal Cert.OutProjDxIdeal.Gen Cert.Product
open Idealize.ShloMosaic hiding ix1 ix2 ix3 ix4 eq_ix2
open Idealize.SL.Sem
open Idealize.ShloMosaic.TcCoe Idealize.ShloMosaic.ValueIdx
open Finset (range)

theorem at_0 : ∀ t : Fin grid0.N, win0_0.index t = ![t.val, 0] := by decide +kernel
theorem at_1 : ∀ t : Fin grid0.N, win0_1.index t = ![0, 0] := by decide +kernel
theorem at_2 : ∀ t : Fin grid0.N, win0_2.index t = ![t.val, 0] := by decide +kernel

variable (m : (ℓ : Loc nD τ sig) → Buf (Elt Ideal) ℓ) (c : Dev nD)

/-- The two arrays the call multiplies. -/
def lhs : (⟨2, ![8192, 1024]⟩ : Shape).Idx → EReal := V m c main_arg2
def rhs : (⟨2, ![1024, 1024]⟩ : Shape).Idx → EReal := V m c main_arg1

/-- One term of the product's element at a row and a column. -/
def term (i j q : ℕ) : EReal := at2 (lhs m c) i q * at2 (rhs m c) j q

theorem blk_0 (t : Fin cfg0.N) (y : S1024x1024.Idx) : iblk m c 0 t y = at2 (lhs m c) (t.val * 1024 + (y 0).val) (y 1).val :=
  at2_place (lhs m c) (((cfg0.win 0).blk t).view.emb y) (by blk_simp [at_0]) (by blk_simp [at_0])

theorem blk_1 (t : Fin cfg0.N) (y : S1024x1024.Idx) : iblk m c 1 t y = at2 (rhs m c) (y 0).val (y 1).val :=
  at2_place (rhs m c) (((cfg0.win 1).blk t).view.emb y) (by blk_simp [at_1]) (by blk_simp [at_1])

/-- What one point forms. -/
theorem part (t : Fin cfg0.N) (j : S1024x1024.Idx) : k0_pay1 (F := Ideal) (iblk m c 0 t) (iblk m c 1 t) j
    = ∑ q ∈ range 1024, term m c (t.val * 1024 + (j 0).val) (j 1).val q :=
  times_rows (φ₁ := .bf16) (φ₂ := .bf16) _ _ j _ fun _ => congrArg₂ (fun u v : EReal => u * v) (blk_0 m c t _) (blk_1 m c t _)

/-- The whole product. -/
def prod : S8192x1024.Idx → EReal := fun i => ∑ q ∈ range 1024, term m c (i 0).val (i 1).val q

theorem out_2 : (dats m 0 c).arrAt 2 cfg0.N = prod m c := by
  refine (dats m 0 c).arrAt_eq_of_covers 2 _ (by decide +kernel) fun t hf y => ?_
  have e0 : ((((cfg0.win 2).blk t).view.emb y) 0 : ℕ) = t.val * 1024 + (y 0).val := by blk_simp [at_2]
  have e1 : ((((cfg0.win 2).blk t).view.emb y) 1 : ℕ) = (y 1).val := by blk_simp [at_2]
  unfold prod
  rw [e0, e1, after0_2]
  frame_out
  exact part m c t y

theorem prod_eq : prod m c = Cert.OutProjDxReferenceIdeal.Read.val_main_v7 (F := Ideal) (m ((c.tc : Thread nD τ).loc main_arg1)) (m ((c.tc : Thread nD τ).loc main_arg2)) := by
  funext i
  rw [Cert.OutProjDxReferenceIdeal.Read.val_main_v7_apply, Cert.OutProjDxReferenceIdeal.Read.val_main_v6_apply]
  refine (sum_block 1024 _ _ fun k => ?_).symm
  unfold term
  refine Eq.trans ?_ (congrArg₂ (fun u v : EReal => u * v) (at2_place (lhs m c) (Cert.OutProjDxReferenceIdeal.Read.lidx_main_v6 i k) rfl rfl) (at2_place (rhs m c) (Cert.OutProjDxReferenceIdeal.Read.ridx_main_v6 i k) rfl rfl))
  rfl

end Cert.OutProjDxIdeal.Block

namespace Cert.Proof.OutProjDx

open Idealize.ShloMosaic Idealize.SL.Sem
open Cert.OutProjDxIdeal.Block

theorem frame_bits : Cert.quiescent_OutProjDx (hOutProjDx := Cert.OutProjDx.Gen.facts) := fun m g _ => Cert.OutProjDx.Gen.frame m g

theorem frame_ideal : Cert.quiescent_OutProjDxIdeal (hOutProjDxIdeal := Cert.OutProjDxIdeal.Gen.facts) := fun m g _ => Cert.OutProjDxIdeal.Gen.frame m g

theorem frame_ref : Cert.quiescent_OutProjDxReferenceIdeal (hOutProjDxReferenceIdeal := Cert.OutProjDxReferenceIdeal.Gen.facts) := fun m g _ =>
  (θ_run Cert.OutProjDxReferenceIdeal.defs _ _).mono (fun r h => ⟨fun c => (h c).2, sem_eq_zero_of_no_sems rfl r.2⟩)
    (Cert.OutProjDxReferenceIdeal.Value.run (F := Ideal) m g)

theorem algebraic : Cert.algebraic_OutProjDxIdeal_OutProjDxReferenceIdeal (hOutProjDxIdeal := Cert.OutProjDxIdeal.Gen.facts)
    (hOutProjDxReferenceIdeal := Cert.OutProjDxReferenceIdeal.Gen.facts) := by
  intro m g m' g' _ hargs
  refine ⟨fun c => prod m c, ?_, ?_⟩
  · exact (θ_run _ _ _).mono (fun r h c => ⟨(h c).1.trans (out_2 m c), (h c).2⟩) (Cert.OutProjDxIdeal.Value.run_blocks (F := Ideal) m g)
  · refine (θ_run _ _ _).mono (fun r h c => ⟨(h c).1.trans ?_, (h c).2⟩) (Cert.OutProjDxReferenceIdeal.Value.run (F := Ideal) m' g')
    obtain ⟨a0, a1, a2⟩ := hargs c
    rw [Cert.OutProjDxReferenceIdeal.Read.val_main_v7_eq, a1, a2]
    exact (prod_eq m c).symm

end Cert.Proof.OutProjDx

end
-- ==== Proof.OutProjDwValue.lean ====
/- What `OutProjDw` leaves is the reference's array. -/
module

public import proofs.«01_k».proof.Defs
public import proofs.«01_k».proof.Proof.Product
public import proofs.«01_k».proof.Proof.Gen.OutProjDwIdeal.Value
public import proofs.«01_k».proof.Proof.Gen.OutProjDw.Frame
public import proofs.«01_k».proof.Proof.Gen.OutProjDwReferenceIdeal.Read
public import Idealize.ShloMosaic.Lib.Quiescent
public import Idealize.ShloMosaic.Lib.Claim

@[expose] public section

set_option maxRecDepth 65536

noncomputable section

namespace Cert.OutProjDwIdeal.Block

open Cert.OutProjDwIdeal Cert.OutProjDwIdeal.Gen Cert.Product
open Idealize.ShloMosaic hiding ix1 ix2 ix3 ix4 eq_ix2
open Idealize.SL.Sem
open Idealize.ShloMosaic.TcCoe Idealize.ShloMosaic.ValueIdx
open Finset (range)

theorem at_0 : ∀ t : Fin grid0.N, win0_0.index t = ![t.val % 4, 0] := by decide +kernel
theorem at_1 : ∀ t : Fin grid0.N, win0_1.index t = ![t.val % 4, 0] := by decide +kernel
theorem at_2 : ∀ t : Fin grid0.N, win0_2.index t = ![0, 0] := by decide +kernel

variable (m : (ℓ : Loc nD τ sig) → Buf (Elt Ideal) ℓ) (c : Dev nD)

/-- The two arrays the call multiplies. -/
def lhs : (⟨2, ![8192, 1024]⟩ : Shape).Idx → EReal := V m c main_arg0
def rhs : (⟨2, ![8192, 1024]⟩ : Shape).Idx → EReal := V m c main_arg2

/-- One term of the product's element at a row and a column. -/
def term (i j q : ℕ) : EReal := at2 (lhs m c) q i * at2 (rhs m c) q j

theorem blk_0 (t : Fin cfg0.N) (y : S2048x1024.Idx) : iblk m c 0 t y = at2 (lhs m c) (t.val % 4 * 2048 + (y 0).val) (y 1).val :=
  at2_place (lhs m c) (((cfg0.win 0).blk t).view.emb y) (by blk_simp [at_0]) (by blk_simp [at_0])

theorem blk_1 (t : Fin cfg0.N) (y : S2048x1024.Idx) : iblk m c 1 t y = at2 (rhs m c) (t.val % 4 * 2048 + (y 0).val) (y 1).val :=
  at2_place (rhs m c) (((cfg0.win 1).blk t).view.emb y) (by blk_simp [at_1]) (by blk_simp [at_1])

/-- What one point adds. -/
theorem part (t : Fin cfg0.N) (j : S1024x1024.Idx) : k0_pay1 (F := Ideal) (iblk m c 0 t) (iblk m c 1 t) j
    = ∑ q ∈ range 2048, term m c (j 0).val (j 1).val (t.val % 4 * 2048 + q) :=
  times_columns (φ₁ := .bf16) (φ₂ := .bf16) _ _ j _ fun _ => congrArg₂ (fun u v : EReal => u * v) (blk_0 m c t _) (blk_1 m c t _)

/-- What the block holds when it is written back. -/
theorem held (t : Fin cfg0.N) (ht : t.val % 4 = 3) (j : S1024x1024.Idx) : outsAt0 m c t.val t.isLt j
    = ∑ q ∈ range 8192, term m c (j 0).val (j 1).val q := by
  refine run_total (fun n h => outsAt0 m c n h) 4 2048 (fun a j q => term m c (j 0).val (j 1).val q) (fun t h j => ?_) (fun t h j => ?_) t ht j
  · have hl := lt_of_lt_of_eq t.isLt N_0
    dsimp only
    rw [outsAt0_A m c t h (by omega)]
    frame_out
    exact part m c t j
  · dsimp only
    rw [outsAt0_B m c t h (by omega)]
    frame_out
    unfold k0_pay2
    rw [shapeCast_self]
    exact congrArg (fun u : EReal => outsAt0 m c (t.val - 1) _ j + u) (part m c t j)

/-- The whole product. -/
def prod : S1024x1024.Idx → EReal := fun i => ∑ q ∈ range 8192, term m c (i 0).val (i 1).val q

theorem out_2 : (dats m 0 c).arrAt 2 cfg0.N = prod m c := by
  refine (dats m 0 c).arrAt_eq_of_covers 2 _ (by decide +kernel) fun t hf y => ?_
  have e0 : ((((cfg0.win 2).blk t).view.emb y) 0 : ℕ) = (y 0).val := by blk_simp [at_2]
  have e1 : ((((cfg0.win 2).blk t).view.emb y) 1 : ℕ) = (y 1).val := by blk_simp [at_2]
  unfold prod
  rw [e0, e1]
  exact held m c t ((flush0_2 t).mp hf) y

theorem prod_eq : prod m c = Cert.OutProjDwReferenceIdeal.Read.val_main_v5 (F := Ideal) (m ((c.tc : Thread nD τ).loc main_arg0)) (m ((c.tc : Thread nD τ).loc main_arg2)) := by
  funext i
  rw [Cert.OutProjDwReferenceIdeal.Read.val_main_v5_apply, Cert.OutProjDwReferenceIdeal.Read.val_main_v4_apply]
  refine (sum_block 8192 _ _ fun k => ?_).symm
  unfold term
  refine Eq.trans ?_ (congrArg₂ (fun u v : EReal => u * v) (at2_place (lhs m c) (Cert.OutProjDwReferenceIdeal.Read.ridx_main_v4 (Cert.OutProjDwReferenceIdeal.Read.idx_main_v5 i) k) rfl rfl) (at2_place (rhs m c) (Cert.OutProjDwReferenceIdeal.Read.lidx_main_v4 (Cert.OutProjDwReferenceIdeal.Read.idx_main_v5 i) k) rfl rfl))
  exact mul_comm (_ : EReal) _

end Cert.OutProjDwIdeal.Block

namespace Cert.Proof.OutProjDw

open Idealize.ShloMosaic Idealize.SL.Sem
open Cert.OutProjDwIdeal.Block

theorem frame_bits : Cert.quiescent_OutProjDw (hOutProjDw := Cert.OutProjDw.Gen.facts) := fun m g _ => Cert.OutProjDw.Gen.frame m g

theorem frame_ideal : Cert.quiescent_OutProjDwIdeal (hOutProjDwIdeal := Cert.OutProjDwIdeal.Gen.facts) := fun m g _ => Cert.OutProjDwIdeal.Gen.frame m g

theorem frame_ref : Cert.quiescent_OutProjDwReferenceIdeal (hOutProjDwReferenceIdeal := Cert.OutProjDwReferenceIdeal.Gen.facts) := fun m g _ =>
  (θ_run Cert.OutProjDwReferenceIdeal.defs _ _).mono (fun r h => ⟨fun c => (h c).2, sem_eq_zero_of_no_sems rfl r.2⟩)
    (Cert.OutProjDwReferenceIdeal.Value.run (F := Ideal) m g)

theorem algebraic : Cert.algebraic_OutProjDwIdeal_OutProjDwReferenceIdeal (hOutProjDwIdeal := Cert.OutProjDwIdeal.Gen.facts)
    (hOutProjDwReferenceIdeal := Cert.OutProjDwReferenceIdeal.Gen.facts) := by
  intro m g m' g' _ hargs
  refine ⟨fun c => prod m c, ?_, ?_⟩
  · exact (θ_run _ _ _).mono (fun r h c => ⟨(h c).1.trans (out_2 m c), (h c).2⟩) (Cert.OutProjDwIdeal.Value.run_blocks (F := Ideal) m g)
  · refine (θ_run _ _ _).mono (fun r h c => ⟨(h c).1.trans ?_, (h c).2⟩) (Cert.OutProjDwReferenceIdeal.Value.run (F := Ideal) m' g')
    obtain ⟨a0, a1, a2⟩ := hargs c
    rw [Cert.OutProjDwReferenceIdeal.Read.val_main_v5_eq, a0, a2]
    exact (prod_eq m c).symm

end Cert.Proof.OutProjDw

end
-- ==== Proof.BrSbValue.lean ====
/- What `BrSb` leaves is the reference's array. -/
module

public import proofs.«01_k».proof.Defs
public import proofs.«01_k».proof.Proof.Product
public import proofs.«01_k».proof.Proof.Gen.BrSbIdeal.Value
public import proofs.«01_k».proof.Proof.Gen.BrSb.Frame
public import proofs.«01_k».proof.Proof.Gen.BrSbReferenceIdeal.Read
public import Idealize.ShloMosaic.Lib.Quiescent
public import Idealize.ShloMosaic.Lib.Claim

@[expose] public section

set_option maxRecDepth 65536

noncomputable section

namespace Cert.BrSbIdeal.Block

open Cert.BrSbIdeal Cert.BrSbIdeal.Gen Cert.Product
open Idealize.ShloMosaic hiding ix1 ix2 ix3 ix4 eq_ix2
open Idealize.SL.Sem
open Idealize.ShloMosaic.TcCoe Idealize.ShloMosaic.ValueIdx
open Finset (range)

theorem at_0 : ∀ t : Fin grid0.N, win0_0.index t = ![t.val, 0] := by decide +kernel
theorem at_1 : ∀ t : Fin grid0.N, win0_1.index t = ![0, 0] := by decide +kernel
theorem at_2 : ∀ t : Fin grid0.N, win0_2.index t = ![t.val, 0] := by decide +kernel

variable (m : (ℓ : Loc nD τ sig) → Buf (Elt Ideal) ℓ) (c : Dev nD)

/-- The two arrays the call multiplies. -/
def lhs : (⟨2, ![8192, 512]⟩ : Shape).Idx → EReal := V m c main_arg0
def rhs : (⟨2, ![512, 1024]⟩ : Shape).Idx → EReal := V m c main_arg1

/-- One term of the product's element at a row and a column. -/
def term (i j q : ℕ) : EReal := at2 (lhs m c) i q * at2 (rhs m c) q j

theorem blk_0 (t : Fin cfg0.N) (y : S1024x512.Idx) : iblk m c 0 t y = at2 (lhs m c) (t.val * 1024 + (y 0).val) (y 1).val :=
  at2_place (lhs m c) (((cfg0.win 0).blk t).view.emb y) (by blk_simp [at_0]) (by blk_simp [at_0])

theorem blk_1 (t : Fin cfg0.N) (y : S512x1024.Idx) : iblk m c 1 t y = at2 (rhs m c) (y 0).val (y 1).val :=
  at2_place (rhs m c) (((cfg0.win 1).blk t).view.emb y) (by blk_simp [at_1]) (by blk_simp [at_1])

/-- What one point forms. -/
theorem part (t : Fin cfg0.N) (j : S1024x1024.Idx) : k0_pay1 (F := Ideal) (iblk m c 0 t) (iblk m c 1 t) j
    = ∑ q ∈ range 512, term m c (t.val * 1024 + (j 0).val) (j 1).val q :=
  times (φ₁ := .bf16) (φ₂ := .bf16) _ _ j _ fun _ => congrArg₂ (fun u v : EReal => u * v) (blk_0 m c t _) (blk_1 m c t _)

/-- The whole product. -/
def prod : S8192x1024.Idx → EReal := fun i => ∑ q ∈ range 512, term m c (i 0).val (i 1).val q

theorem out_2 : (dats m 0 c).arrAt 2 cfg0.N = prod m c := by
  refine (dats m 0 c).arrAt_eq_of_covers 2 _ (by decide +kernel) fun t hf y => ?_
  have e0 : ((((cfg0.win 2).blk t).view.emb y) 0 : ℕ) = t.val * 1024 + (y 0).val := by blk_simp [at_2]
  have e1 : ((((cfg0.win 2).blk t).view.emb y) 1 : ℕ) = (y 1).val := by blk_simp [at_2]
  unfold prod
  rw [e0, e1, after0_2]
  frame_out
  exact part m c t y

theorem prod_eq : prod m c = Cert.BrSbReferenceIdeal.Read.val_main_v3 (F := Ideal) (m ((c.tc : Thread nD τ).loc main_arg0)) (m ((c.tc : Thread nD τ).loc main_arg1)) := by
  funext i
  rw [Cert.BrSbReferenceIdeal.Read.val_main_v3_apply, Cert.BrSbReferenceIdeal.Read.val_main_v2_apply]
  refine (sum_block 512 _ _ fun k => ?_).symm
  unfold term
  refine Eq.trans ?_ (congrArg₂ (fun u v : EReal => u * v) (at2_place (lhs m c) (Cert.BrSbReferenceIdeal.Read.lidx_main_v2 i k) rfl rfl) (at2_place (rhs m c) (Cert.BrSbReferenceIdeal.Read.ridx_main_v2 i k) rfl rfl))
  rfl

end Cert.BrSbIdeal.Block

namespace Cert.Proof.BrSb

open Idealize.ShloMosaic Idealize.SL.Sem
open Cert.BrSbIdeal.Block

theorem frame_bits : Cert.quiescent_BrSb (hBrSb := Cert.BrSb.Gen.facts) := fun m g _ => Cert.BrSb.Gen.frame m g

theorem frame_ideal : Cert.quiescent_BrSbIdeal (hBrSbIdeal := Cert.BrSbIdeal.Gen.facts) := fun m g _ => Cert.BrSbIdeal.Gen.frame m g

theorem frame_ref : Cert.quiescent_BrSbReferenceIdeal (hBrSbReferenceIdeal := Cert.BrSbReferenceIdeal.Gen.facts) := fun m g _ =>
  (θ_run Cert.BrSbReferenceIdeal.defs _ _).mono (fun r h => ⟨fun c => (h c).2, sem_eq_zero_of_no_sems rfl r.2⟩)
    (Cert.BrSbReferenceIdeal.Value.run (F := Ideal) m g)

theorem algebraic : Cert.algebraic_BrSbIdeal_BrSbReferenceIdeal (hBrSbIdeal := Cert.BrSbIdeal.Gen.facts)
    (hBrSbReferenceIdeal := Cert.BrSbReferenceIdeal.Gen.facts) := by
  intro m g m' g' _ hargs
  refine ⟨fun c => prod m c, ?_, ?_⟩
  · exact (θ_run _ _ _).mono (fun r h c => ⟨(h c).1.trans (out_2 m c), (h c).2⟩) (Cert.BrSbIdeal.Value.run_blocks (F := Ideal) m g)
  · refine (θ_run _ _ _).mono (fun r h c => ⟨(h c).1.trans ?_, (h c).2⟩) (Cert.BrSbReferenceIdeal.Value.run (F := Ideal) m' g')
    obtain ⟨a0, a1⟩ := hargs c
    rw [Cert.BrSbReferenceIdeal.Read.val_main_v3_eq, a0, a1]
    exact (prod_eq m c).symm

end Cert.Proof.BrSb

end
-- ==== Proof.BrSbDxValue.lean ====
/- What `BrSbDx` leaves is the reference's array. -/
module

public import proofs.«01_k».proof.Defs
public import proofs.«01_k».proof.Proof.Product
public import proofs.«01_k».proof.Proof.Gen.BrSbDxIdeal.Value
public import proofs.«01_k».proof.Proof.Gen.BrSbDx.Frame
public import proofs.«01_k».proof.Proof.Gen.BrSbDxReferenceIdeal.Read
public import Idealize.ShloMosaic.Lib.Quiescent
public import Idealize.ShloMosaic.Lib.Claim

@[expose] public section

set_option maxRecDepth 65536

noncomputable section

namespace Cert.BrSbDxIdeal.Block

open Cert.BrSbDxIdeal Cert.BrSbDxIdeal.Gen Cert.Product
open Idealize.ShloMosaic hiding ix1 ix2 ix3 ix4 eq_ix2
open Idealize.SL.Sem
open Idealize.ShloMosaic.TcCoe Idealize.ShloMosaic.ValueIdx
open Finset (range)

theorem at_0 : ∀ t : Fin grid0.N, win0_0.index t = ![t.val, 0] := by decide +kernel
theorem at_1 : ∀ t : Fin grid0.N, win0_1.index t = ![0, 0] := by decide +kernel
theorem at_2 : ∀ t : Fin grid0.N, win0_2.index t = ![t.val, 0] := by decide +kernel

variable (m : (ℓ : Loc nD τ sig) → Buf (Elt Ideal) ℓ) (c : Dev nD)

/-- The two arrays the call multiplies. -/
def lhs : (⟨2, ![8192, 1024]⟩ : Shape).Idx → EReal := V m c main_arg2
def rhs : (⟨2, ![512, 1024]⟩ : Shape).Idx → EReal := V m c main_arg1

/-- One term of the product's element at a row and a column. -/
def term (i j q : ℕ) : EReal := at2 (lhs m c) i q * at2 (rhs m c) j q

theorem blk_0 (t : Fin cfg0.N) (y : S1024x1024.Idx) : iblk m c 0 t y = at2 (lhs m c) (t.val * 1024 + (y 0).val) (y 1).val :=
  at2_place (lhs m c) (((cfg0.win 0).blk t).view.emb y) (by blk_simp [at_0]) (by blk_simp [at_0])

theorem blk_1 (t : Fin cfg0.N) (y : S512x1024.Idx) : iblk m c 1 t y = at2 (rhs m c) (y 0).val (y 1).val :=
  at2_place (rhs m c) (((cfg0.win 1).blk t).view.emb y) (by blk_simp [at_1]) (by blk_simp [at_1])

/-- What one point forms. -/
theorem part (t : Fin cfg0.N) (j : S1024x512.Idx) : k0_pay1 (F := Ideal) (iblk m c 0 t) (iblk m c 1 t) j
    = ∑ q ∈ range 1024, term m c (t.val * 1024 + (j 0).val) (j 1).val q :=
  times_rows (φ₁ := .bf16) (φ₂ := .bf16) _ _ j _ fun _ => congrArg₂ (fun u v : EReal => u * v) (blk_0 m c t _) (blk_1 m c t _)

/-- The whole product. -/
def prod : S8192x512.Idx → EReal := fun i => ∑ q ∈ range 1024, term m c (i 0).val (i 1).val q

theorem out_2 : (dats m 0 c).arrAt 2 cfg0.N = prod m c := by
  refine (dats m 0 c).arrAt_eq_of_covers 2 _ (by decide +kernel) fun t hf y => ?_
  have e0 : ((((cfg0.win 2).blk t).view.emb y) 0 : ℕ) = t.val * 1024 + (y 0).val := by blk_simp [at_2]
  have e1 : ((((cfg0.win 2).blk t).view.emb y) 1 : ℕ) = (y 1).val := by blk_simp [at_2]
  unfold prod
  rw [e0, e1, after0_2]
  frame_out
  exact part m c t y

theorem prod_eq : prod m c = Cert.BrSbDxReferenceIdeal.Read.val_main_v7 (F := Ideal) (m ((c.tc : Thread nD τ).loc main_arg1)) (m ((c.tc : Thread nD τ).loc main_arg2)) := by
  funext i
  rw [Cert.BrSbDxReferenceIdeal.Read.val_main_v7_apply, Cert.BrSbDxReferenceIdeal.Read.val_main_v6_apply]
  refine (sum_block 1024 _ _ fun k => ?_).symm
  unfold term
  refine Eq.trans ?_ (congrArg₂ (fun u v : EReal => u * v) (at2_place (lhs m c) (Cert.BrSbDxReferenceIdeal.Read.lidx_main_v6 i k) rfl rfl) (at2_place (rhs m c) (Cert.BrSbDxReferenceIdeal.Read.ridx_main_v6 i k) rfl rfl))
  rfl

end Cert.BrSbDxIdeal.Block

namespace Cert.Proof.BrSbDx

open Idealize.ShloMosaic Idealize.SL.Sem
open Cert.BrSbDxIdeal.Block

theorem frame_bits : Cert.quiescent_BrSbDx (hBrSbDx := Cert.BrSbDx.Gen.facts) := fun m g _ => Cert.BrSbDx.Gen.frame m g

theorem frame_ideal : Cert.quiescent_BrSbDxIdeal (hBrSbDxIdeal := Cert.BrSbDxIdeal.Gen.facts) := fun m g _ => Cert.BrSbDxIdeal.Gen.frame m g

theorem frame_ref : Cert.quiescent_BrSbDxReferenceIdeal (hBrSbDxReferenceIdeal := Cert.BrSbDxReferenceIdeal.Gen.facts) := fun m g _ =>
  (θ_run Cert.BrSbDxReferenceIdeal.defs _ _).mono (fun r h => ⟨fun c => (h c).2, sem_eq_zero_of_no_sems rfl r.2⟩)
    (Cert.BrSbDxReferenceIdeal.Value.run (F := Ideal) m g)

theorem algebraic : Cert.algebraic_BrSbDxIdeal_BrSbDxReferenceIdeal (hBrSbDxIdeal := Cert.BrSbDxIdeal.Gen.facts)
    (hBrSbDxReferenceIdeal := Cert.BrSbDxReferenceIdeal.Gen.facts) := by
  intro m g m' g' _ hargs
  refine ⟨fun c => prod m c, ?_, ?_⟩
  · exact (θ_run _ _ _).mono (fun r h c => ⟨(h c).1.trans (out_2 m c), (h c).2⟩) (Cert.BrSbDxIdeal.Value.run_blocks (F := Ideal) m g)
  · refine (θ_run _ _ _).mono (fun r h c => ⟨(h c).1.trans ?_, (h c).2⟩) (Cert.BrSbDxReferenceIdeal.Value.run (F := Ideal) m' g')
    obtain ⟨a0, a1, a2⟩ := hargs c
    rw [Cert.BrSbDxReferenceIdeal.Read.val_main_v7_eq, a1, a2]
    exact (prod_eq m c).symm

end Cert.Proof.BrSbDx

end
-- ==== Proof.BrSbDwValue.lean ====
/- What `BrSbDw` leaves is the reference's array. -/
module

public import proofs.«01_k».proof.Defs
public import proofs.«01_k».proof.Proof.Product
public import proofs.«01_k».proof.Proof.Gen.BrSbDwIdeal.Value
public import proofs.«01_k».proof.Proof.Gen.BrSbDw.Frame
public import proofs.«01_k».proof.Proof.Gen.BrSbDwReferenceIdeal.Read
public import Idealize.ShloMosaic.Lib.Quiescent
public import Idealize.ShloMosaic.Lib.Claim

@[expose] public section

set_option maxRecDepth 65536

noncomputable section

namespace Cert.BrSbDwIdeal.Block

open Cert.BrSbDwIdeal Cert.BrSbDwIdeal.Gen Cert.Product
open Idealize.ShloMosaic hiding ix1 ix2 ix3 ix4 eq_ix2
open Idealize.SL.Sem
open Idealize.ShloMosaic.TcCoe Idealize.ShloMosaic.ValueIdx
open Finset (range)

theorem at_0 : ∀ t : Fin grid0.N, win0_0.index t = ![t.val % 4, 0] := by decide +kernel
theorem at_1 : ∀ t : Fin grid0.N, win0_1.index t = ![t.val % 4, 0] := by decide +kernel
theorem at_2 : ∀ t : Fin grid0.N, win0_2.index t = ![0, 0] := by decide +kernel

variable (m : (ℓ : Loc nD τ sig) → Buf (Elt Ideal) ℓ) (c : Dev nD)

/-- The two arrays the call multiplies. -/
def lhs : (⟨2, ![8192, 512]⟩ : Shape).Idx → EReal := V m c main_arg0
def rhs : (⟨2, ![8192, 1024]⟩ : Shape).Idx → EReal := V m c main_arg2

/-- One term of the product's element at a row and a column. -/
def term (i j q : ℕ) : EReal := at2 (lhs m c) q i * at2 (rhs m c) q j

theorem blk_0 (t : Fin cfg0.N) (y : S2048x512.Idx) : iblk m c 0 t y = at2 (lhs m c) (t.val % 4 * 2048 + (y 0).val) (y 1).val :=
  at2_place (lhs m c) (((cfg0.win 0).blk t).view.emb y) (by blk_simp [at_0]) (by blk_simp [at_0])

theorem blk_1 (t : Fin cfg0.N) (y : S2048x1024.Idx) : iblk m c 1 t y = at2 (rhs m c) (t.val % 4 * 2048 + (y 0).val) (y 1).val :=
  at2_place (rhs m c) (((cfg0.win 1).blk t).view.emb y) (by blk_simp [at_1]) (by blk_simp [at_1])

/-- What one point adds. -/
theorem part (t : Fin cfg0.N) (j : S512x1024.Idx) : k0_pay1 (F := Ideal) (iblk m c 0 t) (iblk m c 1 t) j
    = ∑ q ∈ range 2048, term m c (j 0).val (j 1).val (t.val % 4 * 2048 + q) :=
  times_columns (φ₁ := .bf16) (φ₂ := .bf16) _ _ j _ fun _ => congrArg₂ (fun u v : EReal => u * v) (blk_0 m c t _) (blk_1 m c t _)

/-- What the block holds when it is written back. -/
theorem held (t : Fin cfg0.N) (ht : t.val % 4 = 3) (j : S512x1024.Idx) : outsAt0 m c t.val t.isLt j
    = ∑ q ∈ range 8192, term m c (j 0).val (j 1).val q := by
  refine run_total (fun n h => outsAt0 m c n h) 4 2048 (fun a j q => term m c (j 0).val (j 1).val q) (fun t h j => ?_) (fun t h j => ?_) t ht j
  · have hl := lt_of_lt_of_eq t.isLt N_0
    dsimp only
    rw [outsAt0_A m c t h (by omega)]
    frame_out
    exact part m c t j
  · dsimp only
    rw [outsAt0_B m c t h (by omega)]
    frame_out
    unfold k0_pay2
    rw [shapeCast_self]
    exact congrArg (fun u : EReal => outsAt0 m c (t.val - 1) _ j + u) (part m c t j)

/-- The whole product. -/
def prod : S512x1024.Idx → EReal := fun i => ∑ q ∈ range 8192, term m c (i 0).val (i 1).val q

theorem out_2 : (dats m 0 c).arrAt 2 cfg0.N = prod m c := by
  refine (dats m 0 c).arrAt_eq_of_covers 2 _ (by decide +kernel) fun t hf y => ?_
  have e0 : ((((cfg0.win 2).blk t).view.emb y) 0 : ℕ) = (y 0).val := by blk_simp [at_2]
  have e1 : ((((cfg0.win 2).blk t).view.emb y) 1 : ℕ) = (y 1).val := by blk_simp [at_2]
  unfold prod
  rw [e0, e1]
  exact held m c t ((flush0_2 t).mp hf) y

theorem prod_eq : prod m c = Cert.BrSbDwReferenceIdeal.Read.val_main_v5 (F := Ideal) (m ((c.tc : Thread nD τ).loc main_arg0)) (m ((c.tc : Thread nD τ).loc main_arg2)) := by
  funext i
  rw [Cert.BrSbDwReferenceIdeal.Read.val_main_v5_apply, Cert.BrSbDwReferenceIdeal.Read.val_main_v4_apply]
  refine (sum_block 8192 _ _ fun k => ?_).symm
  unfold term
  refine Eq.trans ?_ (congrArg₂ (fun u v : EReal => u * v) (at2_place (lhs m c) (Cert.BrSbDwReferenceIdeal.Read.ridx_main_v4 (Cert.BrSbDwReferenceIdeal.Read.idx_main_v5 i) k) rfl rfl) (at2_place (rhs m c) (Cert.BrSbDwReferenceIdeal.Read.lidx_main_v4 (Cert.BrSbDwReferenceIdeal.Read.idx_main_v5 i) k) rfl rfl))
  exact mul_comm (_ : EReal) _

end Cert.BrSbDwIdeal.Block

namespace Cert.Proof.BrSbDw

open Idealize.ShloMosaic Idealize.SL.Sem
open Cert.BrSbDwIdeal.Block

theorem frame_bits : Cert.quiescent_BrSbDw (hBrSbDw := Cert.BrSbDw.Gen.facts) := fun m g _ => Cert.BrSbDw.Gen.frame m g

theorem frame_ideal : Cert.quiescent_BrSbDwIdeal (hBrSbDwIdeal := Cert.BrSbDwIdeal.Gen.facts) := fun m g _ => Cert.BrSbDwIdeal.Gen.frame m g

theorem frame_ref : Cert.quiescent_BrSbDwReferenceIdeal (hBrSbDwReferenceIdeal := Cert.BrSbDwReferenceIdeal.Gen.facts) := fun m g _ =>
  (θ_run Cert.BrSbDwReferenceIdeal.defs _ _).mono (fun r h => ⟨fun c => (h c).2, sem_eq_zero_of_no_sems rfl r.2⟩)
    (Cert.BrSbDwReferenceIdeal.Value.run (F := Ideal) m g)

theorem algebraic : Cert.algebraic_BrSbDwIdeal_BrSbDwReferenceIdeal (hBrSbDwIdeal := Cert.BrSbDwIdeal.Gen.facts)
    (hBrSbDwReferenceIdeal := Cert.BrSbDwReferenceIdeal.Gen.facts) := by
  intro m g m' g' _ hargs
  refine ⟨fun c => prod m c, ?_, ?_⟩
  · exact (θ_run _ _ _).mono (fun r h c => ⟨(h c).1.trans (out_2 m c), (h c).2⟩) (Cert.BrSbDwIdeal.Value.run_blocks (F := Ideal) m g)
  · refine (θ_run _ _ _).mono (fun r h c => ⟨(h c).1.trans ?_, (h c).2⟩) (Cert.BrSbDwReferenceIdeal.Value.run (F := Ideal) m' g')
    obtain ⟨a0, a1, a2⟩ := hargs c
    rw [Cert.BrSbDwReferenceIdeal.Read.val_main_v5_eq, a0, a2]
    exact (prod_eq m c).symm

end Cert.Proof.BrSbDw

end
-- ==== Proof.BrPoolValue.lean ====
/- What `BrPool` leaves is the reference's array. -/
module

public import proofs.«01_k».proof.Defs
public import proofs.«01_k».proof.Proof.Product
public import proofs.«01_k».proof.Proof.Gen.BrPoolIdeal.Value
public import proofs.«01_k».proof.Proof.Gen.BrPool.Frame
public import proofs.«01_k».proof.Proof.Gen.BrPoolReferenceIdeal.Read
public import Idealize.ShloMosaic.Lib.Quiescent
public import Idealize.ShloMosaic.Lib.Claim

@[expose] public section

set_option maxRecDepth 65536

noncomputable section

namespace Cert.BrPoolIdeal.Block

open Cert.BrPoolIdeal Cert.BrPoolIdeal.Gen Cert.Product
open Idealize.ShloMosaic hiding ix1 ix2 ix3 ix4 eq_ix2
open Idealize.SL.Sem
open Idealize.ShloMosaic.TcCoe Idealize.ShloMosaic.ValueIdx
open Finset (range)

theorem at_0 : ∀ t : Fin grid0.N, win0_0.index t = ![t.val, 0] := by decide +kernel
theorem at_1 : ∀ t : Fin grid0.N, win0_1.index t = ![0, 0] := by decide +kernel
theorem at_2 : ∀ t : Fin grid0.N, win0_2.index t = ![t.val, 0] := by decide +kernel

variable (m : (ℓ : Loc nD τ sig) → Buf (Elt Ideal) ℓ) (c : Dev nD)

/-- The two arrays the call multiplies. -/
def lhs : (⟨2, ![8192, 256]⟩ : Shape).Idx → EReal := V m c main_arg0
def rhs : (⟨2, ![256, 1024]⟩ : Shape).Idx → EReal := V m c main_arg1

/-- One term of the product's element at a row and a column. -/
def term (i j q : ℕ) : EReal := at2 (lhs m c) i q * at2 (rhs m c) q j

theorem blk_0 (t : Fin cfg0.N) (y : S1024x256.Idx) : iblk m c 0 t y = at2 (lhs m c) (t.val * 1024 + (y 0).val) (y 1).val :=
  at2_place (lhs m c) (((cfg0.win 0).blk t).view.emb y) (by blk_simp [at_0]) (by blk_simp [at_0])

theorem blk_1 (t : Fin cfg0.N) (y : S256x1024.Idx) : iblk m c 1 t y = at2 (rhs m c) (y 0).val (y 1).val :=
  at2_place (rhs m c) (((cfg0.win 1).blk t).view.emb y) (by blk_simp [at_1]) (by blk_simp [at_1])

/-- What one point forms. -/
theorem part (t : Fin cfg0.N) (j : S1024x1024.Idx) : k0_pay1 (F := Ideal) (iblk m c 0 t) (iblk m c 1 t) j
    = ∑ q ∈ range 256, term m c (t.val * 1024 + (j 0).val) (j 1).val q :=
  times (φ₁ := .bf16) (φ₂ := .bf16) _ _ j _ fun _ => congrArg₂ (fun u v : EReal => u * v) (blk_0 m c t _) (blk_1 m c t _)

/-- The whole product. -/
def prod : S8192x1024.Idx → EReal := fun i => ∑ q ∈ range 256, term m c (i 0).val (i 1).val q

theorem out_2 : (dats m 0 c).arrAt 2 cfg0.N = prod m c := by
  refine (dats m 0 c).arrAt_eq_of_covers 2 _ (by decide +kernel) fun t hf y => ?_
  have e0 : ((((cfg0.win 2).blk t).view.emb y) 0 : ℕ) = t.val * 1024 + (y 0).val := by blk_simp [at_2]
  have e1 : ((((cfg0.win 2).blk t).view.emb y) 1 : ℕ) = (y 1).val := by blk_simp [at_2]
  unfold prod
  rw [e0, e1, after0_2]
  frame_out
  exact part m c t y

theorem prod_eq : prod m c = Cert.BrPoolReferenceIdeal.Read.val_main_v3 (F := Ideal) (m ((c.tc : Thread nD τ).loc main_arg0)) (m ((c.tc : Thread nD τ).loc main_arg1)) := by
  funext i
  rw [Cert.BrPoolReferenceIdeal.Read.val_main_v3_apply, Cert.BrPoolReferenceIdeal.Read.val_main_v2_apply]
  refine (sum_block 256 _ _ fun k => ?_).symm
  unfold term
  refine Eq.trans ?_ (congrArg₂ (fun u v : EReal => u * v) (at2_place (lhs m c) (Cert.BrPoolReferenceIdeal.Read.lidx_main_v2 i k) rfl rfl) (at2_place (rhs m c) (Cert.BrPoolReferenceIdeal.Read.ridx_main_v2 i k) rfl rfl))
  rfl

end Cert.BrPoolIdeal.Block

namespace Cert.Proof.BrPool

open Idealize.ShloMosaic Idealize.SL.Sem
open Cert.BrPoolIdeal.Block

theorem frame_bits : Cert.quiescent_BrPool (hBrPool := Cert.BrPool.Gen.facts) := fun m g _ => Cert.BrPool.Gen.frame m g

theorem frame_ideal : Cert.quiescent_BrPoolIdeal (hBrPoolIdeal := Cert.BrPoolIdeal.Gen.facts) := fun m g _ => Cert.BrPoolIdeal.Gen.frame m g

theorem frame_ref : Cert.quiescent_BrPoolReferenceIdeal (hBrPoolReferenceIdeal := Cert.BrPoolReferenceIdeal.Gen.facts) := fun m g _ =>
  (θ_run Cert.BrPoolReferenceIdeal.defs _ _).mono (fun r h => ⟨fun c => (h c).2, sem_eq_zero_of_no_sems rfl r.2⟩)
    (Cert.BrPoolReferenceIdeal.Value.run (F := Ideal) m g)

theorem algebraic : Cert.algebraic_BrPoolIdeal_BrPoolReferenceIdeal (hBrPoolIdeal := Cert.BrPoolIdeal.Gen.facts)
    (hBrPoolReferenceIdeal := Cert.BrPoolReferenceIdeal.Gen.facts) := by
  intro m g m' g' _ hargs
  refine ⟨fun c => prod m c, ?_, ?_⟩
  · exact (θ_run _ _ _).mono (fun r h c => ⟨(h c).1.trans (out_2 m c), (h c).2⟩) (Cert.BrPoolIdeal.Value.run_blocks (F := Ideal) m g)
  · refine (θ_run _ _ _).mono (fun r h c => ⟨(h c).1.trans ?_, (h c).2⟩) (Cert.BrPoolReferenceIdeal.Value.run (F := Ideal) m' g')
    obtain ⟨a0, a1⟩ := hargs c
    rw [Cert.BrPoolReferenceIdeal.Read.val_main_v3_eq, a0, a1]
    exact (prod_eq m c).symm

end Cert.Proof.BrPool

end
-- ==== Proof.BrPoolDxValue.lean ====
/- What `BrPoolDx` leaves is the reference's array. -/
module

public import proofs.«01_k».proof.Defs
public import proofs.«01_k».proof.Proof.Product
public import proofs.«01_k».proof.Proof.Gen.BrPoolDxIdeal.Value
public import proofs.«01_k».proof.Proof.Gen.BrPoolDx.Frame
public import proofs.«01_k».proof.Proof.Gen.BrPoolDxReferenceIdeal.Read
public import Idealize.ShloMosaic.Lib.Quiescent
public import Idealize.ShloMosaic.Lib.Claim

@[expose] public section

set_option maxRecDepth 65536

noncomputable section

namespace Cert.BrPoolDxIdeal.Block

open Cert.BrPoolDxIdeal Cert.BrPoolDxIdeal.Gen Cert.Product
open Idealize.ShloMosaic hiding ix1 ix2 ix3 ix4 eq_ix2
open Idealize.SL.Sem
open Idealize.ShloMosaic.TcCoe Idealize.ShloMosaic.ValueIdx
open Finset (range)

theorem at_0 : ∀ t : Fin grid0.N, win0_0.index t = ![t.val, 0] := by decide +kernel
theorem at_1 : ∀ t : Fin grid0.N, win0_1.index t = ![0, 0] := by decide +kernel
theorem at_2 : ∀ t : Fin grid0.N, win0_2.index t = ![t.val, 0] := by decide +kernel

variable (m : (ℓ : Loc nD τ sig) → Buf (Elt Ideal) ℓ) (c : Dev nD)

/-- The two arrays the call multiplies. -/
def lhs : (⟨2, ![8192, 1024]⟩ : Shape).Idx → EReal := V m c main_arg2
def rhs : (⟨2, ![256, 1024]⟩ : Shape).Idx → EReal := V m c main_arg1

/-- One term of the product's element at a row and a column. -/
def term (i j q : ℕ) : EReal := at2 (lhs m c) i q * at2 (rhs m c) j q

theorem blk_0 (t : Fin cfg0.N) (y : S1024x1024.Idx) : iblk m c 0 t y = at2 (lhs m c) (t.val * 1024 + (y 0).val) (y 1).val :=
  at2_place (lhs m c) (((cfg0.win 0).blk t).view.emb y) (by blk_simp [at_0]) (by blk_simp [at_0])

theorem blk_1 (t : Fin cfg0.N) (y : S256x1024.Idx) : iblk m c 1 t y = at2 (rhs m c) (y 0).val (y 1).val :=
  at2_place (rhs m c) (((cfg0.win 1).blk t).view.emb y) (by blk_simp [at_1]) (by blk_simp [at_1])

/-- What one point forms. -/
theorem part (t : Fin cfg0.N) (j : S1024x256.Idx) : k0_pay1 (F := Ideal) (iblk m c 0 t) (iblk m c 1 t) j
    = ∑ q ∈ range 1024, term m c (t.val * 1024 + (j 0).val) (j 1).val q :=
  times_rows (φ₁ := .bf16) (φ₂ := .bf16) _ _ j _ fun _ => congrArg₂ (fun u v : EReal => u * v) (blk_0 m c t _) (blk_1 m c t _)

/-- The whole product. -/
def prod : S8192x256.Idx → EReal := fun i => ∑ q ∈ range 1024, term m c (i 0).val (i 1).val q

theorem out_2 : (dats m 0 c).arrAt 2 cfg0.N = prod m c := by
  refine (dats m 0 c).arrAt_eq_of_covers 2 _ (by decide +kernel) fun t hf y => ?_
  have e0 : ((((cfg0.win 2).blk t).view.emb y) 0 : ℕ) = t.val * 1024 + (y 0).val := by blk_simp [at_2]
  have e1 : ((((cfg0.win 2).blk t).view.emb y) 1 : ℕ) = (y 1).val := by blk_simp [at_2]
  unfold prod
  rw [e0, e1, after0_2]
  frame_out
  exact part m c t y

theorem prod_eq : prod m c = Cert.BrPoolDxReferenceIdeal.Read.val_main_v6 (F := Ideal) (m ((c.tc : Thread nD τ).loc main_arg1)) (m ((c.tc : Thread nD τ).loc main_arg2)) := by
  funext i
  rw [Cert.BrPoolDxReferenceIdeal.Read.val_main_v6_apply]
  refine (sum_block 1024 _ _ fun k => ?_).symm
  unfold term
  refine Eq.trans ?_ (congrArg₂ (fun u v : EReal => u * v) (at2_place (lhs m c) (Cert.BrPoolDxReferenceIdeal.Read.lidx_main_v6 i k) rfl rfl) (at2_place (rhs m c) (Cert.BrPoolDxReferenceIdeal.Read.ridx_main_v6 i k) rfl rfl))
  rfl

end Cert.BrPoolDxIdeal.Block

namespace Cert.Proof.BrPoolDx

open Idealize.ShloMosaic Idealize.SL.Sem
open Cert.BrPoolDxIdeal.Block

theorem frame_bits : Cert.quiescent_BrPoolDx (hBrPoolDx := Cert.BrPoolDx.Gen.facts) := fun m g _ => Cert.BrPoolDx.Gen.frame m g

theorem frame_ideal : Cert.quiescent_BrPoolDxIdeal (hBrPoolDxIdeal := Cert.BrPoolDxIdeal.Gen.facts) := fun m g _ => Cert.BrPoolDxIdeal.Gen.frame m g

theorem frame_ref : Cert.quiescent_BrPoolDxReferenceIdeal (hBrPoolDxReferenceIdeal := Cert.BrPoolDxReferenceIdeal.Gen.facts) := fun m g _ =>
  (θ_run Cert.BrPoolDxReferenceIdeal.defs _ _).mono (fun r h => ⟨fun c => (h c).2, sem_eq_zero_of_no_sems rfl r.2⟩)
    (Cert.BrPoolDxReferenceIdeal.Value.run (F := Ideal) m g)

theorem algebraic : Cert.algebraic_BrPoolDxIdeal_BrPoolDxReferenceIdeal (hBrPoolDxIdeal := Cert.BrPoolDxIdeal.Gen.facts)
    (hBrPoolDxReferenceIdeal := Cert.BrPoolDxReferenceIdeal.Gen.facts) := by
  intro m g m' g' _ hargs
  refine ⟨fun c => prod m c, ?_, ?_⟩
  · exact (θ_run _ _ _).mono (fun r h c => ⟨(h c).1.trans (out_2 m c), (h c).2⟩) (Cert.BrPoolDxIdeal.Value.run_blocks (F := Ideal) m g)
  · refine (θ_run _ _ _).mono (fun r h c => ⟨(h c).1.trans ?_, (h c).2⟩) (Cert.BrPoolDxReferenceIdeal.Value.run (F := Ideal) m' g')
    obtain ⟨a0, a1, a2⟩ := hargs c
    rw [Cert.BrPoolDxReferenceIdeal.Read.val_main_v6_eq, a1, a2]
    exact (prod_eq m c).symm

end Cert.Proof.BrPoolDx

end
-- ==== Proof.BrPoolDwValue.lean ====
/- What `BrPoolDw` leaves is the reference's array. -/
module

public import proofs.«01_k».proof.Defs
public import proofs.«01_k».proof.Proof.Product
public import proofs.«01_k».proof.Proof.Gen.BrPoolDwIdeal.Value
public import proofs.«01_k».proof.Proof.Gen.BrPoolDw.Frame
public import proofs.«01_k».proof.Proof.Gen.BrPoolDwReferenceIdeal.Read
public import Idealize.ShloMosaic.Lib.Quiescent
public import Idealize.ShloMosaic.Lib.Claim

@[expose] public section

set_option maxRecDepth 65536

noncomputable section

namespace Cert.BrPoolDwIdeal.Block

open Cert.BrPoolDwIdeal Cert.BrPoolDwIdeal.Gen Cert.Product
open Idealize.ShloMosaic hiding ix1 ix2 ix3 ix4 eq_ix2
open Idealize.SL.Sem
open Idealize.ShloMosaic.TcCoe Idealize.ShloMosaic.ValueIdx
open Finset (range)

theorem at_0 : ∀ t : Fin grid0.N, win0_0.index t = ![t.val % 4, 0] := by decide +kernel
theorem at_1 : ∀ t : Fin grid0.N, win0_1.index t = ![t.val % 4, 0] := by decide +kernel
theorem at_2 : ∀ t : Fin grid0.N, win0_2.index t = ![0, 0] := by decide +kernel

variable (m : (ℓ : Loc nD τ sig) → Buf (Elt Ideal) ℓ) (c : Dev nD)

/-- The two arrays the call multiplies. -/
def lhs : (⟨2, ![8192, 256]⟩ : Shape).Idx → EReal := V m c main_arg0
def rhs : (⟨2, ![8192, 1024]⟩ : Shape).Idx → EReal := V m c main_arg2

/-- One term of the product's element at a row and a column. -/
def term (i j q : ℕ) : EReal := at2 (lhs m c) q i * at2 (rhs m c) q j

theorem blk_0 (t : Fin cfg0.N) (y : S2048x256.Idx) : iblk m c 0 t y = at2 (lhs m c) (t.val % 4 * 2048 + (y 0).val) (y 1).val :=
  at2_place (lhs m c) (((cfg0.win 0).blk t).view.emb y) (by blk_simp [at_0]) (by blk_simp [at_0])

theorem blk_1 (t : Fin cfg0.N) (y : S2048x1024.Idx) : iblk m c 1 t y = at2 (rhs m c) (t.val % 4 * 2048 + (y 0).val) (y 1).val :=
  at2_place (rhs m c) (((cfg0.win 1).blk t).view.emb y) (by blk_simp [at_1]) (by blk_simp [at_1])

/-- What one point adds. -/
theorem part (t : Fin cfg0.N) (j : S256x1024.Idx) : k0_pay1 (F := Ideal) (iblk m c 0 t) (iblk m c 1 t) j
    = ∑ q ∈ range 2048, term m c (j 0).val (j 1).val (t.val % 4 * 2048 + q) :=
  times_columns (φ₁ := .bf16) (φ₂ := .bf16) _ _ j _ fun _ => congrArg₂ (fun u v : EReal => u * v) (blk_0 m c t _) (blk_1 m c t _)

/-- What the block holds when it is written back. -/
theorem held (t : Fin cfg0.N) (ht : t.val % 4 = 3) (j : S256x1024.Idx) : outsAt0 m c t.val t.isLt j
    = ∑ q ∈ range 8192, term m c (j 0).val (j 1).val q := by
  refine run_total (fun n h => outsAt0 m c n h) 4 2048 (fun a j q => term m c (j 0).val (j 1).val q) (fun t h j => ?_) (fun t h j => ?_) t ht j
  · have hl := lt_of_lt_of_eq t.isLt N_0
    dsimp only
    rw [outsAt0_A m c t h (by omega)]
    frame_out
    exact part m c t j
  · dsimp only
    rw [outsAt0_B m c t h (by omega)]
    frame_out
    unfold k0_pay2
    rw [shapeCast_self]
    exact congrArg (fun u : EReal => outsAt0 m c (t.val - 1) _ j + u) (part m c t j)

/-- The whole product. -/
def prod : S256x1024.Idx → EReal := fun i => ∑ q ∈ range 8192, term m c (i 0).val (i 1).val q

theorem out_2 : (dats m 0 c).arrAt 2 cfg0.N = prod m c := by
  refine (dats m 0 c).arrAt_eq_of_covers 2 _ (by decide +kernel) fun t hf y => ?_
  have e0 : ((((cfg0.win 2).blk t).view.emb y) 0 : ℕ) = (y 0).val := by blk_simp [at_2]
  have e1 : ((((cfg0.win 2).blk t).view.emb y) 1 : ℕ) = (y 1).val := by blk_simp [at_2]
  unfold prod
  rw [e0, e1]
  exact held m c t ((flush0_2 t).mp hf) y

theorem prod_eq : prod m c = Cert.BrPoolDwReferenceIdeal.Read.val_main_v5 (F := Ideal) (m ((c.tc : Thread nD τ).loc main_arg0)) (m ((c.tc : Thread nD τ).loc main_arg2)) := by
  funext i
  rw [Cert.BrPoolDwReferenceIdeal.Read.val_main_v5_apply, Cert.BrPoolDwReferenceIdeal.Read.val_main_v4_apply]
  refine (sum_block 8192 _ _ fun k => ?_).symm
  unfold term
  refine Eq.trans ?_ (congrArg₂ (fun u v : EReal => u * v) (at2_place (lhs m c) (Cert.BrPoolDwReferenceIdeal.Read.ridx_main_v4 (Cert.BrPoolDwReferenceIdeal.Read.idx_main_v5 i) k) rfl rfl) (at2_place (rhs m c) (Cert.BrPoolDwReferenceIdeal.Read.lidx_main_v4 (Cert.BrPoolDwReferenceIdeal.Read.idx_main_v5 i) k) rfl rfl))
  exact mul_comm (_ : EReal) _

end Cert.BrPoolDwIdeal.Block

namespace Cert.Proof.BrPoolDw

open Idealize.ShloMosaic Idealize.SL.Sem
open Cert.BrPoolDwIdeal.Block

theorem frame_bits : Cert.quiescent_BrPoolDw (hBrPoolDw := Cert.BrPoolDw.Gen.facts) := fun m g _ => Cert.BrPoolDw.Gen.frame m g

theorem frame_ideal : Cert.quiescent_BrPoolDwIdeal (hBrPoolDwIdeal := Cert.BrPoolDwIdeal.Gen.facts) := fun m g _ => Cert.BrPoolDwIdeal.Gen.frame m g

theorem frame_ref : Cert.quiescent_BrPoolDwReferenceIdeal (hBrPoolDwReferenceIdeal := Cert.BrPoolDwReferenceIdeal.Gen.facts) := fun m g _ =>
  (θ_run Cert.BrPoolDwReferenceIdeal.defs _ _).mono (fun r h => ⟨fun c => (h c).2, sem_eq_zero_of_no_sems rfl r.2⟩)
    (Cert.BrPoolDwReferenceIdeal.Value.run (F := Ideal) m g)

theorem algebraic : Cert.algebraic_BrPoolDwIdeal_BrPoolDwReferenceIdeal (hBrPoolDwIdeal := Cert.BrPoolDwIdeal.Gen.facts)
    (hBrPoolDwReferenceIdeal := Cert.BrPoolDwReferenceIdeal.Gen.facts) := by
  intro m g m' g' _ hargs
  refine ⟨fun c => prod m c, ?_, ?_⟩
  · exact (θ_run _ _ _).mono (fun r h c => ⟨(h c).1.trans (out_2 m c), (h c).2⟩) (Cert.BrPoolDwIdeal.Value.run_blocks (F := Ideal) m g)
  · refine (θ_run _ _ _).mono (fun r h c => ⟨(h c).1.trans ?_, (h c).2⟩) (Cert.BrPoolDwReferenceIdeal.Value.run (F := Ideal) m' g')
    obtain ⟨a0, a1, a2⟩ := hargs c
    rw [Cert.BrPoolDwReferenceIdeal.Read.val_main_v5_eq, a0, a2]
    exact (prod_eq m c).symm

end Cert.Proof.BrPoolDw

end
-- ==== Proof.Gates.lean ====
/- A branch's gate: the sigmoid and its derivative, as the calls and as the reference write them. -/
module

public import proofs.«01_k».proof.Proof.Product
public import Idealize.ShloMosaic.Lib.KernelVsHost

@[expose] public section

noncomputable section

namespace Cert.Gates

open Idealize.ShloMosaic

/-- The sigmoid of a gate's number. -/
def gate (x : EReal) : EReal := Ideal.logistic x

/-- The cotangent through the sigmoid of x to a branch. -/
def pass (d x : EReal) : EReal := d * gate x

/-- The cotangent d through the product with b to the sigmoid's argument x. -/
def slope (d b x : EReal) : EReal := d * b * gate x * (Scalar.ofBits (F := Ideal) .f32 0x3F800000#32 - gate x)

/-- The reference's sigmoid, in its four operations. -/
theorem gate_host (x : EReal) :
    (FloatOps.hostDivf (F := Ideal) (φ := .f32) (FloatOps.ofBits (F := Ideal) .f32 0x3F800000#32)
      (FloatOps.addf (FloatOps.ofBits (F := Ideal) .f32 0x3F800000#32) (FloatOps.hostUnary .exp (FloatOps.hostNegf (F := Ideal) (φ := .f32) x))) : EReal) = gate x := by
  have h : (FloatOps.ofBits (F := Ideal) .f32 0x3F800000#32 : EReal) = 1 := Cert.KernelIdeal.Grad.one_f32
  rw [h]
  rfl

/-- One layer put among three, zero in the others. -/
theorem layer {R C k : ℕ} {hi : Fin 3 → ℕ} (x : (⟨3, ![R, 1, C]⟩ : Shape).Idx → EReal) {u : Shape} (v : u.Idx → EReal)
    (h : (⟨3, ![R, 1, C]⟩ : Shape).Pads ![0, k, 0] hi ![0, 0, 0] ⟨3, ![R, 3, C]⟩) (hu : 0 < u.numel) (hv : v (Shape.Idx.first hu) = 0)
    (j : (⟨3, ![R, 3, C]⟩ : Shape).Idx) :
    pad ⟨3, ![R, 3, C]⟩ ![0, k, 0] hi ![0, 0, 0] x v h hu j = if (j 1).val = k then x (ValueIdx.ix3 (j 0) (0 : Fin 1) (j 2)) else 0 := by
  split
  · rename_i hk
    refine pad_apply_of_inside _ _ _ x v h hu j _ fun a => ?_
    match a with
    | ⟨0, _⟩ => show (j 0).val = 0 + (j 0).val * 1; omega
    | ⟨1, _⟩ => show (j 1).val = k + 0 * 1; omega
    | ⟨2, _⟩ => show (j 2).val = 0 + (j 2).val * 1; omega
  · rename_i hk
    refine (pad_apply_of_not_inside _ _ _ x v h hu j (1 : Fin 3) fun ha => hk ?_).trans hv
    obtain ⟨h0, _, h2⟩ := ha
    change k ≤ (j 1).val at h0
    change ((j 1).val - k) / 1 < 1 at h2
    omega

end Cert.Gates

end
-- ==== Proof.MergeFwdValue.lean ====
/- What `MergeFwd` leaves is the reference's array. -/
module

public import proofs.«01_k».proof.Defs
public import proofs.«01_k».proof.Proof.Gates
public import proofs.«01_k».proof.Proof.Gen.MergeFwdIdeal.Value
public import proofs.«01_k».proof.Proof.Gen.MergeFwd.Frame
public import proofs.«01_k».proof.Proof.Gen.MergeFwdReferenceIdeal.Read
public import Idealize.ShloMosaic.Lib.Quiescent
public import Idealize.ShloMosaic.Lib.Claim

@[expose] public section

set_option maxRecDepth 65536

noncomputable section

namespace Cert.MergeFwdIdeal.Block

open Cert.MergeFwdIdeal Cert.MergeFwdReferenceIdeal.Read Cert.Product Cert.Gates
open Idealize.ShloMosaic hiding ix1 ix2 ix3 ix4 eq_ix2

/-- A gate of the reference. -/
theorem gate_eq (x : S8192x3072.Idx → EReal) (j : Cert.MergeFwdReferenceIdeal.S8192x3x1024.Idx) :
    val_main_v10 (F := Ideal) x j = gate (at2 x (j 0).val ((j 1).val * 1024 + (j 2).val)) := by
  have h1 : (j 1).val < 3 := (j 1).isLt
  have h2 : (j 2).val < 1024 := (j 2).isLt
  rw [val_main_v10_apply, val_main_v9_apply,
    val_main_cst_0_apply, val_main_v8_apply,
    val_main_v7_apply, val_main_cst_apply,
    val_main_v6_apply, val_main_v5_apply,
    val_main_v4_apply, val_main_v0_apply]
  refine (gate_host _).trans (congrArg gate (at2_place x (idx_main_v4 j) ?_ ?_))
  · show (((j 0).val * 3 + (j 1).val) * 1024 + (j 2).val) / 3072 = (j 0).val
    omega
  · show (((j 0).val * 3 + (j 1).val) * 1024 + (j 2).val) % 3072 = (j 1).val * 1024 + (j 2).val
    omega

/-- The gated branches' sum, at an element. -/
def merged (x : S8192x3072.Idx → EReal) (b0 b1 b2 : S8192x1024.Idx → EReal) : S8192x1024.Idx → EReal := fun i =>
  gate (at2 x (i 0).val (i 1).val) * b0 i + gate (at2 x (i 0).val (1024 + (i 1).val)) * b1 i + gate (at2 x (i 0).val (2048 + (i 1).val)) * b2 i

theorem kernel_eq (x : S8192x3072.Idx → EReal) (b0 b1 b2 : S8192x1024.Idx → EReal) :
    Value.G6 (F := Ideal) x b0 x b1 x b2 = merged x b0 b1 b2 := by
  funext i
  unfold merged
  have h0 : x (Value.inIdx6_0 i) = at2 x (i 0).val (i 1).val := at2_place x _ rfl rfl
  have h1 : x (Value.inIdx6_2 i) = at2 x (i 0).val (1024 + (i 1).val) := at2_place x _ rfl (Nat.add_comm _ _)
  have h2 : x (Value.inIdx6_4 i) = at2 x (i 0).val (2048 + (i 1).val) := at2_place x _ rfl (Nat.add_comm _ _)
  rw [← h0, ← h1, ← h2]
  rfl

theorem ref_eq (x : S8192x3072.Idx → EReal) (b0 b1 b2 : S8192x1024.Idx → EReal) :
    val_main_v22 (F := Ideal) x b0 b1 b2 = merged x b0 b1 b2 := by
  funext i
  have h1 : (i 1).val < 1024 := (i 1).isLt
  have ha : ((i 0).val * 1024 + (i 1).val) / 1024 = (i 0).val := by omega
  have hb : ((i 0).val * 1024 + (i 1).val) % 1024 = (i 1).val := by omega
  have g0 : val_main_v12 (F := Ideal) x i = gate (at2 x (i 0).val (i 1).val) := by
    rw [val_main_v12_apply, val_main_v11_apply, gate_eq]
    dsimp only
    rw [ha, hb, Nat.zero_mul, Nat.zero_add]
  have g1 : val_main_v15 (F := Ideal) x i = gate (at2 x (i 0).val (1024 + (i 1).val)) := by
    rw [val_main_v15_apply, val_main_v14_apply, gate_eq]
    dsimp only
    rw [ha, hb]
  have g2 : val_main_v19 (F := Ideal) x i = gate (at2 x (i 0).val (2048 + (i 1).val)) := by
    rw [val_main_v19_apply, val_main_v18_apply, gate_eq]
    dsimp only
    rw [ha, hb]
  unfold merged
  rw [← g0, ← g1, ← g2]
  rfl

end Cert.MergeFwdIdeal.Block

namespace Cert.Proof.MergeFwd

open Idealize.ShloMosaic Idealize.SL.Sem
open Cert.MergeFwdIdeal.Block

theorem frame_bits : Cert.quiescent_MergeFwd (hMergeFwd := Cert.MergeFwd.Gen.facts) := fun m g _ => Cert.MergeFwd.Gen.frame m g

theorem frame_ideal : Cert.quiescent_MergeFwdIdeal (hMergeFwdIdeal := Cert.MergeFwdIdeal.Gen.facts) := fun m g _ => Cert.MergeFwdIdeal.Gen.frame m g

theorem frame_ref : Cert.quiescent_MergeFwdReferenceIdeal (hMergeFwdReferenceIdeal := Cert.MergeFwdReferenceIdeal.Gen.facts) := fun m g _ =>
  (θ_run Cert.MergeFwdReferenceIdeal.defs _ _).mono (fun r h => ⟨fun c => (h c).2, sem_eq_zero_of_no_sems rfl r.2⟩)
    (Cert.MergeFwdReferenceIdeal.Value.run (F := Ideal) m g)

theorem algebraic : Cert.algebraic_MergeFwdIdeal_MergeFwdReferenceIdeal (hMergeFwdIdeal := Cert.MergeFwdIdeal.Gen.facts)
    (hMergeFwdReferenceIdeal := Cert.MergeFwdReferenceIdeal.Gen.facts) := by
  intro m g m' g' _ hargs
  refine ⟨fun c => merged (m ((c.tc : Thread Cert.MergeFwdIdeal.nD Cert.MergeFwdIdeal.τ).loc Cert.MergeFwdIdeal.main_arg0)) (m ((c.tc : Thread _ _).loc Cert.MergeFwdIdeal.main_arg1))
    (m ((c.tc : Thread _ _).loc Cert.MergeFwdIdeal.main_arg2)) (m ((c.tc : Thread _ _).loc Cert.MergeFwdIdeal.main_arg3)), ?_, ?_⟩
  · exact (θ_run _ _ _).mono (fun r h c => ⟨(h c).1.trans (kernel_eq _ _ _ _), (h c).2⟩) (Cert.MergeFwdIdeal.Value.run (F := Ideal) m g)
  · refine (θ_run _ _ _).mono (fun r h c => ⟨(h c).1.trans ?_, (h c).2⟩) (Cert.MergeFwdReferenceIdeal.Value.run (F := Ideal) m' g')
    obtain ⟨a0, a1, a2, a3⟩ := hargs c
    rw [Cert.MergeFwdReferenceIdeal.Read.val_main_v22_eq, a0, a1, a2, a3]
    exact ref_eq _ _ _ _

end Cert.Proof.MergeFwd

end
-- ==== Proof.MergeBwdValue.lean ====
/- What `MergeBwd` leaves are the reference's arrays. -/
module

public import proofs.«01_k».proof.Defs
public import proofs.«01_k».proof.Proof.Gates
public import proofs.«01_k».proof.Proof.Gen.MergeBwdIdeal.Value
public import proofs.«01_k».proof.Proof.Gen.MergeBwd.Frame
public import proofs.«01_k».proof.Proof.Gen.MergeBwdReferenceIdeal.Read
public import Idealize.ShloMosaic.Lib.Quiescent
public import Idealize.ShloMosaic.Lib.Claim

@[expose] public section

set_option maxRecDepth 65536

noncomputable section

namespace Cert.MergeBwdIdeal.Block

open Cert.MergeBwdIdeal Cert.MergeBwdIdeal.Gen Cert.MergeBwdReferenceIdeal.Read Cert.Product Cert.Gates
open Idealize.ShloMosaic hiding ix1 ix2 ix3 ix4 eq_ix2
open Idealize.SL.Sem
open Idealize.ShloMosaic.TcCoe Idealize.ShloMosaic.ValueIdx

/-- A branch's cotangent, of which the gates are the k-th run of the columns. -/
def dbranch (k : ℕ) (x : S8192x3072.Idx → EReal) (d : S8192x1024.Idx → EReal) : S8192x1024.Idx → EReal := fun i =>
  pass (at2 d (i 0).val (i 1).val) (at2 x (i 0).val (k * 1024 + (i 1).val))

/-- The cotangent of a branch's gates. -/
def dgate (k : ℕ) (x : S8192x3072.Idx → EReal) (b d : S8192x1024.Idx → EReal) : S8192x1024.Idx → EReal := fun i =>
  slope (at2 d (i 0).val (i 1).val) (at2 b (i 0).val (i 1).val) (at2 x (i 0).val (k * 1024 + (i 1).val))

section Call

theorem at_0 : ∀ t : Fin grid0.N, win0_0.index t = ![t.val / 4, t.val % 4] := by decide +kernel
theorem at_1 : ∀ t : Fin grid0.N, win0_1.index t = ![t.val / 4, 4 + t.val % 4] := by decide +kernel
theorem at_2 : ∀ t : Fin grid0.N, win0_2.index t = ![t.val / 4, 8 + t.val % 4] := by decide +kernel
theorem at_3 : ∀ t : Fin grid0.N, win0_3.index t = ![t.val / 4, t.val % 4] := by decide +kernel
theorem at_4 : ∀ t : Fin grid0.N, win0_4.index t = ![t.val / 4, t.val % 4] := by decide +kernel
theorem at_5 : ∀ t : Fin grid0.N, win0_5.index t = ![t.val / 4, t.val % 4] := by decide +kernel
theorem at_6 : ∀ t : Fin grid0.N, win0_6.index t = ![t.val / 4, t.val % 4] := by decide +kernel
theorem at_7 : ∀ t : Fin grid0.N, win0_7.index t = ![t.val / 4, t.val % 4] := by decide +kernel
theorem at_8 : ∀ t : Fin grid0.N, win0_8.index t = ![t.val / 4, t.val % 4] := by decide +kernel
theorem at_9 : ∀ t : Fin grid0.N, win0_9.index t = ![t.val / 4, t.val % 4] := by decide +kernel
theorem at_10 : ∀ t : Fin grid0.N, win0_10.index t = ![t.val / 4, t.val % 4] := by decide +kernel
theorem at_11 : ∀ t : Fin grid0.N, win0_11.index t = ![t.val / 4, t.val % 4] := by decide +kernel
theorem at_12 : ∀ t : Fin grid0.N, win0_12.index t = ![t.val / 4, t.val % 4] := by decide +kernel

variable (m : (ℓ : Loc nD τ sig) → Buf (Elt Ideal) ℓ) (c : Dev nD)

/-- The call's arrays: the gates, the branches, the cotangent. -/
def gates : (⟨2, ![8192, 3072]⟩ : Shape).Idx → EReal := V m c main_arg0
def branch0 : (⟨2, ![8192, 1024]⟩ : Shape).Idx → EReal := V m c main_arg1
def branch1 : (⟨2, ![8192, 1024]⟩ : Shape).Idx → EReal := V m c main_arg2
def branch2 : (⟨2, ![8192, 1024]⟩ : Shape).Idx → EReal := V m c main_arg3
def cot : (⟨2, ![8192, 1024]⟩ : Shape).Idx → EReal := V m c main_arg4

theorem blk_0 (t : Fin cfg0.N) (y : S1024x256.Idx) : iblk m c 0 t y = at2 (gates m c) (t.val / 4 * 1024 + (y 0).val) (0 * 1024 + (t.val % 4 * 256 + (y 1).val)) :=
  at2_place (gates m c) (((cfg0.win 0).blk t).view.emb y) (by blk_simp [at_0]) (by blk_simp [at_0])

theorem blk_1 (t : Fin cfg0.N) (y : S1024x256.Idx) : iblk m c 1 t y = at2 (gates m c) (t.val / 4 * 1024 + (y 0).val) (1 * 1024 + (t.val % 4 * 256 + (y 1).val)) :=
  at2_place (gates m c) (((cfg0.win 1).blk t).view.emb y) (by blk_simp [at_1]) (by blk_simp [at_1]; omega)

theorem blk_2 (t : Fin cfg0.N) (y : S1024x256.Idx) : iblk m c 2 t y = at2 (gates m c) (t.val / 4 * 1024 + (y 0).val) (2 * 1024 + (t.val % 4 * 256 + (y 1).val)) :=
  at2_place (gates m c) (((cfg0.win 2).blk t).view.emb y) (by blk_simp [at_2]) (by blk_simp [at_2]; omega)

theorem blk_3 (t : Fin cfg0.N) (y : S1024x256.Idx) : iblk m c 3 t y = at2 (branch0 m c) (t.val / 4 * 1024 + (y 0).val) (t.val % 4 * 256 + (y 1).val) :=
  at2_place (branch0 m c) (((cfg0.win 3).blk t).view.emb y) (by blk_simp [at_3]) (by blk_simp [at_3])

theorem blk_4 (t : Fin cfg0.N) (y : S1024x256.Idx) : iblk m c 4 t y = at2 (branch1 m c) (t.val / 4 * 1024 + (y 0).val) (t.val % 4 * 256 + (y 1).val) :=
  at2_place (branch1 m c) (((cfg0.win 4).blk t).view.emb y) (by blk_simp [at_4]) (by blk_simp [at_4])

theorem blk_5 (t : Fin cfg0.N) (y : S1024x256.Idx) : iblk m c 5 t y = at2 (branch2 m c) (t.val / 4 * 1024 + (y 0).val) (t.val % 4 * 256 + (y 1).val) :=
  at2_place (branch2 m c) (((cfg0.win 5).blk t).view.emb y) (by blk_simp [at_5]) (by blk_simp [at_5])

theorem blk_6 (t : Fin cfg0.N) (y : S1024x256.Idx) : iblk m c 6 t y = at2 (cot m c) (t.val / 4 * 1024 + (y 0).val) (t.val % 4 * 256 + (y 1).val) :=
  at2_place (cot m c) (((cfg0.win 6).blk t).view.emb y) (by blk_simp [at_6]) (by blk_simp [at_6])

/-- What a point forms of one gate, its branch and the cotangent. -/
theorem slope_of {u v w a b d : EReal} (hd : u = d) (hb : v = b) (ha : w = a) : slope u v w = slope d b a := by rw [hd, hb, ha]

theorem out_7 : (dats m 0 c).arrAt 7 cfg0.N = dgate 0 (gates m c) (branch0 m c) (cot m c) := by
  refine (dats m 0 c).arrAt_eq_of_covers 7 _ (by decide +kernel) fun t hf y => ?_
  have e0 : ((((cfg0.win 7).blk t).view.emb y) 0 : ℕ) = t.val / 4 * 1024 + (y 0).val := by blk_simp [at_7]
  have e1 : ((((cfg0.win 7).blk t).view.emb y) 1 : ℕ) = t.val % 4 * 256 + (y 1).val := by blk_simp [at_7]
  unfold dgate
  rw [e0, e1, after0_7]
  frame_out
  exact slope_of (blk_6 m c t y) (blk_3 m c t y) (blk_0 m c t y)

theorem out_8 : (dats m 0 c).arrAt 8 cfg0.N = dgate 1 (gates m c) (branch1 m c) (cot m c) := by
  refine (dats m 0 c).arrAt_eq_of_covers 8 _ (by decide +kernel) fun t hf y => ?_
  have e0 : ((((cfg0.win 8).blk t).view.emb y) 0 : ℕ) = t.val / 4 * 1024 + (y 0).val := by blk_simp [at_8]
  have e1 : ((((cfg0.win 8).blk t).view.emb y) 1 : ℕ) = t.val % 4 * 256 + (y 1).val := by blk_simp [at_8]
  unfold dgate
  rw [e0, e1, after0_8]
  frame_out
  exact slope_of (blk_6 m c t y) (blk_4 m c t y) (blk_1 m c t y)

theorem out_9 : (dats m 0 c).arrAt 9 cfg0.N = dgate 2 (gates m c) (branch2 m c) (cot m c) := by
  refine (dats m 0 c).arrAt_eq_of_covers 9 _ (by decide +kernel) fun t hf y => ?_
  have e0 : ((((cfg0.win 9).blk t).view.emb y) 0 : ℕ) = t.val / 4 * 1024 + (y 0).val := by blk_simp [at_9]
  have e1 : ((((cfg0.win 9).blk t).view.emb y) 1 : ℕ) = t.val % 4 * 256 + (y 1).val := by blk_simp [at_9]
  unfold dgate
  rw [e0, e1, after0_9]
  frame_out [k0_pay11]
  exact slope_of (blk_6 m c t y) (blk_5 m c t y) (blk_2 m c t y)

theorem out_10 : (dats m 0 c).arrAt 10 cfg0.N = dbranch 0 (gates m c) (cot m c) := by
  refine (dats m 0 c).arrAt_eq_of_covers 10 _ (by decide +kernel) fun t hf y => ?_
  have e0 : ((((cfg0.win 10).blk t).view.emb y) 0 : ℕ) = t.val / 4 * 1024 + (y 0).val := by blk_simp [at_10]
  have e1 : ((((cfg0.win 10).blk t).view.emb y) 1 : ℕ) = t.val % 4 * 256 + (y 1).val := by blk_simp [at_10]
  unfold dbranch
  rw [e0, e1, after0_10]
  frame_out
  exact congrArg₂ pass (blk_6 m c t y) (blk_0 m c t y)

theorem out_11 : (dats m 0 c).arrAt 11 cfg0.N = dbranch 1 (gates m c) (cot m c) := by
  refine (dats m 0 c).arrAt_eq_of_covers 11 _ (by decide +kernel) fun t hf y => ?_
  have e0 : ((((cfg0.win 11).blk t).view.emb y) 0 : ℕ) = t.val / 4 * 1024 + (y 0).val := by blk_simp [at_11]
  have e1 : ((((cfg0.win 11).blk t).view.emb y) 1 : ℕ) = t.val % 4 * 256 + (y 1).val := by blk_simp [at_11]
  unfold dbranch
  rw [e0, e1, after0_11]
  frame_out
  exact congrArg₂ pass (blk_6 m c t y) (blk_1 m c t y)

theorem out_12 : (dats m 0 c).arrAt 12 cfg0.N = dbranch 2 (gates m c) (cot m c) := by
  refine (dats m 0 c).arrAt_eq_of_covers 12 _ (by decide +kernel) fun t hf y => ?_
  have e0 : ((((cfg0.win 12).blk t).view.emb y) 0 : ℕ) = t.val / 4 * 1024 + (y 0).val := by blk_simp [at_12]
  have e1 : ((((cfg0.win 12).blk t).view.emb y) 1 : ℕ) = t.val % 4 * 256 + (y 1).val := by blk_simp [at_12]
  unfold dbranch
  rw [e0, e1, after0_12]
  frame_out [k0_pay11]
  exact congrArg₂ pass (blk_6 m c t y) (blk_2 m c t y)

end Call

section Reference

variable (x : S8192x3072.Idx → EReal) (b0 b1 b2 d : S8192x1024.Idx → EReal)

/-- A gate of the reference. -/
theorem gate_eq (j : Cert.MergeBwdReferenceIdeal.S8192x3x1024.Idx) :
    val_main_v11 (F := Ideal) x j = gate (at2 x (j 0).val ((j 1).val * 1024 + (j 2).val)) := by
  have h1 : (j 1).val < 3 := (j 1).isLt
  have h2 : (j 2).val < 1024 := (j 2).isLt
  rw [val_main_v11_apply, val_main_v10_apply, val_main_cst_0_apply, val_main_v9_apply, val_main_v8_apply, val_main_cst_apply, val_main_v7_apply,
    val_main_v6_apply, val_main_v5_apply, val_main_v0_apply]
  refine (gate_host _).trans (congrArg gate (at2_place x (idx_main_v5 j) ?_ ?_))
  · show (((j 0).val * 3 + (j 1).val) * 1024 + (j 2).val) / 3072 = (j 0).val
    omega
  · show (((j 0).val * 3 + (j 1).val) * 1024 + (j 2).val) % 3072 = (j 1).val * 1024 + (j 2).val
    omega

/-- A row's place among the rows of one layer. -/
theorem split (i : S8192x1024.Idx) : ((i 0).val * 1024 + (i 1).val) / 1024 = (i 0).val ∧ ((i 0).val * 1024 + (i 1).val) % 1024 = (i 1).val := by
  have h1 : (i 1).val < 1024 := (i 1).isLt
  omega

theorem dbranch0_eq : val_main_v46 (F := Ideal) x d = dbranch 0 x d := by
  funext i
  have g : val_main_v16 (F := Ideal) x i = gate (at2 x (i 0).val (0 * 1024 + (i 1).val)) := by
    rw [val_main_v16_apply, val_main_v15_apply, gate_eq]
    dsimp only
    rw [(split i).1, (split i).2]
  unfold dbranch pass
  rw [← g, at2_idx d i]
  exact mul_comm (_ : EReal) _

theorem dbranch1_eq : val_main_v47 (F := Ideal) x d = dbranch 1 x d := by
  funext i
  have g : val_main_v19 (F := Ideal) x i = gate (at2 x (i 0).val (1 * 1024 + (i 1).val)) := by
    rw [val_main_v19_apply, val_main_v18_apply, gate_eq]
    dsimp only
    rw [(split i).1, (split i).2]
  unfold dbranch pass
  rw [← g, at2_idx d i]
  exact mul_comm (_ : EReal) _

theorem dbranch2_eq : val_main_v48 (F := Ideal) x d = dbranch 2 x d := by
  funext i
  have g : val_main_v23 (F := Ideal) x i = gate (at2 x (i 0).val (2 * 1024 + (i 1).val)) := by
    rw [val_main_v23_apply, val_main_v22_apply, gate_eq]
    dsimp only
    rw [(split i).1, (split i).2]
  unfold dbranch pass
  rw [← g, at2_idx d i]
  exact mul_comm (_ : EReal) _

/-- A layer's own index. -/
abbrev row (j : Cert.MergeBwdReferenceIdeal.S8192x3x1024.Idx) : S8192x1024.Idx := ix2 (j 0) (j 2)

/-- The three layers of the products with the branches, added. -/
theorem layers (j : Cert.MergeBwdReferenceIdeal.S8192x3x1024.Idx) : val_main_v39 (F := Ideal) b0 b1 b2 d j
    = (if (j 1).val = 2 then d (row j) * b2 (row j) else 0) + (if (j 1).val = 1 then d (row j) * b1 (row j) else 0)
      + (if (j 1).val = 0 then d (row j) * b0 (row j) else 0) := by
  have h2 : val_main_v29 (F := Ideal) b2 d j = if (j 1).val = 2 then d (row j) * b2 (row j) else 0 :=
    (layer _ _ _ _ Cert.KernelIdeal.Grad.zero_f32 j).trans (by rw [val_main_v28_apply, (eq_ix2 _ : idx_main_v28 (ix3 (j 0) (0 : Fin 1) (j 2)) = row j)]; rfl)
  have h1 : val_main_v33 (F := Ideal) b1 d j = if (j 1).val = 1 then d (row j) * b1 (row j) else 0 :=
    (layer _ _ _ _ Cert.KernelIdeal.Grad.zero_f32 j).trans (by rw [val_main_v32_apply, (eq_ix2 _ : idx_main_v32 (ix3 (j 0) (0 : Fin 1) (j 2)) = row j)]; rfl)
  have h0 : val_main_v38 (F := Ideal) b0 d j = if (j 1).val = 0 then d (row j) * b0 (row j) else 0 :=
    (layer _ _ _ _ Cert.KernelIdeal.Grad.zero_f32 j).trans (by rw [val_main_v37_apply, (eq_ix2 _ : idx_main_v37 (ix3 (j 0) (0 : Fin 1) (j 2)) = row j)]; rfl)
  rw [val_main_v39_apply, val_main_v34_apply, h0, h1, h2]
  rfl

/-- The gates' gradient at an index, the layers' sum there given. -/
theorem dgate_at (j : Cert.MergeBwdReferenceIdeal.S8192x3x1024.Idx) {p b : EReal} {r k q : ℕ} (hj : (j 0).val = r ∧ (j 1).val = k ∧ (j 2).val = q)
    (h : val_main_v39 (F := Ideal) b0 b1 b2 d j = p * b) : val_main_v40 (F := Ideal) x b0 b1 b2 d j = slope p b (at2 x r (k * 1024 + q)) := by
  obtain ⟨rfl, rfl, rfl⟩ := hj
  rw [val_main_v40_apply, val_main_v14_apply, val_main_v13_apply, val_main_v12_apply, val_main_cst_1_apply, gate_eq, h]
  exact (mul_assoc (p * b) _ _).symm

/-- The index of a gate among the layers. -/
theorem place (i : S8192x1024.Idx) {k : ℕ} (l : S8192x3072.Idx) (h0 : (l 0).val = (i 0).val) (h1 : (l 1).val = k * 1024 + (i 1).val) (hk : k < 3) :
    (idx_main_v41 l 0).val = (i 0).val ∧ (idx_main_v41 l 1).val = k ∧ (idx_main_v41 l 2).val = (i 1).val := by
  have hi : (i 1).val < 1024 := (i 1).isLt
  refine ⟨?_, ?_, ?_⟩
  · show ((l 0).val * 3072 + (l 1).val) / 3072 = _
    omega
  · show ((l 0).val * 3072 + (l 1).val) / 1024 % 3 = _
    omega
  · show ((l 0).val * 3072 + (l 1).val) % 1024 = _
    omega

theorem row_eq (i : S8192x1024.Idx) (j : Cert.MergeBwdReferenceIdeal.S8192x3x1024.Idx) (h0 : (j 0).val = (i 0).val) (h2 : (j 2).val = (i 1).val) : row j = i :=
  (congrArg₂ ix2 (Fin.ext h0) (Fin.ext h2)).trans (eq_ix2 i).symm

theorem dgate0_eq : val_main_v43 (F := Ideal) x b0 b1 b2 d = dgate 0 x b0 d := by
  funext i
  have hj := place i (k := 0) (idx_main_v43 i) rfl (by show (i 1).val = _; omega) (by omega)
  rw [val_main_v43_apply, val_main_v42_apply, val_main_v41_apply]
  unfold dgate
  rw [at2_idx d i, at2_idx b0 i]
  refine dgate_at x b0 b1 b2 d _ hj ?_
  rw [layers, row_eq i _ hj.1 hj.2.2, if_neg (by omega), if_neg (by omega), if_pos hj.2.1, zero_add, zero_add]

theorem dgate1_eq : val_main_v44 (F := Ideal) x b0 b1 b2 d = dgate 1 x b1 d := by
  funext i
  have hj := place i (k := 1) (idx_main_v44 i) rfl (by show 1024 + (i 1).val = _; omega) (by omega)
  rw [val_main_v44_apply, val_main_v42_apply, val_main_v41_apply]
  unfold dgate
  rw [at2_idx d i, at2_idx b1 i]
  refine dgate_at x b0 b1 b2 d _ hj ?_
  rw [layers, row_eq i _ hj.1 hj.2.2, if_neg (by omega), if_pos hj.2.1, if_neg (by omega), zero_add, add_zero]

theorem dgate2_eq : val_main_v45 (F := Ideal) x b0 b1 b2 d = dgate 2 x b2 d := by
  funext i
  have hj := place i (k := 2) (idx_main_v45 i) rfl (by show 2048 + (i 1).val = _; omega) (by omega)
  rw [val_main_v45_apply, val_main_v42_apply, val_main_v41_apply]
  unfold dgate
  rw [at2_idx d i, at2_idx b2 i]
  refine dgate_at x b0 b1 b2 d _ hj ?_
  rw [layers, row_eq i _ hj.1 hj.2.2, if_pos hj.2.1, if_neg (by omega), if_neg (by omega), add_zero, add_zero]

end Reference

end Cert.MergeBwdIdeal.Block

namespace Cert.Proof.MergeBwd

open Idealize.ShloMosaic Idealize.SL.Sem
open Cert.MergeBwdIdeal.Block

theorem frame_bits : Cert.quiescent_MergeBwd (hMergeBwd := Cert.MergeBwd.Gen.facts) := fun m g _ => Cert.MergeBwd.Gen.frame m g

theorem frame_ideal : Cert.quiescent_MergeBwdIdeal (hMergeBwdIdeal := Cert.MergeBwdIdeal.Gen.facts) := fun m g _ => Cert.MergeBwdIdeal.Gen.frame m g

theorem frame_ref : Cert.quiescent_MergeBwdReferenceIdeal (hMergeBwdReferenceIdeal := Cert.MergeBwdReferenceIdeal.Gen.facts) := fun m g _ =>
  (θ_run Cert.MergeBwdReferenceIdeal.defs _ _).mono (fun r h => ⟨fun c => (h c).2.2.2.2.2.2, sem_eq_zero_of_no_sems rfl r.2⟩)
    (Cert.MergeBwdReferenceIdeal.Value.run (F := Ideal) m g)

theorem algebraic : Cert.algebraic_MergeBwdIdeal_MergeBwdReferenceIdeal (hMergeBwdIdeal := Cert.MergeBwdIdeal.Gen.facts)
    (hMergeBwdReferenceIdeal := Cert.MergeBwdReferenceIdeal.Gen.facts) := by
  intro m g m' g' _ hargs
  refine ⟨fun c => dgate 0 (gates m c) (branch0 m c) (cot m c), fun c => dgate 1 (gates m c) (branch1 m c) (cot m c), fun c => dgate 2 (gates m c) (branch2 m c) (cot m c),
    fun c => dbranch 0 (gates m c) (cot m c), fun c => dbranch 1 (gates m c) (cot m c), fun c => dbranch 2 (gates m c) (cot m c), ?_, ?_⟩
  · exact (θ_run _ _ _).mono (fun r h c => by
      obtain ⟨r0, r1, r2, r3, r4, r5, rest⟩ := h c
      exact ⟨r0.trans (out_7 m c), r1.trans (out_8 m c), r2.trans (out_9 m c), r3.trans (out_10 m c), r4.trans (out_11 m c), r5.trans (out_12 m c), rest⟩)
      (Cert.MergeBwdIdeal.Value.run_blocks (F := Ideal) m g)
  · refine (θ_run _ _ _).mono (fun r h c => ?_) (Cert.MergeBwdReferenceIdeal.Value.run (F := Ideal) m' g')
    obtain ⟨r0, r1, r2, r3, r4, r5, rest⟩ := h c
    obtain ⟨a0, a1, a2, a3, a4⟩ := hargs c
    refine ⟨r0.trans ?_, r1.trans ?_, r2.trans ?_, r3.trans ?_, r4.trans ?_, r5.trans ?_, rest⟩
    · rw [Cert.MergeBwdReferenceIdeal.Read.val_main_v43_eq, a0, a1, a2, a3, a4]; exact dgate0_eq _ _ _ _ _
    · rw [Cert.MergeBwdReferenceIdeal.Read.val_main_v44_eq, a0, a1, a2, a3, a4]; exact dgate1_eq _ _ _ _ _
    · rw [Cert.MergeBwdReferenceIdeal.Read.val_main_v45_eq, a0, a1, a2, a3, a4]; exact dgate2_eq _ _ _ _ _
    · rw [Cert.MergeBwdReferenceIdeal.Read.val_main_v46_eq, a0, a4]; exact dbranch0_eq _ _
    · rw [Cert.MergeBwdReferenceIdeal.Read.val_main_v47_eq, a0, a4]; exact dbranch1_eq _ _
    · rw [Cert.MergeBwdReferenceIdeal.Read.val_main_v48_eq, a0, a4]; exact dbranch2_eq _ _

end Cert.Proof.MergeBwd

end
-- ==== Proof.Norms.lean ====
/- A norm by the mean of squares, row by row, and its gradient. -/
module

public import proofs.«01_k».proof.Proof.Product
public import proofs.«01_k».proof.Proof.Gen.RmsBwdLastIdeal.Skeleton
public import proofs.«01_k».proof.Proof.Gen.RmsBwdFirstReferenceIdeal.Read

@[expose] public section

set_option maxRecDepth 65536

noncomputable section

namespace Cert.Norms

open Cert.Product Cert.KernelIdeal.Grad
open Idealize.ShloMosaic hiding ix1 ix2 ix3 ix4 eq_ix2
open Idealize.ShloMosaic.ValueIdx
open Finset (range)

/-- The row's length and the small number added to the mean, as the programs write them. -/
abbrev len : EReal := Ideal.ofBits .f32 0x44800000#32
abbrev small : EReal := Ideal.ofBits .f32 0x358637BD#32
abbrev half : EReal := Ideal.ofBits .f32 0xBF000000#32

theorem len_eq : len = ((1024 : ℝ) : EReal) := by
  simp [len, Ideal.ofBits, Ideal.ieee]
  rw [← EReal.coe_mul]
  norm_num

theorem half_eq : half = ((-(1 / 2) : ℝ) : EReal) := by
  simp [half, Ideal.ofBits, Ideal.ieee]
  rw [← EReal.coe_mul]
  norm_num

theorem small_pos : ∃ e : ℝ, 0 < e ∧ small = (e : EReal) := by
  refine ⟨8796093 * (1 / 8796093022208), by norm_num, ?_⟩
  rw [EReal.coe_mul]
  simp [small, Ideal.ofBits, Ideal.ieee]
  norm_num

/-- The mean of a row's squares, with the small number added. -/
def mean (f : ℕ → EReal) : EReal := Ideal.div (∑ q ∈ range 1024, f q * f q) len + small

def root (f : ℕ → EReal) : EReal := Ideal.rsqrt (mean f)

theorem sq_nonneg (x : EReal) : 0 ≤ x * x := by
  induction x with
  | bot => simp
  | top => simp
  | coe r => rw [← EReal.coe_mul]; exact_mod_cast mul_self_nonneg r

theorem mean_pos (f : ℕ → EReal) : 0 < mean f := by
  obtain ⟨e, he, h⟩ := small_pos
  unfold mean
  rw [len_eq, Ideal.div_coe (by norm_num), h]
  refine lt_of_lt_of_le (EReal.coe_pos.mpr he) (le_add_of_nonneg_left (mul_nonneg (Finset.sum_nonneg fun q _ => sq_nonneg _) ?_))
  exact_mod_cast (by norm_num : (0 : ℝ) ≤ 1 / 1024)

/-- The cube of the root is the root over the mean. -/
theorem cube (u : EReal) (hu : 0 < u) : Ideal.rsqrt u * Ideal.rsqrt u * Ideal.rsqrt u = Ideal.div (Ideal.rsqrt u) u := by
  induction u with
  | bot => exact absurd hu (by simp)
  | top =>
    have e : Ideal.rsqrt ⊤ = 0 := rfl
    rw [e]
    simp [Ideal.div]
  | coe r =>
    have hr : 0 < r := EReal.coe_pos.mp hu
    have hs := Real.sqrt_pos.mpr hr
    rw [Ideal.div_coe hr.ne']
    have e : Ideal.rsqrt (r : EReal) = (((√r)⁻¹ : ℝ) : EReal) := by
      show (if r < 0 then (⊥ : EReal) else if r = 0 then ⊤ else (((√r)⁻¹ : ℝ) : EReal)) = _
      rw [if_neg (not_lt.mpr hr.le), if_neg hr.ne']
    rw [e, ← EReal.coe_mul, ← EReal.coe_mul, ← EReal.coe_mul]
    congr 1
    have h2 : √r * √r = r := Real.mul_self_sqrt hr.le
    field_simp
    nlinarith

/-- Two halves taken away are the whole taken away. -/
theorem halves (c : EReal) : half * c + half * c = -c := by
  rw [half_eq]
  induction c with
  | bot => rw [EReal.coe_mul_bot_of_neg (by norm_num)]; rfl
  | top => rw [EReal.coe_mul_top_of_neg (by norm_num)]; rfl
  | coe r =>
    rw [← EReal.coe_mul, ← EReal.coe_add, ← EReal.coe_neg]
    congr 1
    ring

/-- The mean's part of the gradient, as the reference adds it, twice. -/
theorem twice (f : ℕ → EReal) (x s : EReal) :
    x * Ideal.div (s * (half * Ideal.div (root f) (mean f))) len + Ideal.div (s * (half * Ideal.div (root f) (mean f))) len * x
      = -(x * (root f * root f * root f) * Ideal.div s len) := by
  unfold root
  rw [← cube _ (mean_pos f), ← halves, len_eq, Ideal.div_coe (by norm_num), Ideal.div_coe (by norm_num)]
  congr 1 <;> ac_rfl

def norm (f g : ℕ → EReal) (j : ℕ) : EReal := f j * root f * g j

def back (f g d : ℕ → EReal) (j : ℕ) : EReal :=
  root f * (g j * d j) - f j * (root f * root f * root f) * Ideal.div (∑ q ∈ range 1024, f q * (g q * d q)) len

/-- One row's part of the gain's gradient, and the sum of the rows'. -/
def share (x d : ℕ → ℕ → EReal) (j q : ℕ) : EReal := d q j * x q j * root (x q)

def gain (x d : ℕ → ℕ → EReal) (n j : ℕ) : EReal := ∑ q ∈ range n, share x d j q

section Rows

/-- A row of a block is a row of the array. -/
theorem block_row {N : ℕ} (X : (⟨2, ![N, 1024]⟩ : Shape).Idx → EReal) (x : (⟨2, ![512, 1024]⟩ : Shape).Idx → EReal) (o : ℕ)
    (h : ∀ y, x y = at2 X (o + (y 0).val) (y 1).val) {a : ℕ} (ha : a < 512) : at2 x a = at2 X (o + a) := by
  funext q
  by_cases hq : q < 1024
  · rw [at2_of x ha hq]
    exact h _
  · unfold at2
    rw [dif_neg (fun h => hq h.2), dif_neg (fun h => hq h.2)]

theorem block_gains (G g : (⟨2, ![1, 1024]⟩ : Shape).Idx → EReal) (h : ∀ y, g y = at2 G (y 0).val (y 1).val) : g = G := by
  funext y
  rw [h, at2_idx]

/-- What a block of rows adds to the gain's gradient. -/
theorem block_share {N : ℕ} (X D : (⟨2, ![N, 1024]⟩ : Shape).Idx → EReal) (x d : (⟨2, ![512, 1024]⟩ : Shape).Idx → EReal) (o j : ℕ)
    (hx : ∀ y, x y = at2 X (o + (y 0).val) (y 1).val) (hd : ∀ y, d y = at2 D (o + (y 0).val) (y 1).val) :
    gain (at2 x) (at2 d) 512 j = ∑ q ∈ range 512, share (at2 X) (at2 D) j (o + q) := by
  refine Finset.sum_congr rfl fun q hq => ?_
  unfold share
  rw [block_row X x o hx (Finset.mem_range.mp hq), block_row D d o hd (Finset.mem_range.mp hq)]

variable (X D : (⟨2, ![8192, 1024]⟩ : Shape).Idx → EReal) (G : (⟨2, ![1, 1024]⟩ : Shape).Idx → EReal)

/-- The normed array alone and added to another, its gradient by the array, alone and added to another, and its gradient by the gains. -/
def normed : (⟨2, ![8192, 1024]⟩ : Shape).Idx → EReal := fun i => norm (at2 X (i 0).val) (at2 G 0) (i 1).val
def backs : (⟨2, ![8192, 1024]⟩ : Shape).Idx → EReal := fun i => back (at2 X (i 0).val) (at2 G 0) (at2 D (i 0).val) (i 1).val
def adds (S : (⟨2, ![8192, 1024]⟩ : Shape).Idx → EReal) : (⟨2, ![8192, 1024]⟩ : Shape).Idx → EReal := fun i => S i + backs X D G i
def sums (S : (⟨2, ![8192, 1024]⟩ : Shape).Idx → EReal) : (⟨2, ![8192, 1024]⟩ : Shape).Idx → EReal := fun i => S i + normed X G i
def gains : (⟨2, ![1, 1024]⟩ : Shape).Idx → EReal := fun i => gain (at2 X) (at2 D) 8192 (i 1).val

end Rows

/-- A block's sums along its rows, kept as a column. -/
theorem row_sum {R : ℕ} (x : FVec Ideal ⟨2, ![R, 1024]⟩ .f32) (h : Shape.Reduces ⟨2, ![R, 1024]⟩ [1] ⟨1, ![R]⟩) (hφ : FKind.Formats .f32)
    (hacc : (0x00000000#32 : BitVec 32) = FKind.add.neutral .f32 hφ) (hc : Shape.ShapeCasts ⟨1, ![R]⟩ ⟨2, ![R, 1]⟩) (j : (⟨2, ![R, 1]⟩ : Shape).Idx) (f : ℕ → EReal)
    (hf : ∀ q : Fin 1024, x (ix2 (j 0) q) = f q.val) :
    shapeCast ⟨2, ![R, 1]⟩ (multiReduction .add [1] ⟨1, ![R]⟩ x 0x00000000#32 h hφ hacc) hc j = ∑ q ∈ range 1024, f q := by
  rw [shapeCast_apply _ hc j (ValueIdx.ix1 (j 0)) (by
    rw [Shape.rowMajor_val_one, Shape.rowMajor_val_two]
    have h1 : (j 1).val < 1 := (j 1).isLt
    show (j 0).val = (j 0).val * 1 + (j 1).val
    omega), Ideal.multiReduction_add_single x _ h hφ hacc]
  refine sum_block 1024 f _ fun q => ?_
  rw [← hf q]
  refine congrArg x (funext fun a => Fin.ext ?_)
  match a with
  | ⟨0, _⟩ => rfl
  | ⟨1, _⟩ => rfl

/-- A block's sums along its columns, kept as a row. -/
theorem column_sum {R C : ℕ} (x : FVec Ideal ⟨2, ![R, C]⟩ .f32) (h : Shape.Reduces ⟨2, ![R, C]⟩ [0] ⟨1, ![C]⟩) (hφ : FKind.Formats .f32)
    (hacc : (0x00000000#32 : BitVec 32) = FKind.add.neutral .f32 hφ) (hc : Shape.ShapeCasts ⟨1, ![C]⟩ ⟨2, ![1, C]⟩) (j : (⟨2, ![1, C]⟩ : Shape).Idx) (f : ℕ → EReal)
    (hf : ∀ q : Fin R, x (ix2 q (j 1)) = f q.val) :
    shapeCast ⟨2, ![1, C]⟩ (multiReduction .add [0] ⟨1, ![C]⟩ x 0x00000000#32 h hφ hacc) hc j = ∑ q ∈ range R, f q := by
  rw [shapeCast_apply _ hc j (ValueIdx.ix1 (j 1)) (by
    rw [Shape.rowMajor_val_one, Shape.rowMajor_val_two]
    have h0 : (j 0).val < 1 := (j 0).isLt
    have h1 : (j 0).val = 0 := by omega
    show (j 1).val = (j 0).val * C + (j 1).val
    rw [h1]
    omega), Ideal.multiReduction_add_single x _ h hφ hacc]
  refine sum_block R f _ fun q => ?_
  rw [← hf q]
  refine congrArg x (funext fun a => Fin.ext ?_)
  match a with
  | ⟨0, _⟩ => rfl
  | ⟨1, _⟩ => rfl

/-- A column put under every column, and a row under every row, of a block. -/
theorem spread_column (y : (⟨2, ![512, 1]⟩ : Shape).Idx → EReal) (h : Shape.Broadcasts ⟨2, ![512, 1]⟩ ⟨2, ![512, 1024]⟩) (j : (⟨2, ![512, 1024]⟩ : Shape).Idx) :
    broadcastTo ⟨2, ![512, 1024]⟩ y h j = y (ix2 (j 0) 0) :=
  broadcastTo_apply y h j _ fun a => match a with
    | ⟨0, _⟩ => rfl
    | ⟨1, _⟩ => rfl

theorem spread_row (y : (⟨2, ![1, 1024]⟩ : Shape).Idx → EReal) (h : Shape.Broadcasts ⟨2, ![1, 1024]⟩ ⟨2, ![512, 1024]⟩) (j : (⟨2, ![512, 1024]⟩ : Shape).Idx) :
    broadcastTo ⟨2, ![512, 1024]⟩ y h j = at2 y 0 (j 1).val := by
  rw [at2_of y Nat.one_pos (j 1).isLt]
  exact broadcastTo_apply y h j _ fun a => match a with
    | ⟨0, _⟩ => rfl
    | ⟨1, _⟩ => rfl

section Blocks

open Cert.RmsBwdLastIdeal Cert.RmsBwdLastIdeal.Gen

variable (x : FVec Ideal S512x1024 .f32) (g : FVec Ideal S1x1024 .f32) (d : FVec Ideal S512x1024 .f32)

theorem block_root (j : S512x1.Idx) : k0_pay2 (F := Ideal) x j = root (at2 x (j 0).val) := by
  unfold k0_pay2 root mean
  refine congrArg Ideal.rsqrt (congrArg (fun u : EReal => Ideal.div u len + small) (row_sum _ _ _ _ _ j _ fun q => ?_))
  exact congrArg (fun u : EReal => u * u) (at2_fin x (j 0) q).symm

theorem block_gain (j : S1x1024.Idx) : k0_pay3 (F := Ideal) x d j = gain (at2 x) (at2 d) 512 (j 1).val := by
  unfold k0_pay3 gain share
  refine column_sum _ _ _ _ _ j _ fun q => ?_
  refine (congrArg (fun u : EReal => d (ix2 q (j 1)) * x (ix2 q (j 1)) * u) ((spread_column _ _ _).trans (block_root x _))).trans ?_
  exact congrArg₂ (fun u v : EReal => u * v * root (at2 x q.val)) (at2_fin d q (j 1)).symm (at2_fin x q (j 1)).symm

theorem block_back (j : S512x1024.Idx) : k0_pay4 (F := Ideal) x g d j = back (at2 x (j 0).val) (at2 g 0) (at2 d (j 0).val) (j 1).val := by
  unfold k0_pay4 back
  have e : ∀ q : Fin 1024, broadcastTo S512x1024 g broadcasts_S1x1024_S512x1024 (ix2 (j 0) q) = at2 g 0 q.val := fun q => spread_row _ _ _
  have e1 : broadcastTo S512x1024 g broadcasts_S1x1024_S512x1024 j = at2 g 0 (j 1).val := spread_row _ _ _
  rw [at2_idx x j, at2_idx d j]
  refine congrArg₂ (fun u v : EReal => u - v) (congrArg₂ (fun u v : EReal => u * (v * d j)) ((spread_column _ _ _).trans (block_root x _)) e1)
    (congrArg₂ (fun u v : EReal => x j * u * v) ((spread_column _ _ _).trans (congrArg (fun u : EReal => u * u * u) (block_root x _)))
      ((spread_column _ _ _).trans (congrArg (fun u : EReal => Ideal.div u len) (row_sum _ _ _ _ _ _ _ fun q => ?_))))
  refine (congrArg (fun u : EReal => x (ix2 (j 0) q) * (u * d (ix2 (j 0) q))) (e q)).trans ?_
  exact congrArg₂ (fun u v : EReal => u * (at2 g 0 q.val * v)) (at2_fin x (j 0) q).symm (at2_fin d (j 0) q).symm

variable (X D S : (⟨2, ![8192, 1024]⟩ : Shape).Idx → EReal) (s : FVec Ideal S512x1024 .f32) (o : ℕ)

theorem part_norm (hx : ∀ y, x y = at2 X (o + (y 0).val) (y 1).val) (ho : o + 512 ≤ 8192) (j : S512x1024.Idx) :
    (x j * broadcastTo S512x1024 (k0_pay2 (F := Ideal) x) broadcasts_S512x1_S512x1024 j * broadcastTo S512x1024 g broadcasts_S1x1024_S512x1024 j : EReal)
      = at2 (normed X g) (o + (j 0).val) (j 1).val := by
  have h0 : (j 0).val < 512 := (j 0).isLt
  have hr : broadcastTo S512x1024 (k0_pay2 (F := Ideal) x) broadcasts_S512x1_S512x1024 j = root (at2 X (o + (j 0).val)) :=
    (spread_column _ _ _).trans ((block_root x _).trans (congrArg root (block_row X x o hx (j 0).isLt)))
  have hg : broadcastTo S512x1024 g broadcasts_S1x1024_S512x1024 j = at2 g 0 (j 1).val := spread_row _ _ _
  rw [hr, hg, hx, at2_of (normed X g) (by omega) (j 1).isLt]
  rfl

theorem part_sum (hx : ∀ y, x y = at2 X (o + (y 0).val) (y 1).val) (hs : ∀ y, s y = at2 S (o + (y 0).val) (y 1).val) (ho : o + 512 ≤ 8192) (j : S512x1024.Idx) :
    (s j + x j * broadcastTo S512x1024 (k0_pay2 (F := Ideal) x) broadcasts_S512x1_S512x1024 j * broadcastTo S512x1024 g broadcasts_S1x1024_S512x1024 j : EReal)
      = at2 (sums X g S) (o + (j 0).val) (j 1).val := by
  have h0 : (j 0).val < 512 := (j 0).isLt
  rw [part_norm x g X o hx ho, hs, at2_of S (by omega) (j 1).isLt, at2_of (normed X g) (by omega) (j 1).isLt, at2_of (sums X g S) (by omega) (j 1).isLt]
  rfl

theorem part_back (hx : ∀ y, x y = at2 X (o + (y 0).val) (y 1).val) (hd : ∀ y, d y = at2 D (o + (y 0).val) (y 1).val) (j : S512x1024.Idx) :
    k0_pay4 (F := Ideal) x g d j = back (at2 X (o + (j 0).val)) (at2 g 0) (at2 D (o + (j 0).val)) (j 1).val := by
  refine (block_back x g d j).trans ?_
  rw [block_row X x o hx (j 0).isLt, block_row D d o hd (j 0).isLt]

theorem part_gain (hx : ∀ y, x y = at2 X (o + (y 0).val) (y 1).val) (hd : ∀ y, d y = at2 D (o + (y 0).val) (y 1).val) (j : S1x1024.Idx) :
    k0_pay3 (F := Ideal) x d j = ∑ q ∈ range 512, share (at2 X) (at2 D) (j 1).val (o + q) :=
  (block_gain x d j).trans (block_share X D x d o _ hx hd)

theorem part_adds (hx : ∀ y, x y = at2 X (o + (y 0).val) (y 1).val) (hd : ∀ y, d y = at2 D (o + (y 0).val) (y 1).val)
    (hs : ∀ y, s y = at2 S (o + (y 0).val) (y 1).val) (ho : o + 512 ≤ 8192) (j : S512x1024.Idx) :
    (s j + k0_pay4 (F := Ideal) x g d j : EReal) = at2 (adds X D g S) (o + (j 0).val) (j 1).val := by
  have h0 : (j 0).val < 512 := (j 0).isLt
  rw [part_back x g d X D o hx hd, hs, at2_of S (by omega) (j 1).isLt, at2_of (adds X D g S) (by omega) (j 1).isLt]
  rfl

end Blocks

section Reference

open Cert.RmsBwdFirstReferenceIdeal Cert.RmsBwdFirstReferenceIdeal.Gen Cert.RmsBwdFirstReferenceIdeal.Read

variable (x : FVec Ideal S8192x1024 .f32) (g : FVec Ideal S1x1024 .f32) (d s : FVec Ideal S8192x1024 .f32)

theorem zero_sum (n : ℕ) (f : ℕ → EReal) (k : Fin n → EReal) (h : ∀ q, k q = f q.val) :
    (FloatOps.ofBits (F := Ideal) .f32 0x00000000#32 : EReal) + ∑ q : Fin n, k q = ∑ q ∈ range n, f q :=
  (congrArg₂ (fun u v : EReal => u + v) zero_f32 (sum_block n f k h)).trans (zero_add _)

theorem host_mean (i : S8192x1.Idx) : val_main_v6 (F := Ideal) x i = mean (at2 x (i 0).val) := by
  rw [val_main_v6_apply, val_main_v4_apply, val_main_v2_apply, val_main_v1_apply]
  refine congrArg (fun u : EReal => Ideal.div u len + small) (zero_sum 1024 _ _ fun q => ?_)
  rw [at2_fin x (i 0) q]
  exact congrArg (fun u : EReal => u * u) (congrArg x (eq_ix2 _))

theorem host_root (i : S8192x1.Idx) : val_main_v7 (F := Ideal) x i = root (at2 x (i 0).val) :=
  congrArg Ideal.rsqrt (host_mean x i)

theorem host_norm (i : S8192x1024.Idx) : val_main_v14 (F := Ideal) x g i = norm (at2 x (i 0).val) (at2 g 0) (i 1).val := by
  rw [val_main_v14_apply, val_main_v12_apply, val_main_v11_apply, val_main_v13_apply, host_root]
  unfold norm
  rw [at2_idx x i, at2_of g Nat.one_pos (i 1).isLt]
  exact congrArg (fun u : EReal => x i * root (at2 x (i 0).val) * u) (congrArg g (eq_ix2 _))

theorem host_gain (i : S1x1024.Idx) : val_main_v17 (F := Ideal) x d i = gain (at2 x) (at2 d) 8192 (i 1).val := by
  have h0 : (i 0).val < 1 := (i 0).isLt
  rw [val_main_v17_apply, val_main_v16_apply]
  refine zero_sum 8192 _ _ fun q => ?_
  rw [val_main_v15_apply, val_main_v12_apply, val_main_v11_apply, host_root]
  have e : idx_main_v16 (idx_main_v17 i) q = ix2 q (i 1) := by
    refine (eq_ix2 _).trans (congrArg (ix2 q) (Fin.ext ?_))
    show (i 0).val * 1024 + (i 1).val = (i 1).val
    omega
  unfold share
  rw [e, at2_fin x q (i 1), at2_fin d q (i 1)]
  show (x _ * root (at2 x q.val) * d _ : EReal) = d _ * x _ * root _
  ac_rfl

theorem host_scaled (i : S8192x1024.Idx) : val_main_v24 (F := Ideal) x g d i = root (at2 x (i 0).val) * (at2 g 0 (i 1).val * at2 d (i 0).val (i 1).val) := by
  rw [val_main_v24_apply, val_main_v19_apply, val_main_v18_apply, val_main_v23_apply, host_root, at2_idx d i, at2_of g Nat.one_pos (i 1).isLt,
    (eq_ix2 _ : idx_main_v18 i = ix2 (0 : Fin 1) (i 1))]
  show (d i * g _ * root (at2 x (i 0).val) : EReal) = root _ * (g _ * d i)
  ac_rfl

theorem host_tilt (i : S8192x1024.Idx) : val_main_v30 (F := Ideal) x g d i
    = Ideal.div ((∑ q ∈ range 1024, at2 x (i 0).val q * (at2 g 0 q * at2 d (i 0).val q)) * (half * Ideal.div (root (at2 x (i 0).val)) (mean (at2 x (i 0).val)))) len := by
  rw [val_main_v30_apply, val_main_v29_apply]
  refine (congrArg₂ (fun u v : EReal => u + v) zero_f32 (Fin.sum_univ_one _)).trans ((zero_add _).trans ?_)
  rw [val_main_v28_apply, val_main_v26_apply, val_main_v22_apply, val_main_v21_apply, val_main_v10_apply, val_main_v8_apply, host_root, host_mean]
  refine congrArg (fun u : EReal => Ideal.div (u * (half * Ideal.div (root (at2 x (i 0).val)) (mean (at2 x (i 0).val)))) len) (zero_sum 1024 _ _ fun q => ?_)
  have e : idx_main_v21 (idx_main_v22 (idx_main_v29 (idx_main_v30 i) 0)) q = ix2 (i 0) q := by
    refine (eq_ix2 _).trans (congrArg (fun u => ix2 u q) (Fin.ext ?_))
    show (i 0).val * 1 + 0 = (i 0).val
    omega
  have e2 : val_main_v20 (F := Ideal) x g d (ix2 (n0 := 8192) (n1 := 1024) (i 0) q) = at2 x (i 0).val q.val * (at2 d (i 0).val q.val * at2 g 0 q.val) := by
    rw [val_main_v20_apply, val_main_v19_apply, val_main_v18_apply]
    refine congrArg₂ (fun u v : EReal => u * v) (at2_fin x (i 0) q).symm (congrArg₂ (fun u v : EReal => u * v) (at2_fin d (i 0) q).symm ?_)
    exact at2_place g _ rfl rfl
  rw [e]
  refine e2.trans ?_
  ac_rfl

/-- The reference's gradient of a norm at an element. -/
theorem host_back (i : S8192x1024.Idx) : (val_main_v24 (F := Ideal) x g d i + val_main_v31 (F := Ideal) x g d i + val_main_v33 (F := Ideal) x g d i : EReal)
    = back (at2 x (i 0).val) (at2 g 0) (at2 d (i 0).val) (i 1).val := by
  rw [val_main_v31_apply, val_main_v33_apply, host_tilt, host_scaled]
  unfold back
  rw [at2_idx x i, add_assoc]
  exact congrArg (fun u : EReal => root (at2 x (i 0).val) * (at2 g 0 (i 1).val * at2 d (i 0).val (i 1).val) + u) (twice (at2 x (i 0).val) (x i) _)

theorem host_back_add (i : S8192x1024.Idx) : val_main_v34 (F := Ideal) x g d s i
    = (s i + back (at2 x (i 0).val) (at2 g 0) (at2 d (i 0).val) (i 1).val : EReal) := by
  rw [← host_back, val_main_v34_apply, val_main_v32_apply, val_main_v25_apply]
  show (s i + _ + _ + _ : EReal) = s i + (_ + _ + _)
  simp only [add_assoc]

end Reference

end Cert.Norms

end
-- ==== Proof.RmsFwdValue.lean ====
/- What `RmsFwd` leaves is the reference's array. -/
module

public import proofs.«01_k».proof.Defs
public import proofs.«01_k».proof.Proof.Norms
public import proofs.«01_k».proof.Proof.Gen.RmsFwdIdeal.Value
public import proofs.«01_k».proof.Proof.Gen.RmsFwd.Frame
public import proofs.«01_k».proof.Proof.Gen.RmsFwdReferenceIdeal.Read
public import Idealize.ShloMosaic.Lib.Quiescent
public import Idealize.ShloMosaic.Lib.Claim

@[expose] public section

set_option maxRecDepth 65536

noncomputable section

namespace Cert.RmsFwdIdeal.Block

open Cert.RmsFwdIdeal Cert.RmsFwdIdeal.Gen Cert.Product Cert.Norms
open Idealize.ShloMosaic hiding ix1 ix2 ix3 ix4 eq_ix2
open Idealize.SL.Sem
open Idealize.ShloMosaic.TcCoe Idealize.ShloMosaic.ValueIdx
open Finset (range)

theorem at_0 : ∀ t : Fin grid0.N, win0_0.index t = ![t.val, 0] := by decide +kernel
theorem at_1 : ∀ t : Fin grid0.N, win0_1.index t = ![0, 0] := by decide +kernel
theorem at_2 : ∀ t : Fin grid0.N, win0_2.index t = ![t.val, 0] := by decide +kernel

variable (m : (ℓ : Loc nD τ sig) → Buf (Elt Ideal) ℓ) (c : Dev nD)

/-- The array and the gains. -/
def arr : (⟨2, ![8192, 1024]⟩ : Shape).Idx → EReal := m ((c : Thread nD τ).loc main_arg0)
def gns : (⟨2, ![1, 1024]⟩ : Shape).Idx → EReal := m ((c : Thread nD τ).loc main_arg1)

theorem blk_0 (t : Fin cfg0.N) (y : S512x1024.Idx) : iblk m c 0 t y = at2 (arr m c) (t.val * 512 + (y 0).val) (y 1).val :=
  at2_place (arr m c) (((cfg0.win 0).blk t).view.emb y) (by blk_simp [at_0]) (by blk_simp [at_0])

theorem blk_1 (t : Fin cfg0.N) : iblk m c 1 t = gns m c :=
  block_gains (gns m c) _ fun y => at2_place (gns m c) (((cfg0.win 1).blk t).view.emb y) (by blk_simp [at_1]) (by blk_simp [at_1])

theorem part (t : Fin cfg0.N) (j : S512x1024.Idx) : k0_pay1 (F := Ideal) (iblk m c 0 t) (iblk m c 1 t) j = at2 (normed (arr m c) (gns m c)) (t.val * 512 + (j 0).val) (j 1).val := by
  have hl := lt_of_lt_of_eq t.isLt N_0
  refine Eq.trans ?_ (part_norm _ _ (arr m c) _ (blk_0 m c t) (by omega) j)
  rw [← blk_1 m c t]
  rfl

theorem out_2 : (dats m 0 c).arrAt 2 cfg0.N = normed (arr m c) (gns m c) := by
  refine (dats m 0 c).arrAt_eq_of_covers 2 _ (by decide +kernel) fun t hf y => ?_
  rw [after0_2]
  frame_out
  refine (part m c t y).trans (at2_place _ (((cfg0.win 2).blk t).view.emb y) ?_ ?_).symm
  · blk_simp [at_2]
  · blk_simp [at_2]

open Cert.RmsFwdReferenceIdeal.Read in
theorem ref_norm (x : S8192x1024.Idx → EReal) (g : S1x1024.Idx → EReal) : val_main_v12 (F := Ideal) x g = normed x g :=
  funext fun i => host_norm x g i

end Cert.RmsFwdIdeal.Block

namespace Cert.Proof.RmsFwd

open Idealize.ShloMosaic Idealize.SL.Sem
open Cert.RmsFwdIdeal.Block

theorem frame_bits : Cert.quiescent_RmsFwd (hRmsFwd := Cert.RmsFwd.Gen.facts) := fun m g _ => Cert.RmsFwd.Gen.frame m g

theorem frame_ideal : Cert.quiescent_RmsFwdIdeal (hRmsFwdIdeal := Cert.RmsFwdIdeal.Gen.facts) := fun m g _ => Cert.RmsFwdIdeal.Gen.frame m g

theorem frame_ref : Cert.quiescent_RmsFwdReferenceIdeal (hRmsFwdReferenceIdeal := Cert.RmsFwdReferenceIdeal.Gen.facts) := fun m g _ =>
  (θ_run Cert.RmsFwdReferenceIdeal.defs _ _).mono (fun r h => ⟨fun c => (h c).2, sem_eq_zero_of_no_sems rfl r.2⟩)
    (Cert.RmsFwdReferenceIdeal.Value.run (F := Ideal) m g)

theorem algebraic : Cert.algebraic_RmsFwdIdeal_RmsFwdReferenceIdeal (hRmsFwdIdeal := Cert.RmsFwdIdeal.Gen.facts)
    (hRmsFwdReferenceIdeal := Cert.RmsFwdReferenceIdeal.Gen.facts) := by
  intro m g m' g' _ hargs
  refine ⟨fun c => Cert.Norms.normed (arr m c) (gns m c), ?_, ?_⟩
  · exact (θ_run _ _ _).mono (fun r h c => ⟨(h c).1.trans (out_2 m c), (h c).2⟩) (Cert.RmsFwdIdeal.Value.run_blocks (F := Ideal) m g)
  · refine (θ_run _ _ _).mono (fun r h c => ⟨(h c).1.trans ?_, (h c).2⟩) (Cert.RmsFwdReferenceIdeal.Value.run (F := Ideal) m' g')
    obtain ⟨a0, a1⟩ := hargs c
    rw [Cert.RmsFwdReferenceIdeal.Read.val_main_v12_eq, a0, a1]
    exact ref_norm _ _

end Cert.Proof.RmsFwd

end
-- ==== Proof.ResidMixValue.lean ====
/- What `ResidMix` leaves are the reference's arrays. -/
module

public import proofs.«01_k».proof.Defs
public import proofs.«01_k».proof.Proof.Norms
public import proofs.«01_k».proof.Proof.Gen.ResidMixIdeal.Value
public import proofs.«01_k».proof.Proof.Gen.ResidMix.Frame
public import proofs.«01_k».proof.Proof.Gen.ResidMixReferenceIdeal.Read
public import Idealize.ShloMosaic.Lib.Quiescent
public import Idealize.ShloMosaic.Lib.Claim

@[expose] public section

set_option maxRecDepth 65536

noncomputable section

namespace Cert.ResidMixIdeal.Block

open Cert.ResidMixIdeal Cert.ResidMixIdeal.Gen Cert.Product Cert.Norms
open Idealize.ShloMosaic hiding ix1 ix2 ix3 ix4 eq_ix2
open Idealize.SL.Sem
open Idealize.ShloMosaic.TcCoe Idealize.ShloMosaic.ValueIdx
open Finset (range)

theorem at_0 : ∀ t : Fin grid0.N, win0_0.index t = ![t.val, 0] := by decide +kernel
theorem at_1 : ∀ t : Fin grid0.N, win0_1.index t = ![t.val, 0] := by decide +kernel
theorem at_2 : ∀ t : Fin grid0.N, win0_2.index t = ![0, 0] := by decide +kernel
theorem at_3 : ∀ t : Fin grid0.N, win0_3.index t = ![0, 0] := by decide +kernel
theorem at_4 : ∀ t : Fin grid0.N, win0_4.index t = ![t.val, 0] := by decide +kernel
theorem at_5 : ∀ t : Fin grid0.N, win0_5.index t = ![t.val, 0] := by decide +kernel

variable (m : (ℓ : Loc nD τ sig) → Buf (Elt Ideal) ℓ) (c : Dev nD)

/-- The array that passes by the norm, the normed one, its gains, and the sum's own gains. -/
def side : (⟨2, ![8192, 1024]⟩ : Shape).Idx → EReal := m ((c : Thread nD τ).loc main_arg0)
def arr : (⟨2, ![8192, 1024]⟩ : Shape).Idx → EReal := m ((c : Thread nD τ).loc main_arg1)
def gns : (⟨2, ![1, 1024]⟩ : Shape).Idx → EReal := m ((c : Thread nD τ).loc main_arg2)
def gns2 : (⟨2, ![1, 1024]⟩ : Shape).Idx → EReal := m ((c : Thread nD τ).loc main_arg3)
def sum : (⟨2, ![8192, 1024]⟩ : Shape).Idx → EReal := sums (arr m c) (gns m c) (side m c)

theorem blk_0 (t : Fin cfg0.N) (y : S512x1024.Idx) : iblk m c 0 t y = at2 (side m c) (t.val * 512 + (y 0).val) (y 1).val :=
  at2_place (side m c) (((cfg0.win 0).blk t).view.emb y) (by blk_simp [at_0]) (by blk_simp [at_0])

theorem blk_1 (t : Fin cfg0.N) (y : S512x1024.Idx) : iblk m c 1 t y = at2 (arr m c) (t.val * 512 + (y 0).val) (y 1).val :=
  at2_place (arr m c) (((cfg0.win 1).blk t).view.emb y) (by blk_simp [at_1]) (by blk_simp [at_1])

theorem blk_2 (t : Fin cfg0.N) : iblk m c 2 t = gns m c :=
  block_gains (gns m c) _ fun y => at2_place (gns m c) (((cfg0.win 2).blk t).view.emb y) (by blk_simp [at_2]) (by blk_simp [at_2])

theorem blk_3 (t : Fin cfg0.N) : iblk m c 3 t = gns2 m c :=
  block_gains (gns2 m c) _ fun y => at2_place (gns2 m c) (((cfg0.win 3).blk t).view.emb y) (by blk_simp [at_3]) (by blk_simp [at_3])

/-- The sum, as the point keeps it. -/
def first (t : Fin cfg0.N) : FVec Ideal S512x1024 .f32 := k0_pay1 (F := Ideal) (iblk m c 1 t) (iblk m c 0 t) (iblk m c 2 t)

theorem part (t : Fin cfg0.N) (j : S512x1024.Idx) : first m c t j = at2 (sum m c) (t.val * 512 + (j 0).val) (j 1).val := by
  have hl := lt_of_lt_of_eq t.isLt N_0
  refine Eq.trans ?_ (part_sum _ _ (arr m c) (side m c) _ _ (blk_1 m c t) (blk_0 m c t) (by omega) j)
  rw [← blk_2 m c t]
  rfl

theorem part2 (t : Fin cfg0.N) (j : S512x1024.Idx) : k0_pay2 (F := Ideal) (iblk m c 1 t) (iblk m c 0 t) (iblk m c 2 t) (iblk m c 3 t) j = at2 (normed (sum m c) (gns2 m c)) (t.val * 512 + (j 0).val) (j 1).val := by
  have hl := lt_of_lt_of_eq t.isLt N_0
  refine Eq.trans ?_ (part_norm (first m c t) _ (sum m c) _ (part m c t) (by omega) j)
  rw [← blk_3 m c t]
  rfl

theorem out_4 : (dats m 0 c).arrAt 4 cfg0.N = sum m c := by
  refine (dats m 0 c).arrAt_eq_of_covers 4 _ (by decide +kernel) fun t hf y => ?_
  rw [after0_4]
  frame_out
  refine (part m c t y).trans (at2_place _ (((cfg0.win 4).blk t).view.emb y) ?_ ?_).symm
  · blk_simp [at_4]
  · blk_simp [at_4]

theorem out_5 : (dats m 0 c).arrAt 5 cfg0.N = normed (sum m c) (gns2 m c) := by
  refine (dats m 0 c).arrAt_eq_of_covers 5 _ (by decide +kernel) fun t hf y => ?_
  rw [after0_5]
  frame_out
  refine (part2 m c t y).trans (at2_place _ (((cfg0.win 5).blk t).view.emb y) ?_ ?_).symm
  · blk_simp [at_5]
  · blk_simp [at_5]

open Cert.ResidMixReferenceIdeal.Read in
theorem ref_sum (s x : S8192x1024.Idx → EReal) (g : S1x1024.Idx → EReal) : val_main_v12 (F := Ideal) s x g = sums x g s :=
  funext fun i => congrArg (fun u : EReal => s i + u) (host_norm x g i)

open Cert.ResidMixReferenceIdeal.Read in
theorem ref_norm (s x : S8192x1024.Idx → EReal) (g g2 : S1x1024.Idx → EReal) : val_main_v25 (F := Ideal) s x g g2 = normed (sums x g s) g2 :=
  (funext fun i => host_norm (val_main_v12 (F := Ideal) s x g) g2 i : _ = normed (val_main_v12 (F := Ideal) s x g) g2).trans (by rw [ref_sum])

end Cert.ResidMixIdeal.Block

namespace Cert.Proof.ResidMix

open Idealize.ShloMosaic Idealize.SL.Sem
open Cert.ResidMixIdeal.Block

theorem frame_bits : Cert.quiescent_ResidMix (hResidMix := Cert.ResidMix.Gen.facts) := fun m g _ => Cert.ResidMix.Gen.frame m g

theorem frame_ideal : Cert.quiescent_ResidMixIdeal (hResidMixIdeal := Cert.ResidMixIdeal.Gen.facts) := fun m g _ => Cert.ResidMixIdeal.Gen.frame m g

theorem frame_ref : Cert.quiescent_ResidMixReferenceIdeal (hResidMixReferenceIdeal := Cert.ResidMixReferenceIdeal.Gen.facts) := fun m g _ =>
  (θ_run Cert.ResidMixReferenceIdeal.defs _ _).mono (fun r h => ⟨fun c => (h c).2.2, sem_eq_zero_of_no_sems rfl r.2⟩)
    (Cert.ResidMixReferenceIdeal.Value.run (F := Ideal) m g)

theorem algebraic : Cert.algebraic_ResidMixIdeal_ResidMixReferenceIdeal (hResidMixIdeal := Cert.ResidMixIdeal.Gen.facts)
    (hResidMixReferenceIdeal := Cert.ResidMixReferenceIdeal.Gen.facts) := by
  intro m g m' g' _ hargs
  refine ⟨fun c => sum m c, fun c => Cert.Norms.normed (sum m c) (gns2 m c), ?_, ?_⟩
  · exact (θ_run _ _ _).mono (fun r h c => ⟨(h c).1.trans (out_4 m c), (h c).2.1.trans (out_5 m c), (h c).2.2⟩) (Cert.ResidMixIdeal.Value.run_blocks (F := Ideal) m g)
  · refine (θ_run _ _ _).mono (fun r h c => ⟨(h c).1.trans ?_, (h c).2.1.trans ?_, (h c).2.2⟩) (Cert.ResidMixReferenceIdeal.Value.run (F := Ideal) m' g')
    · obtain ⟨a0, a1, a2, a3⟩ := hargs c
      rw [Cert.ResidMixReferenceIdeal.Read.val_main_v12_eq, a0, a1, a2]
      exact ref_sum _ _ _
    · obtain ⟨a0, a1, a2, a3⟩ := hargs c
      rw [Cert.ResidMixReferenceIdeal.Read.val_main_v25_eq, a0, a1, a2, a3]
      exact ref_norm _ _ _ _

end Cert.Proof.ResidMix

end
-- ==== Proof.ResidLastValue.lean ====
/- What `ResidLast` leaves are the reference's arrays. -/
module

public import proofs.«01_k».proof.Defs
public import proofs.«01_k».proof.Proof.Norms
public import proofs.«01_k».proof.Proof.Gen.ResidLastIdeal.Value
public import proofs.«01_k».proof.Proof.Gen.ResidLast.Frame
public import proofs.«01_k».proof.Proof.Gen.ResidLastReferenceIdeal.Read
public import Idealize.ShloMosaic.Lib.Quiescent
public import Idealize.ShloMosaic.Lib.Claim

@[expose] public section

set_option maxRecDepth 65536

noncomputable section

namespace Cert.ResidLastIdeal.Block

open Cert.ResidLastIdeal Cert.ResidLastIdeal.Gen Cert.Product Cert.Norms
open Idealize.ShloMosaic hiding ix1 ix2 ix3 ix4 eq_ix2
open Idealize.SL.Sem
open Idealize.ShloMosaic.TcCoe Idealize.ShloMosaic.ValueIdx
open Finset (range)

theorem at_0 : ∀ t : Fin grid0.N, win0_0.index t = ![t.val, 0] := by decide +kernel
theorem at_1 : ∀ t : Fin grid0.N, win0_1.index t = ![t.val, 0] := by decide +kernel
theorem at_2 : ∀ t : Fin grid0.N, win0_2.index t = ![0, 0] := by decide +kernel
theorem at_3 : ∀ t : Fin grid0.N, win0_3.index t = ![t.val, 0] := by decide +kernel

variable (m : (ℓ : Loc nD τ sig) → Buf (Elt Ideal) ℓ) (c : Dev nD)

/-- The array that passes by the norm, the normed one and the gains. -/
def side : (⟨2, ![8192, 1024]⟩ : Shape).Idx → EReal := m ((c : Thread nD τ).loc main_arg0)
def arr : (⟨2, ![8192, 1024]⟩ : Shape).Idx → EReal := m ((c : Thread nD τ).loc main_arg1)
def gns : (⟨2, ![1, 1024]⟩ : Shape).Idx → EReal := m ((c : Thread nD τ).loc main_arg2)

theorem blk_0 (t : Fin cfg0.N) (y : S512x1024.Idx) : iblk m c 0 t y = at2 (side m c) (t.val * 512 + (y 0).val) (y 1).val :=
  at2_place (side m c) (((cfg0.win 0).blk t).view.emb y) (by blk_simp [at_0]) (by blk_simp [at_0])

theorem blk_1 (t : Fin cfg0.N) (y : S512x1024.Idx) : iblk m c 1 t y = at2 (arr m c) (t.val * 512 + (y 0).val) (y 1).val :=
  at2_place (arr m c) (((cfg0.win 1).blk t).view.emb y) (by blk_simp [at_1]) (by blk_simp [at_1])

theorem blk_2 (t : Fin cfg0.N) : iblk m c 2 t = gns m c :=
  block_gains (gns m c) _ fun y => at2_place (gns m c) (((cfg0.win 2).blk t).view.emb y) (by blk_simp [at_2]) (by blk_simp [at_2])

theorem part (t : Fin cfg0.N) (j : S512x1024.Idx) : k0_pay1 (F := Ideal) (iblk m c 1 t) (iblk m c 0 t) (iblk m c 2 t) j = at2 (sums (arr m c) (gns m c) (side m c)) (t.val * 512 + (j 0).val) (j 1).val := by
  have hl := lt_of_lt_of_eq t.isLt N_0
  refine Eq.trans ?_ (part_sum _ _ (arr m c) (side m c) _ _ (blk_1 m c t) (blk_0 m c t) (by omega) j)
  rw [← blk_2 m c t]
  rfl

theorem out_3 : (dats m 0 c).arrAt 3 cfg0.N = sums (arr m c) (gns m c) (side m c) := by
  refine (dats m 0 c).arrAt_eq_of_covers 3 _ (by decide +kernel) fun t hf y => ?_
  rw [after0_3]
  frame_out
  refine (part m c t y).trans (at2_place _ (((cfg0.win 3).blk t).view.emb y) ?_ ?_).symm
  · blk_simp [at_3]
  · blk_simp [at_3]

open Cert.ResidLastReferenceIdeal.Read in
theorem ref_sum (s x : S8192x1024.Idx → EReal) (g : S1x1024.Idx → EReal) : val_main_v12 (F := Ideal) s x g = sums x g s :=
  funext fun i => congrArg (fun u : EReal => s i + u) (host_norm x g i)

end Cert.ResidLastIdeal.Block

namespace Cert.Proof.ResidLast

open Idealize.ShloMosaic Idealize.SL.Sem
open Cert.ResidLastIdeal.Block

theorem frame_bits : Cert.quiescent_ResidLast (hResidLast := Cert.ResidLast.Gen.facts) := fun m g _ => Cert.ResidLast.Gen.frame m g

theorem frame_ideal : Cert.quiescent_ResidLastIdeal (hResidLastIdeal := Cert.ResidLastIdeal.Gen.facts) := fun m g _ => Cert.ResidLastIdeal.Gen.frame m g

theorem frame_ref : Cert.quiescent_ResidLastReferenceIdeal (hResidLastReferenceIdeal := Cert.ResidLastReferenceIdeal.Gen.facts) := fun m g _ =>
  (θ_run Cert.ResidLastReferenceIdeal.defs _ _).mono (fun r h => ⟨fun c => (h c).2, sem_eq_zero_of_no_sems rfl r.2⟩)
    (Cert.ResidLastReferenceIdeal.Value.run (F := Ideal) m g)

theorem algebraic : Cert.algebraic_ResidLastIdeal_ResidLastReferenceIdeal (hResidLastIdeal := Cert.ResidLastIdeal.Gen.facts)
    (hResidLastReferenceIdeal := Cert.ResidLastReferenceIdeal.Gen.facts) := by
  intro m g m' g' _ hargs
  refine ⟨fun c => Cert.Norms.sums (arr m c) (gns m c) (side m c), ?_, ?_⟩
  · exact (θ_run _ _ _).mono (fun r h c => ⟨(h c).1.trans (out_3 m c), (h c).2⟩) (Cert.ResidLastIdeal.Value.run_blocks (F := Ideal) m g)
  · refine (θ_run _ _ _).mono (fun r h c => ⟨(h c).1.trans ?_, (h c).2⟩) (Cert.ResidLastReferenceIdeal.Value.run (F := Ideal) m' g')
    obtain ⟨a0, a1, a2⟩ := hargs c
    rw [Cert.ResidLastReferenceIdeal.Read.val_main_v12_eq, a0, a1, a2]
    exact ref_sum _ _ _

end Cert.Proof.ResidLast

end
-- ==== Proof.RmsBwdLastValue.lean ====
/- What `RmsBwdLast` leaves are the reference's arrays. -/
module

public import proofs.«01_k».proof.Defs
public import proofs.«01_k».proof.Proof.Norms
public import proofs.«01_k».proof.Proof.Gen.RmsBwdLastIdeal.Value
public import proofs.«01_k».proof.Proof.Gen.RmsBwdLast.Frame
public import proofs.«01_k».proof.Proof.Gen.RmsBwdLastReferenceIdeal.Read
public import Idealize.ShloMosaic.Lib.Quiescent
public import Idealize.ShloMosaic.Lib.Claim

@[expose] public section

set_option maxRecDepth 65536

noncomputable section

namespace Cert.RmsBwdLastIdeal.Block

open Cert.RmsBwdLastIdeal Cert.RmsBwdLastIdeal.Gen Cert.Product Cert.Norms
open Idealize.ShloMosaic hiding ix1 ix2 ix3 ix4 eq_ix2
open Idealize.SL.Sem
open Idealize.ShloMosaic.TcCoe Idealize.ShloMosaic.ValueIdx
open Finset (range)

theorem at_0 : ∀ t : Fin grid0.N, win0_0.index t = ![t.val, 0] := by decide +kernel
theorem at_1 : ∀ t : Fin grid0.N, win0_1.index t = ![0, 0] := by decide +kernel
theorem at_2 : ∀ t : Fin grid0.N, win0_2.index t = ![t.val, 0] := by decide +kernel
theorem at_3 : ∀ t : Fin grid0.N, win0_3.index t = ![t.val, 0] := by decide +kernel
theorem at_4 : ∀ t : Fin grid0.N, win0_4.index t = ![0, 0] := by decide +kernel

variable (m : (ℓ : Loc nD τ sig) → Buf (Elt Ideal) ℓ) (c : Dev nD)

/-- The normed array, its gains and the cotangent. -/
def arr : (⟨2, ![8192, 1024]⟩ : Shape).Idx → EReal := m ((c : Thread nD τ).loc main_arg0)
def gns : (⟨2, ![1, 1024]⟩ : Shape).Idx → EReal := m ((c : Thread nD τ).loc main_arg1)
def cot : (⟨2, ![8192, 1024]⟩ : Shape).Idx → EReal := m ((c : Thread nD τ).loc main_arg2)

theorem blk_0 (t : Fin cfg0.N) (y : S512x1024.Idx) : iblk m c 0 t y = at2 (arr m c) (t.val * 512 + (y 0).val) (y 1).val :=
  at2_place (arr m c) (((cfg0.win 0).blk t).view.emb y) (by blk_simp [at_0]) (by blk_simp [at_0])

theorem blk_1 (t : Fin cfg0.N) : iblk m c 1 t = gns m c :=
  block_gains (gns m c) _ fun y => at2_place (gns m c) (((cfg0.win 1).blk t).view.emb y) (by blk_simp [at_1]) (by blk_simp [at_1])

theorem blk_2 (t : Fin cfg0.N) (y : S512x1024.Idx) : iblk m c 2 t y = at2 (cot m c) (t.val * 512 + (y 0).val) (y 1).val :=
  at2_place (cot m c) (((cfg0.win 2).blk t).view.emb y) (by blk_simp [at_2]) (by blk_simp [at_2])

theorem held_3 (t : Fin cfg0.N) (j : S512x1024.Idx) : (outsAt0 m c t.val t.isLt).1 j
    = back (at2 (arr m c) (t.val * 512 + (j 0).val)) (at2 (gns m c) 0) (at2 (cot m c) (t.val * 512 + (j 0).val)) (j 1).val := by
  have hl := lt_of_lt_of_eq t.isLt N_0
  by_cases h : t.val % 16 = 0
  · rw [outsAt0_A m c t h (by omega)]
    frame_out
    exact (part_back _ _ _ (arr m c) (cot m c) _ (blk_0 m c t) (blk_2 m c t) j).trans (by rw [blk_1])
  · rw [outsAt0_B m c t h (by omega)]
    frame_out
    exact (part_back _ _ _ (arr m c) (cot m c) _ (blk_0 m c t) (blk_2 m c t) j).trans (by rw [blk_1])

theorem held_4 (t : Fin cfg0.N) (ht : t.val % 16 = 15) (j : S1x1024.Idx) : (outsAt0 m c t.val t.isLt).2 j = gain (at2 (arr m c)) (at2 (cot m c)) 8192 (j 1).val := by
  refine run_total (fun n h => (outsAt0 m c n h).2) 16 512 (fun _ j q => share (at2 (arr m c)) (at2 (cot m c)) (j 1).val q) (fun t h j => ?_) (fun t h j => ?_) t ht j
  · have hl := lt_of_lt_of_eq t.isLt N_0
    have e : t.val % 16 = t.val := Nat.mod_eq_of_lt hl
    dsimp only
    rw [e, outsAt0_A m c t h (by omega)]
    frame_out
    exact part_gain _ _ (arr m c) (cot m c) _ (blk_0 m c t) (blk_2 m c t) j
  · have hl := lt_of_lt_of_eq t.isLt N_0
    have e : t.val % 16 = t.val := Nat.mod_eq_of_lt hl
    dsimp only
    rw [e, outsAt0_B m c t h (by omega)]
    frame_out
    unfold k0_pay1
    rw [shapeCast_self]
    exact congrArg (fun u : EReal => (outsAt0 m c (t.val - 1) _).2 j + u) (part_gain _ _ (arr m c) (cot m c) _ (blk_0 m c t) (blk_2 m c t) j)

theorem out_3 : (dats m 0 c).arrAt 3 cfg0.N = backs (arr m c) (cot m c) (gns m c) := by
  refine (dats m 0 c).arrAt_eq_of_covers 3 _ (by decide +kernel) fun t hf y => ?_
  have e0 : ((((cfg0.win 3).blk t).view.emb y) 0 : ℕ) = t.val * 512 + (y 0).val := by blk_simp [at_3]
  have e1 : ((((cfg0.win 3).blk t).view.emb y) 1 : ℕ) = (y 1).val := by blk_simp [at_3]
  unfold backs
  rw [e0, e1]
  exact held_3 m c t y

theorem out_4 : (dats m 0 c).arrAt 4 cfg0.N = gains (arr m c) (cot m c) := by
  refine (dats m 0 c).arrAt_eq_of_covers 4 _ (by decide +kernel) fun t hf y => ?_
  have e1 : ((((cfg0.win 4).blk t).view.emb y) 1 : ℕ) = (y 1).val := by blk_simp [at_4]
  unfold gains
  rw [e1]
  exact held_4 m c t ((flush0_4 t).mp hf) y

open Cert.RmsBwdLastReferenceIdeal.Read in
theorem ref_back (x : S8192x1024.Idx → EReal) (g : S1x1024.Idx → EReal) (d : S8192x1024.Idx → EReal) : val_main_v34 (F := Ideal) x g d = backs x d g :=
  funext fun i => host_back x g d i

open Cert.RmsBwdLastReferenceIdeal.Read in
theorem ref_gain (x d : S8192x1024.Idx → EReal) : val_main_v17 (F := Ideal) x d = gains x d :=
  funext fun i => host_gain x d i

end Cert.RmsBwdLastIdeal.Block

namespace Cert.Proof.RmsBwdLast

open Idealize.ShloMosaic Idealize.SL.Sem
open Cert.RmsBwdLastIdeal.Block

theorem frame_bits : Cert.quiescent_RmsBwdLast (hRmsBwdLast := Cert.RmsBwdLast.Gen.facts) := fun m g _ => Cert.RmsBwdLast.Gen.frame m g

theorem frame_ideal : Cert.quiescent_RmsBwdLastIdeal (hRmsBwdLastIdeal := Cert.RmsBwdLastIdeal.Gen.facts) := fun m g _ => Cert.RmsBwdLastIdeal.Gen.frame m g

theorem frame_ref : Cert.quiescent_RmsBwdLastReferenceIdeal (hRmsBwdLastReferenceIdeal := Cert.RmsBwdLastReferenceIdeal.Gen.facts) := fun m g _ =>
  (θ_run Cert.RmsBwdLastReferenceIdeal.defs _ _).mono (fun r h => ⟨fun c => (h c).2.2, sem_eq_zero_of_no_sems rfl r.2⟩)
    (Cert.RmsBwdLastReferenceIdeal.Value.run (F := Ideal) m g)

theorem algebraic : Cert.algebraic_RmsBwdLastIdeal_RmsBwdLastReferenceIdeal (hRmsBwdLastIdeal := Cert.RmsBwdLastIdeal.Gen.facts)
    (hRmsBwdLastReferenceIdeal := Cert.RmsBwdLastReferenceIdeal.Gen.facts) := by
  intro m g m' g' _ hargs
  refine ⟨fun c => Cert.Norms.backs (arr m c) (cot m c) (gns m c), fun c => Cert.Norms.gains (arr m c) (cot m c), ?_, ?_⟩
  · exact (θ_run _ _ _).mono (fun r h c => ⟨(h c).1.trans (out_3 m c), (h c).2.1.trans (out_4 m c), (h c).2.2⟩) (Cert.RmsBwdLastIdeal.Value.run_blocks (F := Ideal) m g)
  · refine (θ_run _ _ _).mono (fun r h c => ⟨(h c).1.trans ?_, (h c).2.1.trans ?_, (h c).2.2⟩) (Cert.RmsBwdLastReferenceIdeal.Value.run (F := Ideal) m' g')
    · obtain ⟨a0, a1, a2⟩ := hargs c
      rw [Cert.RmsBwdLastReferenceIdeal.Read.val_main_v34_eq, a0, a1, a2]
      exact ref_back _ _ _
    · obtain ⟨a0, a1, a2⟩ := hargs c
      rw [Cert.RmsBwdLastReferenceIdeal.Read.val_main_v17_eq, a0, a2]
      exact ref_gain _ _

end Cert.Proof.RmsBwdLast

end
-- ==== Proof.RmsBwdMidValue.lean ====
/- What `RmsBwdMid` leaves are the reference's arrays. -/
module

public import proofs.«01_k».proof.Defs
public import proofs.«01_k».proof.Proof.Norms
public import proofs.«01_k».proof.Proof.Gen.RmsBwdMidIdeal.Value
public import proofs.«01_k».proof.Proof.Gen.RmsBwdMid.Frame
public import proofs.«01_k».proof.Proof.Gen.RmsBwdMidReferenceIdeal.Read
public import Idealize.ShloMosaic.Lib.Quiescent
public import Idealize.ShloMosaic.Lib.Claim

@[expose] public section

set_option maxRecDepth 65536

noncomputable section

namespace Cert.RmsBwdMidIdeal.Block

open Cert.RmsBwdMidIdeal Cert.RmsBwdMidIdeal.Gen Cert.Product Cert.Norms
open Idealize.ShloMosaic hiding ix1 ix2 ix3 ix4 eq_ix2
open Idealize.SL.Sem
open Idealize.ShloMosaic.TcCoe Idealize.ShloMosaic.ValueIdx
open Finset (range)

theorem at_0 : ∀ t : Fin grid0.N, win0_0.index t = ![t.val, 0] := by decide +kernel
theorem at_1 : ∀ t : Fin grid0.N, win0_1.index t = ![0, 0] := by decide +kernel
theorem at_2 : ∀ t : Fin grid0.N, win0_2.index t = ![t.val, 0] := by decide +kernel
theorem at_3 : ∀ t : Fin grid0.N, win0_3.index t = ![t.val, 0] := by decide +kernel
theorem at_4 : ∀ t : Fin grid0.N, win0_4.index t = ![t.val, 0] := by decide +kernel
theorem at_5 : ∀ t : Fin grid0.N, win0_5.index t = ![0, 0] := by decide +kernel
theorem at_6 : ∀ t : Fin grid0.N, win0_6.index t = ![t.val, 0] := by decide +kernel
theorem at_7 : ∀ t : Fin grid0.N, win0_7.index t = ![0, 0] := by decide +kernel
theorem at_8 : ∀ t : Fin grid0.N, win0_8.index t = ![t.val, 0] := by decide +kernel
theorem at_9 : ∀ t : Fin grid0.N, win0_9.index t = ![0, 0] := by decide +kernel

variable (m : (ℓ : Loc nD τ sig) → Buf (Elt Ideal) ℓ) (c : Dev nD)

/-- The normed array, its gains, the cotangent and the array that passes by the norm. -/
def arr : (⟨2, ![8192, 1024]⟩ : Shape).Idx → EReal := m ((c : Thread nD τ).loc main_arg0)
def gns : (⟨2, ![1, 1024]⟩ : Shape).Idx → EReal := m ((c : Thread nD τ).loc main_arg1)
def cot : (⟨2, ![8192, 1024]⟩ : Shape).Idx → EReal := m ((c : Thread nD τ).loc main_arg2)
def side : (⟨2, ![8192, 1024]⟩ : Shape).Idx → EReal := m ((c : Thread nD τ).loc main_arg3)

/-- The second normed array and its gains; the second norm's cotangent is the first's gradient. -/
def arr2 : (⟨2, ![8192, 1024]⟩ : Shape).Idx → EReal := m ((c : Thread nD τ).loc main_arg4)
def gns2 : (⟨2, ![1, 1024]⟩ : Shape).Idx → EReal := m ((c : Thread nD τ).loc main_arg5)
def cot2 : (⟨2, ![8192, 1024]⟩ : Shape).Idx → EReal := adds (arr m c) (cot m c) (gns m c) (side m c)

theorem blk_0 (t : Fin cfg0.N) (y : S512x1024.Idx) : iblk m c 0 t y = at2 (arr m c) (t.val * 512 + (y 0).val) (y 1).val :=
  at2_place (arr m c) (((cfg0.win 0).blk t).view.emb y) (by blk_simp [at_0]) (by blk_simp [at_0])

theorem blk_1 (t : Fin cfg0.N) : iblk m c 1 t = gns m c :=
  block_gains (gns m c) _ fun y => at2_place (gns m c) (((cfg0.win 1).blk t).view.emb y) (by blk_simp [at_1]) (by blk_simp [at_1])

theorem blk_2 (t : Fin cfg0.N) (y : S512x1024.Idx) : iblk m c 2 t y = at2 (cot m c) (t.val * 512 + (y 0).val) (y 1).val :=
  at2_place (cot m c) (((cfg0.win 2).blk t).view.emb y) (by blk_simp [at_2]) (by blk_simp [at_2])

theorem blk_3 (t : Fin cfg0.N) (y : S512x1024.Idx) : iblk m c 3 t y = at2 (side m c) (t.val * 512 + (y 0).val) (y 1).val :=
  at2_place (side m c) (((cfg0.win 3).blk t).view.emb y) (by blk_simp [at_3]) (by blk_simp [at_3])

theorem blk_4 (t : Fin cfg0.N) (y : S512x1024.Idx) : iblk m c 4 t y = at2 (arr2 m c) (t.val * 512 + (y 0).val) (y 1).val :=
  at2_place (arr2 m c) (((cfg0.win 4).blk t).view.emb y) (by blk_simp [at_4]) (by blk_simp [at_4])

theorem blk_5 (t : Fin cfg0.N) : iblk m c 5 t = gns2 m c :=
  block_gains (gns2 m c) _ fun y => at2_place (gns2 m c) (((cfg0.win 5).blk t).view.emb y) (by blk_simp [at_5]) (by blk_simp [at_5])

/-- The first norm's gradient, as the point keeps it. -/
def first (t : Fin cfg0.N) : FVec Ideal S512x1024 .f32 := k0_pay4 (F := Ideal) (iblk m c 0 t) (iblk m c 1 t) (iblk m c 2 t) (iblk m c 3 t)

theorem blk_first (t : Fin cfg0.N) (j : S512x1024.Idx) : first m c t j
    = at2 (cot2 m c) (t.val * 512 + (j 0).val) (j 1).val := by
  have hl := lt_of_lt_of_eq t.isLt N_0
  refine Eq.trans ?_ (part_adds _ _ _ (arr m c) (cot m c) (side m c) _ _ (blk_0 m c t) (blk_2 m c t) (blk_3 m c t) (by omega) j)
  rw [← blk_1 m c t]
  rfl

theorem held_6 (t : Fin cfg0.N) (j : S512x1024.Idx) : (outsAt0 m c t.val t.isLt).1 j
    = at2 (cot2 m c) (t.val * 512 + (j 0).val) (j 1).val := by
  have hl := lt_of_lt_of_eq t.isLt N_0
  by_cases h : t.val % 16 = 0
  · rw [outsAt0_A m c t h (by omega) h (by omega)]
    frame_out
    exact blk_first m c t j
  · rw [outsAt0_B m c t h (by omega) h (by omega)]
    frame_out
    exact blk_first m c t j

theorem held_7 (t : Fin cfg0.N) (ht : t.val % 16 = 15) (j : S1x1024.Idx) : (outsAt0 m c t.val t.isLt).2.1 j = gain (at2 (arr m c)) (at2 (cot m c)) 8192 (j 1).val := by
  refine run_total (fun n h => (outsAt0 m c n h).2.1) 16 512 (fun _ j q => share (at2 (arr m c)) (at2 (cot m c)) (j 1).val q) (fun t h j => ?_) (fun t h j => ?_) t ht j
  · have hl := lt_of_lt_of_eq t.isLt N_0
    have e : t.val % 16 = t.val := Nat.mod_eq_of_lt hl
    dsimp only
    rw [e, outsAt0_A m c t h (by omega) h (by omega)]
    frame_out
    exact part_gain _ _ (arr m c) (cot m c) _ (blk_0 m c t) (blk_2 m c t) j
  · have hl := lt_of_lt_of_eq t.isLt N_0
    have e : t.val % 16 = t.val := Nat.mod_eq_of_lt hl
    dsimp only
    rw [e, outsAt0_B m c t h (by omega) h (by omega)]
    frame_out
    unfold k0_pay5
    rw [shapeCast_self]
    exact congrArg (fun u : EReal => (outsAt0 m c (t.val - 1) _).2.1 j + u) (part_gain _ _ (arr m c) (cot m c) _ (blk_0 m c t) (blk_2 m c t) j)

theorem held_8 (t : Fin cfg0.N) (j : S512x1024.Idx) : (outsAt0 m c t.val t.isLt).2.2.1 j
    = back (at2 (arr2 m c) (t.val * 512 + (j 0).val)) (at2 (gns2 m c) 0) (at2 (cot2 m c) (t.val * 512 + (j 0).val)) (j 1).val := by
  have hl := lt_of_lt_of_eq t.isLt N_0
  by_cases h : t.val % 16 = 0
  · rw [outsAt0_A m c t h (by omega) h (by omega)]
    frame_out
    exact (part_back _ _ (first m c t) (arr2 m c) (cot2 m c) _ (blk_4 m c t) (blk_first m c t) j).trans (by rw [blk_5])
  · rw [outsAt0_B m c t h (by omega) h (by omega)]
    frame_out
    exact (part_back _ _ (first m c t) (arr2 m c) (cot2 m c) _ (blk_4 m c t) (blk_first m c t) j).trans (by rw [blk_5])

theorem held_9 (t : Fin cfg0.N) (ht : t.val % 16 = 15) (j : S1x1024.Idx) : (outsAt0 m c t.val t.isLt).2.2.2 j = gain (at2 (arr2 m c)) (at2 (cot2 m c)) 8192 (j 1).val := by
  refine run_total (fun n h => (outsAt0 m c n h).2.2.2) 16 512 (fun _ j q => share (at2 (arr2 m c)) (at2 (cot2 m c)) (j 1).val q) (fun t h j => ?_) (fun t h j => ?_) t ht j
  · have hl := lt_of_lt_of_eq t.isLt N_0
    have e : t.val % 16 = t.val := Nat.mod_eq_of_lt hl
    dsimp only
    rw [e, outsAt0_A m c t h (by omega) h (by omega)]
    frame_out
    exact part_gain _ (first m c t) (arr2 m c) (cot2 m c) _ (blk_4 m c t) (blk_first m c t) j
  · have hl := lt_of_lt_of_eq t.isLt N_0
    have e : t.val % 16 = t.val := Nat.mod_eq_of_lt hl
    dsimp only
    rw [e, outsAt0_B m c t h (by omega) h (by omega)]
    frame_out
    unfold k0_pay1
    rw [shapeCast_self]
    exact congrArg (fun u : EReal => (outsAt0 m c (t.val - 1) _).2.2.2 j + u) (part_gain _ (first m c t) (arr2 m c) (cot2 m c) _ (blk_4 m c t) (blk_first m c t) j)

theorem out_6 : (dats m 0 c).arrAt 6 cfg0.N = cot2 m c := by
  refine (dats m 0 c).arrAt_eq_of_covers 6 _ (by decide +kernel) fun t hf y => ?_
  refine (held_6 m c t y).trans (at2_place _ (((cfg0.win 6).blk t).view.emb y) ?_ ?_).symm
  · blk_simp [at_6]
  · blk_simp [at_6]

theorem out_7 : (dats m 0 c).arrAt 7 cfg0.N = gains (arr m c) (cot m c) := by
  refine (dats m 0 c).arrAt_eq_of_covers 7 _ (by decide +kernel) fun t hf y => ?_
  have e1 : ((((cfg0.win 7).blk t).view.emb y) 1 : ℕ) = (y 1).val := by blk_simp [at_7]
  unfold gains
  rw [e1]
  exact held_7 m c t ((flush0_7 t).mp hf) y

theorem out_8 : (dats m 0 c).arrAt 8 cfg0.N = backs (arr2 m c) (cot2 m c) (gns2 m c) := by
  refine (dats m 0 c).arrAt_eq_of_covers 8 _ (by decide +kernel) fun t hf y => ?_
  have e0 : ((((cfg0.win 8).blk t).view.emb y) 0 : ℕ) = t.val * 512 + (y 0).val := by blk_simp [at_8]
  have e1 : ((((cfg0.win 8).blk t).view.emb y) 1 : ℕ) = (y 1).val := by blk_simp [at_8]
  unfold backs
  rw [e0, e1]
  exact held_8 m c t y

theorem out_9 : (dats m 0 c).arrAt 9 cfg0.N = gains (arr2 m c) (cot2 m c) := by
  refine (dats m 0 c).arrAt_eq_of_covers 9 _ (by decide +kernel) fun t hf y => ?_
  have e1 : ((((cfg0.win 9).blk t).view.emb y) 1 : ℕ) = (y 1).val := by blk_simp [at_9]
  unfold gains
  rw [e1]
  exact held_9 m c t ((flush0_9 t).mp hf) y

open Cert.RmsBwdMidReferenceIdeal.Read in
theorem ref_back (x : S8192x1024.Idx → EReal) (g : S1x1024.Idx → EReal) (d s : S8192x1024.Idx → EReal) : val_main_v34 (F := Ideal) x g d s = adds x d g s :=
  funext fun i => host_back_add x g d s i

open Cert.RmsBwdMidReferenceIdeal.Read in
theorem ref_gain (x d : S8192x1024.Idx → EReal) : val_main_v17 (F := Ideal) x d = gains x d :=
  funext fun i => host_gain x d i

open Cert.RmsBwdMidReferenceIdeal.Read in
theorem ref_back2 (x : S8192x1024.Idx → EReal) (g : S1x1024.Idx → EReal) (d s x2 : S8192x1024.Idx → EReal) (g2 : S1x1024.Idx → EReal) :
    val_main_v69 (F := Ideal) x g d s x2 g2 = backs x2 (adds x d g s) g2 :=
  (funext fun i => host_back x2 g2 (val_main_v34 (F := Ideal) x g d s) i : _ = backs x2 (val_main_v34 (F := Ideal) x g d s) g2).trans (by rw [ref_back])

open Cert.RmsBwdMidReferenceIdeal.Read in
theorem ref_gain2 (x : S8192x1024.Idx → EReal) (g : S1x1024.Idx → EReal) (d s x2 : S8192x1024.Idx → EReal) :
    val_main_v52 (F := Ideal) x g d s x2 = gains x2 (adds x d g s) :=
  (funext fun i => host_gain x2 (val_main_v34 (F := Ideal) x g d s) i : _ = gains x2 (val_main_v34 (F := Ideal) x g d s)).trans (by rw [ref_back])

end Cert.RmsBwdMidIdeal.Block

namespace Cert.Proof.RmsBwdMid

open Idealize.ShloMosaic Idealize.SL.Sem
open Cert.RmsBwdMidIdeal.Block

theorem frame_bits : Cert.quiescent_RmsBwdMid (hRmsBwdMid := Cert.RmsBwdMid.Gen.facts) := fun m g _ => Cert.RmsBwdMid.Gen.frame m g

theorem frame_ideal : Cert.quiescent_RmsBwdMidIdeal (hRmsBwdMidIdeal := Cert.RmsBwdMidIdeal.Gen.facts) := fun m g _ => Cert.RmsBwdMidIdeal.Gen.frame m g

theorem frame_ref : Cert.quiescent_RmsBwdMidReferenceIdeal (hRmsBwdMidReferenceIdeal := Cert.RmsBwdMidReferenceIdeal.Gen.facts) := fun m g _ =>
  (θ_run Cert.RmsBwdMidReferenceIdeal.defs _ _).mono (fun r h => ⟨fun c => (h c).2.2.2.2, sem_eq_zero_of_no_sems rfl r.2⟩)
    (Cert.RmsBwdMidReferenceIdeal.Value.run (F := Ideal) m g)

theorem algebraic : Cert.algebraic_RmsBwdMidIdeal_RmsBwdMidReferenceIdeal (hRmsBwdMidIdeal := Cert.RmsBwdMidIdeal.Gen.facts)
    (hRmsBwdMidReferenceIdeal := Cert.RmsBwdMidReferenceIdeal.Gen.facts) := by
  intro m g m' g' _ hargs
  refine ⟨fun c => cot2 m c, fun c => Cert.Norms.gains (arr m c) (cot m c), fun c => Cert.Norms.backs (arr2 m c) (cot2 m c) (gns2 m c),
    fun c => Cert.Norms.gains (arr2 m c) (cot2 m c), ?_, ?_⟩
  · exact (θ_run _ _ _).mono (fun r h c => ⟨(h c).1.trans (out_6 m c), (h c).2.1.trans (out_7 m c), (h c).2.2.1.trans (out_8 m c), (h c).2.2.2.1.trans (out_9 m c), (h c).2.2.2.2⟩)
      (Cert.RmsBwdMidIdeal.Value.run_blocks (F := Ideal) m g)
  · refine (θ_run _ _ _).mono (fun r h c => ⟨(h c).1.trans ?_, (h c).2.1.trans ?_, (h c).2.2.1.trans ?_, (h c).2.2.2.1.trans ?_, (h c).2.2.2.2⟩)
      (Cert.RmsBwdMidReferenceIdeal.Value.run (F := Ideal) m' g')
    · obtain ⟨a0, a1, a2, a3, a4, a5⟩ := hargs c
      rw [Cert.RmsBwdMidReferenceIdeal.Read.val_main_v34_eq, a0, a1, a2, a3]
      exact ref_back _ _ _ _
    · obtain ⟨a0, a1, a2, a3, a4, a5⟩ := hargs c
      rw [Cert.RmsBwdMidReferenceIdeal.Read.val_main_v17_eq, a0, a2]
      exact ref_gain _ _
    · obtain ⟨a0, a1, a2, a3, a4, a5⟩ := hargs c
      rw [Cert.RmsBwdMidReferenceIdeal.Read.val_main_v69_eq, a0, a1, a2, a3, a4, a5]
      exact ref_back2 _ _ _ _ _ _
    · obtain ⟨a0, a1, a2, a3, a4, a5⟩ := hargs c
      rw [Cert.RmsBwdMidReferenceIdeal.Read.val_main_v52_eq, a0, a1, a2, a3, a4]
      exact ref_gain2 _ _ _ _ _

end Cert.Proof.RmsBwdMid

end
-- ==== Proof.RmsBwdFirstValue.lean ====
/- What `RmsBwdFirst` leaves are the reference's arrays. -/
module

public import proofs.«01_k».proof.Defs
public import proofs.«01_k».proof.Proof.Norms
public import proofs.«01_k».proof.Proof.Gen.RmsBwdFirstIdeal.Value
public import proofs.«01_k».proof.Proof.Gen.RmsBwdFirst.Frame
public import proofs.«01_k».proof.Proof.Gen.RmsBwdFirstReferenceIdeal.Read
public import Idealize.ShloMosaic.Lib.Quiescent
public import Idealize.ShloMosaic.Lib.Claim

@[expose] public section

set_option maxRecDepth 65536

noncomputable section

namespace Cert.RmsBwdFirstIdeal.Block

open Cert.RmsBwdFirstIdeal Cert.RmsBwdFirstIdeal.Gen Cert.Product Cert.Norms
open Idealize.ShloMosaic hiding ix1 ix2 ix3 ix4 eq_ix2
open Idealize.SL.Sem
open Idealize.ShloMosaic.TcCoe Idealize.ShloMosaic.ValueIdx
open Finset (range)

theorem at_0 : ∀ t : Fin grid0.N, win0_0.index t = ![t.val, 0] := by decide +kernel
theorem at_1 : ∀ t : Fin grid0.N, win0_1.index t = ![0, 0] := by decide +kernel
theorem at_2 : ∀ t : Fin grid0.N, win0_2.index t = ![t.val, 0] := by decide +kernel
theorem at_3 : ∀ t : Fin grid0.N, win0_3.index t = ![t.val, 0] := by decide +kernel
theorem at_4 : ∀ t : Fin grid0.N, win0_4.index t = ![t.val, 0] := by decide +kernel
theorem at_5 : ∀ t : Fin grid0.N, win0_5.index t = ![0, 0] := by decide +kernel

variable (m : (ℓ : Loc nD τ sig) → Buf (Elt Ideal) ℓ) (c : Dev nD)

/-- The normed array, its gains, the cotangent and the array that passes by the norm. -/
def arr : (⟨2, ![8192, 1024]⟩ : Shape).Idx → EReal := m ((c : Thread nD τ).loc main_arg0)
def gns : (⟨2, ![1, 1024]⟩ : Shape).Idx → EReal := m ((c : Thread nD τ).loc main_arg1)
def cot : (⟨2, ![8192, 1024]⟩ : Shape).Idx → EReal := m ((c : Thread nD τ).loc main_arg2)
def side : (⟨2, ![8192, 1024]⟩ : Shape).Idx → EReal := m ((c : Thread nD τ).loc main_arg3)

theorem blk_0 (t : Fin cfg0.N) (y : S512x1024.Idx) : iblk m c 0 t y = at2 (arr m c) (t.val * 512 + (y 0).val) (y 1).val :=
  at2_place (arr m c) (((cfg0.win 0).blk t).view.emb y) (by blk_simp [at_0]) (by blk_simp [at_0])

theorem blk_1 (t : Fin cfg0.N) : iblk m c 1 t = gns m c :=
  block_gains (gns m c) _ fun y => at2_place (gns m c) (((cfg0.win 1).blk t).view.emb y) (by blk_simp [at_1]) (by blk_simp [at_1])

theorem blk_2 (t : Fin cfg0.N) (y : S512x1024.Idx) : iblk m c 2 t y = at2 (cot m c) (t.val * 512 + (y 0).val) (y 1).val :=
  at2_place (cot m c) (((cfg0.win 2).blk t).view.emb y) (by blk_simp [at_2]) (by blk_simp [at_2])

theorem blk_3 (t : Fin cfg0.N) (y : S512x1024.Idx) : iblk m c 3 t y = at2 (side m c) (t.val * 512 + (y 0).val) (y 1).val :=
  at2_place (side m c) (((cfg0.win 3).blk t).view.emb y) (by blk_simp [at_3]) (by blk_simp [at_3])

theorem part (t : Fin cfg0.N) (j : S512x1024.Idx) : k0_pay4 (F := Ideal) (iblk m c 0 t) (iblk m c 1 t) (iblk m c 2 t) (iblk m c 3 t) j
    = at2 (adds (arr m c) (cot m c) (gns m c) (side m c)) (t.val * 512 + (j 0).val) (j 1).val := by
  have hl := lt_of_lt_of_eq t.isLt N_0
  refine Eq.trans ?_ (part_adds _ _ _ (arr m c) (cot m c) (side m c) _ _ (blk_0 m c t) (blk_2 m c t) (blk_3 m c t) (by omega) j)
  rw [blk_1]
  rfl

theorem held_4 (t : Fin cfg0.N) (j : S512x1024.Idx) : (outsAt0 m c t.val t.isLt).1 j
    = at2 (adds (arr m c) (cot m c) (gns m c) (side m c)) (t.val * 512 + (j 0).val) (j 1).val := by
  have hl := lt_of_lt_of_eq t.isLt N_0
  by_cases h : t.val % 16 = 0
  · rw [outsAt0_A m c t h (by omega)]
    frame_out
    exact part m c t j
  · rw [outsAt0_B m c t h (by omega)]
    frame_out
    exact part m c t j

theorem held_5 (t : Fin cfg0.N) (ht : t.val % 16 = 15) (j : S1x1024.Idx) : (outsAt0 m c t.val t.isLt).2 j = gain (at2 (arr m c)) (at2 (cot m c)) 8192 (j 1).val := by
  refine run_total (fun n h => (outsAt0 m c n h).2) 16 512 (fun _ j q => share (at2 (arr m c)) (at2 (cot m c)) (j 1).val q) (fun t h j => ?_) (fun t h j => ?_) t ht j
  · have hl := lt_of_lt_of_eq t.isLt N_0
    have e : t.val % 16 = t.val := Nat.mod_eq_of_lt hl
    dsimp only
    rw [e, outsAt0_A m c t h (by omega)]
    frame_out
    exact part_gain _ _ (arr m c) (cot m c) _ (blk_0 m c t) (blk_2 m c t) j
  · have hl := lt_of_lt_of_eq t.isLt N_0
    have e : t.val % 16 = t.val := Nat.mod_eq_of_lt hl
    dsimp only
    rw [e, outsAt0_B m c t h (by omega)]
    frame_out
    unfold k0_pay1
    rw [shapeCast_self]
    exact congrArg (fun u : EReal => (outsAt0 m c (t.val - 1) _).2 j + u) (part_gain _ _ (arr m c) (cot m c) _ (blk_0 m c t) (blk_2 m c t) j)

theorem out_4 : (dats m 0 c).arrAt 4 cfg0.N = adds (arr m c) (cot m c) (gns m c) (side m c) := by
  refine (dats m 0 c).arrAt_eq_of_covers 4 _ (by decide +kernel) fun t hf y => ?_
  refine (held_4 m c t y).trans (at2_place _ (((cfg0.win 4).blk t).view.emb y) ?_ ?_).symm
  · blk_simp [at_4]
  · blk_simp [at_4]

theorem out_5 : (dats m 0 c).arrAt 5 cfg0.N = gains (arr m c) (cot m c) := by
  refine (dats m 0 c).arrAt_eq_of_covers 5 _ (by decide +kernel) fun t hf y => ?_
  have e1 : ((((cfg0.win 5).blk t).view.emb y) 1 : ℕ) = (y 1).val := by blk_simp [at_5]
  unfold gains
  rw [e1]
  exact held_5 m c t ((flush0_5 t).mp hf) y

open Cert.RmsBwdFirstReferenceIdeal.Read in
theorem ref_back (x : S8192x1024.Idx → EReal) (g : S1x1024.Idx → EReal) (d s : S8192x1024.Idx → EReal) : val_main_v34 (F := Ideal) x g d s = adds x d g s :=
  funext fun i => host_back_add x g d s i

open Cert.RmsBwdFirstReferenceIdeal.Read in
theorem ref_gain (x d : S8192x1024.Idx → EReal) : val_main_v17 (F := Ideal) x d = gains x d :=
  funext fun i => host_gain x d i

end Cert.RmsBwdFirstIdeal.Block

namespace Cert.Proof.RmsBwdFirst

open Idealize.ShloMosaic Idealize.SL.Sem
open Cert.RmsBwdFirstIdeal.Block

theorem frame_bits : Cert.quiescent_RmsBwdFirst (hRmsBwdFirst := Cert.RmsBwdFirst.Gen.facts) := fun m g _ => Cert.RmsBwdFirst.Gen.frame m g

theorem frame_ideal : Cert.quiescent_RmsBwdFirstIdeal (hRmsBwdFirstIdeal := Cert.RmsBwdFirstIdeal.Gen.facts) := fun m g _ => Cert.RmsBwdFirstIdeal.Gen.frame m g

theorem frame_ref : Cert.quiescent_RmsBwdFirstReferenceIdeal (hRmsBwdFirstReferenceIdeal := Cert.RmsBwdFirstReferenceIdeal.Gen.facts) := fun m g _ =>
  (θ_run Cert.RmsBwdFirstReferenceIdeal.defs _ _).mono (fun r h => ⟨fun c => (h c).2.2, sem_eq_zero_of_no_sems rfl r.2⟩)
    (Cert.RmsBwdFirstReferenceIdeal.Value.run (F := Ideal) m g)

theorem algebraic : Cert.algebraic_RmsBwdFirstIdeal_RmsBwdFirstReferenceIdeal (hRmsBwdFirstIdeal := Cert.RmsBwdFirstIdeal.Gen.facts)
    (hRmsBwdFirstReferenceIdeal := Cert.RmsBwdFirstReferenceIdeal.Gen.facts) := by
  intro m g m' g' _ hargs
  refine ⟨fun c => Cert.Norms.adds (arr m c) (cot m c) (gns m c) (side m c), fun c => Cert.Norms.gains (arr m c) (cot m c), ?_, ?_⟩
  · exact (θ_run _ _ _).mono (fun r h c => ⟨(h c).1.trans (out_4 m c), (h c).2.1.trans (out_5 m c), (h c).2.2⟩) (Cert.RmsBwdFirstIdeal.Value.run_blocks (F := Ideal) m g)
  · refine (θ_run _ _ _).mono (fun r h c => ⟨(h c).1.trans ?_, (h c).2.1.trans ?_, (h c).2.2⟩) (Cert.RmsBwdFirstReferenceIdeal.Value.run (F := Ideal) m' g')
    · obtain ⟨a0, a1, a2, a3⟩ := hargs c
      rw [Cert.RmsBwdFirstReferenceIdeal.Read.val_main_v34_eq, a0, a1, a2, a3]
      exact ref_back _ _ _ _
    · obtain ⟨a0, a1, a2, a3⟩ := hargs c
      rw [Cert.RmsBwdFirstReferenceIdeal.Read.val_main_v17_eq, a0, a2]
      exact ref_gain _ _

end Cert.Proof.RmsBwdFirst

end
-- ==== Proof.LossHeadValue.lean ====
/- What `LossHead` leaves are the reference's arrays. -/
module

public import proofs.«01_k».proof.Defs
public import proofs.«01_k».proof.Proof.Norms
public import proofs.«01_k».proof.Proof.Gen.LossHeadIdeal.Value
public import proofs.«01_k».proof.Proof.Gen.LossHead.Frame
public import proofs.«01_k».proof.Proof.Gen.LossHeadReferenceIdeal.Read
public import Idealize.ShloMosaic.Lib.Pipeline.ReadBack
public import Idealize.ShloMosaic.Lib.Quiescent
public import Idealize.ShloMosaic.Lib.Claim

@[expose] public section

set_option maxRecDepth 65536

noncomputable section

namespace Cert.LossHeadIdeal.Block

open Cert.LossHeadIdeal Cert.LossHeadIdeal.Gen Cert.Product Cert.Norms
open Idealize.ShloMosaic hiding ix1 ix2 ix3 ix4 eq_ix2
open Idealize.SL.Sem
open Idealize.ShloMosaic.TcCoe Idealize.ShloMosaic.ValueIdx
open Finset (range)

theorem at_0 : ∀ t : Fin grid0.N, win0_0.index t = ![t.val, 0] := by decide +kernel
theorem at_1 : ∀ t : Fin grid0.N, win0_1.index t = ![t.val, 0] := by decide +kernel
theorem at_2 : ∀ t : Fin grid0.N, win0_2.index t = ![t.val, 0] := by decide +kernel
theorem at_3 : ∀ t : Fin grid0.N, win0_3.index t = ![0, 0] := by decide +kernel

/-- The numbers the programs write. -/
abbrev two : EReal := Ideal.ofBits .f32 0x40000000#32
abbrev hlf : EReal := Ideal.ofBits .f32 0x3F000000#32
abbrev part : EReal := Ideal.ofBits .f32 0x3A800000#32
abbrev halfpart : EReal := Ideal.ofBits .f32 0x3A000000#32

theorem two_eq : two = ((2 : ℝ) : EReal) := by
  simp [two, Ideal.ofBits, Ideal.ieee]
  rw [← EReal.coe_mul]
  norm_num

theorem hlf_eq : hlf = ((1 / 2 : ℝ) : EReal) := by
  simp [hlf, Ideal.ofBits, Ideal.ieee]
  rw [← EReal.coe_mul]
  norm_num

theorem part_eq : part = ((1 / 1024 : ℝ) : EReal) := by
  simp [part, Ideal.ofBits, Ideal.ieee]
  rw [← EReal.coe_mul]
  norm_num

theorem halfpart_eq : halfpart = ((1 / 2048 : ℝ) : EReal) := by
  simp [halfpart, Ideal.ofBits, Ideal.ieee]
  rw [← EReal.coe_mul]
  norm_num

/-- A sum of parts no smaller than zero, each over the row's length, is the sum over it. -/
theorem sum_over (n : ℕ) (f : ℕ → EReal) (h : ∀ q, 0 ≤ f q) : ∑ q ∈ range n, Ideal.div (f q) len = Ideal.div (∑ q ∈ range n, f q) len := by
  rw [len_eq]
  simp only [Ideal.div_coe (show (1024 : ℝ) ≠ 0 by norm_num)]
  induction n with
  | zero => simp
  | succ n ih =>
    rw [Finset.sum_range_succ, Finset.sum_range_succ, ih]
    exact (EReal.right_distrib_of_nonneg (Finset.sum_nonneg fun q _ => h q) (h n)).symm

theorem slopes (x : EReal) : Ideal.div (hlf * Ideal.ofBits .f32 0x3F800000#32) len * (two * x) = x * part := by
  rw [Ideal.ofBits_one_f32, mul_one, hlf_eq, len_eq, Ideal.div_coe (by norm_num), two_eq, part_eq, ← mul_assoc, ← EReal.coe_mul, ← EReal.coe_mul, mul_comm x]
  congr 2
  norm_num

theorem losses (x : EReal) : hlf * Ideal.div x len = x * halfpart := by
  rw [hlf_eq, len_eq, Ideal.div_coe (by norm_num), halfpart_eq, mul_comm, mul_assoc, ← EReal.coe_mul]
  congr 2
  norm_num

/-- The difference from the target, its squares, the loss's slope and the loss. -/
def miss (X T : (⟨2, ![8192, 1024]⟩ : Shape).Idx → EReal) : (⟨2, ![8192, 1024]⟩ : Shape).Idx → EReal := fun i => X i - T i
def sq (X T : (⟨2, ![8192, 1024]⟩ : Shape).Idx → EReal) (j q : ℕ) : EReal := at2 (miss X T) q j * at2 (miss X T) q j
def slope (X T : (⟨2, ![8192, 1024]⟩ : Shape).Idx → EReal) : (⟨2, ![8192, 1024]⟩ : Shape).Idx → EReal := fun i => miss X T i * part
def loss (X T : (⟨2, ![8192, 1024]⟩ : Shape).Idx → EReal) : (⟨2, ![1, 1]⟩ : Shape).Idx → EReal :=
  fun _ => (∑ j ∈ range 1024, ∑ q ∈ range 8192, sq X T j q) * halfpart

variable (m : (ℓ : Loc nD τ sig) → Buf (Elt Ideal) ℓ) (c : Dev nD)

/-- The array and the target. -/
def arr : (⟨2, ![8192, 1024]⟩ : Shape).Idx → EReal := m ((c : Thread nD τ).loc main_arg0)
def tgt : (⟨2, ![8192, 1024]⟩ : Shape).Idx → EReal := m ((c : Thread nD τ).loc main_arg1)

theorem blk_0 (t : Fin cfg0.N) (y : S512x1024.Idx) : iblk m c 0 t y = at2 (arr m c) (t.val * 512 + (y 0).val) (y 1).val :=
  at2_place (arr m c) (((cfg0.win 0).blk t).view.emb y) (by blk_simp [at_0]) (by blk_simp [at_0])

theorem blk_1 (t : Fin cfg0.N) (y : S512x1024.Idx) : iblk m c 1 t y = at2 (tgt m c) (t.val * 512 + (y 0).val) (y 1).val :=
  at2_place (tgt m c) (((cfg0.win 1).blk t).view.emb y) (by blk_simp [at_1]) (by blk_simp [at_1])

theorem blk_miss (t : Fin cfg0.N) (y : S512x1024.Idx) : k0_pay1 (F := Ideal) (iblk m c 0 t) (iblk m c 1 t) y = at2 (miss (arr m c) (tgt m c)) (t.val * 512 + (y 0).val) (y 1).val := by
  have hl : t.val < 16 := lt_of_lt_of_eq t.isLt N_0
  have h0 : (y 0).val < 512 := (y 0).isLt
  have hr : t.val * 512 + (y 0).val < 8192 := by omega
  refine (congrArg₂ (fun u v : EReal => u - v) (blk_0 m c t y) (blk_1 m c t y)).trans ?_
  rw [at2_of (arr m c) hr (y 1).isLt, at2_of (tgt m c) hr (y 1).isLt, at2_of (miss (arr m c) (tgt m c)) hr (y 1).isLt]
  rfl

theorem blk_slope (t : Fin cfg0.N) (y : S512x1024.Idx) :
    k0_pay2 (F := Ideal) (iblk m c 0 t) (iblk m c 1 t) y = at2 (miss (arr m c) (tgt m c)) (t.val * 512 + (y 0).val) (y 1).val * part :=
  congrArg (fun u : EReal => u * part) (blk_miss m c t y)

theorem blk_sq (t : Fin cfg0.N) (j : S1x1024.Idx) :
    k0_pay3 (F := Ideal) (iblk m c 0 t) (iblk m c 1 t) j = ∑ q ∈ range 512, sq (arr m c) (tgt m c) (j 1).val (t.val * 512 + q) :=
  column_sum _ reduces_S512x1024_S1024 (.inl rfl) rfl shapeCasts_S1024_S1x1024 j _ fun q =>
    congrArg₂ (fun u v : EReal => u * v) (blk_miss m c t (ix2 q (j 1))) (blk_miss m c t (ix2 q (j 1)))

theorem held_2 (t : Fin cfg0.N) (j : S512x1024.Idx) : (outsAt0 m c t.val t.isLt).1 j = at2 (miss (arr m c) (tgt m c)) (t.val * 512 + (j 0).val) (j 1).val * part := by
  have hl := lt_of_lt_of_eq t.isLt N_0
  by_cases h : t.val % 16 = 0
  · rw [outsAt0_A m c t h (by omega) (by omega)]
    frame_out
    exact blk_slope m c t j
  · by_cases h' : t.val % 16 = 15
    · rw [outsAt0_C m c t h (by omega) h']
      frame_out
      exact blk_slope m c t j
    · rw [outsAt0_B m c t h (by omega) h']
      frame_out
      exact blk_slope m c t j

/-- What the scratch holds after a point is what it held before, with the point's squares added. -/
theorem step (t : Fin cfg0.N) (h : ¬t.val % 16 = 0) (j : S1x1024.Idx) : (outsAt0 m c t.val t.isLt).2.2 j
    = (outsAt0 m c (t.val - 1) (Nat.lt_of_le_of_lt (Nat.sub_le _ _) t.isLt)).2.2 j + ∑ q ∈ range 512, sq (arr m c) (tgt m c) (j 1).val (t.val * 512 + q) := by
  have hl := lt_of_lt_of_eq t.isLt N_0
  by_cases h' : t.val % 16 = 15
  · rw [outsAt0_C m c t h (by omega) h']
    frame_out
    rw [read_unread_whole]
    unfold k0_pay5
    rw [shapeCast_self]
    exact congrArg (fun u : EReal => (outsAt0 m c (t.val - 1) _).2.2 j + u) (blk_sq m c t j)
  · rw [outsAt0_B m c t h (by omega) h']
    frame_out
    rw [read_unread_whole]
    unfold k0_pay5
    rw [shapeCast_self]
    exact congrArg (fun u : EReal => (outsAt0 m c (t.val - 1) _).2.2 j + u) (blk_sq m c t j)

theorem kept (t : Fin cfg0.N) (ht : t.val % 16 = 15) (j : S1x1024.Idx) : (outsAt0 m c t.val t.isLt).2.2 j = ∑ q ∈ range 8192, sq (arr m c) (tgt m c) (j 1).val q := by
  refine run_total (fun n h => (outsAt0 m c n h).2.2) 16 512 (fun _ j q => sq (arr m c) (tgt m c) (j 1).val q) (fun t h j => ?_) (fun t h j => ?_) t ht j
  · have hl := lt_of_lt_of_eq t.isLt N_0
    have e : t.val % 16 = t.val := Nat.mod_eq_of_lt hl
    dsimp only
    rw [e, outsAt0_A m c t h (by omega) (by omega)]
    frame_out
    unfold k0_pay4
    rw [shapeCast_self]
    exact blk_sq m c t j
  · have hl := lt_of_lt_of_eq t.isLt N_0
    have e : t.val % 16 = t.val := Nat.mod_eq_of_lt hl
    dsimp only
    rw [e]
    exact step m c t h j

theorem held_3 (t : Fin cfg0.N) (ht : t.val % 16 = 15) (j : S1x1.Idx) : (outsAt0 m c t.val t.isLt).2.1 j = loss (arr m c) (tgt m c) j := by
  have e : (outsAt0 m c t.val t.isLt).2.1 j = k0_pay6 (F := Ideal) (outsAt0 m c t.val t.isLt).2.2 j := by
    have hl := lt_of_lt_of_eq t.isLt N_0
    have e' : (outsAt0 m c t.val t.isLt).2.2 = k0_pay5 (F := Ideal) (iblk m c 0 t) (iblk m c 1 t) (outsAt0 m c (t.val - 1) (Nat.lt_of_le_of_lt (Nat.sub_le _ _) t.isLt)).2.2 := by
      funext i
      rw [outsAt0_C m c t (by omega) (by omega) ht]
      frame_out
      rw [read_unread_whole]
    rw [e', outsAt0_C m c t (by omega) (by omega) ht]
    frame_out
    rw [read_unread_whole]
  rw [e]
  exact congrArg (fun u : EReal => u * halfpart) (row_sum _ reduces_S1x1024_S1 (.inl rfl) rfl shapeCasts_S1_S1x1 j _ fun q => kept m c t ht (ix2 (j 0) q))

theorem out_2 : (dats m 0 c).arrAt 2 cfg0.N = slope (arr m c) (tgt m c) := by
  refine (dats m 0 c).arrAt_eq_of_covers 2 _ (by decide +kernel) fun t hf y => ?_
  have e0 : ((((cfg0.win 2).blk t).view.emb y) 0 : ℕ) = t.val * 512 + (y 0).val := by blk_simp [at_2]
  have e1 : ((((cfg0.win 2).blk t).view.emb y) 1 : ℕ) = (y 1).val := by blk_simp [at_2]
  unfold slope
  rw [at2_place (miss (arr m c) (tgt m c)) _ e0 e1]
  exact held_2 m c t y

theorem out_3 : (dats m 0 c).arrAt 3 cfg0.N = loss (arr m c) (tgt m c) :=
  (dats m 0 c).arrAt_eq_of_covers 3 _ (by decide +kernel) fun t hf y => held_3 m c t ((flush0_3 t).mp hf) y

open Cert.LossHeadReferenceIdeal.Read in
theorem ref_slope (x y : S8192x1024.Idx → EReal) : val_main_v14 (F := Ideal) x y = slope x y :=
  funext fun i => (show _ = Ideal.div (hlf * Ideal.ofBits .f32 0x3F800000#32) len * (two * (x i - y i)) from rfl).trans (slopes _)

open Cert.LossHeadReferenceIdeal.Read in
/-- One row's mean of squares. -/
theorem ref_row (x y : S8192x1024.Idx → EReal) (i : Cert.LossHeadReferenceIdeal.S8192.Idx) :
    val_main_v6 (F := Ideal) x y i = Ideal.div (∑ j ∈ range 1024, sq x y j (i 0).val) len := by
  rw [val_main_v6_apply, val_main_v4_apply]
  refine congrArg (fun u : EReal => Ideal.div u len) (zero_sum 1024 (fun j => sq x y j (i 0).val) _ fun q => ?_)
  unfold sq
  rw [at2_of (miss x y) (i 0).isLt q.isLt]
  exact congrArg (fun k => (x k - y k : EReal) * (x k - y k)) (funext fun a => match a with | ⟨0, _⟩ => rfl | ⟨1, _⟩ => rfl)

open Cert.LossHeadReferenceIdeal.Read in
theorem ref_loss (x y : S8192x1024.Idx → EReal) : val_main_v15 (F := Ideal) x y = loss x y := by
  funext i
  unfold val_main_v15 shapeCast
  rw [val_main_v8_apply, val_main_v7_apply]
  refine Eq.trans (congrArg (fun u : EReal => hlf * u) ?_) (losses _)
  rw [Finset.sum_comm, ← sum_over 8192 (fun q => ∑ j ∈ range 1024, sq x y j q) fun q => Finset.sum_nonneg fun j _ => sq_nonneg _]
  refine Eq.trans (congrArg (fun u : EReal => FloatOps.ofBits (F := Ideal) .f32 0x00000000#32 + u) ?_) (zero_sum 8192 _ (fun q => val_main_v6 (F := Ideal) x y (ValueIdx.ix1 q)) fun q => ref_row x y _)
  exact Fintype.sum_equiv ⟨fun j => j 0, fun q => ValueIdx.ix1 q, fun j => (ValueIdx.eq_ix1 j).symm, fun q => rfl⟩ _ _ fun j => congrArg (val_main_v6 (F := Ideal) x y) (ValueIdx.eq_ix1 j)

end Cert.LossHeadIdeal.Block

namespace Cert.Proof.LossHead

open Idealize.ShloMosaic Idealize.SL.Sem
open Cert.LossHeadIdeal.Block

theorem frame_bits : Cert.quiescent_LossHead (hLossHead := Cert.LossHead.Gen.facts) := fun m g _ => Cert.LossHead.Gen.frame m g

theorem frame_ideal : Cert.quiescent_LossHeadIdeal (hLossHeadIdeal := Cert.LossHeadIdeal.Gen.facts) := fun m g _ => Cert.LossHeadIdeal.Gen.frame m g

theorem frame_ref : Cert.quiescent_LossHeadReferenceIdeal (hLossHeadReferenceIdeal := Cert.LossHeadReferenceIdeal.Gen.facts) := fun m g _ =>
  (θ_run Cert.LossHeadReferenceIdeal.defs _ _).mono (fun r h => ⟨fun c => (h c).2.2, sem_eq_zero_of_no_sems rfl r.2⟩)
    (Cert.LossHeadReferenceIdeal.Value.run (F := Ideal) m g)

theorem algebraic : Cert.algebraic_LossHeadIdeal_LossHeadReferenceIdeal (hLossHeadIdeal := Cert.LossHeadIdeal.Gen.facts)
    (hLossHeadReferenceIdeal := Cert.LossHeadReferenceIdeal.Gen.facts) := by
  intro m g m' g' _ hargs
  refine ⟨fun c => slope (arr m c) (tgt m c), fun c => loss (arr m c) (tgt m c), ?_, ?_⟩
  · exact (θ_run _ _ _).mono (fun r h c => ⟨(h c).1.trans (out_2 m c), (h c).2.1.trans (out_3 m c), (h c).2.2⟩) (Cert.LossHeadIdeal.Value.run_blocks (F := Ideal) m g)
  · refine (θ_run _ _ _).mono (fun r h c => ⟨(h c).1.trans ?_, (h c).2.1.trans ?_, (h c).2.2⟩) (Cert.LossHeadReferenceIdeal.Value.run (F := Ideal) m' g')
    · obtain ⟨a0, a1⟩ := hargs c
      rw [Cert.LossHeadReferenceIdeal.Read.val_main_v14_eq, a0, a1]
      exact ref_slope _ _
    · obtain ⟨a0, a1⟩ := hargs c
      rw [Cert.LossHeadReferenceIdeal.Read.val_main_v15_eq, a0, a1]
      exact ref_loss _ _

end Cert.Proof.LossHead

end
-- ==== Proof.AdamwSmallValue.lean ====
/- What `AdamwSmall` leaves are the reference's arrays. -/
module

public import proofs.«01_k».proof.Defs
public import proofs.«01_k».proof.Proof.Norms
public import proofs.«01_k».proof.Proof.Gen.AdamwSmallIdeal.Value
public import proofs.«01_k».proof.Proof.Gen.AdamwSmall.Frame
public import proofs.«01_k».proof.Proof.Gen.AdamwSmallReferenceIdeal.Read
public import Idealize.ShloMosaic.Lib.Quiescent
public import Idealize.ShloMosaic.Lib.Claim

@[expose] public section

set_option maxRecDepth 65536

noncomputable section

namespace Cert.AdamwSmallIdeal.Block

open Cert.AdamwSmallIdeal Cert.AdamwSmallIdeal.Gen Cert.Product Cert.Norms
open Idealize.ShloMosaic hiding ix1 ix2 ix3 ix4 eq_ix2
open Idealize.SL.Sem
open Idealize.ShloMosaic.TcCoe Idealize.ShloMosaic.ValueIdx
open Finset (range)

theorem at_0 : ∀ t : Fin grid0.N, win0_0.index t = ![t.val, 0] := by decide +kernel
theorem at_1 : ∀ t : Fin grid0.N, win0_1.index t = ![t.val, 0] := by decide +kernel
theorem at_2 : ∀ t : Fin grid0.N, win0_2.index t = ![t.val, 0] := by decide +kernel
theorem at_3 : ∀ t : Fin grid0.N, win0_3.index t = ![0, t.val, 0] := by decide +kernel
theorem at_4 : ∀ t : Fin grid0.N, win0_4.index t = ![t.val, 0] := by decide +kernel
theorem at_5 : ∀ t : Fin grid0.N, win0_5.index t = ![t.val, 0] := by decide +kernel
theorem at_6 : ∀ t : Fin grid0.N, win0_6.index t = ![t.val, 0] := by decide +kernel
theorem at_7 : ∀ t : Fin grid0.N, win0_7.index t = ![t.val, 0] := by decide +kernel

/-- One step of the two running means, and of the weight, from the gradient and what was there before. -/
def stepM (g a : EReal) : EReal := Ideal.ofBits .f32 0x3F666666#32 * a + Ideal.ofBits .f32 0x3DCCCCCD#32 * g
def stepV (g a : EReal) : EReal := Ideal.ofBits .f32 0x3F7FBE77#32 * a + Ideal.ofBits .f32 0x3A83126F#32 * (g * g)
def stepW (g w a b : EReal) : EReal :=
  Ideal.ofBits .f32 0xBA83126F#32 * (Ideal.div (Ideal.div (stepM g a) (Ideal.ofBits .f32 0x3F26BD02#32))
    (Ideal.sqrt (Ideal.div (stepV g b) (Ideal.ofBits .f32 0x3C231ACC#32)) + Ideal.ofBits .f32 0x322BCC77#32) + Ideal.ofBits .f32 0x3C23D70A#32 * w)

/-- One device's slot of a block of gradients. -/
theorem slot (x : Vec Ideal S8x1360x128 .f32) (k : ℕ) (hk : k < 8) (h : ∀ a, (![k, 0, 0] : Fin 3 → ℕ) a + S1x1360x128.size a ≤ S8x1360x128.size a) (j : S1360x128.Idx) :
    shapeCast S1360x128 (View.ld x (Rect.unit (s := S8x1360x128) ![k, 0, 0] S1x1360x128.size h)) shapeCasts_S1x1360x128_S1360x128 j = x (ix3 ⟨k, hk⟩ (j 0) (j 1)) := by
  refine (shapeCast_apply (α := EReal) (View.ld x (Rect.unit (s := S8x1360x128) ![k, 0, 0] S1x1360x128.size h)) shapeCasts_S1x1360x128_S1360x128 j (ix3 (0 : Fin 1) (j 0) (j 1)) ?_).trans ?_
  · rw [Shape.rowMajor_val_three, Shape.rowMajor_val_two]
    show (0 * 1360 + (j 0).val) * 128 + (j 1).val = (j 0).val * 128 + (j 1).val
    omega
  · rw [View.ld_apply]
    refine congrArg x (funext fun a => Fin.ext ?_)
    match a with
    | ⟨0, _⟩ => show k + 1 * 0 = k; omega
    | ⟨1, _⟩ => show 0 + 1 * (j 0).val = (j 0).val; omega
    | ⟨2, _⟩ => show 0 + 1 * (j 1).val = (j 1).val; omega

/-- The block's gradient: the eight slots' sum. -/
theorem slots (x : Vec Ideal S8x1360x128 .f32) (j : S1360x128.Idx) :
    k0_pay4 (F := Ideal) (View.ld x r0_0) (View.ld x r0_1) (View.ld x r0_2) (View.ld x r0_3) (View.ld x r0_4) (View.ld x r0_5) (View.ld x r0_6) (View.ld x r0_7) j
      = ∑ k : Fin 8, x (ix3 k (j 0) (j 1)) := by
  have e := fun k hk h => slot x k hk h j
  rw [Fin.sum_univ_eight]
  exact congrArg₂ (fun u v : EReal => u + v) (congrArg₂ (fun u v : EReal => u + v) (congrArg₂ (fun u v : EReal => u + v) (congrArg₂ (fun u v : EReal => u + v)
    (congrArg₂ (fun u v : EReal => u + v) (congrArg₂ (fun u v : EReal => u + v) (congrArg₂ (fun u v : EReal => u + v) (e 0 (by decide) _) (e 1 (by decide) _))
    (e 2 (by decide) _)) (e 3 (by decide) _)) (e 4 (by decide) _)) (e 5 (by decide) _)) (e 6 (by decide) _)) (e 7 (by decide) _)

variable (m : (ℓ : Loc nD τ sig) → Buf (Elt Ideal) ℓ) (c : Dev nD)

/-- The weights, the two running means, and the devices' gradients with their sum. -/
def wgt : (⟨2, ![2720, 128]⟩ : Shape).Idx → EReal := m ((c : Thread nD τ).loc main_arg0)
def mom : (⟨2, ![2720, 128]⟩ : Shape).Idx → EReal := m ((c : Thread nD τ).loc main_arg1)
def var : (⟨2, ![2720, 128]⟩ : Shape).Idx → EReal := m ((c : Thread nD τ).loc main_arg2)
def grs : (⟨3, ![8, 2720, 128]⟩ : Shape).Idx → EReal := m ((c : Thread nD τ).loc main_arg3)
def total (G : (⟨3, ![8, 2720, 128]⟩ : Shape).Idx → EReal) : (⟨2, ![2720, 128]⟩ : Shape).Idx → EReal := fun i => ∑ k : Fin 8, G (ix3 k (i 0) (i 1))

def newM (G : (⟨3, ![8, 2720, 128]⟩ : Shape).Idx → EReal) (A : (⟨2, ![2720, 128]⟩ : Shape).Idx → EReal) : (⟨2, ![2720, 128]⟩ : Shape).Idx → EReal := fun i => stepM (total G i) (A i)
def newV (G : (⟨3, ![8, 2720, 128]⟩ : Shape).Idx → EReal) (A : (⟨2, ![2720, 128]⟩ : Shape).Idx → EReal) : (⟨2, ![2720, 128]⟩ : Shape).Idx → EReal := fun i => stepV (total G i) (A i)
def moved (G : (⟨3, ![8, 2720, 128]⟩ : Shape).Idx → EReal) (W A B : (⟨2, ![2720, 128]⟩ : Shape).Idx → EReal) : (⟨2, ![2720, 128]⟩ : Shape).Idx → EReal :=
  fun i => stepW (total G i) (W i) (A i) (B i)

theorem blk_0 (t : Fin cfg0.N) (y : S1360x128.Idx) : iblk m c 0 t y = at2 (wgt m c) (t.val * 1360 + (y 0).val) (y 1).val :=
  at2_place (wgt m c) (((cfg0.win 0).blk t).view.emb y) (by blk_simp [at_0]) (by blk_simp [at_0])

theorem blk_1 (t : Fin cfg0.N) (y : S1360x128.Idx) : iblk m c 1 t y = at2 (mom m c) (t.val * 1360 + (y 0).val) (y 1).val :=
  at2_place (mom m c) (((cfg0.win 1).blk t).view.emb y) (by blk_simp [at_1]) (by blk_simp [at_1])

theorem blk_2 (t : Fin cfg0.N) (y : S1360x128.Idx) : iblk m c 2 t y = at2 (var m c) (t.val * 1360 + (y 0).val) (y 1).val :=
  at2_place (var m c) (((cfg0.win 2).blk t).view.emb y) (by blk_simp [at_2]) (by blk_simp [at_2])

theorem blk_3 (t : Fin cfg0.N) (y : S1360x128.Idx) :
    k0_pay5 (F := Ideal) (iblk m c 0 t) (iblk m c 1 t) (iblk m c 2 t) (iblk m c 3 t) y = at2 (total (grs m c)) (t.val * 1360 + (y 0).val) (y 1).val := by
  have hl : t.val < 2 := lt_of_lt_of_eq t.isLt N_0
  have h0 : (y 0).val < 1360 := (y 0).isLt
  refine (slots (iblk m c 3 t) y).trans ?_
  rw [at2_of (total (grs m c)) (show t.val * 1360 + (y 0).val < 2720 by omega) (y 1).isLt]
  refine Finset.sum_congr rfl fun k _ => ?_
  refine congrArg (grs m c) (funext fun a => Fin.ext ?_)
  match a with
  | ⟨0, _⟩ => show ((((cfg0.win 3).blk t).view.emb (ix3 k (y 0) (y 1))) 0 : ℕ) = k.val; blk_simp [at_3]; rfl
  | ⟨1, _⟩ => show ((((cfg0.win 3).blk t).view.emb (ix3 k (y 0) (y 1))) 1 : ℕ) = t.val * 1360 + (y 0).val; blk_simp [at_3]; rfl
  | ⟨2, _⟩ => show ((((cfg0.win 3).blk t).view.emb (ix3 k (y 0) (y 1))) 2 : ℕ) = (y 1).val; blk_simp [at_3]; rfl

theorem out_4 : (dats m 0 c).arrAt 4 cfg0.N = total (grs m c) := by
  refine (dats m 0 c).arrAt_eq_of_covers 4 _ (by decide +kernel) fun t hf y => ?_
  have e0 : ((((cfg0.win 4).blk t).view.emb y) 0 : ℕ) = t.val * 1360 + (y 0).val := by blk_simp [at_4]
  have e1 : ((((cfg0.win 4).blk t).view.emb y) 1 : ℕ) = (y 1).val := by blk_simp [at_4]
  rw [after0_4]
  frame_out
  exact (blk_3 m c t y).trans (at2_place _ _ e0 e1).symm

theorem out_5 : (dats m 0 c).arrAt 5 cfg0.N = moved (grs m c) (wgt m c) (mom m c) (var m c) := by
  refine (dats m 0 c).arrAt_eq_of_covers 5 _ (by decide +kernel) fun t hf y => ?_
  have e0 : ((((cfg0.win 5).blk t).view.emb y) 0 : ℕ) = t.val * 1360 + (y 0).val := by blk_simp [at_5]
  have e1 : ((((cfg0.win 5).blk t).view.emb y) 1 : ℕ) = (y 1).val := by blk_simp [at_5]
  rw [after0_5]
  frame_out [k0_pay5]
  show stepW (k0_pay5 (F := Ideal) (iblk m c 0 t) (iblk m c 1 t) (iblk m c 2 t) (iblk m c 3 t) y) (iblk m c 0 t y) (iblk m c 1 t y) (iblk m c 2 t y) = stepW (total (grs m c) (((cfg0.win 5).blk t).view.emb y)) (wgt m c (((cfg0.win 5).blk t).view.emb y)) (mom m c (((cfg0.win 5).blk t).view.emb y)) (var m c (((cfg0.win 5).blk t).view.emb y))
  rw [blk_3, blk_0, blk_1, blk_2, at2_place (total (grs m c)) _ e0 e1, at2_place (wgt m c) _ e0 e1, at2_place (mom m c) _ e0 e1, at2_place (var m c) _ e0 e1]

theorem out_6 : (dats m 0 c).arrAt 6 cfg0.N = newM (grs m c) (mom m c) := by
  refine (dats m 0 c).arrAt_eq_of_covers 6 _ (by decide +kernel) fun t hf y => ?_
  have e0 : ((((cfg0.win 6).blk t).view.emb y) 0 : ℕ) = t.val * 1360 + (y 0).val := by blk_simp [at_6]
  have e1 : ((((cfg0.win 6).blk t).view.emb y) 1 : ℕ) = (y 1).val := by blk_simp [at_6]
  rw [after0_6]
  frame_out [k0_pay5]
  show stepM (k0_pay5 (F := Ideal) (iblk m c 0 t) (iblk m c 1 t) (iblk m c 2 t) (iblk m c 3 t) y) (iblk m c 1 t y) = stepM (total (grs m c) (((cfg0.win 6).blk t).view.emb y)) (mom m c (((cfg0.win 6).blk t).view.emb y))
  rw [blk_3, blk_1, at2_place (total (grs m c)) _ e0 e1, at2_place (mom m c) _ e0 e1]

theorem out_7 : (dats m 0 c).arrAt 7 cfg0.N = newV (grs m c) (var m c) := by
  refine (dats m 0 c).arrAt_eq_of_covers 7 _ (by decide +kernel) fun t hf y => ?_
  have e0 : ((((cfg0.win 7).blk t).view.emb y) 0 : ℕ) = t.val * 1360 + (y 0).val := by blk_simp [at_7]
  have e1 : ((((cfg0.win 7).blk t).view.emb y) 1 : ℕ) = (y 1).val := by blk_simp [at_7]
  rw [after0_7]
  frame_out [k0_pay5]
  show stepV (k0_pay5 (F := Ideal) (iblk m c 0 t) (iblk m c 1 t) (iblk m c 2 t) (iblk m c 3 t) y) (iblk m c 2 t y) = stepV (total (grs m c) (((cfg0.win 7).blk t).view.emb y)) (var m c (((cfg0.win 7).blk t).view.emb y))
  rw [blk_3, blk_2, at2_place (total (grs m c)) _ e0 e1, at2_place (var m c) _ e0 e1]

open Cert.AdamwSmallReferenceIdeal.Read in
theorem ref_total (x : S8x2720x128.Idx → EReal) : val_main_v0 (F := Ideal) x = total x := by
  funext i
  rw [val_main_v0_apply]
  refine (congrArg (fun u : EReal => u + ∑ k : Fin 8, x (idx_main_v0 i k)) Cert.KernelIdeal.Grad.zero_f32).trans ((zero_add _).trans ?_)
  exact Finset.sum_congr rfl fun k _ => congrArg x (funext fun a => match a with | ⟨0, _⟩ => rfl | ⟨1, _⟩ => rfl | ⟨2, _⟩ => rfl)

open Cert.AdamwSmallReferenceIdeal.Read in
theorem ref_M (a : S2720x128.Idx → EReal) (x : S8x2720x128.Idx → EReal) : val_main_v5 (F := Ideal) a x = newM x a := by
  funext i
  refine Eq.trans ?_ (congrArg (fun u : EReal => stepM u (a i)) (congrFun (ref_total x) i))
  rfl

open Cert.AdamwSmallReferenceIdeal.Read in
theorem ref_V (a : S2720x128.Idx → EReal) (x : S8x2720x128.Idx → EReal) : val_main_v11 (F := Ideal) a x = newV x a := by
  funext i
  refine Eq.trans ?_ (congrArg (fun u : EReal => stepV u (a i)) (congrFun (ref_total x) i))
  rfl

open Cert.AdamwSmallReferenceIdeal.Read in
theorem ref_W (w a b : S2720x128.Idx → EReal) (x : S8x2720x128.Idx → EReal) : val_main_v24 (F := Ideal) w a b x = moved x w a b := by
  funext i
  refine Eq.trans ?_ (congrArg (fun u : EReal => stepW u (w i) (a i) (b i)) (congrFun (ref_total x) i))
  rfl

end Cert.AdamwSmallIdeal.Block

namespace Cert.Proof.AdamwSmall

open Idealize.ShloMosaic Idealize.SL.Sem
open Cert.AdamwSmallIdeal.Block

theorem frame_bits : Cert.quiescent_AdamwSmall (hAdamwSmall := Cert.AdamwSmall.Gen.facts) := fun m g _ => Cert.AdamwSmall.Gen.frame m g

theorem frame_ideal : Cert.quiescent_AdamwSmallIdeal (hAdamwSmallIdeal := Cert.AdamwSmallIdeal.Gen.facts) := fun m g _ => Cert.AdamwSmallIdeal.Gen.frame m g

theorem frame_ref : Cert.quiescent_AdamwSmallReferenceIdeal (hAdamwSmallReferenceIdeal := Cert.AdamwSmallReferenceIdeal.Gen.facts) := fun m g _ =>
  (θ_run Cert.AdamwSmallReferenceIdeal.defs _ _).mono (fun r h => ⟨fun c => (h c).2.2.2.2, sem_eq_zero_of_no_sems rfl r.2⟩)
    (Cert.AdamwSmallReferenceIdeal.Value.run (F := Ideal) m g)

theorem algebraic : Cert.algebraic_AdamwSmallIdeal_AdamwSmallReferenceIdeal (hAdamwSmallIdeal := Cert.AdamwSmallIdeal.Gen.facts)
    (hAdamwSmallReferenceIdeal := Cert.AdamwSmallReferenceIdeal.Gen.facts) := by
  intro m g m' g' _ hargs
  refine ⟨fun c => total (grs m c), fun c => moved (grs m c) (wgt m c) (mom m c) (var m c), fun c => newM (grs m c) (mom m c), fun c => newV (grs m c) (var m c), ?_, ?_⟩
  · exact (θ_run _ _ _).mono (fun r h c => ⟨(h c).1.trans (out_4 m c), (h c).2.1.trans (out_5 m c), (h c).2.2.1.trans (out_6 m c), (h c).2.2.2.1.trans (out_7 m c), (h c).2.2.2.2⟩) (Cert.AdamwSmallIdeal.Value.run_blocks (F := Ideal) m g)
  · refine (θ_run _ _ _).mono (fun r h c => ⟨(h c).1.trans ?_, (h c).2.1.trans ?_, (h c).2.2.1.trans ?_, (h c).2.2.2.1.trans ?_, (h c).2.2.2.2⟩) (Cert.AdamwSmallReferenceIdeal.Value.run (F := Ideal) m' g')
    · obtain ⟨a0, a1, a2, a3⟩ := hargs c
      rw [Cert.AdamwSmallReferenceIdeal.Read.val_main_v0_eq, a3]
      exact ref_total _
    · obtain ⟨a0, a1, a2, a3⟩ := hargs c
      rw [Cert.AdamwSmallReferenceIdeal.Read.val_main_v24_eq, a0, a1, a2, a3]
      exact ref_W _ _ _ _
    · obtain ⟨a0, a1, a2, a3⟩ := hargs c
      rw [Cert.AdamwSmallReferenceIdeal.Read.val_main_v5_eq, a1, a3]
      exact ref_M _ _
    · obtain ⟨a0, a1, a2, a3⟩ := hargs c
      rw [Cert.AdamwSmallReferenceIdeal.Read.val_main_v11_eq, a2, a3]
      exact ref_V _ _

end Cert.Proof.AdamwSmall

end
-- ==== Proof.AdamwHalves.lean ====
/- The AdamW of a weight whose gradient comes in two halves: what its calls at the several shapes have in common. -/
module

public import proofs.«01_k».proof.Proof.Norms
public import proofs.«01_k».proof.Proof.AdamwSmallValue

@[expose] public section

noncomputable section

namespace Cert.AdamwHalves

open Cert.Product Cert.Norms
open Cert.AdamwSmallIdeal.Block (stepM stepV stepW)
open Idealize.ShloMosaic hiding ix1 ix2 ix3 ix4 eq_ix2
open Idealize.SL.Sem
open Idealize.ShloMosaic.TcCoe Idealize.ShloMosaic.ValueIdx

/-- The shapes: a block, a block's rows, a weight's array, a word. -/
abbrev Blk (T C : ℕ) : Shape := ⟨3, ![1, T, C]⟩
abbrev Rows (T C : ℕ) : Shape := ⟨2, ![T, C]⟩
abbrev Arr (R C : ℕ) : Shape := ⟨3, ![4, R, C]⟩
abbrev Word : Shape := ⟨1, ![1]⟩

/-- A block's rows, with and without the block's leading coordinate. -/
theorem up {T C : ℕ} (v : (Rows T C).Idx → EReal) (h : (Rows T C).ShapeCasts (Blk T C)) (j : (Blk T C).Idx) : shapeCast (Blk T C) v h j = v (ix2 (j 1) (j 2)) := by
  refine shapeCast_apply (α := EReal) v h j (ix2 (j 1) (j 2)) ?_
  have h0 : (j 0).val = 0 := Nat.lt_one_iff.mp (j 0).isLt
  rw [Shape.rowMajor_val_three, Shape.rowMajor_val_two]
  show (j 1).val * C + (j 2).val = ((j 0).val * T + (j 1).val) * C + (j 2).val
  rw [h0, Nat.zero_mul, Nat.zero_add]

theorem down {T C : ℕ} (x : (Blk T C).Idx → EReal) (h : (Blk T C).ShapeCasts (Rows T C)) (j : (Blk T C).Idx) : shapeCast (Rows T C) x h (ix2 (j 1) (j 2)) = x j := by
  refine shapeCast_apply (α := EReal) x h (ix2 (j 1) (j 2)) j ?_
  have h0 : (j 0).val = 0 := Nat.lt_one_iff.mp (j 0).isLt
  rw [Shape.rowMajor_val_three, Shape.rowMajor_val_two]
  show ((j 0).val * T + (j 1).val) * C + (j 2).val = (j 1).val * C + (j 2).val
  rw [h0, Nat.zero_mul, Nat.zero_add]

theorem pick (p q : BitVec 32) (a b : EReal) : Scalar.select (IntOp.cmpi .eq p q) a b = if p = q then a else b := by
  unfold Scalar.select IntOp.cmpi
  by_cases h : p = q
  · subst h
    rw [if_pos rfl]
    simp
  · have hb : (p == q) = false := beq_eq_false_iff_ne.2 h
    rw [if_neg h]
    show (if BitVec.ofBool (p == q) = 1#1 then a else b) = b
    rw [hb]
    exact if_neg (by decide)

noncomputable def one : Word.Idx := fun a => match a with | ⟨0, _⟩ => ⟨0, Nat.one_pos⟩
theorem one_eq (i : Word.Idx) : i = one := funext fun a => match a with | ⟨0, h⟩ => Fin.ext (Nat.lt_one_iff.mp (i ⟨0, h⟩).isLt)

section
variable {R C : ℕ} (H : ℕ) [NeZero H]

/-- An element's place in its half. -/
noncomputable def half (i : (Arr R C).Idx) : (Arr H C).Idx := ix3 (i 0) (⟨(i 1).val % H, Nat.mod_lt _ (Nat.pos_of_neZero H)⟩ : Fin H) (i 2)

/-- The whole gradient: the half the core's number names is the core's own, the other half is the other core's. -/
noncomputable def whole (k : Word.Idx → BitVec 32) (a b : (Arr H C).Idx → EReal) : (Arr R C).Idx → EReal :=
  fun i => if BitVec.ofNat 32 ((i 1).val / H) = k one then a (half H i) else b (half H i)

/-- The two halves one after the other, each picked by the core's number. -/
theorem joined (hR : R = H + H) (k : Word.Idx → BitVec 32) (a b x y : (Arr H C).Idx → EReal) (h : Shape.Concatenates [Arr H C, Arr H C] (Arr R C) 1)
    (hx : ∀ i, x i = if (0#32 : BitVec 32) = k one then a i else b i) (hy : ∀ i, y i = if (1#32 : BitVec 32) = k one then a i else b i) :
    concatenate (Arr R C) 1 [⟨Arr H C, x⟩, ⟨Arr H C, y⟩] h = whole H k a b := by
  funext i
  have h1 : (i 1).val < R := (i 1).isLt
  have hH : 0 < H := Nat.pos_of_neZero H
  unfold whole
  by_cases hi : (i 1).val < H
  · have eh : half H i = ix3 (i 0) (⟨(i 1).val, hi⟩ : Fin H) (i 2) := congrArg (fun r : Fin H => (ix3 (i 0) r (i 2) : (Arr H C).Idx)) (Fin.ext (Nat.mod_eq_of_lt hi))
    have e0 : (i 1).val / H = 0 := Nat.div_eq_of_lt hi
    rw [e0, eh]
    exact (concatenate_pair_apply_left 1 _ _ h i rfl (ix3 (i 0) (⟨(i 1).val, hi⟩ : Fin H) (i 2)) (fun b => by match b with | ⟨0, _⟩ => rfl | ⟨1, _⟩ => rfl | ⟨2, _⟩ => rfl)).trans (hx _)
  · have hb : (i 1).val - H < H := by omega
    have e1 : (i 1).val / H = 1 := Nat.div_eq_of_lt_le (k := 1) (by omega) (by omega)
    have er : (i 1).val % H = (i 1).val - H := by rw [Nat.mod_eq_sub_mod (by omega), Nat.mod_eq_of_lt hb]
    have eh : half H i = ix3 (i 0) (⟨(i 1).val - H, hb⟩ : Fin H) (i 2) := congrArg (fun r : Fin H => (ix3 (i 0) r (i 2) : (Arr H C).Idx)) (Fin.ext er)
    rw [e1, eh]
    exact (concatenate_pair_apply_right 1 _ _ h i rfl rfl (ix3 (i 0) (⟨(i 1).val - H, hb⟩ : Fin H) (i 2)) (fun b hb => by match b with | ⟨0, _⟩ => rfl | ⟨1, _⟩ => exact absurd rfl hb | ⟨2, _⟩ => rfl)
      (by show (i 1).val - H + H = (i 1).val; omega)).trans (hy _)

end

section
variable {R C : ℕ}

noncomputable def newM (G A : (Arr R C).Idx → EReal) : (Arr R C).Idx → EReal := fun i => stepM (G i) (A i)
noncomputable def newV (G A : (Arr R C).Idx → EReal) : (Arr R C).Idx → EReal := fun i => stepV (G i) (A i)
noncomputable def moved (G W A B : (Arr R C).Idx → EReal) : (Arr R C).Idx → EReal := fun i => stepW (G i) (W i) (A i) (B i)

end

/-- An index is known by its three coordinates. -/
theorem same {a b c : ℕ} {i j : (⟨3, ![a, b, c]⟩ : Shape).Idx} (h0 : (i 0).val = (j 0).val) (h1 : (i 1).val = (j 1).val) (h2 : (i 2).val = (j 2).val) : i = j :=
  funext fun k => Fin.ext (match k with | ⟨0, _⟩ => h0 | ⟨1, _⟩ => h1 | ⟨2, _⟩ => h2)

end Cert.AdamwHalves

end
-- ==== Proof.AdamwOutValue.lean ====
/- What `AdamwOut` leaves are the reference's arrays. -/
module

public import proofs.«01_k».proof.Defs
public import proofs.«01_k».proof.Proof.Norms
public import proofs.«01_k».proof.Proof.AdamwHalves
public import proofs.«01_k».proof.Proof.Gen.AdamwOutIdeal.Frame
public import proofs.«01_k».proof.Proof.Gen.AdamwOut.Frame
public import proofs.«01_k».proof.Proof.Gen.AdamwOutReferenceIdeal.Read
public import Idealize.ShloMosaic.Lib.Quiescent
public import Idealize.ShloMosaic.Lib.Claim

@[expose] public section

set_option maxRecDepth 65536

noncomputable section

namespace Cert.AdamwOutIdeal.Block

open Cert.AdamwOutIdeal Cert.AdamwOutIdeal.Gen Cert.Product Cert.Norms
open Cert.AdamwHalves
open Cert.AdamwSmallIdeal.Block (stepM stepV stepW)
open Idealize.ShloMosaic hiding ix1 ix2 ix3 ix4 eq_ix2
open Idealize.SL.Sem
open Idealize.ShloMosaic.TcCoe Idealize.ShloMosaic.ValueIdx

theorem row_0 : ∀ t : Fin grid0.N, cc0_transform_0 (grid0.coords t) = ![t.val / 2, t.val % 2, 0] := by decide +kernel
theorem row_1 : ∀ t : Fin grid0.N, cc0_transform_1 (grid0.coords t) = ![t.val / 2, t.val % 2, 0] := by decide +kernel
theorem row_2 : ∀ t : Fin grid0.N, cc0_transform_2 (grid0.coords t) = ![t.val / 2, t.val % 2, 0] := by decide +kernel
theorem row_3 : ∀ t : Fin grid0.N, cc0_transform_3 (grid0.coords t) = ![t.val / 2, t.val % 2 % 1, 0] := by decide +kernel
theorem row_4 : ∀ t : Fin grid0.N, cc0_transform_4 (grid0.coords t) = ![t.val / 2, t.val % 2 % 1, 0] := by decide +kernel
theorem row_5 : ∀ t : Fin grid0.N, cc0_transform_5 (grid0.coords t) = ![t.val / 2, t.val % 2, 0] := by decide +kernel
theorem row_6 : ∀ t : Fin grid0.N, cc0_transform_6 (grid0.coords t) = ![t.val / 2, t.val % 2, 0] := by decide +kernel
theorem row_7 : ∀ t : Fin grid0.N, cc0_transform_7 (grid0.coords t) = ![t.val / 2, t.val % 2, 0] := by decide +kernel
theorem row_8 : ∀ t : Fin grid0.N, cc0_transform_8 (grid0.coords t) = ![t.val / 2, t.val % 2, 0] := by decide +kernel

section
variable (a : (pcfg0 (F := Ideal)).Adm)

/-- Every block of an array the grid writes is written at one of its points. -/
theorem reach : ∀ (x : Fin 4) (y : Fin 2), ∃ t : Fin grid0.N, t.val / 2 = x.val ∧ t.val % 2 = y.val := by decide +kernel

theorem reached {n : Fin 3 → ℕ} (β : (k : Fin 3) → Fin (n k)) (n0 : n 0 = 4) (n1 : n 1 = 2) (n2 : n 2 = 1) :
    ∃ t : Fin grid0.N, ∀ k : Fin 3, (![t.val / 2, t.val % 2, 0] : Fin 3 → ℕ) k = (β k).val := by
  obtain ⟨t, h0, h1⟩ := reach ⟨_, lt_of_lt_of_eq (β 0).isLt n0⟩ ⟨_, lt_of_lt_of_eq (β 1).isLt n1⟩
  exact ⟨t, fun k => match k with | ⟨0, _⟩ => h0 | ⟨1, _⟩ => h1 | ⟨2, _⟩ => (Nat.lt_one_iff.mp (lt_of_lt_of_eq (β 2).isLt n2)).symm⟩

theorem covers_5 : ((cfg0 a).win 5).Covers := by
  refine ⟨(by decide : ∀ k : Fin 3, 0 < S1x128x1024.size k), fun β => ?_⟩
  obtain ⟨t, h⟩ := reached (n := ((cfg0 a).win 5).nblk) β (by show ((4 + 1 - 1) / 1 : ℕ) = 4; rfl) (by show ((256 + 128 - 1) / 128 : ℕ) = 2; rfl) (by show ((1024 + 1024 - 1) / 1024 : ℕ) = 1; rfl)
  exact ⟨t, flush0_5 a t, fun k => ⟨(congrFun (row_5 t) k).trans (h k), Or.inl rfl⟩⟩

theorem covers_6 : ((cfg0 a).win 6).Covers := by
  refine ⟨(by decide : ∀ k : Fin 3, 0 < S1x128x1024.size k), fun β => ?_⟩
  obtain ⟨t, h⟩ := reached (n := ((cfg0 a).win 6).nblk) β (by show ((4 + 1 - 1) / 1 : ℕ) = 4; rfl) (by show ((256 + 128 - 1) / 128 : ℕ) = 2; rfl) (by show ((1024 + 1024 - 1) / 1024 : ℕ) = 1; rfl)
  exact ⟨t, flush0_6 a t, fun k => ⟨(congrFun (row_6 t) k).trans (h k), Or.inl rfl⟩⟩

theorem covers_7 : ((cfg0 a).win 7).Covers := by
  refine ⟨(by decide : ∀ k : Fin 3, 0 < S1x128x1024.size k), fun β => ?_⟩
  obtain ⟨t, h⟩ := reached (n := ((cfg0 a).win 7).nblk) β (by show ((4 + 1 - 1) / 1 : ℕ) = 4; rfl) (by show ((256 + 128 - 1) / 128 : ℕ) = 2; rfl) (by show ((1024 + 1024 - 1) / 1024 : ℕ) = 1; rfl)
  exact ⟨t, flush0_7 a t, fun k => ⟨(congrFun (row_7 t) k).trans (h k), Or.inl rfl⟩⟩

theorem covers_8 : ((cfg0 a).win 8).Covers := by
  refine ⟨(by decide : ∀ k : Fin 3, 0 < S1x128x1024.size k), fun β => ?_⟩
  obtain ⟨t, h⟩ := reached (n := ((cfg0 a).win 8).nblk) β (by show ((4 + 1 - 1) / 1 : ℕ) = 4; rfl) (by show ((256 + 128 - 1) / 128 : ℕ) = 2; rfl) (by show ((1024 + 1024 - 1) / 1024 : ℕ) = 1; rfl)
  exact ⟨t, flush0_8 a t, fun k => ⟨(congrFun (row_8 t) k).trans (h k), Or.inl rfl⟩⟩

end

/-- The quotient the body works out of its second coordinate. -/
noncomputable def quot (i : grid0.Coords) : BitVec 32 :=
  let arg1 : BitVec 32 := BitVec.ofNat 32 (i 1).val
  let v0 : BitVec 32 := Scalar.divsi arg1 1#32
  let v2 : BitVec 32 := Scalar.extui (Scalar.cmpi .sgt arg1 0#32)
  let v4 : BitVec 32 := Scalar.extui (Scalar.cmpi .slt arg1 0#32)
  let v7 : BitVec 32 := Scalar.extui (Scalar.cmpi .sgt 1#32 0#32)
  let v9 : BitVec 32 := Scalar.extui (Scalar.cmpi .slt 1#32 0#32)
  Scalar.select (Scalar.andi (Scalar.cmpi .ne (Scalar.subi v2 v4) (Scalar.subi v7 v9)) (Scalar.cmpi .ne (Scalar.remsi arg1 1#32) 0#32)) (Scalar.subi v0 1#32) v0

theorem quot_at : ∀ t : Fin grid0.N, quot (grid0.coords t) = BitVec.ofNat 32 (t.val % 2 / 1) := by decide +kernel

/-- The block's gradient: the core's own half's block in the rows of the half the word names, the other's elsewhere. -/
theorem grad_at (t : Fin grid0.N) (k : BitVec 32) (x y : S1x128x1024.Idx → EReal) (j : S1x128x1024.Idx) :
    k0_pay6 (F := Ideal) (grid0.coords t) k x y (ix2 (j 1) (j 2)) = if BitVec.ofNat 32 (t.val % 2 / 1) = k then x j else y j := by
  rw [← quot_at t, ← down x shapeCasts_S1x128x1024_S128x1024 j, ← down y shapeCasts_S1x128x1024_S128x1024 j]
  have e : k0_pay6 (F := Ideal) (grid0.coords t) k x y = Scalar.select (Scalar.cmpi .eq (quot (grid0.coords t)) k) (shapeCast S128x1024 x shapeCasts_S1x128x1024_S128x1024) (shapeCast S128x1024 y shapeCasts_S1x128x1024_S128x1024) := rfl
  rw [e, ← pick]
  unfold Scalar.select Scalar.cmpi
  split <;> rfl

theorem newM_at (g a : S128x1024.Idx → EReal) (j : S1x128x1024.Idx) : k0_pay4 (F := Ideal) g a j = stepM (g (ix2 (j 1) (j 2))) (a (ix2 (j 1) (j 2))) :=
  (up (k0_pay1 (F := Ideal) g a) _ j).trans rfl

theorem newV_in (g : S128x1024.Idx → EReal) (b : S1x128x1024.Idx → EReal) (j : S1x128x1024.Idx) : k0_pay2 (F := Ideal) g b (ix2 (j 1) (j 2)) = stepV (g (ix2 (j 1) (j 2))) (b j) := by
  rw [← down b shapeCasts_S1x128x1024_S128x1024 j]
  rfl

theorem newV_at (g : S128x1024.Idx → EReal) (b : S1x128x1024.Idx → EReal) (j : S1x128x1024.Idx) : k0_pay5 (F := Ideal) g b j = stepV (g (ix2 (j 1) (j 2))) (b j) :=
  (up (k0_pay2 (F := Ideal) g b) _ j).trans (newV_in g b j)

theorem moved_at (g w a : S128x1024.Idx → EReal) (b : S1x128x1024.Idx → EReal) (j : S1x128x1024.Idx) :
    k0_pay3 (F := Ideal) g w a b j = stepW (g (ix2 (j 1) (j 2))) (w (ix2 (j 1) (j 2))) (a (ix2 (j 1) (j 2))) (b j) := by
  unfold k0_pay3
  refine (up _ shapeCasts_S128x1024_S1x128x1024 j).trans ?_
  unfold stepW
  rw [← newV_in g b j]
  rfl

variable (m : (ℓ : Loc nD τ sig) → Buf (Elt Ideal) ℓ) (hO : Ok m) (c : Dev nD)

/-- The weights, the two running means, the gradient's two halves, and the core's number. -/
noncomputable def wgt : S4x256x1024.Idx → EReal := m ((c : Thread nD τ).loc main_arg0)
noncomputable def mom : S4x256x1024.Idx → EReal := m ((c : Thread nD τ).loc main_arg1)
noncomputable def var : S4x256x1024.Idx → EReal := m ((c : Thread nD τ).loc main_arg2)
noncomputable def mine : S4x128x1024.Idx → EReal := m ((c : Thread nD τ).loc main_arg3)
noncomputable def theirs : S4x128x1024.Idx → EReal := m ((c : Thread nD τ).loc main_arg4)
noncomputable def core : S1.Idx → BitVec 32 := m ((c : Thread nD τ).loc main_arg5)

theorem lim (t : Fin grid0.N) : t.val < 4 * 2 := lt_of_lt_of_eq t.isLt N_0

/-- Where a point's block lies in the arrays, and in the halves. -/
noncomputable def pos (t : Fin grid0.N) (y : S1x128x1024.Idx) : S4x256x1024.Idx :=
  ix3 (⟨t.val / 2, by have := lim t; omega⟩ : Fin 4) (⟨t.val % 2 * 128 + (y 1).val, by have h : (y 1).val < 128 := (y 1).isLt; omega⟩ : Fin 256) (y 2)

theorem half_row (t : Fin grid0.N) (y : S1x128x1024.Idx) : t.val % 2 % 1 * 128 + (y 1).val = (half 128 (pos t y) 1).val := by
  have h : (y 1).val < 128 := (y 1).isLt
  show _ = (t.val % 2 * 128 + (y 1).val) % 128
  omega

theorem column (n : ℕ) : 0 * 1024 + n = n := by omega

theorem emb_0 (t : Fin (cfgM m hO).N) (y : S1x128x1024.Idx) : ((((cfgM m hO).win 0).blk t).view.emb y : S4x256x1024.Idx) = pos t y :=
  same (by blk_simp; exact congrFun (row_0 t) 0) (by blk_simp; exact congrArg (· * 128 + (y 1).val) (congrFun (row_0 t) 1)) (by blk_simp; exact (congrArg (· * 1024 + (y 2).val) (congrFun (row_0 t) 2)).trans (column _))

theorem emb_1 (t : Fin (cfgM m hO).N) (y : S1x128x1024.Idx) : ((((cfgM m hO).win 1).blk t).view.emb y : S4x256x1024.Idx) = pos t y :=
  same (by blk_simp; exact congrFun (row_1 t) 0) (by blk_simp; exact congrArg (· * 128 + (y 1).val) (congrFun (row_1 t) 1)) (by blk_simp; exact (congrArg (· * 1024 + (y 2).val) (congrFun (row_1 t) 2)).trans (column _))

theorem emb_2 (t : Fin (cfgM m hO).N) (y : S1x128x1024.Idx) : ((((cfgM m hO).win 2).blk t).view.emb y : S4x256x1024.Idx) = pos t y :=
  same (by blk_simp; exact congrFun (row_2 t) 0) (by blk_simp; exact congrArg (· * 128 + (y 1).val) (congrFun (row_2 t) 1)) (by blk_simp; exact (congrArg (· * 1024 + (y 2).val) (congrFun (row_2 t) 2)).trans (column _))

theorem emb_3 (t : Fin (cfgM m hO).N) (y : S1x128x1024.Idx) : ((((cfgM m hO).win 3).blk t).view.emb y : S4x128x1024.Idx) = half 128 (pos t y) :=
  same (by blk_simp; exact congrFun (row_3 t) 0) (by blk_simp; exact (congrArg (· * 128 + (y 1).val) (congrFun (row_3 t) 1)).trans (half_row t y)) (by blk_simp; exact (congrArg (· * 1024 + (y 2).val) (congrFun (row_3 t) 2)).trans (column _))

theorem emb_4 (t : Fin (cfgM m hO).N) (y : S1x128x1024.Idx) : ((((cfgM m hO).win 4).blk t).view.emb y : S4x128x1024.Idx) = half 128 (pos t y) :=
  same (by blk_simp; exact congrFun (row_4 t) 0) (by blk_simp; exact (congrArg (· * 128 + (y 1).val) (congrFun (row_4 t) 1)).trans (half_row t y)) (by blk_simp; exact (congrArg (· * 1024 + (y 2).val) (congrFun (row_4 t) 2)).trans (column _))

theorem emb_5 (t : Fin (cfgM m hO).N) (y : S1x128x1024.Idx) : ((((cfgM m hO).win 5).blk t).view.emb y : S4x256x1024.Idx) = pos t y :=
  same (by blk_simp; exact congrFun (row_5 t) 0) (by blk_simp; exact congrArg (· * 128 + (y 1).val) (congrFun (row_5 t) 1)) (by blk_simp; exact (congrArg (· * 1024 + (y 2).val) (congrFun (row_5 t) 2)).trans (column _))

theorem emb_6 (t : Fin (cfgM m hO).N) (y : S1x128x1024.Idx) : ((((cfgM m hO).win 6).blk t).view.emb y : S4x256x1024.Idx) = pos t y :=
  same (by blk_simp; exact congrFun (row_6 t) 0) (by blk_simp; exact congrArg (· * 128 + (y 1).val) (congrFun (row_6 t) 1)) (by blk_simp; exact (congrArg (· * 1024 + (y 2).val) (congrFun (row_6 t) 2)).trans (column _))

theorem emb_7 (t : Fin (cfgM m hO).N) (y : S1x128x1024.Idx) : ((((cfgM m hO).win 7).blk t).view.emb y : S4x256x1024.Idx) = pos t y :=
  same (by blk_simp; exact congrFun (row_7 t) 0) (by blk_simp; exact congrArg (· * 128 + (y 1).val) (congrFun (row_7 t) 1)) (by blk_simp; exact (congrArg (· * 1024 + (y 2).val) (congrFun (row_7 t) 2)).trans (column _))

theorem emb_8 (t : Fin (cfgM m hO).N) (y : S1x128x1024.Idx) : ((((cfgM m hO).win 8).blk t).view.emb y : S4x256x1024.Idx) = pos t y :=
  same (by blk_simp; exact congrFun (row_8 t) 0) (by blk_simp; exact congrArg (· * 128 + (y 1).val) (congrFun (row_8 t) 1)) (by blk_simp; exact (congrArg (· * 1024 + (y 2).val) (congrFun (row_8 t) 2)).trans (column _))

theorem blk_0 (t : Fin (cfgM m hO).N) (y : S1x128x1024.Idx) : iblk m hO c 0 t y = wgt m c (pos t y) := congrArg (wgt m c) (emb_0 m hO t y)

theorem blk_1 (t : Fin (cfgM m hO).N) (y : S1x128x1024.Idx) : iblk m hO c 1 t y = mom m c (pos t y) := congrArg (mom m c) (emb_1 m hO t y)

theorem blk_2 (t : Fin (cfgM m hO).N) (y : S1x128x1024.Idx) : iblk m hO c 2 t y = var m c (pos t y) := congrArg (var m c) (emb_2 m hO t y)

theorem blk_3 (t : Fin (cfgM m hO).N) (y : S1x128x1024.Idx) : iblk m hO c 3 t y = mine m c (half 128 (pos t y)) := congrArg (mine m c) (emb_3 m hO t y)

theorem blk_4 (t : Fin (cfgM m hO).N) (y : S1x128x1024.Idx) : iblk m hO c 4 t y = theirs m c (half 128 (pos t y)) := congrArg (theirs m c) (emb_4 m hO t y)

theorem whole_pos (k : S1.Idx → BitVec 32) (a b : S4x128x1024.Idx → EReal) (t : Fin grid0.N) (y : S1x128x1024.Idx) :
    whole 128 k a b (pos t y) = if BitVec.ofNat 32 (t.val % 2 / 1) = k one then a (half 128 (pos t y)) else b (half 128 (pos t y)) := by
  have h : (y 1).val < 128 := (y 1).isLt
  have e : ((pos t y) 1).val / 128 = t.val % 2 / 1 := by show (t.val % 2 * 128 + (y 1).val) / 128 = _; omega
  unfold whole
  rw [e]

theorem grad_blk (t : Fin (cfgM m hO).N) (y : S1x128x1024.Idx) :
    k0_pay6 (F := Ideal) (grid0.coords t) (core m c one) (iblk m hO c 3 t) (iblk m hO c 4 t) (ix2 (y 1) (y 2)) = whole 128 (core m c) (mine m c) (theirs m c) (pos t y) := by
  rw [whole_pos, ← blk_3 m hO c t y, ← blk_4 m hO c t y]
  exact grad_at t (core m c one) (iblk m hO c 3 t) (iblk m hO c 4 t) y

theorem word (i : S1.Idx) : (tbl m 0 : S1.Idx → BitVec 32) i = core m c one := by
  obtain rfl : c = 0 := Subsingleton.elim _ _
  exact congrArg (core m 0) (one_eq i)

theorem word_read (h : ∀ a, (![0] : Fin 1 → ℕ) a + (![1] : Fin 1 → ℕ) a ≤ S1.size a) (i) :
    View.readAt (Elt Ideal) (View.whole main_arg5) (Rect.unit (s := S1) ![0] ![1] h).toLoadRect (tbl m 0) i = core m c one := word m c _

theorem pay_5 (t : Fin (cfgM m hO).N) (y : S1x128x1024.Idx) {x3 x4 : S1x128x1024.Idx → EReal} (e3 : x3 = iblk m hO c 3 t) (e4 : x4 = iblk m hO c 4 t) : k0_pay7 (F := Ideal) (grid0.coords t) (core m c one) x3 x4 y = whole 128 (core m c) (mine m c) (theirs m c) (pos t y) := by
  subst e3 e4
  exact (up _ shapeCasts_S128x1024_S1x128x1024 y).trans (grad_blk m hO c t y)

theorem out_5 : (dats m hO 0 c).arrAt 5 (cfgM m hO).N = whole 128 (core m c) (mine m c) (theirs m c) := by
  refine (dats m hO 0 c).arrAt_eq_of_covers 5 _ (covers_5 _) (fun t hf y => ?_) (Memref.isWhole_whole _)
  rw [after0_5]
  unfold outsAt0
  frame_out
  rw [word_read m c]
  exact (pay_5 m hO c t y (Memref.IsWhole.read_unread (hs0_3 m hO t) (iblk m hO c 3 t)) (Memref.IsWhole.read_unread (hs0_4 m hO t) (iblk m hO c 4 t))).trans (congrArg (whole 128 (core m c) (mine m c) (theirs m c)) (emb_5 m hO t y)).symm

theorem pay_6 (t : Fin (cfgM m hO).N) (y : S1x128x1024.Idx) {x0 x1 x2 x3 x4 : S1x128x1024.Idx → EReal} (e0 : x0 = iblk m hO c 0 t) (e1 : x1 = iblk m hO c 1 t) (e2 : x2 = iblk m hO c 2 t) (e3 : x3 = iblk m hO c 3 t) (e4 : x4 = iblk m hO c 4 t) : k0_pay3 (F := Ideal) (k0_pay6 (F := Ideal) (grid0.coords t) (core m c one) x3 x4) (k0_pay8 (F := Ideal) x0) (k0_pay9 (F := Ideal) x1) x2 y = moved (whole 128 (core m c) (mine m c) (theirs m c)) (wgt m c) (mom m c) (var m c) (pos t y) := by
  subst e0 e1 e2 e3 e4
  exact (moved_at _ _ _ _ y).trans (by unfold moved; rw [grad_blk m hO c t y, ← blk_0 m hO c t y, ← blk_1 m hO c t y, ← blk_2 m hO c t y]; exact congrArg₂ (fun u v : EReal => stepW _ u v _) (down (iblk m hO c 0 t) shapeCasts_S1x128x1024_S128x1024 y) (down (iblk m hO c 1 t) shapeCasts_S1x128x1024_S128x1024 y))

theorem out_6 : (dats m hO 0 c).arrAt 6 (cfgM m hO).N = moved (whole 128 (core m c) (mine m c) (theirs m c)) (wgt m c) (mom m c) (var m c) := by
  refine (dats m hO 0 c).arrAt_eq_of_covers 6 _ (covers_6 _) (fun t hf y => ?_) (Memref.isWhole_whole _)
  rw [after0_6]
  unfold outsAt0
  frame_out
  rw [word_read m c]
  exact (pay_6 m hO c t y (Memref.IsWhole.read_unread (hs0_0 m hO t) (iblk m hO c 0 t)) (Memref.IsWhole.read_unread (hs0_1 m hO t) (iblk m hO c 1 t)) (Memref.IsWhole.read_unread (hs0_2 m hO t) (iblk m hO c 2 t)) (Memref.IsWhole.read_unread (hs0_3 m hO t) (iblk m hO c 3 t)) (Memref.IsWhole.read_unread (hs0_4 m hO t) (iblk m hO c 4 t))).trans (congrArg (moved (whole 128 (core m c) (mine m c) (theirs m c)) (wgt m c) (mom m c) (var m c)) (emb_6 m hO t y)).symm

theorem pay_7 (t : Fin (cfgM m hO).N) (y : S1x128x1024.Idx) {x1 x3 x4 : S1x128x1024.Idx → EReal} (e1 : x1 = iblk m hO c 1 t) (e3 : x3 = iblk m hO c 3 t) (e4 : x4 = iblk m hO c 4 t) : k0_pay4 (F := Ideal) (k0_pay6 (F := Ideal) (grid0.coords t) (core m c one) x3 x4) (k0_pay9 (F := Ideal) x1) y = newM (whole 128 (core m c) (mine m c) (theirs m c)) (mom m c) (pos t y) := by
  subst e1 e3 e4
  exact (newM_at _ _ y).trans (by unfold newM; rw [grad_blk m hO c t y, ← blk_1 m hO c t y]; exact congrArg (stepM _) (down (iblk m hO c 1 t) shapeCasts_S1x128x1024_S128x1024 y))

theorem out_7 : (dats m hO 0 c).arrAt 7 (cfgM m hO).N = newM (whole 128 (core m c) (mine m c) (theirs m c)) (mom m c) := by
  refine (dats m hO 0 c).arrAt_eq_of_covers 7 _ (covers_7 _) (fun t hf y => ?_) (Memref.isWhole_whole _)
  rw [after0_7]
  unfold outsAt0
  frame_out
  rw [word_read m c]
  exact (pay_7 m hO c t y (Memref.IsWhole.read_unread (hs0_1 m hO t) (iblk m hO c 1 t)) (Memref.IsWhole.read_unread (hs0_3 m hO t) (iblk m hO c 3 t)) (Memref.IsWhole.read_unread (hs0_4 m hO t) (iblk m hO c 4 t))).trans (congrArg (newM (whole 128 (core m c) (mine m c) (theirs m c)) (mom m c)) (emb_7 m hO t y)).symm

theorem pay_8 (t : Fin (cfgM m hO).N) (y : S1x128x1024.Idx) {x2 x3 x4 : S1x128x1024.Idx → EReal} (e2 : x2 = iblk m hO c 2 t) (e3 : x3 = iblk m hO c 3 t) (e4 : x4 = iblk m hO c 4 t) : k0_pay5 (F := Ideal) (k0_pay6 (F := Ideal) (grid0.coords t) (core m c one) x3 x4) x2 y = newV (whole 128 (core m c) (mine m c) (theirs m c)) (var m c) (pos t y) := by
  subst e2 e3 e4
  exact (newV_at _ _ y).trans (by unfold newV; rw [grad_blk m hO c t y, ← blk_2 m hO c t y])

theorem out_8 : (dats m hO 0 c).arrAt 8 (cfgM m hO).N = newV (whole 128 (core m c) (mine m c) (theirs m c)) (var m c) := by
  refine (dats m hO 0 c).arrAt_eq_of_covers 8 _ (covers_8 _) (fun t hf y => ?_) (Memref.isWhole_whole _)
  rw [after0_8]
  unfold outsAt0
  frame_out
  rw [word_read m c]
  exact (pay_8 m hO c t y (Memref.IsWhole.read_unread (hs0_2 m hO t) (iblk m hO c 2 t)) (Memref.IsWhole.read_unread (hs0_3 m hO t) (iblk m hO c 3 t)) (Memref.IsWhole.read_unread (hs0_4 m hO t) (iblk m hO c 4 t))).trans (congrArg (newV (whole 128 (core m c) (mine m c) (theirs m c)) (var m c)) (emb_8 m hO t y)).symm

section
open Cert.AdamwOutReferenceIdeal.Read

theorem ref_whole (a b : S4x128x1024.Idx → EReal) (k : S1.Idx → BitVec 32) : (val_main_v6 (F := Ideal) a b k : S4x256x1024.Idx → EReal) = whole 128 k a b := by
  refine joined 128 rfl k a b _ _ _ (fun i => ?_) (fun i => ?_)
  · rw [val_main_v2_apply, val_main_call0_v0_apply, val_main_v1_apply, one_eq (idx_main_call0_v0 _)]
    exact (pick _ _ _ _).trans (if_congr eq_comm rfl rfl)
  · rw [val_main_v5_apply, val_main_call1_v0_apply, val_main_v4_apply, one_eq (idx_main_call1_v0 _)]
    exact (pick _ _ _ _).trans (if_congr eq_comm rfl rfl)

theorem ref_M (A : S4x256x1024.Idx → EReal) (a b : S4x128x1024.Idx → EReal) (k : S1.Idx → BitVec 32) : val_main_v11 (F := Ideal) A a b k = newM (whole 128 k a b) A := by
  funext i
  exact Eq.trans rfl (congrArg (fun u : EReal => stepM u (A i)) (congrFun (ref_whole a b k) i))

theorem ref_V (B : S4x256x1024.Idx → EReal) (a b : S4x128x1024.Idx → EReal) (k : S1.Idx → BitVec 32) : val_main_v17 (F := Ideal) B a b k = newV (whole 128 k a b) B := by
  funext i
  exact Eq.trans rfl (congrArg (fun u : EReal => stepV u (B i)) (congrFun (ref_whole a b k) i))

theorem ref_W (W A B : S4x256x1024.Idx → EReal) (a b : S4x128x1024.Idx → EReal) (k : S1.Idx → BitVec 32) : val_main_v30 (F := Ideal) W A B a b k = moved (whole 128 k a b) W A B := by
  funext i
  exact Eq.trans rfl (congrArg (fun u : EReal => stepW u (W i) (A i) (B i)) (congrFun (ref_whole a b k) i))

end

end Cert.AdamwOutIdeal.Block

namespace Cert.Proof.AdamwOut

open Idealize.ShloMosaic Idealize.SL.Sem
open Idealize.ShloMosaic.TcCoe
open Cert.AdamwOutIdeal.Block Cert.AdamwHalves

theorem frame_bits : Cert.quiescent_AdamwOut (hAdamwOut := Cert.AdamwOut.Gen.facts) := fun m g _ => Cert.AdamwOut.Gen.frame m g trivial

theorem frame_ideal : Cert.quiescent_AdamwOutIdeal (hAdamwOutIdeal := Cert.AdamwOutIdeal.Gen.facts) := fun m g _ => Cert.AdamwOutIdeal.Gen.frame m g trivial

theorem frame_ref : Cert.quiescent_AdamwOutReferenceIdeal (hAdamwOutReferenceIdeal := Cert.AdamwOutReferenceIdeal.Gen.facts) := fun m g _ =>
  (θ_run Cert.AdamwOutReferenceIdeal.defs _ _).mono (fun r h => ⟨fun c => (h c).2.2.2.2, sem_eq_zero_of_no_sems rfl r.2⟩)
    (Cert.AdamwOutReferenceIdeal.Value.run (F := Ideal) m g)

section
open Cert.AdamwOutIdeal Cert.AdamwOutIdeal.Gen

theorem arrays (m : (ℓ : Loc nD τ sig) → Buf (Elt Ideal) ℓ) (g : Dev nD → PrngReg) (hO : Ok m) :
    θ_run (defs (F := Ideal)) (onTc (τ := τ) (main (F := Ideal))) ⟨m, fun _ => 0, g⟩ (fun r => ∀ c : Dev nD,
      r.2.mem ((c.tc : Thread nD τ).loc main_v0_0) = whole 128 (core m c) (mine m c) (theirs m c)
      ∧ r.2.mem ((c.tc : Thread nD τ).loc main_v0_1) = moved (whole 128 (core m c) (mine m c) (theirs m c)) (wgt m c) (mom m c) (var m c)
      ∧ r.2.mem ((c.tc : Thread nD τ).loc main_v0_2) = newM (whole 128 (core m c) (mine m c) (theirs m c)) (mom m c)
      ∧ r.2.mem ((c.tc : Thread nD τ).loc main_v0_3) = newV (whole 128 (core m c) (mine m c) (theirs m c)) (var m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun _ h c => ⟨((h c).1 5).trans (out_5 m hO c), ((h c).1 6).trans (out_6 m hO c), ((h c).1 7).trans (out_7 m hO c), ((h c).1 8).trans (out_8 m hO c),
    ((h c).1 0).trans (((dats m hO 0 c).arrAt_in 0 rfl _).trans ((A_eq m hO c 0).trans (V_main_arg0 m c))),
    ((h c).1 1).trans (((dats m hO 0 c).arrAt_in 1 rfl _).trans ((A_eq m hO c 1).trans (V_main_arg1 m c))),
    ((h c).1 2).trans (((dats m hO 0 c).arrAt_in 2 rfl _).trans ((A_eq m hO c 2).trans (V_main_arg2 m c))),
    ((h c).1 3).trans (((dats m hO 0 c).arrAt_in 3 rfl _).trans ((A_eq m hO c 3).trans (V_main_arg3 m c))),
    ((h c).1 4).trans (((dats m hO 0 c).arrAt_in 4 rfl _).trans ((A_eq m hO c 4).trans (V_main_arg4 m c))),
    ((h c).2 main_arg5 (by decide : main_arg5 ∈ Pipeline.restRefs sig spec0)).trans (V_main_arg5 m c)⟩) (run_main m g hO)

end

theorem algebraic : Cert.algebraic_AdamwOutIdeal_AdamwOutReferenceIdeal (hAdamwOutIdeal := Cert.AdamwOutIdeal.Gen.facts)
    (hAdamwOutReferenceIdeal := Cert.AdamwOutReferenceIdeal.Gen.facts) := by
  intro m g m' g' _ hargs
  refine ⟨fun c => whole 128 (core m c) (mine m c) (theirs m c), fun c => moved (whole 128 (core m c) (mine m c) (theirs m c)) (wgt m c) (mom m c) (var m c),
    fun c => newM (whole 128 (core m c) (mine m c) (theirs m c)) (mom m c), fun c => newV (whole 128 (core m c) (mine m c) (theirs m c)) (var m c), arrays m g trivial, ?_⟩
  refine (θ_run _ _ _).mono (fun r h c => ⟨(h c).1.trans ?_, (h c).2.1.trans ?_, (h c).2.2.1.trans ?_, (h c).2.2.2.1.trans ?_, (h c).2.2.2.2⟩) (Cert.AdamwOutReferenceIdeal.Value.run (F := Ideal) m' g')
  · obtain ⟨a0, a1, a2, a3, a4, a5⟩ := hargs c
    rw [Cert.AdamwOutReferenceIdeal.Read.val_main_v6_eq, a3, a4, a5]
    exact ref_whole _ _ _
  · obtain ⟨a0, a1, a2, a3, a4, a5⟩ := hargs c
    rw [Cert.AdamwOutReferenceIdeal.Read.val_main_v30_eq, a0, a1, a2, a3, a4, a5]
    exact ref_W _ _ _ _ _ _
  · obtain ⟨a0, a1, a2, a3, a4, a5⟩ := hargs c
    rw [Cert.AdamwOutReferenceIdeal.Read.val_main_v11_eq, a1, a3, a4, a5]
    exact ref_M _ _ _ _
  · obtain ⟨a0, a1, a2, a3, a4, a5⟩ := hargs c
    rw [Cert.AdamwOutReferenceIdeal.Read.val_main_v17_eq, a2, a3, a4, a5]
    exact ref_V _ _ _ _

end Cert.Proof.AdamwOut

end
-- ==== Proof.AdamwFfValue.lean ====
/- What `AdamwFf` leaves are the reference's arrays. -/
module

public import proofs.«01_k».proof.Defs
public import proofs.«01_k».proof.Proof.Norms
public import proofs.«01_k».proof.Proof.AdamwHalves
public import proofs.«01_k».proof.Proof.Gen.AdamwFfIdeal.Frame
public import proofs.«01_k».proof.Proof.Gen.AdamwFf.Frame
public import proofs.«01_k».proof.Proof.Gen.AdamwFfReferenceIdeal.Read
public import Idealize.ShloMosaic.Lib.Quiescent
public import Idealize.ShloMosaic.Lib.Claim

@[expose] public section

set_option maxRecDepth 65536

noncomputable section

namespace Cert.AdamwFfIdeal.Block

open Cert.AdamwFfIdeal Cert.AdamwFfIdeal.Gen Cert.Product Cert.Norms
open Cert.AdamwHalves
open Cert.AdamwSmallIdeal.Block (stepM stepV stepW)
open Idealize.ShloMosaic hiding ix1 ix2 ix3 ix4 eq_ix2
open Idealize.SL.Sem
open Idealize.ShloMosaic.TcCoe Idealize.ShloMosaic.ValueIdx

theorem row_0 : ∀ t : Fin grid0.N, cc0_transform_0 (grid0.coords t) = ![t.val / 4, t.val % 4, 0] := by decide +kernel
theorem row_1 : ∀ t : Fin grid0.N, cc0_transform_1 (grid0.coords t) = ![t.val / 4, t.val % 4, 0] := by decide +kernel
theorem row_2 : ∀ t : Fin grid0.N, cc0_transform_2 (grid0.coords t) = ![t.val / 4, t.val % 4, 0] := by decide +kernel
theorem row_3 : ∀ t : Fin grid0.N, cc0_transform_3 (grid0.coords t) = ![t.val / 4, t.val % 4 % 2, 0] := by decide +kernel
theorem row_4 : ∀ t : Fin grid0.N, cc0_transform_4 (grid0.coords t) = ![t.val / 4, t.val % 4 % 2, 0] := by decide +kernel
theorem row_5 : ∀ t : Fin grid0.N, cc0_transform_5 (grid0.coords t) = ![t.val / 4, t.val % 4, 0] := by decide +kernel
theorem row_6 : ∀ t : Fin grid0.N, cc0_transform_6 (grid0.coords t) = ![t.val / 4, t.val % 4, 0] := by decide +kernel
theorem row_7 : ∀ t : Fin grid0.N, cc0_transform_7 (grid0.coords t) = ![t.val / 4, t.val % 4, 0] := by decide +kernel
theorem row_8 : ∀ t : Fin grid0.N, cc0_transform_8 (grid0.coords t) = ![t.val / 4, t.val % 4, 0] := by decide +kernel

section
variable (a : (pcfg0 (F := Ideal)).Adm)

/-- Every block of an array the grid writes is written at one of its points. -/
theorem reach : ∀ (x : Fin 4) (y : Fin 4), ∃ t : Fin grid0.N, t.val / 4 = x.val ∧ t.val % 4 = y.val := by decide +kernel

theorem reached {n : Fin 3 → ℕ} (β : (k : Fin 3) → Fin (n k)) (n0 : n 0 = 4) (n1 : n 1 = 4) (n2 : n 2 = 1) :
    ∃ t : Fin grid0.N, ∀ k : Fin 3, (![t.val / 4, t.val % 4, 0] : Fin 3 → ℕ) k = (β k).val := by
  obtain ⟨t, h0, h1⟩ := reach ⟨_, lt_of_lt_of_eq (β 0).isLt n0⟩ ⟨_, lt_of_lt_of_eq (β 1).isLt n1⟩
  exact ⟨t, fun k => match k with | ⟨0, _⟩ => h0 | ⟨1, _⟩ => h1 | ⟨2, _⟩ => (Nat.lt_one_iff.mp (lt_of_lt_of_eq (β 2).isLt n2)).symm⟩

theorem covers_5 : ((cfg0 a).win 5).Covers := by
  refine ⟨(by decide : ∀ k : Fin 3, 0 < S1x256x1024.size k), fun β => ?_⟩
  obtain ⟨t, h⟩ := reached (n := ((cfg0 a).win 5).nblk) β (by show ((4 + 1 - 1) / 1 : ℕ) = 4; rfl) (by show ((1024 + 256 - 1) / 256 : ℕ) = 4; rfl) (by show ((1024 + 1024 - 1) / 1024 : ℕ) = 1; rfl)
  exact ⟨t, flush0_5 a t, fun k => ⟨(congrFun (row_5 t) k).trans (h k), Or.inl rfl⟩⟩

theorem covers_6 : ((cfg0 a).win 6).Covers := by
  refine ⟨(by decide : ∀ k : Fin 3, 0 < S1x256x1024.size k), fun β => ?_⟩
  obtain ⟨t, h⟩ := reached (n := ((cfg0 a).win 6).nblk) β (by show ((4 + 1 - 1) / 1 : ℕ) = 4; rfl) (by show ((1024 + 256 - 1) / 256 : ℕ) = 4; rfl) (by show ((1024 + 1024 - 1) / 1024 : ℕ) = 1; rfl)
  exact ⟨t, flush0_6 a t, fun k => ⟨(congrFun (row_6 t) k).trans (h k), Or.inl rfl⟩⟩

theorem covers_7 : ((cfg0 a).win 7).Covers := by
  refine ⟨(by decide : ∀ k : Fin 3, 0 < S1x256x1024.size k), fun β => ?_⟩
  obtain ⟨t, h⟩ := reached (n := ((cfg0 a).win 7).nblk) β (by show ((4 + 1 - 1) / 1 : ℕ) = 4; rfl) (by show ((1024 + 256 - 1) / 256 : ℕ) = 4; rfl) (by show ((1024 + 1024 - 1) / 1024 : ℕ) = 1; rfl)
  exact ⟨t, flush0_7 a t, fun k => ⟨(congrFun (row_7 t) k).trans (h k), Or.inl rfl⟩⟩

theorem covers_8 : ((cfg0 a).win 8).Covers := by
  refine ⟨(by decide : ∀ k : Fin 3, 0 < S1x256x1024.size k), fun β => ?_⟩
  obtain ⟨t, h⟩ := reached (n := ((cfg0 a).win 8).nblk) β (by show ((4 + 1 - 1) / 1 : ℕ) = 4; rfl) (by show ((1024 + 256 - 1) / 256 : ℕ) = 4; rfl) (by show ((1024 + 1024 - 1) / 1024 : ℕ) = 1; rfl)
  exact ⟨t, flush0_8 a t, fun k => ⟨(congrFun (row_8 t) k).trans (h k), Or.inl rfl⟩⟩

end

/-- The quotient the body works out of its second coordinate. -/
noncomputable def quot (i : grid0.Coords) : BitVec 32 :=
  let arg1 : BitVec 32 := BitVec.ofNat 32 (i 1).val
  let v0 : BitVec 32 := Scalar.divsi arg1 2#32
  let v2 : BitVec 32 := Scalar.extui (Scalar.cmpi .sgt arg1 0#32)
  let v4 : BitVec 32 := Scalar.extui (Scalar.cmpi .slt arg1 0#32)
  let v7 : BitVec 32 := Scalar.extui (Scalar.cmpi .sgt 2#32 0#32)
  let v9 : BitVec 32 := Scalar.extui (Scalar.cmpi .slt 2#32 0#32)
  Scalar.select (Scalar.andi (Scalar.cmpi .ne (Scalar.subi v2 v4) (Scalar.subi v7 v9)) (Scalar.cmpi .ne (Scalar.remsi arg1 2#32) 0#32)) (Scalar.subi v0 1#32) v0

theorem quot_at : ∀ t : Fin grid0.N, quot (grid0.coords t) = BitVec.ofNat 32 (t.val % 4 / 2) := by decide +kernel

/-- The block's gradient: the core's own half's block in the rows of the half the word names, the other's elsewhere. -/
theorem grad_at (t : Fin grid0.N) (k : BitVec 32) (x y : S1x256x1024.Idx → EReal) (j : S1x256x1024.Idx) :
    k0_pay6 (F := Ideal) (grid0.coords t) k x y (ix2 (j 1) (j 2)) = if BitVec.ofNat 32 (t.val % 4 / 2) = k then x j else y j := by
  rw [← quot_at t, ← down x shapeCasts_S1x256x1024_S256x1024 j, ← down y shapeCasts_S1x256x1024_S256x1024 j]
  have e : k0_pay6 (F := Ideal) (grid0.coords t) k x y = Scalar.select (Scalar.cmpi .eq (quot (grid0.coords t)) k) (shapeCast S256x1024 x shapeCasts_S1x256x1024_S256x1024) (shapeCast S256x1024 y shapeCasts_S1x256x1024_S256x1024) := rfl
  rw [e, ← pick]
  unfold Scalar.select Scalar.cmpi
  split <;> rfl

theorem newM_at (g a : S256x1024.Idx → EReal) (j : S1x256x1024.Idx) : k0_pay4 (F := Ideal) g a j = stepM (g (ix2 (j 1) (j 2))) (a (ix2 (j 1) (j 2))) :=
  (up (k0_pay1 (F := Ideal) g a) _ j).trans rfl

theorem newV_in (g : S256x1024.Idx → EReal) (b : S1x256x1024.Idx → EReal) (j : S1x256x1024.Idx) : k0_pay2 (F := Ideal) g b (ix2 (j 1) (j 2)) = stepV (g (ix2 (j 1) (j 2))) (b j) := by
  rw [← down b shapeCasts_S1x256x1024_S256x1024 j]
  rfl

theorem newV_at (g : S256x1024.Idx → EReal) (b : S1x256x1024.Idx → EReal) (j : S1x256x1024.Idx) : k0_pay5 (F := Ideal) g b j = stepV (g (ix2 (j 1) (j 2))) (b j) :=
  (up (k0_pay2 (F := Ideal) g b) _ j).trans (newV_in g b j)

theorem moved_at (g w a : S256x1024.Idx → EReal) (b : S1x256x1024.Idx → EReal) (j : S1x256x1024.Idx) :
    k0_pay3 (F := Ideal) g w a b j = stepW (g (ix2 (j 1) (j 2))) (w (ix2 (j 1) (j 2))) (a (ix2 (j 1) (j 2))) (b j) := by
  unfold k0_pay3
  refine (up _ shapeCasts_S256x1024_S1x256x1024 j).trans ?_
  unfold stepW
  rw [← newV_in g b j]
  rfl

variable (m : (ℓ : Loc nD τ sig) → Buf (Elt Ideal) ℓ) (hO : Ok m) (c : Dev nD)

/-- The weights, the two running means, the gradient's two halves, and the core's number. -/
noncomputable def wgt : S4x1024x1024.Idx → EReal := m ((c : Thread nD τ).loc main_arg0)
noncomputable def mom : S4x1024x1024.Idx → EReal := m ((c : Thread nD τ).loc main_arg1)
noncomputable def var : S4x1024x1024.Idx → EReal := m ((c : Thread nD τ).loc main_arg2)
noncomputable def mine : S4x512x1024.Idx → EReal := m ((c : Thread nD τ).loc main_arg3)
noncomputable def theirs : S4x512x1024.Idx → EReal := m ((c : Thread nD τ).loc main_arg4)
noncomputable def core : S1.Idx → BitVec 32 := m ((c : Thread nD τ).loc main_arg5)

theorem lim (t : Fin grid0.N) : t.val < 4 * 4 := lt_of_lt_of_eq t.isLt N_0

/-- Where a point's block lies in the arrays, and in the halves. -/
noncomputable def pos (t : Fin grid0.N) (y : S1x256x1024.Idx) : S4x1024x1024.Idx :=
  ix3 (⟨t.val / 4, by have := lim t; omega⟩ : Fin 4) (⟨t.val % 4 * 256 + (y 1).val, by have h : (y 1).val < 256 := (y 1).isLt; omega⟩ : Fin 1024) (y 2)

theorem half_row (t : Fin grid0.N) (y : S1x256x1024.Idx) : t.val % 4 % 2 * 256 + (y 1).val = (half 512 (pos t y) 1).val := by
  have h : (y 1).val < 256 := (y 1).isLt
  show _ = (t.val % 4 * 256 + (y 1).val) % 512
  omega

theorem column (n : ℕ) : 0 * 1024 + n = n := by omega

theorem emb_0 (t : Fin (cfgM m hO).N) (y : S1x256x1024.Idx) : ((((cfgM m hO).win 0).blk t).view.emb y : S4x1024x1024.Idx) = pos t y :=
  same (by blk_simp; exact congrFun (row_0 t) 0) (by blk_simp; exact congrArg (· * 256 + (y 1).val) (congrFun (row_0 t) 1)) (by blk_simp; exact (congrArg (· * 1024 + (y 2).val) (congrFun (row_0 t) 2)).trans (column _))

theorem emb_1 (t : Fin (cfgM m hO).N) (y : S1x256x1024.Idx) : ((((cfgM m hO).win 1).blk t).view.emb y : S4x1024x1024.Idx) = pos t y :=
  same (by blk_simp; exact congrFun (row_1 t) 0) (by blk_simp; exact congrArg (· * 256 + (y 1).val) (congrFun (row_1 t) 1)) (by blk_simp; exact (congrArg (· * 1024 + (y 2).val) (congrFun (row_1 t) 2)).trans (column _))

theorem emb_2 (t : Fin (cfgM m hO).N) (y : S1x256x1024.Idx) : ((((cfgM m hO).win 2).blk t).view.emb y : S4x1024x1024.Idx) = pos t y :=
  same (by blk_simp; exact congrFun (row_2 t) 0) (by blk_simp; exact congrArg (· * 256 + (y 1).val) (congrFun (row_2 t) 1)) (by blk_simp; exact (congrArg (· * 1024 + (y 2).val) (congrFun (row_2 t) 2)).trans (column _))

theorem emb_3 (t : Fin (cfgM m hO).N) (y : S1x256x1024.Idx) : ((((cfgM m hO).win 3).blk t).view.emb y : S4x512x1024.Idx) = half 512 (pos t y) :=
  same (by blk_simp; exact congrFun (row_3 t) 0) (by blk_simp; exact (congrArg (· * 256 + (y 1).val) (congrFun (row_3 t) 1)).trans (half_row t y)) (by blk_simp; exact (congrArg (· * 1024 + (y 2).val) (congrFun (row_3 t) 2)).trans (column _))

theorem emb_4 (t : Fin (cfgM m hO).N) (y : S1x256x1024.Idx) : ((((cfgM m hO).win 4).blk t).view.emb y : S4x512x1024.Idx) = half 512 (pos t y) :=
  same (by blk_simp; exact congrFun (row_4 t) 0) (by blk_simp; exact (congrArg (· * 256 + (y 1).val) (congrFun (row_4 t) 1)).trans (half_row t y)) (by blk_simp; exact (congrArg (· * 1024 + (y 2).val) (congrFun (row_4 t) 2)).trans (column _))

theorem emb_5 (t : Fin (cfgM m hO).N) (y : S1x256x1024.Idx) : ((((cfgM m hO).win 5).blk t).view.emb y : S4x1024x1024.Idx) = pos t y :=
  same (by blk_simp; exact congrFun (row_5 t) 0) (by blk_simp; exact congrArg (· * 256 + (y 1).val) (congrFun (row_5 t) 1)) (by blk_simp; exact (congrArg (· * 1024 + (y 2).val) (congrFun (row_5 t) 2)).trans (column _))

theorem emb_6 (t : Fin (cfgM m hO).N) (y : S1x256x1024.Idx) : ((((cfgM m hO).win 6).blk t).view.emb y : S4x1024x1024.Idx) = pos t y :=
  same (by blk_simp; exact congrFun (row_6 t) 0) (by blk_simp; exact congrArg (· * 256 + (y 1).val) (congrFun (row_6 t) 1)) (by blk_simp; exact (congrArg (· * 1024 + (y 2).val) (congrFun (row_6 t) 2)).trans (column _))

theorem emb_7 (t : Fin (cfgM m hO).N) (y : S1x256x1024.Idx) : ((((cfgM m hO).win 7).blk t).view.emb y : S4x1024x1024.Idx) = pos t y :=
  same (by blk_simp; exact congrFun (row_7 t) 0) (by blk_simp; exact congrArg (· * 256 + (y 1).val) (congrFun (row_7 t) 1)) (by blk_simp; exact (congrArg (· * 1024 + (y 2).val) (congrFun (row_7 t) 2)).trans (column _))

theorem emb_8 (t : Fin (cfgM m hO).N) (y : S1x256x1024.Idx) : ((((cfgM m hO).win 8).blk t).view.emb y : S4x1024x1024.Idx) = pos t y :=
  same (by blk_simp; exact congrFun (row_8 t) 0) (by blk_simp; exact congrArg (· * 256 + (y 1).val) (congrFun (row_8 t) 1)) (by blk_simp; exact (congrArg (· * 1024 + (y 2).val) (congrFun (row_8 t) 2)).trans (column _))

theorem blk_0 (t : Fin (cfgM m hO).N) (y : S1x256x1024.Idx) : iblk m hO c 0 t y = wgt m c (pos t y) := congrArg (wgt m c) (emb_0 m hO t y)

theorem blk_1 (t : Fin (cfgM m hO).N) (y : S1x256x1024.Idx) : iblk m hO c 1 t y = mom m c (pos t y) := congrArg (mom m c) (emb_1 m hO t y)

theorem blk_2 (t : Fin (cfgM m hO).N) (y : S1x256x1024.Idx) : iblk m hO c 2 t y = var m c (pos t y) := congrArg (var m c) (emb_2 m hO t y)

theorem blk_3 (t : Fin (cfgM m hO).N) (y : S1x256x1024.Idx) : iblk m hO c 3 t y = mine m c (half 512 (pos t y)) := congrArg (mine m c) (emb_3 m hO t y)

theorem blk_4 (t : Fin (cfgM m hO).N) (y : S1x256x1024.Idx) : iblk m hO c 4 t y = theirs m c (half 512 (pos t y)) := congrArg (theirs m c) (emb_4 m hO t y)

theorem whole_pos (k : S1.Idx → BitVec 32) (a b : S4x512x1024.Idx → EReal) (t : Fin grid0.N) (y : S1x256x1024.Idx) :
    whole 512 k a b (pos t y) = if BitVec.ofNat 32 (t.val % 4 / 2) = k one then a (half 512 (pos t y)) else b (half 512 (pos t y)) := by
  have h : (y 1).val < 256 := (y 1).isLt
  have e : ((pos t y) 1).val / 512 = t.val % 4 / 2 := by show (t.val % 4 * 256 + (y 1).val) / 512 = _; omega
  unfold whole
  rw [e]

theorem grad_blk (t : Fin (cfgM m hO).N) (y : S1x256x1024.Idx) :
    k0_pay6 (F := Ideal) (grid0.coords t) (core m c one) (iblk m hO c 3 t) (iblk m hO c 4 t) (ix2 (y 1) (y 2)) = whole 512 (core m c) (mine m c) (theirs m c) (pos t y) := by
  rw [whole_pos, ← blk_3 m hO c t y, ← blk_4 m hO c t y]
  exact grad_at t (core m c one) (iblk m hO c 3 t) (iblk m hO c 4 t) y

theorem word (i : S1.Idx) : (tbl m 0 : S1.Idx → BitVec 32) i = core m c one := by
  obtain rfl : c = 0 := Subsingleton.elim _ _
  exact congrArg (core m 0) (one_eq i)

theorem word_read (h : ∀ a, (![0] : Fin 1 → ℕ) a + (![1] : Fin 1 → ℕ) a ≤ S1.size a) (i) :
    View.readAt (Elt Ideal) (View.whole main_arg5) (Rect.unit (s := S1) ![0] ![1] h).toLoadRect (tbl m 0) i = core m c one := word m c _

theorem pay_5 (t : Fin (cfgM m hO).N) (y : S1x256x1024.Idx) {x3 x4 : S1x256x1024.Idx → EReal} (e3 : x3 = iblk m hO c 3 t) (e4 : x4 = iblk m hO c 4 t) : k0_pay7 (F := Ideal) (grid0.coords t) (core m c one) x3 x4 y = whole 512 (core m c) (mine m c) (theirs m c) (pos t y) := by
  subst e3 e4
  exact (up _ shapeCasts_S256x1024_S1x256x1024 y).trans (grad_blk m hO c t y)

theorem out_5 : (dats m hO 0 c).arrAt 5 (cfgM m hO).N = whole 512 (core m c) (mine m c) (theirs m c) := by
  refine (dats m hO 0 c).arrAt_eq_of_covers 5 _ (covers_5 _) (fun t hf y => ?_) (Memref.isWhole_whole _)
  rw [after0_5]
  unfold outsAt0
  frame_out
  rw [word_read m c]
  exact (pay_5 m hO c t y (Memref.IsWhole.read_unread (hs0_3 m hO t) (iblk m hO c 3 t)) (Memref.IsWhole.read_unread (hs0_4 m hO t) (iblk m hO c 4 t))).trans (congrArg (whole 512 (core m c) (mine m c) (theirs m c)) (emb_5 m hO t y)).symm

theorem pay_6 (t : Fin (cfgM m hO).N) (y : S1x256x1024.Idx) {x0 x1 x2 x3 x4 : S1x256x1024.Idx → EReal} (e0 : x0 = iblk m hO c 0 t) (e1 : x1 = iblk m hO c 1 t) (e2 : x2 = iblk m hO c 2 t) (e3 : x3 = iblk m hO c 3 t) (e4 : x4 = iblk m hO c 4 t) : k0_pay3 (F := Ideal) (k0_pay6 (F := Ideal) (grid0.coords t) (core m c one) x3 x4) (k0_pay8 (F := Ideal) x0) (k0_pay9 (F := Ideal) x1) x2 y = moved (whole 512 (core m c) (mine m c) (theirs m c)) (wgt m c) (mom m c) (var m c) (pos t y) := by
  subst e0 e1 e2 e3 e4
  exact (moved_at _ _ _ _ y).trans (by unfold moved; rw [grad_blk m hO c t y, ← blk_0 m hO c t y, ← blk_1 m hO c t y, ← blk_2 m hO c t y]; exact congrArg₂ (fun u v : EReal => stepW _ u v _) (down (iblk m hO c 0 t) shapeCasts_S1x256x1024_S256x1024 y) (down (iblk m hO c 1 t) shapeCasts_S1x256x1024_S256x1024 y))

theorem out_6 : (dats m hO 0 c).arrAt 6 (cfgM m hO).N = moved (whole 512 (core m c) (mine m c) (theirs m c)) (wgt m c) (mom m c) (var m c) := by
  refine (dats m hO 0 c).arrAt_eq_of_covers 6 _ (covers_6 _) (fun t hf y => ?_) (Memref.isWhole_whole _)
  rw [after0_6]
  unfold outsAt0
  frame_out
  rw [word_read m c]
  exact (pay_6 m hO c t y (Memref.IsWhole.read_unread (hs0_0 m hO t) (iblk m hO c 0 t)) (Memref.IsWhole.read_unread (hs0_1 m hO t) (iblk m hO c 1 t)) (Memref.IsWhole.read_unread (hs0_2 m hO t) (iblk m hO c 2 t)) (Memref.IsWhole.read_unread (hs0_3 m hO t) (iblk m hO c 3 t)) (Memref.IsWhole.read_unread (hs0_4 m hO t) (iblk m hO c 4 t))).trans (congrArg (moved (whole 512 (core m c) (mine m c) (theirs m c)) (wgt m c) (mom m c) (var m c)) (emb_6 m hO t y)).symm

theorem pay_7 (t : Fin (cfgM m hO).N) (y : S1x256x1024.Idx) {x1 x3 x4 : S1x256x1024.Idx → EReal} (e1 : x1 = iblk m hO c 1 t) (e3 : x3 = iblk m hO c 3 t) (e4 : x4 = iblk m hO c 4 t) : k0_pay4 (F := Ideal) (k0_pay6 (F := Ideal) (grid0.coords t) (core m c one) x3 x4) (k0_pay9 (F := Ideal) x1) y = newM (whole 512 (core m c) (mine m c) (theirs m c)) (mom m c) (pos t y) := by
  subst e1 e3 e4
  exact (newM_at _ _ y).trans (by unfold newM; rw [grad_blk m hO c t y, ← blk_1 m hO c t y]; exact congrArg (stepM _) (down (iblk m hO c 1 t) shapeCasts_S1x256x1024_S256x1024 y))

theorem out_7 : (dats m hO 0 c).arrAt 7 (cfgM m hO).N = newM (whole 512 (core m c) (mine m c) (theirs m c)) (mom m c) := by
  refine (dats m hO 0 c).arrAt_eq_of_covers 7 _ (covers_7 _) (fun t hf y => ?_) (Memref.isWhole_whole _)
  rw [after0_7]
  unfold outsAt0
  frame_out
  rw [word_read m c]
  exact (pay_7 m hO c t y (Memref.IsWhole.read_unread (hs0_1 m hO t) (iblk m hO c 1 t)) (Memref.IsWhole.read_unread (hs0_3 m hO t) (iblk m hO c 3 t)) (Memref.IsWhole.read_unread (hs0_4 m hO t) (iblk m hO c 4 t))).trans (congrArg (newM (whole 512 (core m c) (mine m c) (theirs m c)) (mom m c)) (emb_7 m hO t y)).symm

theorem pay_8 (t : Fin (cfgM m hO).N) (y : S1x256x1024.Idx) {x2 x3 x4 : S1x256x1024.Idx → EReal} (e2 : x2 = iblk m hO c 2 t) (e3 : x3 = iblk m hO c 3 t) (e4 : x4 = iblk m hO c 4 t) : k0_pay5 (F := Ideal) (k0_pay6 (F := Ideal) (grid0.coords t) (core m c one) x3 x4) x2 y = newV (whole 512 (core m c) (mine m c) (theirs m c)) (var m c) (pos t y) := by
  subst e2 e3 e4
  exact (newV_at _ _ y).trans (by unfold newV; rw [grad_blk m hO c t y, ← blk_2 m hO c t y])

theorem out_8 : (dats m hO 0 c).arrAt 8 (cfgM m hO).N = newV (whole 512 (core m c) (mine m c) (theirs m c)) (var m c) := by
  refine (dats m hO 0 c).arrAt_eq_of_covers 8 _ (covers_8 _) (fun t hf y => ?_) (Memref.isWhole_whole _)
  rw [after0_8]
  unfold outsAt0
  frame_out
  rw [word_read m c]
  exact (pay_8 m hO c t y (Memref.IsWhole.read_unread (hs0_2 m hO t) (iblk m hO c 2 t)) (Memref.IsWhole.read_unread (hs0_3 m hO t) (iblk m hO c 3 t)) (Memref.IsWhole.read_unread (hs0_4 m hO t) (iblk m hO c 4 t))).trans (congrArg (newV (whole 512 (core m c) (mine m c) (theirs m c)) (var m c)) (emb_8 m hO t y)).symm

section
open Cert.AdamwFfReferenceIdeal.Read

theorem ref_whole (a b : S4x512x1024.Idx → EReal) (k : S1.Idx → BitVec 32) : (val_main_v6 (F := Ideal) a b k : S4x1024x1024.Idx → EReal) = whole 512 k a b := by
  refine joined 512 rfl k a b _ _ _ (fun i => ?_) (fun i => ?_)
  · rw [val_main_v2_apply, val_main_call0_v0_apply, val_main_v1_apply, one_eq (idx_main_call0_v0 _)]
    exact (pick _ _ _ _).trans (if_congr eq_comm rfl rfl)
  · rw [val_main_v5_apply, val_main_call1_v0_apply, val_main_v4_apply, one_eq (idx_main_call1_v0 _)]
    exact (pick _ _ _ _).trans (if_congr eq_comm rfl rfl)

theorem ref_M (A : S4x1024x1024.Idx → EReal) (a b : S4x512x1024.Idx → EReal) (k : S1.Idx → BitVec 32) : val_main_v11 (F := Ideal) A a b k = newM (whole 512 k a b) A := by
  funext i
  exact Eq.trans rfl (congrArg (fun u : EReal => stepM u (A i)) (congrFun (ref_whole a b k) i))

theorem ref_V (B : S4x1024x1024.Idx → EReal) (a b : S4x512x1024.Idx → EReal) (k : S1.Idx → BitVec 32) : val_main_v17 (F := Ideal) B a b k = newV (whole 512 k a b) B := by
  funext i
  exact Eq.trans rfl (congrArg (fun u : EReal => stepV u (B i)) (congrFun (ref_whole a b k) i))

theorem ref_W (W A B : S4x1024x1024.Idx → EReal) (a b : S4x512x1024.Idx → EReal) (k : S1.Idx → BitVec 32) : val_main_v30 (F := Ideal) W A B a b k = moved (whole 512 k a b) W A B := by
  funext i
  exact Eq.trans rfl (congrArg (fun u : EReal => stepW u (W i) (A i) (B i)) (congrFun (ref_whole a b k) i))

end

end Cert.AdamwFfIdeal.Block

namespace Cert.Proof.AdamwFf

open Idealize.ShloMosaic Idealize.SL.Sem
open Idealize.ShloMosaic.TcCoe
open Cert.AdamwFfIdeal.Block Cert.AdamwHalves

theorem frame_bits : Cert.quiescent_AdamwFf (hAdamwFf := Cert.AdamwFf.Gen.facts) := fun m g _ => Cert.AdamwFf.Gen.frame m g trivial

theorem frame_ideal : Cert.quiescent_AdamwFfIdeal (hAdamwFfIdeal := Cert.AdamwFfIdeal.Gen.facts) := fun m g _ => Cert.AdamwFfIdeal.Gen.frame m g trivial

theorem frame_ref : Cert.quiescent_AdamwFfReferenceIdeal (hAdamwFfReferenceIdeal := Cert.AdamwFfReferenceIdeal.Gen.facts) := fun m g _ =>
  (θ_run Cert.AdamwFfReferenceIdeal.defs _ _).mono (fun r h => ⟨fun c => (h c).2.2.2.2, sem_eq_zero_of_no_sems rfl r.2⟩)
    (Cert.AdamwFfReferenceIdeal.Value.run (F := Ideal) m g)

section
open Cert.AdamwFfIdeal Cert.AdamwFfIdeal.Gen

theorem arrays (m : (ℓ : Loc nD τ sig) → Buf (Elt Ideal) ℓ) (g : Dev nD → PrngReg) (hO : Ok m) :
    θ_run (defs (F := Ideal)) (onTc (τ := τ) (main (F := Ideal))) ⟨m, fun _ => 0, g⟩ (fun r => ∀ c : Dev nD,
      r.2.mem ((c.tc : Thread nD τ).loc main_v0_0) = whole 512 (core m c) (mine m c) (theirs m c)
      ∧ r.2.mem ((c.tc : Thread nD τ).loc main_v0_1) = moved (whole 512 (core m c) (mine m c) (theirs m c)) (wgt m c) (mom m c) (var m c)
      ∧ r.2.mem ((c.tc : Thread nD τ).loc main_v0_2) = newM (whole 512 (core m c) (mine m c) (theirs m c)) (mom m c)
      ∧ r.2.mem ((c.tc : Thread nD τ).loc main_v0_3) = newV (whole 512 (core m c) (mine m c) (theirs m c)) (var m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun _ h c => ⟨((h c).1 5).trans (out_5 m hO c), ((h c).1 6).trans (out_6 m hO c), ((h c).1 7).trans (out_7 m hO c), ((h c).1 8).trans (out_8 m hO c),
    ((h c).1 0).trans (((dats m hO 0 c).arrAt_in 0 rfl _).trans ((A_eq m hO c 0).trans (V_main_arg0 m c))),
    ((h c).1 1).trans (((dats m hO 0 c).arrAt_in 1 rfl _).trans ((A_eq m hO c 1).trans (V_main_arg1 m c))),
    ((h c).1 2).trans (((dats m hO 0 c).arrAt_in 2 rfl _).trans ((A_eq m hO c 2).trans (V_main_arg2 m c))),
    ((h c).1 3).trans (((dats m hO 0 c).arrAt_in 3 rfl _).trans ((A_eq m hO c 3).trans (V_main_arg3 m c))),
    ((h c).1 4).trans (((dats m hO 0 c).arrAt_in 4 rfl _).trans ((A_eq m hO c 4).trans (V_main_arg4 m c))),
    ((h c).2 main_arg5 (by decide : main_arg5 ∈ Pipeline.restRefs sig spec0)).trans (V_main_arg5 m c)⟩) (run_main m g hO)

end

theorem algebraic : Cert.algebraic_AdamwFfIdeal_AdamwFfReferenceIdeal (hAdamwFfIdeal := Cert.AdamwFfIdeal.Gen.facts)
    (hAdamwFfReferenceIdeal := Cert.AdamwFfReferenceIdeal.Gen.facts) := by
  intro m g m' g' _ hargs
  refine ⟨fun c => whole 512 (core m c) (mine m c) (theirs m c), fun c => moved (whole 512 (core m c) (mine m c) (theirs m c)) (wgt m c) (mom m c) (var m c),
    fun c => newM (whole 512 (core m c) (mine m c) (theirs m c)) (mom m c), fun c => newV (whole 512 (core m c) (mine m c) (theirs m c)) (var m c), arrays m g trivial, ?_⟩
  refine (θ_run _ _ _).mono (fun r h c => ⟨(h c).1.trans ?_, (h c).2.1.trans ?_, (h c).2.2.1.trans ?_, (h c).2.2.2.1.trans ?_, (h c).2.2.2.2⟩) (Cert.AdamwFfReferenceIdeal.Value.run (F := Ideal) m' g')
  · obtain ⟨a0, a1, a2, a3, a4, a5⟩ := hargs c
    rw [Cert.AdamwFfReferenceIdeal.Read.val_main_v6_eq, a3, a4, a5]
    exact ref_whole _ _ _
  · obtain ⟨a0, a1, a2, a3, a4, a5⟩ := hargs c
    rw [Cert.AdamwFfReferenceIdeal.Read.val_main_v30_eq, a0, a1, a2, a3, a4, a5]
    exact ref_W _ _ _ _ _ _
  · obtain ⟨a0, a1, a2, a3, a4, a5⟩ := hargs c
    rw [Cert.AdamwFfReferenceIdeal.Read.val_main_v11_eq, a1, a3, a4, a5]
    exact ref_M _ _ _ _
  · obtain ⟨a0, a1, a2, a3, a4, a5⟩ := hargs c
    rw [Cert.AdamwFfReferenceIdeal.Read.val_main_v17_eq, a2, a3, a4, a5]
    exact ref_V _ _ _ _

end Cert.Proof.AdamwFf

end
-- ==== Proof.AdamwBrPoolValue.lean ====
/- What `AdamwBrPool` leaves are the reference's arrays. -/
module

public import proofs.«01_k».proof.Defs
public import proofs.«01_k».proof.Proof.Norms
public import proofs.«01_k».proof.Proof.AdamwHalves
public import proofs.«01_k».proof.Proof.Gen.AdamwBrPoolIdeal.Frame
public import proofs.«01_k».proof.Proof.Gen.AdamwBrPool.Frame
public import proofs.«01_k».proof.Proof.Gen.AdamwBrPoolReferenceIdeal.Read
public import Idealize.ShloMosaic.Lib.Quiescent
public import Idealize.ShloMosaic.Lib.Claim

@[expose] public section

set_option maxRecDepth 65536

noncomputable section

namespace Cert.AdamwBrPoolIdeal.Block

open Cert.AdamwBrPoolIdeal Cert.AdamwBrPoolIdeal.Gen Cert.Product Cert.Norms
open Cert.AdamwHalves
open Cert.AdamwSmallIdeal.Block (stepM stepV stepW)
open Idealize.ShloMosaic hiding ix1 ix2 ix3 ix4 eq_ix2
open Idealize.SL.Sem
open Idealize.ShloMosaic.TcCoe Idealize.ShloMosaic.ValueIdx

theorem row_0 : ∀ t : Fin grid0.N, cc0_transform_0 (grid0.coords t) = ![t.val / 2, t.val % 2, 0] := by decide +kernel
theorem row_1 : ∀ t : Fin grid0.N, cc0_transform_1 (grid0.coords t) = ![t.val / 2, t.val % 2, 0] := by decide +kernel
theorem row_2 : ∀ t : Fin grid0.N, cc0_transform_2 (grid0.coords t) = ![t.val / 2, t.val % 2, 0] := by decide +kernel
theorem row_3 : ∀ t : Fin grid0.N, cc0_transform_3 (grid0.coords t) = ![t.val / 2, t.val % 2 % 1, 0] := by decide +kernel
theorem row_4 : ∀ t : Fin grid0.N, cc0_transform_4 (grid0.coords t) = ![t.val / 2, t.val % 2 % 1, 0] := by decide +kernel
theorem row_5 : ∀ t : Fin grid0.N, cc0_transform_5 (grid0.coords t) = ![t.val / 2, t.val % 2, 0] := by decide +kernel
theorem row_6 : ∀ t : Fin grid0.N, cc0_transform_6 (grid0.coords t) = ![t.val / 2, t.val % 2, 0] := by decide +kernel
theorem row_7 : ∀ t : Fin grid0.N, cc0_transform_7 (grid0.coords t) = ![t.val / 2, t.val % 2, 0] := by decide +kernel
theorem row_8 : ∀ t : Fin grid0.N, cc0_transform_8 (grid0.coords t) = ![t.val / 2, t.val % 2, 0] := by decide +kernel

section
variable (a : (pcfg0 (F := Ideal)).Adm)

/-- Every block of an array the grid writes is written at one of its points. -/
theorem reach : ∀ (x : Fin 4) (y : Fin 2), ∃ t : Fin grid0.N, t.val / 2 = x.val ∧ t.val % 2 = y.val := by decide +kernel

theorem reached {n : Fin 3 → ℕ} (β : (k : Fin 3) → Fin (n k)) (n0 : n 0 = 4) (n1 : n 1 = 2) (n2 : n 2 = 1) :
    ∃ t : Fin grid0.N, ∀ k : Fin 3, (![t.val / 2, t.val % 2, 0] : Fin 3 → ℕ) k = (β k).val := by
  obtain ⟨t, h0, h1⟩ := reach ⟨_, lt_of_lt_of_eq (β 0).isLt n0⟩ ⟨_, lt_of_lt_of_eq (β 1).isLt n1⟩
  exact ⟨t, fun k => match k with | ⟨0, _⟩ => h0 | ⟨1, _⟩ => h1 | ⟨2, _⟩ => (Nat.lt_one_iff.mp (lt_of_lt_of_eq (β 2).isLt n2)).symm⟩

theorem covers_5 : ((cfg0 a).win 5).Covers := by
  refine ⟨(by decide : ∀ k : Fin 3, 0 < S1x128x256.size k), fun β => ?_⟩
  obtain ⟨t, h⟩ := reached (n := ((cfg0 a).win 5).nblk) β (by show ((4 + 1 - 1) / 1 : ℕ) = 4; rfl) (by show ((256 + 128 - 1) / 128 : ℕ) = 2; rfl) (by show ((256 + 256 - 1) / 256 : ℕ) = 1; rfl)
  exact ⟨t, flush0_5 a t, fun k => ⟨(congrFun (row_5 t) k).trans (h k), Or.inl rfl⟩⟩

theorem covers_6 : ((cfg0 a).win 6).Covers := by
  refine ⟨(by decide : ∀ k : Fin 3, 0 < S1x128x256.size k), fun β => ?_⟩
  obtain ⟨t, h⟩ := reached (n := ((cfg0 a).win 6).nblk) β (by show ((4 + 1 - 1) / 1 : ℕ) = 4; rfl) (by show ((256 + 128 - 1) / 128 : ℕ) = 2; rfl) (by show ((256 + 256 - 1) / 256 : ℕ) = 1; rfl)
  exact ⟨t, flush0_6 a t, fun k => ⟨(congrFun (row_6 t) k).trans (h k), Or.inl rfl⟩⟩

theorem covers_7 : ((cfg0 a).win 7).Covers := by
  refine ⟨(by decide : ∀ k : Fin 3, 0 < S1x128x256.size k), fun β => ?_⟩
  obtain ⟨t, h⟩ := reached (n := ((cfg0 a).win 7).nblk) β (by show ((4 + 1 - 1) / 1 : ℕ) = 4; rfl) (by show ((256 + 128 - 1) / 128 : ℕ) = 2; rfl) (by show ((256 + 256 - 1) / 256 : ℕ) = 1; rfl)
  exact ⟨t, flush0_7 a t, fun k => ⟨(congrFun (row_7 t) k).trans (h k), Or.inl rfl⟩⟩

theorem covers_8 : ((cfg0 a).win 8).Covers := by
  refine ⟨(by decide : ∀ k : Fin 3, 0 < S1x128x256.size k), fun β => ?_⟩
  obtain ⟨t, h⟩ := reached (n := ((cfg0 a).win 8).nblk) β (by show ((4 + 1 - 1) / 1 : ℕ) = 4; rfl) (by show ((256 + 128 - 1) / 128 : ℕ) = 2; rfl) (by show ((256 + 256 - 1) / 256 : ℕ) = 1; rfl)
  exact ⟨t, flush0_8 a t, fun k => ⟨(congrFun (row_8 t) k).trans (h k), Or.inl rfl⟩⟩

end

/-- The quotient the body works out of its second coordinate. -/
noncomputable def quot (i : grid0.Coords) : BitVec 32 :=
  let arg1 : BitVec 32 := BitVec.ofNat 32 (i 1).val
  let v0 : BitVec 32 := Scalar.divsi arg1 1#32
  let v2 : BitVec 32 := Scalar.extui (Scalar.cmpi .sgt arg1 0#32)
  let v4 : BitVec 32 := Scalar.extui (Scalar.cmpi .slt arg1 0#32)
  let v7 : BitVec 32 := Scalar.extui (Scalar.cmpi .sgt 1#32 0#32)
  let v9 : BitVec 32 := Scalar.extui (Scalar.cmpi .slt 1#32 0#32)
  Scalar.select (Scalar.andi (Scalar.cmpi .ne (Scalar.subi v2 v4) (Scalar.subi v7 v9)) (Scalar.cmpi .ne (Scalar.remsi arg1 1#32) 0#32)) (Scalar.subi v0 1#32) v0

theorem quot_at : ∀ t : Fin grid0.N, quot (grid0.coords t) = BitVec.ofNat 32 (t.val % 2 / 1) := by decide +kernel

/-- The block's gradient: the core's own half's block in the rows of the half the word names, the other's elsewhere. -/
theorem grad_at (t : Fin grid0.N) (k : BitVec 32) (x y : S1x128x256.Idx → EReal) (j : S1x128x256.Idx) :
    k0_pay6 (F := Ideal) (grid0.coords t) k x y (ix2 (j 1) (j 2)) = if BitVec.ofNat 32 (t.val % 2 / 1) = k then x j else y j := by
  rw [← quot_at t, ← down x shapeCasts_S1x128x256_S128x256 j, ← down y shapeCasts_S1x128x256_S128x256 j]
  have e : k0_pay6 (F := Ideal) (grid0.coords t) k x y = Scalar.select (Scalar.cmpi .eq (quot (grid0.coords t)) k) (shapeCast S128x256 x shapeCasts_S1x128x256_S128x256) (shapeCast S128x256 y shapeCasts_S1x128x256_S128x256) := rfl
  rw [e, ← pick]
  unfold Scalar.select Scalar.cmpi
  split <;> rfl

theorem newM_at (g a : S128x256.Idx → EReal) (j : S1x128x256.Idx) : k0_pay4 (F := Ideal) g a j = stepM (g (ix2 (j 1) (j 2))) (a (ix2 (j 1) (j 2))) :=
  (up (k0_pay1 (F := Ideal) g a) _ j).trans rfl

theorem newV_in (g : S128x256.Idx → EReal) (b : S1x128x256.Idx → EReal) (j : S1x128x256.Idx) : k0_pay2 (F := Ideal) g b (ix2 (j 1) (j 2)) = stepV (g (ix2 (j 1) (j 2))) (b j) := by
  rw [← down b shapeCasts_S1x128x256_S128x256 j]
  rfl

theorem newV_at (g : S128x256.Idx → EReal) (b : S1x128x256.Idx → EReal) (j : S1x128x256.Idx) : k0_pay5 (F := Ideal) g b j = stepV (g (ix2 (j 1) (j 2))) (b j) :=
  (up (k0_pay2 (F := Ideal) g b) _ j).trans (newV_in g b j)

theorem moved_at (g w a : S128x256.Idx → EReal) (b : S1x128x256.Idx → EReal) (j : S1x128x256.Idx) :
    k0_pay3 (F := Ideal) g w a b j = stepW (g (ix2 (j 1) (j 2))) (w (ix2 (j 1) (j 2))) (a (ix2 (j 1) (j 2))) (b j) := by
  unfold k0_pay3
  refine (up _ shapeCasts_S128x256_S1x128x256 j).trans ?_
  unfold stepW
  rw [← newV_in g b j]
  rfl

variable (m : (ℓ : Loc nD τ sig) → Buf (Elt Ideal) ℓ) (hO : Ok m) (c : Dev nD)

/-- The weights, the two running means, the gradient's two halves, and the core's number. -/
noncomputable def wgt : S4x256x256.Idx → EReal := m ((c : Thread nD τ).loc main_arg0)
noncomputable def mom : S4x256x256.Idx → EReal := m ((c : Thread nD τ).loc main_arg1)
noncomputable def var : S4x256x256.Idx → EReal := m ((c : Thread nD τ).loc main_arg2)
noncomputable def mine : S4x128x256.Idx → EReal := m ((c : Thread nD τ).loc main_arg3)
noncomputable def theirs : S4x128x256.Idx → EReal := m ((c : Thread nD τ).loc main_arg4)
noncomputable def core : S1.Idx → BitVec 32 := m ((c : Thread nD τ).loc main_arg5)

theorem lim (t : Fin grid0.N) : t.val < 4 * 2 := lt_of_lt_of_eq t.isLt N_0

/-- Where a point's block lies in the arrays, and in the halves. -/
noncomputable def pos (t : Fin grid0.N) (y : S1x128x256.Idx) : S4x256x256.Idx :=
  ix3 (⟨t.val / 2, by have := lim t; omega⟩ : Fin 4) (⟨t.val % 2 * 128 + (y 1).val, by have h : (y 1).val < 128 := (y 1).isLt; omega⟩ : Fin 256) (y 2)

theorem half_row (t : Fin grid0.N) (y : S1x128x256.Idx) : t.val % 2 % 1 * 128 + (y 1).val = (half 128 (pos t y) 1).val := by
  have h : (y 1).val < 128 := (y 1).isLt
  show _ = (t.val % 2 * 128 + (y 1).val) % 128
  omega

theorem column (n : ℕ) : 0 * 256 + n = n := by omega

theorem emb_0 (t : Fin (cfgM m hO).N) (y : S1x128x256.Idx) : ((((cfgM m hO).win 0).blk t).view.emb y : S4x256x256.Idx) = pos t y :=
  same (by blk_simp; exact congrFun (row_0 t) 0) (by blk_simp; exact congrArg (· * 128 + (y 1).val) (congrFun (row_0 t) 1)) (by blk_simp; exact (congrArg (· * 256 + (y 2).val) (congrFun (row_0 t) 2)).trans (column _))

theorem emb_1 (t : Fin (cfgM m hO).N) (y : S1x128x256.Idx) : ((((cfgM m hO).win 1).blk t).view.emb y : S4x256x256.Idx) = pos t y :=
  same (by blk_simp; exact congrFun (row_1 t) 0) (by blk_simp; exact congrArg (· * 128 + (y 1).val) (congrFun (row_1 t) 1)) (by blk_simp; exact (congrArg (· * 256 + (y 2).val) (congrFun (row_1 t) 2)).trans (column _))

theorem emb_2 (t : Fin (cfgM m hO).N) (y : S1x128x256.Idx) : ((((cfgM m hO).win 2).blk t).view.emb y : S4x256x256.Idx) = pos t y :=
  same (by blk_simp; exact congrFun (row_2 t) 0) (by blk_simp; exact congrArg (· * 128 + (y 1).val) (congrFun (row_2 t) 1)) (by blk_simp; exact (congrArg (· * 256 + (y 2).val) (congrFun (row_2 t) 2)).trans (column _))

theorem emb_3 (t : Fin (cfgM m hO).N) (y : S1x128x256.Idx) : ((((cfgM m hO).win 3).blk t).view.emb y : S4x128x256.Idx) = half 128 (pos t y) :=
  same (by blk_simp; exact congrFun (row_3 t) 0) (by blk_simp; exact (congrArg (· * 128 + (y 1).val) (congrFun (row_3 t) 1)).trans (half_row t y)) (by blk_simp; exact (congrArg (· * 256 + (y 2).val) (congrFun (row_3 t) 2)).trans (column _))

theorem emb_4 (t : Fin (cfgM m hO).N) (y : S1x128x256.Idx) : ((((cfgM m hO).win 4).blk t).view.emb y : S4x128x256.Idx) = half 128 (pos t y) :=
  same (by blk_simp; exact congrFun (row_4 t) 0) (by blk_simp; exact (congrArg (· * 128 + (y 1).val) (congrFun (row_4 t) 1)).trans (half_row t y)) (by blk_simp; exact (congrArg (· * 256 + (y 2).val) (congrFun (row_4 t) 2)).trans (column _))

theorem emb_5 (t : Fin (cfgM m hO).N) (y : S1x128x256.Idx) : ((((cfgM m hO).win 5).blk t).view.emb y : S4x256x256.Idx) = pos t y :=
  same (by blk_simp; exact congrFun (row_5 t) 0) (by blk_simp; exact congrArg (· * 128 + (y 1).val) (congrFun (row_5 t) 1)) (by blk_simp; exact (congrArg (· * 256 + (y 2).val) (congrFun (row_5 t) 2)).trans (column _))

theorem emb_6 (t : Fin (cfgM m hO).N) (y : S1x128x256.Idx) : ((((cfgM m hO).win 6).blk t).view.emb y : S4x256x256.Idx) = pos t y :=
  same (by blk_simp; exact congrFun (row_6 t) 0) (by blk_simp; exact congrArg (· * 128 + (y 1).val) (congrFun (row_6 t) 1)) (by blk_simp; exact (congrArg (· * 256 + (y 2).val) (congrFun (row_6 t) 2)).trans (column _))

theorem emb_7 (t : Fin (cfgM m hO).N) (y : S1x128x256.Idx) : ((((cfgM m hO).win 7).blk t).view.emb y : S4x256x256.Idx) = pos t y :=
  same (by blk_simp; exact congrFun (row_7 t) 0) (by blk_simp; exact congrArg (· * 128 + (y 1).val) (congrFun (row_7 t) 1)) (by blk_simp; exact (congrArg (· * 256 + (y 2).val) (congrFun (row_7 t) 2)).trans (column _))

theorem emb_8 (t : Fin (cfgM m hO).N) (y : S1x128x256.Idx) : ((((cfgM m hO).win 8).blk t).view.emb y : S4x256x256.Idx) = pos t y :=
  same (by blk_simp; exact congrFun (row_8 t) 0) (by blk_simp; exact congrArg (· * 128 + (y 1).val) (congrFun (row_8 t) 1)) (by blk_simp; exact (congrArg (· * 256 + (y 2).val) (congrFun (row_8 t) 2)).trans (column _))

theorem blk_0 (t : Fin (cfgM m hO).N) (y : S1x128x256.Idx) : iblk m hO c 0 t y = wgt m c (pos t y) := congrArg (wgt m c) (emb_0 m hO t y)

theorem blk_1 (t : Fin (cfgM m hO).N) (y : S1x128x256.Idx) : iblk m hO c 1 t y = mom m c (pos t y) := congrArg (mom m c) (emb_1 m hO t y)

theorem blk_2 (t : Fin (cfgM m hO).N) (y : S1x128x256.Idx) : iblk m hO c 2 t y = var m c (pos t y) := congrArg (var m c) (emb_2 m hO t y)

theorem blk_3 (t : Fin (cfgM m hO).N) (y : S1x128x256.Idx) : iblk m hO c 3 t y = mine m c (half 128 (pos t y)) := congrArg (mine m c) (emb_3 m hO t y)

theorem blk_4 (t : Fin (cfgM m hO).N) (y : S1x128x256.Idx) : iblk m hO c 4 t y = theirs m c (half 128 (pos t y)) := congrArg (theirs m c) (emb_4 m hO t y)

theorem whole_pos (k : S1.Idx → BitVec 32) (a b : S4x128x256.Idx → EReal) (t : Fin grid0.N) (y : S1x128x256.Idx) :
    whole 128 k a b (pos t y) = if BitVec.ofNat 32 (t.val % 2 / 1) = k one then a (half 128 (pos t y)) else b (half 128 (pos t y)) := by
  have h : (y 1).val < 128 := (y 1).isLt
  have e : ((pos t y) 1).val / 128 = t.val % 2 / 1 := by show (t.val % 2 * 128 + (y 1).val) / 128 = _; omega
  unfold whole
  rw [e]

theorem grad_blk (t : Fin (cfgM m hO).N) (y : S1x128x256.Idx) :
    k0_pay6 (F := Ideal) (grid0.coords t) (core m c one) (iblk m hO c 3 t) (iblk m hO c 4 t) (ix2 (y 1) (y 2)) = whole 128 (core m c) (mine m c) (theirs m c) (pos t y) := by
  rw [whole_pos, ← blk_3 m hO c t y, ← blk_4 m hO c t y]
  exact grad_at t (core m c one) (iblk m hO c 3 t) (iblk m hO c 4 t) y

theorem word (i : S1.Idx) : (tbl m 0 : S1.Idx → BitVec 32) i = core m c one := by
  obtain rfl : c = 0 := Subsingleton.elim _ _
  exact congrArg (core m 0) (one_eq i)

theorem word_read (h : ∀ a, (![0] : Fin 1 → ℕ) a + (![1] : Fin 1 → ℕ) a ≤ S1.size a) (i) :
    View.readAt (Elt Ideal) (View.whole main_arg5) (Rect.unit (s := S1) ![0] ![1] h).toLoadRect (tbl m 0) i = core m c one := word m c _

theorem pay_5 (t : Fin (cfgM m hO).N) (y : S1x128x256.Idx) {x3 x4 : S1x128x256.Idx → EReal} (e3 : x3 = iblk m hO c 3 t) (e4 : x4 = iblk m hO c 4 t) : k0_pay7 (F := Ideal) (grid0.coords t) (core m c one) x3 x4 y = whole 128 (core m c) (mine m c) (theirs m c) (pos t y) := by
  subst e3 e4
  exact (up _ shapeCasts_S128x256_S1x128x256 y).trans (grad_blk m hO c t y)

theorem out_5 : (dats m hO 0 c).arrAt 5 (cfgM m hO).N = whole 128 (core m c) (mine m c) (theirs m c) := by
  refine (dats m hO 0 c).arrAt_eq_of_covers 5 _ (covers_5 _) (fun t hf y => ?_) (Memref.isWhole_whole _)
  rw [after0_5]
  unfold outsAt0
  frame_out
  rw [word_read m c]
  exact (pay_5 m hO c t y (Memref.IsWhole.read_unread (hs0_3 m hO t) (iblk m hO c 3 t)) (Memref.IsWhole.read_unread (hs0_4 m hO t) (iblk m hO c 4 t))).trans (congrArg (whole 128 (core m c) (mine m c) (theirs m c)) (emb_5 m hO t y)).symm

theorem pay_6 (t : Fin (cfgM m hO).N) (y : S1x128x256.Idx) {x0 x1 x2 x3 x4 : S1x128x256.Idx → EReal} (e0 : x0 = iblk m hO c 0 t) (e1 : x1 = iblk m hO c 1 t) (e2 : x2 = iblk m hO c 2 t) (e3 : x3 = iblk m hO c 3 t) (e4 : x4 = iblk m hO c 4 t) : k0_pay3 (F := Ideal) (k0_pay6 (F := Ideal) (grid0.coords t) (core m c one) x3 x4) (k0_pay8 (F := Ideal) x0) (k0_pay9 (F := Ideal) x1) x2 y = moved (whole 128 (core m c) (mine m c) (theirs m c)) (wgt m c) (mom m c) (var m c) (pos t y) := by
  subst e0 e1 e2 e3 e4
  exact (moved_at _ _ _ _ y).trans (by unfold moved; rw [grad_blk m hO c t y, ← blk_0 m hO c t y, ← blk_1 m hO c t y, ← blk_2 m hO c t y]; exact congrArg₂ (fun u v : EReal => stepW _ u v _) (down (iblk m hO c 0 t) shapeCasts_S1x128x256_S128x256 y) (down (iblk m hO c 1 t) shapeCasts_S1x128x256_S128x256 y))

theorem out_6 : (dats m hO 0 c).arrAt 6 (cfgM m hO).N = moved (whole 128 (core m c) (mine m c) (theirs m c)) (wgt m c) (mom m c) (var m c) := by
  refine (dats m hO 0 c).arrAt_eq_of_covers 6 _ (covers_6 _) (fun t hf y => ?_) (Memref.isWhole_whole _)
  rw [after0_6]
  unfold outsAt0
  frame_out
  rw [word_read m c]
  exact (pay_6 m hO c t y (Memref.IsWhole.read_unread (hs0_0 m hO t) (iblk m hO c 0 t)) (Memref.IsWhole.read_unread (hs0_1 m hO t) (iblk m hO c 1 t)) (Memref.IsWhole.read_unread (hs0_2 m hO t) (iblk m hO c 2 t)) (Memref.IsWhole.read_unread (hs0_3 m hO t) (iblk m hO c 3 t)) (Memref.IsWhole.read_unread (hs0_4 m hO t) (iblk m hO c 4 t))).trans (congrArg (moved (whole 128 (core m c) (mine m c) (theirs m c)) (wgt m c) (mom m c) (var m c)) (emb_6 m hO t y)).symm

theorem pay_7 (t : Fin (cfgM m hO).N) (y : S1x128x256.Idx) {x1 x3 x4 : S1x128x256.Idx → EReal} (e1 : x1 = iblk m hO c 1 t) (e3 : x3 = iblk m hO c 3 t) (e4 : x4 = iblk m hO c 4 t) : k0_pay4 (F := Ideal) (k0_pay6 (F := Ideal) (grid0.coords t) (core m c one) x3 x4) (k0_pay9 (F := Ideal) x1) y = newM (whole 128 (core m c) (mine m c) (theirs m c)) (mom m c) (pos t y) := by
  subst e1 e3 e4
  exact (newM_at _ _ y).trans (by unfold newM; rw [grad_blk m hO c t y, ← blk_1 m hO c t y]; exact congrArg (stepM _) (down (iblk m hO c 1 t) shapeCasts_S1x128x256_S128x256 y))

theorem out_7 : (dats m hO 0 c).arrAt 7 (cfgM m hO).N = newM (whole 128 (core m c) (mine m c) (theirs m c)) (mom m c) := by
  refine (dats m hO 0 c).arrAt_eq_of_covers 7 _ (covers_7 _) (fun t hf y => ?_) (Memref.isWhole_whole _)
  rw [after0_7]
  unfold outsAt0
  frame_out
  rw [word_read m c]
  exact (pay_7 m hO c t y (Memref.IsWhole.read_unread (hs0_1 m hO t) (iblk m hO c 1 t)) (Memref.IsWhole.read_unread (hs0_3 m hO t) (iblk m hO c 3 t)) (Memref.IsWhole.read_unread (hs0_4 m hO t) (iblk m hO c 4 t))).trans (congrArg (newM (whole 128 (core m c) (mine m c) (theirs m c)) (mom m c)) (emb_7 m hO t y)).symm

theorem pay_8 (t : Fin (cfgM m hO).N) (y : S1x128x256.Idx) {x2 x3 x4 : S1x128x256.Idx → EReal} (e2 : x2 = iblk m hO c 2 t) (e3 : x3 = iblk m hO c 3 t) (e4 : x4 = iblk m hO c 4 t) : k0_pay5 (F := Ideal) (k0_pay6 (F := Ideal) (grid0.coords t) (core m c one) x3 x4) x2 y = newV (whole 128 (core m c) (mine m c) (theirs m c)) (var m c) (pos t y) := by
  subst e2 e3 e4
  exact (newV_at _ _ y).trans (by unfold newV; rw [grad_blk m hO c t y, ← blk_2 m hO c t y])

theorem out_8 : (dats m hO 0 c).arrAt 8 (cfgM m hO).N = newV (whole 128 (core m c) (mine m c) (theirs m c)) (var m c) := by
  refine (dats m hO 0 c).arrAt_eq_of_covers 8 _ (covers_8 _) (fun t hf y => ?_) (Memref.isWhole_whole _)
  rw [after0_8]
  unfold outsAt0
  frame_out
  rw [word_read m c]
  exact (pay_8 m hO c t y (Memref.IsWhole.read_unread (hs0_2 m hO t) (iblk m hO c 2 t)) (Memref.IsWhole.read_unread (hs0_3 m hO t) (iblk m hO c 3 t)) (Memref.IsWhole.read_unread (hs0_4 m hO t) (iblk m hO c 4 t))).trans (congrArg (newV (whole 128 (core m c) (mine m c) (theirs m c)) (var m c)) (emb_8 m hO t y)).symm

section
open Cert.AdamwBrPoolReferenceIdeal.Read

theorem ref_whole (a b : S4x128x256.Idx → EReal) (k : S1.Idx → BitVec 32) : (val_main_v6 (F := Ideal) a b k : S4x256x256.Idx → EReal) = whole 128 k a b := by
  refine joined 128 rfl k a b _ _ _ (fun i => ?_) (fun i => ?_)
  · rw [val_main_v2_apply, val_main_call0_v0_apply, val_main_v1_apply, one_eq (idx_main_call0_v0 _)]
    exact (pick _ _ _ _).trans (if_congr eq_comm rfl rfl)
  · rw [val_main_v5_apply, val_main_call1_v0_apply, val_main_v4_apply, one_eq (idx_main_call1_v0 _)]
    exact (pick _ _ _ _).trans (if_congr eq_comm rfl rfl)

theorem ref_M (A : S4x256x256.Idx → EReal) (a b : S4x128x256.Idx → EReal) (k : S1.Idx → BitVec 32) : val_main_v11 (F := Ideal) A a b k = newM (whole 128 k a b) A := by
  funext i
  exact Eq.trans rfl (congrArg (fun u : EReal => stepM u (A i)) (congrFun (ref_whole a b k) i))

theorem ref_V (B : S4x256x256.Idx → EReal) (a b : S4x128x256.Idx → EReal) (k : S1.Idx → BitVec 32) : val_main_v17 (F := Ideal) B a b k = newV (whole 128 k a b) B := by
  funext i
  exact Eq.trans rfl (congrArg (fun u : EReal => stepV u (B i)) (congrFun (ref_whole a b k) i))

theorem ref_W (W A B : S4x256x256.Idx → EReal) (a b : S4x128x256.Idx → EReal) (k : S1.Idx → BitVec 32) : val_main_v30 (F := Ideal) W A B a b k = moved (whole 128 k a b) W A B := by
  funext i
  exact Eq.trans rfl (congrArg (fun u : EReal => stepW u (W i) (A i) (B i)) (congrFun (ref_whole a b k) i))

end

end Cert.AdamwBrPoolIdeal.Block

namespace Cert.Proof.AdamwBrPool

open Idealize.ShloMosaic Idealize.SL.Sem
open Idealize.ShloMosaic.TcCoe
open Cert.AdamwBrPoolIdeal.Block Cert.AdamwHalves

theorem frame_bits : Cert.quiescent_AdamwBrPool (hAdamwBrPool := Cert.AdamwBrPool.Gen.facts) := fun m g _ => Cert.AdamwBrPool.Gen.frame m g trivial

theorem frame_ideal : Cert.quiescent_AdamwBrPoolIdeal (hAdamwBrPoolIdeal := Cert.AdamwBrPoolIdeal.Gen.facts) := fun m g _ => Cert.AdamwBrPoolIdeal.Gen.frame m g trivial

theorem frame_ref : Cert.quiescent_AdamwBrPoolReferenceIdeal (hAdamwBrPoolReferenceIdeal := Cert.AdamwBrPoolReferenceIdeal.Gen.facts) := fun m g _ =>
  (θ_run Cert.AdamwBrPoolReferenceIdeal.defs _ _).mono (fun r h => ⟨fun c => (h c).2.2.2.2, sem_eq_zero_of_no_sems rfl r.2⟩)
    (Cert.AdamwBrPoolReferenceIdeal.Value.run (F := Ideal) m g)

section
open Cert.AdamwBrPoolIdeal Cert.AdamwBrPoolIdeal.Gen

theorem arrays (m : (ℓ : Loc nD τ sig) → Buf (Elt Ideal) ℓ) (g : Dev nD → PrngReg) (hO : Ok m) :
    θ_run (defs (F := Ideal)) (onTc (τ := τ) (main (F := Ideal))) ⟨m, fun _ => 0, g⟩ (fun r => ∀ c : Dev nD,
      r.2.mem ((c.tc : Thread nD τ).loc main_v0_0) = whole 128 (core m c) (mine m c) (theirs m c)
      ∧ r.2.mem ((c.tc : Thread nD τ).loc main_v0_1) = moved (whole 128 (core m c) (mine m c) (theirs m c)) (wgt m c) (mom m c) (var m c)
      ∧ r.2.mem ((c.tc : Thread nD τ).loc main_v0_2) = newM (whole 128 (core m c) (mine m c) (theirs m c)) (mom m c)
      ∧ r.2.mem ((c.tc : Thread nD τ).loc main_v0_3) = newV (whole 128 (core m c) (mine m c) (theirs m c)) (var m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun _ h c => ⟨((h c).1 5).trans (out_5 m hO c), ((h c).1 6).trans (out_6 m hO c), ((h c).1 7).trans (out_7 m hO c), ((h c).1 8).trans (out_8 m hO c),
    ((h c).1 0).trans (((dats m hO 0 c).arrAt_in 0 rfl _).trans ((A_eq m hO c 0).trans (V_main_arg0 m c))),
    ((h c).1 1).trans (((dats m hO 0 c).arrAt_in 1 rfl _).trans ((A_eq m hO c 1).trans (V_main_arg1 m c))),
    ((h c).1 2).trans (((dats m hO 0 c).arrAt_in 2 rfl _).trans ((A_eq m hO c 2).trans (V_main_arg2 m c))),
    ((h c).1 3).trans (((dats m hO 0 c).arrAt_in 3 rfl _).trans ((A_eq m hO c 3).trans (V_main_arg3 m c))),
    ((h c).1 4).trans (((dats m hO 0 c).arrAt_in 4 rfl _).trans ((A_eq m hO c 4).trans (V_main_arg4 m c))),
    ((h c).2 main_arg5 (by decide : main_arg5 ∈ Pipeline.restRefs sig spec0)).trans (V_main_arg5 m c)⟩) (run_main m g hO)

end

theorem algebraic : Cert.algebraic_AdamwBrPoolIdeal_AdamwBrPoolReferenceIdeal (hAdamwBrPoolIdeal := Cert.AdamwBrPoolIdeal.Gen.facts)
    (hAdamwBrPoolReferenceIdeal := Cert.AdamwBrPoolReferenceIdeal.Gen.facts) := by
  intro m g m' g' _ hargs
  refine ⟨fun c => whole 128 (core m c) (mine m c) (theirs m c), fun c => moved (whole 128 (core m c) (mine m c) (theirs m c)) (wgt m c) (mom m c) (var m c),
    fun c => newM (whole 128 (core m c) (mine m c) (theirs m c)) (mom m c), fun c => newV (whole 128 (core m c) (mine m c) (theirs m c)) (var m c), arrays m g trivial, ?_⟩
  refine (θ_run _ _ _).mono (fun r h c => ⟨(h c).1.trans ?_, (h c).2.1.trans ?_, (h c).2.2.1.trans ?_, (h c).2.2.2.1.trans ?_, (h c).2.2.2.2⟩) (Cert.AdamwBrPoolReferenceIdeal.Value.run (F := Ideal) m' g')
  · obtain ⟨a0, a1, a2, a3, a4, a5⟩ := hargs c
    rw [Cert.AdamwBrPoolReferenceIdeal.Read.val_main_v6_eq, a3, a4, a5]
    exact ref_whole _ _ _
  · obtain ⟨a0, a1, a2, a3, a4, a5⟩ := hargs c
    rw [Cert.AdamwBrPoolReferenceIdeal.Read.val_main_v30_eq, a0, a1, a2, a3, a4, a5]
    exact ref_W _ _ _ _ _ _
  · obtain ⟨a0, a1, a2, a3, a4, a5⟩ := hargs c
    rw [Cert.AdamwBrPoolReferenceIdeal.Read.val_main_v11_eq, a1, a3, a4, a5]
    exact ref_M _ _ _ _
  · obtain ⟨a0, a1, a2, a3, a4, a5⟩ := hargs c
    rw [Cert.AdamwBrPoolReferenceIdeal.Read.val_main_v17_eq, a2, a3, a4, a5]
    exact ref_V _ _ _ _

end Cert.Proof.AdamwBrPool

end
-- ==== Proof.AdamwBrSbValue.lean ====
/- What `AdamwBrSb` leaves are the reference's arrays. -/
module

public import proofs.«01_k».proof.Defs
public import proofs.«01_k».proof.Proof.Norms
public import proofs.«01_k».proof.Proof.AdamwHalves
public import proofs.«01_k».proof.Proof.Gen.AdamwBrSbIdeal.Frame
public import proofs.«01_k».proof.Proof.Gen.AdamwBrSb.Frame
public import proofs.«01_k».proof.Proof.Gen.AdamwBrSbReferenceIdeal.Read
public import Idealize.ShloMosaic.Lib.Quiescent
public import Idealize.ShloMosaic.Lib.Claim

@[expose] public section

set_option maxRecDepth 65536

noncomputable section

namespace Cert.AdamwBrSbIdeal.Block

open Cert.AdamwBrSbIdeal Cert.AdamwBrSbIdeal.Gen Cert.Product Cert.Norms
open Cert.AdamwHalves
open Cert.AdamwSmallIdeal.Block (stepM stepV stepW)
open Idealize.ShloMosaic hiding ix1 ix2 ix3 ix4 eq_ix2
open Idealize.SL.Sem
open Idealize.ShloMosaic.TcCoe Idealize.ShloMosaic.ValueIdx

theorem row_0 : ∀ t : Fin grid0.N, cc0_transform_0 (grid0.coords t) = ![t.val / 2, t.val % 2, 0] := by decide +kernel
theorem row_1 : ∀ t : Fin grid0.N, cc0_transform_1 (grid0.coords t) = ![t.val / 2, t.val % 2, 0] := by decide +kernel
theorem row_2 : ∀ t : Fin grid0.N, cc0_transform_2 (grid0.coords t) = ![t.val / 2, t.val % 2, 0] := by decide +kernel
theorem row_3 : ∀ t : Fin grid0.N, cc0_transform_3 (grid0.coords t) = ![t.val / 2, t.val % 2 % 1, 0] := by decide +kernel
theorem row_4 : ∀ t : Fin grid0.N, cc0_transform_4 (grid0.coords t) = ![t.val / 2, t.val % 2 % 1, 0] := by decide +kernel
theorem row_5 : ∀ t : Fin grid0.N, cc0_transform_5 (grid0.coords t) = ![t.val / 2, t.val % 2, 0] := by decide +kernel
theorem row_6 : ∀ t : Fin grid0.N, cc0_transform_6 (grid0.coords t) = ![t.val / 2, t.val % 2, 0] := by decide +kernel
theorem row_7 : ∀ t : Fin grid0.N, cc0_transform_7 (grid0.coords t) = ![t.val / 2, t.val % 2, 0] := by decide +kernel
theorem row_8 : ∀ t : Fin grid0.N, cc0_transform_8 (grid0.coords t) = ![t.val / 2, t.val % 2, 0] := by decide +kernel

section
variable (a : (pcfg0 (F := Ideal)).Adm)

/-- Every block of an array the grid writes is written at one of its points. -/
theorem reach : ∀ (x : Fin 4) (y : Fin 2), ∃ t : Fin grid0.N, t.val / 2 = x.val ∧ t.val % 2 = y.val := by decide +kernel

theorem reached {n : Fin 3 → ℕ} (β : (k : Fin 3) → Fin (n k)) (n0 : n 0 = 4) (n1 : n 1 = 2) (n2 : n 2 = 1) :
    ∃ t : Fin grid0.N, ∀ k : Fin 3, (![t.val / 2, t.val % 2, 0] : Fin 3 → ℕ) k = (β k).val := by
  obtain ⟨t, h0, h1⟩ := reach ⟨_, lt_of_lt_of_eq (β 0).isLt n0⟩ ⟨_, lt_of_lt_of_eq (β 1).isLt n1⟩
  exact ⟨t, fun k => match k with | ⟨0, _⟩ => h0 | ⟨1, _⟩ => h1 | ⟨2, _⟩ => (Nat.lt_one_iff.mp (lt_of_lt_of_eq (β 2).isLt n2)).symm⟩

theorem covers_5 : ((cfg0 a).win 5).Covers := by
  refine ⟨(by decide : ∀ k : Fin 3, 0 < S1x256x256.size k), fun β => ?_⟩
  obtain ⟨t, h⟩ := reached (n := ((cfg0 a).win 5).nblk) β (by show ((4 + 1 - 1) / 1 : ℕ) = 4; rfl) (by show ((512 + 256 - 1) / 256 : ℕ) = 2; rfl) (by show ((256 + 256 - 1) / 256 : ℕ) = 1; rfl)
  exact ⟨t, flush0_5 a t, fun k => ⟨(congrFun (row_5 t) k).trans (h k), Or.inl rfl⟩⟩

theorem covers_6 : ((cfg0 a).win 6).Covers := by
  refine ⟨(by decide : ∀ k : Fin 3, 0 < S1x256x256.size k), fun β => ?_⟩
  obtain ⟨t, h⟩ := reached (n := ((cfg0 a).win 6).nblk) β (by show ((4 + 1 - 1) / 1 : ℕ) = 4; rfl) (by show ((512 + 256 - 1) / 256 : ℕ) = 2; rfl) (by show ((256 + 256 - 1) / 256 : ℕ) = 1; rfl)
  exact ⟨t, flush0_6 a t, fun k => ⟨(congrFun (row_6 t) k).trans (h k), Or.inl rfl⟩⟩

theorem covers_7 : ((cfg0 a).win 7).Covers := by
  refine ⟨(by decide : ∀ k : Fin 3, 0 < S1x256x256.size k), fun β => ?_⟩
  obtain ⟨t, h⟩ := reached (n := ((cfg0 a).win 7).nblk) β (by show ((4 + 1 - 1) / 1 : ℕ) = 4; rfl) (by show ((512 + 256 - 1) / 256 : ℕ) = 2; rfl) (by show ((256 + 256 - 1) / 256 : ℕ) = 1; rfl)
  exact ⟨t, flush0_7 a t, fun k => ⟨(congrFun (row_7 t) k).trans (h k), Or.inl rfl⟩⟩

theorem covers_8 : ((cfg0 a).win 8).Covers := by
  refine ⟨(by decide : ∀ k : Fin 3, 0 < S1x256x256.size k), fun β => ?_⟩
  obtain ⟨t, h⟩ := reached (n := ((cfg0 a).win 8).nblk) β (by show ((4 + 1 - 1) / 1 : ℕ) = 4; rfl) (by show ((512 + 256 - 1) / 256 : ℕ) = 2; rfl) (by show ((256 + 256 - 1) / 256 : ℕ) = 1; rfl)
  exact ⟨t, flush0_8 a t, fun k => ⟨(congrFun (row_8 t) k).trans (h k), Or.inl rfl⟩⟩

end

/-- The quotient the body works out of its second coordinate. -/
noncomputable def quot (i : grid0.Coords) : BitVec 32 :=
  let arg1 : BitVec 32 := BitVec.ofNat 32 (i 1).val
  let v0 : BitVec 32 := Scalar.divsi arg1 1#32
  let v2 : BitVec 32 := Scalar.extui (Scalar.cmpi .sgt arg1 0#32)
  let v4 : BitVec 32 := Scalar.extui (Scalar.cmpi .slt arg1 0#32)
  let v7 : BitVec 32 := Scalar.extui (Scalar.cmpi .sgt 1#32 0#32)
  let v9 : BitVec 32 := Scalar.extui (Scalar.cmpi .slt 1#32 0#32)
  Scalar.select (Scalar.andi (Scalar.cmpi .ne (Scalar.subi v2 v4) (Scalar.subi v7 v9)) (Scalar.cmpi .ne (Scalar.remsi arg1 1#32) 0#32)) (Scalar.subi v0 1#32) v0

theorem quot_at : ∀ t : Fin grid0.N, quot (grid0.coords t) = BitVec.ofNat 32 (t.val % 2 / 1) := by decide +kernel

/-- The block's gradient: the core's own half's block in the rows of the half the word names, the other's elsewhere. -/
theorem grad_at (t : Fin grid0.N) (k : BitVec 32) (x y : S1x256x256.Idx → EReal) (j : S1x256x256.Idx) :
    k0_pay6 (F := Ideal) (grid0.coords t) k x y (ix2 (j 1) (j 2)) = if BitVec.ofNat 32 (t.val % 2 / 1) = k then x j else y j := by
  rw [← quot_at t, ← down x shapeCasts_S1x256x256_S256x256 j, ← down y shapeCasts_S1x256x256_S256x256 j]
  have e : k0_pay6 (F := Ideal) (grid0.coords t) k x y = Scalar.select (Scalar.cmpi .eq (quot (grid0.coords t)) k) (shapeCast S256x256 x shapeCasts_S1x256x256_S256x256) (shapeCast S256x256 y shapeCasts_S1x256x256_S256x256) := rfl
  rw [e, ← pick]
  unfold Scalar.select Scalar.cmpi
  split <;> rfl

theorem newM_at (g a : S256x256.Idx → EReal) (j : S1x256x256.Idx) : k0_pay4 (F := Ideal) g a j = stepM (g (ix2 (j 1) (j 2))) (a (ix2 (j 1) (j 2))) :=
  (up (k0_pay1 (F := Ideal) g a) _ j).trans rfl

theorem newV_in (g : S256x256.Idx → EReal) (b : S1x256x256.Idx → EReal) (j : S1x256x256.Idx) : k0_pay2 (F := Ideal) g b (ix2 (j 1) (j 2)) = stepV (g (ix2 (j 1) (j 2))) (b j) := by
  rw [← down b shapeCasts_S1x256x256_S256x256 j]
  rfl

theorem newV_at (g : S256x256.Idx → EReal) (b : S1x256x256.Idx → EReal) (j : S1x256x256.Idx) : k0_pay5 (F := Ideal) g b j = stepV (g (ix2 (j 1) (j 2))) (b j) :=
  (up (k0_pay2 (F := Ideal) g b) _ j).trans (newV_in g b j)

theorem moved_at (g w a : S256x256.Idx → EReal) (b : S1x256x256.Idx → EReal) (j : S1x256x256.Idx) :
    k0_pay3 (F := Ideal) g w a b j = stepW (g (ix2 (j 1) (j 2))) (w (ix2 (j 1) (j 2))) (a (ix2 (j 1) (j 2))) (b j) := by
  unfold k0_pay3
  refine (up _ shapeCasts_S256x256_S1x256x256 j).trans ?_
  unfold stepW
  rw [← newV_in g b j]
  rfl

variable (m : (ℓ : Loc nD τ sig) → Buf (Elt Ideal) ℓ) (hO : Ok m) (c : Dev nD)

/-- The weights, the two running means, the gradient's two halves, and the core's number. -/
noncomputable def wgt : S4x512x256.Idx → EReal := m ((c : Thread nD τ).loc main_arg0)
noncomputable def mom : S4x512x256.Idx → EReal := m ((c : Thread nD τ).loc main_arg1)
noncomputable def var : S4x512x256.Idx → EReal := m ((c : Thread nD τ).loc main_arg2)
noncomputable def mine : S4x256x256.Idx → EReal := m ((c : Thread nD τ).loc main_arg3)
noncomputable def theirs : S4x256x256.Idx → EReal := m ((c : Thread nD τ).loc main_arg4)
noncomputable def core : S1.Idx → BitVec 32 := m ((c : Thread nD τ).loc main_arg5)

theorem lim (t : Fin grid0.N) : t.val < 4 * 2 := lt_of_lt_of_eq t.isLt N_0

/-- Where a point's block lies in the arrays, and in the halves. -/
noncomputable def pos (t : Fin grid0.N) (y : S1x256x256.Idx) : S4x512x256.Idx :=
  ix3 (⟨t.val / 2, by have := lim t; omega⟩ : Fin 4) (⟨t.val % 2 * 256 + (y 1).val, by have h : (y 1).val < 256 := (y 1).isLt; omega⟩ : Fin 512) (y 2)

theorem half_row (t : Fin grid0.N) (y : S1x256x256.Idx) : t.val % 2 % 1 * 256 + (y 1).val = (half 256 (pos t y) 1).val := by
  have h : (y 1).val < 256 := (y 1).isLt
  show _ = (t.val % 2 * 256 + (y 1).val) % 256
  omega

theorem column (n : ℕ) : 0 * 256 + n = n := by omega

theorem emb_0 (t : Fin (cfgM m hO).N) (y : S1x256x256.Idx) : ((((cfgM m hO).win 0).blk t).view.emb y : S4x512x256.Idx) = pos t y :=
  same (by blk_simp; exact congrFun (row_0 t) 0) (by blk_simp; exact congrArg (· * 256 + (y 1).val) (congrFun (row_0 t) 1)) (by blk_simp; exact (congrArg (· * 256 + (y 2).val) (congrFun (row_0 t) 2)).trans (column _))

theorem emb_1 (t : Fin (cfgM m hO).N) (y : S1x256x256.Idx) : ((((cfgM m hO).win 1).blk t).view.emb y : S4x512x256.Idx) = pos t y :=
  same (by blk_simp; exact congrFun (row_1 t) 0) (by blk_simp; exact congrArg (· * 256 + (y 1).val) (congrFun (row_1 t) 1)) (by blk_simp; exact (congrArg (· * 256 + (y 2).val) (congrFun (row_1 t) 2)).trans (column _))

theorem emb_2 (t : Fin (cfgM m hO).N) (y : S1x256x256.Idx) : ((((cfgM m hO).win 2).blk t).view.emb y : S4x512x256.Idx) = pos t y :=
  same (by blk_simp; exact congrFun (row_2 t) 0) (by blk_simp; exact congrArg (· * 256 + (y 1).val) (congrFun (row_2 t) 1)) (by blk_simp; exact (congrArg (· * 256 + (y 2).val) (congrFun (row_2 t) 2)).trans (column _))

theorem emb_3 (t : Fin (cfgM m hO).N) (y : S1x256x256.Idx) : ((((cfgM m hO).win 3).blk t).view.emb y : S4x256x256.Idx) = half 256 (pos t y) :=
  same (by blk_simp; exact congrFun (row_3 t) 0) (by blk_simp; exact (congrArg (· * 256 + (y 1).val) (congrFun (row_3 t) 1)).trans (half_row t y)) (by blk_simp; exact (congrArg (· * 256 + (y 2).val) (congrFun (row_3 t) 2)).trans (column _))

theorem emb_4 (t : Fin (cfgM m hO).N) (y : S1x256x256.Idx) : ((((cfgM m hO).win 4).blk t).view.emb y : S4x256x256.Idx) = half 256 (pos t y) :=
  same (by blk_simp; exact congrFun (row_4 t) 0) (by blk_simp; exact (congrArg (· * 256 + (y 1).val) (congrFun (row_4 t) 1)).trans (half_row t y)) (by blk_simp; exact (congrArg (· * 256 + (y 2).val) (congrFun (row_4 t) 2)).trans (column _))

theorem emb_5 (t : Fin (cfgM m hO).N) (y : S1x256x256.Idx) : ((((cfgM m hO).win 5).blk t).view.emb y : S4x512x256.Idx) = pos t y :=
  same (by blk_simp; exact congrFun (row_5 t) 0) (by blk_simp; exact congrArg (· * 256 + (y 1).val) (congrFun (row_5 t) 1)) (by blk_simp; exact (congrArg (· * 256 + (y 2).val) (congrFun (row_5 t) 2)).trans (column _))

theorem emb_6 (t : Fin (cfgM m hO).N) (y : S1x256x256.Idx) : ((((cfgM m hO).win 6).blk t).view.emb y : S4x512x256.Idx) = pos t y :=
  same (by blk_simp; exact congrFun (row_6 t) 0) (by blk_simp; exact congrArg (· * 256 + (y 1).val) (congrFun (row_6 t) 1)) (by blk_simp; exact (congrArg (· * 256 + (y 2).val) (congrFun (row_6 t) 2)).trans (column _))

theorem emb_7 (t : Fin (cfgM m hO).N) (y : S1x256x256.Idx) : ((((cfgM m hO).win 7).blk t).view.emb y : S4x512x256.Idx) = pos t y :=
  same (by blk_simp; exact congrFun (row_7 t) 0) (by blk_simp; exact congrArg (· * 256 + (y 1).val) (congrFun (row_7 t) 1)) (by blk_simp; exact (congrArg (· * 256 + (y 2).val) (congrFun (row_7 t) 2)).trans (column _))

theorem emb_8 (t : Fin (cfgM m hO).N) (y : S1x256x256.Idx) : ((((cfgM m hO).win 8).blk t).view.emb y : S4x512x256.Idx) = pos t y :=
  same (by blk_simp; exact congrFun (row_8 t) 0) (by blk_simp; exact congrArg (· * 256 + (y 1).val) (congrFun (row_8 t) 1)) (by blk_simp; exact (congrArg (· * 256 + (y 2).val) (congrFun (row_8 t) 2)).trans (column _))

theorem blk_0 (t : Fin (cfgM m hO).N) (y : S1x256x256.Idx) : iblk m hO c 0 t y = wgt m c (pos t y) := congrArg (wgt m c) (emb_0 m hO t y)

theorem blk_1 (t : Fin (cfgM m hO).N) (y : S1x256x256.Idx) : iblk m hO c 1 t y = mom m c (pos t y) := congrArg (mom m c) (emb_1 m hO t y)

theorem blk_2 (t : Fin (cfgM m hO).N) (y : S1x256x256.Idx) : iblk m hO c 2 t y = var m c (pos t y) := congrArg (var m c) (emb_2 m hO t y)

theorem blk_3 (t : Fin (cfgM m hO).N) (y : S1x256x256.Idx) : iblk m hO c 3 t y = mine m c (half 256 (pos t y)) := congrArg (mine m c) (emb_3 m hO t y)

theorem blk_4 (t : Fin (cfgM m hO).N) (y : S1x256x256.Idx) : iblk m hO c 4 t y = theirs m c (half 256 (pos t y)) := congrArg (theirs m c) (emb_4 m hO t y)

theorem whole_pos (k : S1.Idx → BitVec 32) (a b : S4x256x256.Idx → EReal) (t : Fin grid0.N) (y : S1x256x256.Idx) :
    whole 256 k a b (pos t y) = if BitVec.ofNat 32 (t.val % 2 / 1) = k one then a (half 256 (pos t y)) else b (half 256 (pos t y)) := by
  have h : (y 1).val < 256 := (y 1).isLt
  have e : ((pos t y) 1).val / 256 = t.val % 2 / 1 := by show (t.val % 2 * 256 + (y 1).val) / 256 = _; omega
  unfold whole
  rw [e]

theorem grad_blk (t : Fin (cfgM m hO).N) (y : S1x256x256.Idx) :
    k0_pay6 (F := Ideal) (grid0.coords t) (core m c one) (iblk m hO c 3 t) (iblk m hO c 4 t) (ix2 (y 1) (y 2)) = whole 256 (core m c) (mine m c) (theirs m c) (pos t y) := by
  rw [whole_pos, ← blk_3 m hO c t y, ← blk_4 m hO c t y]
  exact grad_at t (core m c one) (iblk m hO c 3 t) (iblk m hO c 4 t) y

theorem word (i : S1.Idx) : (tbl m 0 : S1.Idx → BitVec 32) i = core m c one := by
  obtain rfl : c = 0 := Subsingleton.elim _ _
  exact congrArg (core m 0) (one_eq i)

theorem word_read (h : ∀ a, (![0] : Fin 1 → ℕ) a + (![1] : Fin 1 → ℕ) a ≤ S1.size a) (i) :
    View.readAt (Elt Ideal) (View.whole main_arg5) (Rect.unit (s := S1) ![0] ![1] h).toLoadRect (tbl m 0) i = core m c one := word m c _

theorem pay_5 (t : Fin (cfgM m hO).N) (y : S1x256x256.Idx) {x3 x4 : S1x256x256.Idx → EReal} (e3 : x3 = iblk m hO c 3 t) (e4 : x4 = iblk m hO c 4 t) : k0_pay7 (F := Ideal) (grid0.coords t) (core m c one) x3 x4 y = whole 256 (core m c) (mine m c) (theirs m c) (pos t y) := by
  subst e3 e4
  exact (up _ shapeCasts_S256x256_S1x256x256 y).trans (grad_blk m hO c t y)

theorem out_5 : (dats m hO 0 c).arrAt 5 (cfgM m hO).N = whole 256 (core m c) (mine m c) (theirs m c) := by
  refine (dats m hO 0 c).arrAt_eq_of_covers 5 _ (covers_5 _) (fun t hf y => ?_) (Memref.isWhole_whole _)
  rw [after0_5]
  unfold outsAt0
  frame_out
  rw [word_read m c]
  exact (pay_5 m hO c t y (Memref.IsWhole.read_unread (hs0_3 m hO t) (iblk m hO c 3 t)) (Memref.IsWhole.read_unread (hs0_4 m hO t) (iblk m hO c 4 t))).trans (congrArg (whole 256 (core m c) (mine m c) (theirs m c)) (emb_5 m hO t y)).symm

theorem pay_6 (t : Fin (cfgM m hO).N) (y : S1x256x256.Idx) {x0 x1 x2 x3 x4 : S1x256x256.Idx → EReal} (e0 : x0 = iblk m hO c 0 t) (e1 : x1 = iblk m hO c 1 t) (e2 : x2 = iblk m hO c 2 t) (e3 : x3 = iblk m hO c 3 t) (e4 : x4 = iblk m hO c 4 t) : k0_pay3 (F := Ideal) (k0_pay6 (F := Ideal) (grid0.coords t) (core m c one) x3 x4) (k0_pay8 (F := Ideal) x0) (k0_pay9 (F := Ideal) x1) x2 y = moved (whole 256 (core m c) (mine m c) (theirs m c)) (wgt m c) (mom m c) (var m c) (pos t y) := by
  subst e0 e1 e2 e3 e4
  exact (moved_at _ _ _ _ y).trans (by unfold moved; rw [grad_blk m hO c t y, ← blk_0 m hO c t y, ← blk_1 m hO c t y, ← blk_2 m hO c t y]; exact congrArg₂ (fun u v : EReal => stepW _ u v _) (down (iblk m hO c 0 t) shapeCasts_S1x256x256_S256x256 y) (down (iblk m hO c 1 t) shapeCasts_S1x256x256_S256x256 y))

theorem out_6 : (dats m hO 0 c).arrAt 6 (cfgM m hO).N = moved (whole 256 (core m c) (mine m c) (theirs m c)) (wgt m c) (mom m c) (var m c) := by
  refine (dats m hO 0 c).arrAt_eq_of_covers 6 _ (covers_6 _) (fun t hf y => ?_) (Memref.isWhole_whole _)
  rw [after0_6]
  unfold outsAt0
  frame_out
  rw [word_read m c]
  exact (pay_6 m hO c t y (Memref.IsWhole.read_unread (hs0_0 m hO t) (iblk m hO c 0 t)) (Memref.IsWhole.read_unread (hs0_1 m hO t) (iblk m hO c 1 t)) (Memref.IsWhole.read_unread (hs0_2 m hO t) (iblk m hO c 2 t)) (Memref.IsWhole.read_unread (hs0_3 m hO t) (iblk m hO c 3 t)) (Memref.IsWhole.read_unread (hs0_4 m hO t) (iblk m hO c 4 t))).trans (congrArg (moved (whole 256 (core m c) (mine m c) (theirs m c)) (wgt m c) (mom m c) (var m c)) (emb_6 m hO t y)).symm

theorem pay_7 (t : Fin (cfgM m hO).N) (y : S1x256x256.Idx) {x1 x3 x4 : S1x256x256.Idx → EReal} (e1 : x1 = iblk m hO c 1 t) (e3 : x3 = iblk m hO c 3 t) (e4 : x4 = iblk m hO c 4 t) : k0_pay4 (F := Ideal) (k0_pay6 (F := Ideal) (grid0.coords t) (core m c one) x3 x4) (k0_pay9 (F := Ideal) x1) y = newM (whole 256 (core m c) (mine m c) (theirs m c)) (mom m c) (pos t y) := by
  subst e1 e3 e4
  exact (newM_at _ _ y).trans (by unfold newM; rw [grad_blk m hO c t y, ← blk_1 m hO c t y]; exact congrArg (stepM _) (down (iblk m hO c 1 t) shapeCasts_S1x256x256_S256x256 y))

theorem out_7 : (dats m hO 0 c).arrAt 7 (cfgM m hO).N = newM (whole 256 (core m c) (mine m c) (theirs m c)) (mom m c) := by
  refine (dats m hO 0 c).arrAt_eq_of_covers 7 _ (covers_7 _) (fun t hf y => ?_) (Memref.isWhole_whole _)
  rw [after0_7]
  unfold outsAt0
  frame_out
  rw [word_read m c]
  exact (pay_7 m hO c t y (Memref.IsWhole.read_unread (hs0_1 m hO t) (iblk m hO c 1 t)) (Memref.IsWhole.read_unread (hs0_3 m hO t) (iblk m hO c 3 t)) (Memref.IsWhole.read_unread (hs0_4 m hO t) (iblk m hO c 4 t))).trans (congrArg (newM (whole 256 (core m c) (mine m c) (theirs m c)) (mom m c)) (emb_7 m hO t y)).symm

theorem pay_8 (t : Fin (cfgM m hO).N) (y : S1x256x256.Idx) {x2 x3 x4 : S1x256x256.Idx → EReal} (e2 : x2 = iblk m hO c 2 t) (e3 : x3 = iblk m hO c 3 t) (e4 : x4 = iblk m hO c 4 t) : k0_pay5 (F := Ideal) (k0_pay6 (F := Ideal) (grid0.coords t) (core m c one) x3 x4) x2 y = newV (whole 256 (core m c) (mine m c) (theirs m c)) (var m c) (pos t y) := by
  subst e2 e3 e4
  exact (newV_at _ _ y).trans (by unfold newV; rw [grad_blk m hO c t y, ← blk_2 m hO c t y])

theorem out_8 : (dats m hO 0 c).arrAt 8 (cfgM m hO).N = newV (whole 256 (core m c) (mine m c) (theirs m c)) (var m c) := by
  refine (dats m hO 0 c).arrAt_eq_of_covers 8 _ (covers_8 _) (fun t hf y => ?_) (Memref.isWhole_whole _)
  rw [after0_8]
  unfold outsAt0
  frame_out
  rw [word_read m c]
  exact (pay_8 m hO c t y (Memref.IsWhole.read_unread (hs0_2 m hO t) (iblk m hO c 2 t)) (Memref.IsWhole.read_unread (hs0_3 m hO t) (iblk m hO c 3 t)) (Memref.IsWhole.read_unread (hs0_4 m hO t) (iblk m hO c 4 t))).trans (congrArg (newV (whole 256 (core m c) (mine m c) (theirs m c)) (var m c)) (emb_8 m hO t y)).symm

section
open Cert.AdamwBrSbReferenceIdeal.Read

theorem ref_whole (a b : S4x256x256.Idx → EReal) (k : S1.Idx → BitVec 32) : (val_main_v6 (F := Ideal) a b k : S4x512x256.Idx → EReal) = whole 256 k a b := by
  refine joined 256 rfl k a b _ _ _ (fun i => ?_) (fun i => ?_)
  · rw [val_main_v2_apply, val_main_call0_v0_apply, val_main_v1_apply, one_eq (idx_main_call0_v0 _)]
    exact (pick _ _ _ _).trans (if_congr eq_comm rfl rfl)
  · rw [val_main_v5_apply, val_main_call1_v0_apply, val_main_v4_apply, one_eq (idx_main_call1_v0 _)]
    exact (pick _ _ _ _).trans (if_congr eq_comm rfl rfl)

theorem ref_M (A : S4x512x256.Idx → EReal) (a b : S4x256x256.Idx → EReal) (k : S1.Idx → BitVec 32) : val_main_v11 (F := Ideal) A a b k = newM (whole 256 k a b) A := by
  funext i
  exact Eq.trans rfl (congrArg (fun u : EReal => stepM u (A i)) (congrFun (ref_whole a b k) i))

theorem ref_V (B : S4x512x256.Idx → EReal) (a b : S4x256x256.Idx → EReal) (k : S1.Idx → BitVec 32) : val_main_v17 (F := Ideal) B a b k = newV (whole 256 k a b) B := by
  funext i
  exact Eq.trans rfl (congrArg (fun u : EReal => stepV u (B i)) (congrFun (ref_whole a b k) i))

theorem ref_W (W A B : S4x512x256.Idx → EReal) (a b : S4x256x256.Idx → EReal) (k : S1.Idx → BitVec 32) : val_main_v30 (F := Ideal) W A B a b k = moved (whole 256 k a b) W A B := by
  funext i
  exact Eq.trans rfl (congrArg (fun u : EReal => stepW u (W i) (A i) (B i)) (congrFun (ref_whole a b k) i))

end

end Cert.AdamwBrSbIdeal.Block

namespace Cert.Proof.AdamwBrSb

open Idealize.ShloMosaic Idealize.SL.Sem
open Idealize.ShloMosaic.TcCoe
open Cert.AdamwBrSbIdeal.Block Cert.AdamwHalves

theorem frame_bits : Cert.quiescent_AdamwBrSb (hAdamwBrSb := Cert.AdamwBrSb.Gen.facts) := fun m g _ => Cert.AdamwBrSb.Gen.frame m g trivial

theorem frame_ideal : Cert.quiescent_AdamwBrSbIdeal (hAdamwBrSbIdeal := Cert.AdamwBrSbIdeal.Gen.facts) := fun m g _ => Cert.AdamwBrSbIdeal.Gen.frame m g trivial

theorem frame_ref : Cert.quiescent_AdamwBrSbReferenceIdeal (hAdamwBrSbReferenceIdeal := Cert.AdamwBrSbReferenceIdeal.Gen.facts) := fun m g _ =>
  (θ_run Cert.AdamwBrSbReferenceIdeal.defs _ _).mono (fun r h => ⟨fun c => (h c).2.2.2.2, sem_eq_zero_of_no_sems rfl r.2⟩)
    (Cert.AdamwBrSbReferenceIdeal.Value.run (F := Ideal) m g)

section
open Cert.AdamwBrSbIdeal Cert.AdamwBrSbIdeal.Gen

theorem arrays (m : (ℓ : Loc nD τ sig) → Buf (Elt Ideal) ℓ) (g : Dev nD → PrngReg) (hO : Ok m) :
    θ_run (defs (F := Ideal)) (onTc (τ := τ) (main (F := Ideal))) ⟨m, fun _ => 0, g⟩ (fun r => ∀ c : Dev nD,
      r.2.mem ((c.tc : Thread nD τ).loc main_v0_0) = whole 256 (core m c) (mine m c) (theirs m c)
      ∧ r.2.mem ((c.tc : Thread nD τ).loc main_v0_1) = moved (whole 256 (core m c) (mine m c) (theirs m c)) (wgt m c) (mom m c) (var m c)
      ∧ r.2.mem ((c.tc : Thread nD τ).loc main_v0_2) = newM (whole 256 (core m c) (mine m c) (theirs m c)) (mom m c)
      ∧ r.2.mem ((c.tc : Thread nD τ).loc main_v0_3) = newV (whole 256 (core m c) (mine m c) (theirs m c)) (var m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun _ h c => ⟨((h c).1 5).trans (out_5 m hO c), ((h c).1 6).trans (out_6 m hO c), ((h c).1 7).trans (out_7 m hO c), ((h c).1 8).trans (out_8 m hO c),
    ((h c).1 0).trans (((dats m hO 0 c).arrAt_in 0 rfl _).trans ((A_eq m hO c 0).trans (V_main_arg0 m c))),
    ((h c).1 1).trans (((dats m hO 0 c).arrAt_in 1 rfl _).trans ((A_eq m hO c 1).trans (V_main_arg1 m c))),
    ((h c).1 2).trans (((dats m hO 0 c).arrAt_in 2 rfl _).trans ((A_eq m hO c 2).trans (V_main_arg2 m c))),
    ((h c).1 3).trans (((dats m hO 0 c).arrAt_in 3 rfl _).trans ((A_eq m hO c 3).trans (V_main_arg3 m c))),
    ((h c).1 4).trans (((dats m hO 0 c).arrAt_in 4 rfl _).trans ((A_eq m hO c 4).trans (V_main_arg4 m c))),
    ((h c).2 main_arg5 (by decide : main_arg5 ∈ Pipeline.restRefs sig spec0)).trans (V_main_arg5 m c)⟩) (run_main m g hO)

end

theorem algebraic : Cert.algebraic_AdamwBrSbIdeal_AdamwBrSbReferenceIdeal (hAdamwBrSbIdeal := Cert.AdamwBrSbIdeal.Gen.facts)
    (hAdamwBrSbReferenceIdeal := Cert.AdamwBrSbReferenceIdeal.Gen.facts) := by
  intro m g m' g' _ hargs
  refine ⟨fun c => whole 256 (core m c) (mine m c) (theirs m c), fun c => moved (whole 256 (core m c) (mine m c) (theirs m c)) (wgt m c) (mom m c) (var m c),
    fun c => newM (whole 256 (core m c) (mine m c) (theirs m c)) (mom m c), fun c => newV (whole 256 (core m c) (mine m c) (theirs m c)) (var m c), arrays m g trivial, ?_⟩
  refine (θ_run _ _ _).mono (fun r h c => ⟨(h c).1.trans ?_, (h c).2.1.trans ?_, (h c).2.2.1.trans ?_, (h c).2.2.2.1.trans ?_, (h c).2.2.2.2⟩) (Cert.AdamwBrSbReferenceIdeal.Value.run (F := Ideal) m' g')
  · obtain ⟨a0, a1, a2, a3, a4, a5⟩ := hargs c
    rw [Cert.AdamwBrSbReferenceIdeal.Read.val_main_v6_eq, a3, a4, a5]
    exact ref_whole _ _ _
  · obtain ⟨a0, a1, a2, a3, a4, a5⟩ := hargs c
    rw [Cert.AdamwBrSbReferenceIdeal.Read.val_main_v30_eq, a0, a1, a2, a3, a4, a5]
    exact ref_W _ _ _ _ _ _
  · obtain ⟨a0, a1, a2, a3, a4, a5⟩ := hargs c
    rw [Cert.AdamwBrSbReferenceIdeal.Read.val_main_v11_eq, a1, a3, a4, a5]
    exact ref_M _ _ _ _
  · obtain ⟨a0, a1, a2, a3, a4, a5⟩ := hargs c
    rw [Cert.AdamwBrSbReferenceIdeal.Read.val_main_v17_eq, a2, a3, a4, a5]
    exact ref_V _ _ _ _

end Cert.Proof.AdamwBrSb

end
-- ==== Proof.AdamwInValue.lean ====
/- What `AdamwIn` leaves are the reference's arrays. -/
module

public import proofs.«01_k».proof.Defs
public import proofs.«01_k».proof.Proof.Norms
public import proofs.«01_k».proof.Proof.AdamwHalves
public import proofs.«01_k».proof.Proof.Gen.AdamwInIdeal.Frame
public import proofs.«01_k».proof.Proof.Gen.AdamwIn.Frame
public import proofs.«01_k».proof.Proof.Gen.AdamwInReferenceIdeal.Read
public import Idealize.ShloMosaic.Lib.Quiescent
public import Idealize.ShloMosaic.Lib.Claim

@[expose] public section

set_option maxRecDepth 65536

noncomputable section

namespace Cert.AdamwInIdeal.Block

open Cert.AdamwInIdeal Cert.AdamwInIdeal.Gen Cert.Product Cert.Norms
open Cert.AdamwHalves
open Cert.AdamwSmallIdeal.Block (stepM stepV stepW)
open Idealize.ShloMosaic hiding ix1 ix2 ix3 ix4 eq_ix2
open Idealize.SL.Sem
open Idealize.ShloMosaic.TcCoe Idealize.ShloMosaic.ValueIdx

theorem row_0 : ∀ t : Fin grid0.N, cc0_transform_0 (grid0.coords t) = ![t.val / 8, t.val % 8, 0] := by decide +kernel
theorem row_1 : ∀ t : Fin grid0.N, cc0_transform_1 (grid0.coords t) = ![t.val / 8, t.val % 8, 0] := by decide +kernel
theorem row_2 : ∀ t : Fin grid0.N, cc0_transform_2 (grid0.coords t) = ![t.val / 8, t.val % 8, 0] := by decide +kernel
theorem row_3 : ∀ t : Fin grid0.N, cc0_transform_3 (grid0.coords t) = ![t.val / 8, t.val % 8 % 4, 0] := by decide +kernel
theorem row_4 : ∀ t : Fin grid0.N, cc0_transform_4 (grid0.coords t) = ![t.val / 8, t.val % 8 % 4, 0] := by decide +kernel
theorem row_5 : ∀ t : Fin grid0.N, cc0_transform_5 (grid0.coords t) = ![t.val / 8, t.val % 8, 0] := by decide +kernel
theorem row_6 : ∀ t : Fin grid0.N, cc0_transform_6 (grid0.coords t) = ![t.val / 8, t.val % 8, 0] := by decide +kernel
theorem row_7 : ∀ t : Fin grid0.N, cc0_transform_7 (grid0.coords t) = ![t.val / 8, t.val % 8, 0] := by decide +kernel
theorem row_8 : ∀ t : Fin grid0.N, cc0_transform_8 (grid0.coords t) = ![t.val / 8, t.val % 8, 0] := by decide +kernel

section
variable (a : (pcfg0 (F := Ideal)).Adm)

/-- Every block of an array the grid writes is written at one of its points. -/
theorem reach : ∀ (x : Fin 4) (y : Fin 8), ∃ t : Fin grid0.N, t.val / 8 = x.val ∧ t.val % 8 = y.val := by decide +kernel

theorem reached {n : Fin 3 → ℕ} (β : (k : Fin 3) → Fin (n k)) (n0 : n 0 = 4) (n1 : n 1 = 8) (n2 : n 2 = 1) :
    ∃ t : Fin grid0.N, ∀ k : Fin 3, (![t.val / 8, t.val % 8, 0] : Fin 3 → ℕ) k = (β k).val := by
  obtain ⟨t, h0, h1⟩ := reach ⟨_, lt_of_lt_of_eq (β 0).isLt n0⟩ ⟨_, lt_of_lt_of_eq (β 1).isLt n1⟩
  exact ⟨t, fun k => match k with | ⟨0, _⟩ => h0 | ⟨1, _⟩ => h1 | ⟨2, _⟩ => (Nat.lt_one_iff.mp (lt_of_lt_of_eq (β 2).isLt n2)).symm⟩

theorem covers_5 : ((cfg0 a).win 5).Covers := by
  refine ⟨(by decide : ∀ k : Fin 3, 0 < S1x128x1344.size k), fun β => ?_⟩
  obtain ⟨t, h⟩ := reached (n := ((cfg0 a).win 5).nblk) β (by show ((4 + 1 - 1) / 1 : ℕ) = 4; rfl) (by show ((1024 + 128 - 1) / 128 : ℕ) = 8; rfl) (by show ((1344 + 1344 - 1) / 1344 : ℕ) = 1; rfl)
  exact ⟨t, flush0_5 a t, fun k => ⟨(congrFun (row_5 t) k).trans (h k), Or.inl rfl⟩⟩

theorem covers_6 : ((cfg0 a).win 6).Covers := by
  refine ⟨(by decide : ∀ k : Fin 3, 0 < S1x128x1344.size k), fun β => ?_⟩
  obtain ⟨t, h⟩ := reached (n := ((cfg0 a).win 6).nblk) β (by show ((4 + 1 - 1) / 1 : ℕ) = 4; rfl) (by show ((1024 + 128 - 1) / 128 : ℕ) = 8; rfl) (by show ((1344 + 1344 - 1) / 1344 : ℕ) = 1; rfl)
  exact ⟨t, flush0_6 a t, fun k => ⟨(congrFun (row_6 t) k).trans (h k), Or.inl rfl⟩⟩

theorem covers_7 : ((cfg0 a).win 7).Covers := by
  refine ⟨(by decide : ∀ k : Fin 3, 0 < S1x128x1344.size k), fun β => ?_⟩
  obtain ⟨t, h⟩ := reached (n := ((cfg0 a).win 7).nblk) β (by show ((4 + 1 - 1) / 1 : ℕ) = 4; rfl) (by show ((1024 + 128 - 1) / 128 : ℕ) = 8; rfl) (by show ((1344 + 1344 - 1) / 1344 : ℕ) = 1; rfl)
  exact ⟨t, flush0_7 a t, fun k => ⟨(congrFun (row_7 t) k).trans (h k), Or.inl rfl⟩⟩

theorem covers_8 : ((cfg0 a).win 8).Covers := by
  refine ⟨(by decide : ∀ k : Fin 3, 0 < S1x128x1344.size k), fun β => ?_⟩
  obtain ⟨t, h⟩ := reached (n := ((cfg0 a).win 8).nblk) β (by show ((4 + 1 - 1) / 1 : ℕ) = 4; rfl) (by show ((1024 + 128 - 1) / 128 : ℕ) = 8; rfl) (by show ((1344 + 1344 - 1) / 1344 : ℕ) = 1; rfl)
  exact ⟨t, flush0_8 a t, fun k => ⟨(congrFun (row_8 t) k).trans (h k), Or.inl rfl⟩⟩

end

/-- The quotient the body works out of its second coordinate. -/
noncomputable def quot (i : grid0.Coords) : BitVec 32 :=
  let arg1 : BitVec 32 := BitVec.ofNat 32 (i 1).val
  let v0 : BitVec 32 := Scalar.divsi arg1 4#32
  let v2 : BitVec 32 := Scalar.extui (Scalar.cmpi .sgt arg1 0#32)
  let v4 : BitVec 32 := Scalar.extui (Scalar.cmpi .slt arg1 0#32)
  let v7 : BitVec 32 := Scalar.extui (Scalar.cmpi .sgt 4#32 0#32)
  let v9 : BitVec 32 := Scalar.extui (Scalar.cmpi .slt 4#32 0#32)
  Scalar.select (Scalar.andi (Scalar.cmpi .ne (Scalar.subi v2 v4) (Scalar.subi v7 v9)) (Scalar.cmpi .ne (Scalar.remsi arg1 4#32) 0#32)) (Scalar.subi v0 1#32) v0

theorem quot_at : ∀ t : Fin grid0.N, quot (grid0.coords t) = BitVec.ofNat 32 (t.val % 8 / 4) := by decide +kernel

/-- The block's gradient: the core's own half's block in the rows of the half the word names, the other's elsewhere. -/
theorem grad_at (t : Fin grid0.N) (k : BitVec 32) (x y : S1x128x1344.Idx → EReal) (j : S1x128x1344.Idx) :
    k0_pay6 (F := Ideal) (grid0.coords t) k x y (ix2 (j 1) (j 2)) = if BitVec.ofNat 32 (t.val % 8 / 4) = k then x j else y j := by
  rw [← quot_at t, ← down x shapeCasts_S1x128x1344_S128x1344 j, ← down y shapeCasts_S1x128x1344_S128x1344 j]
  have e : k0_pay6 (F := Ideal) (grid0.coords t) k x y = Scalar.select (Scalar.cmpi .eq (quot (grid0.coords t)) k) (shapeCast S128x1344 x shapeCasts_S1x128x1344_S128x1344) (shapeCast S128x1344 y shapeCasts_S1x128x1344_S128x1344) := rfl
  rw [e, ← pick]
  unfold Scalar.select Scalar.cmpi
  split <;> rfl

theorem newM_at (g a : S128x1344.Idx → EReal) (j : S1x128x1344.Idx) : k0_pay4 (F := Ideal) g a j = stepM (g (ix2 (j 1) (j 2))) (a (ix2 (j 1) (j 2))) :=
  (up (k0_pay1 (F := Ideal) g a) _ j).trans rfl

theorem newV_in (g : S128x1344.Idx → EReal) (b : S1x128x1344.Idx → EReal) (j : S1x128x1344.Idx) : k0_pay2 (F := Ideal) g b (ix2 (j 1) (j 2)) = stepV (g (ix2 (j 1) (j 2))) (b j) := by
  rw [← down b shapeCasts_S1x128x1344_S128x1344 j]
  rfl

theorem newV_at (g : S128x1344.Idx → EReal) (b : S1x128x1344.Idx → EReal) (j : S1x128x1344.Idx) : k0_pay5 (F := Ideal) g b j = stepV (g (ix2 (j 1) (j 2))) (b j) :=
  (up (k0_pay2 (F := Ideal) g b) _ j).trans (newV_in g b j)

theorem moved_at (g w a : S128x1344.Idx → EReal) (b : S1x128x1344.Idx → EReal) (j : S1x128x1344.Idx) :
    k0_pay3 (F := Ideal) g w a b j = stepW (g (ix2 (j 1) (j 2))) (w (ix2 (j 1) (j 2))) (a (ix2 (j 1) (j 2))) (b j) := by
  unfold k0_pay3
  refine (up _ shapeCasts_S128x1344_S1x128x1344 j).trans ?_
  unfold stepW
  rw [← newV_in g b j]
  rfl

variable (m : (ℓ : Loc nD τ sig) → Buf (Elt Ideal) ℓ) (hO : Ok m) (c : Dev nD)

/-- The weights, the two running means, the gradient's two halves, and the core's number. -/
noncomputable def wgt : S4x1024x1344.Idx → EReal := m ((c : Thread nD τ).loc main_arg0)
noncomputable def mom : S4x1024x1344.Idx → EReal := m ((c : Thread nD τ).loc main_arg1)
noncomputable def var : S4x1024x1344.Idx → EReal := m ((c : Thread nD τ).loc main_arg2)
noncomputable def mine : S4x512x1344.Idx → EReal := m ((c : Thread nD τ).loc main_arg3)
noncomputable def theirs : S4x512x1344.Idx → EReal := m ((c : Thread nD τ).loc main_arg4)
noncomputable def core : S1.Idx → BitVec 32 := m ((c : Thread nD τ).loc main_arg5)

theorem lim (t : Fin grid0.N) : t.val < 4 * 8 := lt_of_lt_of_eq t.isLt N_0

/-- Where a point's block lies in the arrays, and in the halves. -/
noncomputable def pos (t : Fin grid0.N) (y : S1x128x1344.Idx) : S4x1024x1344.Idx :=
  ix3 (⟨t.val / 8, by have := lim t; omega⟩ : Fin 4) (⟨t.val % 8 * 128 + (y 1).val, by have h : (y 1).val < 128 := (y 1).isLt; omega⟩ : Fin 1024) (y 2)

theorem half_row (t : Fin grid0.N) (y : S1x128x1344.Idx) : t.val % 8 % 4 * 128 + (y 1).val = (half 512 (pos t y) 1).val := by
  have h : (y 1).val < 128 := (y 1).isLt
  show _ = (t.val % 8 * 128 + (y 1).val) % 512
  omega

theorem column (n : ℕ) : 0 * 1344 + n = n := by omega

theorem emb_0 (t : Fin (cfgM m hO).N) (y : S1x128x1344.Idx) : ((((cfgM m hO).win 0).blk t).view.emb y : S4x1024x1344.Idx) = pos t y :=
  same (by blk_simp; exact congrFun (row_0 t) 0) (by blk_simp; exact congrArg (· * 128 + (y 1).val) (congrFun (row_0 t) 1)) (by blk_simp; exact (congrArg (· * 1344 + (y 2).val) (congrFun (row_0 t) 2)).trans (column _))

theorem emb_1 (t : Fin (cfgM m hO).N) (y : S1x128x1344.Idx) : ((((cfgM m hO).win 1).blk t).view.emb y : S4x1024x1344.Idx) = pos t y :=
  same (by blk_simp; exact congrFun (row_1 t) 0) (by blk_simp; exact congrArg (· * 128 + (y 1).val) (congrFun (row_1 t) 1)) (by blk_simp; exact (congrArg (· * 1344 + (y 2).val) (congrFun (row_1 t) 2)).trans (column _))

theorem emb_2 (t : Fin (cfgM m hO).N) (y : S1x128x1344.Idx) : ((((cfgM m hO).win 2).blk t).view.emb y : S4x1024x1344.Idx) = pos t y :=
  same (by blk_simp; exact congrFun (row_2 t) 0) (by blk_simp; exact congrArg (· * 128 + (y 1).val) (congrFun (row_2 t) 1)) (by blk_simp; exact (congrArg (· * 1344 + (y 2).val) (congrFun (row_2 t) 2)).trans (column _))

theorem emb_3 (t : Fin (cfgM m hO).N) (y : S1x128x1344.Idx) : ((((cfgM m hO).win 3).blk t).view.emb y : S4x512x1344.Idx) = half 512 (pos t y) :=
  same (by blk_simp; exact congrFun (row_3 t) 0) (by blk_simp; exact (congrArg (· * 128 + (y 1).val) (congrFun (row_3 t) 1)).trans (half_row t y)) (by blk_simp; exact (congrArg (· * 1344 + (y 2).val) (congrFun (row_3 t) 2)).trans (column _))

theorem emb_4 (t : Fin (cfgM m hO).N) (y : S1x128x1344.Idx) : ((((cfgM m hO).win 4).blk t).view.emb y : S4x512x1344.Idx) = half 512 (pos t y) :=
  same (by blk_simp; exact congrFun (row_4 t) 0) (by blk_simp; exact (congrArg (· * 128 + (y 1).val) (congrFun (row_4 t) 1)).trans (half_row t y)) (by blk_simp; exact (congrArg (· * 1344 + (y 2).val) (congrFun (row_4 t) 2)).trans (column _))

theorem emb_5 (t : Fin (cfgM m hO).N) (y : S1x128x1344.Idx) : ((((cfgM m hO).win 5).blk t).view.emb y : S4x1024x1344.Idx) = pos t y :=
  same (by blk_simp; exact congrFun (row_5 t) 0) (by blk_simp; exact congrArg (· * 128 + (y 1).val) (congrFun (row_5 t) 1)) (by blk_simp; exact (congrArg (· * 1344 + (y 2).val) (congrFun (row_5 t) 2)).trans (column _))

theorem emb_6 (t : Fin (cfgM m hO).N) (y : S1x128x1344.Idx) : ((((cfgM m hO).win 6).blk t).view.emb y : S4x1024x1344.Idx) = pos t y :=
  same (by blk_simp; exact congrFun (row_6 t) 0) (by blk_simp; exact congrArg (· * 128 + (y 1).val) (congrFun (row_6 t) 1)) (by blk_simp; exact (congrArg (· * 1344 + (y 2).val) (congrFun (row_6 t) 2)).trans (column _))

theorem emb_7 (t : Fin (cfgM m hO).N) (y : S1x128x1344.Idx) : ((((cfgM m hO).win 7).blk t).view.emb y : S4x1024x1344.Idx) = pos t y :=
  same (by blk_simp; exact congrFun (row_7 t) 0) (by blk_simp; exact congrArg (· * 128 + (y 1).val) (congrFun (row_7 t) 1)) (by blk_simp; exact (congrArg (· * 1344 + (y 2).val) (congrFun (row_7 t) 2)).trans (column _))

theorem emb_8 (t : Fin (cfgM m hO).N) (y : S1x128x1344.Idx) : ((((cfgM m hO).win 8).blk t).view.emb y : S4x1024x1344.Idx) = pos t y :=
  same (by blk_simp; exact congrFun (row_8 t) 0) (by blk_simp; exact congrArg (· * 128 + (y 1).val) (congrFun (row_8 t) 1)) (by blk_simp; exact (congrArg (· * 1344 + (y 2).val) (congrFun (row_8 t) 2)).trans (column _))

theorem blk_0 (t : Fin (cfgM m hO).N) (y : S1x128x1344.Idx) : iblk m hO c 0 t y = wgt m c (pos t y) := congrArg (wgt m c) (emb_0 m hO t y)

theorem blk_1 (t : Fin (cfgM m hO).N) (y : S1x128x1344.Idx) : iblk m hO c 1 t y = mom m c (pos t y) := congrArg (mom m c) (emb_1 m hO t y)

theorem blk_2 (t : Fin (cfgM m hO).N) (y : S1x128x1344.Idx) : iblk m hO c 2 t y = var m c (pos t y) := congrArg (var m c) (emb_2 m hO t y)

theorem blk_3 (t : Fin (cfgM m hO).N) (y : S1x128x1344.Idx) : iblk m hO c 3 t y = mine m c (half 512 (pos t y)) := congrArg (mine m c) (emb_3 m hO t y)

theorem blk_4 (t : Fin (cfgM m hO).N) (y : S1x128x1344.Idx) : iblk m hO c 4 t y = theirs m c (half 512 (pos t y)) := congrArg (theirs m c) (emb_4 m hO t y)

theorem whole_pos (k : S1.Idx → BitVec 32) (a b : S4x512x1344.Idx → EReal) (t : Fin grid0.N) (y : S1x128x1344.Idx) :
    whole 512 k a b (pos t y) = if BitVec.ofNat 32 (t.val % 8 / 4) = k one then a (half 512 (pos t y)) else b (half 512 (pos t y)) := by
  have h : (y 1).val < 128 := (y 1).isLt
  have e : ((pos t y) 1).val / 512 = t.val % 8 / 4 := by show (t.val % 8 * 128 + (y 1).val) / 512 = _; omega
  unfold whole
  rw [e]

theorem grad_blk (t : Fin (cfgM m hO).N) (y : S1x128x1344.Idx) :
    k0_pay6 (F := Ideal) (grid0.coords t) (core m c one) (iblk m hO c 3 t) (iblk m hO c 4 t) (ix2 (y 1) (y 2)) = whole 512 (core m c) (mine m c) (theirs m c) (pos t y) := by
  rw [whole_pos, ← blk_3 m hO c t y, ← blk_4 m hO c t y]
  exact grad_at t (core m c one) (iblk m hO c 3 t) (iblk m hO c 4 t) y

theorem word (i : S1.Idx) : (tbl m 0 : S1.Idx → BitVec 32) i = core m c one := by
  obtain rfl : c = 0 := Subsingleton.elim _ _
  exact congrArg (core m 0) (one_eq i)

theorem word_read (h : ∀ a, (![0] : Fin 1 → ℕ) a + (![1] : Fin 1 → ℕ) a ≤ S1.size a) (i) :
    View.readAt (Elt Ideal) (View.whole main_arg5) (Rect.unit (s := S1) ![0] ![1] h).toLoadRect (tbl m 0) i = core m c one := word m c _

theorem pay_5 (t : Fin (cfgM m hO).N) (y : S1x128x1344.Idx) {x3 x4 : S1x128x1344.Idx → EReal} (e3 : x3 = iblk m hO c 3 t) (e4 : x4 = iblk m hO c 4 t) : k0_pay7 (F := Ideal) (grid0.coords t) (core m c one) x3 x4 y = whole 512 (core m c) (mine m c) (theirs m c) (pos t y) := by
  subst e3 e4
  exact (up _ shapeCasts_S128x1344_S1x128x1344 y).trans (grad_blk m hO c t y)

theorem out_5 : (dats m hO 0 c).arrAt 5 (cfgM m hO).N = whole 512 (core m c) (mine m c) (theirs m c) := by
  refine (dats m hO 0 c).arrAt_eq_of_covers 5 _ (covers_5 _) (fun t hf y => ?_) (Memref.isWhole_whole _)
  rw [after0_5]
  unfold outsAt0
  frame_out
  rw [word_read m c]
  exact (pay_5 m hO c t y (Memref.IsWhole.read_unread (hs0_3 m hO t) (iblk m hO c 3 t)) (Memref.IsWhole.read_unread (hs0_4 m hO t) (iblk m hO c 4 t))).trans (congrArg (whole 512 (core m c) (mine m c) (theirs m c)) (emb_5 m hO t y)).symm

theorem pay_6 (t : Fin (cfgM m hO).N) (y : S1x128x1344.Idx) {x0 x1 x2 x3 x4 : S1x128x1344.Idx → EReal} (e0 : x0 = iblk m hO c 0 t) (e1 : x1 = iblk m hO c 1 t) (e2 : x2 = iblk m hO c 2 t) (e3 : x3 = iblk m hO c 3 t) (e4 : x4 = iblk m hO c 4 t) : k0_pay3 (F := Ideal) (k0_pay6 (F := Ideal) (grid0.coords t) (core m c one) x3 x4) (k0_pay8 (F := Ideal) x0) (k0_pay9 (F := Ideal) x1) x2 y = moved (whole 512 (core m c) (mine m c) (theirs m c)) (wgt m c) (mom m c) (var m c) (pos t y) := by
  subst e0 e1 e2 e3 e4
  exact (moved_at _ _ _ _ y).trans (by unfold moved; rw [grad_blk m hO c t y, ← blk_0 m hO c t y, ← blk_1 m hO c t y, ← blk_2 m hO c t y]; exact congrArg₂ (fun u v : EReal => stepW _ u v _) (down (iblk m hO c 0 t) shapeCasts_S1x128x1344_S128x1344 y) (down (iblk m hO c 1 t) shapeCasts_S1x128x1344_S128x1344 y))

theorem out_6 : (dats m hO 0 c).arrAt 6 (cfgM m hO).N = moved (whole 512 (core m c) (mine m c) (theirs m c)) (wgt m c) (mom m c) (var m c) := by
  refine (dats m hO 0 c).arrAt_eq_of_covers 6 _ (covers_6 _) (fun t hf y => ?_) (Memref.isWhole_whole _)
  rw [after0_6]
  unfold outsAt0
  frame_out
  rw [word_read m c]
  exact (pay_6 m hO c t y (Memref.IsWhole.read_unread (hs0_0 m hO t) (iblk m hO c 0 t)) (Memref.IsWhole.read_unread (hs0_1 m hO t) (iblk m hO c 1 t)) (Memref.IsWhole.read_unread (hs0_2 m hO t) (iblk m hO c 2 t)) (Memref.IsWhole.read_unread (hs0_3 m hO t) (iblk m hO c 3 t)) (Memref.IsWhole.read_unread (hs0_4 m hO t) (iblk m hO c 4 t))).trans (congrArg (moved (whole 512 (core m c) (mine m c) (theirs m c)) (wgt m c) (mom m c) (var m c)) (emb_6 m hO t y)).symm

theorem pay_7 (t : Fin (cfgM m hO).N) (y : S1x128x1344.Idx) {x1 x3 x4 : S1x128x1344.Idx → EReal} (e1 : x1 = iblk m hO c 1 t) (e3 : x3 = iblk m hO c 3 t) (e4 : x4 = iblk m hO c 4 t) : k0_pay4 (F := Ideal) (k0_pay6 (F := Ideal) (grid0.coords t) (core m c one) x3 x4) (k0_pay9 (F := Ideal) x1) y = newM (whole 512 (core m c) (mine m c) (theirs m c)) (mom m c) (pos t y) := by
  subst e1 e3 e4
  exact (newM_at _ _ y).trans (by unfold newM; rw [grad_blk m hO c t y, ← blk_1 m hO c t y]; exact congrArg (stepM _) (down (iblk m hO c 1 t) shapeCasts_S1x128x1344_S128x1344 y))

theorem out_7 : (dats m hO 0 c).arrAt 7 (cfgM m hO).N = newM (whole 512 (core m c) (mine m c) (theirs m c)) (mom m c) := by
  refine (dats m hO 0 c).arrAt_eq_of_covers 7 _ (covers_7 _) (fun t hf y => ?_) (Memref.isWhole_whole _)
  rw [after0_7]
  unfold outsAt0
  frame_out
  rw [word_read m c]
  exact (pay_7 m hO c t y (Memref.IsWhole.read_unread (hs0_1 m hO t) (iblk m hO c 1 t)) (Memref.IsWhole.read_unread (hs0_3 m hO t) (iblk m hO c 3 t)) (Memref.IsWhole.read_unread (hs0_4 m hO t) (iblk m hO c 4 t))).trans (congrArg (newM (whole 512 (core m c) (mine m c) (theirs m c)) (mom m c)) (emb_7 m hO t y)).symm

theorem pay_8 (t : Fin (cfgM m hO).N) (y : S1x128x1344.Idx) {x2 x3 x4 : S1x128x1344.Idx → EReal} (e2 : x2 = iblk m hO c 2 t) (e3 : x3 = iblk m hO c 3 t) (e4 : x4 = iblk m hO c 4 t) : k0_pay5 (F := Ideal) (k0_pay6 (F := Ideal) (grid0.coords t) (core m c one) x3 x4) x2 y = newV (whole 512 (core m c) (mine m c) (theirs m c)) (var m c) (pos t y) := by
  subst e2 e3 e4
  exact (newV_at _ _ y).trans (by unfold newV; rw [grad_blk m hO c t y, ← blk_2 m hO c t y])

theorem out_8 : (dats m hO 0 c).arrAt 8 (cfgM m hO).N = newV (whole 512 (core m c) (mine m c) (theirs m c)) (var m c) := by
  refine (dats m hO 0 c).arrAt_eq_of_covers 8 _ (covers_8 _) (fun t hf y => ?_) (Memref.isWhole_whole _)
  rw [after0_8]
  unfold outsAt0
  frame_out
  rw [word_read m c]
  exact (pay_8 m hO c t y (Memref.IsWhole.read_unread (hs0_2 m hO t) (iblk m hO c 2 t)) (Memref.IsWhole.read_unread (hs0_3 m hO t) (iblk m hO c 3 t)) (Memref.IsWhole.read_unread (hs0_4 m hO t) (iblk m hO c 4 t))).trans (congrArg (newV (whole 512 (core m c) (mine m c) (theirs m c)) (var m c)) (emb_8 m hO t y)).symm

section
open Cert.AdamwInReferenceIdeal.Read

theorem ref_whole (a b : S4x512x1344.Idx → EReal) (k : S1.Idx → BitVec 32) : (val_main_v6 (F := Ideal) a b k : S4x1024x1344.Idx → EReal) = whole 512 k a b := by
  refine joined 512 rfl k a b _ _ _ (fun i => ?_) (fun i => ?_)
  · rw [val_main_v2_apply, val_main_call0_v0_apply, val_main_v1_apply, one_eq (idx_main_call0_v0 _)]
    exact (pick _ _ _ _).trans (if_congr eq_comm rfl rfl)
  · rw [val_main_v5_apply, val_main_call1_v0_apply, val_main_v4_apply, one_eq (idx_main_call1_v0 _)]
    exact (pick _ _ _ _).trans (if_congr eq_comm rfl rfl)

theorem ref_M (A : S4x1024x1344.Idx → EReal) (a b : S4x512x1344.Idx → EReal) (k : S1.Idx → BitVec 32) : val_main_v11 (F := Ideal) A a b k = newM (whole 512 k a b) A := by
  funext i
  exact Eq.trans rfl (congrArg (fun u : EReal => stepM u (A i)) (congrFun (ref_whole a b k) i))

theorem ref_V (B : S4x1024x1344.Idx → EReal) (a b : S4x512x1344.Idx → EReal) (k : S1.Idx → BitVec 32) : val_main_v17 (F := Ideal) B a b k = newV (whole 512 k a b) B := by
  funext i
  exact Eq.trans rfl (congrArg (fun u : EReal => stepV u (B i)) (congrFun (ref_whole a b k) i))

theorem ref_W (W A B : S4x1024x1344.Idx → EReal) (a b : S4x512x1344.Idx → EReal) (k : S1.Idx → BitVec 32) : val_main_v30 (F := Ideal) W A B a b k = moved (whole 512 k a b) W A B := by
  funext i
  exact Eq.trans rfl (congrArg (fun u : EReal => stepW u (W i) (A i) (B i)) (congrFun (ref_whole a b k) i))

end

end Cert.AdamwInIdeal.Block

namespace Cert.Proof.AdamwIn

open Idealize.ShloMosaic Idealize.SL.Sem
open Idealize.ShloMosaic.TcCoe
open Cert.AdamwInIdeal.Block Cert.AdamwHalves

theorem frame_bits : Cert.quiescent_AdamwIn (hAdamwIn := Cert.AdamwIn.Gen.facts) := fun m g _ => Cert.AdamwIn.Gen.frame m g trivial

theorem frame_ideal : Cert.quiescent_AdamwInIdeal (hAdamwInIdeal := Cert.AdamwInIdeal.Gen.facts) := fun m g _ => Cert.AdamwInIdeal.Gen.frame m g trivial

theorem frame_ref : Cert.quiescent_AdamwInReferenceIdeal (hAdamwInReferenceIdeal := Cert.AdamwInReferenceIdeal.Gen.facts) := fun m g _ =>
  (θ_run Cert.AdamwInReferenceIdeal.defs _ _).mono (fun r h => ⟨fun c => (h c).2.2.2.2, sem_eq_zero_of_no_sems rfl r.2⟩)
    (Cert.AdamwInReferenceIdeal.Value.run (F := Ideal) m g)

section
open Cert.AdamwInIdeal Cert.AdamwInIdeal.Gen

theorem arrays (m : (ℓ : Loc nD τ sig) → Buf (Elt Ideal) ℓ) (g : Dev nD → PrngReg) (hO : Ok m) :
    θ_run (defs (F := Ideal)) (onTc (τ := τ) (main (F := Ideal))) ⟨m, fun _ => 0, g⟩ (fun r => ∀ c : Dev nD,
      r.2.mem ((c.tc : Thread nD τ).loc main_v0_0) = whole 512 (core m c) (mine m c) (theirs m c)
      ∧ r.2.mem ((c.tc : Thread nD τ).loc main_v0_1) = moved (whole 512 (core m c) (mine m c) (theirs m c)) (wgt m c) (mom m c) (var m c)
      ∧ r.2.mem ((c.tc : Thread nD τ).loc main_v0_2) = newM (whole 512 (core m c) (mine m c) (theirs m c)) (mom m c)
      ∧ r.2.mem ((c.tc : Thread nD τ).loc main_v0_3) = newV (whole 512 (core m c) (mine m c) (theirs m c)) (var m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun _ h c => ⟨((h c).1 5).trans (out_5 m hO c), ((h c).1 6).trans (out_6 m hO c), ((h c).1 7).trans (out_7 m hO c), ((h c).1 8).trans (out_8 m hO c),
    ((h c).1 0).trans (((dats m hO 0 c).arrAt_in 0 rfl _).trans ((A_eq m hO c 0).trans (V_main_arg0 m c))),
    ((h c).1 1).trans (((dats m hO 0 c).arrAt_in 1 rfl _).trans ((A_eq m hO c 1).trans (V_main_arg1 m c))),
    ((h c).1 2).trans (((dats m hO 0 c).arrAt_in 2 rfl _).trans ((A_eq m hO c 2).trans (V_main_arg2 m c))),
    ((h c).1 3).trans (((dats m hO 0 c).arrAt_in 3 rfl _).trans ((A_eq m hO c 3).trans (V_main_arg3 m c))),
    ((h c).1 4).trans (((dats m hO 0 c).arrAt_in 4 rfl _).trans ((A_eq m hO c 4).trans (V_main_arg4 m c))),
    ((h c).2 main_arg5 (by decide : main_arg5 ∈ Pipeline.restRefs sig spec0)).trans (V_main_arg5 m c)⟩) (run_main m g hO)

end

theorem algebraic : Cert.algebraic_AdamwInIdeal_AdamwInReferenceIdeal (hAdamwInIdeal := Cert.AdamwInIdeal.Gen.facts)
    (hAdamwInReferenceIdeal := Cert.AdamwInReferenceIdeal.Gen.facts) := by
  intro m g m' g' _ hargs
  refine ⟨fun c => whole 512 (core m c) (mine m c) (theirs m c), fun c => moved (whole 512 (core m c) (mine m c) (theirs m c)) (wgt m c) (mom m c) (var m c),
    fun c => newM (whole 512 (core m c) (mine m c) (theirs m c)) (mom m c), fun c => newV (whole 512 (core m c) (mine m c) (theirs m c)) (var m c), arrays m g trivial, ?_⟩
  refine (θ_run _ _ _).mono (fun r h c => ⟨(h c).1.trans ?_, (h c).2.1.trans ?_, (h c).2.2.1.trans ?_, (h c).2.2.2.1.trans ?_, (h c).2.2.2.2⟩) (Cert.AdamwInReferenceIdeal.Value.run (F := Ideal) m' g')
  · obtain ⟨a0, a1, a2, a3, a4, a5⟩ := hargs c
    rw [Cert.AdamwInReferenceIdeal.Read.val_main_v6_eq, a3, a4, a5]
    exact ref_whole _ _ _
  · obtain ⟨a0, a1, a2, a3, a4, a5⟩ := hargs c
    rw [Cert.AdamwInReferenceIdeal.Read.val_main_v30_eq, a0, a1, a2, a3, a4, a5]
    exact ref_W _ _ _ _ _ _
  · obtain ⟨a0, a1, a2, a3, a4, a5⟩ := hargs c
    rw [Cert.AdamwInReferenceIdeal.Read.val_main_v11_eq, a1, a3, a4, a5]
    exact ref_M _ _ _ _
  · obtain ⟨a0, a1, a2, a3, a4, a5⟩ := hargs c
    rw [Cert.AdamwInReferenceIdeal.Read.val_main_v17_eq, a2, a3, a4, a5]
    exact ref_V _ _ _ _

end Cert.Proof.AdamwIn

end
-- ==== Proof.lean ====
/- The gradient of the stick-breaking attention: the claims. -/
module

public import proofs.«01_k».proof.Defs
public import proofs.«01_k».proof.Proof.Frames
public import proofs.«01_k».proof.Proof.Algebra
public import proofs.«01_k».proof.Proof.FfInValue
public import proofs.«01_k».proof.Proof.FfOutValue
public import proofs.«01_k».proof.Proof.FfOutDwValue
public import proofs.«01_k».proof.Proof.FfInDxValue
public import proofs.«01_k».proof.Proof.FfInDwValue
public import proofs.«01_k».proof.Proof.FfOutDxValue
public import proofs.«01_k».proof.Proof.ProjQkvValue
public import proofs.«01_k».proof.Proof.ProjMixValue
public import proofs.«01_k».proof.Proof.ProjGatesValue
public import proofs.«01_k».proof.Proof.ProjDxValue
public import proofs.«01_k».proof.Proof.ProjDwValue
public import proofs.«01_k».proof.Proof.OutProjValue
public import proofs.«01_k».proof.Proof.OutProjDxValue
public import proofs.«01_k».proof.Proof.OutProjDwValue
public import proofs.«01_k».proof.Proof.BrSbValue
public import proofs.«01_k».proof.Proof.BrSbDxValue
public import proofs.«01_k».proof.Proof.BrSbDwValue
public import proofs.«01_k».proof.Proof.BrPoolValue
public import proofs.«01_k».proof.Proof.BrPoolDxValue
public import proofs.«01_k».proof.Proof.BrPoolDwValue
public import proofs.«01_k».proof.Proof.MergeFwdValue
public import proofs.«01_k».proof.Proof.MergeBwdValue
public import proofs.«01_k».proof.Proof.RmsFwdValue
public import proofs.«01_k».proof.Proof.ResidMixValue
public import proofs.«01_k».proof.Proof.ResidLastValue
public import proofs.«01_k».proof.Proof.RmsBwdLastValue
public import proofs.«01_k».proof.Proof.RmsBwdMidValue
public import proofs.«01_k».proof.Proof.RmsBwdFirstValue
public import proofs.«01_k».proof.Proof.LossHeadValue
public import proofs.«01_k».proof.Proof.AdamwSmallValue
public import proofs.«01_k».proof.Proof.AdamwOutValue
public import proofs.«01_k».proof.Proof.AdamwFfValue
public import proofs.«01_k».proof.Proof.AdamwBrPoolValue
public import proofs.«01_k».proof.Proof.AdamwBrSbValue
public import proofs.«01_k».proof.Proof.AdamwInValue

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.FfIn.Gen.facts, Cert.FfInIdeal.Gen.facts, Cert.FfInReferenceIdeal.Gen.facts,
    Cert.FfOut.Gen.facts, Cert.FfOutIdeal.Gen.facts, Cert.FfOutReferenceIdeal.Gen.facts,
    Cert.FfOutDw.Gen.facts, Cert.FfOutDwIdeal.Gen.facts, Cert.FfOutDwReferenceIdeal.Gen.facts,
    Cert.FfInDx.Gen.facts, Cert.FfInDxIdeal.Gen.facts, Cert.FfInDxReferenceIdeal.Gen.facts,
    Cert.FfInDw.Gen.facts, Cert.FfInDwIdeal.Gen.facts, Cert.FfInDwReferenceIdeal.Gen.facts,
    Cert.FfOutDx.Gen.facts, Cert.FfOutDxIdeal.Gen.facts, Cert.FfOutDxReferenceIdeal.Gen.facts,
    Cert.ProjQkv.Gen.facts, Cert.ProjQkvIdeal.Gen.facts, Cert.ProjQkvReferenceIdeal.Gen.facts,
    Cert.ProjMix.Gen.facts, Cert.ProjMixIdeal.Gen.facts, Cert.ProjMixReferenceIdeal.Gen.facts,
    Cert.ProjGates.Gen.facts, Cert.ProjGatesIdeal.Gen.facts, Cert.ProjGatesReferenceIdeal.Gen.facts,
    Cert.ProjDx.Gen.facts, Cert.ProjDxIdeal.Gen.facts, Cert.ProjDxReferenceIdeal.Gen.facts,
    Cert.ProjDw.Gen.facts, Cert.ProjDwIdeal.Gen.facts, Cert.ProjDwReferenceIdeal.Gen.facts,
    Cert.OutProj.Gen.facts, Cert.OutProjIdeal.Gen.facts, Cert.OutProjReferenceIdeal.Gen.facts,
    Cert.OutProjDx.Gen.facts, Cert.OutProjDxIdeal.Gen.facts, Cert.OutProjDxReferenceIdeal.Gen.facts,
    Cert.OutProjDw.Gen.facts, Cert.OutProjDwIdeal.Gen.facts, Cert.OutProjDwReferenceIdeal.Gen.facts,
    Cert.BrSb.Gen.facts, Cert.BrSbIdeal.Gen.facts, Cert.BrSbReferenceIdeal.Gen.facts,
    Cert.BrSbDx.Gen.facts, Cert.BrSbDxIdeal.Gen.facts, Cert.BrSbDxReferenceIdeal.Gen.facts,
    Cert.BrSbDw.Gen.facts, Cert.BrSbDwIdeal.Gen.facts, Cert.BrSbDwReferenceIdeal.Gen.facts,
    Cert.BrPool.Gen.facts, Cert.BrPoolIdeal.Gen.facts, Cert.BrPoolReferenceIdeal.Gen.facts,
    Cert.BrPoolDx.Gen.facts, Cert.BrPoolDxIdeal.Gen.facts, Cert.BrPoolDxReferenceIdeal.Gen.facts,
    Cert.BrPoolDw.Gen.facts, Cert.BrPoolDwIdeal.Gen.facts, Cert.BrPoolDwReferenceIdeal.Gen.facts,
    Cert.MergeFwd.Gen.facts, Cert.MergeFwdIdeal.Gen.facts, Cert.MergeFwdReferenceIdeal.Gen.facts,
    Cert.MergeBwd.Gen.facts, Cert.MergeBwdIdeal.Gen.facts, Cert.MergeBwdReferenceIdeal.Gen.facts,
    Cert.RmsFwd.Gen.facts, Cert.RmsFwdIdeal.Gen.facts, Cert.RmsFwdReferenceIdeal.Gen.facts,
    Cert.ResidMix.Gen.facts, Cert.ResidMixIdeal.Gen.facts, Cert.ResidMixReferenceIdeal.Gen.facts,
    Cert.ResidLast.Gen.facts, Cert.ResidLastIdeal.Gen.facts, Cert.ResidLastReferenceIdeal.Gen.facts,
    Cert.RmsBwdLast.Gen.facts, Cert.RmsBwdLastIdeal.Gen.facts, Cert.RmsBwdLastReferenceIdeal.Gen.facts,
    Cert.RmsBwdMid.Gen.facts, Cert.RmsBwdMidIdeal.Gen.facts, Cert.RmsBwdMidReferenceIdeal.Gen.facts,
    Cert.RmsBwdFirst.Gen.facts, Cert.RmsBwdFirstIdeal.Gen.facts, Cert.RmsBwdFirstReferenceIdeal.Gen.facts,
    Cert.LossHead.Gen.facts, Cert.LossHeadIdeal.Gen.facts, Cert.LossHeadReferenceIdeal.Gen.facts,
    Cert.AdamwSmall.Gen.facts, Cert.AdamwSmallIdeal.Gen.facts, Cert.AdamwSmallReferenceIdeal.Gen.facts,
    Cert.AdamwIn.Gen.facts, Cert.AdamwInIdeal.Gen.facts, Cert.AdamwInReferenceIdeal.Gen.facts,
    Cert.AdamwBrSb.Gen.facts, Cert.AdamwBrSbIdeal.Gen.facts, Cert.AdamwBrSbReferenceIdeal.Gen.facts,
    Cert.AdamwBrPool.Gen.facts, Cert.AdamwBrPoolIdeal.Gen.facts, Cert.AdamwBrPoolReferenceIdeal.Gen.facts,
    Cert.AdamwOut.Gen.facts, Cert.AdamwOutIdeal.Gen.facts, Cert.AdamwOutReferenceIdeal.Gen.facts,
    Cert.AdamwFf.Gen.facts, Cert.AdamwFfIdeal.Gen.facts, Cert.AdamwFfReferenceIdeal.Gen.facts,
    preFacts,
    frame_kernel, frame_ideal, frame_ideal_pre, frame_ref, frame_ref_pre,
    FfIn.frame_bits, FfIn.frame_ideal, FfIn.frame_ref,
    FfOut.frame_bits, FfOut.frame_ideal, FfOut.frame_ref,
    FfOutDw.frame_bits, FfOutDw.frame_ideal, FfOutDw.frame_ref,
    FfInDx.frame_bits, FfInDx.frame_ideal, FfInDx.frame_ref,
    FfInDw.frame_bits, FfInDw.frame_ideal, FfInDw.frame_ref,
    FfOutDx.frame_bits, FfOutDx.frame_ideal, FfOutDx.frame_ref,
    ProjQkv.frame_bits, ProjQkv.frame_ideal, ProjQkv.frame_ref,
    ProjMix.frame_bits, ProjMix.frame_ideal, ProjMix.frame_ref,
    ProjGates.frame_bits, ProjGates.frame_ideal, ProjGates.frame_ref,
    ProjDx.frame_bits, ProjDx.frame_ideal, ProjDx.frame_ref,
    ProjDw.frame_bits, ProjDw.frame_ideal, ProjDw.frame_ref,
    OutProj.frame_bits, OutProj.frame_ideal, OutProj.frame_ref,
    OutProjDx.frame_bits, OutProjDx.frame_ideal, OutProjDx.frame_ref,
    OutProjDw.frame_bits, OutProjDw.frame_ideal, OutProjDw.frame_ref,
    BrSb.frame_bits, BrSb.frame_ideal, BrSb.frame_ref,
    BrSbDx.frame_bits, BrSbDx.frame_ideal, BrSbDx.frame_ref,
    BrSbDw.frame_bits, BrSbDw.frame_ideal, BrSbDw.frame_ref,
    BrPool.frame_bits, BrPool.frame_ideal, BrPool.frame_ref,
    BrPoolDx.frame_bits, BrPoolDx.frame_ideal, BrPoolDx.frame_ref,
    BrPoolDw.frame_bits, BrPoolDw.frame_ideal, BrPoolDw.frame_ref,
    MergeFwd.frame_bits, MergeFwd.frame_ideal, MergeFwd.frame_ref,
    MergeBwd.frame_bits, MergeBwd.frame_ideal, MergeBwd.frame_ref,
    RmsFwd.frame_bits, RmsFwd.frame_ideal, RmsFwd.frame_ref,
    ResidMix.frame_bits, ResidMix.frame_ideal, ResidMix.frame_ref,
    ResidLast.frame_bits, ResidLast.frame_ideal, ResidLast.frame_ref,
    RmsBwdLast.frame_bits, RmsBwdLast.frame_ideal, RmsBwdLast.frame_ref,
    RmsBwdMid.frame_bits, RmsBwdMid.frame_ideal, RmsBwdMid.frame_ref,
    RmsBwdFirst.frame_bits, RmsBwdFirst.frame_ideal, RmsBwdFirst.frame_ref,
    LossHead.frame_bits, LossHead.frame_ideal, LossHead.frame_ref,
    AdamwSmall.frame_bits, AdamwSmall.frame_ideal, AdamwSmall.frame_ref,
    AdamwIn.frame_bits, AdamwIn.frame_ideal, AdamwIn.frame_ref,
    AdamwBrSb.frame_bits, AdamwBrSb.frame_ideal, AdamwBrSb.frame_ref,
    AdamwBrPool.frame_bits, AdamwBrPool.frame_ideal, AdamwBrPool.frame_ref,
    AdamwOut.frame_bits, AdamwOut.frame_ideal, AdamwOut.frame_ref,
    AdamwFf.frame_bits, AdamwFf.frame_ideal, AdamwFf.frame_ref,
    trivial, algebraic,
    trivial, FfIn.algebraic,
    trivial, FfOut.algebraic,
    trivial, FfOutDw.algebraic,
    trivial, FfInDx.algebraic,
    trivial, FfInDw.algebraic,
    trivial, FfOutDx.algebraic,
    trivial, ProjQkv.algebraic,
    trivial, ProjMix.algebraic,
    trivial, ProjGates.algebraic,
    trivial, ProjDx.algebraic,
    trivial, ProjDw.algebraic,
    trivial, OutProj.algebraic,
    trivial, OutProjDx.algebraic,
    trivial, OutProjDw.algebraic,
    trivial, BrSb.algebraic,
    trivial, BrSbDx.algebraic,
    trivial, BrSbDw.algebraic,
    trivial, BrPool.algebraic,
    trivial, BrPoolDx.algebraic,
    trivial, BrPoolDw.algebraic,
    trivial, MergeFwd.algebraic,
    trivial, MergeBwd.algebraic,
    trivial, RmsFwd.algebraic,
    trivial, ResidMix.algebraic,
    trivial, ResidLast.algebraic,
    trivial, RmsBwdLast.algebraic,
    trivial, RmsBwdMid.algebraic,
    trivial, RmsBwdFirst.algebraic,
    trivial, LossHead.algebraic,
    trivial, AdamwSmall.algebraic,
    trivial, AdamwIn.algebraic,
    trivial, AdamwBrSb.algebraic,
    trivial, AdamwBrPool.algebraic,
    trivial, AdamwOut.algebraic,
    trivial, AdamwFf.algebraic⟩

end Cert.Proof

end
